-- ==== Defs.lean ====
def Pre_Kernel (m : (ℓ : Loc Cert.Kernel.nD Cert.Kernel.τ Cert.Kernel.sig) → Buf (Elt Bits) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Select (m : (ℓ : Loc Cert.Select.nD Cert.Select.τ Cert.Select.sig) → Buf (Elt Bits) ℓ) : Prop :=
  True

def Pre_SelectReference (m : (ℓ : Loc Cert.SelectReference.nD Cert.SelectReference.τ Cert.SelectReference.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectReference [hSelectReference : Cert.SelectReference.Facts] : Prop :=
  ∀ (m : (ℓ : Loc Cert.SelectReference.nD Cert.SelectReference.τ Cert.SelectReference.sig) → Buf (Elt Bits) ℓ) (g : Dev Cert.SelectReference.nD → PrngReg), Pre_SelectReference m →
    θ_run (Cert.SelectReference.defs (F := Bits)) (onTc (τ := Cert.SelectReference.τ) (Cert.SelectReference.main (F := Bits))) ⟨m, fun _ => 0, g⟩ (fun r => (∀ c : Dev Cert.SelectReference.nD,
      r.2.mem ((c.tc : Thread Cert.SelectReference.nD Cert.SelectReference.τ).loc Cert.SelectReference.main_arg0) = m ((c.tc : Thread Cert.SelectReference.nD Cert.SelectReference.τ).loc Cert.SelectReference.main_arg0))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)) (v5 : (c : Dev Cert.ProjIdeal.nD) → Buf (Elt Ideal) ((c.tc : Thread Cert.ProjIdeal.nD Cert.ProjIdeal.τ).loc Cert.ProjIdeal.main_v10_5)) (v6 : (c : Dev Cert.ProjIdeal.nD) → Buf (Elt Ideal) ((c.tc : Thread Cert.ProjIdeal.nD Cert.ProjIdeal.τ).loc Cert.ProjIdeal.main_v10_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_v10_5) = v5 c
          ∧ r.2.mem ((c.tc : Thread Cert.ProjIdeal.nD Cert.ProjIdeal.τ).loc Cert.ProjIdeal.main_v10_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v19) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v14) = v2 c
          ∧ r.2.mem ((c.tc : Thread Cert.ProjReferenceIdeal.nD Cert.ProjReferenceIdeal.τ).loc Cert.ProjReferenceIdeal.main_v23) = v3 c
          ∧ r.2.mem ((c.tc : Thread Cert.ProjReferenceIdeal.nD Cert.ProjReferenceIdeal.τ).loc Cert.ProjReferenceIdeal.main_v26) = v4 c
          ∧ r.2.mem ((c.tc : Thread Cert.ProjReferenceIdeal.nD Cert.ProjReferenceIdeal.τ).loc Cert.ProjReferenceIdeal.main_v28) = v5 c
          ∧ r.2.mem ((c.tc : Thread Cert.ProjReferenceIdeal.nD Cert.ProjReferenceIdeal.τ).loc Cert.ProjReferenceIdeal.main_v29) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v97) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def bitexact_Select_SelectReference [hSelect : Cert.Select.Facts] [hSelectReference : Cert.SelectReference.Facts] : Prop :=
  ∀ (m : (ℓ : Loc Cert.Select.nD Cert.Select.τ Cert.Select.sig) → Buf (Elt Bits) ℓ) (g : Dev Cert.Select.nD → PrngReg)
    (m' : (ℓ : Loc Cert.SelectReference.nD Cert.SelectReference.τ Cert.SelectReference.sig) → Buf (Elt Bits) ℓ) (g' : Dev Cert.SelectReference.nD → PrngReg), Pre_Select m →
    (∀ c : Dev Cert.Select.nD,
      m' ((c.tc : Thread Cert.SelectReference.nD Cert.SelectReference.τ).loc Cert.SelectReference.main_arg0) = m ((c.tc : Thread Cert.Select.nD Cert.Select.τ).loc Cert.Select.main_arg0)) →
    ∃ (v0 : (c : Dev Cert.Select.nD) → Buf (Elt Bits) ((c.tc : Thread Cert.Select.nD Cert.Select.τ).loc Cert.Select.main_v0_0)) (v1 : (c : Dev Cert.Select.nD) → Buf (Elt Bits) ((c.tc : Thread Cert.Select.nD Cert.Select.τ).loc Cert.Select.main_v0_1)) (v2 : (c : Dev Cert.Select.nD) → Buf (Elt Bits) ((c.tc : Thread Cert.Select.nD Cert.Select.τ).loc Cert.Select.main_v0_2)),
      θ_run (Cert.Select.defs (F := Bits)) (onTc (τ := Cert.Select.τ) (Cert.Select.main (F := Bits))) ⟨m, fun _ => 0, g⟩ (fun r => ∀ c : Dev Cert.Select.nD,
          r.2.mem ((c.tc : Thread Cert.Select.nD Cert.Select.τ).loc Cert.Select.main_v0_0) = v0 c
          ∧ r.2.mem ((c.tc : Thread Cert.Select.nD Cert.Select.τ).loc Cert.Select.main_v0_1) = v1 c
          ∧ r.2.mem ((c.tc : Thread Cert.Select.nD Cert.Select.τ).loc Cert.Select.main_v0_2) = v2 c
          ∧ r.2.mem ((c.tc : Thread Cert.Select.nD Cert.Select.τ).loc Cert.Select.main_arg0) = m ((c.tc : Thread Cert.Select.nD Cert.Select.τ).loc Cert.Select.main_arg0))
      ∧ θ_run (Cert.SelectReference.defs (F := Bits)) (onTc (τ := Cert.SelectReference.τ) (Cert.SelectReference.main (F := Bits))) ⟨m', fun _ => 0, g'⟩ (fun r => ∀ c : Dev Cert.SelectReference.nD,
          r.2.mem ((c.tc : Thread Cert.SelectReference.nD Cert.SelectReference.τ).loc Cert.SelectReference.main_v10) = v0 c
          ∧ r.2.mem ((c.tc : Thread Cert.SelectReference.nD Cert.SelectReference.τ).loc Cert.SelectReference.main_v18) = v1 c
          ∧ r.2.mem ((c.tc : Thread Cert.SelectReference.nD Cert.SelectReference.τ).loc Cert.SelectReference.main_v29) = v2 c
          ∧ r.2.mem ((c.tc : Thread Cert.SelectReference.nD Cert.SelectReference.τ).loc Cert.SelectReference.main_arg0) = m' ((c.tc : Thread Cert.SelectReference.nD Cert.SelectReference.τ).loc Cert.SelectReference.main_arg0))

def algebraic_ExpertsIdeal_ExpertsReferenceIdeal_pre_routed [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_routed m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v8)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v8) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v60) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def Claim : Prop :=
  ∃ (hKernel : Cert.Kernel.Facts) (hAda : Cert.Ada.Facts) (hAdaIdeal : Cert.AdaIdeal.Facts) (hAdaReferenceIdeal : Cert.AdaReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hSelect : Cert.Select.Facts) (hSelectReference : Cert.SelectReference.Facts) (hExpertsIdeal : Cert.ExpertsIdeal.Facts) (hExpertsReferenceIdeal : Cert.ExpertsReferenceIdeal.Facts) (hPre_routed : Cert.Pre_routed.Facts),
    quiescent_Kernel (hKernel := hKernel)
    ∧ quiescent_Ada (hAda := hAda)
    ∧ quiescent_AdaIdeal (hAdaIdeal := hAdaIdeal)
    ∧ quiescent_AdaReferenceIdeal (hAdaReferenceIdeal := hAdaReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Select (hSelect := hSelect)
    ∧ quiescent_SelectReference (hSelectReference := hSelectReference)
    ∧ quiescent_ExpertsIdeal (hExpertsIdeal := hExpertsIdeal)
    ∧ quiescent_ExpertsIdeal_pre_routed (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ preserves_Ada_AdaIdeal
    ∧ algebraic_AdaIdeal_AdaReferenceIdeal (hAdaIdeal := hAdaIdeal) (hAdaReferenceIdeal := hAdaReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ bitexact_Select_SelectReference (hSelect := hSelect) (hSelectReference := hSelectReference)
    ∧ algebraic_ExpertsIdeal_ExpertsReferenceIdeal_pre_routed (hExpertsIdeal := hExpertsIdeal) (hExpertsReferenceIdeal := hExpertsReferenceIdeal) (hPre_routed := hPre_routed)
-- ==== Pre_routed.lean ====
abbrev S65536x1024 : Shape := ⟨2, ![65536, 1024]⟩
abbrev S8x6x1024 : Shape := ⟨3, ![8, 6, 1024]⟩
abbrev S16x65536 : Shape := ⟨2, ![16, 65536]⟩
abbrev S1x65536 : Shape := ⟨2, ![1, 65536]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S16x65536 : S_.BroadcastsInDim S16x65536 (![] : Fin 0 → Fin S16x65536.rank)
  reducesTo_S16x65536_S_d0_1 : S16x65536.ReducesTo [0, 1] S_
  h_S_ : 0 < S_.numel
  bcast_S_S1x65536 : S_.BroadcastsInDim S1x65536 (![] : Fin 0 → Fin S1x65536.rank)
  reducesTo_S1x65536_S_d0_1 : S1x65536.ReducesTo [0, 1] S_

variable [Facts]

def fn {F : FTy → Type} [FloatOps F] (main_arg0 : FVec F S65536x1024 .f32) (main_arg1 : FVec F S8x6x1024 .f32) (main_arg2 : FVec F S16x65536 .f32) (main_arg3 : IVec S1x65536 32) (main_arg4 : FVec F S16x1024x512 .f32) (main_arg5 : FVec F S16x1024x512 .f32) (main_arg6 : FVec F S16x512x1024 .f32) (main_arg7 : FVec F S1024 .f32) (main_arg8 : FVec F S1024 .f32) : IVec S_ 1 :=
  let main_cst : FVec F S_ .f32 := constant S_ .f32 0xFF800000#32
  let main_v0 : FVec F S16x65536 .f32 := broadcastInDim S16x65536 ![] bcast_S_S16x65536 main_cst
  let main_v1 : IVec S16x65536 1 := cmpf .ogt main_arg2 main_v0
  let main_cst_0 : FVec F S_ .f32 := constant S_ .f32 0x7F800000#32
  let main_v2 : FVec F S16x65536 .f32 := broadcastInDim S16x65536 ![] bcast_S_S16x65536 main_cst_0
  let main_v3 : IVec S16x65536 1 := cmpf .olt main_arg2 main_v2
  let main_v4 : IVec S16x65536 1 := andi main_v1 main_v3
  let main_c : IVec S_ 1 := constantI S_ 1 1#1
  let main_v5 : IVec S_ 1 := (fun x v => Host.reduce IntOp.andi x v reducesTo_S16x65536_S_d0_1 h_S_) main_v4 main_c
  let main_c_1 : IVec S_ 32 := constantI S_ 32 0#32
  let main_v6 : IVec S1x65536 32 := broadcastInDim S1x65536 ![] bcast_S_S1x65536 main_c_1
  let main_v7 : IVec S1x65536 1 := cmpi .sge main_arg3 main_v6
  let main_c_2 : IVec S_ 32 := constantI S_ 32 4#32
  let main_v8 : IVec S1x65536 32 := broadcastInDim S1x65536 ![] bcast_S_S1x65536 main_c_2
  let main_v9 : IVec S1x65536 1 := cmpi .slt main_arg3 main_v8
  let main_v10 : IVec S1x65536 1 := andi main_v7 main_v9
  let main_c_3 : IVec S_ 1 := constantI S_ 1 1#1
  let main_v11 : IVec S_ 1 := (fun x v => Host.reduce IntOp.andi x v reducesTo_S1x65536_S_d0_1 h_S_) main_v10 main_c_3
  let main_v12 : IVec S_ 1 := andi main_v5 main_v11
  main_v12
-- ==== Kernel.lean ====
abbrev S8x1024x8192 : Shape := ⟨3, ![8, 1024, 8192]⟩
abbrev S8x8192x1024 : Shape := ⟨3, ![8, 8192, 1024]⟩
abbrev S8x32x1024x256 : Shape := ⟨4, ![8, 32, 1024, 256]⟩
abbrev S8x512x8192 : Shape := ⟨3, ![8, 512, 8192]⟩
abbrev S8x8192x128 : Shape := ⟨3, ![8, 8192, 128]⟩
abbrev S8x128x8192 : Shape := ⟨3, ![8, 128, 8192]⟩
abbrev S8x8192x256 : Shape := ⟨3, ![8, 8192, 256]⟩
abbrev S1x256x256 : Shape := ⟨3, ![1, 256, 256]⟩
abbrev S1x8192x256 : Shape := ⟨3, ![1, 8192, 256]⟩
abbrev S1x32x256x256 : Shape := ⟨4, ![1, 32, 256, 256]⟩
abbrev S1x512x256 : Shape := ⟨3, ![1, 512, 256]⟩
abbrev S1x8192x128 : Shape := ⟨3, ![1, 8192, 128]⟩
abbrev S1x128x256 : Shape := ⟨3, ![1, 128, 256]⟩
abbrev S4x256x128 : Shape := ⟨3, ![4, 256, 128]⟩
abbrev S8x128x256 : Shape := ⟨3, ![8, 128, 256]⟩
abbrev S8192x256 : Shape := ⟨2, ![8192, 256]⟩
abbrev S33x256x256 : Shape := ⟨3, ![33, 256, 256]⟩
abbrev S256x256 : Shape := ⟨2, ![256, 256]⟩
abbrev S1x256 : Shape := ⟨2, ![1, 256]⟩
abbrev S4x256x256 : Shape := ⟨3, ![4, 256, 256]⟩
abbrev S4x1x256 : Shape := ⟨3, ![4, 1, 256]⟩
abbrev S4x80x256 : Shape := ⟨3, ![4, 80, 256]⟩
abbrev S2x4x256x256 : Shape := ⟨4, ![2, 4, 256, 256]⟩
abbrev S2x4x1x256 : Shape := ⟨4, ![2, 4, 1, 256]⟩
abbrev S32x256x256 : Shape := ⟨3, ![32, 256, 256]⟩
abbrev S256x128 : Shape := ⟨2, ![256, 128]⟩
abbrev S1x256x128 : Shape := ⟨3, ![1, 256, 128]⟩
abbrev S512x256 : Shape := ⟨2, ![512, 256]⟩
abbrev S64x256 : Shape := ⟨2, ![64, 256]⟩
abbrev S128x256 : Shape := ⟨2, ![128, 256]⟩
abbrev S1x8x256 : Shape := ⟨3, ![1, 8, 256]⟩
abbrev S8x256 : Shape := ⟨2, ![8, 256]⟩
abbrev S32x256 : Shape := ⟨2, ![32, 256]⟩
abbrev S1x32x256 : Shape := ⟨3, ![1, 32, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S16x256 : Shape := ⟨2, ![16, 256]⟩
abbrev S1x4x256x256 : Shape := ⟨4, ![1, 4, 256, 256]⟩
abbrev S1x4x1x256 : Shape := ⟨4, ![1, 4, 1, 256]⟩
abbrev S1x1x256x256 : Shape := ⟨4, ![1, 1, 256, 256]⟩
abbrev S1x1x1x256 : Shape := ⟨4, ![1, 1, 1, 256]⟩
abbrev S80x256 : Shape := ⟨2, ![80, 256]⟩
abbrev S1x80x256 : Shape := ⟨3, ![1, 80, 256]⟩
abbrev S1x64x256 : Shape := ⟨3, ![1, 64, 256]⟩

abbrev nBuf : Space → Nat
  | .hbm => 7
  | .vmem => 27
  | .smem => 0
  | _ => 0

abbrev bufTy : (tb : Table) → Fin (tcTables nBuf tb) → BufTy
  | .hbm, ⟨0, _⟩ => ⟨S8x1024x8192, .bf16⟩
  | .hbm, ⟨1, _⟩ => ⟨S8x8192x1024, .bf16⟩
  | .hbm, ⟨2, _⟩ => ⟨S8x32x1024x256, .bf16⟩
  | .hbm, ⟨3, _⟩ => ⟨S8x512x8192, .bf16⟩
  | .hbm, ⟨4, _⟩ => ⟨S8x8192x128, .f32⟩
  | .hbm, ⟨5, _⟩ => ⟨S8x128x8192, .f32⟩
  | .hbm, ⟨6, _⟩ => ⟨S8x8192x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x32x256x256, .bf16⟩
  | .local _ .vmem, ⟨5, _⟩ => ⟨S1x32x256x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x8192x128, .f32⟩
  | .local _ .vmem, ⟨9, _⟩ => ⟨S1x8192x128, .f32⟩
  | .local _ .vmem, ⟨10, _⟩ => ⟨S1x128x256, .f32⟩
  | .local _ .vmem, ⟨11, _⟩ => ⟨S1x128x256, .f32⟩
  | .local _ .vmem, ⟨12, _⟩ => ⟨S1x256x256, .bf16⟩
  | .local _ .vmem, ⟨13, _⟩ => ⟨S1x256x256, .bf16⟩
  | .local _ .vmem, ⟨14, _⟩ => ⟨S4x256x128, .f32⟩
  | .local _ .vmem, ⟨15, _⟩ => ⟨S8x128x256, .bf16⟩
  | .local _ .vmem, ⟨16, _⟩ => ⟨S8192x256, .i32⟩
  | .local _ .vmem, ⟨17, _⟩ => ⟨S33x256x256, .i32⟩
  | .local _ .vmem, ⟨18, _⟩ => ⟨S256x256, .i32⟩
  | .local _ .vmem, ⟨19, _⟩ => ⟨S1x256, .f32⟩
  | .local _ .vmem, ⟨20, _⟩ => ⟨S4x256x256, .bf16⟩
  | .local _ .vmem, ⟨21, _⟩ => ⟨S4x1x256, .f32⟩
  | .local _ .vmem, ⟨22, _⟩ => ⟨S4x80x256, .f32⟩
  | .local _ .vmem, ⟨23, _⟩ => ⟨S2x4x256x256, .f32⟩
  | .local _ .vmem, ⟨24, _⟩ => ⟨S2x4x1x256, .f32⟩
  | .local _ .vmem, ⟨25, _⟩ => ⟨S2x4x256x256, .bf16⟩
  | .local _ .vmem, ⟨26, _⟩ => ⟨S2x4x1x256, .f32⟩
  | _, _ => ⟨S8x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v139 : BitVec 32 := Scalar.muli arg1 c256_i32
  v139
def k0_off1 (i : grid0.Coords) : Fin 3 → Nat :=
  let c0_74 : Index := 0#32
  let arg1 : BitVec 32 := BitVec.ofNat 32 (i 1).val
  let c256_i32 : BitVec 32 := 256#32
  let v139 : BitVec 32 := Scalar.muli arg1 c256_i32
  let v140 : BitVec 32 := v139
  let v141 : Index := Scalar.indexCast v140
  let c0_75 : Index := 0#32
  ![0, v141.toNat, 0]
def k0_off2 (i : grid0.Coords) : Fin 2 → Nat :=
  let arg1 : BitVec 32 := BitVec.ofNat 32 (i 1).val
  let c256_i32 : BitVec 32 := 256#32
  let v139 : BitVec 32 := Scalar.muli arg1 c256_i32
  let v140 : BitVec 32 := v139
  let v231 : Index := Scalar.indexCast v140
  let c0_118 : Index := 0#32
  ![v231.toNat, 0]
def k0_mult2 (i : grid0.Coords) : BitVec 32 :=
  let arg1 : BitVec 32 := BitVec.ofNat 32 (i 1).val
  let c8_i32_352 : BitVec 32 := 8#32
  let v989 : BitVec 32 := Scalar.muli arg1 c8_i32_352
  v989
def k0_off3 (i : grid0.Coords) : Fin 3 → Nat :=
  let c0_353 : Index := 0#32
  let arg1 : BitVec 32 := BitVec.ofNat 32 (i 1).val
  let c8_i32_352 : BitVec 32 := 8#32
  let v989 : BitVec 32 := Scalar.muli arg1 c8_i32_352
  let v990 : BitVec 32 := v989
  let v991 : Index := Scalar.indexCast v990
  let c0_354 : Index := 0#32
  ![0, v991.toNat, 0]
def k0_off4 (i : grid0.Coords) : Fin 3 → Nat :=
  let c1_355 : Index := 1#32
  let arg1 : BitVec 32 := BitVec.ofNat 32 (i 1).val
  let c8_i32_352 : BitVec 32 := 8#32
  let v989 : BitVec 32 := Scalar.muli arg1 c8_i32_352
  let v990 : BitVec 32 := v989
  let v995 : Index := Scalar.indexCast v990
  let c0_356 : Index := 0#32
  ![1, v995.toNat, 0]
def k0_off5 (i : grid0.Coords) : Fin 3 → Nat :=
  let c2_357 : Index := 2#32
  let arg1 : BitVec 32 := BitVec.ofNat 32 (i 1).val
  let c8_i32_352 : BitVec 32 := 8#32
  let v989 : BitVec 32 := Scalar.muli arg1 c8_i32_352
  let v990 : BitVec 32 := v989
  let v999 : Index := Scalar.indexCast v990
  let c0_358 : Index := 0#32
  ![2, v999.toNat, 0]
def k0_off6 (i : grid0.Coords) : Fin 3 → Nat :=
  let c3_359 : Index := 3#32
  let arg1 : BitVec 32 := BitVec.ofNat 32 (i 1).val
  let c8_i32_352 : BitVec 32 := 8#32
  let v989 : BitVec 32 := Scalar.muli arg1 c8_i32_352
  let v990 : BitVec 32 := v989
  let v1003 : Index := Scalar.indexCast v990
  let c0_360 : Index := 0#32
  ![3, v1003.toNat, 0]
def k0_off7 (i : grid0.Coords) : Fin 3 → Nat :=
  let c4_361 : Index := 4#32
  let arg1 : BitVec 32 := BitVec.ofNat 32 (i 1).val
  let c8_i32_352 : BitVec 32 := 8#32
  let v989 : BitVec 32 := Scalar.muli arg1 c8_i32_352
  let v990 : BitVec 32 := v989
  let v1007 : Index := Scalar.indexCast v990
  let c0_362 : Index := 0#32
  ![4, v1007.toNat, 0]
def k0_off8 (i : grid0.Coords) : Fin 3 → Nat :=
  let c5_363 : Index := 5#32
  let arg1 : BitVec 32 := BitVec.ofNat 32 (i 1).val
  let c8_i32_352 : BitVec 32 := 8#32
  let v989 : BitVec 32 := Scalar.muli arg1 c8_i32_352
  let v990 : BitVec 32 := v989
  let v1011 : Index := Scalar.indexCast v990
  let c0_364 : Index := 0#32
  ![5, v1011.toNat, 0]
def k0_off9 (i : grid0.Coords) : Fin 3 → Nat :=
  let c6_365 : Index := 6#32
  let arg1 : BitVec 32 := BitVec.ofNat 32 (i 1).val
  let c8_i32_352 : BitVec 32 := 8#32
  let v989 : BitVec 32 := Scalar.muli arg1 c8_i32_352
  let v990 : BitVec 32 := v989
  let v1015 : Index := Scalar.indexCast v990
  let c0_366 : Index := 0#32
  ![6, v1015.toNat, 0]
def k0_off10 (i : grid0.Coords) : Fin 3 → Nat :=
  let c7_367 : Index := 7#32
  let arg1 : BitVec 32 := BitVec.ofNat 32 (i 1).val
  let c8_i32_352 : BitVec 32 := 8#32
  let v989 : BitVec 32 := Scalar.muli arg1 c8_i32_352
  let v990 : BitVec 32 := v989
  let v1019 : Index := Scalar.indexCast v990
  let c0_368 : Index := 0#32
  ![7, v1019.toNat, 0]
def k0_off11 (i : grid0.Coords) : Fin 3 → Nat :=
  let c8 : Index := 8#32
  let arg1 : BitVec 32 := BitVec.ofNat 32 (i 1).val
  let c8_i32_352 : BitVec 32 := 8#32
  let v989 : BitVec 32 := Scalar.muli arg1 c8_i32_352
  let v990 : BitVec 32 := v989
  let v1023 : Index := Scalar.indexCast v990
  let c0_369 : Index := 0#32
  ![8, v1023.toNat, 0]
def k0_off12 (i : grid0.Coords) : Fin 3 → Nat :=
  let c9 : Index := 9#32
  let arg1 : BitVec 32 := BitVec.ofNat 32 (i 1).val
  let c8_i32_352 : BitVec 32 := 8#32
  let v989 : BitVec 32 := Scalar.muli arg1 c8_i32_352
  let v990 : BitVec 32 := v989
  let v1027 : Index := Scalar.indexCast v990
  let c0_370 : Index := 0#32
  ![9, v1027.toNat, 0]
def k0_off13 (i : grid0.Coords) : Fin 3 → Nat :=
  let c10 : Index := 10#32
  let arg1 : BitVec 32 := BitVec.ofNat 32 (i 1).val
  let c8_i32_352 : BitVec 32 := 8#32
  let v989 : BitVec 32 := Scalar.muli arg1 c8_i32_352
  let v990 : BitVec 32 := v989
  let v1031 : Index := Scalar.indexCast v990
  let c0_371 : Index := 0#32
  ![10, v1031.toNat, 0]
def k0_off14 (i : grid0.Coords) : Fin 3 → Nat :=
  let c11 : Index := 11#32
  let arg1 : BitVec 32 := BitVec.ofNat 32 (i 1).val
  let c8_i32_352 : BitVec 32 := 8#32
  let v989 : BitVec 32 := Scalar.muli arg1 c8_i32_352
  let v990 : BitVec 32 := v989
  let v1035 : Index := Scalar.indexCast v990
  let c0_372 : Index := 0#32
  ![11, v1035.toNat, 0]
def k0_off15 (i : grid0.Coords) : Fin 3 → Nat :=
  let c12 : Index := 12#32
  let arg1 : BitVec 32 := BitVec.ofNat 32 (i 1).val
  let c8_i32_352 : BitVec 32 := 8#32
  let v989 : BitVec 32 := Scalar.muli arg1 c8_i32_352
  let v990 : BitVec 32 := v989
  let v1039 : Index := Scalar.indexCast v990
  let c0_373 : Index := 0#32
  ![12, v1039.toNat, 0]
def k0_off16 (i : grid0.Coords) : Fin 3 → Nat :=
  let c13 : Index := 13#32
  let arg1 : BitVec 32 := BitVec.ofNat 32 (i 1).val
  let c8_i32_352 : BitVec 32 := 8#32
  let v989 : BitVec 32 := Scalar.muli arg1 c8_i32_352
  let v990 : BitVec 32 := v989
  let v1043 : Index := Scalar.indexCast v990
  let c0_374 : Index := 0#32
  ![13, v1043.toNat, 0]
def k0_off17 (i : grid0.Coords) : Fin 3 → Nat :=
  let c14 : Index := 14#32
  let arg1 : BitVec 32 := BitVec.ofNat 32 (i 1).val
  let c8_i32_352 : BitVec 32 := 8#32
  let v989 : BitVec 32 := Scalar.muli arg1 c8_i32_352
  let v990 : BitVec 32 := v989
  let v1047 : Index := Scalar.indexCast v990
  let c0_375 : Index := 0#32
  ![14, v1047.toNat, 0]
def k0_off18 (i : grid0.Coords) : Fin 3 → Nat :=
  let c15 : Index := 15#32
  let arg1 : BitVec 32 := BitVec.ofNat 32 (i 1).val
  let c8_i32_352 : BitVec 32 := 8#32
  let v989 : BitVec 32 := Scalar.muli arg1 c8_i32_352
  let v990 : BitVec 32 := v989
  let v1051 : Index := Scalar.indexCast v990
  let c0_376 : Index := 0#32
  ![15, v1051.toNat, 0]
def k0_off19 (i : grid0.Coords) : Fin 3 → Nat :=
  let c16 : Index := 16#32
  let arg1 : BitVec 32 := BitVec.ofNat 32 (i 1).val
  let c8_i32_352 : BitVec 32 := 8#32
  let v989 : BitVec 32 := Scalar.muli arg1 c8_i32_352
  let v990 : BitVec 32 := v989
  let v1055 : Index := Scalar.indexCast v990
  let c0_377 : Index := 0#32
  ![16, v1055.toNat, 0]
def k0_off20 (i : grid0.Coords) : Fin 3 → Nat :=
  let c17 : Index := 17#32
  let arg1 : BitVec 32 := BitVec.ofNat 32 (i 1).val
  let c8_i32_352 : BitVec 32 := 8#32
  let v989 : BitVec 32 := Scalar.muli arg1 c8_i32_352
  let v990 : BitVec 32 := v989
  let v1059 : Index := Scalar.indexCast v990
  let c0_378 : Index := 0#32
  ![17, v1059.toNat, 0]
def k0_off21 (i : grid0.Coords) : Fin 3 → Nat :=
  let c18 : Index := 18#32
  let arg1 : BitVec 32 := BitVec.ofNat 32 (i 1).val
  let c8_i32_352 : BitVec 32 := 8#32
  let v989 : BitVec 32 := Scalar.muli arg1 c8_i32_352
  let v990 : BitVec 32 := v989
  let v1063 : Index := Scalar.indexCast v990
  let c0_379 : Index := 0#32
  ![18, v1063.toNat, 0]
def k0_off22 (i : grid0.Coords) : Fin 3 → Nat :=
  let c19 : Index := 19#32
  let arg1 : BitVec 32 := BitVec.ofNat 32 (i 1).val
  let c8_i32_352 : BitVec 32 := 8#32
  let v989 : BitVec 32 := Scalar.muli arg1 c8_i32_352
  let v990 : BitVec 32 := v989
  let v1067 : Index := Scalar.indexCast v990
  let c0_380 : Index := 0#32
  ![19, v1067.toNat, 0]
def k0_off23 (i : grid0.Coords) : Fin 3 → Nat :=
  let c20 : Index := 20#32
  let arg1 : BitVec 32 := BitVec.ofNat 32 (i 1).val
  let c8_i32_352 : BitVec 32 := 8#32
  let v989 : BitVec 32 := Scalar.muli arg1 c8_i32_352
  let v990 : BitVec 32 := v989
  let v1071 : Index := Scalar.indexCast v990
  let c0_381 : Index := 0#32
  ![20, v1071.toNat, 0]
def k0_off24 (i : grid0.Coords) : Fin 3 → Nat :=
  let c21 : Index := 21#32
  let arg1 : BitVec 32 := BitVec.ofNat 32 (i 1).val
  let c8_i32_352 : BitVec 32 := 8#32
  let v989 : BitVec 32 := Scalar.muli arg1 c8_i32_352
  let v990 : BitVec 32 := v989
  let v1075 : Index := Scalar.indexCast v990
  let c0_382 : Index := 0#32
  ![21, v1075.toNat, 0]
def k0_off25 (i : grid0.Coords) : Fin 3 → Nat :=
  let c22 : Index := 22#32
  let arg1 : BitVec 32 := BitVec.ofNat 32 (i 1).val
  let c8_i32_352 : BitVec 32 := 8#32
  let v989 : BitVec 32 := Scalar.muli arg1 c8_i32_352
  let v990 : BitVec 32 := v989
  let v1079 : Index := Scalar.indexCast v990
  let c0_383 : Index := 0#32
  ![22, v1079.toNat, 0]
def k0_off26 (i : grid0.Coords) : Fin 3 → Nat :=
  let c23 : Index := 23#32
  let arg1 : BitVec 32 := BitVec.ofNat 32 (i 1).val
  let c8_i32_352 : BitVec 32 := 8#32
  let v989 : BitVec 32 := Scalar.muli arg1 c8_i32_352
  let v990 : BitVec 32 := v989
  let v1083 : Index := Scalar.indexCast v990
  let c0_384 : Index := 0#32
  ![23, v1083.toNat, 0]
def k0_off27 (i : grid0.Coords) : Fin 3 → Nat :=
  let c24 : Index := 24#32
  let arg1 : BitVec 32 := BitVec.ofNat 32 (i 1).val
  let c8_i32_352 : BitVec 32 := 8#32
  let v989 : BitVec 32 := Scalar.muli arg1 c8_i32_352
  let v990 : BitVec 32 := v989
  let v1087 : Index := Scalar.indexCast v990
  let c0_385 : Index := 0#32
  ![24, v1087.toNat, 0]
def k0_off28 (i : grid0.Coords) : Fin 3 → Nat :=
  let c25 : Index := 25#32
  let arg1 : BitVec 32 := BitVec.ofNat 32 (i 1).val
  let c8_i32_352 : BitVec 32 := 8#32
  let v989 : BitVec 32 := Scalar.muli arg1 c8_i32_352
  let v990 : BitVec 32 := v989
  let v1091 : Index := Scalar.indexCast v990
  let c0_386 : Index := 0#32
  ![25, v1091.toNat, 0]
def k0_off29 (i : grid0.Coords) : Fin 3 → Nat :=
  let c26 : Index := 26#32
  let arg1 : BitVec 32 := BitVec.ofNat 32 (i 1).val
  let c8_i32_352 : BitVec 32 := 8#32
  let v989 : BitVec 32 := Scalar.muli arg1 c8_i32_352
  let v990 : BitVec 32 := v989
  let v1095 : Index := Scalar.indexCast v990
  let c0_387 : Index := 0#32
  ![26, v1095.toNat, 0]
def k0_off30 (i : grid0.Coords) : Fin 3 → Nat :=
  let c27 : Index := 27#32
  let arg1 : BitVec 32 := BitVec.ofNat 32 (i 1).val
  let c8_i32_352 : BitVec 32 := 8#32
  let v989 : BitVec 32 := Scalar.muli arg1 c8_i32_352
  let v990 : BitVec 32 := v989
  let v1099 : Index := Scalar.indexCast v990
  let c0_388 : Index := 0#32
  ![27, v1099.toNat, 0]
def k0_off31 (i : grid0.Coords) : Fin 3 → Nat :=
  let c28 : Index := 28#32
  let arg1 : BitVec 32 := BitVec.ofNat 32 (i 1).val
  let c8_i32_352 : BitVec 32 := 8#32
  let v989 : BitVec 32 := Scalar.muli arg1 c8_i32_352
  let v990 : BitVec 32 := v989
  let v1103 : Index := Scalar.indexCast v990
  let c0_389 : Index := 0#32
  ![28, v1103.toNat, 0]
def k0_off32 (i : grid0.Coords) : Fin 3 → Nat :=
  let c29 : Index := 29#32
  let arg1 : BitVec 32 := BitVec.ofNat 32 (i 1).val
  let c8_i32_352 : BitVec 32 := 8#32
  let v989 : BitVec 32 := Scalar.muli arg1 c8_i32_352
  let v990 : BitVec 32 := v989
  let v1107 : Index := Scalar.indexCast v990
  let c0_390 : Index := 0#32
  ![29, v1107.toNat, 0]
def k0_off33 (i : grid0.Coords) : Fin 3 → Nat :=
  let c30 : Index := 30#32
  let arg1 : BitVec 32 := BitVec.ofNat 32 (i 1).val
  let c8_i32_352 : BitVec 32 := 8#32
  let v989 : BitVec 32 := Scalar.muli arg1 c8_i32_352
  let v990 : BitVec 32 := v989
  let v1111 : Index := Scalar.indexCast v990
  let c0_391 : Index := 0#32
  ![30, v1111.toNat, 0]
def k0_off34 (i : grid0.Coords) : Fin 3 → Nat :=
  let c31 : Index := 31#32
  let arg1 : BitVec 32 := BitVec.ofNat 32 (i 1).val
  let c8_i32_352 : BitVec 32 := 8#32
  let v989 : BitVec 32 := Scalar.muli arg1 c8_i32_352
  let v990 : BitVec 32 := v989
  let v1115 : Index := Scalar.indexCast v990
  let c0_392 : Index := 0#32
  ![31, v1115.toNat, 0]
@[reducible] def k0_t1_loop (i : grid0.Coords) : Scf.Loop 32 :=
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_404 : BitVec 32 := 1#32
  ⟨c0_i32_402, v1141, c1_i32_404⟩
def k0_mult3 (i : grid0.Coords) (k0_t1 : Fin (k0_t1_loop i).trips) : BitVec 32 :=
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c256_i32_468 : BitVec 32 := 256#32
  let v1236 : BitVec 32 := Scalar.muli v1235 c256_i32_468
  v1236
def k0_off35 (i : grid0.Coords) (k0_t1 : Fin (k0_t1_loop i).trips) : Fin 3 → Nat :=
  let c0_469 : Index := 0#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c256_i32_468 : BitVec 32 := 256#32
  let v1236 : BitVec 32 := Scalar.muli v1235 c256_i32_468
  let v1237 : BitVec 32 := v1236
  let v1238 : Index := Scalar.indexCast v1237
  let c0_470 : Index := 0#32
  ![0, v1238.toNat, 0]
def k0_off36 (i : grid0.Coords) (k0_t1 : Fin (k0_t1_loop i).trips) : Fin 2 → Nat :=
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c256_i32_468 : BitVec 32 := 256#32
  let v1236 : BitVec 32 := Scalar.muli v1235 c256_i32_468
  let v1237 : BitVec 32 := v1236
  let v1325 : Index := Scalar.indexCast v1237
  let c0_516 : Index := 0#32
  ![v1325.toNat, 0]
def k0_mult4 (i : grid0.Coords) (k0_t1 : Fin (k0_t1_loop i).trips) : BitVec 32 :=
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  v2083
def k0_off37 (i : grid0.Coords) (k0_t1 : Fin (k0_t1_loop i).trips) : Fin 3 → Nat :=
  let c0_759 : Index := 0#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2085 : Index := Scalar.indexCast v2084
  let c0_760 : Index := 0#32
  ![0, v2085.toNat, 0]
def k0_off38 (i : grid0.Coords) (k0_t1 : Fin (k0_t1_loop i).trips) : Fin 3 → Nat :=
  let c1_761 : Index := 1#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2089 : Index := Scalar.indexCast v2084
  let c0_762 : Index := 0#32
  ![1, v2089.toNat, 0]
def k0_off39 (i : grid0.Coords) (k0_t1 : Fin (k0_t1_loop i).trips) : Fin 3 → Nat :=
  let c2_763 : Index := 2#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2093 : Index := Scalar.indexCast v2084
  let c0_764 : Index := 0#32
  ![2, v2093.toNat, 0]
def k0_off40 (i : grid0.Coords) (k0_t1 : Fin (k0_t1_loop i).trips) : Fin 3 → Nat :=
  let c3_765 : Index := 3#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2097 : Index := Scalar.indexCast v2084
  let c0_766 : Index := 0#32
  ![3, v2097.toNat, 0]
def k0_off41 (i : grid0.Coords) (k0_t1 : Fin (k0_t1_loop i).trips) : Fin 3 → Nat :=
  let c4_767 : Index := 4#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2101 : Index := Scalar.indexCast v2084
  let c0_768 : Index := 0#32
  ![4, v2101.toNat, 0]
def k0_off42 (i : grid0.Coords) (k0_t1 : Fin (k0_t1_loop i).trips) : Fin 3 → Nat :=
  let c5_769 : Index := 5#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2105 : Index := Scalar.indexCast v2084
  let c0_770 : Index := 0#32
  ![5, v2105.toNat, 0]
def k0_off43 (i : grid0.Coords) (k0_t1 : Fin (k0_t1_loop i).trips) : Fin 3 → Nat :=
  let c6_771 : Index := 6#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2109 : Index := Scalar.indexCast v2084
  let c0_772 : Index := 0#32
  ![6, v2109.toNat, 0]
def k0_off44 (i : grid0.Coords) (k0_t1 : Fin (k0_t1_loop i).trips) : Fin 3 → Nat :=
  let c7_773 : Index := 7#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2113 : Index := Scalar.indexCast v2084
  let c0_774 : Index := 0#32
  ![7, v2113.toNat, 0]
def k0_off45 (i : grid0.Coords) (k0_t1 : Fin (k0_t1_loop i).trips) : Fin 3 → Nat :=
  let c8_775 : Index := 8#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2117 : Index := Scalar.indexCast v2084
  let c0_776 : Index := 0#32
  ![8, v2117.toNat, 0]
def k0_off46 (i : grid0.Coords) (k0_t1 : Fin (k0_t1_loop i).trips) : Fin 3 → Nat :=
  let c9_777 : Index := 9#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2121 : Index := Scalar.indexCast v2084
  let c0_778 : Index := 0#32
  ![9, v2121.toNat, 0]
def k0_off47 (i : grid0.Coords) (k0_t1 : Fin (k0_t1_loop i).trips) : Fin 3 → Nat :=
  let c10_779 : Index := 10#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2125 : Index := Scalar.indexCast v2084
  let c0_780 : Index := 0#32
  ![10, v2125.toNat, 0]
def k0_off48 (i : grid0.Coords) (k0_t1 : Fin (k0_t1_loop i).trips) : Fin 3 → Nat :=
  let c11_781 : Index := 11#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2129 : Index := Scalar.indexCast v2084
  let c0_782 : Index := 0#32
  ![11, v2129.toNat, 0]
def k0_off49 (i : grid0.Coords) (k0_t1 : Fin (k0_t1_loop i).trips) : Fin 3 → Nat :=
  let c12_783 : Index := 12#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2133 : Index := Scalar.indexCast v2084
  let c0_784 : Index := 0#32
  ![12, v2133.toNat, 0]
def k0_off50 (i : grid0.Coords) (k0_t1 : Fin (k0_t1_loop i).trips) : Fin 3 → Nat :=
  let c13_785 : Index := 13#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2137 : Index := Scalar.indexCast v2084
  let c0_786 : Index := 0#32
  ![13, v2137.toNat, 0]
def k0_off51 (i : grid0.Coords) (k0_t1 : Fin (k0_t1_loop i).trips) : Fin 3 → Nat :=
  let c14_787 : Index := 14#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2141 : Index := Scalar.indexCast v2084
  let c0_788 : Index := 0#32
  ![14, v2141.toNat, 0]
def k0_off52 (i : grid0.Coords) (k0_t1 : Fin (k0_t1_loop i).trips) : Fin 3 → Nat :=
  let c15_789 : Index := 15#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2145 : Index := Scalar.indexCast v2084
  let c0_790 : Index := 0#32
  ![15, v2145.toNat, 0]
def k0_off53 (i : grid0.Coords) (k0_t1 : Fin (k0_t1_loop i).trips) : Fin 3 → Nat :=
  let c16_791 : Index := 16#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2149 : Index := Scalar.indexCast v2084
  let c0_792 : Index := 0#32
  ![16, v2149.toNat, 0]
def k0_off54 (i : grid0.Coords) (k0_t1 : Fin (k0_t1_loop i).trips) : Fin 3 → Nat :=
  let c17_793 : Index := 17#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2153 : Index := Scalar.indexCast v2084
  let c0_794 : Index := 0#32
  ![17, v2153.toNat, 0]
def k0_off55 (i : grid0.Coords) (k0_t1 : Fin (k0_t1_loop i).trips) : Fin 3 → Nat :=
  let c18_795 : Index := 18#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2157 : Index := Scalar.indexCast v2084
  let c0_796 : Index := 0#32
  ![18, v2157.toNat, 0]
def k0_off56 (i : grid0.Coords) (k0_t1 : Fin (k0_t1_loop i).trips) : Fin 3 → Nat :=
  let c19_797 : Index := 19#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2161 : Index := Scalar.indexCast v2084
  let c0_798 : Index := 0#32
  ![19, v2161.toNat, 0]
def k0_off57 (i : grid0.Coords) (k0_t1 : Fin (k0_t1_loop i).trips) : Fin 3 → Nat :=
  let c20_799 : Index := 20#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2165 : Index := Scalar.indexCast v2084
  let c0_800 : Index := 0#32
  ![20, v2165.toNat, 0]
def k0_off58 (i : grid0.Coords) (k0_t1 : Fin (k0_t1_loop i).trips) : Fin 3 → Nat :=
  let c21_801 : Index := 21#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2169 : Index := Scalar.indexCast v2084
  let c0_802 : Index := 0#32
  ![21, v2169.toNat, 0]
def k0_off59 (i : grid0.Coords) (k0_t1 : Fin (k0_t1_loop i).trips) : Fin 3 → Nat :=
  let c22_803 : Index := 22#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2173 : Index := Scalar.indexCast v2084
  let c0_804 : Index := 0#32
  ![22, v2173.toNat, 0]
def k0_off60 (i : grid0.Coords) (k0_t1 : Fin (k0_t1_loop i).trips) : Fin 3 → Nat :=
  let c23_805 : Index := 23#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2177 : Index := Scalar.indexCast v2084
  let c0_806 : Index := 0#32
  ![23, v2177.toNat, 0]
def k0_off61 (i : grid0.Coords) (k0_t1 : Fin (k0_t1_loop i).trips) : Fin 3 → Nat :=
  let c24_807 : Index := 24#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2181 : Index := Scalar.indexCast v2084
  let c0_808 : Index := 0#32
  ![24, v2181.toNat, 0]
def k0_off62 (i : grid0.Coords) (k0_t1 : Fin (k0_t1_loop i).trips) : Fin 3 → Nat :=
  let c25_809 : Index := 25#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2185 : Index := Scalar.indexCast v2084
  let c0_810 : Index := 0#32
  ![25, v2185.toNat, 0]
def k0_off63 (i : grid0.Coords) (k0_t1 : Fin (k0_t1_loop i).trips) : Fin 3 → Nat :=
  let c26_811 : Index := 26#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2189 : Index := Scalar.indexCast v2084
  let c0_812 : Index := 0#32
  ![26, v2189.toNat, 0]
def k0_off64 (i : grid0.Coords) (k0_t1 : Fin (k0_t1_loop i).trips) : Fin 3 → Nat :=
  let c27_813 : Index := 27#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2193 : Index := Scalar.indexCast v2084
  let c0_814 : Index := 0#32
  ![27, v2193.toNat, 0]
def k0_off65 (i : grid0.Coords) (k0_t1 : Fin (k0_t1_loop i).trips) : Fin 3 → Nat :=
  let c28_815 : Index := 28#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2197 : Index := Scalar.indexCast v2084
  let c0_816 : Index := 0#32
  ![28, v2197.toNat, 0]
def k0_off66 (i : grid0.Coords) (k0_t1 : Fin (k0_t1_loop i).trips) : Fin 3 → Nat :=
  let c29_817 : Index := 29#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2201 : Index := Scalar.indexCast v2084
  let c0_818 : Index := 0#32
  ![29, v2201.toNat, 0]
def k0_off67 (i : grid0.Coords) (k0_t1 : Fin (k0_t1_loop i).trips) : Fin 3 → Nat :=
  let c30_819 : Index := 30#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2205 : Index := Scalar.indexCast v2084
  let c0_820 : Index := 0#32
  ![30, v2205.toNat, 0]
def k0_off68 (i : grid0.Coords) (k0_t1 : Fin (k0_t1_loop i).trips) : Fin 3 → Nat :=
  let c31_821 : Index := 31#32
  let c2_i32_467 : BitVec 32 := 2#32
  let c0_i32_402 : BitVec 32 := 0#32
  let c1_i32_404 : BitVec 32 := 1#32
  let arg22 : BitVec 32 := Scf.iv c0_i32_402 c1_i32_404 k0_t1
  let v1235 : BitVec 32 := Scalar.muli c2_i32_467 arg22
  let c8_i32_758 : BitVec 32 := 8#32
  let v2083 : BitVec 32 := Scalar.muli v1235 c8_i32_758
  let v2084 : BitVec 32 := v2083
  let v2209 : Index := Scalar.indexCast v2084
  let c0_822 : Index := 0#32
  ![31, v2209.toNat, 0]
def k0_mult5 (i : grid0.Coords) (k0_t1 : Fin (k0_t1_loop i).trips) : BitVec 32 :=
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  v2217
def k0_off69 (i : grid0.Coords) (k0_t1 : Fin (k0_t1_loop i).trips) : Fin 3 → Nat :=
  let c0_827 : Index := 0#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  let v2218 : BitVec 32 := v2217
  let v2219 : Index := Scalar.indexCast v2218
  let c0_828 : Index := 0#32
  ![0, v2219.toNat, 0]
def k0_off70 (i : grid0.Coords) (k0_t1 : Fin (k0_t1_loop i).trips) : Fin 2 → Nat :=
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  let v2218 : BitVec 32 := v2217
  let v2306 : Index := Scalar.indexCast v2218
  let c0_874 : Index := 0#32
  ![v2306.toNat, 0]
def k0_mult6 (i : grid0.Coords) (k0_t1 : Fin (k0_t1_loop i).trips) : BitVec 32 :=
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  v3064
def k0_off71 (i : grid0.Coords) (k0_t1 : Fin (k0_t1_loop i).trips) : Fin 3 → Nat :=
  let c0_1117 : Index := 0#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3066 : Index := Scalar.indexCast v3065
  let c0_1118 : Index := 0#32
  ![0, v3066.toNat, 0]
def k0_off72 (i : grid0.Coords) (k0_t1 : Fin (k0_t1_loop i).trips) : Fin 3 → Nat :=
  let c1_1119 : Index := 1#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3070 : Index := Scalar.indexCast v3065
  let c0_1120 : Index := 0#32
  ![1, v3070.toNat, 0]
def k0_off73 (i : grid0.Coords) (k0_t1 : Fin (k0_t1_loop i).trips) : Fin 3 → Nat :=
  let c2_1121 : Index := 2#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3074 : Index := Scalar.indexCast v3065
  let c0_1122 : Index := 0#32
  ![2, v3074.toNat, 0]
def k0_off74 (i : grid0.Coords) (k0_t1 : Fin (k0_t1_loop i).trips) : Fin 3 → Nat :=
  let c3_1123 : Index := 3#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3078 : Index := Scalar.indexCast v3065
  let c0_1124 : Index := 0#32
  ![3, v3078.toNat, 0]
def k0_off75 (i : grid0.Coords) (k0_t1 : Fin (k0_t1_loop i).trips) : Fin 3 → Nat :=
  let c4_1125 : Index := 4#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3082 : Index := Scalar.indexCast v3065
  let c0_1126 : Index := 0#32
  ![4, v3082.toNat, 0]
def k0_off76 (i : grid0.Coords) (k0_t1 : Fin (k0_t1_loop i).trips) : Fin 3 → Nat :=
  let c5_1127 : Index := 5#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3086 : Index := Scalar.indexCast v3065
  let c0_1128 : Index := 0#32
  ![5, v3086.toNat, 0]
def k0_off77 (i : grid0.Coords) (k0_t1 : Fin (k0_t1_loop i).trips) : Fin 3 → Nat :=
  let c6_1129 : Index := 6#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3090 : Index := Scalar.indexCast v3065
  let c0_1130 : Index := 0#32
  ![6, v3090.toNat, 0]
def k0_off78 (i : grid0.Coords) (k0_t1 : Fin (k0_t1_loop i).trips) : Fin 3 → Nat :=
  let c7_1131 : Index := 7#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3094 : Index := Scalar.indexCast v3065
  let c0_1132 : Index := 0#32
  ![7, v3094.toNat, 0]
def k0_off79 (i : grid0.Coords) (k0_t1 : Fin (k0_t1_loop i).trips) : Fin 3 → Nat :=
  let c8_1133 : Index := 8#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3098 : Index := Scalar.indexCast v3065
  let c0_1134 : Index := 0#32
  ![8, v3098.toNat, 0]
def k0_off80 (i : grid0.Coords) (k0_t1 : Fin (k0_t1_loop i).trips) : Fin 3 → Nat :=
  let c9_1135 : Index := 9#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3102 : Index := Scalar.indexCast v3065
  let c0_1136 : Index := 0#32
  ![9, v3102.toNat, 0]
def k0_off81 (i : grid0.Coords) (k0_t1 : Fin (k0_t1_loop i).trips) : Fin 3 → Nat :=
  let c10_1137 : Index := 10#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3106 : Index := Scalar.indexCast v3065
  let c0_1138 : Index := 0#32
  ![10, v3106.toNat, 0]
def k0_off82 (i : grid0.Coords) (k0_t1 : Fin (k0_t1_loop i).trips) : Fin 3 → Nat :=
  let c11_1139 : Index := 11#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3110 : Index := Scalar.indexCast v3065
  let c0_1140 : Index := 0#32
  ![11, v3110.toNat, 0]
def k0_off83 (i : grid0.Coords) (k0_t1 : Fin (k0_t1_loop i).trips) : Fin 3 → Nat :=
  let c12_1141 : Index := 12#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3114 : Index := Scalar.indexCast v3065
  let c0_1142 : Index := 0#32
  ![12, v3114.toNat, 0]
def k0_off84 (i : grid0.Coords) (k0_t1 : Fin (k0_t1_loop i).trips) : Fin 3 → Nat :=
  let c13_1143 : Index := 13#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3118 : Index := Scalar.indexCast v3065
  let c0_1144 : Index := 0#32
  ![13, v3118.toNat, 0]
def k0_off85 (i : grid0.Coords) (k0_t1 : Fin (k0_t1_loop i).trips) : Fin 3 → Nat :=
  let c14_1145 : Index := 14#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3122 : Index := Scalar.indexCast v3065
  let c0_1146 : Index := 0#32
  ![14, v3122.toNat, 0]
def k0_off86 (i : grid0.Coords) (k0_t1 : Fin (k0_t1_loop i).trips) : Fin 3 → Nat :=
  let c15_1147 : Index := 15#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3126 : Index := Scalar.indexCast v3065
  let c0_1148 : Index := 0#32
  ![15, v3126.toNat, 0]
def k0_off87 (i : grid0.Coords) (k0_t1 : Fin (k0_t1_loop i).trips) : Fin 3 → Nat :=
  let c16_1149 : Index := 16#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3130 : Index := Scalar.indexCast v3065
  let c0_1150 : Index := 0#32
  ![16, v3130.toNat, 0]
def k0_off88 (i : grid0.Coords) (k0_t1 : Fin (k0_t1_loop i).trips) : Fin 3 → Nat :=
  let c17_1151 : Index := 17#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3134 : Index := Scalar.indexCast v3065
  let c0_1152 : Index := 0#32
  ![17, v3134.toNat, 0]
def k0_off89 (i : grid0.Coords) (k0_t1 : Fin (k0_t1_loop i).trips) : Fin 3 → Nat :=
  let c18_1153 : Index := 18#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3138 : Index := Scalar.indexCast v3065
  let c0_1154 : Index := 0#32
  ![18, v3138.toNat, 0]
def k0_off90 (i : grid0.Coords) (k0_t1 : Fin (k0_t1_loop i).trips) : Fin 3 → Nat :=
  let c19_1155 : Index := 19#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3142 : Index := Scalar.indexCast v3065
  let c0_1156 : Index := 0#32
  ![19, v3142.toNat, 0]
def k0_off91 (i : grid0.Coords) (k0_t1 : Fin (k0_t1_loop i).trips) : Fin 3 → Nat :=
  let c20_1157 : Index := 20#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3146 : Index := Scalar.indexCast v3065
  let c0_1158 : Index := 0#32
  ![20, v3146.toNat, 0]
def k0_off92 (i : grid0.Coords) (k0_t1 : Fin (k0_t1_loop i).trips) : Fin 3 → Nat :=
  let c21_1159 : Index := 21#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3150 : Index := Scalar.indexCast v3065
  let c0_1160 : Index := 0#32
  ![21, v3150.toNat, 0]
def k0_off93 (i : grid0.Coords) (k0_t1 : Fin (k0_t1_loop i).trips) : Fin 3 → Nat :=
  let c22_1161 : Index := 22#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3154 : Index := Scalar.indexCast v3065
  let c0_1162 : Index := 0#32
  ![22, v3154.toNat, 0]
def k0_off94 (i : grid0.Coords) (k0_t1 : Fin (k0_t1_loop i).trips) : Fin 3 → Nat :=
  let c23_1163 : Index := 23#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3158 : Index := Scalar.indexCast v3065
  let c0_1164 : Index := 0#32
  ![23, v3158.toNat, 0]
def k0_off95 (i : grid0.Coords) (k0_t1 : Fin (k0_t1_loop i).trips) : Fin 3 → Nat :=
  let c24_1165 : Index := 24#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3162 : Index := Scalar.indexCast v3065
  let c0_1166 : Index := 0#32
  ![24, v3162.toNat, 0]
def k0_off96 (i : grid0.Coords) (k0_t1 : Fin (k0_t1_loop i).trips) : Fin 3 → Nat :=
  let c25_1167 : Index := 25#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3166 : Index := Scalar.indexCast v3065
  let c0_1168 : Index := 0#32
  ![25, v3166.toNat, 0]
def k0_off97 (i : grid0.Coords) (k0_t1 : Fin (k0_t1_loop i).trips) : Fin 3 → Nat :=
  let c26_1169 : Index := 26#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3170 : Index := Scalar.indexCast v3065
  let c0_1170 : Index := 0#32
  ![26, v3170.toNat, 0]
def k0_off98 (i : grid0.Coords) (k0_t1 : Fin (k0_t1_loop i).trips) : Fin 3 → Nat :=
  let c27_1171 : Index := 27#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3174 : Index := Scalar.indexCast v3065
  let c0_1172 : Index := 0#32
  ![27, v3174.toNat, 0]
def k0_off99 (i : grid0.Coords) (k0_t1 : Fin (k0_t1_loop i).trips) : Fin 3 → Nat :=
  let c28_1173 : Index := 28#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3178 : Index := Scalar.indexCast v3065
  let c0_1174 : Index := 0#32
  ![28, v3178.toNat, 0]
def k0_off100 (i : grid0.Coords) (k0_t1 : Fin (k0_t1_loop i).trips) : Fin 3 → Nat :=
  let c29_1175 : Index := 29#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3182 : Index := Scalar.indexCast v3065
  let c0_1176 : Index := 0#32
  ![29, v3182.toNat, 0]
def k0_off101 (i : grid0.Coords) (k0_t1 : Fin (k0_t1_loop i).trips) : Fin 3 → Nat :=
  let c30_1177 : Index := 30#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3186 : Index := Scalar.indexCast v3065
  let c0_1178 : Index := 0#32
  ![30, v3186.toNat, 0]
def k0_off102 (i : grid0.Coords) (k0_t1 : Fin (k0_t1_loop i).trips) : Fin 3 → Nat :=
  let c31_1179 : Index := 31#32
  let c2_i32_823 : BitVec 32 := 2#32
  let c0_i32_402 : BitVec 32 := 0#32
  let c1_i32_404 : BitVec 32 := 1#32
  let arg22 : BitVec 32 := Scf.iv c0_i32_402 c1_i32_404 k0_t1
  let v2213 : BitVec 32 := Scalar.muli c2_i32_823 arg22
  let c1_i32_824 : BitVec 32 := 1#32
  let v2214 : BitVec 32 := Scalar.addi v2213 c1_i32_824
  let arg1 : BitVec 32 := BitVec.ofNat 32 (i 1).val
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3190 : Index := Scalar.indexCast v3065
  let c0_1180 : Index := 0#32
  ![31, v3190.toNat, 0]
@[reducible] def k0_t2_loop (i : grid0.Coords) : Scf.Loop 32 :=
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let v1138 : BitVec 32 := Scalar.addi c0_i32_402 v1137
  let c1_i32_405 : BitVec 32 := 1#32
  ⟨v1141, v1138, c1_i32_405⟩
def k0_mult7 (i : grid0.Coords) (k0_t2 : Fin (k0_t2_loop i).trips) : BitVec 32 :=
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c256_i32_468 : BitVec 32 := 256#32
  let v1236 : BitVec 32 := Scalar.muli v1235 c256_i32_468
  v1236
def k0_off103 (i : grid0.Coords) (k0_t2 : Fin (k0_t2_loop i).trips) : Fin 3 → Nat :=
  let c0_469 : Index := 0#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c256_i32_468 : BitVec 32 := 256#32
  let v1236 : BitVec 32 := Scalar.muli v1235 c256_i32_468
  let v1237 : BitVec 32 := v1236
  let v1238 : Index := Scalar.indexCast v1237
  let c0_470 : Index := 0#32
  ![0, v1238.toNat, 0]
def k0_off104 (i : grid0.Coords) (k0_t2 : Fin (k0_t2_loop i).trips) : Fin 2 → Nat :=
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c256_i32_468 : BitVec 32 := 256#32
  let v1236 : BitVec 32 := Scalar.muli v1235 c256_i32_468
  let v1237 : BitVec 32 := v1236
  let v1325 : Index := Scalar.indexCast v1237
  let c0_516 : Index := 0#32
  ![v1325.toNat, 0]
def k0_mult8 (i : grid0.Coords) (k0_t2 : Fin (k0_t2_loop i).trips) : BitVec 32 :=
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  v2083
def k0_off105 (i : grid0.Coords) (k0_t2 : Fin (k0_t2_loop i).trips) : Fin 3 → Nat :=
  let c0_759 : Index := 0#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2085 : Index := Scalar.indexCast v2084
  let c0_760 : Index := 0#32
  ![0, v2085.toNat, 0]
def k0_off106 (i : grid0.Coords) (k0_t2 : Fin (k0_t2_loop i).trips) : Fin 3 → Nat :=
  let c1_761 : Index := 1#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2089 : Index := Scalar.indexCast v2084
  let c0_762 : Index := 0#32
  ![1, v2089.toNat, 0]
def k0_off107 (i : grid0.Coords) (k0_t2 : Fin (k0_t2_loop i).trips) : Fin 3 → Nat :=
  let c2_763 : Index := 2#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2093 : Index := Scalar.indexCast v2084
  let c0_764 : Index := 0#32
  ![2, v2093.toNat, 0]
def k0_off108 (i : grid0.Coords) (k0_t2 : Fin (k0_t2_loop i).trips) : Fin 3 → Nat :=
  let c3_765 : Index := 3#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2097 : Index := Scalar.indexCast v2084
  let c0_766 : Index := 0#32
  ![3, v2097.toNat, 0]
def k0_off109 (i : grid0.Coords) (k0_t2 : Fin (k0_t2_loop i).trips) : Fin 3 → Nat :=
  let c4_767 : Index := 4#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2101 : Index := Scalar.indexCast v2084
  let c0_768 : Index := 0#32
  ![4, v2101.toNat, 0]
def k0_off110 (i : grid0.Coords) (k0_t2 : Fin (k0_t2_loop i).trips) : Fin 3 → Nat :=
  let c5_769 : Index := 5#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2105 : Index := Scalar.indexCast v2084
  let c0_770 : Index := 0#32
  ![5, v2105.toNat, 0]
def k0_off111 (i : grid0.Coords) (k0_t2 : Fin (k0_t2_loop i).trips) : Fin 3 → Nat :=
  let c6_771 : Index := 6#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2109 : Index := Scalar.indexCast v2084
  let c0_772 : Index := 0#32
  ![6, v2109.toNat, 0]
def k0_off112 (i : grid0.Coords) (k0_t2 : Fin (k0_t2_loop i).trips) : Fin 3 → Nat :=
  let c7_773 : Index := 7#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2113 : Index := Scalar.indexCast v2084
  let c0_774 : Index := 0#32
  ![7, v2113.toNat, 0]
def k0_off113 (i : grid0.Coords) (k0_t2 : Fin (k0_t2_loop i).trips) : Fin 3 → Nat :=
  let c8_775 : Index := 8#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2117 : Index := Scalar.indexCast v2084
  let c0_776 : Index := 0#32
  ![8, v2117.toNat, 0]
def k0_off114 (i : grid0.Coords) (k0_t2 : Fin (k0_t2_loop i).trips) : Fin 3 → Nat :=
  let c9_777 : Index := 9#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2121 : Index := Scalar.indexCast v2084
  let c0_778 : Index := 0#32
  ![9, v2121.toNat, 0]
def k0_off115 (i : grid0.Coords) (k0_t2 : Fin (k0_t2_loop i).trips) : Fin 3 → Nat :=
  let c10_779 : Index := 10#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2125 : Index := Scalar.indexCast v2084
  let c0_780 : Index := 0#32
  ![10, v2125.toNat, 0]
def k0_off116 (i : grid0.Coords) (k0_t2 : Fin (k0_t2_loop i).trips) : Fin 3 → Nat :=
  let c11_781 : Index := 11#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2129 : Index := Scalar.indexCast v2084
  let c0_782 : Index := 0#32
  ![11, v2129.toNat, 0]
def k0_off117 (i : grid0.Coords) (k0_t2 : Fin (k0_t2_loop i).trips) : Fin 3 → Nat :=
  let c12_783 : Index := 12#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2133 : Index := Scalar.indexCast v2084
  let c0_784 : Index := 0#32
  ![12, v2133.toNat, 0]
def k0_off118 (i : grid0.Coords) (k0_t2 : Fin (k0_t2_loop i).trips) : Fin 3 → Nat :=
  let c13_785 : Index := 13#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2137 : Index := Scalar.indexCast v2084
  let c0_786 : Index := 0#32
  ![13, v2137.toNat, 0]
def k0_off119 (i : grid0.Coords) (k0_t2 : Fin (k0_t2_loop i).trips) : Fin 3 → Nat :=
  let c14_787 : Index := 14#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2141 : Index := Scalar.indexCast v2084
  let c0_788 : Index := 0#32
  ![14, v2141.toNat, 0]
def k0_off120 (i : grid0.Coords) (k0_t2 : Fin (k0_t2_loop i).trips) : Fin 3 → Nat :=
  let c15_789 : Index := 15#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2145 : Index := Scalar.indexCast v2084
  let c0_790 : Index := 0#32
  ![15, v2145.toNat, 0]
def k0_off121 (i : grid0.Coords) (k0_t2 : Fin (k0_t2_loop i).trips) : Fin 3 → Nat :=
  let c16_791 : Index := 16#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2149 : Index := Scalar.indexCast v2084
  let c0_792 : Index := 0#32
  ![16, v2149.toNat, 0]
def k0_off122 (i : grid0.Coords) (k0_t2 : Fin (k0_t2_loop i).trips) : Fin 3 → Nat :=
  let c17_793 : Index := 17#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2153 : Index := Scalar.indexCast v2084
  let c0_794 : Index := 0#32
  ![17, v2153.toNat, 0]
def k0_off123 (i : grid0.Coords) (k0_t2 : Fin (k0_t2_loop i).trips) : Fin 3 → Nat :=
  let c18_795 : Index := 18#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2157 : Index := Scalar.indexCast v2084
  let c0_796 : Index := 0#32
  ![18, v2157.toNat, 0]
def k0_off124 (i : grid0.Coords) (k0_t2 : Fin (k0_t2_loop i).trips) : Fin 3 → Nat :=
  let c19_797 : Index := 19#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2161 : Index := Scalar.indexCast v2084
  let c0_798 : Index := 0#32
  ![19, v2161.toNat, 0]
def k0_off125 (i : grid0.Coords) (k0_t2 : Fin (k0_t2_loop i).trips) : Fin 3 → Nat :=
  let c20_799 : Index := 20#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2165 : Index := Scalar.indexCast v2084
  let c0_800 : Index := 0#32
  ![20, v2165.toNat, 0]
def k0_off126 (i : grid0.Coords) (k0_t2 : Fin (k0_t2_loop i).trips) : Fin 3 → Nat :=
  let c21_801 : Index := 21#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2169 : Index := Scalar.indexCast v2084
  let c0_802 : Index := 0#32
  ![21, v2169.toNat, 0]
def k0_off127 (i : grid0.Coords) (k0_t2 : Fin (k0_t2_loop i).trips) : Fin 3 → Nat :=
  let c22_803 : Index := 22#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2173 : Index := Scalar.indexCast v2084
  let c0_804 : Index := 0#32
  ![22, v2173.toNat, 0]
def k0_off128 (i : grid0.Coords) (k0_t2 : Fin (k0_t2_loop i).trips) : Fin 3 → Nat :=
  let c23_805 : Index := 23#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2177 : Index := Scalar.indexCast v2084
  let c0_806 : Index := 0#32
  ![23, v2177.toNat, 0]
def k0_off129 (i : grid0.Coords) (k0_t2 : Fin (k0_t2_loop i).trips) : Fin 3 → Nat :=
  let c24_807 : Index := 24#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2181 : Index := Scalar.indexCast v2084
  let c0_808 : Index := 0#32
  ![24, v2181.toNat, 0]
def k0_off130 (i : grid0.Coords) (k0_t2 : Fin (k0_t2_loop i).trips) : Fin 3 → Nat :=
  let c25_809 : Index := 25#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2185 : Index := Scalar.indexCast v2084
  let c0_810 : Index := 0#32
  ![25, v2185.toNat, 0]
def k0_off131 (i : grid0.Coords) (k0_t2 : Fin (k0_t2_loop i).trips) : Fin 3 → Nat :=
  let c26_811 : Index := 26#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2189 : Index := Scalar.indexCast v2084
  let c0_812 : Index := 0#32
  ![26, v2189.toNat, 0]
def k0_off132 (i : grid0.Coords) (k0_t2 : Fin (k0_t2_loop i).trips) : Fin 3 → Nat :=
  let c27_813 : Index := 27#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2193 : Index := Scalar.indexCast v2084
  let c0_814 : Index := 0#32
  ![27, v2193.toNat, 0]
def k0_off133 (i : grid0.Coords) (k0_t2 : Fin (k0_t2_loop i).trips) : Fin 3 → Nat :=
  let c28_815 : Index := 28#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2197 : Index := Scalar.indexCast v2084
  let c0_816 : Index := 0#32
  ![28, v2197.toNat, 0]
def k0_off134 (i : grid0.Coords) (k0_t2 : Fin (k0_t2_loop i).trips) : Fin 3 → Nat :=
  let c29_817 : Index := 29#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2201 : Index := Scalar.indexCast v2084
  let c0_818 : Index := 0#32
  ![29, v2201.toNat, 0]
def k0_off135 (i : grid0.Coords) (k0_t2 : Fin (k0_t2_loop i).trips) : Fin 3 → Nat :=
  let c30_819 : Index := 30#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2205 : Index := Scalar.indexCast v2084
  let c0_820 : Index := 0#32
  ![30, v2205.toNat, 0]
def k0_off136 (i : grid0.Coords) (k0_t2 : Fin (k0_t2_loop i).trips) : Fin 3 → Nat :=
  let c31_821 : Index := 31#32
  let c2_i32_467 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v1235 : BitVec 32 := Scalar.muli c2_i32_467 arg22
  let c8_i32_758 : BitVec 32 := 8#32
  let v2083 : BitVec 32 := Scalar.muli v1235 c8_i32_758
  let v2084 : BitVec 32 := v2083
  let v2209 : Index := Scalar.indexCast v2084
  let c0_822 : Index := 0#32
  ![31, v2209.toNat, 0]
def k0_mult9 (i : grid0.Coords) (k0_t2 : Fin (k0_t2_loop i).trips) : BitVec 32 :=
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  v2217
def k0_off137 (i : grid0.Coords) (k0_t2 : Fin (k0_t2_loop i).trips) : Fin 3 → Nat :=
  let c0_827 : Index := 0#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  let v2218 : BitVec 32 := v2217
  let v2219 : Index := Scalar.indexCast v2218
  let c0_828 : Index := 0#32
  ![0, v2219.toNat, 0]
def k0_off138 (i : grid0.Coords) (k0_t2 : Fin (k0_t2_loop i).trips) : Fin 2 → Nat :=
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c256_i32_826 : BitVec 32 := 256#32
  let v2217 : BitVec 32 := Scalar.muli v2216 c256_i32_826
  let v2218 : BitVec 32 := v2217
  let v2306 : Index := Scalar.indexCast v2218
  let c0_874 : Index := 0#32
  ![v2306.toNat, 0]
def k0_mult10 (i : grid0.Coords) (k0_t2 : Fin (k0_t2_loop i).trips) : BitVec 32 :=
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  v3064
def k0_off139 (i : grid0.Coords) (k0_t2 : Fin (k0_t2_loop i).trips) : Fin 3 → Nat :=
  let c0_1117 : Index := 0#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3066 : Index := Scalar.indexCast v3065
  let c0_1118 : Index := 0#32
  ![0, v3066.toNat, 0]
def k0_off140 (i : grid0.Coords) (k0_t2 : Fin (k0_t2_loop i).trips) : Fin 3 → Nat :=
  let c1_1119 : Index := 1#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3070 : Index := Scalar.indexCast v3065
  let c0_1120 : Index := 0#32
  ![1, v3070.toNat, 0]
def k0_off141 (i : grid0.Coords) (k0_t2 : Fin (k0_t2_loop i).trips) : Fin 3 → Nat :=
  let c2_1121 : Index := 2#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3074 : Index := Scalar.indexCast v3065
  let c0_1122 : Index := 0#32
  ![2, v3074.toNat, 0]
def k0_off142 (i : grid0.Coords) (k0_t2 : Fin (k0_t2_loop i).trips) : Fin 3 → Nat :=
  let c3_1123 : Index := 3#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3078 : Index := Scalar.indexCast v3065
  let c0_1124 : Index := 0#32
  ![3, v3078.toNat, 0]
def k0_off143 (i : grid0.Coords) (k0_t2 : Fin (k0_t2_loop i).trips) : Fin 3 → Nat :=
  let c4_1125 : Index := 4#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3082 : Index := Scalar.indexCast v3065
  let c0_1126 : Index := 0#32
  ![4, v3082.toNat, 0]
def k0_off144 (i : grid0.Coords) (k0_t2 : Fin (k0_t2_loop i).trips) : Fin 3 → Nat :=
  let c5_1127 : Index := 5#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3086 : Index := Scalar.indexCast v3065
  let c0_1128 : Index := 0#32
  ![5, v3086.toNat, 0]
def k0_off145 (i : grid0.Coords) (k0_t2 : Fin (k0_t2_loop i).trips) : Fin 3 → Nat :=
  let c6_1129 : Index := 6#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3090 : Index := Scalar.indexCast v3065
  let c0_1130 : Index := 0#32
  ![6, v3090.toNat, 0]
def k0_off146 (i : grid0.Coords) (k0_t2 : Fin (k0_t2_loop i).trips) : Fin 3 → Nat :=
  let c7_1131 : Index := 7#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3094 : Index := Scalar.indexCast v3065
  let c0_1132 : Index := 0#32
  ![7, v3094.toNat, 0]
def k0_off147 (i : grid0.Coords) (k0_t2 : Fin (k0_t2_loop i).trips) : Fin 3 → Nat :=
  let c8_1133 : Index := 8#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3098 : Index := Scalar.indexCast v3065
  let c0_1134 : Index := 0#32
  ![8, v3098.toNat, 0]
def k0_off148 (i : grid0.Coords) (k0_t2 : Fin (k0_t2_loop i).trips) : Fin 3 → Nat :=
  let c9_1135 : Index := 9#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3102 : Index := Scalar.indexCast v3065
  let c0_1136 : Index := 0#32
  ![9, v3102.toNat, 0]
def k0_off149 (i : grid0.Coords) (k0_t2 : Fin (k0_t2_loop i).trips) : Fin 3 → Nat :=
  let c10_1137 : Index := 10#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3106 : Index := Scalar.indexCast v3065
  let c0_1138 : Index := 0#32
  ![10, v3106.toNat, 0]
def k0_off150 (i : grid0.Coords) (k0_t2 : Fin (k0_t2_loop i).trips) : Fin 3 → Nat :=
  let c11_1139 : Index := 11#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3110 : Index := Scalar.indexCast v3065
  let c0_1140 : Index := 0#32
  ![11, v3110.toNat, 0]
def k0_off151 (i : grid0.Coords) (k0_t2 : Fin (k0_t2_loop i).trips) : Fin 3 → Nat :=
  let c12_1141 : Index := 12#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3114 : Index := Scalar.indexCast v3065
  let c0_1142 : Index := 0#32
  ![12, v3114.toNat, 0]
def k0_off152 (i : grid0.Coords) (k0_t2 : Fin (k0_t2_loop i).trips) : Fin 3 → Nat :=
  let c13_1143 : Index := 13#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3118 : Index := Scalar.indexCast v3065
  let c0_1144 : Index := 0#32
  ![13, v3118.toNat, 0]
def k0_off153 (i : grid0.Coords) (k0_t2 : Fin (k0_t2_loop i).trips) : Fin 3 → Nat :=
  let c14_1145 : Index := 14#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3122 : Index := Scalar.indexCast v3065
  let c0_1146 : Index := 0#32
  ![14, v3122.toNat, 0]
def k0_off154 (i : grid0.Coords) (k0_t2 : Fin (k0_t2_loop i).trips) : Fin 3 → Nat :=
  let c15_1147 : Index := 15#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3126 : Index := Scalar.indexCast v3065
  let c0_1148 : Index := 0#32
  ![15, v3126.toNat, 0]
def k0_off155 (i : grid0.Coords) (k0_t2 : Fin (k0_t2_loop i).trips) : Fin 3 → Nat :=
  let c16_1149 : Index := 16#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3130 : Index := Scalar.indexCast v3065
  let c0_1150 : Index := 0#32
  ![16, v3130.toNat, 0]
def k0_off156 (i : grid0.Coords) (k0_t2 : Fin (k0_t2_loop i).trips) : Fin 3 → Nat :=
  let c17_1151 : Index := 17#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3134 : Index := Scalar.indexCast v3065
  let c0_1152 : Index := 0#32
  ![17, v3134.toNat, 0]
def k0_off157 (i : grid0.Coords) (k0_t2 : Fin (k0_t2_loop i).trips) : Fin 3 → Nat :=
  let c18_1153 : Index := 18#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3138 : Index := Scalar.indexCast v3065
  let c0_1154 : Index := 0#32
  ![18, v3138.toNat, 0]
def k0_off158 (i : grid0.Coords) (k0_t2 : Fin (k0_t2_loop i).trips) : Fin 3 → Nat :=
  let c19_1155 : Index := 19#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3142 : Index := Scalar.indexCast v3065
  let c0_1156 : Index := 0#32
  ![19, v3142.toNat, 0]
def k0_off159 (i : grid0.Coords) (k0_t2 : Fin (k0_t2_loop i).trips) : Fin 3 → Nat :=
  let c20_1157 : Index := 20#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3146 : Index := Scalar.indexCast v3065
  let c0_1158 : Index := 0#32
  ![20, v3146.toNat, 0]
def k0_off160 (i : grid0.Coords) (k0_t2 : Fin (k0_t2_loop i).trips) : Fin 3 → Nat :=
  let c21_1159 : Index := 21#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3150 : Index := Scalar.indexCast v3065
  let c0_1160 : Index := 0#32
  ![21, v3150.toNat, 0]
def k0_off161 (i : grid0.Coords) (k0_t2 : Fin (k0_t2_loop i).trips) : Fin 3 → Nat :=
  let c22_1161 : Index := 22#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3154 : Index := Scalar.indexCast v3065
  let c0_1162 : Index := 0#32
  ![22, v3154.toNat, 0]
def k0_off162 (i : grid0.Coords) (k0_t2 : Fin (k0_t2_loop i).trips) : Fin 3 → Nat :=
  let c23_1163 : Index := 23#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3158 : Index := Scalar.indexCast v3065
  let c0_1164 : Index := 0#32
  ![23, v3158.toNat, 0]
def k0_off163 (i : grid0.Coords) (k0_t2 : Fin (k0_t2_loop i).trips) : Fin 3 → Nat :=
  let c24_1165 : Index := 24#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3162 : Index := Scalar.indexCast v3065
  let c0_1166 : Index := 0#32
  ![24, v3162.toNat, 0]
def k0_off164 (i : grid0.Coords) (k0_t2 : Fin (k0_t2_loop i).trips) : Fin 3 → Nat :=
  let c25_1167 : Index := 25#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3166 : Index := Scalar.indexCast v3065
  let c0_1168 : Index := 0#32
  ![25, v3166.toNat, 0]
def k0_off165 (i : grid0.Coords) (k0_t2 : Fin (k0_t2_loop i).trips) : Fin 3 → Nat :=
  let c26_1169 : Index := 26#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3170 : Index := Scalar.indexCast v3065
  let c0_1170 : Index := 0#32
  ![26, v3170.toNat, 0]
def k0_off166 (i : grid0.Coords) (k0_t2 : Fin (k0_t2_loop i).trips) : Fin 3 → Nat :=
  let c27_1171 : Index := 27#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3174 : Index := Scalar.indexCast v3065
  let c0_1172 : Index := 0#32
  ![27, v3174.toNat, 0]
def k0_off167 (i : grid0.Coords) (k0_t2 : Fin (k0_t2_loop i).trips) : Fin 3 → Nat :=
  let c28_1173 : Index := 28#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3178 : Index := Scalar.indexCast v3065
  let c0_1174 : Index := 0#32
  ![28, v3178.toNat, 0]
def k0_off168 (i : grid0.Coords) (k0_t2 : Fin (k0_t2_loop i).trips) : Fin 3 → Nat :=
  let c29_1175 : Index := 29#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3182 : Index := Scalar.indexCast v3065
  let c0_1176 : Index := 0#32
  ![29, v3182.toNat, 0]
def k0_off169 (i : grid0.Coords) (k0_t2 : Fin (k0_t2_loop i).trips) : Fin 3 → Nat :=
  let c30_1177 : Index := 30#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3186 : Index := Scalar.indexCast v3065
  let c0_1178 : Index := 0#32
  ![30, v3186.toNat, 0]
def k0_off170 (i : grid0.Coords) (k0_t2 : Fin (k0_t2_loop i).trips) : Fin 3 → Nat :=
  let c31_1179 : Index := 31#32
  let c2_i32_823 : BitVec 32 := 2#32
  let c0_i32_402 : BitVec 32 := 0#32
  let arg1 : BitVec 32 := BitVec.ofNat 32 (i 1).val
  let c1_i32_393 : BitVec 32 := 1#32
  let v1119 : BitVec 32 := Scalar.addi arg1 c1_i32_393
  let c0_i32_395 : BitVec 32 := 0#32
  let v1121 : BitVec 1 := Scalar.cmpi .sgt v1119 c0_i32_395
  let v1122 : BitVec 32 := Scalar.extui v1121
  let c0_i32_396 : BitVec 32 := 0#32
  let v1123 : BitVec 1 := Scalar.cmpi .slt v1119 c0_i32_396
  let v1124 : BitVec 32 := Scalar.extui v1123
  let v1125 : BitVec 32 := Scalar.subi v1122 v1124
  let c2_i32_394 : BitVec 32 := 2#32
  let c0_i32_397 : BitVec 32 := 0#32
  let v1126 : BitVec 1 := Scalar.cmpi .sgt c2_i32_394 c0_i32_397
  let v1127 : BitVec 32 := Scalar.extui v1126
  let c0_i32_398 : BitVec 32 := 0#32
  let v1128 : BitVec 1 := Scalar.cmpi .slt c2_i32_394 c0_i32_398
  let v1129 : BitVec 32 := Scalar.extui v1128
  let v1130 : BitVec 32 := Scalar.subi v1127 v1129
  let v1131 : BitVec 1 := Scalar.cmpi .ne v1125 v1130
  let v1132 : BitVec 32 := Scalar.remsi v1119 c2_i32_394
  let c0_i32_399 : BitVec 32 := 0#32
  let v1133 : BitVec 1 := Scalar.cmpi .ne v1132 c0_i32_399
  let v1134 : BitVec 1 := Scalar.andi v1131 v1133
  let v1120 : BitVec 32 := Scalar.divsi v1119 c2_i32_394
  let c1_i32_400 : BitVec 32 := 1#32
  let v1135 : BitVec 32 := Scalar.subi v1120 c1_i32_400
  let v1136 : BitVec 32 := Scalar.select v1134 v1135 v1120
  let v1137 : BitVec 32 := Scalar.subi v1136 c0_i32_402
  let c1_i32_403 : BitVec 32 := 1#32
  let v1139 : BitVec 32 := Scalar.divsi v1137 c1_i32_403
  let v1140 : BitVec 32 := Scalar.muli v1139 c1_i32_403
  let v1141 : BitVec 32 := Scalar.addi c0_i32_402 v1140
  let c1_i32_405 : BitVec 32 := 1#32
  let arg22 : BitVec 32 := Scf.iv v1141 c1_i32_405 k0_t2
  let v2213 : BitVec 32 := Scalar.muli c2_i32_823 arg22
  let c1_i32_824 : BitVec 32 := 1#32
  let v2214 : BitVec 32 := Scalar.addi v2213 c1_i32_824
  let c1_i32_825 : BitVec 32 := 1#32
  let v2215 : BitVec 32 := Scalar.subi arg1 c1_i32_825
  let v2216 : BitVec 32 := Scalar.minsi v2214 v2215
  let c8_i32_1116 : BitVec 32 := 8#32
  let v3064 : BitVec 32 := Scalar.muli v2216 c8_i32_1116
  let v3065 : BitVec 32 := v3064
  let v3190 : Index := Scalar.indexCast v3065
  let c0_1180 : Index := 0#32
  ![31, v3190.toNat, 0]
@[reducible] def k0_t3_loop : Scf.Loop 32 :=
  let c0_i32_423 : BitVec 32 := 0#32
  let c32_i32 : BitVec 32 := 32#32
  let v1174 : BitVec 32 := Scalar.addi c0_i32_423 c32_i32
  let c1_i32_424 : BitVec 32 := 1#32
  ⟨c0_i32_423, v1174, c1_i32_424⟩
@[reducible] def k0_t4_loop (i : grid0.Coords) : Scf.Loop 32 :=
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let c1_i32_472 : BitVec 32 := 1#32
  ⟨c0_i32_470, v1243, c1_i32_472⟩
def k0_mult11 (i : grid0.Coords) (k0_t4 : Fin (k0_t4_loop i).trips) : BitVec 32 :=
  let c0_i32_470 : BitVec 32 := 0#32
  let c1_i32_472 : BitVec 32 := 1#32
  let arg26 : BitVec 32 := Scf.iv c0_i32_470 c1_i32_472 k0_t4
  let c32_i32_478 : BitVec 32 := 32#32
  let v1258 : BitVec 32 := Scalar.muli arg26 c32_i32_478
  v1258
def k0_off171 (i : grid0.Coords) (k0_t4 : Fin (k0_t4_loop i).trips) : Fin 2 → Nat :=
  let c0_i32_470 : BitVec 32 := 0#32
  let c1_i32_472 : BitVec 32 := 1#32
  let arg26 : BitVec 32 := Scf.iv c0_i32_470 c1_i32_472 k0_t4
  let c32_i32_478 : BitVec 32 := 32#32
  let v1258 : BitVec 32 := Scalar.muli arg26 c32_i32_478
  let v1259 : BitVec 32 := v1258
  let v1260 : Index := Scalar.indexCast v1259
  let c0_479 : Index := 0#32
  ![v1260.toNat, 0]
def k0_off172 (i : grid0.Coords) (k0_t3 : Fin k0_t3_loop.trips) (k0_t4 : Fin (k0_t4_loop i).trips) : Fin 3 → Nat :=
  let c31_i32_467 : BitVec 32 := 31#32
  let c0_i32_423 : BitVec 32 := 0#32
  let c1_i32_424 : BitVec 32 := 1#32
  let arg22 : BitVec 32 := Scf.iv c0_i32_423 c1_i32_424 k0_t3
  let v1235 : BitVec 32 := Scalar.subi c31_i32_467 arg22
  let c1_i32_480 : BitVec 32 := 1#32
  let v1262 : BitVec 32 := Scalar.addi v1235 c1_i32_480
  let v1263 : Index := Scalar.indexCast v1262
  let c0_i32_470 : BitVec 32 := 0#32
  let c1_i32_472 : BitVec 32 := 1#32
  let arg26 : BitVec 32 := Scf.iv c0_i32_470 c1_i32_472 k0_t4
  let c32_i32_478 : BitVec 32 := 32#32
  let v1258 : BitVec 32 := Scalar.muli arg26 c32_i32_478
  let v1259 : BitVec 32 := v1258
  let v1264 : Index := Scalar.indexCast v1259
  let c0_481 : Index := 0#32
  ![v1263.toNat, v1264.toNat, 0]
def k0_off173 (i : grid0.Coords) (k0_t3 : Fin k0_t3_loop.trips) (k0_t4 : Fin (k0_t4_loop i).trips) : Fin 3 → Nat :=
  let c31_i32_467 : BitVec 32 := 31#32
  let c0_i32_423 : BitVec 32 := 0#32
  let c1_i32_424 : BitVec 32 := 1#32
  let arg22 : BitVec 32 := Scf.iv c0_i32_423 c1_i32_424 k0_t3
  let v1235 : BitVec 32 := Scalar.subi c31_i32_467 arg22
  let v1276 : Index := Scalar.indexCast v1235
  let c0_i32_470 : BitVec 32 := 0#32
  let c1_i32_472 : BitVec 32 := 1#32
  let arg26 : BitVec 32 := Scf.iv c0_i32_470 c1_i32_472 k0_t4
  let c32_i32_478 : BitVec 32 := 32#32
  let v1258 : BitVec 32 := Scalar.muli arg26 c32_i32_478
  let v1259 : BitVec 32 := v1258
  let v1277 : Index := Scalar.indexCast v1259
  let c0_483 : Index := 0#32
  ![v1276.toNat, v1277.toNat, 0]
@[reducible] def k0_t5_loop (i : grid0.Coords) : Scf.Loop 32 :=
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let v1240 : BitVec 32 := Scalar.addi c0_i32_470 v1239
  let c1_i32_473 : BitVec 32 := 1#32
  ⟨v1243, v1240, c1_i32_473⟩
def k0_mult12 (i : grid0.Coords) (k0_t5 : Fin (k0_t5_loop i).trips) : BitVec 32 :=
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let c1_i32_473 : BitVec 32 := 1#32
  let arg26 : BitVec 32 := Scf.iv v1243 c1_i32_473 k0_t5
  let c32_i32_478 : BitVec 32 := 32#32
  let v1258 : BitVec 32 := Scalar.muli arg26 c32_i32_478
  v1258
def k0_off174 (i : grid0.Coords) (k0_t5 : Fin (k0_t5_loop i).trips) : Fin 2 → Nat :=
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let c1_i32_473 : BitVec 32 := 1#32
  let arg26 : BitVec 32 := Scf.iv v1243 c1_i32_473 k0_t5
  let c32_i32_478 : BitVec 32 := 32#32
  let v1258 : BitVec 32 := Scalar.muli arg26 c32_i32_478
  let v1259 : BitVec 32 := v1258
  let v1260 : Index := Scalar.indexCast v1259
  let c0_479 : Index := 0#32
  ![v1260.toNat, 0]
def k0_off175 (i : grid0.Coords) (k0_t3 : Fin k0_t3_loop.trips) (k0_t5 : Fin (k0_t5_loop i).trips) : Fin 3 → Nat :=
  let c31_i32_467 : BitVec 32 := 31#32
  let c0_i32_423 : BitVec 32 := 0#32
  let c1_i32_424 : BitVec 32 := 1#32
  let arg22 : BitVec 32 := Scf.iv c0_i32_423 c1_i32_424 k0_t3
  let v1235 : BitVec 32 := Scalar.subi c31_i32_467 arg22
  let c1_i32_480 : BitVec 32 := 1#32
  let v1262 : BitVec 32 := Scalar.addi v1235 c1_i32_480
  let v1263 : Index := Scalar.indexCast v1262
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let c1_i32_473 : BitVec 32 := 1#32
  let arg26 : BitVec 32 := Scf.iv v1243 c1_i32_473 k0_t5
  let c32_i32_478 : BitVec 32 := 32#32
  let v1258 : BitVec 32 := Scalar.muli arg26 c32_i32_478
  let v1259 : BitVec 32 := v1258
  let v1264 : Index := Scalar.indexCast v1259
  let c0_481 : Index := 0#32
  ![v1263.toNat, v1264.toNat, 0]
def k0_off176 (i : grid0.Coords) (k0_t3 : Fin k0_t3_loop.trips) (k0_t5 : Fin (k0_t5_loop i).trips) : Fin 3 → Nat :=
  let c31_i32_467 : BitVec 32 := 31#32
  let c0_i32_423 : BitVec 32 := 0#32
  let c1_i32_424 : BitVec 32 := 1#32
  let arg22 : BitVec 32 := Scf.iv c0_i32_423 c1_i32_424 k0_t3
  let v1235 : BitVec 32 := Scalar.subi c31_i32_467 arg22
  let v1276 : Index := Scalar.indexCast v1235
  let c0_i32_470 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1239 : BitVec 32 := Scalar.subi v1159 c0_i32_470
  let c1_i32_471 : BitVec 32 := 1#32
  let v1241 : BitVec 32 := Scalar.divsi v1239 c1_i32_471
  let v1242 : BitVec 32 := Scalar.muli v1241 c1_i32_471
  let v1243 : BitVec 32 := Scalar.addi c0_i32_470 v1242
  let c1_i32_473 : BitVec 32 := 1#32
  let arg26 : BitVec 32 := Scf.iv v1243 c1_i32_473 k0_t5
  let c32_i32_478 : BitVec 32 := 32#32
  let v1258 : BitVec 32 := Scalar.muli arg26 c32_i32_478
  let v1259 : BitVec 32 := v1258
  let v1277 : Index := Scalar.indexCast v1259
  let c0_483 : Index := 0#32
  ![v1276.toNat, v1277.toNat, 0]
@[reducible] def k0_t6_loop (i : grid0.Coords) : Scf.Loop 32 :=
  let c0_i32_428 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1179 : BitVec 32 := Scalar.subi v1159 c0_i32_428
  let c1_i32_429 : BitVec 32 := 1#32
  let v1181 : BitVec 32 := Scalar.divsi v1179 c1_i32_429
  let v1182 : BitVec 32 := Scalar.muli v1181 c1_i32_429
  let v1183 : BitVec 32 := Scalar.addi c0_i32_428 v1182
  let c1_i32_430 : BitVec 32 := 1#32
  ⟨c0_i32_428, v1183, c1_i32_430⟩
def k0_mult13 (i : grid0.Coords) (k0_t6 : Fin (k0_t6_loop i).trips) : BitVec 32 :=
  let c0_i32_428 : BitVec 32 := 0#32
  let c1_i32_430 : BitVec 32 := 1#32
  let arg22 : BitVec 32 := Scf.iv c0_i32_428 c1_i32_430 k0_t6
  let c32_i32_467 : BitVec 32 := 32#32
  let v1235 : BitVec 32 := Scalar.muli arg22 c32_i32_467
  v1235
def k0_off177 (i : grid0.Coords) (k0_t6 : Fin (k0_t6_loop i).trips) : Fin 2 → Nat :=
  let c0_i32_428 : BitVec 32 := 0#32
  let c1_i32_430 : BitVec 32 := 1#32
  let arg22 : BitVec 32 := Scf.iv c0_i32_428 c1_i32_430 k0_t6
  let c32_i32_467 : BitVec 32 := 32#32
  let v1235 : BitVec 32 := Scalar.muli arg22 c32_i32_467
  let v1236 : BitVec 32 := v1235
  let v1237 : Index := Scalar.indexCast v1236
  let c0_468 : Index := 0#32
  ![v1237.toNat, 0]
def k0_off178 (i : grid0.Coords) (k0_t6 : Fin (k0_t6_loop i).trips) : Fin 3 → Nat :=
  let c0_470 : Index := 0#32
  let c0_i32_428 : BitVec 32 := 0#32
  let c1_i32_430 : BitVec 32 := 1#32
  let arg22 : BitVec 32 := Scf.iv c0_i32_428 c1_i32_430 k0_t6
  let c32_i32_467 : BitVec 32 := 32#32
  let v1235 : BitVec 32 := Scalar.muli arg22 c32_i32_467
  let v1236 : BitVec 32 := v1235
  let v1241 : Index := Scalar.indexCast v1236
  let c0_471 : Index := 0#32
  ![0, v1241.toNat, 0]
@[reducible] def k0_t7_loop (i : grid0.Coords) : Scf.Loop 32 :=
  let c0_i32_428 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1179 : BitVec 32 := Scalar.subi v1159 c0_i32_428
  let c1_i32_429 : BitVec 32 := 1#32
  let v1181 : BitVec 32 := Scalar.divsi v1179 c1_i32_429
  let v1182 : BitVec 32 := Scalar.muli v1181 c1_i32_429
  let v1183 : BitVec 32 := Scalar.addi c0_i32_428 v1182
  let v1180 : BitVec 32 := Scalar.addi c0_i32_428 v1179
  let c1_i32_431 : BitVec 32 := 1#32
  ⟨v1183, v1180, c1_i32_431⟩
def k0_mult14 (i : grid0.Coords) (k0_t7 : Fin (k0_t7_loop i).trips) : BitVec 32 :=
  let c0_i32_428 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1179 : BitVec 32 := Scalar.subi v1159 c0_i32_428
  let c1_i32_429 : BitVec 32 := 1#32
  let v1181 : BitVec 32 := Scalar.divsi v1179 c1_i32_429
  let v1182 : BitVec 32 := Scalar.muli v1181 c1_i32_429
  let v1183 : BitVec 32 := Scalar.addi c0_i32_428 v1182
  let c1_i32_431 : BitVec 32 := 1#32
  let arg22 : BitVec 32 := Scf.iv v1183 c1_i32_431 k0_t7
  let c32_i32_467 : BitVec 32 := 32#32
  let v1235 : BitVec 32 := Scalar.muli arg22 c32_i32_467
  v1235
def k0_off179 (i : grid0.Coords) (k0_t7 : Fin (k0_t7_loop i).trips) : Fin 2 → Nat :=
  let c0_i32_428 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1179 : BitVec 32 := Scalar.subi v1159 c0_i32_428
  let c1_i32_429 : BitVec 32 := 1#32
  let v1181 : BitVec 32 := Scalar.divsi v1179 c1_i32_429
  let v1182 : BitVec 32 := Scalar.muli v1181 c1_i32_429
  let v1183 : BitVec 32 := Scalar.addi c0_i32_428 v1182
  let c1_i32_431 : BitVec 32 := 1#32
  let arg22 : BitVec 32 := Scf.iv v1183 c1_i32_431 k0_t7
  let c32_i32_467 : BitVec 32 := 32#32
  let v1235 : BitVec 32 := Scalar.muli arg22 c32_i32_467
  let v1236 : BitVec 32 := v1235
  let v1237 : Index := Scalar.indexCast v1236
  let c0_468 : Index := 0#32
  ![v1237.toNat, 0]
def k0_off180 (i : grid0.Coords) (k0_t7 : Fin (k0_t7_loop i).trips) : Fin 3 → Nat :=
  let c0_470 : Index := 0#32
  let c0_i32_428 : BitVec 32 := 0#32
  let arg1 : BitVec 32 := BitVec.ofNat 32 (i 1).val
  let c0_i32_407 : BitVec 32 := 0#32
  let v1143 : BitVec 1 := Scalar.cmpi .sgt arg1 c0_i32_407
  let v1144 : BitVec 32 := Scalar.extui v1143
  let c0_i32_408 : BitVec 32 := 0#32
  let v1145 : BitVec 1 := Scalar.cmpi .slt arg1 c0_i32_408
  let v1146 : BitVec 32 := Scalar.extui v1145
  let v1147 : BitVec 32 := Scalar.subi v1144 v1146
  let c4_i32_406 : BitVec 32 := 4#32
  let c0_i32_409 : BitVec 32 := 0#32
  let v1148 : BitVec 1 := Scalar.cmpi .sgt c4_i32_406 c0_i32_409
  let v1149 : BitVec 32 := Scalar.extui v1148
  let c0_i32_410 : BitVec 32 := 0#32
  let v1150 : BitVec 1 := Scalar.cmpi .slt c4_i32_406 c0_i32_410
  let v1151 : BitVec 32 := Scalar.extui v1150
  let v1152 : BitVec 32 := Scalar.subi v1149 v1151
  let v1153 : BitVec 1 := Scalar.cmpi .ne v1147 v1152
  let v1154 : BitVec 32 := Scalar.remsi arg1 c4_i32_406
  let c0_i32_411 : BitVec 32 := 0#32
  let v1155 : BitVec 1 := Scalar.cmpi .ne v1154 c0_i32_411
  let v1156 : BitVec 1 := Scalar.andi v1153 v1155
  let v1142 : BitVec 32 := Scalar.divsi arg1 c4_i32_406
  let c1_i32_412 : BitVec 32 := 1#32
  let v1157 : BitVec 32 := Scalar.subi v1142 c1_i32_412
  let v1158 : BitVec 32 := Scalar.select v1156 v1157 v1142
  let c1_i32_413 : BitVec 32 := 1#32
  let v1159 : BitVec 32 := Scalar.addi v1158 c1_i32_413
  let v1179 : BitVec 32 := Scalar.subi v1159 c0_i32_428
  let c1_i32_429 : BitVec 32 := 1#32
  let v1181 : BitVec 32 := Scalar.divsi v1179 c1_i32_429
  let v1182 : BitVec 32 := Scalar.muli v1181 c1_i32_429
  let v1183 : BitVec 32 := Scalar.addi c0_i32_428 v1182
  let c1_i32_431 : BitVec 32 := 1#32
  let arg22 : BitVec 32 := Scf.iv v1183 c1_i32_431 k0_t7
  let c32_i32_467 : BitVec 32 := 32#32
  let v1235 : BitVec 32 := Scalar.muli arg22 c32_i32_467
  let v1236 : BitVec 32 := v1235
  let v1241 : Index := Scalar.indexCast v1236
  let c0_471 : Index := 0#32
  ![0, v1241.toNat, 0]
def k0_mult15 (i : grid0.Coords) : BitVec 32 :=
  let c0_i32_484 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_481 : BitVec 32 := 1#32
  let v1250 : BitVec 32 := Scalar.subi v1240 c1_i32_481
  let c0_i32_483 : BitVec 32 := 0#32
  let c0_i32_482 : BitVec 32 := 0#32
  let v1251 : BitVec 32 := Scalar.maxsi c0_i32_483 c0_i32_482
  let v1252 : BitVec 32 := Scalar.minsi v1250 v1251
  let v1253 : BitVec 32 := Scalar.addi c0_i32_484 v1252
  let c256_i32_485 : BitVec 32 := 256#32
  let v1254 : BitVec 32 := Scalar.muli v1253 c256_i32_485
  v1254
def k0_off181 (i : grid0.Coords) : Fin 3 → Nat :=
  let c0_486 : Index := 0#32
  let c0_i32_484 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_481 : BitVec 32 := 1#32
  let v1250 : BitVec 32 := Scalar.subi v1240 c1_i32_481
  let c0_i32_483 : BitVec 32 := 0#32
  let c0_i32_482 : BitVec 32 := 0#32
  let v1251 : BitVec 32 := Scalar.maxsi c0_i32_483 c0_i32_482
  let v1252 : BitVec 32 := Scalar.minsi v1250 v1251
  let v1253 : BitVec 32 := Scalar.addi c0_i32_484 v1252
  let c256_i32_485 : BitVec 32 := 256#32
  let v1254 : BitVec 32 := Scalar.muli v1253 c256_i32_485
  let v1255 : BitVec 32 := v1254
  let v1256 : Index := Scalar.indexCast v1255
  let c0_487 : Index := 0#32
  ![0, v1256.toNat, 0]
def k0_mult16 (i : grid0.Coords) : BitVec 32 :=
  let c0_i32_484 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_481 : BitVec 32 := 1#32
  let v1250 : BitVec 32 := Scalar.subi v1240 c1_i32_481
  let c0_i32_483 : BitVec 32 := 0#32
  let c0_i32_482 : BitVec 32 := 0#32
  let v1251 : BitVec 32 := Scalar.maxsi c0_i32_483 c0_i32_482
  let v1252 : BitVec 32 := Scalar.minsi v1250 v1251
  let v1253 : BitVec 32 := Scalar.addi c0_i32_484 v1252
  let c256_i32_488 : BitVec 32 := 256#32
  let v1259 : BitVec 32 := Scalar.muli v1253 c256_i32_488
  v1259
def k0_off182 (i : grid0.Coords) : Fin 2 → Nat :=
  let c0_i32_484 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_481 : BitVec 32 := 1#32
  let v1250 : BitVec 32 := Scalar.subi v1240 c1_i32_481
  let c0_i32_483 : BitVec 32 := 0#32
  let c0_i32_482 : BitVec 32 := 0#32
  let v1251 : BitVec 32 := Scalar.maxsi c0_i32_483 c0_i32_482
  let v1252 : BitVec 32 := Scalar.minsi v1250 v1251
  let v1253 : BitVec 32 := Scalar.addi c0_i32_484 v1252
  let c256_i32_488 : BitVec 32 := 256#32
  let v1259 : BitVec 32 := Scalar.muli v1253 c256_i32_488
  let v1260 : BitVec 32 := v1259
  let v1261 : Index := Scalar.indexCast v1260
  let c0_489 : Index := 0#32
  ![v1261.toNat, 0]
@[reducible] def k0_t8_loop (i : grid0.Coords) : Scf.Loop 32 :=
  let c0_i32_573 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_575 : BitVec 32 := 1#32
  ⟨c0_i32_573, v1374, c1_i32_575⟩
def k0_mult17 (i : grid0.Coords) (k0_t8 : Fin (k0_t8_loop i).trips) : BitVec 32 :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_575 : BitVec 32 := 1#32
  let arg22 : BitVec 32 := Scf.iv c0_i32_573 c1_i32_575 k0_t8
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_653 : BitVec 32 := 256#32
  let v1453 : BitVec 32 := Scalar.muli v1449 c256_i32_653
  v1453
def k0_off183 (i : grid0.Coords) (k0_t8 : Fin (k0_t8_loop i).trips) : Fin 3 → Nat :=
  let c0_654 : Index := 0#32
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_575 : BitVec 32 := 1#32
  let arg22 : BitVec 32 := Scf.iv c0_i32_573 c1_i32_575 k0_t8
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_653 : BitVec 32 := 256#32
  let v1453 : BitVec 32 := Scalar.muli v1449 c256_i32_653
  let v1454 : BitVec 32 := v1453
  let v1455 : Index := Scalar.indexCast v1454
  let c0_655 : Index := 0#32
  ![0, v1455.toNat, 0]
def k0_off184 (i : grid0.Coords) (k0_t8 : Fin (k0_t8_loop i).trips) : Fin 4 → Nat :=
  let c0_660 : Index := 0#32
  let c0_i32_659 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_657 : BitVec 32 := 1#32
  let v1459 : BitVec 32 := Scalar.subi v1240 c1_i32_657
  let c0_i32_658 : BitVec 32 := 0#32
  let c2_i32_645 : BitVec 32 := 2#32
  let c0_i32_573 : BitVec 32 := 0#32
  let c1_i32_575 : BitVec 32 := 1#32
  let arg22 : BitVec 32 := Scf.iv c0_i32_573 c1_i32_575 k0_t8
  let v1444 : BitVec 32 := Scalar.muli c2_i32_645 arg22
  let c1_i32_656 : BitVec 32 := 1#32
  let v1458 : BitVec 32 := Scalar.subi v1444 c1_i32_656
  let v1460 : BitVec 32 := Scalar.maxsi c0_i32_658 v1458
  let v1461 : BitVec 32 := Scalar.minsi v1459 v1460
  let v1462 : BitVec 32 := Scalar.addi c0_i32_659 v1461
  let v1463 : Index := Scalar.indexCast v1462
  let c0_661 : Index := 0#32
  let c0_662 : Index := 0#32
  ![0, v1463.toNat, 0, 0]
def k0_mult18 (i : grid0.Coords) (k0_t8 : Fin (k0_t8_loop i).trips) : BitVec 32 :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_575 : BitVec 32 := 1#32
  let arg22 : BitVec 32 := Scf.iv c0_i32_573 c1_i32_575 k0_t8
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_663 : BitVec 32 := 256#32
  let v1466 : BitVec 32 := Scalar.muli v1449 c256_i32_663
  v1466
def k0_off185 (i : grid0.Coords) (k0_t8 : Fin (k0_t8_loop i).trips) : Fin 2 → Nat :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_575 : BitVec 32 := 1#32
  let arg22 : BitVec 32 := Scf.iv c0_i32_573 c1_i32_575 k0_t8
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_663 : BitVec 32 := 256#32
  let v1466 : BitVec 32 := Scalar.muli v1449 c256_i32_663
  let v1467 : BitVec 32 := v1466
  let v1468 : Index := Scalar.indexCast v1467
  let c0_664 : Index := 0#32
  ![v1468.toNat, 0]
def k0_mult19 (i : grid0.Coords) (k0_t8 : Fin (k0_t8_loop i).trips) : BitVec 32 :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_575 : BitVec 32 := 1#32
  let arg22 : BitVec 32 := Scf.iv c0_i32_573 c1_i32_575 k0_t8
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_892 : BitVec 32 := 256#32
  let v1717 : BitVec 32 := Scalar.muli v1713 c256_i32_892
  v1717
def k0_off186 (i : grid0.Coords) (k0_t8 : Fin (k0_t8_loop i).trips) : Fin 3 → Nat :=
  let c0_893 : Index := 0#32
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_575 : BitVec 32 := 1#32
  let arg22 : BitVec 32 := Scf.iv c0_i32_573 c1_i32_575 k0_t8
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_892 : BitVec 32 := 256#32
  let v1717 : BitVec 32 := Scalar.muli v1713 c256_i32_892
  let v1718 : BitVec 32 := v1717
  let v1719 : Index := Scalar.indexCast v1718
  let c0_894 : Index := 0#32
  ![0, v1719.toNat, 0]
def k0_off187 (i : grid0.Coords) (k0_t8 : Fin (k0_t8_loop i).trips) : Fin 4 → Nat :=
  let c0_899 : Index := 0#32
  let c0_i32_898 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_896 : BitVec 32 := 1#32
  let v1723 : BitVec 32 := Scalar.subi v1240 c1_i32_896
  let c0_i32_897 : BitVec 32 := 0#32
  let c2_i32_883 : BitVec 32 := 2#32
  let c0_i32_573 : BitVec 32 := 0#32
  let c1_i32_575 : BitVec 32 := 1#32
  let arg22 : BitVec 32 := Scf.iv c0_i32_573 c1_i32_575 k0_t8
  let v1707 : BitVec 32 := Scalar.muli c2_i32_883 arg22
  let c1_i32_884 : BitVec 32 := 1#32
  let v1708 : BitVec 32 := Scalar.addi v1707 c1_i32_884
  let c1_i32_895 : BitVec 32 := 1#32
  let v1722 : BitVec 32 := Scalar.subi v1708 c1_i32_895
  let v1724 : BitVec 32 := Scalar.maxsi c0_i32_897 v1722
  let v1725 : BitVec 32 := Scalar.minsi v1723 v1724
  let v1726 : BitVec 32 := Scalar.addi c0_i32_898 v1725
  let v1727 : Index := Scalar.indexCast v1726
  let c0_900 : Index := 0#32
  let c0_901 : Index := 0#32
  ![0, v1727.toNat, 0, 0]
def k0_mult20 (i : grid0.Coords) (k0_t8 : Fin (k0_t8_loop i).trips) : BitVec 32 :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_575 : BitVec 32 := 1#32
  let arg22 : BitVec 32 := Scf.iv c0_i32_573 c1_i32_575 k0_t8
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_902 : BitVec 32 := 256#32
  let v1730 : BitVec 32 := Scalar.muli v1713 c256_i32_902
  v1730
def k0_off188 (i : grid0.Coords) (k0_t8 : Fin (k0_t8_loop i).trips) : Fin 2 → Nat :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_575 : BitVec 32 := 1#32
  let arg22 : BitVec 32 := Scf.iv c0_i32_573 c1_i32_575 k0_t8
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_902 : BitVec 32 := 256#32
  let v1730 : BitVec 32 := Scalar.muli v1713 c256_i32_902
  let v1731 : BitVec 32 := v1730
  let v1732 : Index := Scalar.indexCast v1731
  let c0_903 : Index := 0#32
  ![v1732.toNat, 0]
@[reducible] def k0_t9_loop (i : grid0.Coords) : Scf.Loop 32 :=
  let c0_i32_573 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let v1371 : BitVec 32 := Scalar.addi c0_i32_573 v1370
  let c1_i32_576 : BitVec 32 := 1#32
  ⟨v1374, v1371, c1_i32_576⟩
def k0_mult21 (i : grid0.Coords) (k0_t9 : Fin (k0_t9_loop i).trips) : BitVec 32 :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_653 : BitVec 32 := 256#32
  let v1453 : BitVec 32 := Scalar.muli v1449 c256_i32_653
  v1453
def k0_off189 (i : grid0.Coords) (k0_t9 : Fin (k0_t9_loop i).trips) : Fin 3 → Nat :=
  let c0_654 : Index := 0#32
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_653 : BitVec 32 := 256#32
  let v1453 : BitVec 32 := Scalar.muli v1449 c256_i32_653
  let v1454 : BitVec 32 := v1453
  let v1455 : Index := Scalar.indexCast v1454
  let c0_655 : Index := 0#32
  ![0, v1455.toNat, 0]
def k0_off190 (i : grid0.Coords) (k0_t9 : Fin (k0_t9_loop i).trips) : Fin 4 → Nat :=
  let c0_660 : Index := 0#32
  let c0_i32_659 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_657 : BitVec 32 := 1#32
  let v1459 : BitVec 32 := Scalar.subi v1240 c1_i32_657
  let c0_i32_658 : BitVec 32 := 0#32
  let c2_i32_645 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1444 : BitVec 32 := Scalar.muli c2_i32_645 arg22
  let c1_i32_656 : BitVec 32 := 1#32
  let v1458 : BitVec 32 := Scalar.subi v1444 c1_i32_656
  let v1460 : BitVec 32 := Scalar.maxsi c0_i32_658 v1458
  let v1461 : BitVec 32 := Scalar.minsi v1459 v1460
  let v1462 : BitVec 32 := Scalar.addi c0_i32_659 v1461
  let v1463 : Index := Scalar.indexCast v1462
  let c0_661 : Index := 0#32
  let c0_662 : Index := 0#32
  ![0, v1463.toNat, 0, 0]
def k0_mult22 (i : grid0.Coords) (k0_t9 : Fin (k0_t9_loop i).trips) : BitVec 32 :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_663 : BitVec 32 := 256#32
  let v1466 : BitVec 32 := Scalar.muli v1449 c256_i32_663
  v1466
def k0_off191 (i : grid0.Coords) (k0_t9 : Fin (k0_t9_loop i).trips) : Fin 2 → Nat :=
  let c0_i32_649 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_647 : BitVec 32 := 1#32
  let v1446 : BitVec 32 := Scalar.subi v1240 c1_i32_647
  let c0_i32_648 : BitVec 32 := 0#32
  let c2_i32_645 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1444 : BitVec 32 := Scalar.muli c2_i32_645 arg22
  let c1_i32_646 : BitVec 32 := 1#32
  let v1445 : BitVec 32 := Scalar.addi v1444 c1_i32_646
  let v1447 : BitVec 32 := Scalar.maxsi c0_i32_648 v1445
  let v1448 : BitVec 32 := Scalar.minsi v1446 v1447
  let v1449 : BitVec 32 := Scalar.addi c0_i32_649 v1448
  let c256_i32_663 : BitVec 32 := 256#32
  let v1466 : BitVec 32 := Scalar.muli v1449 c256_i32_663
  let v1467 : BitVec 32 := v1466
  let v1468 : Index := Scalar.indexCast v1467
  let c0_664 : Index := 0#32
  ![v1468.toNat, 0]
def k0_mult23 (i : grid0.Coords) (k0_t9 : Fin (k0_t9_loop i).trips) : BitVec 32 :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_892 : BitVec 32 := 256#32
  let v1717 : BitVec 32 := Scalar.muli v1713 c256_i32_892
  v1717
def k0_off192 (i : grid0.Coords) (k0_t9 : Fin (k0_t9_loop i).trips) : Fin 3 → Nat :=
  let c0_893 : Index := 0#32
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_892 : BitVec 32 := 256#32
  let v1717 : BitVec 32 := Scalar.muli v1713 c256_i32_892
  let v1718 : BitVec 32 := v1717
  let v1719 : Index := Scalar.indexCast v1718
  let c0_894 : Index := 0#32
  ![0, v1719.toNat, 0]
def k0_off193 (i : grid0.Coords) (k0_t9 : Fin (k0_t9_loop i).trips) : Fin 4 → Nat :=
  let c0_899 : Index := 0#32
  let c0_i32_898 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_896 : BitVec 32 := 1#32
  let v1723 : BitVec 32 := Scalar.subi v1240 c1_i32_896
  let c0_i32_897 : BitVec 32 := 0#32
  let c2_i32_883 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1707 : BitVec 32 := Scalar.muli c2_i32_883 arg22
  let c1_i32_884 : BitVec 32 := 1#32
  let v1708 : BitVec 32 := Scalar.addi v1707 c1_i32_884
  let c1_i32_895 : BitVec 32 := 1#32
  let v1722 : BitVec 32 := Scalar.subi v1708 c1_i32_895
  let v1724 : BitVec 32 := Scalar.maxsi c0_i32_897 v1722
  let v1725 : BitVec 32 := Scalar.minsi v1723 v1724
  let v1726 : BitVec 32 := Scalar.addi c0_i32_898 v1725
  let v1727 : Index := Scalar.indexCast v1726
  let c0_900 : Index := 0#32
  let c0_901 : Index := 0#32
  ![0, v1727.toNat, 0, 0]
def k0_mult24 (i : grid0.Coords) (k0_t9 : Fin (k0_t9_loop i).trips) : BitVec 32 :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_902 : BitVec 32 := 256#32
  let v1730 : BitVec 32 := Scalar.muli v1713 c256_i32_902
  v1730
def k0_off194 (i : grid0.Coords) (k0_t9 : Fin (k0_t9_loop i).trips) : Fin 2 → Nat :=
  let c0_i32_888 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_886 : BitVec 32 := 1#32
  let v1710 : BitVec 32 := Scalar.subi v1240 c1_i32_886
  let c0_i32_887 : BitVec 32 := 0#32
  let c2_i32_883 : BitVec 32 := 2#32
  let c0_i32_573 : BitVec 32 := 0#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1370 : BitVec 32 := Scalar.subi v1369 c0_i32_573
  let c1_i32_574 : BitVec 32 := 1#32
  let v1372 : BitVec 32 := Scalar.divsi v1370 c1_i32_574
  let v1373 : BitVec 32 := Scalar.muli v1372 c1_i32_574
  let v1374 : BitVec 32 := Scalar.addi c0_i32_573 v1373
  let c1_i32_576 : BitVec 32 := 1#32
  let arg22 : BitVec 32 := Scf.iv v1374 c1_i32_576 k0_t9
  let v1707 : BitVec 32 := Scalar.muli c2_i32_883 arg22
  let c1_i32_884 : BitVec 32 := 1#32
  let v1708 : BitVec 32 := Scalar.addi v1707 c1_i32_884
  let c1_i32_885 : BitVec 32 := 1#32
  let v1709 : BitVec 32 := Scalar.addi v1708 c1_i32_885
  let v1711 : BitVec 32 := Scalar.maxsi c0_i32_887 v1709
  let v1712 : BitVec 32 := Scalar.minsi v1710 v1711
  let v1713 : BitVec 32 := Scalar.addi c0_i32_888 v1712
  let c256_i32_902 : BitVec 32 := 256#32
  let v1730 : BitVec 32 := Scalar.muli v1713 c256_i32_902
  let v1731 : BitVec 32 := v1730
  let v1732 : Index := Scalar.indexCast v1731
  let c0_903 : Index := 0#32
  ![v1732.toNat, 0]
def k0_off195 (i : grid0.Coords) : Fin 4 → Nat :=
  let c0_582 : Index := 0#32
  let c0_i32_581 : BitVec 32 := 0#32
  let arg1 : BitVec 32 := BitVec.ofNat 32 (i 1).val
  let c0_i32_468 : BitVec 32 := 0#32
  let v1239 : BitVec 32 := Scalar.subi arg1 c0_i32_468
  let c1_i32_469 : BitVec 32 := 1#32
  let v1240 : BitVec 32 := Scalar.addi v1239 c1_i32_469
  let c1_i32_579 : BitVec 32 := 1#32
  let v1377 : BitVec 32 := Scalar.subi v1240 c1_i32_579
  let c0_i32_580 : BitVec 32 := 0#32
  let c2_i32_577 : BitVec 32 := 2#32
  let c1_i32_564 : BitVec 32 := 1#32
  let v1352 : BitVec 32 := Scalar.addi v1240 c1_i32_564
  let c0_i32_566 : BitVec 32 := 0#32
  let v1354 : BitVec 1 := Scalar.cmpi .sgt v1352 c0_i32_566
  let v1355 : BitVec 32 := Scalar.extui v1354
  let c0_i32_567 : BitVec 32 := 0#32
  let v1356 : BitVec 1 := Scalar.cmpi .slt v1352 c0_i32_567
  let v1357 : BitVec 32 := Scalar.extui v1356
  let v1358 : BitVec 32 := Scalar.subi v1355 v1357
  let c2_i32_565 : BitVec 32 := 2#32
  let c0_i32_568 : BitVec 32 := 0#32
  let v1359 : BitVec 1 := Scalar.cmpi .sgt c2_i32_565 c0_i32_568
  let v1360 : BitVec 32 := Scalar.extui v1359
  let c0_i32_569 : BitVec 32 := 0#32
  let v1361 : BitVec 1 := Scalar.cmpi .slt c2_i32_565 c0_i32_569
  let v1362 : BitVec 32 := Scalar.extui v1361
  let v1363 : BitVec 32 := Scalar.subi v1360 v1362
  let v1364 : BitVec 1 := Scalar.cmpi .ne v1358 v1363
  let v1365 : BitVec 32 := Scalar.remsi v1352 c2_i32_565
  let c0_i32_570 : BitVec 32 := 0#32
  let v1366 : BitVec 1 := Scalar.cmpi .ne v1365 c0_i32_570
  let v1367 : BitVec 1 := Scalar.andi v1364 v1366
  let v1353 : BitVec 32 := Scalar.divsi v1352 c2_i32_565
  let c1_i32_571 : BitVec 32 := 1#32
  let v1368 : BitVec 32 := Scalar.subi v1353 c1_i32_571
  let v1369 : BitVec 32 := Scalar.select v1367 v1368 v1353
  let v1375 : BitVec 32 := Scalar.muli c2_i32_577 v1369
  let c1_i32_578 : BitVec 32 := 1#32
  let v1376 : BitVec 32 := Scalar.subi v1375 c1_i32_578
  let v1378 : BitVec 32 := Scalar.maxsi c0_i32_580 v1376
  let v1379 : BitVec 32 := Scalar.minsi v1377 v1378
  let v1380 : BitVec 32 := Scalar.addi c0_i32_581 v1379
  let v1381 : Index := Scalar.indexCast v1380
  let c0_583 : Index := 0#32
  let c0_584 : Index := 0#32
  ![0, v1381.toNat, 0, 0]
def k0_mult25 (i : grid0.Coords) : BitVec 32 :=
  let c0_i32_490 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_487 : BitVec 32 := 1#32
  let v1262 : BitVec 32 := Scalar.subi v1252 c1_i32_487
  let c0_i32_489 : BitVec 32 := 0#32
  let c0_i32_488 : BitVec 32 := 0#32
  let v1263 : BitVec 32 := Scalar.maxsi c0_i32_489 c0_i32_488
  let v1264 : BitVec 32 := Scalar.minsi v1262 v1263
  let v1265 : BitVec 32 := Scalar.addi c0_i32_490 v1264
  let c256_i32_491 : BitVec 32 := 256#32
  let v1266 : BitVec 32 := Scalar.muli v1265 c256_i32_491
  v1266
def k0_off196 (i : grid0.Coords) : Fin 3 → Nat :=
  let c0_492 : Index := 0#32
  let c0_i32_490 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_487 : BitVec 32 := 1#32
  let v1262 : BitVec 32 := Scalar.subi v1252 c1_i32_487
  let c0_i32_489 : BitVec 32 := 0#32
  let c0_i32_488 : BitVec 32 := 0#32
  let v1263 : BitVec 32 := Scalar.maxsi c0_i32_489 c0_i32_488
  let v1264 : BitVec 32 := Scalar.minsi v1262 v1263
  let v1265 : BitVec 32 := Scalar.addi c0_i32_490 v1264
  let c256_i32_491 : BitVec 32 := 256#32
  let v1266 : BitVec 32 := Scalar.muli v1265 c256_i32_491
  let v1267 : BitVec 32 := v1266
  let v1268 : Index := Scalar.indexCast v1267
  let c0_493 : Index := 0#32
  ![0, v1268.toNat, 0]
def k0_mult26 (i : grid0.Coords) : BitVec 32 :=
  let c0_i32_490 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_487 : BitVec 32 := 1#32
  let v1262 : BitVec 32 := Scalar.subi v1252 c1_i32_487
  let c0_i32_489 : BitVec 32 := 0#32
  let c0_i32_488 : BitVec 32 := 0#32
  let v1263 : BitVec 32 := Scalar.maxsi c0_i32_489 c0_i32_488
  let v1264 : BitVec 32 := Scalar.minsi v1262 v1263
  let v1265 : BitVec 32 := Scalar.addi c0_i32_490 v1264
  let c256_i32_494 : BitVec 32 := 256#32
  let v1271 : BitVec 32 := Scalar.muli v1265 c256_i32_494
  v1271
def k0_off197 (i : grid0.Coords) : Fin 2 → Nat :=
  let c0_i32_490 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_487 : BitVec 32 := 1#32
  let v1262 : BitVec 32 := Scalar.subi v1252 c1_i32_487
  let c0_i32_489 : BitVec 32 := 0#32
  let c0_i32_488 : BitVec 32 := 0#32
  let v1263 : BitVec 32 := Scalar.maxsi c0_i32_489 c0_i32_488
  let v1264 : BitVec 32 := Scalar.minsi v1262 v1263
  let v1265 : BitVec 32 := Scalar.addi c0_i32_490 v1264
  let c256_i32_494 : BitVec 32 := 256#32
  let v1271 : BitVec 32 := Scalar.muli v1265 c256_i32_494
  let v1272 : BitVec 32 := v1271
  let v1273 : Index := Scalar.indexCast v1272
  let c0_495 : Index := 0#32
  ![v1273.toNat, 0]
@[reducible] def k0_t10_loop (i : grid0.Coords) : Scf.Loop 32 :=
  let c0_i32_586 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_588 : BitVec 32 := 1#32
  ⟨c0_i32_586, v1404, c1_i32_588⟩
def k0_mult27 (i : grid0.Coords) (k0_t10 : Fin (k0_t10_loop i).trips) : BitVec 32 :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_588 : BitVec 32 := 1#32
  let arg22 : BitVec 32 := Scf.iv c0_i32_586 c1_i32_588 k0_t10
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_666 : BitVec 32 := 256#32
  let v1483 : BitVec 32 := Scalar.muli v1479 c256_i32_666
  v1483
def k0_off198 (i : grid0.Coords) (k0_t10 : Fin (k0_t10_loop i).trips) : Fin 3 → Nat :=
  let c0_667 : Index := 0#32
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_588 : BitVec 32 := 1#32
  let arg22 : BitVec 32 := Scf.iv c0_i32_586 c1_i32_588 k0_t10
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_666 : BitVec 32 := 256#32
  let v1483 : BitVec 32 := Scalar.muli v1479 c256_i32_666
  let v1484 : BitVec 32 := v1483
  let v1485 : Index := Scalar.indexCast v1484
  let c0_668 : Index := 0#32
  ![0, v1485.toNat, 0]
def k0_off199 (i : grid0.Coords) (k0_t10 : Fin (k0_t10_loop i).trips) : Fin 4 → Nat :=
  let c0_673 : Index := 0#32
  let c0_i32_672 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_670 : BitVec 32 := 1#32
  let v1489 : BitVec 32 := Scalar.subi v1252 c1_i32_670
  let c0_i32_671 : BitVec 32 := 0#32
  let c2_i32_658 : BitVec 32 := 2#32
  let c0_i32_586 : BitVec 32 := 0#32
  let c1_i32_588 : BitVec 32 := 1#32
  let arg22 : BitVec 32 := Scf.iv c0_i32_586 c1_i32_588 k0_t10
  let v1474 : BitVec 32 := Scalar.muli c2_i32_658 arg22
  let c1_i32_669 : BitVec 32 := 1#32
  let v1488 : BitVec 32 := Scalar.subi v1474 c1_i32_669
  let v1490 : BitVec 32 := Scalar.maxsi c0_i32_671 v1488
  let v1491 : BitVec 32 := Scalar.minsi v1489 v1490
  let v1492 : BitVec 32 := Scalar.addi c0_i32_672 v1491
  let v1493 : Index := Scalar.indexCast v1492
  let c0_674 : Index := 0#32
  let c0_675 : Index := 0#32
  ![0, v1493.toNat, 0, 0]
def k0_mult28 (i : grid0.Coords) (k0_t10 : Fin (k0_t10_loop i).trips) : BitVec 32 :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_588 : BitVec 32 := 1#32
  let arg22 : BitVec 32 := Scf.iv c0_i32_586 c1_i32_588 k0_t10
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_676 : BitVec 32 := 256#32
  let v1496 : BitVec 32 := Scalar.muli v1479 c256_i32_676
  v1496
def k0_off200 (i : grid0.Coords) (k0_t10 : Fin (k0_t10_loop i).trips) : Fin 2 → Nat :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_588 : BitVec 32 := 1#32
  let arg22 : BitVec 32 := Scf.iv c0_i32_586 c1_i32_588 k0_t10
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_676 : BitVec 32 := 256#32
  let v1496 : BitVec 32 := Scalar.muli v1479 c256_i32_676
  let v1497 : BitVec 32 := v1496
  let v1498 : Index := Scalar.indexCast v1497
  let c0_677 : Index := 0#32
  ![v1498.toNat, 0]
def k0_mult29 (i : grid0.Coords) (k0_t10 : Fin (k0_t10_loop i).trips) : BitVec 32 :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_588 : BitVec 32 := 1#32
  let arg22 : BitVec 32 := Scf.iv c0_i32_586 c1_i32_588 k0_t10
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_912 : BitVec 32 := 256#32
  let v1765 : BitVec 32 := Scalar.muli v1761 c256_i32_912
  v1765
def k0_off201 (i : grid0.Coords) (k0_t10 : Fin (k0_t10_loop i).trips) : Fin 3 → Nat :=
  let c0_913 : Index := 0#32
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_588 : BitVec 32 := 1#32
  let arg22 : BitVec 32 := Scf.iv c0_i32_586 c1_i32_588 k0_t10
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_912 : BitVec 32 := 256#32
  let v1765 : BitVec 32 := Scalar.muli v1761 c256_i32_912
  let v1766 : BitVec 32 := v1765
  let v1767 : Index := Scalar.indexCast v1766
  let c0_914 : Index := 0#32
  ![0, v1767.toNat, 0]
def k0_off202 (i : grid0.Coords) (k0_t10 : Fin (k0_t10_loop i).trips) : Fin 4 → Nat :=
  let c0_919 : Index := 0#32
  let c0_i32_918 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_916 : BitVec 32 := 1#32
  let v1771 : BitVec 32 := Scalar.subi v1252 c1_i32_916
  let c0_i32_917 : BitVec 32 := 0#32
  let c2_i32_903 : BitVec 32 := 2#32
  let c0_i32_586 : BitVec 32 := 0#32
  let c1_i32_588 : BitVec 32 := 1#32
  let arg22 : BitVec 32 := Scf.iv c0_i32_586 c1_i32_588 k0_t10
  let v1755 : BitVec 32 := Scalar.muli c2_i32_903 arg22
  let c1_i32_904 : BitVec 32 := 1#32
  let v1756 : BitVec 32 := Scalar.addi v1755 c1_i32_904
  let c1_i32_915 : BitVec 32 := 1#32
  let v1770 : BitVec 32 := Scalar.subi v1756 c1_i32_915
  let v1772 : BitVec 32 := Scalar.maxsi c0_i32_917 v1770
  let v1773 : BitVec 32 := Scalar.minsi v1771 v1772
  let v1774 : BitVec 32 := Scalar.addi c0_i32_918 v1773
  let v1775 : Index := Scalar.indexCast v1774
  let c0_920 : Index := 0#32
  let c0_921 : Index := 0#32
  ![0, v1775.toNat, 0, 0]
def k0_mult30 (i : grid0.Coords) (k0_t10 : Fin (k0_t10_loop i).trips) : BitVec 32 :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_588 : BitVec 32 := 1#32
  let arg22 : BitVec 32 := Scf.iv c0_i32_586 c1_i32_588 k0_t10
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_922 : BitVec 32 := 256#32
  let v1778 : BitVec 32 := Scalar.muli v1761 c256_i32_922
  v1778
def k0_off203 (i : grid0.Coords) (k0_t10 : Fin (k0_t10_loop i).trips) : Fin 2 → Nat :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_588 : BitVec 32 := 1#32
  let arg22 : BitVec 32 := Scf.iv c0_i32_586 c1_i32_588 k0_t10
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_922 : BitVec 32 := 256#32
  let v1778 : BitVec 32 := Scalar.muli v1761 c256_i32_922
  let v1779 : BitVec 32 := v1778
  let v1780 : Index := Scalar.indexCast v1779
  let c0_923 : Index := 0#32
  ![v1780.toNat, 0]
@[reducible] def k0_t11_loop (i : grid0.Coords) : Scf.Loop 32 :=
  let c0_i32_586 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let v1401 : BitVec 32 := Scalar.addi c0_i32_586 v1400
  let c1_i32_589 : BitVec 32 := 1#32
  ⟨v1404, v1401, c1_i32_589⟩
def k0_mult31 (i : grid0.Coords) (k0_t11 : Fin (k0_t11_loop i).trips) : BitVec 32 :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_666 : BitVec 32 := 256#32
  let v1483 : BitVec 32 := Scalar.muli v1479 c256_i32_666
  v1483
def k0_off204 (i : grid0.Coords) (k0_t11 : Fin (k0_t11_loop i).trips) : Fin 3 → Nat :=
  let c0_667 : Index := 0#32
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_666 : BitVec 32 := 256#32
  let v1483 : BitVec 32 := Scalar.muli v1479 c256_i32_666
  let v1484 : BitVec 32 := v1483
  let v1485 : Index := Scalar.indexCast v1484
  let c0_668 : Index := 0#32
  ![0, v1485.toNat, 0]
def k0_off205 (i : grid0.Coords) (k0_t11 : Fin (k0_t11_loop i).trips) : Fin 4 → Nat :=
  let c0_673 : Index := 0#32
  let c0_i32_672 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_670 : BitVec 32 := 1#32
  let v1489 : BitVec 32 := Scalar.subi v1252 c1_i32_670
  let c0_i32_671 : BitVec 32 := 0#32
  let c2_i32_658 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1474 : BitVec 32 := Scalar.muli c2_i32_658 arg22
  let c1_i32_669 : BitVec 32 := 1#32
  let v1488 : BitVec 32 := Scalar.subi v1474 c1_i32_669
  let v1490 : BitVec 32 := Scalar.maxsi c0_i32_671 v1488
  let v1491 : BitVec 32 := Scalar.minsi v1489 v1490
  let v1492 : BitVec 32 := Scalar.addi c0_i32_672 v1491
  let v1493 : Index := Scalar.indexCast v1492
  let c0_674 : Index := 0#32
  let c0_675 : Index := 0#32
  ![0, v1493.toNat, 0, 0]
def k0_mult32 (i : grid0.Coords) (k0_t11 : Fin (k0_t11_loop i).trips) : BitVec 32 :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_676 : BitVec 32 := 256#32
  let v1496 : BitVec 32 := Scalar.muli v1479 c256_i32_676
  v1496
def k0_off206 (i : grid0.Coords) (k0_t11 : Fin (k0_t11_loop i).trips) : Fin 2 → Nat :=
  let c0_i32_662 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_660 : BitVec 32 := 1#32
  let v1476 : BitVec 32 := Scalar.subi v1252 c1_i32_660
  let c0_i32_661 : BitVec 32 := 0#32
  let c2_i32_658 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1474 : BitVec 32 := Scalar.muli c2_i32_658 arg22
  let c1_i32_659 : BitVec 32 := 1#32
  let v1475 : BitVec 32 := Scalar.addi v1474 c1_i32_659
  let v1477 : BitVec 32 := Scalar.maxsi c0_i32_661 v1475
  let v1478 : BitVec 32 := Scalar.minsi v1476 v1477
  let v1479 : BitVec 32 := Scalar.addi c0_i32_662 v1478
  let c256_i32_676 : BitVec 32 := 256#32
  let v1496 : BitVec 32 := Scalar.muli v1479 c256_i32_676
  let v1497 : BitVec 32 := v1496
  let v1498 : Index := Scalar.indexCast v1497
  let c0_677 : Index := 0#32
  ![v1498.toNat, 0]
def k0_mult33 (i : grid0.Coords) (k0_t11 : Fin (k0_t11_loop i).trips) : BitVec 32 :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_912 : BitVec 32 := 256#32
  let v1765 : BitVec 32 := Scalar.muli v1761 c256_i32_912
  v1765
def k0_off207 (i : grid0.Coords) (k0_t11 : Fin (k0_t11_loop i).trips) : Fin 3 → Nat :=
  let c0_913 : Index := 0#32
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_912 : BitVec 32 := 256#32
  let v1765 : BitVec 32 := Scalar.muli v1761 c256_i32_912
  let v1766 : BitVec 32 := v1765
  let v1767 : Index := Scalar.indexCast v1766
  let c0_914 : Index := 0#32
  ![0, v1767.toNat, 0]
def k0_off208 (i : grid0.Coords) (k0_t11 : Fin (k0_t11_loop i).trips) : Fin 4 → Nat :=
  let c0_919 : Index := 0#32
  let c0_i32_918 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_916 : BitVec 32 := 1#32
  let v1771 : BitVec 32 := Scalar.subi v1252 c1_i32_916
  let c0_i32_917 : BitVec 32 := 0#32
  let c2_i32_903 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1755 : BitVec 32 := Scalar.muli c2_i32_903 arg22
  let c1_i32_904 : BitVec 32 := 1#32
  let v1756 : BitVec 32 := Scalar.addi v1755 c1_i32_904
  let c1_i32_915 : BitVec 32 := 1#32
  let v1770 : BitVec 32 := Scalar.subi v1756 c1_i32_915
  let v1772 : BitVec 32 := Scalar.maxsi c0_i32_917 v1770
  let v1773 : BitVec 32 := Scalar.minsi v1771 v1772
  let v1774 : BitVec 32 := Scalar.addi c0_i32_918 v1773
  let v1775 : Index := Scalar.indexCast v1774
  let c0_920 : Index := 0#32
  let c0_921 : Index := 0#32
  ![0, v1775.toNat, 0, 0]
def k0_mult34 (i : grid0.Coords) (k0_t11 : Fin (k0_t11_loop i).trips) : BitVec 32 :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_922 : BitVec 32 := 256#32
  let v1778 : BitVec 32 := Scalar.muli v1761 c256_i32_922
  v1778
def k0_off209 (i : grid0.Coords) (k0_t11 : Fin (k0_t11_loop i).trips) : Fin 2 → Nat :=
  let c0_i32_908 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_906 : BitVec 32 := 1#32
  let v1758 : BitVec 32 := Scalar.subi v1252 c1_i32_906
  let c0_i32_907 : BitVec 32 := 0#32
  let c2_i32_903 : BitVec 32 := 2#32
  let c0_i32_586 : BitVec 32 := 0#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1400 : BitVec 32 := Scalar.subi v1399 c0_i32_586
  let c1_i32_587 : BitVec 32 := 1#32
  let v1402 : BitVec 32 := Scalar.divsi v1400 c1_i32_587
  let v1403 : BitVec 32 := Scalar.muli v1402 c1_i32_587
  let v1404 : BitVec 32 := Scalar.addi c0_i32_586 v1403
  let c1_i32_589 : BitVec 32 := 1#32
  let arg22 : BitVec 32 := Scf.iv v1404 c1_i32_589 k0_t11
  let v1755 : BitVec 32 := Scalar.muli c2_i32_903 arg22
  let c1_i32_904 : BitVec 32 := 1#32
  let v1756 : BitVec 32 := Scalar.addi v1755 c1_i32_904
  let c1_i32_905 : BitVec 32 := 1#32
  let v1757 : BitVec 32 := Scalar.addi v1756 c1_i32_905
  let v1759 : BitVec 32 := Scalar.maxsi c0_i32_907 v1757
  let v1760 : BitVec 32 := Scalar.minsi v1758 v1759
  let v1761 : BitVec 32 := Scalar.addi c0_i32_908 v1760
  let c256_i32_922 : BitVec 32 := 256#32
  let v1778 : BitVec 32 := Scalar.muli v1761 c256_i32_922
  let v1779 : BitVec 32 := v1778
  let v1780 : Index := Scalar.indexCast v1779
  let c0_923 : Index := 0#32
  ![v1780.toNat, 0]
def k0_off210 (i : grid0.Coords) : Fin 4 → Nat :=
  let c0_595 : Index := 0#32
  let c0_i32_594 : BitVec 32 := 0#32
  let arg1 : BitVec 32 := BitVec.ofNat 32 (i 1).val
  let c0_i32_474 : BitVec 32 := 0#32
  let v1251 : BitVec 32 := Scalar.subi arg1 c0_i32_474
  let c1_i32_475 : BitVec 32 := 1#32
  let v1252 : BitVec 32 := Scalar.addi v1251 c1_i32_475
  let c1_i32_592 : BitVec 32 := 1#32
  let v1407 : BitVec 32 := Scalar.subi v1252 c1_i32_592
  let c0_i32_593 : BitVec 32 := 0#32
  let c2_i32_590 : BitVec 32 := 2#32
  let c1_i32_577 : BitVec 32 := 1#32
  let v1382 : BitVec 32 := Scalar.addi v1252 c1_i32_577
  let c0_i32_579 : BitVec 32 := 0#32
  let v1384 : BitVec 1 := Scalar.cmpi .sgt v1382 c0_i32_579
  let v1385 : BitVec 32 := Scalar.extui v1384
  let c0_i32_580 : BitVec 32 := 0#32
  let v1386 : BitVec 1 := Scalar.cmpi .slt v1382 c0_i32_580
  let v1387 : BitVec 32 := Scalar.extui v1386
  let v1388 : BitVec 32 := Scalar.subi v1385 v1387
  let c2_i32_578 : BitVec 32 := 2#32
  let c0_i32_581 : BitVec 32 := 0#32
  let v1389 : BitVec 1 := Scalar.cmpi .sgt c2_i32_578 c0_i32_581
  let v1390 : BitVec 32 := Scalar.extui v1389
  let c0_i32_582 : BitVec 32 := 0#32
  let v1391 : BitVec 1 := Scalar.cmpi .slt c2_i32_578 c0_i32_582
  let v1392 : BitVec 32 := Scalar.extui v1391
  let v1393 : BitVec 32 := Scalar.subi v1390 v1392
  let v1394 : BitVec 1 := Scalar.cmpi .ne v1388 v1393
  let v1395 : BitVec 32 := Scalar.remsi v1382 c2_i32_578
  let c0_i32_583 : BitVec 32 := 0#32
  let v1396 : BitVec 1 := Scalar.cmpi .ne v1395 c0_i32_583
  let v1397 : BitVec 1 := Scalar.andi v1394 v1396
  let v1383 : BitVec 32 := Scalar.divsi v1382 c2_i32_578
  let c1_i32_584 : BitVec 32 := 1#32
  let v1398 : BitVec 32 := Scalar.subi v1383 c1_i32_584
  let v1399 : BitVec 32 := Scalar.select v1397 v1398 v1383
  let v1405 : BitVec 32 := Scalar.muli c2_i32_590 v1399
  let c1_i32_591 : BitVec 32 := 1#32
  let v1406 : BitVec 32 := Scalar.subi v1405 c1_i32_591
  let v1408 : BitVec 32 := Scalar.maxsi c0_i32_593 v1406
  let v1409 : BitVec 32 := Scalar.minsi v1407 v1408
  let v1410 : BitVec 32 := Scalar.addi c0_i32_594 v1409
  let v1411 : Index := Scalar.indexCast v1410
  let c0_596 : Index := 0#32
  let c0_597 : Index := 0#32
  ![0, v1411.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ada.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x1024 : Shape := ⟨2, ![8, 1024]⟩
abbrev S2x1024x6144 : Shape := ⟨3, ![2, 1024, 6144]⟩
abbrev S2x6144 : Shape := ⟨2, ![2, 6144]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x6144x8, .f32⟩
  | .hbm, ⟨4, _⟩ => ⟨S2x8x6144, .f32⟩
  | .hbm, ⟨5, _⟩ => ⟨S2x1x6144, .f32⟩
  | .hbm, ⟨6, _⟩ => ⟨S2x8x6144, .f32⟩
  | .hbm, ⟨7, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8x8192x1024 : Shape := ⟨3, ![8, 8192, 1024]⟩
abbrev S8x6x1024 : Shape := ⟨3, ![8, 6, 1024]⟩
abbrev S1024x3660 : Shape := ⟨2, ![1024, 3660]⟩
abbrev S1024x1024 : Shape := ⟨2, ![1024, 1024]⟩
abbrev S1024x76 : Shape := ⟨2, ![1024, 76]⟩
abbrev S_ : Shape := ⟨0, ![]⟩
abbrev S1024x128 : Shape := ⟨2, ![1024, 128]⟩
abbrev S1024x512 : Shape := ⟨2, ![1024, 512]⟩
abbrev S1024x2560 : Shape := ⟨2, ![1024, 2560]⟩
abbrev S2560x1024 : Shape := ⟨2, ![2560, 1024]⟩
abbrev S128x1024 : Shape := ⟨2, ![128, 1024]⟩
abbrev S8x16x2x1024 : Shape := ⟨4, ![8, 16, 2, 1024]⟩
abbrev S8x8192x128 : Shape := ⟨3, ![8, 8192, 128]⟩
abbrev S8x1024x8192 : Shape := ⟨3, ![8, 1024, 8192]⟩
abbrev S8x32x1024x256 : Shape := ⟨4, ![8, 32, 1024, 256]⟩
abbrev S8x512x8192 : Shape := ⟨3, ![8, 512, 8192]⟩
abbrev S8x128x8192 : Shape := ⟨3, ![8, 128, 8192]⟩
abbrev S1x512x1024 : Shape := ⟨3, ![1, 512, 1024]⟩
abbrev S1x6x1024 : Shape := ⟨3, ![1, 6, 1024]⟩
abbrev S1x1x2x1024 : Shape := ⟨4, ![1, 1, 2, 1024]⟩
abbrev S1x512x128 : Shape := ⟨3, ![1, 512, 128]⟩
abbrev S1x1024x512 : Shape := ⟨3, ![1, 1024, 512]⟩
abbrev S1x2x1024x256 : Shape := ⟨4, ![1, 2, 1024, 256]⟩
abbrev S1x512x512 : Shape := ⟨3, ![1, 512, 512]⟩
abbrev S1x128x512 : Shape := ⟨3, ![1, 128, 512]⟩
abbrev S512x1024 : Shape := ⟨2, ![512, 1024]⟩
abbrev S1x1x1024 : Shape := ⟨3, ![1, 1, 1024]⟩
abbrev S1x1024 : Shape := ⟨2, ![1, 1024]⟩
abbrev S256x1024 : Shape := ⟨2, ![256, 1024]⟩
abbrev S1024 : Shape := ⟨1, ![1024]⟩
abbrev S1x1x1x1024 : Shape := ⟨4, ![1, 1, 1, 1024]⟩
abbrev S512x128 : Shape := ⟨2, ![512, 128]⟩
abbrev S2560x512 : Shape := ⟨2, ![2560, 512]⟩
abbrev S1024x256 : Shape := ⟨2, ![1024, 256]⟩
abbrev S1x1x1024x256 : Shape := ⟨4, ![1, 1, 1024, 256]⟩
abbrev S512x512 : Shape := ⟨2, ![512, 512]⟩
abbrev S128x512 : Shape := ⟨2, ![128, 512]⟩

abbrev nBuf : Space → Nat
  | .hbm => 22
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024x3660, .f32⟩
  | .hbm, ⟨3, _⟩ => ⟨S1024x3660, .bf16⟩
  | .hbm, ⟨4, _⟩ => ⟨S1024x1024, .bf16⟩
  | .hbm, ⟨5, _⟩ => ⟨S1024x76, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S1024x1024, .bf16⟩
  | .hbm, ⟨10, _⟩ => ⟨S1024x1024, .bf16⟩
  | .hbm, ⟨11, _⟩ => ⟨S1024x512, .bf16⟩
  | .hbm, ⟨12, _⟩ => ⟨S1024x2560, .bf16⟩
  | .hbm, ⟨13, _⟩ => ⟨S2560x1024, .bf16⟩
  | .hbm, ⟨14, _⟩ => ⟨S128x1024, .bf16⟩
  | .hbm, ⟨15, _⟩ => ⟨S8x8192x1024, .bf16⟩
  | .hbm, ⟨16, _⟩ => ⟨S8x16x2x1024, .f32⟩
  | .hbm, ⟨17, _⟩ => ⟨S8x8192x128, .f32⟩
  | .hbm, ⟨18, _⟩ => ⟨S8x1024x8192, .bf16⟩
  | .hbm, ⟨19, _⟩ => ⟨S8x32x1024x256, .bf16⟩
  | .hbm, ⟨20, _⟩ => ⟨S8x512x8192, .bf16⟩
  | .hbm, ⟨21, _⟩ => ⟨S8x128x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1024, .bf16⟩
  | .local _ .vmem, ⟨5, _⟩ => ⟨S1024x128, .bf16⟩
  | .local _ .vmem, ⟨6, _⟩ => ⟨S2560x1024, .bf16⟩
  | .local _ .vmem, ⟨7, _⟩ => ⟨S128x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x2x1024, .f32⟩
  | .local _ .vmem, ⟨11, _⟩ => ⟨S1x1x2x1024, .f32⟩
  | .local _ .vmem, ⟨12, _⟩ => ⟨S1x512x128, .f32⟩
  | .local _ .vmem, ⟨13, _⟩ => ⟨S1x512x128, .f32⟩
  | .local _ .vmem, ⟨14, _⟩ => ⟨S1x1024x512, .bf16⟩
  | .local _ .vmem, ⟨15, _⟩ => ⟨S1x1024x512, .bf16⟩
  | .local _ .vmem, ⟨16, _⟩ => ⟨S1x2x1024x256, .bf16⟩
  | .local _ .vmem, ⟨17, _⟩ => ⟨S1x2x1024x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x128x512, .f32⟩
  | .local _ .vmem, ⟨21, _⟩ => ⟨S1x128x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjReferenceIdeal.lean ====
abbrev S8x8192x1024 : Shape := ⟨3, ![8, 8192, 1024]⟩
abbrev S8x6x1024 : Shape := ⟨3, ![8, 6, 1024]⟩
abbrev S1024x3660 : Shape := ⟨2, ![1024, 3660]⟩
abbrev S8x1x1024 : Shape := ⟨3, ![8, 1, 1024]⟩
abbrev S_ : Shape := ⟨0, ![]⟩
abbrev S8x8192x3660 : Shape := ⟨3, ![8, 8192, 3660]⟩
abbrev S8x8192x512 : Shape := ⟨3, ![8, 8192, 512]⟩
abbrev S8x8192x76 : Shape := ⟨3, ![8, 8192, 76]⟩
abbrev S8x8192x128 : Shape := ⟨3, ![8, 8192, 128]⟩
abbrev S8x16x2x256x1024 : Shape := ⟨5, ![8, 16, 2, 256, 1024]⟩
abbrev S8x16x2x1024 : Shape := ⟨4, ![8, 16, 2, 1024]⟩
abbrev S8x1024x8192 : Shape := ⟨3, ![8, 1024, 8192]⟩
abbrev S8x32x256x1024 : Shape := ⟨4, ![8, 32, 256, 1024]⟩
abbrev S8x32x1024x256 : Shape := ⟨4, ![8, 32, 1024, 256]⟩
abbrev S8x512x8192 : Shape := ⟨3, ![8, 512, 8192]⟩
abbrev S8x128x8192 : Shape := ⟨3, ![8, 128, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024x3660, .f32⟩
  | .hbm, ⟨3, _⟩ => ⟨S8x1x1024, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S8x8192x1024, .f32⟩
  | .hbm, ⟨8, _⟩ => ⟨S8x8192x1024, .f32⟩
  | .hbm, ⟨9, _⟩ => ⟨S8x1x1024, .f32⟩
  | .hbm, ⟨10, _⟩ => ⟨S8x8192x1024, .f32⟩
  | .hbm, ⟨11, _⟩ => ⟨S8x8192x1024, .f32⟩
  | .hbm, ⟨12, _⟩ => ⟨S8x8192x3660, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x512, .f32⟩
  | .hbm, ⟨17, _⟩ => ⟨S8x8192x76, .f32⟩
  | .hbm, ⟨18, _⟩ => ⟨S_, .i32⟩
  | .hbm, ⟨19, _⟩ => ⟨S_, .f32⟩
  | .hbm, ⟨20, _⟩ => ⟨S8x8192x128, .f32⟩
  | .hbm, ⟨21, _⟩ => ⟨S8x16x2x256x1024, .f32⟩
  | .hbm, ⟨22, _⟩ => ⟨S_, .f32⟩
  | .hbm, ⟨23, _⟩ => ⟨S8x16x2x1024, .f32⟩
  | .hbm, ⟨24, _⟩ => ⟨S_, .f32⟩
  | .hbm, ⟨25, _⟩ => ⟨S8x16x2x1024, .f32⟩
  | .hbm, ⟨26, _⟩ => ⟨S8x16x2x1024, .f32⟩
  | .hbm, ⟨27, _⟩ => ⟨S8x8192x1024, .bf16⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S8x1024x8192, .f32⟩
  | .hbm, ⟨32, _⟩ => ⟨S8x1024x8192, .bf16⟩
  | .hbm, ⟨33, _⟩ => ⟨S8x32x256x1024, .f32⟩
  | .hbm, ⟨34, _⟩ => ⟨S8x32x1024x256, .f32⟩
  | .hbm, ⟨35, _⟩ => ⟨S8x32x1024x256, .bf16⟩
  | .hbm, ⟨36, _⟩ => ⟨S8x512x8192, .f32⟩
  | .hbm, ⟨37, _⟩ => ⟨S8x512x8192, .bf16⟩
  | .hbm, ⟨38, _⟩ => ⟨S8x128x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Merge.lean ====
abbrev S8x8192x1024 : Shape := ⟨3, ![8, 8192, 1024]⟩
abbrev S8x6x1024 : Shape := ⟨3, ![8, 6, 1024]⟩
abbrev S8x8192x256 : Shape := ⟨3, ![8, 8192, 256]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x6x1024 : Shape := ⟨3, ![1, 6, 1024]⟩
abbrev S1x512x256 : Shape := ⟨3, ![1, 512, 256]⟩
abbrev S512x1024 : Shape := ⟨2, ![512, 1024]⟩
abbrev S1x1x1024 : Shape := ⟨3, ![1, 1, 1024]⟩
abbrev S1x1024x1024 : Shape := ⟨3, ![1, 1024, 1024]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S8x8192x256, .bf16⟩
  | .hbm, ⟨3, _⟩ => ⟨S8x8192x256, .bf16⟩
  | .hbm, ⟨4, _⟩ => ⟨S8x8192x256, .bf16⟩
  | .hbm, ⟨5, _⟩ => ⟨S8x8192x256, .bf16⟩
  | .hbm, ⟨6, _⟩ => ⟨S4x1024x1024, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4x1024x1024, .bf16⟩
  | .hbm, ⟨12, _⟩ => ⟨S4x256x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S4x1024x1024, .bf16⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S8x8192x1024 : Shape := ⟨3, ![8, 8192, 1024]⟩
abbrev S8x6x1024 : Shape := ⟨3, ![8, 6, 1024]⟩
abbrev S8x8192x256 : Shape := ⟨3, ![8, 8192, 256]⟩
abbrev S4x1024x1024 : Shape := ⟨3, ![4, 1024, 1024]⟩
abbrev S4x256x1024 : Shape := ⟨3, ![4, 256, 1024]⟩
abbrev S1024x1024 : Shape := ⟨2, ![1024, 1024]⟩
abbrev S1024 : Shape := ⟨1, ![1024]⟩
abbrev S8x1x1024 : Shape := ⟨3, ![8, 1, 1024]⟩
abbrev S_ : Shape := ⟨0, ![]⟩
abbrev S1x1024x1024 : Shape := ⟨3, ![1, 1024, 1024]⟩
abbrev S1x256x1024 : Shape := ⟨3, ![1, 256, 1024]⟩
abbrev S256x1024 : Shape := ⟨2, ![256, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S8x8192x256, .bf16⟩
  | .hbm, ⟨3, _⟩ => ⟨S8x8192x256, .bf16⟩
  | .hbm, ⟨4, _⟩ => ⟨S8x8192x256, .bf16⟩
  | .hbm, ⟨5, _⟩ => ⟨S8x8192x256, .bf16⟩
  | .hbm, ⟨6, _⟩ => ⟨S4x1024x1024, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S8x1x1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x8192x1024, .f32⟩
  | .hbm, ⟨16, _⟩ => ⟨S8x8192x1024, .f32⟩
  | .hbm, ⟨17, _⟩ => ⟨S8x1x1024, .f32⟩
  | .hbm, ⟨18, _⟩ => ⟨S8x8192x1024, .f32⟩
  | .hbm, ⟨19, _⟩ => ⟨S8x8192x1024, .f32⟩
  | .hbm, ⟨20, _⟩ => ⟨S1x1024x1024, .f32⟩
  | .hbm, ⟨21, _⟩ => ⟨S1024x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S8x8192x256, .f32⟩
  | .hbm, ⟨32, _⟩ => ⟨S1x256x1024, .f32⟩
  | .hbm, ⟨33, _⟩ => ⟨S256x1024, .f32⟩
  | .hbm, ⟨34, _⟩ => ⟨S8x8192x1024, .f32⟩
  | .hbm, ⟨35, _⟩ => ⟨S8x8192x1024, .f32⟩
  | .hbm, ⟨36, _⟩ => ⟨S1x1024x1024, .f32⟩
  | .hbm, ⟨37, _⟩ => ⟨S1024x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S_, .f32⟩
  | .hbm, ⟨42, _⟩ => ⟨S8x8192x1024, .f32⟩
  | .hbm, ⟨43, _⟩ => ⟨S8x8192x1024, .f32⟩
  | .hbm, ⟨44, _⟩ => ⟨S_, .f32⟩
  | .hbm, ⟨45, _⟩ => ⟨S8x8192x1024, .f32⟩
  | .hbm, ⟨46, _⟩ => ⟨S8x8192x1024, .f32⟩
  | .hbm, ⟨47, _⟩ => ⟨S8x8192x256, .f32⟩
  | .hbm, ⟨48, _⟩ => ⟨S1x256x1024, .f32⟩
  | .hbm, ⟨49, _⟩ => ⟨S256x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S1x1024x1024, .f32⟩
  | .hbm, ⟨54, _⟩ => ⟨S1024x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192x1024, .f32⟩
  | .hbm, ⟨60, _⟩ => ⟨S8x8192x1024, .f32⟩
  | .hbm, ⟨61, _⟩ => ⟨S_, .f32⟩
  | .hbm, ⟨62, _⟩ => ⟨S8x8192x1024, .f32⟩
  | .hbm, ⟨63, _⟩ => ⟨S8x8192x1024, .f32⟩
  | .hbm, ⟨64, _⟩ => ⟨S8x8192x256, .f32⟩
  | .hbm, ⟨65, _⟩ => ⟨S1x256x1024, .f32⟩
  | .hbm, ⟨66, _⟩ => ⟨S256x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S1x1024x1024, .f32⟩
  | .hbm, ⟨71, _⟩ => ⟨S1024x1024, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S_, .f32⟩
  | .hbm, ⟨76, _⟩ => ⟨S8x8192x1024, .f32⟩
  | .hbm, ⟨77, _⟩ => ⟨S8x8192x1024, .f32⟩
  | .hbm, ⟨78, _⟩ => ⟨S_, .f32⟩
  | .hbm, ⟨79, _⟩ => ⟨S8x8192x1024, .f32⟩
  | .hbm, ⟨80, _⟩ => ⟨S8x8192x1024, .f32⟩
  | .hbm, ⟨81, _⟩ => ⟨S8x8192x256, .f32⟩
  | .hbm, ⟨82, _⟩ => ⟨S1x256x1024, .f32⟩
  | .hbm, ⟨83, _⟩ => ⟨S256x1024, .f32⟩
  | .hbm, ⟨84, _⟩ => ⟨S8x8192x1024, .f32⟩
  | .hbm, ⟨85, _⟩ => ⟨S8x8192x1024, .f32⟩
  | .hbm, ⟨86, _⟩ => ⟨S8x8192x1024, .f32⟩
  | .hbm, ⟨87, _⟩ => ⟨S_, .f32⟩
  | .hbm, ⟨88, _⟩ => ⟨S8x8192x1024, .f32⟩
  | .hbm, ⟨89, _⟩ => ⟨S8x8192x1024, .f32⟩
  | .hbm, ⟨90, _⟩ => ⟨S8x1x1024, .f32⟩
  | .hbm, ⟨91, _⟩ => ⟨S8x8192x1024, .f32⟩
  | .hbm, ⟨92, _⟩ => ⟨S8x8192x1024, .f32⟩
  | .hbm, ⟨93, _⟩ => ⟨S8x8192x1024, .f32⟩
  | .hbm, ⟨94, _⟩ => ⟨S8x8192x1024, .f32⟩
  | .hbm, ⟨95, _⟩ => ⟨S_, .f32⟩
  | .hbm, ⟨96, _⟩ => ⟨S8x8192, .f32⟩
  | .hbm, ⟨97, _⟩ => ⟨S8x8192x1, .f32⟩
  | .hbm, ⟨98, _⟩ => ⟨S_, .f32⟩
  | .hbm, ⟨99, _⟩ => ⟨S8x8192x1, .f32⟩
  | .hbm, ⟨100, _⟩ => ⟨S8x8192x1, .f32⟩
  | .hbm, ⟨101, _⟩ => ⟨S8x8192x1024, .f32⟩
  | .hbm, ⟨102, _⟩ => ⟨S8x8192x1024, .f32⟩
  | .hbm, ⟨103, _⟩ => ⟨S8x8192x1024, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S_, .f32⟩
  | .hbm, ⟨108, _⟩ => ⟨S8x8192x1, .f32⟩
  | .hbm, ⟨109, _⟩ => ⟨S8x8192x1, .f32⟩
  | .hbm, ⟨110, _⟩ => ⟨S8x8192x1024, .f32⟩
  | .hbm, ⟨111, _⟩ => ⟨S8x8192x1024, .f32⟩
  | .hbm, ⟨112, _⟩ => ⟨S_, .f32⟩
  | .hbm, ⟨113, _⟩ => ⟨S8x8192x1, .f32⟩
  | .hbm, ⟨114, _⟩ => ⟨S8x8192x1, .f32⟩
  | .hbm, ⟨115, _⟩ => ⟨S8x8192x1, .f32⟩
  | .hbm, ⟨116, _⟩ => ⟨S8x8192x1024, .f32⟩
  | .hbm, ⟨117, _⟩ => ⟨S8x8192x1024, .f32⟩
  | .hbm, ⟨118, _⟩ => ⟨S1x1x1024, .f32⟩
  | .hbm, ⟨119, _⟩ => ⟨S8x8192x1024, .f32⟩
  | .hbm, ⟨120, _⟩ => ⟨S8x8192x1024, .f32⟩
  | .hbm, ⟨121, _⟩ => ⟨S1x1x1024, .f32⟩
  | .hbm, ⟨122, _⟩ => ⟨S8x8192x1024, .f32⟩
  | .hbm, ⟨123, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Select.lean ====
abbrev S8x8192x8192 : Shape := ⟨3, ![8, 8192, 8192]⟩
abbrev S8x1x8192 : Shape := ⟨3, ![8, 1, 8192]⟩
abbrev S1x8192x256 : Shape := ⟨3, ![1, 8192, 256]⟩
abbrev S1x1x256 : Shape := ⟨3, ![1, 1, 256]⟩
abbrev S33x256x256 : Shape := ⟨3, ![33, 256, 256]⟩
abbrev S256x256 : Shape := ⟨2, ![256, 256]⟩
abbrev S32x256x256 : Shape := ⟨3, ![32, 256, 256]⟩
abbrev S1x256x256 : Shape := ⟨3, ![1, 256, 256]⟩
abbrev S8x256 : Shape := ⟨2, ![8, 256]⟩
abbrev S1x8x256 : Shape := ⟨3, ![1, 8, 256]⟩
abbrev S1x256 : Shape := ⟨2, ![1, 256]⟩
abbrev S32x256 : Shape := ⟨2, ![32, 256]⟩
abbrev S1x32x256 : Shape := ⟨3, ![1, 32, 256]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S8x8192x8192, .i32⟩
  | .hbm, ⟨1, _⟩ => ⟨S8x1x8192, .i32⟩
  | .hbm, ⟨2, _⟩ => ⟨S8x1x8192, .i32⟩
  | .hbm, ⟨3, _⟩ => ⟨S8x1x8192, .i32⟩
  | .local _ .vmem, ⟨0, _⟩ => ⟨S1x8192x256, .i32⟩
  | .local _ .vmem, ⟨1, _⟩ => ⟨S1x8192x256, .i32⟩
  | .local _ .vmem, ⟨2, _⟩ => ⟨S1x1x256, .i32⟩
  | .local _ .vmem, ⟨3, _⟩ => ⟨S1x1x256, .i32⟩
  | .local _ .vmem, ⟨4, _⟩ => ⟨S1x1x256, .i32⟩
  | .local _ .vmem, ⟨5, _⟩ => ⟨S1x1x256, .i32⟩
  | .local _ .vmem, ⟨6, _⟩ => ⟨S1x1x256, .i32⟩
  | .local _ .vmem, ⟨7, _⟩ => ⟨S1x1x256, .i32⟩
  | .local _ .vmem, ⟨8, _⟩ => ⟨S33x256x256, .i32⟩
  | .local _ .vmem, ⟨9, _⟩ => ⟨S256x256, .i32⟩
  | _, _ => ⟨S8x8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let c0 : Index := 0#32
  let arg1 : BitVec 32 := BitVec.ofNat 32 (i 1).val
  let c256_i32 : BitVec 32 := 256#32
  let v7 : BitVec 32 := Scalar.muli arg1 c256_i32
  let v8 : BitVec 32 := v7
  let v9 : Index := Scalar.indexCast v8
  let c0_2 : Index := 0#32
  ![0, v9.toNat, 0]
def k0_mult2 (i : grid0.Coords) : BitVec 32 :=
  let arg1 : BitVec 32 := BitVec.ofNat 32 (i 1).val
  let c8_i32_234 : BitVec 32 := 8#32
  let v769 : BitVec 32 := Scalar.muli arg1 c8_i32_234
  v769
def k0_off2 (i : grid0.Coords) : Fin 3 → Nat :=
  let c0_235 : Index := 0#32
  let arg1 : BitVec 32 := BitVec.ofNat 32 (i 1).val
  let c8_i32_234 : BitVec 32 := 8#32
  let v769 : BitVec 32 := Scalar.muli arg1 c8_i32_234
  let v770 : BitVec 32 := v769
  let v771 : Index := Scalar.indexCast v770
  let c0_236 : Index := 0#32
  ![0, v771.toNat, 0]
def k0_off3 (i : grid0.Coords) : Fin 3 → Nat :=
  let c1 : Index := 1#32
  let arg1 : BitVec 32 := BitVec.ofNat 32 (i 1).val
  let c8_i32_234 : BitVec 32 := 8#32
  let v769 : BitVec 32 := Scalar.muli arg1 c8_i32_234
  let v770 : BitVec 32 := v769
  let v775 : Index := Scalar.indexCast v770
  let c0_237 : Index := 0#32
  ![1, v775.toNat, 0]
def k0_off4 (i : grid0.Coords) : Fin 3 → Nat :=
  let c2 : Index := 2#32
  let arg1 : BitVec 32 := BitVec.ofNat 32 (i 1).val
  let c8_i32_234 : BitVec 32 := 8#32
  let v769 : BitVec 32 := Scalar.muli arg1 c8_i32_234
  let v770 : BitVec 32 := v769
  let v779 : Index := Scalar.indexCast v770
  let c0_238 : Index := 0#32
  ![2, v779.toNat, 0]
def k0_off5 (i : grid0.Coords) : Fin 3 → Nat :=
  let c3 : Index := 3#32
  let arg1 : BitVec 32 := BitVec.ofNat 32 (i 1).val
  let c8_i32_234 : BitVec 32 := 8#32
  let v769 : BitVec 32 := Scalar.muli arg1 c8_i32_234
  let v770 : BitVec 32 := v769
  let v783 : Index := Scalar.indexCast v770
  let c0_239 : Index := 0#32
  ![3, v783.toNat, 0]
def k0_off6 (i : grid0.Coords) : Fin 3 → Nat :=
  let c4 : Index := 4#32
  let arg1 : BitVec 32 := BitVec.ofNat 32 (i 1).val
  let c8_i32_234 : BitVec 32 := 8#32
  let v769 : BitVec 32 := Scalar.muli arg1 c8_i32_234
  let v770 : BitVec 32 := v769
  let v787 : Index := Scalar.indexCast v770
  let c0_240 : Index := 0#32
  ![4, v787.toNat, 0]
def k0_off7 (i : grid0.Coords) : Fin 3 → Nat :=
  let c5 : Index := 5#32
  let arg1 : BitVec 32 := BitVec.ofNat 32 (i 1).val
  let c8_i32_234 : BitVec 32 := 8#32
  let v769 : BitVec 32 := Scalar.muli arg1 c8_i32_234
  let v770 : BitVec 32 := v769
  let v791 : Index := Scalar.indexCast v770
  let c0_241 : Index := 0#32
  ![5, v791.toNat, 0]
def k0_off8 (i : grid0.Coords) : Fin 3 → Nat :=
  let c6 : Index := 6#32
  let arg1 : BitVec 32 := BitVec.ofNat 32 (i 1).val
  let c8_i32_234 : BitVec 32 := 8#32
  let v769 : BitVec 32 := Scalar.muli arg1 c8_i32_234
  let v770 : BitVec 32 := v769
  let v795 : Index := Scalar.indexCast v770
  let c0_242 : Index := 0#32
  ![6, v795.toNat, 0]
def k0_off9 (i : grid0.Coords) : Fin 3 → Nat :=
  let c7 : Index := 7#32
  let arg1 : BitVec 32 := BitVec.ofNat 32 (i 1).val
  let c8_i32_234 : BitVec 32 := 8#32
  let v769 : BitVec 32 := Scalar.muli arg1 c8_i32_234
  let v770 : BitVec 32 := v769
  let v799 : Index := Scalar.indexCast v770
  let c0_243 : Index := 0#32
  ![7, v799.toNat, 0]
def k0_off10 (i : grid0.Coords) : Fin 3 → Nat :=
  let c8 : Index := 8#32
  let arg1 : BitVec 32 := BitVec.ofNat 32 (i 1).val
  let c8_i32_234 : BitVec 32 := 8#32
  let v769 : BitVec 32 := Scalar.muli arg1 c8_i32_234
  let v770 : BitVec 32 := v769
  let v803 : Index := Scalar.indexCast v770
  let c0_244 : Index := 0#32
  ![8, v803.toNat, 0]
def k0_off11 (i : grid0.Coords) : Fin 3 → Nat :=
  let c9 : Index := 9#32
  let arg1 : BitVec 32 := BitVec.ofNat 32 (i 1).val
  let c8_i32_234 : BitVec 32 := 8#32
  let v769 : BitVec 32 := Scalar.muli arg1 c8_i32_234
  let v770 : BitVec 32 := v769
  let v807 : Index := Scalar.indexCast v770
  let c0_245 : Index := 0#32
  ![9, v807.toNat, 0]
def k0_off12 (i : grid0.Coords) : Fin 3 → Nat :=
  let c10 : Index := 10#32
  let arg1 : BitVec 32 := BitVec.ofNat 32 (i 1).val
  let c8_i32_234 : BitVec 32 := 8#32
  let v769 : BitVec 32 := Scalar.muli arg1 c8_i32_234
  let v770 : BitVec 32 := v769
  let v811 : Index := Scalar.indexCast v770
  let c0_246 : Index := 0#32
  ![10, v811.toNat, 0]
def k0_off13 (i : grid0.Coords) : Fin 3 → Nat :=
  let c11 : Index := 11#32
  let arg1 : BitVec 32 := BitVec.ofNat 32 (i 1).val
  let c8_i32_234 : BitVec 32 := 8#32
  let v769 : BitVec 32 := Scalar.muli arg1 c8_i32_234
  let v770 : BitVec 32 := v769
  let v815 : Index := Scalar.indexCast v770
  let c0_247 : Index := 0#32
  ![11, v815.toNat, 0]
def k0_off14 (i : grid0.Coords) : Fin 3 → Nat :=
  let c12 : Index := 12#32
  let arg1 : BitVec 32 := BitVec.ofNat 32 (i 1).val
  let c8_i32_234 : BitVec 32 := 8#32
  let v769 : BitVec 32 := Scalar.muli arg1 c8_i32_234
  let v770 : BitVec 32 := v769
  let v819 : Index := Scalar.indexCast v770
  let c0_248 : Index := 0#32
  ![12, v819.toNat, 0]
def k0_off15 (i : grid0.Coords) : Fin 3 → Nat :=
  let c13 : Index := 13#32
  let arg1 : BitVec 32 := BitVec.ofNat 32 (i 1).val
  let c8_i32_234 : BitVec 32 := 8#32
  let v769 : BitVec 32 := Scalar.muli arg1 c8_i32_234
  let v770 : BitVec 32 := v769
  let v823 : Index := Scalar.indexCast v770
  let c0_249 : Index := 0#32
  ![13, v823.toNat, 0]
def k0_off16 (i : grid0.Coords) : Fin 3 → Nat :=
  let c14 : Index := 14#32
  let arg1 : BitVec 32 := BitVec.ofNat 32 (i 1).val
  let c8_i32_234 : BitVec 32 := 8#32
  let v769 : BitVec 32 := Scalar.muli arg1 c8_i32_234
  let v770 : BitVec 32 := v769
  let v827 : Index := Scalar.indexCast v770
  let c0_250 : Index := 0#32
  ![14, v827.toNat, 0]
def k0_off17 (i : grid0.Coords) : Fin 3 → Nat :=
  let c15 : Index := 15#32
  let arg1 : BitVec 32 := BitVec.ofNat 32 (i 1).val
  let c8_i32_234 : BitVec 32 := 8#32
  let v769 : BitVec 32 := Scalar.muli arg1 c8_i32_234
  let v770 : BitVec 32 := v769
  let v831 : Index := Scalar.indexCast v770
  let c0_251 : Index := 0#32
  ![15, v831.toNat, 0]
def k0_off18 (i : grid0.Coords) : Fin 3 → Nat :=
  let c16 : Index := 16#32
  let arg1 : BitVec 32 := BitVec.ofNat 32 (i 1).val
  let c8_i32_234 : BitVec 32 := 8#32
  let v769 : BitVec 32 := Scalar.muli arg1 c8_i32_234
  let v770 : BitVec 32 := v769
  let v835 : Index := Scalar.indexCast v770
  let c0_252 : Index := 0#32
  ![16, v835.toNat, 0]
def k0_off19 (i : grid0.Coords) : Fin 3 → Nat :=
  let c17 : Index := 17#32
  let arg1 : BitVec 32 := BitVec.ofNat 32 (i 1).val
  let c8_i32_234 : BitVec 32 := 8#32
  let v769 : BitVec 32 := Scalar.muli arg1 c8_i32_234
  let v770 : BitVec 32 := v769
  let v839 : Index := Scalar.indexCast v770
  let c0_253 : Index := 0#32
  ![17, v839.toNat, 0]
def k0_off20 (i : grid0.Coords) : Fin 3 → Nat :=
  let c18 : Index := 18#32
  let arg1 : BitVec 32 := BitVec.ofNat 32 (i 1).val
  let c8_i32_234 : BitVec 32 := 8#32
  let v769 : BitVec 32 := Scalar.muli arg1 c8_i32_234
  let v770 : BitVec 32 := v769
  let v843 : Index := Scalar.indexCast v770
  let c0_254 : Index := 0#32
  ![18, v843.toNat, 0]
def k0_off21 (i : grid0.Coords) : Fin 3 → Nat :=
  let c19 : Index := 19#32
  let arg1 : BitVec 32 := BitVec.ofNat 32 (i 1).val
  let c8_i32_234 : BitVec 32 := 8#32
  let v769 : BitVec 32 := Scalar.muli arg1 c8_i32_234
  let v770 : BitVec 32 := v769
  let v847 : Index := Scalar.indexCast v770
  let c0_255 : Index := 0#32
  ![19, v847.toNat, 0]
def k0_off22 (i : grid0.Coords) : Fin 3 → Nat :=
  let c20 : Index := 20#32
  let arg1 : BitVec 32 := BitVec.ofNat 32 (i 1).val
  let c8_i32_234 : BitVec 32 := 8#32
  let v769 : BitVec 32 := Scalar.muli arg1 c8_i32_234
  let v770 : BitVec 32 := v769
  let v851 : Index := Scalar.indexCast v770
  let c0_256 : Index := 0#32
  ![20, v851.toNat, 0]
def k0_off23 (i : grid0.Coords) : Fin 3 → Nat :=
  let c21 : Index := 21#32
  let arg1 : BitVec 32 := BitVec.ofNat 32 (i 1).val
  let c8_i32_234 : BitVec 32 := 8#32
  let v769 : BitVec 32 := Scalar.muli arg1 c8_i32_234
  let v770 : BitVec 32 := v769
  let v855 : Index := Scalar.indexCast v770
  let c0_257 : Index := 0#32
  ![21, v855.toNat, 0]
def k0_off24 (i : grid0.Coords) : Fin 3 → Nat :=
  let c22 : Index := 22#32
  let arg1 : BitVec 32 := BitVec.ofNat 32 (i 1).val
  let c8_i32_234 : BitVec 32 := 8#32
  let v769 : BitVec 32 := Scalar.muli arg1 c8_i32_234
  let v770 : BitVec 32 := v769
  let v859 : Index := Scalar.indexCast v770
  let c0_258 : Index := 0#32
  ![22, v859.toNat, 0]
def k0_off25 (i : grid0.Coords) : Fin 3 → Nat :=
  let c23 : Index := 23#32
  let arg1 : BitVec 32 := BitVec.ofNat 32 (i 1).val
  let c8_i32_234 : BitVec 32 := 8#32
  let v769 : BitVec 32 := Scalar.muli arg1 c8_i32_234
  let v770 : BitVec 32 := v769
  let v863 : Index := Scalar.indexCast v770
  let c0_259 : Index := 0#32
  ![23, v863.toNat, 0]
def k0_off26 (i : grid0.Coords) : Fin 3 → Nat :=
  let c24 : Index := 24#32
  let arg1 : BitVec 32 := BitVec.ofNat 32 (i 1).val
  let c8_i32_234 : BitVec 32 := 8#32
  let v769 : BitVec 32 := Scalar.muli arg1 c8_i32_234
  let v770 : BitVec 32 := v769
  let v867 : Index := Scalar.indexCast v770
  let c0_260 : Index := 0#32
  ![24, v867.toNat, 0]
def k0_off27 (i : grid0.Coords) : Fin 3 → Nat :=
  let c25 : Index := 25#32
  let arg1 : BitVec 32 := BitVec.ofNat 32 (i 1).val
  let c8_i32_234 : BitVec 32 := 8#32
  let v769 : BitVec 32 := Scalar.muli arg1 c8_i32_234
  let v770 : BitVec 32 := v769
  let v871 : Index := Scalar.indexCast v770
  let c0_261 : Index := 0#32
  ![25, v871.toNat, 0]
def k0_off28 (i : grid0.Coords) : Fin 3 → Nat :=
  let c26 : Index := 26#32
  let arg1 : BitVec 32 := BitVec.ofNat 32 (i 1).val
  let c8_i32_234 : BitVec 32 := 8#32
  let v769 : BitVec 32 := Scalar.muli arg1 c8_i32_234
  let v770 : BitVec 32 := v769
  let v875 : Index := Scalar.indexCast v770
  let c0_262 : Index := 0#32
  ![26, v875.toNat, 0]
def k0_off29 (i : grid0.Coords) : Fin 3 → Nat :=
  let c27 : Index := 27#32
  let arg1 : BitVec 32 := BitVec.ofNat 32 (i 1).val
  let c8_i32_234 : BitVec 32 := 8#32
  let v769 : BitVec 32 := Scalar.muli arg1 c8_i32_234
  let v770 : BitVec 32 := v769
  let v879 : Index := Scalar.indexCast v770
  let c0_263 : Index := 0#32
  ![27, v879.toNat, 0]
def k0_off30 (i : grid0.Coords) : Fin 3 → Nat :=
  let c28 : Index := 28#32
  let arg1 : BitVec 32 := BitVec.ofNat 32 (i 1).val
  let c8_i32_234 : BitVec 32 := 8#32
  let v769 : BitVec 32 := Scalar.muli arg1 c8_i32_234
  let v770 : BitVec 32 := v769
  let v883 : Index := Scalar.indexCast v770
  let c0_264 : Index := 0#32
  ![28, v883.toNat, 0]
def k0_off31 (i : grid0.Coords) : Fin 3 → Nat :=
  let c29 : Index := 29#32
  let arg1 : BitVec 32 := BitVec.ofNat 32 (i 1).val
  let c8_i32_234 : BitVec 32 := 8#32
  let v769 : BitVec 32 := Scalar.muli arg1 c8_i32_234
  let v770 : BitVec 32 := v769
  let v887 : Index := Scalar.indexCast v770
  let c0_265 : Index := 0#32
  ![29, v887.toNat, 0]
def k0_off32 (i : grid0.Coords) : Fin 3 → Nat :=
  let c30 : Index := 30#32
  let arg1 : BitVec 32 := BitVec.ofNat 32 (i 1).val
  let c8_i32_234 : BitVec 32 := 8#32
  let v769 : BitVec 32 := Scalar.muli arg1 c8_i32_234
  let v770 : BitVec 32 := v769
  let v891 : Index := Scalar.indexCast v770
  let c0_266 : Index := 0#32
  ![30, v891.toNat, 0]
def k0_off33 (i : grid0.Coords) : Fin 3 → Nat :=
  let c31 : Index := 31#32
  let arg1 : BitVec 32 := BitVec.ofNat 32 (i 1).val
  let c8_i32_234 : BitVec 32 := 8#32
  let v769 : BitVec 32 := Scalar.muli arg1 c8_i32_234
  let v770 : BitVec 32 := v769
  let v895 : Index := Scalar.indexCast v770
  let c0_267 : Index := 0#32
  ![31, v895.toNat, 0]
@[reducible] def k0_t1_loop (i : grid0.Coords) : Scf.Loop 32 :=
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_279 : BitVec 32 := 1#32
  ⟨c0_i32_277, v921, c1_i32_279⟩
def k0_mult3 (i : grid0.Coords) (k0_t1 : Fin (k0_t1_loop i).trips) : BitVec 32 :=
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c256_i32_319 : BitVec 32 := 256#32
  let v985 : BitVec 32 := Scalar.muli v984 c256_i32_319
  v985
def k0_off34 (i : grid0.Coords) (k0_t1 : Fin (k0_t1_loop i).trips) : Fin 3 → Nat :=
  let c0_320 : Index := 0#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c256_i32_319 : BitVec 32 := 256#32
  let v985 : BitVec 32 := Scalar.muli v984 c256_i32_319
  let v986 : BitVec 32 := v985
  let v987 : Index := Scalar.indexCast v986
  let c0_321 : Index := 0#32
  ![0, v987.toNat, 0]
def k0_mult4 (i : grid0.Coords) (k0_t1 : Fin (k0_t1_loop i).trips) : BitVec 32 :=
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  v1744
def k0_off35 (i : grid0.Coords) (k0_t1 : Fin (k0_t1_loop i).trips) : Fin 3 → Nat :=
  let c0_564 : Index := 0#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1746 : Index := Scalar.indexCast v1745
  let c0_565 : Index := 0#32
  ![0, v1746.toNat, 0]
def k0_off36 (i : grid0.Coords) (k0_t1 : Fin (k0_t1_loop i).trips) : Fin 3 → Nat :=
  let c1_566 : Index := 1#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1750 : Index := Scalar.indexCast v1745
  let c0_567 : Index := 0#32
  ![1, v1750.toNat, 0]
def k0_off37 (i : grid0.Coords) (k0_t1 : Fin (k0_t1_loop i).trips) : Fin 3 → Nat :=
  let c2_568 : Index := 2#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1754 : Index := Scalar.indexCast v1745
  let c0_569 : Index := 0#32
  ![2, v1754.toNat, 0]
def k0_off38 (i : grid0.Coords) (k0_t1 : Fin (k0_t1_loop i).trips) : Fin 3 → Nat :=
  let c3_570 : Index := 3#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1758 : Index := Scalar.indexCast v1745
  let c0_571 : Index := 0#32
  ![3, v1758.toNat, 0]
def k0_off39 (i : grid0.Coords) (k0_t1 : Fin (k0_t1_loop i).trips) : Fin 3 → Nat :=
  let c4_572 : Index := 4#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1762 : Index := Scalar.indexCast v1745
  let c0_573 : Index := 0#32
  ![4, v1762.toNat, 0]
def k0_off40 (i : grid0.Coords) (k0_t1 : Fin (k0_t1_loop i).trips) : Fin 3 → Nat :=
  let c5_574 : Index := 5#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1766 : Index := Scalar.indexCast v1745
  let c0_575 : Index := 0#32
  ![5, v1766.toNat, 0]
def k0_off41 (i : grid0.Coords) (k0_t1 : Fin (k0_t1_loop i).trips) : Fin 3 → Nat :=
  let c6_576 : Index := 6#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1770 : Index := Scalar.indexCast v1745
  let c0_577 : Index := 0#32
  ![6, v1770.toNat, 0]
def k0_off42 (i : grid0.Coords) (k0_t1 : Fin (k0_t1_loop i).trips) : Fin 3 → Nat :=
  let c7_578 : Index := 7#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1774 : Index := Scalar.indexCast v1745
  let c0_579 : Index := 0#32
  ![7, v1774.toNat, 0]
def k0_off43 (i : grid0.Coords) (k0_t1 : Fin (k0_t1_loop i).trips) : Fin 3 → Nat :=
  let c8_580 : Index := 8#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1778 : Index := Scalar.indexCast v1745
  let c0_581 : Index := 0#32
  ![8, v1778.toNat, 0]
def k0_off44 (i : grid0.Coords) (k0_t1 : Fin (k0_t1_loop i).trips) : Fin 3 → Nat :=
  let c9_582 : Index := 9#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1782 : Index := Scalar.indexCast v1745
  let c0_583 : Index := 0#32
  ![9, v1782.toNat, 0]
def k0_off45 (i : grid0.Coords) (k0_t1 : Fin (k0_t1_loop i).trips) : Fin 3 → Nat :=
  let c10_584 : Index := 10#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1786 : Index := Scalar.indexCast v1745
  let c0_585 : Index := 0#32
  ![10, v1786.toNat, 0]
def k0_off46 (i : grid0.Coords) (k0_t1 : Fin (k0_t1_loop i).trips) : Fin 3 → Nat :=
  let c11_586 : Index := 11#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1790 : Index := Scalar.indexCast v1745
  let c0_587 : Index := 0#32
  ![11, v1790.toNat, 0]
def k0_off47 (i : grid0.Coords) (k0_t1 : Fin (k0_t1_loop i).trips) : Fin 3 → Nat :=
  let c12_588 : Index := 12#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1794 : Index := Scalar.indexCast v1745
  let c0_589 : Index := 0#32
  ![12, v1794.toNat, 0]
def k0_off48 (i : grid0.Coords) (k0_t1 : Fin (k0_t1_loop i).trips) : Fin 3 → Nat :=
  let c13_590 : Index := 13#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1798 : Index := Scalar.indexCast v1745
  let c0_591 : Index := 0#32
  ![13, v1798.toNat, 0]
def k0_off49 (i : grid0.Coords) (k0_t1 : Fin (k0_t1_loop i).trips) : Fin 3 → Nat :=
  let c14_592 : Index := 14#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1802 : Index := Scalar.indexCast v1745
  let c0_593 : Index := 0#32
  ![14, v1802.toNat, 0]
def k0_off50 (i : grid0.Coords) (k0_t1 : Fin (k0_t1_loop i).trips) : Fin 3 → Nat :=
  let c15_594 : Index := 15#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1806 : Index := Scalar.indexCast v1745
  let c0_595 : Index := 0#32
  ![15, v1806.toNat, 0]
def k0_off51 (i : grid0.Coords) (k0_t1 : Fin (k0_t1_loop i).trips) : Fin 3 → Nat :=
  let c16_596 : Index := 16#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1810 : Index := Scalar.indexCast v1745
  let c0_597 : Index := 0#32
  ![16, v1810.toNat, 0]
def k0_off52 (i : grid0.Coords) (k0_t1 : Fin (k0_t1_loop i).trips) : Fin 3 → Nat :=
  let c17_598 : Index := 17#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1814 : Index := Scalar.indexCast v1745
  let c0_599 : Index := 0#32
  ![17, v1814.toNat, 0]
def k0_off53 (i : grid0.Coords) (k0_t1 : Fin (k0_t1_loop i).trips) : Fin 3 → Nat :=
  let c18_600 : Index := 18#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1818 : Index := Scalar.indexCast v1745
  let c0_601 : Index := 0#32
  ![18, v1818.toNat, 0]
def k0_off54 (i : grid0.Coords) (k0_t1 : Fin (k0_t1_loop i).trips) : Fin 3 → Nat :=
  let c19_602 : Index := 19#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1822 : Index := Scalar.indexCast v1745
  let c0_603 : Index := 0#32
  ![19, v1822.toNat, 0]
def k0_off55 (i : grid0.Coords) (k0_t1 : Fin (k0_t1_loop i).trips) : Fin 3 → Nat :=
  let c20_604 : Index := 20#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1826 : Index := Scalar.indexCast v1745
  let c0_605 : Index := 0#32
  ![20, v1826.toNat, 0]
def k0_off56 (i : grid0.Coords) (k0_t1 : Fin (k0_t1_loop i).trips) : Fin 3 → Nat :=
  let c21_606 : Index := 21#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1830 : Index := Scalar.indexCast v1745
  let c0_607 : Index := 0#32
  ![21, v1830.toNat, 0]
def k0_off57 (i : grid0.Coords) (k0_t1 : Fin (k0_t1_loop i).trips) : Fin 3 → Nat :=
  let c22_608 : Index := 22#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1834 : Index := Scalar.indexCast v1745
  let c0_609 : Index := 0#32
  ![22, v1834.toNat, 0]
def k0_off58 (i : grid0.Coords) (k0_t1 : Fin (k0_t1_loop i).trips) : Fin 3 → Nat :=
  let c23_610 : Index := 23#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1838 : Index := Scalar.indexCast v1745
  let c0_611 : Index := 0#32
  ![23, v1838.toNat, 0]
def k0_off59 (i : grid0.Coords) (k0_t1 : Fin (k0_t1_loop i).trips) : Fin 3 → Nat :=
  let c24_612 : Index := 24#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1842 : Index := Scalar.indexCast v1745
  let c0_613 : Index := 0#32
  ![24, v1842.toNat, 0]
def k0_off60 (i : grid0.Coords) (k0_t1 : Fin (k0_t1_loop i).trips) : Fin 3 → Nat :=
  let c25_614 : Index := 25#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1846 : Index := Scalar.indexCast v1745
  let c0_615 : Index := 0#32
  ![25, v1846.toNat, 0]
def k0_off61 (i : grid0.Coords) (k0_t1 : Fin (k0_t1_loop i).trips) : Fin 3 → Nat :=
  let c26_616 : Index := 26#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1850 : Index := Scalar.indexCast v1745
  let c0_617 : Index := 0#32
  ![26, v1850.toNat, 0]
def k0_off62 (i : grid0.Coords) (k0_t1 : Fin (k0_t1_loop i).trips) : Fin 3 → Nat :=
  let c27_618 : Index := 27#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1854 : Index := Scalar.indexCast v1745
  let c0_619 : Index := 0#32
  ![27, v1854.toNat, 0]
def k0_off63 (i : grid0.Coords) (k0_t1 : Fin (k0_t1_loop i).trips) : Fin 3 → Nat :=
  let c28_620 : Index := 28#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1858 : Index := Scalar.indexCast v1745
  let c0_621 : Index := 0#32
  ![28, v1858.toNat, 0]
def k0_off64 (i : grid0.Coords) (k0_t1 : Fin (k0_t1_loop i).trips) : Fin 3 → Nat :=
  let c29_622 : Index := 29#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1862 : Index := Scalar.indexCast v1745
  let c0_623 : Index := 0#32
  ![29, v1862.toNat, 0]
def k0_off65 (i : grid0.Coords) (k0_t1 : Fin (k0_t1_loop i).trips) : Fin 3 → Nat :=
  let c30_624 : Index := 30#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1866 : Index := Scalar.indexCast v1745
  let c0_625 : Index := 0#32
  ![30, v1866.toNat, 0]
def k0_off66 (i : grid0.Coords) (k0_t1 : Fin (k0_t1_loop i).trips) : Fin 3 → Nat :=
  let c31_626 : Index := 31#32
  let c2_i32_318 : BitVec 32 := 2#32
  let c0_i32_277 : BitVec 32 := 0#32
  let c1_i32_279 : BitVec 32 := 1#32
  let arg8 : BitVec 32 := Scf.iv c0_i32_277 c1_i32_279 k0_t1
  let v984 : BitVec 32 := Scalar.muli c2_i32_318 arg8
  let c8_i32_563 : BitVec 32 := 8#32
  let v1744 : BitVec 32 := Scalar.muli v984 c8_i32_563
  let v1745 : BitVec 32 := v1744
  let v1870 : Index := Scalar.indexCast v1745
  let c0_627 : Index := 0#32
  ![31, v1870.toNat, 0]
def k0_mult5 (i : grid0.Coords) (k0_t1 : Fin (k0_t1_loop i).trips) : BitVec 32 :=
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c256_i32_631 : BitVec 32 := 256#32
  let v1878 : BitVec 32 := Scalar.muli v1877 c256_i32_631
  v1878
def k0_off67 (i : grid0.Coords) (k0_t1 : Fin (k0_t1_loop i).trips) : Fin 3 → Nat :=
  let c0_632 : Index := 0#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c256_i32_631 : BitVec 32 := 256#32
  let v1878 : BitVec 32 := Scalar.muli v1877 c256_i32_631
  let v1879 : BitVec 32 := v1878
  let v1880 : Index := Scalar.indexCast v1879
  let c0_633 : Index := 0#32
  ![0, v1880.toNat, 0]
def k0_mult6 (i : grid0.Coords) (k0_t1 : Fin (k0_t1_loop i).trips) : BitVec 32 :=
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  v2637
def k0_off68 (i : grid0.Coords) (k0_t1 : Fin (k0_t1_loop i).trips) : Fin 3 → Nat :=
  let c0_876 : Index := 0#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2639 : Index := Scalar.indexCast v2638
  let c0_877 : Index := 0#32
  ![0, v2639.toNat, 0]
def k0_off69 (i : grid0.Coords) (k0_t1 : Fin (k0_t1_loop i).trips) : Fin 3 → Nat :=
  let c1_878 : Index := 1#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2643 : Index := Scalar.indexCast v2638
  let c0_879 : Index := 0#32
  ![1, v2643.toNat, 0]
def k0_off70 (i : grid0.Coords) (k0_t1 : Fin (k0_t1_loop i).trips) : Fin 3 → Nat :=
  let c2_880 : Index := 2#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2647 : Index := Scalar.indexCast v2638
  let c0_881 : Index := 0#32
  ![2, v2647.toNat, 0]
def k0_off71 (i : grid0.Coords) (k0_t1 : Fin (k0_t1_loop i).trips) : Fin 3 → Nat :=
  let c3_882 : Index := 3#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2651 : Index := Scalar.indexCast v2638
  let c0_883 : Index := 0#32
  ![3, v2651.toNat, 0]
def k0_off72 (i : grid0.Coords) (k0_t1 : Fin (k0_t1_loop i).trips) : Fin 3 → Nat :=
  let c4_884 : Index := 4#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2655 : Index := Scalar.indexCast v2638
  let c0_885 : Index := 0#32
  ![4, v2655.toNat, 0]
def k0_off73 (i : grid0.Coords) (k0_t1 : Fin (k0_t1_loop i).trips) : Fin 3 → Nat :=
  let c5_886 : Index := 5#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2659 : Index := Scalar.indexCast v2638
  let c0_887 : Index := 0#32
  ![5, v2659.toNat, 0]
def k0_off74 (i : grid0.Coords) (k0_t1 : Fin (k0_t1_loop i).trips) : Fin 3 → Nat :=
  let c6_888 : Index := 6#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2663 : Index := Scalar.indexCast v2638
  let c0_889 : Index := 0#32
  ![6, v2663.toNat, 0]
def k0_off75 (i : grid0.Coords) (k0_t1 : Fin (k0_t1_loop i).trips) : Fin 3 → Nat :=
  let c7_890 : Index := 7#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2667 : Index := Scalar.indexCast v2638
  let c0_891 : Index := 0#32
  ![7, v2667.toNat, 0]
def k0_off76 (i : grid0.Coords) (k0_t1 : Fin (k0_t1_loop i).trips) : Fin 3 → Nat :=
  let c8_892 : Index := 8#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2671 : Index := Scalar.indexCast v2638
  let c0_893 : Index := 0#32
  ![8, v2671.toNat, 0]
def k0_off77 (i : grid0.Coords) (k0_t1 : Fin (k0_t1_loop i).trips) : Fin 3 → Nat :=
  let c9_894 : Index := 9#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2675 : Index := Scalar.indexCast v2638
  let c0_895 : Index := 0#32
  ![9, v2675.toNat, 0]
def k0_off78 (i : grid0.Coords) (k0_t1 : Fin (k0_t1_loop i).trips) : Fin 3 → Nat :=
  let c10_896 : Index := 10#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2679 : Index := Scalar.indexCast v2638
  let c0_897 : Index := 0#32
  ![10, v2679.toNat, 0]
def k0_off79 (i : grid0.Coords) (k0_t1 : Fin (k0_t1_loop i).trips) : Fin 3 → Nat :=
  let c11_898 : Index := 11#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2683 : Index := Scalar.indexCast v2638
  let c0_899 : Index := 0#32
  ![11, v2683.toNat, 0]
def k0_off80 (i : grid0.Coords) (k0_t1 : Fin (k0_t1_loop i).trips) : Fin 3 → Nat :=
  let c12_900 : Index := 12#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2687 : Index := Scalar.indexCast v2638
  let c0_901 : Index := 0#32
  ![12, v2687.toNat, 0]
def k0_off81 (i : grid0.Coords) (k0_t1 : Fin (k0_t1_loop i).trips) : Fin 3 → Nat :=
  let c13_902 : Index := 13#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2691 : Index := Scalar.indexCast v2638
  let c0_903 : Index := 0#32
  ![13, v2691.toNat, 0]
def k0_off82 (i : grid0.Coords) (k0_t1 : Fin (k0_t1_loop i).trips) : Fin 3 → Nat :=
  let c14_904 : Index := 14#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2695 : Index := Scalar.indexCast v2638
  let c0_905 : Index := 0#32
  ![14, v2695.toNat, 0]
def k0_off83 (i : grid0.Coords) (k0_t1 : Fin (k0_t1_loop i).trips) : Fin 3 → Nat :=
  let c15_906 : Index := 15#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2699 : Index := Scalar.indexCast v2638
  let c0_907 : Index := 0#32
  ![15, v2699.toNat, 0]
def k0_off84 (i : grid0.Coords) (k0_t1 : Fin (k0_t1_loop i).trips) : Fin 3 → Nat :=
  let c16_908 : Index := 16#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2703 : Index := Scalar.indexCast v2638
  let c0_909 : Index := 0#32
  ![16, v2703.toNat, 0]
def k0_off85 (i : grid0.Coords) (k0_t1 : Fin (k0_t1_loop i).trips) : Fin 3 → Nat :=
  let c17_910 : Index := 17#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2707 : Index := Scalar.indexCast v2638
  let c0_911 : Index := 0#32
  ![17, v2707.toNat, 0]
def k0_off86 (i : grid0.Coords) (k0_t1 : Fin (k0_t1_loop i).trips) : Fin 3 → Nat :=
  let c18_912 : Index := 18#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2711 : Index := Scalar.indexCast v2638
  let c0_913 : Index := 0#32
  ![18, v2711.toNat, 0]
def k0_off87 (i : grid0.Coords) (k0_t1 : Fin (k0_t1_loop i).trips) : Fin 3 → Nat :=
  let c19_914 : Index := 19#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2715 : Index := Scalar.indexCast v2638
  let c0_915 : Index := 0#32
  ![19, v2715.toNat, 0]
def k0_off88 (i : grid0.Coords) (k0_t1 : Fin (k0_t1_loop i).trips) : Fin 3 → Nat :=
  let c20_916 : Index := 20#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2719 : Index := Scalar.indexCast v2638
  let c0_917 : Index := 0#32
  ![20, v2719.toNat, 0]
def k0_off89 (i : grid0.Coords) (k0_t1 : Fin (k0_t1_loop i).trips) : Fin 3 → Nat :=
  let c21_918 : Index := 21#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2723 : Index := Scalar.indexCast v2638
  let c0_919 : Index := 0#32
  ![21, v2723.toNat, 0]
def k0_off90 (i : grid0.Coords) (k0_t1 : Fin (k0_t1_loop i).trips) : Fin 3 → Nat :=
  let c22_920 : Index := 22#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2727 : Index := Scalar.indexCast v2638
  let c0_921 : Index := 0#32
  ![22, v2727.toNat, 0]
def k0_off91 (i : grid0.Coords) (k0_t1 : Fin (k0_t1_loop i).trips) : Fin 3 → Nat :=
  let c23_922 : Index := 23#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2731 : Index := Scalar.indexCast v2638
  let c0_923 : Index := 0#32
  ![23, v2731.toNat, 0]
def k0_off92 (i : grid0.Coords) (k0_t1 : Fin (k0_t1_loop i).trips) : Fin 3 → Nat :=
  let c24_924 : Index := 24#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2735 : Index := Scalar.indexCast v2638
  let c0_925 : Index := 0#32
  ![24, v2735.toNat, 0]
def k0_off93 (i : grid0.Coords) (k0_t1 : Fin (k0_t1_loop i).trips) : Fin 3 → Nat :=
  let c25_926 : Index := 25#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2739 : Index := Scalar.indexCast v2638
  let c0_927 : Index := 0#32
  ![25, v2739.toNat, 0]
def k0_off94 (i : grid0.Coords) (k0_t1 : Fin (k0_t1_loop i).trips) : Fin 3 → Nat :=
  let c26_928 : Index := 26#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2743 : Index := Scalar.indexCast v2638
  let c0_929 : Index := 0#32
  ![26, v2743.toNat, 0]
def k0_off95 (i : grid0.Coords) (k0_t1 : Fin (k0_t1_loop i).trips) : Fin 3 → Nat :=
  let c27_930 : Index := 27#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2747 : Index := Scalar.indexCast v2638
  let c0_931 : Index := 0#32
  ![27, v2747.toNat, 0]
def k0_off96 (i : grid0.Coords) (k0_t1 : Fin (k0_t1_loop i).trips) : Fin 3 → Nat :=
  let c28_932 : Index := 28#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2751 : Index := Scalar.indexCast v2638
  let c0_933 : Index := 0#32
  ![28, v2751.toNat, 0]
def k0_off97 (i : grid0.Coords) (k0_t1 : Fin (k0_t1_loop i).trips) : Fin 3 → Nat :=
  let c29_934 : Index := 29#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2755 : Index := Scalar.indexCast v2638
  let c0_935 : Index := 0#32
  ![29, v2755.toNat, 0]
def k0_off98 (i : grid0.Coords) (k0_t1 : Fin (k0_t1_loop i).trips) : Fin 3 → Nat :=
  let c30_936 : Index := 30#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2759 : Index := Scalar.indexCast v2638
  let c0_937 : Index := 0#32
  ![30, v2759.toNat, 0]
def k0_off99 (i : grid0.Coords) (k0_t1 : Fin (k0_t1_loop i).trips) : Fin 3 → Nat :=
  let c31_938 : Index := 31#32
  let c2_i32_628 : BitVec 32 := 2#32
  let c0_i32_277 : BitVec 32 := 0#32
  let c1_i32_279 : BitVec 32 := 1#32
  let arg8 : BitVec 32 := Scf.iv c0_i32_277 c1_i32_279 k0_t1
  let v1874 : BitVec 32 := Scalar.muli c2_i32_628 arg8
  let c1_i32_629 : BitVec 32 := 1#32
  let v1875 : BitVec 32 := Scalar.addi v1874 c1_i32_629
  let arg1 : BitVec 32 := BitVec.ofNat 32 (i 1).val
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2763 : Index := Scalar.indexCast v2638
  let c0_939 : Index := 0#32
  ![31, v2763.toNat, 0]
@[reducible] def k0_t2_loop (i : grid0.Coords) : Scf.Loop 32 :=
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let v918 : BitVec 32 := Scalar.addi c0_i32_277 v917
  let c1_i32_280 : BitVec 32 := 1#32
  ⟨v921, v918, c1_i32_280⟩
def k0_mult7 (i : grid0.Coords) (k0_t2 : Fin (k0_t2_loop i).trips) : BitVec 32 :=
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c256_i32_319 : BitVec 32 := 256#32
  let v985 : BitVec 32 := Scalar.muli v984 c256_i32_319
  v985
def k0_off100 (i : grid0.Coords) (k0_t2 : Fin (k0_t2_loop i).trips) : Fin 3 → Nat :=
  let c0_320 : Index := 0#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c256_i32_319 : BitVec 32 := 256#32
  let v985 : BitVec 32 := Scalar.muli v984 c256_i32_319
  let v986 : BitVec 32 := v985
  let v987 : Index := Scalar.indexCast v986
  let c0_321 : Index := 0#32
  ![0, v987.toNat, 0]
def k0_mult8 (i : grid0.Coords) (k0_t2 : Fin (k0_t2_loop i).trips) : BitVec 32 :=
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  v1744
def k0_off101 (i : grid0.Coords) (k0_t2 : Fin (k0_t2_loop i).trips) : Fin 3 → Nat :=
  let c0_564 : Index := 0#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1746 : Index := Scalar.indexCast v1745
  let c0_565 : Index := 0#32
  ![0, v1746.toNat, 0]
def k0_off102 (i : grid0.Coords) (k0_t2 : Fin (k0_t2_loop i).trips) : Fin 3 → Nat :=
  let c1_566 : Index := 1#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1750 : Index := Scalar.indexCast v1745
  let c0_567 : Index := 0#32
  ![1, v1750.toNat, 0]
def k0_off103 (i : grid0.Coords) (k0_t2 : Fin (k0_t2_loop i).trips) : Fin 3 → Nat :=
  let c2_568 : Index := 2#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1754 : Index := Scalar.indexCast v1745
  let c0_569 : Index := 0#32
  ![2, v1754.toNat, 0]
def k0_off104 (i : grid0.Coords) (k0_t2 : Fin (k0_t2_loop i).trips) : Fin 3 → Nat :=
  let c3_570 : Index := 3#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1758 : Index := Scalar.indexCast v1745
  let c0_571 : Index := 0#32
  ![3, v1758.toNat, 0]
def k0_off105 (i : grid0.Coords) (k0_t2 : Fin (k0_t2_loop i).trips) : Fin 3 → Nat :=
  let c4_572 : Index := 4#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1762 : Index := Scalar.indexCast v1745
  let c0_573 : Index := 0#32
  ![4, v1762.toNat, 0]
def k0_off106 (i : grid0.Coords) (k0_t2 : Fin (k0_t2_loop i).trips) : Fin 3 → Nat :=
  let c5_574 : Index := 5#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1766 : Index := Scalar.indexCast v1745
  let c0_575 : Index := 0#32
  ![5, v1766.toNat, 0]
def k0_off107 (i : grid0.Coords) (k0_t2 : Fin (k0_t2_loop i).trips) : Fin 3 → Nat :=
  let c6_576 : Index := 6#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1770 : Index := Scalar.indexCast v1745
  let c0_577 : Index := 0#32
  ![6, v1770.toNat, 0]
def k0_off108 (i : grid0.Coords) (k0_t2 : Fin (k0_t2_loop i).trips) : Fin 3 → Nat :=
  let c7_578 : Index := 7#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1774 : Index := Scalar.indexCast v1745
  let c0_579 : Index := 0#32
  ![7, v1774.toNat, 0]
def k0_off109 (i : grid0.Coords) (k0_t2 : Fin (k0_t2_loop i).trips) : Fin 3 → Nat :=
  let c8_580 : Index := 8#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1778 : Index := Scalar.indexCast v1745
  let c0_581 : Index := 0#32
  ![8, v1778.toNat, 0]
def k0_off110 (i : grid0.Coords) (k0_t2 : Fin (k0_t2_loop i).trips) : Fin 3 → Nat :=
  let c9_582 : Index := 9#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1782 : Index := Scalar.indexCast v1745
  let c0_583 : Index := 0#32
  ![9, v1782.toNat, 0]
def k0_off111 (i : grid0.Coords) (k0_t2 : Fin (k0_t2_loop i).trips) : Fin 3 → Nat :=
  let c10_584 : Index := 10#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1786 : Index := Scalar.indexCast v1745
  let c0_585 : Index := 0#32
  ![10, v1786.toNat, 0]
def k0_off112 (i : grid0.Coords) (k0_t2 : Fin (k0_t2_loop i).trips) : Fin 3 → Nat :=
  let c11_586 : Index := 11#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1790 : Index := Scalar.indexCast v1745
  let c0_587 : Index := 0#32
  ![11, v1790.toNat, 0]
def k0_off113 (i : grid0.Coords) (k0_t2 : Fin (k0_t2_loop i).trips) : Fin 3 → Nat :=
  let c12_588 : Index := 12#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1794 : Index := Scalar.indexCast v1745
  let c0_589 : Index := 0#32
  ![12, v1794.toNat, 0]
def k0_off114 (i : grid0.Coords) (k0_t2 : Fin (k0_t2_loop i).trips) : Fin 3 → Nat :=
  let c13_590 : Index := 13#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1798 : Index := Scalar.indexCast v1745
  let c0_591 : Index := 0#32
  ![13, v1798.toNat, 0]
def k0_off115 (i : grid0.Coords) (k0_t2 : Fin (k0_t2_loop i).trips) : Fin 3 → Nat :=
  let c14_592 : Index := 14#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1802 : Index := Scalar.indexCast v1745
  let c0_593 : Index := 0#32
  ![14, v1802.toNat, 0]
def k0_off116 (i : grid0.Coords) (k0_t2 : Fin (k0_t2_loop i).trips) : Fin 3 → Nat :=
  let c15_594 : Index := 15#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1806 : Index := Scalar.indexCast v1745
  let c0_595 : Index := 0#32
  ![15, v1806.toNat, 0]
def k0_off117 (i : grid0.Coords) (k0_t2 : Fin (k0_t2_loop i).trips) : Fin 3 → Nat :=
  let c16_596 : Index := 16#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1810 : Index := Scalar.indexCast v1745
  let c0_597 : Index := 0#32
  ![16, v1810.toNat, 0]
def k0_off118 (i : grid0.Coords) (k0_t2 : Fin (k0_t2_loop i).trips) : Fin 3 → Nat :=
  let c17_598 : Index := 17#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1814 : Index := Scalar.indexCast v1745
  let c0_599 : Index := 0#32
  ![17, v1814.toNat, 0]
def k0_off119 (i : grid0.Coords) (k0_t2 : Fin (k0_t2_loop i).trips) : Fin 3 → Nat :=
  let c18_600 : Index := 18#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1818 : Index := Scalar.indexCast v1745
  let c0_601 : Index := 0#32
  ![18, v1818.toNat, 0]
def k0_off120 (i : grid0.Coords) (k0_t2 : Fin (k0_t2_loop i).trips) : Fin 3 → Nat :=
  let c19_602 : Index := 19#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1822 : Index := Scalar.indexCast v1745
  let c0_603 : Index := 0#32
  ![19, v1822.toNat, 0]
def k0_off121 (i : grid0.Coords) (k0_t2 : Fin (k0_t2_loop i).trips) : Fin 3 → Nat :=
  let c20_604 : Index := 20#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1826 : Index := Scalar.indexCast v1745
  let c0_605 : Index := 0#32
  ![20, v1826.toNat, 0]
def k0_off122 (i : grid0.Coords) (k0_t2 : Fin (k0_t2_loop i).trips) : Fin 3 → Nat :=
  let c21_606 : Index := 21#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1830 : Index := Scalar.indexCast v1745
  let c0_607 : Index := 0#32
  ![21, v1830.toNat, 0]
def k0_off123 (i : grid0.Coords) (k0_t2 : Fin (k0_t2_loop i).trips) : Fin 3 → Nat :=
  let c22_608 : Index := 22#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1834 : Index := Scalar.indexCast v1745
  let c0_609 : Index := 0#32
  ![22, v1834.toNat, 0]
def k0_off124 (i : grid0.Coords) (k0_t2 : Fin (k0_t2_loop i).trips) : Fin 3 → Nat :=
  let c23_610 : Index := 23#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1838 : Index := Scalar.indexCast v1745
  let c0_611 : Index := 0#32
  ![23, v1838.toNat, 0]
def k0_off125 (i : grid0.Coords) (k0_t2 : Fin (k0_t2_loop i).trips) : Fin 3 → Nat :=
  let c24_612 : Index := 24#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1842 : Index := Scalar.indexCast v1745
  let c0_613 : Index := 0#32
  ![24, v1842.toNat, 0]
def k0_off126 (i : grid0.Coords) (k0_t2 : Fin (k0_t2_loop i).trips) : Fin 3 → Nat :=
  let c25_614 : Index := 25#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1846 : Index := Scalar.indexCast v1745
  let c0_615 : Index := 0#32
  ![25, v1846.toNat, 0]
def k0_off127 (i : grid0.Coords) (k0_t2 : Fin (k0_t2_loop i).trips) : Fin 3 → Nat :=
  let c26_616 : Index := 26#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1850 : Index := Scalar.indexCast v1745
  let c0_617 : Index := 0#32
  ![26, v1850.toNat, 0]
def k0_off128 (i : grid0.Coords) (k0_t2 : Fin (k0_t2_loop i).trips) : Fin 3 → Nat :=
  let c27_618 : Index := 27#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1854 : Index := Scalar.indexCast v1745
  let c0_619 : Index := 0#32
  ![27, v1854.toNat, 0]
def k0_off129 (i : grid0.Coords) (k0_t2 : Fin (k0_t2_loop i).trips) : Fin 3 → Nat :=
  let c28_620 : Index := 28#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1858 : Index := Scalar.indexCast v1745
  let c0_621 : Index := 0#32
  ![28, v1858.toNat, 0]
def k0_off130 (i : grid0.Coords) (k0_t2 : Fin (k0_t2_loop i).trips) : Fin 3 → Nat :=
  let c29_622 : Index := 29#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1862 : Index := Scalar.indexCast v1745
  let c0_623 : Index := 0#32
  ![29, v1862.toNat, 0]
def k0_off131 (i : grid0.Coords) (k0_t2 : Fin (k0_t2_loop i).trips) : Fin 3 → Nat :=
  let c30_624 : Index := 30#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1866 : Index := Scalar.indexCast v1745
  let c0_625 : Index := 0#32
  ![30, v1866.toNat, 0]
def k0_off132 (i : grid0.Coords) (k0_t2 : Fin (k0_t2_loop i).trips) : Fin 3 → Nat :=
  let c31_626 : Index := 31#32
  let c2_i32_318 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v984 : BitVec 32 := Scalar.muli c2_i32_318 arg8
  let c8_i32_563 : BitVec 32 := 8#32
  let v1744 : BitVec 32 := Scalar.muli v984 c8_i32_563
  let v1745 : BitVec 32 := v1744
  let v1870 : Index := Scalar.indexCast v1745
  let c0_627 : Index := 0#32
  ![31, v1870.toNat, 0]
def k0_mult9 (i : grid0.Coords) (k0_t2 : Fin (k0_t2_loop i).trips) : BitVec 32 :=
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c256_i32_631 : BitVec 32 := 256#32
  let v1878 : BitVec 32 := Scalar.muli v1877 c256_i32_631
  v1878
def k0_off133 (i : grid0.Coords) (k0_t2 : Fin (k0_t2_loop i).trips) : Fin 3 → Nat :=
  let c0_632 : Index := 0#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c256_i32_631 : BitVec 32 := 256#32
  let v1878 : BitVec 32 := Scalar.muli v1877 c256_i32_631
  let v1879 : BitVec 32 := v1878
  let v1880 : Index := Scalar.indexCast v1879
  let c0_633 : Index := 0#32
  ![0, v1880.toNat, 0]
def k0_mult10 (i : grid0.Coords) (k0_t2 : Fin (k0_t2_loop i).trips) : BitVec 32 :=
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  v2637
def k0_off134 (i : grid0.Coords) (k0_t2 : Fin (k0_t2_loop i).trips) : Fin 3 → Nat :=
  let c0_876 : Index := 0#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2639 : Index := Scalar.indexCast v2638
  let c0_877 : Index := 0#32
  ![0, v2639.toNat, 0]
def k0_off135 (i : grid0.Coords) (k0_t2 : Fin (k0_t2_loop i).trips) : Fin 3 → Nat :=
  let c1_878 : Index := 1#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2643 : Index := Scalar.indexCast v2638
  let c0_879 : Index := 0#32
  ![1, v2643.toNat, 0]
def k0_off136 (i : grid0.Coords) (k0_t2 : Fin (k0_t2_loop i).trips) : Fin 3 → Nat :=
  let c2_880 : Index := 2#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2647 : Index := Scalar.indexCast v2638
  let c0_881 : Index := 0#32
  ![2, v2647.toNat, 0]
def k0_off137 (i : grid0.Coords) (k0_t2 : Fin (k0_t2_loop i).trips) : Fin 3 → Nat :=
  let c3_882 : Index := 3#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2651 : Index := Scalar.indexCast v2638
  let c0_883 : Index := 0#32
  ![3, v2651.toNat, 0]
def k0_off138 (i : grid0.Coords) (k0_t2 : Fin (k0_t2_loop i).trips) : Fin 3 → Nat :=
  let c4_884 : Index := 4#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2655 : Index := Scalar.indexCast v2638
  let c0_885 : Index := 0#32
  ![4, v2655.toNat, 0]
def k0_off139 (i : grid0.Coords) (k0_t2 : Fin (k0_t2_loop i).trips) : Fin 3 → Nat :=
  let c5_886 : Index := 5#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2659 : Index := Scalar.indexCast v2638
  let c0_887 : Index := 0#32
  ![5, v2659.toNat, 0]
def k0_off140 (i : grid0.Coords) (k0_t2 : Fin (k0_t2_loop i).trips) : Fin 3 → Nat :=
  let c6_888 : Index := 6#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2663 : Index := Scalar.indexCast v2638
  let c0_889 : Index := 0#32
  ![6, v2663.toNat, 0]
def k0_off141 (i : grid0.Coords) (k0_t2 : Fin (k0_t2_loop i).trips) : Fin 3 → Nat :=
  let c7_890 : Index := 7#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2667 : Index := Scalar.indexCast v2638
  let c0_891 : Index := 0#32
  ![7, v2667.toNat, 0]
def k0_off142 (i : grid0.Coords) (k0_t2 : Fin (k0_t2_loop i).trips) : Fin 3 → Nat :=
  let c8_892 : Index := 8#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2671 : Index := Scalar.indexCast v2638
  let c0_893 : Index := 0#32
  ![8, v2671.toNat, 0]
def k0_off143 (i : grid0.Coords) (k0_t2 : Fin (k0_t2_loop i).trips) : Fin 3 → Nat :=
  let c9_894 : Index := 9#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2675 : Index := Scalar.indexCast v2638
  let c0_895 : Index := 0#32
  ![9, v2675.toNat, 0]
def k0_off144 (i : grid0.Coords) (k0_t2 : Fin (k0_t2_loop i).trips) : Fin 3 → Nat :=
  let c10_896 : Index := 10#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2679 : Index := Scalar.indexCast v2638
  let c0_897 : Index := 0#32
  ![10, v2679.toNat, 0]
def k0_off145 (i : grid0.Coords) (k0_t2 : Fin (k0_t2_loop i).trips) : Fin 3 → Nat :=
  let c11_898 : Index := 11#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2683 : Index := Scalar.indexCast v2638
  let c0_899 : Index := 0#32
  ![11, v2683.toNat, 0]
def k0_off146 (i : grid0.Coords) (k0_t2 : Fin (k0_t2_loop i).trips) : Fin 3 → Nat :=
  let c12_900 : Index := 12#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2687 : Index := Scalar.indexCast v2638
  let c0_901 : Index := 0#32
  ![12, v2687.toNat, 0]
def k0_off147 (i : grid0.Coords) (k0_t2 : Fin (k0_t2_loop i).trips) : Fin 3 → Nat :=
  let c13_902 : Index := 13#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2691 : Index := Scalar.indexCast v2638
  let c0_903 : Index := 0#32
  ![13, v2691.toNat, 0]
def k0_off148 (i : grid0.Coords) (k0_t2 : Fin (k0_t2_loop i).trips) : Fin 3 → Nat :=
  let c14_904 : Index := 14#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2695 : Index := Scalar.indexCast v2638
  let c0_905 : Index := 0#32
  ![14, v2695.toNat, 0]
def k0_off149 (i : grid0.Coords) (k0_t2 : Fin (k0_t2_loop i).trips) : Fin 3 → Nat :=
  let c15_906 : Index := 15#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2699 : Index := Scalar.indexCast v2638
  let c0_907 : Index := 0#32
  ![15, v2699.toNat, 0]
def k0_off150 (i : grid0.Coords) (k0_t2 : Fin (k0_t2_loop i).trips) : Fin 3 → Nat :=
  let c16_908 : Index := 16#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2703 : Index := Scalar.indexCast v2638
  let c0_909 : Index := 0#32
  ![16, v2703.toNat, 0]
def k0_off151 (i : grid0.Coords) (k0_t2 : Fin (k0_t2_loop i).trips) : Fin 3 → Nat :=
  let c17_910 : Index := 17#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2707 : Index := Scalar.indexCast v2638
  let c0_911 : Index := 0#32
  ![17, v2707.toNat, 0]
def k0_off152 (i : grid0.Coords) (k0_t2 : Fin (k0_t2_loop i).trips) : Fin 3 → Nat :=
  let c18_912 : Index := 18#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2711 : Index := Scalar.indexCast v2638
  let c0_913 : Index := 0#32
  ![18, v2711.toNat, 0]
def k0_off153 (i : grid0.Coords) (k0_t2 : Fin (k0_t2_loop i).trips) : Fin 3 → Nat :=
  let c19_914 : Index := 19#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2715 : Index := Scalar.indexCast v2638
  let c0_915 : Index := 0#32
  ![19, v2715.toNat, 0]
def k0_off154 (i : grid0.Coords) (k0_t2 : Fin (k0_t2_loop i).trips) : Fin 3 → Nat :=
  let c20_916 : Index := 20#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2719 : Index := Scalar.indexCast v2638
  let c0_917 : Index := 0#32
  ![20, v2719.toNat, 0]
def k0_off155 (i : grid0.Coords) (k0_t2 : Fin (k0_t2_loop i).trips) : Fin 3 → Nat :=
  let c21_918 : Index := 21#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2723 : Index := Scalar.indexCast v2638
  let c0_919 : Index := 0#32
  ![21, v2723.toNat, 0]
def k0_off156 (i : grid0.Coords) (k0_t2 : Fin (k0_t2_loop i).trips) : Fin 3 → Nat :=
  let c22_920 : Index := 22#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2727 : Index := Scalar.indexCast v2638
  let c0_921 : Index := 0#32
  ![22, v2727.toNat, 0]
def k0_off157 (i : grid0.Coords) (k0_t2 : Fin (k0_t2_loop i).trips) : Fin 3 → Nat :=
  let c23_922 : Index := 23#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2731 : Index := Scalar.indexCast v2638
  let c0_923 : Index := 0#32
  ![23, v2731.toNat, 0]
def k0_off158 (i : grid0.Coords) (k0_t2 : Fin (k0_t2_loop i).trips) : Fin 3 → Nat :=
  let c24_924 : Index := 24#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2735 : Index := Scalar.indexCast v2638
  let c0_925 : Index := 0#32
  ![24, v2735.toNat, 0]
def k0_off159 (i : grid0.Coords) (k0_t2 : Fin (k0_t2_loop i).trips) : Fin 3 → Nat :=
  let c25_926 : Index := 25#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2739 : Index := Scalar.indexCast v2638
  let c0_927 : Index := 0#32
  ![25, v2739.toNat, 0]
def k0_off160 (i : grid0.Coords) (k0_t2 : Fin (k0_t2_loop i).trips) : Fin 3 → Nat :=
  let c26_928 : Index := 26#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2743 : Index := Scalar.indexCast v2638
  let c0_929 : Index := 0#32
  ![26, v2743.toNat, 0]
def k0_off161 (i : grid0.Coords) (k0_t2 : Fin (k0_t2_loop i).trips) : Fin 3 → Nat :=
  let c27_930 : Index := 27#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2747 : Index := Scalar.indexCast v2638
  let c0_931 : Index := 0#32
  ![27, v2747.toNat, 0]
def k0_off162 (i : grid0.Coords) (k0_t2 : Fin (k0_t2_loop i).trips) : Fin 3 → Nat :=
  let c28_932 : Index := 28#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2751 : Index := Scalar.indexCast v2638
  let c0_933 : Index := 0#32
  ![28, v2751.toNat, 0]
def k0_off163 (i : grid0.Coords) (k0_t2 : Fin (k0_t2_loop i).trips) : Fin 3 → Nat :=
  let c29_934 : Index := 29#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2755 : Index := Scalar.indexCast v2638
  let c0_935 : Index := 0#32
  ![29, v2755.toNat, 0]
def k0_off164 (i : grid0.Coords) (k0_t2 : Fin (k0_t2_loop i).trips) : Fin 3 → Nat :=
  let c30_936 : Index := 30#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2759 : Index := Scalar.indexCast v2638
  let c0_937 : Index := 0#32
  ![30, v2759.toNat, 0]
def k0_off165 (i : grid0.Coords) (k0_t2 : Fin (k0_t2_loop i).trips) : Fin 3 → Nat :=
  let c31_938 : Index := 31#32
  let c2_i32_628 : BitVec 32 := 2#32
  let c0_i32_277 : BitVec 32 := 0#32
  let arg1 : BitVec 32 := BitVec.ofNat 32 (i 1).val
  let c1_i32_268 : BitVec 32 := 1#32
  let v899 : BitVec 32 := Scalar.addi arg1 c1_i32_268
  let c0_i32_270 : BitVec 32 := 0#32
  let v901 : BitVec 1 := Scalar.cmpi .sgt v899 c0_i32_270
  let v902 : BitVec 32 := Scalar.extui v901
  let c0_i32_271 : BitVec 32 := 0#32
  let v903 : BitVec 1 := Scalar.cmpi .slt v899 c0_i32_271
  let v904 : BitVec 32 := Scalar.extui v903
  let v905 : BitVec 32 := Scalar.subi v902 v904
  let c2_i32_269 : BitVec 32 := 2#32
  let c0_i32_272 : BitVec 32 := 0#32
  let v906 : BitVec 1 := Scalar.cmpi .sgt c2_i32_269 c0_i32_272
  let v907 : BitVec 32 := Scalar.extui v906
  let c0_i32_273 : BitVec 32 := 0#32
  let v908 : BitVec 1 := Scalar.cmpi .slt c2_i32_269 c0_i32_273
  let v909 : BitVec 32 := Scalar.extui v908
  let v910 : BitVec 32 := Scalar.subi v907 v909
  let v911 : BitVec 1 := Scalar.cmpi .ne v905 v910
  let v912 : BitVec 32 := Scalar.remsi v899 c2_i32_269
  let c0_i32_274 : BitVec 32 := 0#32
  let v913 : BitVec 1 := Scalar.cmpi .ne v912 c0_i32_274
  let v914 : BitVec 1 := Scalar.andi v911 v913
  let v900 : BitVec 32 := Scalar.divsi v899 c2_i32_269
  let c1_i32_275 : BitVec 32 := 1#32
  let v915 : BitVec 32 := Scalar.subi v900 c1_i32_275
  let v916 : BitVec 32 := Scalar.select v914 v915 v900
  let v917 : BitVec 32 := Scalar.subi v916 c0_i32_277
  let c1_i32_278 : BitVec 32 := 1#32
  let v919 : BitVec 32 := Scalar.divsi v917 c1_i32_278
  let v920 : BitVec 32 := Scalar.muli v919 c1_i32_278
  let v921 : BitVec 32 := Scalar.addi c0_i32_277 v920
  let c1_i32_280 : BitVec 32 := 1#32
  let arg8 : BitVec 32 := Scf.iv v921 c1_i32_280 k0_t2
  let v1874 : BitVec 32 := Scalar.muli c2_i32_628 arg8
  let c1_i32_629 : BitVec 32 := 1#32
  let v1875 : BitVec 32 := Scalar.addi v1874 c1_i32_629
  let c1_i32_630 : BitVec 32 := 1#32
  let v1876 : BitVec 32 := Scalar.subi arg1 c1_i32_630
  let v1877 : BitVec 32 := Scalar.minsi v1875 v1876
  let c8_i32_875 : BitVec 32 := 8#32
  let v2637 : BitVec 32 := Scalar.muli v1877 c8_i32_875
  let v2638 : BitVec 32 := v2637
  let v2763 : Index := Scalar.indexCast v2638
  let c0_939 : Index := 0#32
  ![31, v2763.toNat, 0]
@[reducible] def k0_t3_loop : Scf.Loop 32 :=
  let c0_i32_297 : BitVec 32 := 0#32
  let c32_i32 : BitVec 32 := 32#32
  let v954 : BitVec 32 := Scalar.addi c0_i32_297 c32_i32
  let c1_i32_298 : BitVec 32 := 1#32
  ⟨c0_i32_297, v954, c1_i32_298⟩
@[reducible] def k0_t4_loop (i : grid0.Coords) : Scf.Loop 32 :=
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let c1_i32_322 : BitVec 32 := 1#32
  ⟨c0_i32_320, v992, c1_i32_322⟩
def k0_mult11 (i : grid0.Coords) (k0_t4 : Fin (k0_t4_loop i).trips) : BitVec 32 :=
  let c0_i32_320 : BitVec 32 := 0#32
  let c1_i32_322 : BitVec 32 := 1#32
  let arg12 : BitVec 32 := Scf.iv c0_i32_320 c1_i32_322 k0_t4
  let c32_i32_328 : BitVec 32 := 32#32
  let v1007 : BitVec 32 := Scalar.muli arg12 c32_i32_328
  v1007
def k0_off166 (i : grid0.Coords) (k0_t4 : Fin (k0_t4_loop i).trips) : Fin 2 → Nat :=
  let c0_i32_320 : BitVec 32 := 0#32
  let c1_i32_322 : BitVec 32 := 1#32
  let arg12 : BitVec 32 := Scf.iv c0_i32_320 c1_i32_322 k0_t4
  let c32_i32_328 : BitVec 32 := 32#32
  let v1007 : BitVec 32 := Scalar.muli arg12 c32_i32_328
  let v1008 : BitVec 32 := v1007
  let v1009 : Index := Scalar.indexCast v1008
  let c0_329 : Index := 0#32
  ![v1009.toNat, 0]
def k0_off167 (i : grid0.Coords) (k0_t3 : Fin k0_t3_loop.trips) (k0_t4 : Fin (k0_t4_loop i).trips) : Fin 3 → Nat :=
  let c31_i32 : BitVec 32 := 31#32
  let c0_i32_297 : BitVec 32 := 0#32
  let c1_i32_298 : BitVec 32 := 1#32
  let arg8 : BitVec 32 := Scf.iv c0_i32_297 c1_i32_298 k0_t3
  let v984 : BitVec 32 := Scalar.subi c31_i32 arg8
  let c1_i32_330 : BitVec 32 := 1#32
  let v1011 : BitVec 32 := Scalar.addi v984 c1_i32_330
  let v1012 : Index := Scalar.indexCast v1011
  let c0_i32_320 : BitVec 32 := 0#32
  let c1_i32_322 : BitVec 32 := 1#32
  let arg12 : BitVec 32 := Scf.iv c0_i32_320 c1_i32_322 k0_t4
  let c32_i32_328 : BitVec 32 := 32#32
  let v1007 : BitVec 32 := Scalar.muli arg12 c32_i32_328
  let v1008 : BitVec 32 := v1007
  let v1013 : Index := Scalar.indexCast v1008
  let c0_331 : Index := 0#32
  ![v1012.toNat, v1013.toNat, 0]
def k0_off168 (i : grid0.Coords) (k0_t3 : Fin k0_t3_loop.trips) (k0_t4 : Fin (k0_t4_loop i).trips) : Fin 3 → Nat :=
  let c31_i32 : BitVec 32 := 31#32
  let c0_i32_297 : BitVec 32 := 0#32
  let c1_i32_298 : BitVec 32 := 1#32
  let arg8 : BitVec 32 := Scf.iv c0_i32_297 c1_i32_298 k0_t3
  let v984 : BitVec 32 := Scalar.subi c31_i32 arg8
  let v1025 : Index := Scalar.indexCast v984
  let c0_i32_320 : BitVec 32 := 0#32
  let c1_i32_322 : BitVec 32 := 1#32
  let arg12 : BitVec 32 := Scf.iv c0_i32_320 c1_i32_322 k0_t4
  let c32_i32_328 : BitVec 32 := 32#32
  let v1007 : BitVec 32 := Scalar.muli arg12 c32_i32_328
  let v1008 : BitVec 32 := v1007
  let v1026 : Index := Scalar.indexCast v1008
  let c0_333 : Index := 0#32
  ![v1025.toNat, v1026.toNat, 0]
@[reducible] def k0_t5_loop (i : grid0.Coords) : Scf.Loop 32 :=
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let v989 : BitVec 32 := Scalar.addi c0_i32_320 v988
  let c1_i32_323 : BitVec 32 := 1#32
  ⟨v992, v989, c1_i32_323⟩
def k0_mult12 (i : grid0.Coords) (k0_t5 : Fin (k0_t5_loop i).trips) : BitVec 32 :=
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let c1_i32_323 : BitVec 32 := 1#32
  let arg12 : BitVec 32 := Scf.iv v992 c1_i32_323 k0_t5
  let c32_i32_328 : BitVec 32 := 32#32
  let v1007 : BitVec 32 := Scalar.muli arg12 c32_i32_328
  v1007
def k0_off169 (i : grid0.Coords) (k0_t5 : Fin (k0_t5_loop i).trips) : Fin 2 → Nat :=
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let c1_i32_323 : BitVec 32 := 1#32
  let arg12 : BitVec 32 := Scf.iv v992 c1_i32_323 k0_t5
  let c32_i32_328 : BitVec 32 := 32#32
  let v1007 : BitVec 32 := Scalar.muli arg12 c32_i32_328
  let v1008 : BitVec 32 := v1007
  let v1009 : Index := Scalar.indexCast v1008
  let c0_329 : Index := 0#32
  ![v1009.toNat, 0]
def k0_off170 (i : grid0.Coords) (k0_t3 : Fin k0_t3_loop.trips) (k0_t5 : Fin (k0_t5_loop i).trips) : Fin 3 → Nat :=
  let c31_i32 : BitVec 32 := 31#32
  let c0_i32_297 : BitVec 32 := 0#32
  let c1_i32_298 : BitVec 32 := 1#32
  let arg8 : BitVec 32 := Scf.iv c0_i32_297 c1_i32_298 k0_t3
  let v984 : BitVec 32 := Scalar.subi c31_i32 arg8
  let c1_i32_330 : BitVec 32 := 1#32
  let v1011 : BitVec 32 := Scalar.addi v984 c1_i32_330
  let v1012 : Index := Scalar.indexCast v1011
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let c1_i32_323 : BitVec 32 := 1#32
  let arg12 : BitVec 32 := Scf.iv v992 c1_i32_323 k0_t5
  let c32_i32_328 : BitVec 32 := 32#32
  let v1007 : BitVec 32 := Scalar.muli arg12 c32_i32_328
  let v1008 : BitVec 32 := v1007
  let v1013 : Index := Scalar.indexCast v1008
  let c0_331 : Index := 0#32
  ![v1012.toNat, v1013.toNat, 0]
def k0_off171 (i : grid0.Coords) (k0_t3 : Fin k0_t3_loop.trips) (k0_t5 : Fin (k0_t5_loop i).trips) : Fin 3 → Nat :=
  let c31_i32 : BitVec 32 := 31#32
  let c0_i32_297 : BitVec 32 := 0#32
  let c1_i32_298 : BitVec 32 := 1#32
  let arg8 : BitVec 32 := Scf.iv c0_i32_297 c1_i32_298 k0_t3
  let v984 : BitVec 32 := Scalar.subi c31_i32 arg8
  let v1025 : Index := Scalar.indexCast v984
  let c0_i32_320 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v988 : BitVec 32 := Scalar.subi v939 c0_i32_320
  let c1_i32_321 : BitVec 32 := 1#32
  let v990 : BitVec 32 := Scalar.divsi v988 c1_i32_321
  let v991 : BitVec 32 := Scalar.muli v990 c1_i32_321
  let v992 : BitVec 32 := Scalar.addi c0_i32_320 v991
  let c1_i32_323 : BitVec 32 := 1#32
  let arg12 : BitVec 32 := Scf.iv v992 c1_i32_323 k0_t5
  let c32_i32_328 : BitVec 32 := 32#32
  let v1007 : BitVec 32 := Scalar.muli arg12 c32_i32_328
  let v1008 : BitVec 32 := v1007
  let v1026 : Index := Scalar.indexCast v1008
  let c0_333 : Index := 0#32
  ![v1025.toNat, v1026.toNat, 0]
@[reducible] def k0_t6_loop (i : grid0.Coords) : Scf.Loop 32 :=
  let c0_i32_302 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v959 : BitVec 32 := Scalar.subi v939 c0_i32_302
  let c1_i32_303 : BitVec 32 := 1#32
  let v961 : BitVec 32 := Scalar.divsi v959 c1_i32_303
  let v962 : BitVec 32 := Scalar.muli v961 c1_i32_303
  let v963 : BitVec 32 := Scalar.addi c0_i32_302 v962
  let c1_i32_304 : BitVec 32 := 1#32
  ⟨c0_i32_302, v963, c1_i32_304⟩
def k0_mult13 (i : grid0.Coords) (k0_t6 : Fin (k0_t6_loop i).trips) : BitVec 32 :=
  let c0_i32_302 : BitVec 32 := 0#32
  let c1_i32_304 : BitVec 32 := 1#32
  let arg8 : BitVec 32 := Scf.iv c0_i32_302 c1_i32_304 k0_t6
  let c32_i32_318 : BitVec 32 := 32#32
  let v984 : BitVec 32 := Scalar.muli arg8 c32_i32_318
  v984
def k0_off172 (i : grid0.Coords) (k0_t6 : Fin (k0_t6_loop i).trips) : Fin 2 → Nat :=
  let c0_i32_302 : BitVec 32 := 0#32
  let c1_i32_304 : BitVec 32 := 1#32
  let arg8 : BitVec 32 := Scf.iv c0_i32_302 c1_i32_304 k0_t6
  let c32_i32_318 : BitVec 32 := 32#32
  let v984 : BitVec 32 := Scalar.muli arg8 c32_i32_318
  let v985 : BitVec 32 := v984
  let v986 : Index := Scalar.indexCast v985
  let c0_319 : Index := 0#32
  ![v986.toNat, 0]
def k0_off173 (i : grid0.Coords) (k0_t6 : Fin (k0_t6_loop i).trips) : Fin 3 → Nat :=
  let c0_321 : Index := 0#32
  let c0_i32_302 : BitVec 32 := 0#32
  let c1_i32_304 : BitVec 32 := 1#32
  let arg8 : BitVec 32 := Scf.iv c0_i32_302 c1_i32_304 k0_t6
  let c32_i32_318 : BitVec 32 := 32#32
  let v984 : BitVec 32 := Scalar.muli arg8 c32_i32_318
  let v985 : BitVec 32 := v984
  let v990 : Index := Scalar.indexCast v985
  let c0_322 : Index := 0#32
  ![0, v990.toNat, 0]
@[reducible] def k0_t7_loop (i : grid0.Coords) : Scf.Loop 32 :=
  let c0_i32_302 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v959 : BitVec 32 := Scalar.subi v939 c0_i32_302
  let c1_i32_303 : BitVec 32 := 1#32
  let v961 : BitVec 32 := Scalar.divsi v959 c1_i32_303
  let v962 : BitVec 32 := Scalar.muli v961 c1_i32_303
  let v963 : BitVec 32 := Scalar.addi c0_i32_302 v962
  let v960 : BitVec 32 := Scalar.addi c0_i32_302 v959
  let c1_i32_305 : BitVec 32 := 1#32
  ⟨v963, v960, c1_i32_305⟩
def k0_mult14 (i : grid0.Coords) (k0_t7 : Fin (k0_t7_loop i).trips) : BitVec 32 :=
  let c0_i32_302 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v959 : BitVec 32 := Scalar.subi v939 c0_i32_302
  let c1_i32_303 : BitVec 32 := 1#32
  let v961 : BitVec 32 := Scalar.divsi v959 c1_i32_303
  let v962 : BitVec 32 := Scalar.muli v961 c1_i32_303
  let v963 : BitVec 32 := Scalar.addi c0_i32_302 v962
  let c1_i32_305 : BitVec 32 := 1#32
  let arg8 : BitVec 32 := Scf.iv v963 c1_i32_305 k0_t7
  let c32_i32_318 : BitVec 32 := 32#32
  let v984 : BitVec 32 := Scalar.muli arg8 c32_i32_318
  v984
def k0_off174 (i : grid0.Coords) (k0_t7 : Fin (k0_t7_loop i).trips) : Fin 2 → Nat :=
  let c0_i32_302 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v959 : BitVec 32 := Scalar.subi v939 c0_i32_302
  let c1_i32_303 : BitVec 32 := 1#32
  let v961 : BitVec 32 := Scalar.divsi v959 c1_i32_303
  let v962 : BitVec 32 := Scalar.muli v961 c1_i32_303
  let v963 : BitVec 32 := Scalar.addi c0_i32_302 v962
  let c1_i32_305 : BitVec 32 := 1#32
  let arg8 : BitVec 32 := Scf.iv v963 c1_i32_305 k0_t7
  let c32_i32_318 : BitVec 32 := 32#32
  let v984 : BitVec 32 := Scalar.muli arg8 c32_i32_318
  let v985 : BitVec 32 := v984
  let v986 : Index := Scalar.indexCast v985
  let c0_319 : Index := 0#32
  ![v986.toNat, 0]
def k0_off175 (i : grid0.Coords) (k0_t7 : Fin (k0_t7_loop i).trips) : Fin 3 → Nat :=
  let c0_321 : Index := 0#32
  let c0_i32_302 : BitVec 32 := 0#32
  let arg1 : BitVec 32 := BitVec.ofNat 32 (i 1).val
  let c0_i32_282 : BitVec 32 := 0#32
  let v923 : BitVec 1 := Scalar.cmpi .sgt arg1 c0_i32_282
  let v924 : BitVec 32 := Scalar.extui v923
  let c0_i32_283 : BitVec 32 := 0#32
  let v925 : BitVec 1 := Scalar.cmpi .slt arg1 c0_i32_283
  let v926 : BitVec 32 := Scalar.extui v925
  let v927 : BitVec 32 := Scalar.subi v924 v926
  let c4_i32_281 : BitVec 32 := 4#32
  let c0_i32_284 : BitVec 32 := 0#32
  let v928 : BitVec 1 := Scalar.cmpi .sgt c4_i32_281 c0_i32_284
  let v929 : BitVec 32 := Scalar.extui v928
  let c0_i32_285 : BitVec 32 := 0#32
  let v930 : BitVec 1 := Scalar.cmpi .slt c4_i32_281 c0_i32_285
  let v931 : BitVec 32 := Scalar.extui v930
  let v932 : BitVec 32 := Scalar.subi v929 v931
  let v933 : BitVec 1 := Scalar.cmpi .ne v927 v932
  let v934 : BitVec 32 := Scalar.remsi arg1 c4_i32_281
  let c0_i32_286 : BitVec 32 := 0#32
  let v935 : BitVec 1 := Scalar.cmpi .ne v934 c0_i32_286
  let v936 : BitVec 1 := Scalar.andi v933 v935
  let v922 : BitVec 32 := Scalar.divsi arg1 c4_i32_281
  let c1_i32_287 : BitVec 32 := 1#32
  let v937 : BitVec 32 := Scalar.subi v922 c1_i32_287
  let v938 : BitVec 32 := Scalar.select v936 v937 v922
  let c1_i32_288 : BitVec 32 := 1#32
  let v939 : BitVec 32 := Scalar.addi v938 c1_i32_288
  let v959 : BitVec 32 := Scalar.subi v939 c0_i32_302
  let c1_i32_303 : BitVec 32 := 1#32
  let v961 : BitVec 32 := Scalar.divsi v959 c1_i32_303
  let v962 : BitVec 32 := Scalar.muli v961 c1_i32_303
  let v963 : BitVec 32 := Scalar.addi c0_i32_302 v962
  let c1_i32_305 : BitVec 32 := 1#32
  let arg8 : BitVec 32 := Scf.iv v963 c1_i32_305 k0_t7
  let c32_i32_318 : BitVec 32 := 32#32
  let v984 : BitVec 32 := Scalar.muli arg8 c32_i32_318
  let v985 : BitVec 32 := v984
  let v990 : Index := Scalar.indexCast v985
  let c0_322 : Index := 0#32
  ![0, v990.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SelectReference.lean ====
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192x256 : Shape := ⟨3, ![8, 8192, 256]⟩
abbrev S8x8192x1 : Shape := ⟨3, ![8, 8192, 1]⟩
abbrev S8x8192 : Shape := ⟨2, ![8, 8192]⟩
abbrev S8x1x8192 : Shape := ⟨3, ![8, 1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x8192, .i32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S_, .i32⟩
  | .hbm, ⟨8, _⟩ => ⟨S_, .i32⟩
  | .hbm, ⟨9, _⟩ => ⟨S8x8192x8192, .i1⟩
  | .hbm, ⟨10, _⟩ => ⟨S8x8192x8192, .i32⟩
  | .hbm, ⟨11, _⟩ => ⟨S8x8192x8192, .i32⟩
  | .hbm, ⟨12, _⟩ => ⟨S8x8192x8192, .i32⟩
  | .hbm, ⟨13, _⟩ => ⟨S8x8192x256, .i32⟩
  | .hbm, ⟨14, _⟩ => ⟨S8x8192x256, .i32⟩
  | .hbm, ⟨15, _⟩ => ⟨S8x8192x1, .i32⟩
  | .hbm, ⟨16, _⟩ => ⟨S8x8192, .i32⟩
  | .hbm, ⟨17, _⟩ => ⟨S8x1x8192, .i32⟩
  | .hbm, ⟨18, _⟩ => ⟨S8x8192x8192, .i32⟩
  | .hbm, ⟨19, _⟩ => ⟨S8x8192x8192, .i1⟩
  | .hbm, ⟨20, _⟩ => ⟨S_, .i32⟩
  | .hbm, ⟨21, _⟩ => ⟨S_, .i32⟩
  | .hbm, ⟨22, _⟩ => ⟨S8x8192x8192, .i32⟩
  | .hbm, ⟨23, _⟩ => ⟨S8x8192x8192, .i32⟩
  | .hbm, ⟨24, _⟩ => ⟨S8x8192x8192, .i32⟩
  | .hbm, ⟨25, _⟩ => ⟨S8x8192x8192, .i32⟩
  | .hbm, ⟨26, _⟩ => ⟨S_, .i32⟩
  | .hbm, ⟨27, _⟩ => ⟨S8x8192, .i32⟩
  | .hbm, ⟨28, _⟩ => ⟨S8x1x8192, .i32⟩
  | .hbm, ⟨29, _⟩ => ⟨S_, .i32⟩
  | .hbm, ⟨30, _⟩ => ⟨S8x1x8192, .i32⟩
  | .hbm, ⟨31, _⟩ => ⟨S8x1x8192, .i32⟩
  | .hbm, ⟨32, _⟩ => ⟨S8x8192x8192, .i32⟩
  | .hbm, ⟨33, _⟩ => ⟨S8x8192x8192, .i1⟩
  | .hbm, ⟨34, _⟩ => ⟨S_, .i32⟩
  | .hbm, ⟨35, _⟩ => ⟨S_, .i32⟩
  | .hbm, ⟨36, _⟩ => ⟨S8x8192x8192, .i32⟩
  | .hbm, ⟨37, _⟩ => ⟨S8x8192x8192, .i32⟩
  | .hbm, ⟨38, _⟩ => ⟨S8x8192x8192, .i32⟩
  | .hbm, ⟨39, _⟩ => ⟨S8x8192x8192, .i32⟩
  | .hbm, ⟨40, _⟩ => ⟨S_, .i32⟩
  | .hbm, ⟨41, _⟩ => ⟨S8x8192, .i32⟩
  | .hbm, ⟨42, _⟩ => ⟨S8x1x8192, .i32⟩
  | .hbm, ⟨43, _⟩ => ⟨S8x1x8192, .i1⟩
  | .hbm, ⟨44, _⟩ => ⟨S_, .i32⟩
  | .hbm, ⟨45, _⟩ => ⟨S8x1x8192, .i32⟩
  | .hbm, ⟨46, _⟩ => ⟨S8x1x8192, .i1⟩
  | .hbm, ⟨47, _⟩ => ⟨S8x1x8192, .i1⟩
  | .hbm, ⟨48, _⟩ => ⟨S_, .i32⟩
  | .hbm, ⟨49, _⟩ => ⟨S_, .i32⟩
  | .hbm, ⟨50, _⟩ => ⟨S8x1x8192, .i32⟩
  | .hbm, ⟨51, _⟩ => ⟨S8x1x8192, .i32⟩
  | .hbm, ⟨52, _⟩ => ⟨S8x1x8192, .i32⟩
  | _, _ => ⟨S8x8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_c_5 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_c_9 : Ref sig .tc := ⟨.hbm, 49, rfl⟩
abbrev main_call3_v0 : Ref sig .tc := ⟨.hbm, 50, rfl⟩
abbrev main_call3_v1 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== ExpertsIdeal.lean ====
abbrev S65536x1024 : Shape := ⟨2, ![65536, 1024]⟩
abbrev S8x6x1024 : Shape := ⟨3, ![8, 6, 1024]⟩
abbrev S16x65536 : Shape := ⟨2, ![16, 65536]⟩
abbrev S1x65536 : Shape := ⟨2, ![1, 65536]⟩
abbrev S16x1024x512 : Shape := ⟨3, ![16, 1024, 512]⟩
abbrev S16x512x1024 : Shape := ⟨3, ![16, 512, 1024]⟩
abbrev S1024 : Shape := ⟨1, ![1024]⟩
abbrev S1x16x1024x512 : Shape := ⟨4, ![1, 16, 1024, 512]⟩
abbrev S1x4x2048x1024 : Shape := ⟨4, ![1, 4, 2048, 1024]⟩
abbrev S1x1024 : Shape := ⟨2, ![1, 1024]⟩
abbrev S1024x1024 : Shape := ⟨2, ![1024, 1024]⟩
abbrev S1x6x1024 : Shape := ⟨3, ![1, 6, 1024]⟩
abbrev S16x1024 : Shape := ⟨2, ![16, 1024]⟩
abbrev S1x4x1024x512 : Shape := ⟨4, ![1, 4, 1024, 512]⟩
abbrev S1x1x2048x1024 : Shape := ⟨4, ![1, 1, 2048, 1024]⟩
abbrev S1536x1024 : Shape := ⟨2, ![1536, 1024]⟩
abbrev S1536x128 : Shape := ⟨2, ![1536, 128]⟩
abbrev S8 : Shape := ⟨1, ![8]⟩
abbrev S1x1x1024 : Shape := ⟨3, ![1, 1, 1024]⟩
abbrev S4x1024 : Shape := ⟨2, ![4, 1024]⟩
abbrev S8x1024 : Shape := ⟨2, ![8, 1024]⟩
abbrev S1x1 : Shape := ⟨2, ![1, 1]⟩
abbrev S1x1x1 : Shape := ⟨3, ![1, 1, 1]⟩
abbrev S1 : Shape := ⟨1, ![1]⟩
abbrev S112x1024 : Shape := ⟨2, ![112, 1024]⟩
abbrev S128x1024 : Shape := ⟨2, ![128, 1024]⟩
abbrev S1024x128 : Shape := ⟨2, ![1024, 128]⟩
abbrev S1024x1280 : Shape := ⟨2, ![1024, 1280]⟩
abbrev S1536x1280 : Shape := ⟨2, ![1536, 1280]⟩
abbrev S128x128 : Shape := ⟨2, ![128, 128]⟩
abbrev S128 : Shape := ⟨1, ![128]⟩
abbrev S128x1 : Shape := ⟨2, ![128, 1]⟩
abbrev S1x1x1024x512 : Shape := ⟨4, ![1, 1, 1024, 512]⟩
abbrev S1024x512 : Shape := ⟨2, ![1024, 512]⟩
abbrev S128x512 : Shape := ⟨2, ![128, 512]⟩
abbrev S128x2048 : Shape := ⟨2, ![128, 2048]⟩
abbrev S2048x1024 : Shape := ⟨2, ![2048, 1024]⟩
abbrev S1024x1 : Shape := ⟨2, ![1024, 1]⟩

abbrev nBuf : Space → Nat
  | .hbm => 18
  | .vmem => 22
  | .smem => 1
  | _ => 0

abbrev bufTy : (tb : Table) → Fin (tcTables nBuf tb) → BufTy
  | .hbm, ⟨0, _⟩ => ⟨S65536x1024, .f32⟩
  | .hbm, ⟨1, _⟩ => ⟨S8x6x1024, .f32⟩
  | .hbm, ⟨2, _⟩ => ⟨S16x65536, .f32⟩
  | .hbm, ⟨3, _⟩ => ⟨S1x65536, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024, .f32⟩
  | .hbm, ⟨9, _⟩ => ⟨S1x16x1024x512, .f32⟩
  | .hbm, ⟨10, _⟩ => ⟨S1x16x1024x512, .bf16⟩
  | .hbm, ⟨11, _⟩ => ⟨S1x16x1024x512, .f32⟩
  | .hbm, ⟨12, _⟩ => ⟨S1x16x1024x512, .bf16⟩
  | .hbm, ⟨13, _⟩ => ⟨S1x4x2048x1024, .f32⟩
  | .hbm, ⟨14, _⟩ => ⟨S1x4x2048x1024, .bf16⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .i32⟩
  | .local _ .vmem, ⟨7, _⟩ => ⟨S1x1024, .i32⟩
  | .local _ .vmem, ⟨8, _⟩ => ⟨S1x4x1024x512, .bf16⟩
  | .local _ .vmem, ⟨9, _⟩ => ⟨S1x4x1024x512, .bf16⟩
  | .local _ .vmem, ⟨10, _⟩ => ⟨S1x4x1024x512, .bf16⟩
  | .local _ .vmem, ⟨11, _⟩ => ⟨S1x4x1024x512, .bf16⟩
  | .local _ .vmem, ⟨12, _⟩ => ⟨S1x1x2048x1024, .bf16⟩
  | .local _ .vmem, ⟨13, _⟩ => ⟨S1x1x2048x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1536x1024, .bf16⟩
  | .local _ .vmem, ⟨19, _⟩ => ⟨S1536x1024, .bf16⟩
  | .local _ .vmem, ⟨20, _⟩ => ⟨S1536x128, .f32⟩
  | .local _ .vmem, ⟨21, _⟩ => ⟨S1536x1024, .bf16⟩
  | .local _ .smem, ⟨0, _⟩ => ⟨S8, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 4], ![false, false]⟩

def k0_off1 (i : grid0.Coords) : Fin 1 → Nat :=
  let c2_i32 : BitVec 32 := 2#32
  let arg1 : BitVec 32 := BitVec.ofNat 32 (i 1).val
  let v4 : BitVec 32 := Scalar.muli c2_i32 arg1
  let c1_i32 : BitVec 32 := 1#32
  let v5 : BitVec 32 := Scalar.addi v4 c1_i32
  let v6 : Index := Scalar.indexCast v5
  ![v6.toNat]
@[reducible] def k0_t1_loop (v7 : BitVec 32) : Scf.Loop 32 :=
  let c0_i32_2 : BitVec 32 := 0#32
  let v8 : BitVec 32 := Scalar.subi v7 c0_i32_2
  let c1_i32_3 : BitVec 32 := 1#32
  let v10 : BitVec 32 := Scalar.divsi v8 c1_i32_3
  let v11 : BitVec 32 := Scalar.muli v10 c1_i32_3
  let v12 : BitVec 32 := Scalar.addi c0_i32_2 v11
  let c1_i32_4 : BitVec 32 := 1#32
  ⟨c0_i32_2, v12, c1_i32_4⟩

def k0_off2 (i : grid0.Coords) : Fin 1 → Nat :=
  let c2_i32_7 : BitVec 32 := 2#32
  let arg1 : BitVec 32 := BitVec.ofNat 32 (i 1).val
  let v16 : BitVec 32 := Scalar.muli c2_i32_7 arg1
  let v17 : Index := Scalar.indexCast v16
  ![v17.toNat]
def k0_mult1 (v7 : BitVec 32) (k0_t1 : Fin (k0_t1_loop v7).trips) (v18 : BitVec 32) : BitVec 32 :=
  let c0_i32_2 : BitVec 32 := 0#32
  let c1_i32_4 : BitVec 32 := 1#32
  let arg17 : BitVec 32 := Scf.iv c0_i32_2 c1_i32_4 k0_t1
  let v19 : BitVec 32 := Scalar.addi v18 arg17
  let c128_i32 : BitVec 32 := 128#32
  let v20 : BitVec 32 := Scalar.muli v19 c128_i32
  v20

def k0_off3 (v7 : BitVec 32) (k0_t1 : Fin (k0_t1_loop v7).trips) (v18 : BitVec 32) : Fin 2 → Nat :=
  let c0_i32_2 : BitVec 32 := 0#32
  let c1_i32_4 : BitVec 32 := 1#32
  let arg17 : BitVec 32 := Scf.iv c0_i32_2 c1_i32_4 k0_t1
  let v19 : BitVec 32 := Scalar.addi v18 arg17
  let c128_i32 : BitVec 32 := 128#32
  let v20 : BitVec 32 := Scalar.muli v19 c128_i32
  let v21 : BitVec 32 := v20
  let v22 : Index := Scalar.indexCast v21
  let c0 : Index := 0#32
  ![v22.toNat, 0]
def k0_off4 (v7 : BitVec 32) (k0_t1 : Fin (k0_t1_loop v7).trips) (v18 : BitVec 32) : Fin 2 → Nat :=
  let c0_i32_2 : BitVec 32 := 0#32
  let c1_i32_4 : BitVec 32 := 1#32
  let arg17 : BitVec 32 := Scf.iv c0_i32_2 c1_i32_4 k0_t1
  let v19 : BitVec 32 := Scalar.addi v18 arg17
  let c128_i32 : BitVec 32 := 128#32
  let v20 : BitVec 32 := Scalar.muli v19 c128_i32
  let v21 : BitVec 32 := v20
  let v24 : Index := Scalar.indexCast v21
  let c0_8 : Index := 0#32
  ![v24.toNat, 0]

def k0_chk2 (v7 : BitVec 32) (k0_t1 : Fin (k0_t1_loop v7).trips) (v18 : BitVec 32) : Prop :=
  (128 ∣ (k0_mult1 v7 k0_t1 v18).toNat) ∧
  (∀ a, (k0_off3 v7 k0_t1 v18) a + S128x1024.size a ≤ S1536x1024.size a) ∧
  (∀ a, (k0_off4 v7 k0_t1 v18) a + S128x128.size a ≤ S1536x128.size a) ∧
  (∀ (hinb : ∀ a, (k0_off3 v7 k0_t1 v18) a + S128x1024.size a ≤ S1536x1024.size a), (Rect.unit (s := S1536x1024) (k0_off3 v7 k0_t1 v18) S128x1024.size hinb).PackedRows (EltTy.packing .bf16))
theorem k0_mult1_dvd : ∀ (v7 : BitVec 32) (k0_t1 : Fin (k0_t1_loop v7).trips) (v18 : BitVec 32) (k0_hw2 : k0_chk2 v7 k0_t1 v18), 128 ∣ (k0_mult1 v7 k0_t1 v18).toNat := fun v7 k0_t1 v18 k0_hw2 => k0_hw2.1
theorem k0_off3_inb : ∀ (v7 : BitVec 32) (k0_t1 : Fin (k0_t1_loop v7).trips) (v18 : BitVec 32) (k0_hw2 : k0_chk2 v7 k0_t1 v18), ∀ a, (k0_off3 v7 k0_t1 v18) a + S128x1024.size a ≤ S1536x1024.size a := fun v7 k0_t1 v18 k0_hw2 => k0_hw2.2.1
theorem k0_off4_inb : ∀ (v7 : BitVec 32) (k0_t1 : Fin (k0_t1_loop v7).trips) (v18 : BitVec 32) (k0_hw2 : k0_chk2 v7 k0_t1 v18), ∀ a, (k0_off4 v7 k0_t1 v18) a + S128x128.size a ≤ S1536x128.size a := fun v7 k0_t1 v18 k0_hw2 => k0_hw2.2.2.1
theorem k0_off3_packedbf16 : ∀ (v7 : BitVec 32) (k0_t1 : Fin (k0_t1_loop v7).trips) (v18 : BitVec 32) (k0_hw2 : k0_chk2 v7 k0_t1 v18), (Rect.unit (s := S1536x1024) (k0_off3 v7 k0_t1 v18) S128x1024.size (k0_off3_inb v7 k0_t1 v18 k0_hw2)).PackedRows (EltTy.packing .bf16) := fun v7 k0_t1 v18 k0_hw2 => k0_hw2.2.2.2 (k0_off3_inb v7 k0_t1 v18 k0_hw2)

@[reducible] def k0_t2_loop (v7 : BitVec 32) : Scf.Loop 32 :=
  let c0_i32_2 : BitVec 32 := 0#32
  let v8 : BitVec 32 := Scalar.subi v7 c0_i32_2
  let c1_i32_3 : BitVec 32 := 1#32
  let v10 : BitVec 32 := Scalar.divsi v8 c1_i32_3
  let v11 : BitVec 32 := Scalar.muli v10 c1_i32_3
  let v12 : BitVec 32 := Scalar.addi c0_i32_2 v11
  let v9 : BitVec 32 := Scalar.addi c0_i32_2 v8
  let c1_i32_5 : BitVec 32 := 1#32
  ⟨v12, v9, c1_i32_5⟩

def k0_chk1 (v7 : BitVec 32) : Prop :=
  ((k0_t1_loop v7).OK) ∧
  ((k0_t2_loop v7).OK)
theorem k0_t1_ok : ∀ (v7 : BitVec 32) (k0_hw1 : k0_chk1 v7), (k0_t1_loop v7).OK := fun v7 k0_hw1 => k0_hw1.1
theorem k0_t2_ok : ∀ (v7 : BitVec 32) (k0_hw1 : k0_chk1 v7), (k0_t2_loop v7).OK := fun v7 k0_hw1 => k0_hw1.2

def k0_off5 (i : grid0.Coords) : Fin 1 → Nat :=
  let c2_i32_7 : BitVec 32 := 2#32
  let arg1 : BitVec 32 := BitVec.ofNat 32 (i 1).val
  let v16 : BitVec 32 := Scalar.muli c2_i32_7 arg1
  let v17 : Index := Scalar.indexCast v16
  ![v17.toNat]
def k0_mult2 (v7 : BitVec 32) (k0_t2 : Fin (k0_t2_loop v7).trips) (v18 : BitVec 32) : BitVec 32 :=
  let c0_i32_2 : BitVec 32 := 0#32
  let v8 : BitVec 32 := Scalar.subi v7 c0_i32_2
  let c1_i32_3 : BitVec 32 := 1#32
  let v10 : BitVec 32 := Scalar.divsi v8 c1_i32_3
  let v11 : BitVec 32 := Scalar.muli v10 c1_i32_3
  let v12 : BitVec 32 := Scalar.addi c0_i32_2 v11
  let c1_i32_5 : BitVec 32 := 1#32
  let arg17 : BitVec 32 := Scf.iv v12 c1_i32_5 k0_t2
  let v19 : BitVec 32 := Scalar.addi v18 arg17
  let c128_i32 : BitVec 32 := 128#32
  let v20 : BitVec 32 := Scalar.muli v19 c128_i32
  v20

def k0_off6 (v7 : BitVec 32) (k0_t2 : Fin (k0_t2_loop v7).trips) (v18 : BitVec 32) : Fin 2 → Nat :=
  let c0_i32_2 : BitVec 32 := 0#32
  let v8 : BitVec 32 := Scalar.subi v7 c0_i32_2
  let c1_i32_3 : BitVec 32 := 1#32
  let v10 : BitVec 32 := Scalar.divsi v8 c1_i32_3
  let v11 : BitVec 32 := Scalar.muli v10 c1_i32_3
  let v12 : BitVec 32 := Scalar.addi c0_i32_2 v11
  let c1_i32_5 : BitVec 32 := 1#32
  let arg17 : BitVec 32 := Scf.iv v12 c1_i32_5 k0_t2
  let v19 : BitVec 32 := Scalar.addi v18 arg17
  let c128_i32 : BitVec 32 := 128#32
  let v20 : BitVec 32 := Scalar.muli v19 c128_i32
  let v21 : BitVec 32 := v20
  let v22 : Index := Scalar.indexCast v21
  let c0 : Index := 0#32
  ![v22.toNat, 0]
def k0_off7 (v7 : BitVec 32) (k0_t2 : Fin (k0_t2_loop v7).trips) (v18 : BitVec 32) : Fin 2 → Nat :=
  let c0_i32_2 : BitVec 32 := 0#32
  let v8 : BitVec 32 := Scalar.subi v7 c0_i32_2
  let c1_i32_3 : BitVec 32 := 1#32
  let v10 : BitVec 32 := Scalar.divsi v8 c1_i32_3
  let v11 : BitVec 32 := Scalar.muli v10 c1_i32_3
  let v12 : BitVec 32 := Scalar.addi c0_i32_2 v11
  let c1_i32_5 : BitVec 32 := 1#32
  let arg17 : BitVec 32 := Scf.iv v12 c1_i32_5 k0_t2
  let v19 : BitVec 32 := Scalar.addi v18 arg17
  let c128_i32 : BitVec 32 := 128#32
  let v20 : BitVec 32 := Scalar.muli v19 c128_i32
  let v21 : BitVec 32 := v20
  let v24 : Index := Scalar.indexCast v21
  let c0_8 : Index := 0#32
  ![v24.toNat, 0]

def k0_chk3 (v7 : BitVec 32) (k0_t2 : Fin (k0_t2_loop v7).trips) (v18 : BitVec 32) : Prop :=
  (128 ∣ (k0_mult2 v7 k0_t2 v18).toNat) ∧
  (∀ a, (k0_off6 v7 k0_t2 v18) a + S128x1024.size a ≤ S1536x1024.size a) ∧
  (∀ a, (k0_off7 v7 k0_t2 v18) a + S128x128.size a ≤ S1536x128.size a) ∧
  (∀ (hinb : ∀ a, (k0_off6 v7 k0_t2 v18) a + S128x1024.size a ≤ S1536x1024.size a), (Rect.unit (s := S1536x1024) (k0_off6 v7 k0_t2 v18) S128x1024.size hinb).PackedRows (EltTy.packing .bf16))
theorem k0_mult2_dvd : ∀ (v7 : BitVec 32) (k0_t2 : Fin (k0_t2_loop v7).trips) (v18 : BitVec 32) (k0_hw3 : k0_chk3 v7 k0_t2 v18), 128 ∣ (k0_mult2 v7 k0_t2 v18).toNat := fun v7 k0_t2 v18 k0_hw3 => k0_hw3.1
theorem k0_off6_inb : ∀ (v7 : BitVec 32) (k0_t2 : Fin (k0_t2_loop v7).trips) (v18 : BitVec 32) (k0_hw3 : k0_chk3 v7 k0_t2 v18), ∀ a, (k0_off6 v7 k0_t2 v18) a + S128x1024.size a ≤ S1536x1024.size a := fun v7 k0_t2 v18 k0_hw3 => k0_hw3.2.1
theorem k0_off7_inb : ∀ (v7 : BitVec 32) (k0_t2 : Fin (k0_t2_loop v7).trips) (v18 : BitVec 32) (k0_hw3 : k0_chk3 v7 k0_t2 v18), ∀ a, (k0_off7 v7 k0_t2 v18) a + S128x128.size a ≤ S1536x128.size a := fun v7 k0_t2 v18 k0_hw3 => k0_hw3.2.2.1
theorem k0_off6_packedbf16 : ∀ (v7 : BitVec 32) (k0_t2 : Fin (k0_t2_loop v7).trips) (v18 : BitVec 32) (k0_hw3 : k0_chk3 v7 k0_t2 v18), (Rect.unit (s := S1536x1024) (k0_off6 v7 k0_t2 v18) S128x1024.size (k0_off6_inb v7 k0_t2 v18 k0_hw3)).PackedRows (EltTy.packing .bf16) := fun v7 k0_t2 v18 k0_hw3 => k0_hw3.2.2.2 (k0_off6_inb v7 k0_t2 v18 k0_hw3)

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsReferenceIdeal.lean ====
abbrev S65536x1024 : Shape := ⟨2, ![65536, 1024]⟩
abbrev S8x6x1024 : Shape := ⟨3, ![8, 6, 1024]⟩
abbrev S16x65536 : Shape := ⟨2, ![16, 65536]⟩
abbrev S1x65536 : Shape := ⟨2, ![1, 65536]⟩
abbrev S16x1024x512 : Shape := ⟨3, ![16, 1024, 512]⟩
abbrev S16x512x1024 : Shape := ⟨3, ![16, 512, 1024]⟩
abbrev S1024 : Shape := ⟨1, ![1024]⟩
abbrev S8x8192x1024 : Shape := ⟨3, ![8, 8192, 1024]⟩
abbrev S8x1x1024 : Shape := ⟨3, ![8, 1, 1024]⟩
abbrev S_ : Shape := ⟨0, ![]⟩
abbrev S65536x16 : Shape := ⟨2, ![65536, 16]⟩
abbrev S8x8192x16 : Shape := ⟨3, ![8, 8192, 16]⟩
abbrev S8x8192x1 : Shape := ⟨3, ![8, 8192, 1]⟩
abbrev S8x8192x16x512 : Shape := ⟨4, ![8, 8192, 16, 512]⟩
abbrev S16 : Shape := ⟨1, ![16]⟩
abbrev S1x1x16 : Shape := ⟨3, ![1, 1, 16]⟩
abbrev S8x8192x16x1 : Shape := ⟨4, ![8, 8192, 16, 1]⟩
abbrev S16x1024x8x8192 : Shape := ⟨4, ![16, 1024, 8, 8192]⟩
abbrev S8x8192x16x1024 : Shape := ⟨4, ![8, 8192, 16, 1024]⟩
abbrev S8x8192 : Shape := ⟨2, ![8, 8192]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x6x1024, .f32⟩
  | .hbm, ⟨2, _⟩ => ⟨S16x65536, .f32⟩
  | .hbm, ⟨3, _⟩ => ⟨S1x65536, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024, .f32⟩
  | .hbm, ⟨9, _⟩ => ⟨S8x8192x1024, .f32⟩
  | .hbm, ⟨10, _⟩ => ⟨S8x1x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x8192x1024, .f32⟩
  | .hbm, ⟨15, _⟩ => ⟨S8x8192x1024, .f32⟩
  | .hbm, ⟨16, _⟩ => ⟨S8x1x1024, .f32⟩
  | .hbm, ⟨17, _⟩ => ⟨S8x8192x1024, .f32⟩
  | .hbm, ⟨18, _⟩ => ⟨S8x8192x1024, .f32⟩
  | .hbm, ⟨19, _⟩ => ⟨S65536x16, .f32⟩
  | .hbm, ⟨20, _⟩ => ⟨S8x8192x16, .f32⟩
  | .hbm, ⟨21, _⟩ => ⟨S8x8192x1, .i32⟩
  | .hbm, ⟨22, _⟩ => ⟨S8x8192x16x512, .f32⟩
  | .hbm, ⟨23, _⟩ => ⟨S8x8192x16x512, .f32⟩
  | .hbm, ⟨24, _⟩ => ⟨S8x8192x16x512, .f32⟩
  | .hbm, ⟨25, _⟩ => ⟨S_, .f32⟩
  | .hbm, ⟨26, _⟩ => ⟨S8x8192x16x512, .f32⟩
  | .hbm, ⟨27, _⟩ => ⟨S8x8192x16x512, .f32⟩
  | .hbm, ⟨28, _⟩ => ⟨S_, .f32⟩
  | .hbm, ⟨29, _⟩ => ⟨S8x8192x16x512, .f32⟩
  | .hbm, ⟨30, _⟩ => ⟨S8x8192x16x512, .f32⟩
  | .hbm, ⟨31, _⟩ => ⟨S8x8192x16x512, .f32⟩
  | .hbm, ⟨32, _⟩ => ⟨S8x8192x16x512, .f32⟩
  | .hbm, ⟨33, _⟩ => ⟨S8x8192x16x512, .f32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S1x1x16, .i32⟩
  | .hbm, ⟨39, _⟩ => ⟨S8x8192x16, .i32⟩
  | .hbm, ⟨40, _⟩ => ⟨S8x8192x16, .i32⟩
  | .hbm, ⟨41, _⟩ => ⟨S8x8192x16, .i1⟩
  | .hbm, ⟨42, _⟩ => ⟨S_, .f32⟩
  | .hbm, ⟨43, _⟩ => ⟨S_, .f32⟩
  | .hbm, ⟨44, _⟩ => ⟨S8x8192x16, .f32⟩
  | .hbm, ⟨45, _⟩ => ⟨S8x8192x16, .f32⟩
  | .hbm, ⟨46, _⟩ => ⟨S8x8192x16x1, .f32⟩
  | .hbm, ⟨47, _⟩ => ⟨S16x1024x8x8192, .f32⟩
  | .hbm, ⟨48, _⟩ => ⟨S8x8192x16x1024, .f32⟩
  | .hbm, ⟨49, _⟩ => ⟨S8x8192x16x1024, .f32⟩
  | .hbm, ⟨50, _⟩ => ⟨S8x8192x16x1024, .f32⟩
  | .hbm, ⟨51, _⟩ => ⟨S_, .f32⟩
  | .hbm, ⟨52, _⟩ => ⟨S8x8192x1024, .f32⟩
  | .hbm, ⟨53, _⟩ => ⟨S_, .f32⟩
  | .hbm, ⟨54, _⟩ => ⟨S8x8192x1024, .f32⟩
  | .hbm, ⟨55, _⟩ => ⟨S8x8192x1024, .f32⟩
  | .hbm, ⟨56, _⟩ => ⟨S8x1x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S_, .f32⟩
  | .hbm, ⟨73, _⟩ => ⟨S8x8192x1, .f32⟩
  | .hbm, ⟨74, _⟩ => ⟨S8x8192x1, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192x1, .f32⟩
  | .hbm, ⟨79, _⟩ => ⟨S8x8192x1, .f32⟩
  | .hbm, ⟨80, _⟩ => ⟨S8x8192x1, .f32⟩
  | .hbm, ⟨81, _⟩ => ⟨S8x8192x1024, .f32⟩
  | .hbm, ⟨82, _⟩ => ⟨S8x8192x1024, .f32⟩
  | .hbm, ⟨83, _⟩ => ⟨S1x1x1024, .f32⟩
  | .hbm, ⟨84, _⟩ => ⟨S8x8192x1024, .f32⟩
  | .hbm, ⟨85, _⟩ => ⟨S8x8192x1024, .f32⟩
  | .hbm, ⟨86, _⟩ => ⟨S1x1x1024, .f32⟩
  | .hbm, ⟨87, _⟩ => ⟨S8x8192x1024, .f32⟩
  | .hbm, ⟨88, _⟩ => ⟨S8x8192x1024, .f32⟩
  | .hbm, ⟨89, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.Keeps.lean ====
/-
  Programs that KEEP a resource: `Keeps c R p` says that the program `p`, run on core `c` from `R`, ends (whatever it
  returns) and hands `R` back. With `R` "the blocks the kernel reads, at their contents, and the buffers it writes, at
  some contents", this is what a frame asks of a kernel's body, and it is proved one operation at a time without naming
  a single value: a load needs the buffer readable (`CanRead`), a store needs it writable (`CanWrite`), a loop needs its
  trip to keep `R`, a branch both of its sides.
-/
module

public import Idealize.ShloMosaic.Lib.Tactic
public import Idealize.ShloMosaic.Lib.MemrefSat
public import Idealize.ShloMosaic.Lib.Pipeline.Kit

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

/-- `R` lends the memref's elements at some share and some contents, and is whole again once they are back. -/
def CanRead (c : Dev nD) (R : sProp 𝕄) {sp : Space} {s : Shape} {e : EltTy} (m : Memref sig .tc sp s e) : Prop :=
  R ⊢ iprop(∃ (q : PosShare TreeShare) (f : Buf Val (m.view.loc (c : Thread nD τ))),
    (m.view.loc (c : Thread nD τ) ↦[m.view.set]{q} f) ∗ ((m.view.loc (c : Thread nD τ) ↦[m.view.set]{q} f) -∗ R))

/-- `R` lends the memref's elements at the full share, and is whole again once they are back at ANY contents. -/
def CanWrite (c : Dev nD) (R : sProp 𝕄) {sp : Space} {s : Shape} {e : EltTy} (m : Memref sig .tc sp s e) : Prop :=
  R ⊢ iprop(∃ f : Buf Val (m.view.loc (c : Thread nD τ)),
    (m.view.loc (c : Thread nD τ) ↦[m.view.set]{fullShare} f)
      ∗ (∀ g : Buf Val (m.view.loc (c : Thread nD τ)), (m.view.loc (c : Thread nD τ) ↦[m.view.set]{fullShare} g) -∗ R))

/-- A memref that can be written can be read. -/
theorem CanWrite.read {c : Dev nD} {R : sProp 𝕄} {sp : Space} {s : Shape} {e : EltTy} {m : Memref sig .tc sp s e}
    (h : CanWrite c R m) : CanRead c R m := by
  refine BIBase.Entails.trans h ?_
  iintro ⟨%f, H, Hk⟩
  iexists fullShare
  iexists f
  isplitl [H]
  · iexact H
  · iintro H
    iapply Hk $$ %f
    iexact H

/-- From `R` the program ends and hands `R` back. -/
def Keeps (defs : Defs nD τ sig Val Λ) (c : Dev nD) (R : sProp 𝕄) {α : Type} (p : Prog (TpuEff nD τ sig Val Λ .tc) α) : Prop :=
  R ⊢ wp frame (wpE (Ix := Unit) (Name := ℕ) (U := U) (Lvl := ℕ) defs Variants.none (c : Thread nD τ) none) Set.univ p (fun _ => R)

variable {defs : Defs nD τ sig Val Λ} {c : Dev nD} {R : sProp (MT nD τ sig Unit Val ℕ U ℕ)}

/-- A program that does nothing keeps everything. -/
theorem keeps_pure {α : Type} (a : α) : Keeps defs c R (pure a : Prog (TpuEff nD τ sig Val Λ .tc) α) :=
  le_wp_ret _ _ _ a (fun _ => R)

/-- One program after another. -/
theorem keeps_bind {α β : Type} {p : Prog (TpuEff nD τ sig Val Λ .tc) α} {k : α → Prog (TpuEff nD τ sig Val Λ .tc) β}
    (hp : Keeps defs c R p) (hk : ∀ a, Keeps defs c R (k a)) : Keeps defs c R (p >>= k) := by
  unfold Keeps
  rw [wp_bind]
  exact hp.trans (wp_mono _ _ _ fun a => hk a)

/-- A load of a memref `R` can lend for reading. -/
theorem keeps_load {sp : CoreSpace} {s : Shape} {e : EltTy} {m : Memref sig .tc sp s e} (hm : CanRead c R m)
    {r : LoadRect s} {hl : m.view.LoadsAt r} : Keeps defs c R (Prog.lift (.load m r hl)) := by
  refine BIBase.Entails.trans hm ?_
  iintro ⟨%q, %f, H, Hk⟩
  iapply (wp_load (defs := defs) Variants.none (c : Thread nD τ) none Set.univ (k := .ret)
    (Memref.view m |>.setOn_subset_set r.set)) $$ H
  iintro H
  iapply (le_wp_ret _ _ _ _ (fun _ => R))
  iapply Hk
  iexact H

/-- A store into a memref `R` can lend for writing. -/
theorem keeps_store {sp : CoreSpace} {s : Shape} {e : EltTy} {m : Memref sig .tc sp s e} (hm : CanWrite c R m)
    {r : Rect s} {w : r.shape.Idx → Val e} {Mk : Finset r.shape.Idx} {hx : (m.access r).Stores Mk}
    {hs : Mk = Finset.univ ∨ ∀ a, r.stride a = 1} : Keeps defs c R (Prog.lift (.store m r w Mk hx hs)) := by
  refine BIBase.Entails.trans hm ?_
  iintro ⟨%f, H, Hk⟩
  iapply (wp_store (defs := defs) Variants.none (c : Thread nD τ) none Set.univ (k := .ret) (m := m) (r := r) (w := w)
    (Mk := Mk) (hx := hx) (hm := hs) (f := f) (S := m.view.set)
    (Memref.setOn_access_subset m r Mk)) $$ H
  iintro H
  iapply (le_wp_ret _ _ _ _ (fun _ => R))
  iapply Hk
  iexact H

/-- A load first, then what keeps `R`. -/
theorem keeps_reads {β : Type} {sp : CoreSpace} {s : Shape} {e : EltTy} {m : Memref sig .tc sp s e} (hm : CanWrite c R m)
    {r : LoadRect s} {hl : m.view.LoadsAt r} {k : _ → Prog (TpuEff nD τ sig Val Λ .tc) β} (hk : ∀ a, Keeps defs c R (k a)) :
    Keeps defs c R (Prog.lift (.load m r hl) >>= k) := keeps_bind (keeps_load hm.read) hk

/-- A store first, then what keeps `R`. -/
theorem keeps_writes {β : Type} {sp : CoreSpace} {s : Shape} {e : EltTy} {m : Memref sig .tc sp s e} (hm : CanWrite c R m)
    {r : Rect s} {w : r.shape.Idx → Val e} {Mk : Finset r.shape.Idx} {hx : (m.access r).Stores Mk}
    {hs : Mk = Finset.univ ∨ ∀ a, r.stride a = 1} {k : _ → Prog (TpuEff nD τ sig Val Λ .tc) β} (hk : ∀ a, Keeps defs c R (k a)) :
    Keeps defs c R (Prog.lift (.store m r w Mk hx hs) >>= k) := keeps_bind (keeps_store hm) hk

/-- A counted loop whose every trip keeps `R`. -/
theorem keeps_for {σ : Type} {l : Scf.Loop 32} {hok : l.OK} {init : σ}
    {body : Fin l.trips → σ → Prog (TpuEff nD τ sig Val Λ .tc) σ} (h : ∀ k acc, Keeps defs c R (body k acc)) :
    Keeps defs c R (Scf.Loop.for l hok init body) := by
  refine BIBase.Entails.trans ?_ (Scf.wp_for _ _ _ l.lb l.ub l.st hok init body (fun _ _ => R) h)
  iintro H
  isplitl [H]
  · iexact H
  · iintro %acc H
    iexact H

/-- A branch both sides of which keep `R`. -/
theorem keeps_ite {α : Type} {φ : Prop} [Decidable φ] {p p' : Prog (TpuEff nD τ sig Val Λ .tc) α}
    (h : Keeps defs c R p) (h' : Keeps defs c R p') : Keeps defs c R (if φ then p else p') := by
  by_cases hφ : φ
  · rw [if_pos hφ]; exact h
  · rw [if_neg hφ]; exact h'

/-- A branch whose sides use the condition's evidence. -/
theorem keeps_dite {α : Type} {φ : Prop} [Decidable φ] {p : φ → Prog (TpuEff nD τ sig Val Λ .tc) α}
    {p' : ¬ φ → Prog (TpuEff nD τ sig Val Λ .tc) α}
    (h : ∀ hφ, Keeps defs c R (p hφ)) (h' : ∀ hφ, Keeps defs c R (p' hφ)) : Keeps defs c R (if hφ : φ then p hφ else p' hφ) := by
  by_cases hφ : φ
  · rw [dif_pos hφ]; exact h hφ
  · rw [dif_neg hφ]; exact h' hφ

/-- A memref owned at known contents can be read. -/
theorem canRead_owns {sp : Space} {s : Shape} {e : EltTy} (m : Memref sig .tc sp s e) (q : PosShare TreeShare)
    (X : s.Idx → Val e) : CanRead (U := U) c (owns (c : Thread nD τ) m q X) m := by
  unfold CanRead owns
  iintro ⟨%f, %hf, H⟩
  iexists q
  iexists f
  isplitl [H]
  · iexact H
  · iintro H
    iexists f
    isplitr
    · ipureintro; exact hf
    · iexact H

/-- A memref owned at the full share, at some contents, can be written. -/
theorem canWrite_owns {sp : Space} {s : Shape} {e : EltTy} (m : Memref sig .tc sp s e) :
    CanWrite (U := U) c (iprop(∃ X : s.Idx → Val e, owns (c : Thread nD τ) m fullShare X)) m := by
  unfold CanWrite owns
  iintro ⟨%X, %f, -, H⟩
  iexists f
  isplitl [H]
  · iexact H
  · iintro %g H
    iexists m.view.read Val g
    iexists g
    isplitr
    · ipureintro; rfl
    · iexact H

/-- A whole buffer held at some contents can be written. -/
theorem canWrite_whole (b : Ref sig .tc) :
    CanWrite (U := U) c (iprop(∃ f : Buf Val ((c : Thread nD τ).loc b), ((c : Thread nD τ).loc b) ↦{fullShare} f)) (Memref.whole b) := by
  unfold CanWrite
  rw [show (Memref.whole b).view.set = Finset.univ from View.set_whole b]
  iintro ⟨%f, H⟩
  iexists f
  isplitl [H]
  · iexact H
  · iintro %g H
    iexists g
    iexact H

/-- What the left part lends, the whole lends. -/
theorem CanRead.left {R' : sProp (MT nD τ sig Unit Val ℕ U ℕ)} {sp : Space} {s : Shape} {e : EltTy} {m : Memref sig .tc sp s e}
    (h : CanRead c R m) : CanRead c (iprop(R ∗ R')) m := by
  refine BIBase.Entails.trans (sep_mono h .rfl) ?_
  iintro ⟨⟨%q, %f, H, Hk⟩, HR⟩
  iexists q
  iexists f
  isplitl [H]
  · iexact H
  · iintro H
    isplitl [H Hk]
    · iapply Hk; iexact H
    · iexact HR

/-- What the right part lends, the whole lends. -/
theorem CanRead.right {R' : sProp (MT nD τ sig Unit Val ℕ U ℕ)} {sp : Space} {s : Shape} {e : EltTy} {m : Memref sig .tc sp s e}
    (h : CanRead c R m) : CanRead c (iprop(R' ∗ R)) m := by
  refine BIBase.Entails.trans (sep_mono .rfl h) ?_
  iintro ⟨HR, ⟨%q, %f, H, Hk⟩⟩
  iexists q
  iexists f
  isplitl [H]
  · iexact H
  · iintro H
    isplitl [HR]
    · iexact HR
    · iapply Hk; iexact H

/-- What the left part lends for writing, the whole lends. -/
theorem CanWrite.left {R' : sProp (MT nD τ sig Unit Val ℕ U ℕ)} {sp : Space} {s : Shape} {e : EltTy} {m : Memref sig .tc sp s e}
    (h : CanWrite c R m) : CanWrite c (iprop(R ∗ R')) m := by
  refine BIBase.Entails.trans (sep_mono h .rfl) ?_
  iintro ⟨⟨%f, H, Hk⟩, HR⟩
  iexists f
  isplitl [H]
  · iexact H
  · iintro %g H
    isplitl [H Hk]
    · iapply Hk $$ %g; iexact H
    · iexact HR

/-- What the right part lends for writing, the whole lends. -/
theorem CanWrite.right {R' : sProp (MT nD τ sig Unit Val ℕ U ℕ)} {sp : Space} {s : Shape} {e : EltTy} {m : Memref sig .tc sp s e}
    (h : CanWrite c R m) : CanWrite c (iprop(R' ∗ R)) m := by
  refine BIBase.Entails.trans (sep_mono .rfl h) ?_
  iintro ⟨HR, ⟨%f, H, Hk⟩⟩
  iexists f
  isplitl [H]
  · iexact H
  · iintro %g H
    isplitl [HR]
    · iexact HR
    · iapply Hk $$ %g; iexact H

/-- The frame rule: what a program does not keep itself, it leaves in place. -/
theorem keeps_frame {α : Type} {p : Prog (TpuEff nD τ sig Val Λ .tc) α} (h : Keeps defs c R p) (P : sProp (MT nD τ sig Unit Val ℕ U ℕ)) :
    Keeps defs c (iprop(P ∗ R)) p :=
  (sep_mono .rfl h).trans (wp_frame_l frame (wpE (Ix := Unit) (Name := ℕ) (U := U) (Lvl := ℕ) defs Variants.none (c : Thread nD τ) none) Set.univ)

end Cert.Proof

end
-- ==== Proof.Held.lean ====
/-
  What the body of the sparse attention kernel is run from: its six staged blocks, its result block and its thirteen
  scratch buffers, each readable or writable.
-/
module

public import proofs.«01_k».proof.Proof.Keeps
public import proofs.«01_k».proof.Kernel

@[expose] public section

noncomputable section

namespace Cert.Proof.Kernel

open Cert.Kernel Cert.Proof
open Idealize.ShloMosaic Idealize.ShloMosaic.TcCoe
open Idealize.SL Idealize.SL.RA Idealize.SL.BI
variable {F : FTy → Type} [BitOps F]
variable {U : Type} [URA U]

/-- What the body of the kernel asks of the resource it runs from: the six staged blocks can be read, the result's block
    and the thirteen scratch buffers written. -/
structure Held (c : Dev nD) (R : sProp (MT nD τ sig Unit (Elt F) ℕ U ℕ)) (arg2 : Memref sig .tc .vmem S1x256x256 .bf16) (arg3 : Memref sig .tc .vmem S1x8192x256 .bf16) (arg4 : Memref sig .tc .vmem S1x32x256x256 .bf16) (arg5 : Memref sig .tc .vmem S1x512x256 .bf16) (arg6 : Memref sig .tc .vmem S1x8192x128 .f32) (arg7 : Memref sig .tc .vmem S1x128x256 .f32) (arg8 : Memref sig .tc .vmem S1x256x256 .bf16) (arg9 : Memref sig .tc .vmem S4x256x128 .f32) (arg10 : Memref sig .tc .vmem S8x128x256 .bf16) (arg11 : Memref sig .tc .vmem S8192x256 .i32) (arg12 : Memref sig .tc .vmem S33x256x256 .i32) (arg13 : Memref sig .tc .vmem S256x256 .i32) (arg14 : Memref sig .tc .vmem S1x256 .f32) (arg15 : Memref sig .tc .vmem S4x256x256 .bf16) (arg16 : Memref sig .tc .vmem S4x1x256 .f32) (arg17 : Memref sig .tc .vmem S4x80x256 .f32) (arg18 : Memref sig .tc .vmem S2x4x256x256 .f32) (arg19 : Memref sig .tc .vmem S2x4x1x256 .f32) (arg20 : Memref sig .tc .vmem S2x4x256x256 .bf16) (arg21 : Memref sig .tc .vmem S2x4x1x256 .f32) : Prop where
  r2 : CanRead c R arg2
  r3 : CanRead c R arg3
  r4 : CanRead c R arg4
  r5 : CanRead c R arg5
  r6 : CanRead c R arg6
  r7 : CanRead c R arg7
  w8 : CanWrite c R arg8
  w9 : CanWrite c R arg9
  w10 : CanWrite c R arg10
  w11 : CanWrite c R arg11
  w12 : CanWrite c R arg12
  w13 : CanWrite c R arg13
  w14 : CanWrite c R arg14
  w15 : CanWrite c R arg15
  w16 : CanWrite c R arg16
  w17 : CanWrite c R arg17
  w18 : CanWrite c R arg18
  w19 : CanWrite c R arg19
  w20 : CanWrite c R arg20
  w21 : CanWrite c R arg21

end Cert.Proof.Kernel

end
-- ==== Proof.Keeps0.lean ====
/-
  Windows 1 to 25 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 1 of the body keeps the resource. -/
theorem keeps_part1 (H : Held c R b2 b3 b4 b5 b6 b7 b8 b9 b10 b11 b12 b13 b14 b15 b16 b17 b18 b19 b20 b21) (a0) (a1) (a2) (a3) :
    Keeps defs₀ c R (k0_part1 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part1
  refine keeps_bind (keeps_load H.r6) fun _ => ?_
  refine keeps_reads H.w10 fun _ => ?_
  refine keeps_reads H.w10 fun _ => ?_
  refine keeps_reads H.w10 fun _ => ?_
  refine keeps_reads H.w10 fun _ => ?_
  exact keeps_pure _

/-- Window 2 of the body keeps the resource. -/
theorem keeps_part2 (H : Held c R b2 b3 b4 b5 b6 b7 b8 b9 b10 b11 b12 b13 b14 b15 b16 b17 b18 b19 b20 b21) (a0) (a1) (a2) (a3) :
    Keeps defs₀ c R (k0_part2 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part2
  refine keeps_reads H.w10 fun _ => ?_
  refine keeps_reads H.w10 fun _ => ?_
  refine keeps_reads H.w10 fun _ => ?_
  refine keeps_reads H.w10 fun _ => ?_
  exact keeps_pure _

/-- Window 3 of the body keeps the resource. -/
theorem keeps_part3 (H : Held c R b2 b3 b4 b5 b6 b7 b8 b9 b10 b11 b12 b13 b14 b15 b16 b17 b18 b19 b20 b21) (a0) (a1) (a2) (a3) (a4) (a5) :
    Keeps defs₀ c R (k0_part3 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part3
  refine keeps_reads H.w11 fun _ => ?_
  refine keeps_writes H.w11 fun _ => ?_
  exact keeps_pure _

/-- Window 4 of the body keeps the resource. -/
theorem keeps_part4 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part4 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part4
  exact keeps_pure _

/-- Window 5 of the body keeps the resource. -/
theorem keeps_part5 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part5 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part5
  exact keeps_pure _

/-- Window 6 of the body keeps the resource. -/
theorem keeps_part6 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part6 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part6
  exact keeps_pure _

/-- Window 7 of the body keeps the resource. -/
theorem keeps_part7 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part7 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part7
  exact keeps_pure _

/-- Window 8 of the body keeps the resource. -/
theorem keeps_part8 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part8 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part8
  exact keeps_pure _

/-- Window 9 of the body keeps the resource. -/
theorem keeps_part9 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part9 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part9
  exact keeps_pure _

/-- Window 10 of the body keeps the resource. -/
theorem keeps_part10 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part10 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part10
  exact keeps_pure _

/-- Window 11 of the body keeps the resource. -/
theorem keeps_part11 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part11 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part11
  exact keeps_pure _

/-- Window 12 of the body keeps the resource. -/
theorem keeps_part12 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part12 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part12
  exact keeps_pure _

/-- Window 13 of the body keeps the resource. -/
theorem keeps_part13 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part13 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part13
  exact keeps_pure _

/-- Window 14 of the body keeps the resource. -/
theorem keeps_part14 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part14 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part14
  exact keeps_pure _

/-- Window 15 of the body keeps the resource. -/
theorem keeps_part15 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part15 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part15
  exact keeps_pure _

/-- Window 16 of the body keeps the resource. -/
theorem keeps_part16 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part16 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part16
  exact keeps_pure _

/-- Window 17 of the body keeps the resource. -/
theorem keeps_part17 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part17 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part17
  exact keeps_pure _

/-- Window 18 of the body keeps the resource. -/
theorem keeps_part18 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part18 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part18
  exact keeps_pure _

/-- Window 19 of the body keeps the resource. -/
theorem keeps_part19 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part19 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part19
  exact keeps_pure _

/-- Window 20 of the body keeps the resource. -/
theorem keeps_part20 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part20 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part20
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 21 of the body keeps the resource. -/
theorem keeps_part21 (H : Held c R b2 b3 b4 b5 b6 b7 b8 b9 b10 b11 b12 b13 b14 b15 b16 b17 b18 b19 b20 b21) (a0) (a1) (a2) (a3) (a4) (a5) (a6) (a7) (a8) (a9) :
    Keeps defs₀ c R (k0_part21 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9) := by
  unfold k0_part21
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 22 of the body keeps the resource. -/
theorem keeps_part22 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part22 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part22
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 23 of the body keeps the resource. -/
theorem keeps_part23 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part23 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part23
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 24 of the body keeps the resource. -/
theorem keeps_part24 (H : Held c R b2 b3 b4 b5 b6 b7 b8 b9 b10 b11 b12 b13 b14 b15 b16 b17 b18 b19 b20 b21) (a0) (a1) :
    Keeps defs₀ c R (k0_part24 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part24
  refine keeps_bind (keeps_load H.r6) fun _ => ?_
  refine keeps_reads H.w10 fun _ => ?_
  refine keeps_reads H.w10 fun _ => ?_
  refine keeps_reads H.w10 fun _ => ?_
  refine keeps_reads H.w10 fun _ => ?_
  exact keeps_pure _

/-- Window 25 of the body keeps the resource. -/
theorem keeps_part25 (H : Held c R b2 b3 b4 b5 b6 b7 b8 b9 b10 b11 b12 b13 b14 b15 b16 b17 b18 b19 b20 b21) (a0) (a1) (a2) (a3) (a4) :
    Keeps defs₀ c R (k0_part25 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part25
  refine keeps_reads H.w10 fun _ => ?_
  refine keeps_reads H.w10 fun _ => ?_
  refine keeps_reads H.w10 fun _ => ?_
  refine keeps_reads H.w10 fun _ => ?_
  exact keeps_pure _

end Cert.Proof.Kernel

end
-- ==== Proof.Keeps1.lean ====
/-
  Windows 26 to 51 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 26 of the body keeps the resource. -/
theorem keeps_part26 (H : Held c R b2 b3 b4 b5 b6 b7 b8 b9 b10 b11 b12 b13 b14 b15 b16 b17 b18 b19 b20 b21) (a0) (a1) (a2) (a3) :
    Keeps defs₀ c R (k0_part26 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part26
  refine keeps_reads H.w11 fun _ => ?_
  refine keeps_writes H.w11 fun _ => ?_
  exact keeps_pure _

/-- Window 27 of the body keeps the resource. -/
theorem keeps_part27 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part27 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part27
  exact keeps_pure _

/-- Window 28 of the body keeps the resource. -/
theorem keeps_part28 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part28 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part28
  exact keeps_pure _

/-- Window 29 of the body keeps the resource. -/
theorem keeps_part29 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part29 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part29
  exact keeps_pure _

/-- Window 30 of the body keeps the resource. -/
theorem keeps_part30 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part30 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part30
  exact keeps_pure _

/-- Window 31 of the body keeps the resource. -/
theorem keeps_part31 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part31 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part31
  exact keeps_pure _

/-- Window 32 of the body keeps the resource. -/
theorem keeps_part32 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part32 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part32
  exact keeps_pure _

/-- Window 33 of the body keeps the resource. -/
theorem keeps_part33 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part33 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part33
  exact keeps_pure _

/-- Window 34 of the body keeps the resource. -/
theorem keeps_part34 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part34 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part34
  exact keeps_pure _

/-- Window 35 of the body keeps the resource. -/
theorem keeps_part35 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part35 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part35
  exact keeps_pure _

/-- Window 36 of the body keeps the resource. -/
theorem keeps_part36 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part36 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part36
  exact keeps_pure _

/-- Window 37 of the body keeps the resource. -/
theorem keeps_part37 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part37 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part37
  exact keeps_pure _

/-- Window 38 of the body keeps the resource. -/
theorem keeps_part38 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part38 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part38
  exact keeps_pure _

/-- Window 39 of the body keeps the resource. -/
theorem keeps_part39 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part39 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part39
  exact keeps_pure _

/-- Window 40 of the body keeps the resource. -/
theorem keeps_part40 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part40 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part40
  exact keeps_pure _

/-- Window 41 of the body keeps the resource. -/
theorem keeps_part41 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part41 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part41
  exact keeps_pure _

/-- Window 42 of the body keeps the resource. -/
theorem keeps_part42 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part42 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part42
  refine keeps_reads H.w12 fun _ => ?_
  exact keeps_pure _

/-- Window 43 of the body keeps the resource. -/
theorem keeps_part43 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part43 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part43
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 44 of the body keeps the resource. -/
theorem keeps_part44 (H : Held c R b2 b3 b4 b5 b6 b7 b8 b9 b10 b11 b12 b13 b14 b15 b16 b17 b18 b19 b20 b21) (a0) (a1) (a2) (a3) (a4) (a5) (a6) (a7) (a8) (a9) :
    Keeps defs₀ c R (k0_part44 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9) := by
  unfold k0_part44
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 45 of the body keeps the resource. -/
theorem keeps_part45 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part45 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part45
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 47 of the body keeps the resource. -/
theorem keeps_part47 (H : Held c R b2 b3 b4 b5 b6 b7 b8 b9 b10 b11 b12 b13 b14 b15 b16 b17 b18 b19 b20 b21) (a0) (a1) (a2) (a3) :
    Keeps defs₀ c R (k0_part47 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part47
  refine keeps_bind (keeps_load H.r6) fun _ => ?_
  refine keeps_reads H.w10 fun _ => ?_
  refine keeps_reads H.w10 fun _ => ?_
  refine keeps_reads H.w10 fun _ => ?_
  refine keeps_reads H.w10 fun _ => ?_
  exact keeps_pure _

/-- Window 48 of the body keeps the resource. -/
theorem keeps_part48 (H : Held c R b2 b3 b4 b5 b6 b7 b8 b9 b10 b11 b12 b13 b14 b15 b16 b17 b18 b19 b20 b21) (a0) (a1) (a2) (a3) :
    Keeps defs₀ c R (k0_part48 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part48
  refine keeps_reads H.w10 fun _ => ?_
  refine keeps_reads H.w10 fun _ => ?_
  refine keeps_reads H.w10 fun _ => ?_
  refine keeps_reads H.w10 fun _ => ?_
  exact keeps_pure _

/-- Window 49 of the body keeps the resource. -/
theorem keeps_part49 (H : Held c R b2 b3 b4 b5 b6 b7 b8 b9 b10 b11 b12 b13 b14 b15 b16 b17 b18 b19 b20 b21) (a0) (a1) (a2) (a3) (a4) (a5) :
    Keeps defs₀ c R (k0_part49 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part49
  refine keeps_reads H.w11 fun _ => ?_
  refine keeps_writes H.w11 fun _ => ?_
  exact keeps_pure _

/-- Window 50 of the body keeps the resource. -/
theorem keeps_part50 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part50 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part50
  exact keeps_pure _

/-- Window 51 of the body keeps the resource. -/
theorem keeps_part51 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part51 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part51
  exact keeps_pure _

end Cert.Proof.Kernel

end
-- ==== Proof.Keeps2.lean ====
/-
  Windows 52 to 76 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 52 of the body keeps the resource. -/
theorem keeps_part52 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part52 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part52
  exact keeps_pure _

/-- Window 53 of the body keeps the resource. -/
theorem keeps_part53 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part53 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part53
  exact keeps_pure _

/-- Window 54 of the body keeps the resource. -/
theorem keeps_part54 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part54 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part54
  exact keeps_pure _

/-- Window 55 of the body keeps the resource. -/
theorem keeps_part55 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part55 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part55
  exact keeps_pure _

/-- Window 56 of the body keeps the resource. -/
theorem keeps_part56 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part56 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part56
  exact keeps_pure _

/-- Window 57 of the body keeps the resource. -/
theorem keeps_part57 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part57 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part57
  exact keeps_pure _

/-- Window 58 of the body keeps the resource. -/
theorem keeps_part58 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part58 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part58
  exact keeps_pure _

/-- Window 59 of the body keeps the resource. -/
theorem keeps_part59 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part59 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part59
  exact keeps_pure _

/-- Window 60 of the body keeps the resource. -/
theorem keeps_part60 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part60 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part60
  exact keeps_pure _

/-- Window 61 of the body keeps the resource. -/
theorem keeps_part61 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part61 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part61
  exact keeps_pure _

/-- Window 62 of the body keeps the resource. -/
theorem keeps_part62 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part62 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part62
  exact keeps_pure _

/-- Window 63 of the body keeps the resource. -/
theorem keeps_part63 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part63 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part63
  exact keeps_pure _

/-- Window 64 of the body keeps the resource. -/
theorem keeps_part64 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part64 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part64
  exact keeps_pure _

/-- Window 65 of the body keeps the resource. -/
theorem keeps_part65 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part65 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part65
  exact keeps_pure _

/-- Window 66 of the body keeps the resource. -/
theorem keeps_part66 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part66 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part66
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 67 of the body keeps the resource. -/
theorem keeps_part67 (H : Held c R b2 b3 b4 b5 b6 b7 b8 b9 b10 b11 b12 b13 b14 b15 b16 b17 b18 b19 b20 b21) (a0) (a1) (a2) (a3) (a4) (a5) (a6) (a7) (a8) (a9) :
    Keeps defs₀ c R (k0_part67 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9) := by
  unfold k0_part67
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 68 of the body keeps the resource. -/
theorem keeps_part68 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part68 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part68
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 69 of the body keeps the resource. -/
theorem keeps_part69 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part69 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part69
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 70 of the body keeps the resource. -/
theorem keeps_part70 (H : Held c R b2 b3 b4 b5 b6 b7 b8 b9 b10 b11 b12 b13 b14 b15 b16 b17 b18 b19 b20 b21) (a0) (a1) :
    Keeps defs₀ c R (k0_part70 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part70
  refine keeps_bind (keeps_load H.r6) fun _ => ?_
  refine keeps_reads H.w10 fun _ => ?_
  refine keeps_reads H.w10 fun _ => ?_
  refine keeps_reads H.w10 fun _ => ?_
  refine keeps_reads H.w10 fun _ => ?_
  exact keeps_pure _

/-- Window 71 of the body keeps the resource. -/
theorem keeps_part71 (H : Held c R b2 b3 b4 b5 b6 b7 b8 b9 b10 b11 b12 b13 b14 b15 b16 b17 b18 b19 b20 b21) (a0) (a1) (a2) (a3) (a4) :
    Keeps defs₀ c R (k0_part71 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part71
  refine keeps_reads H.w10 fun _ => ?_
  refine keeps_reads H.w10 fun _ => ?_
  refine keeps_reads H.w10 fun _ => ?_
  refine keeps_reads H.w10 fun _ => ?_
  exact keeps_pure _

/-- Window 72 of the body keeps the resource. -/
theorem keeps_part72 (H : Held c R b2 b3 b4 b5 b6 b7 b8 b9 b10 b11 b12 b13 b14 b15 b16 b17 b18 b19 b20 b21) (a0) (a1) (a2) (a3) :
    Keeps defs₀ c R (k0_part72 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part72
  refine keeps_reads H.w11 fun _ => ?_
  refine keeps_writes H.w11 fun _ => ?_
  exact keeps_pure _

/-- Window 73 of the body keeps the resource. -/
theorem keeps_part73 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part73 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part73
  exact keeps_pure _

/-- Window 74 of the body keeps the resource. -/
theorem keeps_part74 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part74 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part74
  exact keeps_pure _

/-- Window 75 of the body keeps the resource. -/
theorem keeps_part75 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part75 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part75
  exact keeps_pure _

/-- Window 76 of the body keeps the resource. -/
theorem keeps_part76 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part76 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part76
  exact keeps_pure _

end Cert.Proof.Kernel

end
-- ==== Proof.Keeps3.lean ====
/-
  Windows 77 to 102 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 77 of the body keeps the resource. -/
theorem keeps_part77 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part77 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part77
  exact keeps_pure _

/-- Window 78 of the body keeps the resource. -/
theorem keeps_part78 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part78 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part78
  exact keeps_pure _

/-- Window 79 of the body keeps the resource. -/
theorem keeps_part79 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part79 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part79
  exact keeps_pure _

/-- Window 80 of the body keeps the resource. -/
theorem keeps_part80 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part80 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part80
  exact keeps_pure _

/-- Window 81 of the body keeps the resource. -/
theorem keeps_part81 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part81 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part81
  exact keeps_pure _

/-- Window 82 of the body keeps the resource. -/
theorem keeps_part82 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part82 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part82
  exact keeps_pure _

/-- Window 83 of the body keeps the resource. -/
theorem keeps_part83 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part83 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part83
  exact keeps_pure _

/-- Window 84 of the body keeps the resource. -/
theorem keeps_part84 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part84 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part84
  exact keeps_pure _

/-- Window 85 of the body keeps the resource. -/
theorem keeps_part85 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part85 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part85
  exact keeps_pure _

/-- Window 86 of the body keeps the resource. -/
theorem keeps_part86 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part86 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part86
  exact keeps_pure _

/-- Window 87 of the body keeps the resource. -/
theorem keeps_part87 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part87 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part87
  exact keeps_pure _

/-- Window 88 of the body keeps the resource. -/
theorem keeps_part88 (H : Held c R b2 b3 b4 b5 b6 b7 b8 b9 b10 b11 b12 b13 b14 b15 b16 b17 b18 b19 b20 b21) (a0) (a1) (a2) (a3) (a4) (a5) (a6) (a7) (a8) (a9) (a10) (a11) (a12) :
    Keeps defs₀ c R (k0_part88 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11 a12) := by
  unfold k0_part88
  refine keeps_reads H.w12 fun _ => ?_
  exact keeps_pure _

/-- Window 89 of the body keeps the resource. -/
theorem keeps_part89 (H : Held c R b2 b3 b4 b5 b6 b7 b8 b9 b10 b11 b12 b13 b14 b15 b16 b17 b18 b19 b20 b21) (a0) (a1) (a2) (a3) (a4) (a5) (a6) (a7) (a8) (a9) (a10) (a11) :
    Keeps defs₀ c R (k0_part89 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10 a11) := by
  unfold k0_part89
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 90 of the body keeps the resource. -/
theorem keeps_part90 (H : Held c R b2 b3 b4 b5 b6 b7 b8 b9 b10 b11 b12 b13 b14 b15 b16 b17 b18 b19 b20 b21) (a0) (a1) (a2) (a3) (a4) (a5) (a6) (a7) (a8) (a9) :
    Keeps defs₀ c R (k0_part90 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9) := by
  unfold k0_part90
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 91 of the body keeps the resource. -/
theorem keeps_part91 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part91 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part91
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 93 of the body keeps the resource. -/
theorem keeps_part93 (H : Held c R b2 b3 b4 b5 b6 b7 b8 b9 b10 b11 b12 b13 b14 b15 b16 b17 b18 b19 b20 b21) (a0) (a1) (a2) (a3) (a4) :
    Keeps defs₀ c R (k0_part93 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part93
  refine keeps_bind (keeps_load H.r3) fun _ => ?_
  refine keeps_bind (keeps_load H.r4) fun _ => ?_
  refine keeps_reads H.w11 fun _ => ?_
  refine keeps_reads H.w16 fun _ => ?_
  exact keeps_pure _

/-- Window 94 of the body keeps the resource. -/
theorem keeps_part94 (H : Held c R b2 b3 b4 b5 b6 b7 b8 b9 b10 b11 b12 b13 b14 b15 b16 b17 b18 b19 b20 b21) (a0) :
    Keeps defs₀ c R (k0_part94 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part94
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  exact keeps_pure _

/-- Window 95 of the body keeps the resource. -/
theorem keeps_part95 (H : Held c R b2 b3 b4 b5 b6 b7 b8 b9 b10 b11 b12 b13 b14 b15 b16 b17 b18 b19 b20 b21) (a0) (a1) (a2) :
    Keeps defs₀ c R (k0_part95 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part95
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 96 of the body keeps the resource. -/
theorem keeps_part96 (H : Held c R b2 b3 b4 b5 b6 b7 b8 b9 b10 b11 b12 b13 b14 b15 b16 b17 b18 b19 b20 b21) (a0) (a1) :
    Keeps defs₀ c R (k0_part96 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part96
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  exact keeps_pure _

/-- Window 97 of the body keeps the resource. -/
theorem keeps_part97 (H : Held c R b2 b3 b4 b5 b6 b7 b8 b9 b10 b11 b12 b13 b14 b15 b16 b17 b18 b19 b20 b21) (a0) (a1) (a2) :
    Keeps defs₀ c R (k0_part97 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part97
  refine keeps_writes H.w16 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  exact keeps_pure _

/-- Window 98 of the body keeps the resource. -/
theorem keeps_part98 (H : Held c R b2 b3 b4 b5 b6 b7 b8 b9 b10 b11 b12 b13 b14 b15 b16 b17 b18 b19 b20 b21) (a0) (a1) (a2) :
    Keeps defs₀ c R (k0_part98 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part98
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  exact keeps_pure _

/-- Window 99 of the body keeps the resource. -/
theorem keeps_part99 (H : Held c R b2 b3 b4 b5 b6 b7 b8 b9 b10 b11 b12 b13 b14 b15 b16 b17 b18 b19 b20 b21) (a0) (a1) (a2) (a3) (a4) :
    Keeps defs₀ c R (k0_part99 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part99
  refine keeps_reads H.w17 fun _ => ?_
  refine keeps_writes H.w17 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 100 of the body keeps the resource. -/
theorem keeps_part100 (H : Held c R b2 b3 b4 b5 b6 b7 b8 b9 b10 b11 b12 b13 b14 b15 b16 b17 b18 b19 b20 b21) (a0) (a1) (a2) (a3) (a4) (a5) (a6) (a7) :
    Keeps defs₀ c R (k0_part100 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7) := by
  unfold k0_part100
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 101 of the body keeps the resource. -/
theorem keeps_part101 (H : Held c R b2 b3 b4 b5 b6 b7 b8 b9 b10 b11 b12 b13 b14 b15 b16 b17 b18 b19 b20 b21) (a0) (a1) (a2) (a3) (a4) (a5) (a6) :
    Keeps defs₀ c R (k0_part101 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part101
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  exact keeps_pure _

/-- Window 102 of the body keeps the resource. -/
theorem keeps_part102 (H : Held c R b2 b3 b4 b5 b6 b7 b8 b9 b10 b11 b12 b13 b14 b15 b16 b17 b18 b19 b20 b21) (a0) (a1) (a2) (a3) (a4) (a5) :
    Keeps defs₀ c R (k0_part102 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part102
  refine keeps_bind (keeps_load H.r3) fun _ => ?_
  refine keeps_bind (keeps_load H.r4) fun _ => ?_
  refine keeps_reads H.w11 fun _ => ?_
  refine keeps_reads H.w16 fun _ => ?_
  refine keeps_reads H.w19 fun _ => ?_
  refine keeps_reads H.w21 fun _ => ?_
  exact keeps_pure _

end Cert.Proof.Kernel

end
-- ==== Proof.Keeps4.lean ====
/-
  Windows 103 to 127 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 103 of the body keeps the resource. -/
theorem keeps_part103 (H : Held c R b2 b3 b4 b5 b6 b7 b8 b9 b10 b11 b12 b13 b14 b15 b16 b17 b18 b19 b20 b21) (a0) (a1) (a2) :
    Keeps defs₀ c R (k0_part103 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part103
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 104 of the body keeps the resource. -/
theorem keeps_part104 (H : Held c R b2 b3 b4 b5 b6 b7 b8 b9 b10 b11 b12 b13 b14 b15 b16 b17 b18 b19 b20 b21) (a0) (a1) :
    Keeps defs₀ c R (k0_part104 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part104
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  exact keeps_pure _

/-- Window 105 of the body keeps the resource. -/
theorem keeps_part105 (H : Held c R b2 b3 b4 b5 b6 b7 b8 b9 b10 b11 b12 b13 b14 b15 b16 b17 b18 b19 b20 b21) (a0) (a1) (a2) :
    Keeps defs₀ c R (k0_part105 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part105
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  exact keeps_pure _

/-- Window 106 of the body keeps the resource. -/
theorem keeps_part106 (H : Held c R b2 b3 b4 b5 b6 b7 b8 b9 b10 b11 b12 b13 b14 b15 b16 b17 b18 b19 b20 b21) (a0) (a1) (a2) (a3) :
    Keeps defs₀ c R (k0_part106 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part106
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  exact keeps_pure _

/-- Window 107 of the body keeps the resource. -/
theorem keeps_part107 (H : Held c R b2 b3 b4 b5 b6 b7 b8 b9 b10 b11 b12 b13 b14 b15 b16 b17 b18 b19 b20 b21) (a0) (a1) (a2) (a3) (a4) :
    Keeps defs₀ c R (k0_part107 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part107
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  exact keeps_pure _

/-- Window 108 of the body keeps the resource. -/
theorem keeps_part108 (H : Held c R b2 b3 b4 b5 b6 b7 b8 b9 b10 b11 b12 b13 b14 b15 b16 b17 b18 b19 b20 b21) (a0) (a1) (a2) (a3) (a4) :
    Keeps defs₀ c R (k0_part108 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part108
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  exact keeps_pure _

/-- Window 109 of the body keeps the resource. -/
theorem keeps_part109 (H : Held c R b2 b3 b4 b5 b6 b7 b8 b9 b10 b11 b12 b13 b14 b15 b16 b17 b18 b19 b20 b21) (a0) (a1) (a2) (a3) (a4) :
    Keeps defs₀ c R (k0_part109 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part109
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  exact keeps_pure _

/-- Window 110 of the body keeps the resource. -/
theorem keeps_part110 (H : Held c R b2 b3 b4 b5 b6 b7 b8 b9 b10 b11 b12 b13 b14 b15 b16 b17 b18 b19 b20 b21) (a0) (a1) (a2) (a3) (a4) :
    Keeps defs₀ c R (k0_part110 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part110
  refine keeps_bind (keeps_load H.r3) fun _ => ?_
  refine keeps_bind (keeps_load H.r4) fun _ => ?_
  refine keeps_reads H.w11 fun _ => ?_
  refine keeps_reads H.w16 fun _ => ?_
  exact keeps_pure _

/-- Window 111 of the body keeps the resource. -/
theorem keeps_part111 (H : Held c R b2 b3 b4 b5 b6 b7 b8 b9 b10 b11 b12 b13 b14 b15 b16 b17 b18 b19 b20 b21) (a0) :
    Keeps defs₀ c R (k0_part111 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part111
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  exact keeps_pure _

/-- Window 112 of the body keeps the resource. -/
theorem keeps_part112 (H : Held c R b2 b3 b4 b5 b6 b7 b8 b9 b10 b11 b12 b13 b14 b15 b16 b17 b18 b19 b20 b21) (a0) (a1) (a2) :
    Keeps defs₀ c R (k0_part112 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part112
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 113 of the body keeps the resource. -/
theorem keeps_part113 (H : Held c R b2 b3 b4 b5 b6 b7 b8 b9 b10 b11 b12 b13 b14 b15 b16 b17 b18 b19 b20 b21) (a0) (a1) :
    Keeps defs₀ c R (k0_part113 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part113
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  exact keeps_pure _

/-- Window 114 of the body keeps the resource. -/
theorem keeps_part114 (H : Held c R b2 b3 b4 b5 b6 b7 b8 b9 b10 b11 b12 b13 b14 b15 b16 b17 b18 b19 b20 b21) (a0) (a1) (a2) :
    Keeps defs₀ c R (k0_part114 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part114
  refine keeps_writes H.w16 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  exact keeps_pure _

/-- Window 115 of the body keeps the resource. -/
theorem keeps_part115 (H : Held c R b2 b3 b4 b5 b6 b7 b8 b9 b10 b11 b12 b13 b14 b15 b16 b17 b18 b19 b20 b21) (a0) (a1) (a2) :
    Keeps defs₀ c R (k0_part115 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part115
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  exact keeps_pure _

/-- Window 116 of the body keeps the resource. -/
theorem keeps_part116 (H : Held c R b2 b3 b4 b5 b6 b7 b8 b9 b10 b11 b12 b13 b14 b15 b16 b17 b18 b19 b20 b21) (a0) (a1) (a2) (a3) (a4) :
    Keeps defs₀ c R (k0_part116 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part116
  refine keeps_reads H.w17 fun _ => ?_
  refine keeps_writes H.w17 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 117 of the body keeps the resource. -/
theorem keeps_part117 (H : Held c R b2 b3 b4 b5 b6 b7 b8 b9 b10 b11 b12 b13 b14 b15 b16 b17 b18 b19 b20 b21) (a0) (a1) (a2) (a3) (a4) (a5) (a6) (a7) :
    Keeps defs₀ c R (k0_part117 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7) := by
  unfold k0_part117
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 118 of the body keeps the resource. -/
theorem keeps_part118 (H : Held c R b2 b3 b4 b5 b6 b7 b8 b9 b10 b11 b12 b13 b14 b15 b16 b17 b18 b19 b20 b21) (a0) (a1) (a2) (a3) (a4) (a5) (a6) :
    Keeps defs₀ c R (k0_part118 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part118
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  exact keeps_pure _

/-- Window 119 of the body keeps the resource. -/
theorem keeps_part119 (H : Held c R b2 b3 b4 b5 b6 b7 b8 b9 b10 b11 b12 b13 b14 b15 b16 b17 b18 b19 b20 b21) (a0) (a1) (a2) (a3) (a4) (a5) :
    Keeps defs₀ c R (k0_part119 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part119
  refine keeps_bind (keeps_load H.r3) fun _ => ?_
  refine keeps_bind (keeps_load H.r4) fun _ => ?_
  refine keeps_reads H.w11 fun _ => ?_
  refine keeps_reads H.w16 fun _ => ?_
  refine keeps_reads H.w19 fun _ => ?_
  refine keeps_reads H.w21 fun _ => ?_
  exact keeps_pure _

/-- Window 120 of the body keeps the resource. -/
theorem keeps_part120 (H : Held c R b2 b3 b4 b5 b6 b7 b8 b9 b10 b11 b12 b13 b14 b15 b16 b17 b18 b19 b20 b21) (a0) (a1) (a2) :
    Keeps defs₀ c R (k0_part120 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part120
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 121 of the body keeps the resource. -/
theorem keeps_part121 (H : Held c R b2 b3 b4 b5 b6 b7 b8 b9 b10 b11 b12 b13 b14 b15 b16 b17 b18 b19 b20 b21) (a0) (a1) :
    Keeps defs₀ c R (k0_part121 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part121
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  exact keeps_pure _

/-- Window 122 of the body keeps the resource. -/
theorem keeps_part122 (H : Held c R b2 b3 b4 b5 b6 b7 b8 b9 b10 b11 b12 b13 b14 b15 b16 b17 b18 b19 b20 b21) (a0) (a1) (a2) :
    Keeps defs₀ c R (k0_part122 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part122
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  exact keeps_pure _

/-- Window 123 of the body keeps the resource. -/
theorem keeps_part123 (H : Held c R b2 b3 b4 b5 b6 b7 b8 b9 b10 b11 b12 b13 b14 b15 b16 b17 b18 b19 b20 b21) (a0) (a1) (a2) (a3) :
    Keeps defs₀ c R (k0_part123 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part123
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  exact keeps_pure _

/-- Window 124 of the body keeps the resource. -/
theorem keeps_part124 (H : Held c R b2 b3 b4 b5 b6 b7 b8 b9 b10 b11 b12 b13 b14 b15 b16 b17 b18 b19 b20 b21) (a0) (a1) (a2) (a3) (a4) :
    Keeps defs₀ c R (k0_part124 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part124
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  exact keeps_pure _

/-- Window 125 of the body keeps the resource. -/
theorem keeps_part125 (H : Held c R b2 b3 b4 b5 b6 b7 b8 b9 b10 b11 b12 b13 b14 b15 b16 b17 b18 b19 b20 b21) (a0) (a1) (a2) (a3) (a4) :
    Keeps defs₀ c R (k0_part125 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part125
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  exact keeps_pure _

/-- Window 126 of the body keeps the resource. -/
theorem keeps_part126 (H : Held c R b2 b3 b4 b5 b6 b7 b8 b9 b10 b11 b12 b13 b14 b15 b16 b17 b18 b19 b20 b21) (a0) (a1) (a2) (a3) (a4) :
    Keeps defs₀ c R (k0_part126 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part126
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  exact keeps_pure _

/-- Window 127 of the body keeps the resource. -/
theorem keeps_part127 (H : Held c R b2 b3 b4 b5 b6 b7 b8 b9 b10 b11 b12 b13 b14 b15 b16 b17 b18 b19 b20 b21) (a0) (a1) :
    Keeps defs₀ c R (k0_part127 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part127
  refine keeps_reads H.w20 fun _ => ?_
  refine keeps_writes H.w20 fun _ => ?_
  refine keeps_reads H.w21 fun _ => ?_
  refine keeps_writes H.w21 fun _ => ?_
  refine keeps_bind (keeps_load H.r3) fun _ => ?_
  refine keeps_reads H.w11 fun _ => ?_
  exact keeps_pure _

end Cert.Proof.Kernel

end
-- ==== Proof.Keeps5.lean ====
/-
  Windows 128 to 153 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 128 of the body keeps the resource. -/
theorem keeps_part128 (H : Held c R b2 b3 b4 b5 b6 b7 b8 b9 b10 b11 b12 b13 b14 b15 b16 b17 b18 b19 b20 b21) (a0) (a1) (a2) (a3) (a4) :
    Keeps defs₀ c R (k0_part128 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part128
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 129 of the body keeps the resource. -/
theorem keeps_part129 (H : Held c R b2 b3 b4 b5 b6 b7 b8 b9 b10 b11 b12 b13 b14 b15 b16 b17 b18 b19 b20 b21) (a0) (a1) (a2) (a3) (a4) (a5) :
    Keeps defs₀ c R (k0_part129 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part129
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 130 of the body keeps the resource. -/
theorem keeps_part130 (H : Held c R b2 b3 b4 b5 b6 b7 b8 b9 b10 b11 b12 b13 b14 b15 b16 b17 b18 b19 b20 b21) (a0) (a1) (a2) (a3) (a4) :
    Keeps defs₀ c R (k0_part130 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part130
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  exact keeps_pure _

/-- Window 132 of the body keeps the resource. -/
theorem keeps_part132 (H : Held c R b2 b3 b4 b5 b6 b7 b8 b9 b10 b11 b12 b13 b14 b15 b16 b17 b18 b19 b20 b21) (a0) (a1) (a2) (a3) (a4) :
    Keeps defs₀ c R (k0_part132 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part132
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  exact keeps_pure _

/-- Window 133 of the body keeps the resource. -/
theorem keeps_part133 (H : Held c R b2 b3 b4 b5 b6 b7 b8 b9 b10 b11 b12 b13 b14 b15 b16 b17 b18 b19 b20 b21) (a0) (a1) (a2) (a3) (a4) (a5) :
    Keeps defs₀ c R (k0_part133 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part133
  refine keeps_bind (keeps_load H.r3) fun _ => ?_
  refine keeps_bind (keeps_load H.r4) fun _ => ?_
  refine keeps_reads H.w11 fun _ => ?_
  refine keeps_reads H.w14 fun _ => ?_
  exact keeps_pure _

/-- Window 134 of the body keeps the resource. -/
theorem keeps_part134 (H : Held c R b2 b3 b4 b5 b6 b7 b8 b9 b10 b11 b12 b13 b14 b15 b16 b17 b18 b19 b20 b21) (a0) (a1) (a2) (a3) (a4) (a5) :
    Keeps defs₀ c R (k0_part134 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part134
  refine keeps_reads H.w14 fun _ => ?_
  refine keeps_writes H.w14 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  exact keeps_pure _

/-- Window 135 of the body keeps the resource. -/
theorem keeps_part135 (H : Held c R b2 b3 b4 b5 b6 b7 b8 b9 b10 b11 b12 b13 b14 b15 b16 b17 b18 b19 b20 b21) (a0) :
    Keeps defs₀ c R (k0_part135 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part135
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  exact keeps_pure _

/-- Window 136 of the body keeps the resource. -/
theorem keeps_part136 (H : Held c R b2 b3 b4 b5 b6 b7 b8 b9 b10 b11 b12 b13 b14 b15 b16 b17 b18 b19 b20 b21) (a0) :
    Keeps defs₀ c R (k0_part136 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part136
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  exact keeps_pure _

/-- Window 137 of the body keeps the resource. -/
theorem keeps_part137 (H : Held c R b2 b3 b4 b5 b6 b7 b8 b9 b10 b11 b12 b13 b14 b15 b16 b17 b18 b19 b20 b21) (a0) (a1) (a2) (a3) (a4) :
    Keeps defs₀ c R (k0_part137 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part137
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  exact keeps_pure _

/-- Window 138 of the body keeps the resource. -/
theorem keeps_part138 (H : Held c R b2 b3 b4 b5 b6 b7 b8 b9 b10 b11 b12 b13 b14 b15 b16 b17 b18 b19 b20 b21) (a0) (a1) (a2) :
    Keeps defs₀ c R (k0_part138 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part138
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  exact keeps_pure _

/-- Window 139 of the body keeps the resource. -/
theorem keeps_part139 (H : Held c R b2 b3 b4 b5 b6 b7 b8 b9 b10 b11 b12 b13 b14 b15 b16 b17 b18 b19 b20 b21) (a0) (a1) (a2) (a3) (a4) (a5) (a6) :
    Keeps defs₀ c R (k0_part139 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part139
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  refine keeps_reads H.w9 fun _ => ?_
  refine keeps_reads H.w18 fun _ => ?_
  exact keeps_pure _

/-- Window 140 of the body keeps the resource. -/
theorem keeps_part140 (H : Held c R b2 b3 b4 b5 b6 b7 b8 b9 b10 b11 b12 b13 b14 b15 b16 b17 b18 b19 b20 b21) (a0) (a1) (a2) (a3) (a4) (a5) :
    Keeps defs₀ c R (k0_part140 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part140
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  exact keeps_pure _

/-- Window 141 of the body keeps the resource. -/
theorem keeps_part141 (H : Held c R b2 b3 b4 b5 b6 b7 b8 b9 b10 b11 b12 b13 b14 b15 b16 b17 b18 b19 b20 b21) (a0) (a1) (a2) (a3) (a4) :
    Keeps defs₀ c R (k0_part141 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part141
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  exact keeps_pure _

/-- Window 142 of the body keeps the resource. -/
theorem keeps_part142 (H : Held c R b2 b3 b4 b5 b6 b7 b8 b9 b10 b11 b12 b13 b14 b15 b16 b17 b18 b19 b20 b21) (a0) (a1) (a2) (a3) (a4) :
    Keeps defs₀ c R (k0_part142 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part142
  refine keeps_writes H.w18 fun _ => ?_
  refine keeps_reads H.w19 fun _ => ?_
  refine keeps_writes H.w19 fun _ => ?_
  refine keeps_bind (keeps_load H.r3) fun _ => ?_
  refine keeps_bind (keeps_load H.r4) fun _ => ?_
  refine keeps_reads H.w11 fun _ => ?_
  exact keeps_pure _

/-- Window 143 of the body keeps the resource. -/
theorem keeps_part143 (H : Held c R b2 b3 b4 b5 b6 b7 b8 b9 b10 b11 b12 b13 b14 b15 b16 b17 b18 b19 b20 b21) (a0) (a1) (a2) (a3) :
    Keeps defs₀ c R (k0_part143 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part143
  refine keeps_reads H.w14 fun _ => ?_
  refine keeps_reads H.w14 fun _ => ?_
  refine keeps_writes H.w14 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 144 of the body keeps the resource. -/
theorem keeps_part144 (H : Held c R b2 b3 b4 b5 b6 b7 b8 b9 b10 b11 b12 b13 b14 b15 b16 b17 b18 b19 b20 b21) (a0) (a1) :
    Keeps defs₀ c R (k0_part144 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part144
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  exact keeps_pure _

/-- Window 145 of the body keeps the resource. -/
theorem keeps_part145 (H : Held c R b2 b3 b4 b5 b6 b7 b8 b9 b10 b11 b12 b13 b14 b15 b16 b17 b18 b19 b20 b21) (a0) :
    Keeps defs₀ c R (k0_part145 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part145
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  exact keeps_pure _

/-- Window 146 of the body keeps the resource. -/
theorem keeps_part146 (H : Held c R b2 b3 b4 b5 b6 b7 b8 b9 b10 b11 b12 b13 b14 b15 b16 b17 b18 b19 b20 b21) (a0) (a1) (a2) :
    Keeps defs₀ c R (k0_part146 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part146
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  refine keeps_reads H.w17 fun _ => ?_
  exact keeps_pure _

/-- Window 147 of the body keeps the resource. -/
theorem keeps_part147 (H : Held c R b2 b3 b4 b5 b6 b7 b8 b9 b10 b11 b12 b13 b14 b15 b16 b17 b18 b19 b20 b21) (a0) (a1) (a2) (a3) :
    Keeps defs₀ c R (k0_part147 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part147
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  exact keeps_pure _

/-- Window 148 of the body keeps the resource. -/
theorem keeps_part148 (H : Held c R b2 b3 b4 b5 b6 b7 b8 b9 b10 b11 b12 b13 b14 b15 b16 b17 b18 b19 b20 b21) (a0) (a1) (a2) (a3) (a4) (a5) :
    Keeps defs₀ c R (k0_part148 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part148
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  refine keeps_reads H.w9 fun _ => ?_
  exact keeps_pure _

/-- Window 149 of the body keeps the resource. -/
theorem keeps_part149 (H : Held c R b2 b3 b4 b5 b6 b7 b8 b9 b10 b11 b12 b13 b14 b15 b16 b17 b18 b19 b20 b21) (a0) (a1) (a2) (a3) (a4) (a5) (a6) :
    Keeps defs₀ c R (k0_part149 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part149
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 150 of the body keeps the resource. -/
theorem keeps_part150 (H : Held c R b2 b3 b4 b5 b6 b7 b8 b9 b10 b11 b12 b13 b14 b15 b16 b17 b18 b19 b20 b21) (a0) (a1) (a2) (a3) (a4) :
    Keeps defs₀ c R (k0_part150 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part150
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 151 of the body keeps the resource. -/
theorem keeps_part151 (H : Held c R b2 b3 b4 b5 b6 b7 b8 b9 b10 b11 b12 b13 b14 b15 b16 b17 b18 b19 b20 b21) (a0) (a1) (a2) (a3) (a4) (a5) :
    Keeps defs₀ c R (k0_part151 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part151
  refine keeps_bind (keeps_load H.r3) fun _ => ?_
  refine keeps_bind (keeps_load H.r4) fun _ => ?_
  refine keeps_reads H.w11 fun _ => ?_
  refine keeps_reads H.w14 fun _ => ?_
  exact keeps_pure _

/-- Window 152 of the body keeps the resource. -/
theorem keeps_part152 (H : Held c R b2 b3 b4 b5 b6 b7 b8 b9 b10 b11 b12 b13 b14 b15 b16 b17 b18 b19 b20 b21) (a0) (a1) (a2) (a3) (a4) (a5) :
    Keeps defs₀ c R (k0_part152 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part152
  refine keeps_reads H.w14 fun _ => ?_
  refine keeps_writes H.w14 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  exact keeps_pure _

/-- Window 153 of the body keeps the resource. -/
theorem keeps_part153 (H : Held c R b2 b3 b4 b5 b6 b7 b8 b9 b10 b11 b12 b13 b14 b15 b16 b17 b18 b19 b20 b21) (a0) :
    Keeps defs₀ c R (k0_part153 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part153
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  exact keeps_pure _

end Cert.Proof.Kernel

end
-- ==== Proof.Keeps6.lean ====
/-
  Windows 154 to 179 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 154 of the body keeps the resource. -/
theorem keeps_part154 (H : Held c R b2 b3 b4 b5 b6 b7 b8 b9 b10 b11 b12 b13 b14 b15 b16 b17 b18 b19 b20 b21) (a0) :
    Keeps defs₀ c R (k0_part154 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part154
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  exact keeps_pure _

/-- Window 155 of the body keeps the resource. -/
theorem keeps_part155 (H : Held c R b2 b3 b4 b5 b6 b7 b8 b9 b10 b11 b12 b13 b14 b15 b16 b17 b18 b19 b20 b21) (a0) (a1) (a2) (a3) (a4) :
    Keeps defs₀ c R (k0_part155 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part155
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  exact keeps_pure _

/-- Window 156 of the body keeps the resource. -/
theorem keeps_part156 (H : Held c R b2 b3 b4 b5 b6 b7 b8 b9 b10 b11 b12 b13 b14 b15 b16 b17 b18 b19 b20 b21) (a0) (a1) (a2) :
    Keeps defs₀ c R (k0_part156 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part156
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  exact keeps_pure _

/-- Window 157 of the body keeps the resource. -/
theorem keeps_part157 (H : Held c R b2 b3 b4 b5 b6 b7 b8 b9 b10 b11 b12 b13 b14 b15 b16 b17 b18 b19 b20 b21) (a0) (a1) (a2) (a3) (a4) (a5) (a6) :
    Keeps defs₀ c R (k0_part157 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part157
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  refine keeps_reads H.w9 fun _ => ?_
  refine keeps_reads H.w18 fun _ => ?_
  exact keeps_pure _

/-- Window 158 of the body keeps the resource. -/
theorem keeps_part158 (H : Held c R b2 b3 b4 b5 b6 b7 b8 b9 b10 b11 b12 b13 b14 b15 b16 b17 b18 b19 b20 b21) (a0) (a1) (a2) (a3) (a4) (a5) :
    Keeps defs₀ c R (k0_part158 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part158
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  exact keeps_pure _

/-- Window 159 of the body keeps the resource. -/
theorem keeps_part159 (H : Held c R b2 b3 b4 b5 b6 b7 b8 b9 b10 b11 b12 b13 b14 b15 b16 b17 b18 b19 b20 b21) (a0) (a1) (a2) (a3) (a4) :
    Keeps defs₀ c R (k0_part159 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part159
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  exact keeps_pure _

/-- Window 160 of the body keeps the resource. -/
theorem keeps_part160 (H : Held c R b2 b3 b4 b5 b6 b7 b8 b9 b10 b11 b12 b13 b14 b15 b16 b17 b18 b19 b20 b21) (a0) (a1) (a2) (a3) (a4) :
    Keeps defs₀ c R (k0_part160 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part160
  refine keeps_writes H.w18 fun _ => ?_
  refine keeps_reads H.w19 fun _ => ?_
  refine keeps_writes H.w19 fun _ => ?_
  refine keeps_bind (keeps_load H.r3) fun _ => ?_
  refine keeps_bind (keeps_load H.r4) fun _ => ?_
  refine keeps_reads H.w11 fun _ => ?_
  exact keeps_pure _

/-- Window 161 of the body keeps the resource. -/
theorem keeps_part161 (H : Held c R b2 b3 b4 b5 b6 b7 b8 b9 b10 b11 b12 b13 b14 b15 b16 b17 b18 b19 b20 b21) (a0) (a1) (a2) (a3) :
    Keeps defs₀ c R (k0_part161 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part161
  refine keeps_reads H.w14 fun _ => ?_
  refine keeps_reads H.w14 fun _ => ?_
  refine keeps_writes H.w14 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  exact keeps_pure _

/-- Window 162 of the body keeps the resource. -/
theorem keeps_part162 (H : Held c R b2 b3 b4 b5 b6 b7 b8 b9 b10 b11 b12 b13 b14 b15 b16 b17 b18 b19 b20 b21) (a0) (a1) :
    Keeps defs₀ c R (k0_part162 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part162
  refine keeps_reads H.w20 fun _ => ?_
  refine keeps_writes H.w20 fun _ => ?_
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  exact keeps_pure _

/-- Window 163 of the body keeps the resource. -/
theorem keeps_part163 (H : Held c R b2 b3 b4 b5 b6 b7 b8 b9 b10 b11 b12 b13 b14 b15 b16 b17 b18 b19 b20 b21) (a0) :
    Keeps defs₀ c R (k0_part163 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part163
  refine keeps_reads H.w16 fun _ => ?_
  refine keeps_writes H.w16 fun _ => ?_
  refine keeps_reads H.w16 fun _ => ?_
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w16 fun _ => ?_
  exact keeps_pure _

/-- Window 164 of the body keeps the resource. -/
theorem keeps_part164 (H : Held c R b2 b3 b4 b5 b6 b7 b8 b9 b10 b11 b12 b13 b14 b15 b16 b17 b18 b19 b20 b21) (a0) (a1) (a2) :
    Keeps defs₀ c R (k0_part164 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part164
  refine keeps_reads H.w19 fun _ => ?_
  refine keeps_reads H.w21 fun _ => ?_
  refine keeps_writes H.w21 fun _ => ?_
  refine keeps_reads H.w18 fun _ => ?_
  refine keeps_reads H.w20 fun _ => ?_
  refine keeps_writes H.w20 fun _ => ?_
  refine keeps_reads H.w16 fun _ => ?_
  refine keeps_writes H.w16 fun _ => ?_
  refine keeps_reads H.w21 fun _ => ?_
  refine keeps_reads H.w17 fun _ => ?_
  exact keeps_pure _

/-- Window 165 of the body keeps the resource. -/
theorem keeps_part165 (H : Held c R b2 b3 b4 b5 b6 b7 b8 b9 b10 b11 b12 b13 b14 b15 b16 b17 b18 b19 b20 b21) (a0) (a1) (a2) (a3) :
    Keeps defs₀ c R (k0_part165 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part165
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  exact keeps_pure _

/-- Window 166 of the body keeps the resource. -/
theorem keeps_part166 (H : Held c R b2 b3 b4 b5 b6 b7 b8 b9 b10 b11 b12 b13 b14 b15 b16 b17 b18 b19 b20 b21) (a0) (a1) (a2) (a3) (a4) (a5) :
    Keeps defs₀ c R (k0_part166 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part166
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w15 fun _ => ?_
  refine keeps_reads H.w9 fun _ => ?_
  exact keeps_pure _

/-- Window 167 of the body keeps the resource. -/
theorem keeps_part167 (H : Held c R b2 b3 b4 b5 b6 b7 b8 b9 b10 b11 b12 b13 b14 b15 b16 b17 b18 b19 b20 b21) (a0) (a1) (a2) (a3) (a4) (a5) (a6) :
    Keeps defs₀ c R (k0_part167 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6) := by
  unfold k0_part167
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 168 of the body keeps the resource. -/
theorem keeps_part168 (H : Held c R b2 b3 b4 b5 b6 b7 b8 b9 b10 b11 b12 b13 b14 b15 b16 b17 b18 b19 b20 b21) (a0) (a1) (a2) (a3) (a4) :
    Keeps defs₀ c R (k0_part168 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part168
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 169 of the body keeps the resource. -/
theorem keeps_part169 (H : Held c R b2 b3 b4 b5 b6 b7 b8 b9 b10 b11 b12 b13 b14 b15 b16 b17 b18 b19 b20 b21) (a0) (a1) (a2) :
    Keeps defs₀ c R (k0_part169 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part169
  refine keeps_reads H.w14 fun _ => ?_
  refine keeps_writes H.w14 fun _ => ?_
  refine keeps_reads H.w20 fun _ => ?_
  refine keeps_writes H.w20 fun _ => ?_
  refine keeps_reads H.w21 fun _ => ?_
  refine keeps_writes H.w21 fun _ => ?_
  exact keeps_pure _

/-- Window 170 of the body keeps the resource. -/
theorem keeps_part170 (H : Held c R b2 b3 b4 b5 b6 b7 b8 b9 b10 b11 b12 b13 b14 b15 b16 b17 b18 b19 b20 b21) (a0) (a1) (a2) (a3) (a4) :
    Keeps defs₀ c R (k0_part170 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part170
  refine keeps_bind (keeps_load H.r3) fun _ => ?_
  refine keeps_reads H.w11 fun _ => ?_
  refine keeps_reads H.w14 fun _ => ?_
  refine keeps_reads H.w14 fun _ => ?_
  refine keeps_writes H.w14 fun _ => ?_
  refine keeps_reads H.w15 fun _ => ?_
  refine keeps_reads H.w9 fun _ => ?_
  exact keeps_pure _

/-- Window 171 of the body keeps the resource. -/
theorem keeps_part171 (H : Held c R b2 b3 b4 b5 b6 b7 b8 b9 b10 b11 b12 b13 b14 b15 b16 b17 b18 b19 b20 b21) (a0) (a1) (a2) (a3) (a4) (a5) :
    Keeps defs₀ c R (k0_part171 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part171
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  exact keeps_pure _

/-- Window 172 of the body keeps the resource. -/
theorem keeps_part172 (H : Held c R b2 b3 b4 b5 b6 b7 b8 b9 b10 b11 b12 b13 b14 b15 b16 b17 b18 b19 b20 b21) (a0) (a1) (a2) (a3) :
    Keeps defs₀ c R (k0_part172 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3) := by
  unfold k0_part172
  refine keeps_reads H.w19 fun _ => ?_
  refine keeps_writes H.w19 fun _ => ?_
  refine keeps_reads H.w15 fun _ => ?_
  refine keeps_reads H.w9 fun _ => ?_
  refine keeps_reads H.w18 fun _ => ?_
  refine keeps_writes H.w18 fun _ => ?_
  refine keeps_reads H.w19 fun _ => ?_
  refine keeps_writes H.w19 fun _ => ?_
  refine keeps_reads H.w15 fun _ => ?_
  refine keeps_reads H.w9 fun _ => ?_
  exact keeps_pure _

/-- Window 173 of the body keeps the resource. -/
theorem keeps_part173 (H : Held c R b2 b3 b4 b5 b6 b7 b8 b9 b10 b11 b12 b13 b14 b15 b16 b17 b18 b19 b20 b21) (a0) (a1) (a2) (a3) (a4) :
    Keeps defs₀ c R (k0_part173 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part173
  refine keeps_reads H.w18 fun _ => ?_
  refine keeps_writes H.w18 fun _ => ?_
  refine keeps_reads H.w19 fun _ => ?_
  refine keeps_writes H.w19 fun _ => ?_
  exact keeps_pure _

/-- Window 175 of the body keeps the resource. -/
theorem keeps_part175 (H : Held c R b2 b3 b4 b5 b6 b7 b8 b9 b10 b11 b12 b13 b14 b15 b16 b17 b18 b19 b20 b21) (a0) (a1) (a2) :
    Keeps defs₀ c R (k0_part175 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part175
  refine keeps_reads H.w21 fun _ => ?_
  refine keeps_reads H.w17 fun _ => ?_
  refine keeps_reads H.w20 fun _ => ?_
  refine keeps_reads H.w17 fun _ => ?_
  refine keeps_writes H.w17 fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  exact keeps_pure _

/-- Window 176 of the body keeps the resource. -/
theorem keeps_part176 (H : Held c R b2 b3 b4 b5 b6 b7 b8 b9 b10 b11 b12 b13 b14 b15 b16 b17 b18 b19 b20 b21) :
    Keeps defs₀ c R (k0_part176 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21) := by
  unfold k0_part176
  refine keeps_dite (fun _ => ?_) (fun _ => ?_)
  · refine keeps_reads H.w12 fun _ => ?_
    refine keeps_writes H.w12 fun _ => ?_
    refine keeps_reads H.w12 fun _ => ?_
    refine keeps_writes H.w12 fun _ => ?_
    refine keeps_bind (keeps_load H.r2) fun _ => ?_
    refine keeps_reads H.w15 fun _ => ?_
    exact keeps_pure _
  · refine keeps_bind (keeps_load H.r2) fun _ => ?_
    refine keeps_reads H.w15 fun _ => ?_
    exact keeps_pure _

/-- Window 177 of the body keeps the resource. -/
theorem keeps_part177 (H : Held c R b2 b3 b4 b5 b6 b7 b8 b9 b10 b11 b12 b13 b14 b15 b16 b17 b18 b19 b20 b21) (a0) (a1) (a2) :
    Keeps defs₀ c R (k0_part177 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part177
  refine keeps_writes H.w15 fun _ => ?_
  refine keeps_reads H.w15 fun _ => ?_
  refine keeps_writes H.w15 fun _ => ?_
  refine keeps_reads H.w15 fun _ => ?_
  refine keeps_writes H.w15 fun _ => ?_
  refine keeps_reads H.w15 fun _ => ?_
  refine keeps_writes H.w15 fun _ => ?_
  refine keeps_reads H.w16 fun _ => ?_
  refine keeps_writes H.w16 fun _ => ?_
  refine keeps_reads H.w17 fun _ => ?_
  refine keeps_writes H.w17 fun _ => ?_
  exact keeps_pure _

/-- Window 178 of the body keeps the resource. -/
theorem keeps_part178 (H : Held c R b2 b3 b4 b5 b6 b7 b8 b9 b10 b11 b12 b13 b14 b15 b16 b17 b18 b19 b20 b21) (a0) :
    Keeps defs₀ c R (k0_part178 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part178
  refine keeps_reads H.w9 fun _ => ?_
  refine keeps_writes H.w9 fun _ => ?_
  refine keeps_reads H.w9 fun _ => ?_
  refine keeps_writes H.w9 fun _ => ?_
  refine keeps_reads H.w9 fun _ => ?_
  refine keeps_writes H.w9 fun _ => ?_
  refine keeps_reads H.w9 fun _ => ?_
  refine keeps_writes H.w9 fun _ => ?_
  refine keeps_bind (keeps_load H.r5) fun _ => ?_
  refine keeps_reads H.w10 fun _ => ?_
  refine keeps_writes H.w10 fun _ => ?_
  exact keeps_pure _

/-- Window 179 of the body keeps the resource. -/
theorem keeps_part179 (H : Held c R b2 b3 b4 b5 b6 b7 b8 b9 b10 b11 b12 b13 b14 b15 b16 b17 b18 b19 b20 b21) (a0) (a1) (a2) :
    Keeps defs₀ c R (k0_part179 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2) := by
  unfold k0_part179
  refine keeps_reads H.w10 fun _ => ?_
  refine keeps_writes H.w10 fun _ => ?_
  refine keeps_reads H.w10 fun _ => ?_
  refine keeps_writes H.w10 fun _ => ?_
  refine keeps_reads H.w10 fun _ => ?_
  refine keeps_writes H.w10 fun _ => ?_
  refine keeps_reads H.w10 fun _ => ?_
  refine keeps_writes H.w10 fun _ => ?_
  refine keeps_reads H.w10 fun _ => ?_
  refine keeps_writes H.w10 fun _ => ?_
  refine keeps_reads H.w10 fun _ => ?_
  refine keeps_writes H.w10 fun _ => ?_
  refine keeps_reads H.w10 fun _ => ?_
  refine keeps_writes H.w10 fun _ => ?_
  exact keeps_pure _

end Cert.Proof.Kernel

end
-- ==== Proof.Keeps7.lean ====
/-
  Windows 180 to 204 of the kernel's body that call no other window: each keeps the resource it runs from.
-/
module

public import proofs.«01_k».proof.Proof.Held

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {b2 : Memref sig .tc .vmem S1x256x256 .bf16} {h2 : b2.IsWhole}
  {b3 : Memref sig .tc .vmem S1x8192x256 .bf16} {h3 : b3.IsWhole}
  {b4 : Memref sig .tc .vmem S1x32x256x256 .bf16} {h4 : b4.IsWhole}
  {b5 : Memref sig .tc .vmem S1x512x256 .bf16} {h5 : b5.IsWhole}
  {b6 : Memref sig .tc .vmem S1x8192x128 .f32} {h6 : b6.IsWhole}
  {b7 : Memref sig .tc .vmem S1x128x256 .f32} {h7 : b7.IsWhole}
  {b8 : Memref sig .tc .vmem S1x256x256 .bf16} {h8 : b8.IsWhole}
  {b9 : Memref sig .tc .vmem S4x256x128 .f32} {h9 : b9.IsWhole}
  {b10 : Memref sig .tc .vmem S8x128x256 .bf16} {h10 : b10.IsWhole}
  {b11 : Memref sig .tc .vmem S8192x256 .i32} {h11 : b11.IsWhole}
  {b12 : Memref sig .tc .vmem S33x256x256 .i32} {h12 : b12.IsWhole}
  {b13 : Memref sig .tc .vmem S256x256 .i32} {h13 : b13.IsWhole}
  {b14 : Memref sig .tc .vmem S1x256 .f32} {h14 : b14.IsWhole}
  {b15 : Memref sig .tc .vmem S4x256x256 .bf16} {h15 : b15.IsWhole}
  {b16 : Memref sig .tc .vmem S4x1x256 .f32} {h16 : b16.IsWhole}
  {b17 : Memref sig .tc .vmem S4x80x256 .f32} {h17 : b17.IsWhole}
  {b18 : Memref sig .tc .vmem S2x4x256x256 .f32} {h18 : b18.IsWhole}
  {b19 : Memref sig .tc .vmem S2x4x1x256 .f32} {h19 : b19.IsWhole}
  {b20 : Memref sig .tc .vmem S2x4x256x256 .bf16} {h20 : b20.IsWhole}
  {b21 : Memref sig .tc .vmem S2x4x1x256 .f32} {h21 : b21.IsWhole}

/-- Window 180 of the body keeps the resource. -/
theorem keeps_part180 (H : Held c R b2 b3 b4 b5 b6 b7 b8 b9 b10 b11 b12 b13 b14 b15 b16 b17 b18 b19 b20 b21) (a0) :
    Keeps defs₀ c R (k0_part180 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0) := by
  unfold k0_part180
  refine keeps_bind (keeps_load H.r7) fun _ => ?_
  refine keeps_bind (keeps_load H.r6) fun _ => ?_
  refine keeps_reads H.w10 fun _ => ?_
  refine keeps_reads H.w10 fun _ => ?_
  refine keeps_reads H.w10 fun _ => ?_
  exact keeps_pure _

/-- Window 181 of the body keeps the resource. -/
theorem keeps_part181 (H : Held c R b2 b3 b4 b5 b6 b7 b8 b9 b10 b11 b12 b13 b14 b15 b16 b17 b18 b19 b20 b21) (a0) (a1) (a2) (a3) (a4) :
    Keeps defs₀ c R (k0_part181 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4) := by
  unfold k0_part181
  refine keeps_reads H.w10 fun _ => ?_
  refine keeps_reads H.w10 fun _ => ?_
  refine keeps_reads H.w10 fun _ => ?_
  refine keeps_reads H.w10 fun _ => ?_
  exact keeps_pure _

/-- Window 182 of the body keeps the resource. -/
theorem keeps_part182 (H : Held c R b2 b3 b4 b5 b6 b7 b8 b9 b10 b11 b12 b13 b14 b15 b16 b17 b18 b19 b20 b21) (a0) (a1) (a2) (a3) (a4) (a5) :
    Keeps defs₀ c R (k0_part182 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5) := by
  unfold k0_part182
  refine keeps_reads H.w10 fun _ => ?_
  refine keeps_reads H.w11 fun _ => ?_
  refine keeps_writes H.w11 fun _ => ?_
  exact keeps_pure _

/-- Window 183 of the body keeps the resource. -/
theorem keeps_part183 (H : Held c R b2 b3 b4 b5 b6 b7 b8 b9 b10 b11 b12 b13 b14 b15 b16 b17 b18 b19 b20 b21) (a0) (a1) (a2) (a3) (a4) (a5) (a6) (a7) (a8) :
    Keeps defs₀ c R (k0_part183 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8) := by
  unfold k0_part183
  exact keeps_pure _

/-- Window 184 of the body keeps the resource. -/
theorem keeps_part184 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part184 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part184
  exact keeps_pure _

/-- Window 185 of the body keeps the resource. -/
theorem keeps_part185 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part185 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part185
  exact keeps_pure _

/-- Window 186 of the body keeps the resource. -/
theorem keeps_part186 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part186 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part186
  exact keeps_pure _

/-- Window 187 of the body keeps the resource. -/
theorem keeps_part187 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part187 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part187
  exact keeps_pure _

/-- Window 188 of the body keeps the resource. -/
theorem keeps_part188 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part188 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part188
  exact keeps_pure _

/-- Window 189 of the body keeps the resource. -/
theorem keeps_part189 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part189 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part189
  exact keeps_pure _

/-- Window 190 of the body keeps the resource. -/
theorem keeps_part190 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part190 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part190
  exact keeps_pure _

/-- Window 191 of the body keeps the resource. -/
theorem keeps_part191 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part191 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part191
  exact keeps_pure _

/-- Window 192 of the body keeps the resource. -/
theorem keeps_part192 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part192 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part192
  exact keeps_pure _

/-- Window 193 of the body keeps the resource. -/
theorem keeps_part193 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part193 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part193
  exact keeps_pure _

/-- Window 194 of the body keeps the resource. -/
theorem keeps_part194 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part194 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part194
  exact keeps_pure _

/-- Window 195 of the body keeps the resource. -/
theorem keeps_part195 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part195 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part195
  exact keeps_pure _

/-- Window 196 of the body keeps the resource. -/
theorem keeps_part196 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part196 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part196
  exact keeps_pure _

/-- Window 197 of the body keeps the resource. -/
theorem keeps_part197 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part197 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part197
  exact keeps_pure _

/-- Window 198 of the body keeps the resource. -/
theorem keeps_part198 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part198 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part198
  exact keeps_pure _

/-- Window 199 of the body keeps the resource. -/
theorem keeps_part199 (H : Held c R b2 b3 b4 b5 b6 b7 b8 b9 b10 b11 b12 b13 b14 b15 b16 b17 b18 b19 b20 b21) (a0) (a1) (a2) (a3) (a4) (a5) (a6) (a7) :
    Keeps defs₀ c R (k0_part199 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7) := by
  unfold k0_part199
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 200 of the body keeps the resource. -/
theorem keeps_part200 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part200 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part200
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 201 of the body keeps the resource. -/
theorem keeps_part201 (H : Held c R b2 b3 b4 b5 b6 b7 b8 b9 b10 b11 b12 b13 b14 b15 b16 b17 b18 b19 b20 b21) (a0) (a1) (a2) (a3) (a4) (a5) (a6) (a7) (a8) :
    Keeps defs₀ c R (k0_part201 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8) := by
  unfold k0_part201
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  exact keeps_pure _

/-- Window 202 of the body keeps the resource. -/
theorem keeps_part202 (H : Held c R b2 b3 b4 b5 b6 b7 b8 b9 b10 b11 b12 b13 b14 b15 b16 b17 b18 b19 b20 b21) (a0) (a1) (a2) (a3) (a4) (a5) (a6) (a7) (a8) (a9) (a10) :
    Keeps defs₀ c R (k0_part202 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1 a2 a3 a4 a5 a6 a7 a8 a9 a10) := by
  unfold k0_part202
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  refine keeps_reads H.w12 fun _ => ?_
  refine keeps_writes H.w12 fun _ => ?_
  exact keeps_pure _

/-- Window 204 of the body keeps the resource. -/
theorem keeps_part204 (H : Held c R b2 b3 b4 b5 b6 b7 b8 b9 b10 b11 b12 b13 b14 b15 b16 b17 b18 b19 b20 b21) (a0) (a1) :
    Keeps defs₀ c R (k0_part204 (F := F) i b2 h2 b3 h3 b4 h4 b5 h5 b6 h6 b7 h7 b8 h8 b9 h9 b10 h10 b11 h11 b12 h12 b13 h13 b14 h14 b15 h15 b16 h16 b17 h17 b18 h18 b19 h19 b20 h20 b21 h21 a0 a1) := by
  unfold k0_part204
  refine keeps_reads H.w13 fun _ => ?_
  refine keeps_writes H.w13 fun _ => ?_
  refine keeps_bind (keeps_for fun _ _ => ?_) fun _ => ?_
  · refine keeps_bind (keeps_for fun _ _ => ?_) fun _ => ?_
    · refine keeps_reads H.w13 fun _ => ?_
      refine keeps_reads H.w12 fun _ => ?_
      refine keeps_reads H.w13 fun _ => ?_
      refine keeps_writes H.w13 fun _ => ?_
      refine keeps_reads H.w12 fun _ => ?_
      exact keeps_pure _
    refine keeps_bind (keeps_for fun _ _ => ?_) fun _ => ?_
    · refine keeps_reads H.w13 fun _ => ?_
      refine keeps_reads H.w12 fun _ => ?_
      refine keeps_reads H.w13 fun _ => ?_
      refine keeps_writes H.w13 fun _ => ?_
      refine keeps_reads H.w12 fun _ => ?_
      exact keeps_pure _
    exact keeps_pure _
  refine keeps_bind (keeps_for fun _ _ => ?_) fun _ => ?_
  · refine keeps_reads H.w13 fun _ => ?_
    refine keeps_reads H.w12 fun _ => ?_
    exact keeps_pure _
  refine keeps_bind (keeps_for fun _ _ => ?_) fun _ => ?_
  · refine keeps_reads H.w13 fun _ => ?_
    refine keeps_reads H.w12 fun _ => ?_
    exact keeps_pure _
  exact keeps_pure _

end Cert.Proof.Kernel

end
-- ==== Proof.KeepsLoops.lean ====
/-
  The windows that are made of other windows: two trips of the score loop and the two attention loops.
-/
module

public import proofs.«01_k».proof.Proof.Keeps0
public import proofs.«01_k».proof.Proof.Keeps1
public import proofs.«01_k».proof.Proof.Keeps2
public import proofs.«01_k».proof.Proof.Keeps3
public import proofs.«01_k».proof.Proof.Keeps4
public import proofs.«01_k».proof.Proof.Keeps5
public import proofs.«01_k».proof.Proof.Keeps6
public import proofs.«01_k».proof.Proof.Keeps7

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {arg2 : Memref sig .tc .vmem S1x256x256 .bf16} {harg2 : arg2.IsWhole}
  {arg3 : Memref sig .tc .vmem S1x8192x256 .bf16} {harg3 : arg3.IsWhole}
  {arg4 : Memref sig .tc .vmem S1x32x256x256 .bf16} {harg4 : arg4.IsWhole}
  {arg5 : Memref sig .tc .vmem S1x512x256 .bf16} {harg5 : arg5.IsWhole}
  {arg6 : Memref sig .tc .vmem S1x8192x128 .f32} {harg6 : arg6.IsWhole}
  {arg7 : Memref sig .tc .vmem S1x128x256 .f32} {harg7 : arg7.IsWhole}
  {arg8 : Memref sig .tc .vmem S1x256x256 .bf16} {harg8 : arg8.IsWhole}
  {arg9 : Memref sig .tc .vmem S4x256x128 .f32} {harg9 : arg9.IsWhole}
  {arg10 : Memref sig .tc .vmem S8x128x256 .bf16} {harg10 : arg10.IsWhole}
  {arg11 : Memref sig .tc .vmem S8192x256 .i32} {harg11 : arg11.IsWhole}
  {arg12 : Memref sig .tc .vmem S33x256x256 .i32} {harg12 : arg12.IsWhole}
  {arg13 : Memref sig .tc .vmem S256x256 .i32} {harg13 : arg13.IsWhole}
  {arg14 : Memref sig .tc .vmem S1x256 .f32} {harg14 : arg14.IsWhole}
  {arg15 : Memref sig .tc .vmem S4x256x256 .bf16} {harg15 : arg15.IsWhole}
  {arg16 : Memref sig .tc .vmem S4x1x256 .f32} {harg16 : arg16.IsWhole}
  {arg17 : Memref sig .tc .vmem S4x80x256 .f32} {harg17 : arg17.IsWhole}
  {arg18 : Memref sig .tc .vmem S2x4x256x256 .f32} {harg18 : arg18.IsWhole}
  {arg19 : Memref sig .tc .vmem S2x4x1x256 .f32} {harg19 : arg19.IsWhole}
  {arg20 : Memref sig .tc .vmem S2x4x256x256 .bf16} {harg20 : arg20.IsWhole}
  {arg21 : Memref sig .tc .vmem S2x4x1x256 .f32} {harg21 : arg21.IsWhole}

/-- Window 46 of the body keeps the resource. -/
theorem keeps_part46 (H : Held c R arg2 arg3 arg4 arg5 arg6 arg7 arg8 arg9 arg10 arg11 arg12 arg13 arg14 arg15 arg16 arg17 arg18 arg19 arg20 arg21) (a0) (a1) (a2) (a3) (a4) :
    Keeps defs₀ c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2 a3 a4) := by
  unfold k0_part46
  refine keeps_bind (keeps_part1 H _ _ _ _) fun _ => ?_
  refine keeps_bind (keeps_part2 H _ _ _ _) fun _ => ?_
  refine keeps_bind (keeps_part3 H _ _ _ _ _ _) fun _ => ?_
  refine keeps_bind (keeps_part4 H _ _ _ _ _ _ _ _ _ _ _) fun _ => ?_
  refine keeps_bind (keeps_part5 H _ _ _ _ _ _ _ _ _ _ _ _) fun _ => ?_
  refine keeps_bind (keeps_part6 H _ _ _ _ _ _ _ _ _ _ _ _) fun _ => ?_
  refine keeps_bind (keeps_part7 H _ _ _ _ _ _ _ _ _ _ _ _) fun _ => ?_
  refine keeps_bind (keeps_part8 H _ _ _ _ _ _ _ _ _ _ _ _) fun _ => ?_
  refine keeps_bind (keeps_part9 H _ _ _ _ _ _ _ _ _ _ _ _) fun _ => ?_
  refine keeps_bind (keeps_part10 H _ _ _ _ _ _ _ _ _ _ _ _) fun _ => ?_
  refine keeps_bind (keeps_part11 H _ _ _ _ _ _ _ _ _ _ _ _) fun _ => ?_
  refine keeps_bind (keeps_part12 H _ _ _ _ _ _ _ _ _ _ _ _) fun _ => ?_
  refine keeps_bind (keeps_part13 H _ _ _ _ _ _ _ _ _ _ _ _) fun _ => ?_
  refine keeps_bind (keeps_part14 H _ _ _ _ _ _ _ _ _ _ _ _) fun _ => ?_
  refine keeps_bind (keeps_part15 H _ _ _ _ _ _ _ _ _ _ _ _) fun _ => ?_
  refine keeps_bind (keeps_part16 H _ _ _ _ _ _ _ _ _ _ _ _) fun _ => ?_
  refine keeps_bind (keeps_part17 H _ _ _ _ _ _ _ _ _ _ _ _) fun _ => ?_
  refine keeps_bind (keeps_part18 H _ _ _ _ _ _ _ _ _ _ _ _) fun _ => ?_
  refine keeps_bind (keeps_part19 H _ _ _ _ _ _ _ _ _ _ _ _) fun _ => ?_
  refine keeps_bind (keeps_part20 H _ _ _ _ _ _ _ _ _ _ _) fun _ => ?_
  refine keeps_bind (keeps_part21 H _ _ _ _ _ _ _ _ _ _) fun _ => ?_
  refine keeps_bind (keeps_part22 H _ _ _ _ _ _ _ _ _ _ _ _) fun _ => ?_
  refine keeps_bind (keeps_part23 H _ _ _ _ _ _ _ _ _ _ _) fun _ => ?_
  refine keeps_bind (keeps_part24 H _ _) fun _ => ?_
  refine keeps_bind (keeps_part25 H _ _ _ _ _) fun _ => ?_
  refine keeps_bind (keeps_part26 H _ _ _ _) fun _ => ?_
  refine keeps_bind (keeps_part27 H _ _ _ _ _ _ _ _ _ _ _ _ _) fun _ => ?_
  refine keeps_bind (keeps_part28 H _ _ _ _ _ _ _ _ _ _ _ _ _) fun _ => ?_
  refine keeps_bind (keeps_part29 H _ _ _ _ _ _ _ _ _ _ _ _ _) fun _ => ?_
  refine keeps_bind (keeps_part30 H _ _ _ _ _ _ _ _ _ _ _ _ _) fun _ => ?_
  refine keeps_bind (keeps_part31 H _ _ _ _ _ _ _ _ _ _ _ _ _) fun _ => ?_
  refine keeps_bind (keeps_part32 H _ _ _ _ _ _ _ _ _ _ _ _ _) fun _ => ?_
  refine keeps_bind (keeps_part33 H _ _ _ _ _ _ _ _ _ _ _ _ _) fun _ => ?_
  refine keeps_bind (keeps_part34 H _ _ _ _ _ _ _ _ _ _ _ _ _) fun _ => ?_
  refine keeps_bind (keeps_part35 H _ _ _ _ _ _ _ _ _ _ _ _ _) fun _ => ?_
  refine keeps_bind (keeps_part36 H _ _ _ _ _ _ _ _ _ _ _ _ _) fun _ => ?_
  refine keeps_bind (keeps_part37 H _ _ _ _ _ _ _ _ _ _ _ _ _) fun _ => ?_
  refine keeps_bind (keeps_part38 H _ _ _ _ _ _ _ _ _ _ _ _ _) fun _ => ?_
  refine keeps_bind (keeps_part39 H _ _ _ _ _ _ _ _ _ _ _ _ _) fun _ => ?_
  refine keeps_bind (keeps_part40 H _ _ _ _ _ _ _ _ _ _ _ _ _) fun _ => ?_
  refine keeps_bind (keeps_part41 H _ _ _ _ _ _ _ _ _ _ _ _ _) fun _ => ?_
  refine keeps_bind (keeps_part42 H _ _ _ _ _ _ _ _ _ _ _ _ _) fun _ => ?_
  refine keeps_bind (keeps_part43 H _ _ _ _ _ _ _ _ _ _ _ _) fun _ => ?_
  refine keeps_bind (keeps_part44 H _ _ _ _ _ _ _ _ _ _) fun _ => ?_
  refine keeps_bind (keeps_part45 H _ _ _ _ _ _ _ _ _ _ _) fun _ => ?_
  refine keeps_reads H.w12 fun _ => ?_
  refine keeps_writes H.w12 fun _ => ?_
  refine keeps_reads H.w12 fun _ => ?_
  refine keeps_writes H.w12 fun _ => ?_
  exact keeps_pure _

/-- Window 92 of the body keeps the resource. -/
theorem keeps_part92 (H : Held c R arg2 arg3 arg4 arg5 arg6 arg7 arg8 arg9 arg10 arg11 arg12 arg13 arg14 arg15 arg16 arg17 arg18 arg19 arg20 arg21) (a0) (a1) (a2) (a3) (a4) :
    Keeps defs₀ c R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2 a3 a4) := by
  unfold k0_part92
  refine keeps_bind (keeps_part47 H _ _ _ _) fun _ => ?_
  refine keeps_bind (keeps_part48 H _ _ _ _) fun _ => ?_
  refine keeps_bind (keeps_part49 H _ _ _ _ _ _) fun _ => ?_
  refine keeps_bind (keeps_part50 H _ _ _ _ _ _ _ _ _ _ _) fun _ => ?_
  refine keeps_bind (keeps_part51 H _ _ _ _ _ _ _ _ _ _ _ _) fun _ => ?_
  refine keeps_bind (keeps_part52 H _ _ _ _ _ _ _ _ _ _ _ _) fun _ => ?_
  refine keeps_bind (keeps_part53 H _ _ _ _ _ _ _ _ _ _ _ _) fun _ => ?_
  refine keeps_bind (keeps_part54 H _ _ _ _ _ _ _ _ _ _ _ _) fun _ => ?_
  refine keeps_bind (keeps_part55 H _ _ _ _ _ _ _ _ _ _ _ _) fun _ => ?_
  refine keeps_bind (keeps_part56 H _ _ _ _ _ _ _ _ _ _ _ _) fun _ => ?_
  refine keeps_bind (keeps_part57 H _ _ _ _ _ _ _ _ _ _ _ _) fun _ => ?_
  refine keeps_bind (keeps_part58 H _ _ _ _ _ _ _ _ _ _ _ _) fun _ => ?_
  refine keeps_bind (keeps_part59 H _ _ _ _ _ _ _ _ _ _ _ _) fun _ => ?_
  refine keeps_bind (keeps_part60 H _ _ _ _ _ _ _ _ _ _ _ _) fun _ => ?_
  refine keeps_bind (keeps_part61 H _ _ _ _ _ _ _ _ _ _ _ _) fun _ => ?_
  refine keeps_bind (keeps_part62 H _ _ _ _ _ _ _ _ _ _ _ _) fun _ => ?_
  refine keeps_bind (keeps_part63 H _ _ _ _ _ _ _ _ _ _ _ _) fun _ => ?_
  refine keeps_bind (keeps_part64 H _ _ _ _ _ _ _ _ _ _ _ _) fun _ => ?_
  refine keeps_bind (keeps_part65 H _ _ _ _ _ _ _ _ _ _ _ _) fun _ => ?_
  refine keeps_bind (keeps_part66 H _ _ _ _ _ _ _ _ _ _ _) fun _ => ?_
  refine keeps_bind (keeps_part67 H _ _ _ _ _ _ _ _ _ _) fun _ => ?_
  refine keeps_bind (keeps_part68 H _ _ _ _ _ _ _ _ _ _ _ _) fun _ => ?_
  refine keeps_bind (keeps_part69 H _ _ _ _ _ _ _ _ _ _ _) fun _ => ?_
  refine keeps_bind (keeps_part70 H _ _) fun _ => ?_
  refine keeps_bind (keeps_part71 H _ _ _ _ _) fun _ => ?_
  refine keeps_bind (keeps_part72 H _ _ _ _) fun _ => ?_
  refine keeps_bind (keeps_part73 H _ _ _ _ _ _ _ _ _ _ _ _ _) fun _ => ?_
  refine keeps_bind (keeps_part74 H _ _ _ _ _ _ _ _ _ _ _ _ _) fun _ => ?_
  refine keeps_bind (keeps_part75 H _ _ _ _ _ _ _ _ _ _ _ _ _) fun _ => ?_
  refine keeps_bind (keeps_part76 H _ _ _ _ _ _ _ _ _ _ _ _ _) fun _ => ?_
  refine keeps_bind (keeps_part77 H _ _ _ _ _ _ _ _ _ _ _ _ _) fun _ => ?_
  refine keeps_bind (keeps_part78 H _ _ _ _ _ _ _ _ _ _ _ _ _) fun _ => ?_
  refine keeps_bind (keeps_part79 H _ _ _ _ _ _ _ _ _ _ _ _ _) fun _ => ?_
  refine keeps_bind (keeps_part80 H _ _ _ _ _ _ _ _ _ _ _ _ _) fun _ => ?_
  refine keeps_bind (keeps_part81 H _ _ _ _ _ _ _ _ _ _ _ _ _) fun _ => ?_
  refine keeps_bind (keeps_part82 H _ _ _ _ _ _ _ _ _ _ _ _ _) fun _ => ?_
  refine keeps_bind (keeps_part83 H _ _ _ _ _ _ _ _ _ _ _ _ _) fun _ => ?_
  refine keeps_bind (keeps_part84 H _ _ _ _ _ _ _ _ _ _ _ _ _) fun _ => ?_
  refine keeps_bind (keeps_part85 H _ _ _ _ _ _ _ _ _ _ _ _ _) fun _ => ?_
  refine keeps_bind (keeps_part86 H _ _ _ _ _ _ _ _ _ _ _ _ _) fun _ => ?_
  refine keeps_bind (keeps_part87 H _ _ _ _ _ _ _ _ _ _ _ _ _) fun _ => ?_
  refine keeps_bind (keeps_part88 H _ _ _ _ _ _ _ _ _ _ _ _ _) fun _ => ?_
  refine keeps_bind (keeps_part89 H _ _ _ _ _ _ _ _ _ _ _ _) fun _ => ?_
  refine keeps_bind (keeps_part90 H _ _ _ _ _ _ _ _ _ _) fun _ => ?_
  refine keeps_bind (keeps_part91 H _ _ _ _ _ _ _ _ _ _ _) fun _ => ?_
  refine keeps_reads H.w12 fun _ => ?_
  refine keeps_writes H.w12 fun _ => ?_
  refine keeps_reads H.w12 fun _ => ?_
  refine keeps_writes H.w12 fun _ => ?_
  exact keeps_pure _

/-- Window 131 of the body keeps the resource. -/
theorem keeps_part131 (H : Held c R arg2 arg3 arg4 arg5 arg6 arg7 arg8 arg9 arg10 arg11 arg12 arg13 arg14 arg15 arg16 arg17 arg18 arg19 arg20 arg21) (a0) (a1) (a2) (a3) (a4) (a5) (a6) (a7) (a8) :
    Keeps defs₀ c R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2 a3 a4 a5 a6 a7 a8) := by
  unfold k0_part131
  refine keeps_bind (keeps_for fun _ _ => ?_) fun _ => ?_
  · refine keeps_bind (keeps_part93 H _ _ _ _ _) fun _ => ?_
    refine keeps_bind (keeps_part94 H _) fun _ => ?_
    refine keeps_bind (keeps_part95 H _ _ _) fun _ => ?_
    refine keeps_bind (keeps_part96 H _ _) fun _ => ?_
    refine keeps_bind (keeps_part97 H _ _ _) fun _ => ?_
    refine keeps_bind (keeps_part98 H _ _ _) fun _ => ?_
    refine keeps_bind (keeps_part99 H _ _ _ _ _) fun _ => ?_
    refine keeps_bind (keeps_part100 H _ _ _ _ _ _ _ _) fun _ => ?_
    refine keeps_bind (keeps_part101 H _ _ _ _ _ _ _) fun _ => ?_
    refine keeps_bind (keeps_part102 H _ _ _ _ _ _) fun _ => ?_
    refine keeps_bind (keeps_part103 H _ _ _) fun _ => ?_
    refine keeps_bind (keeps_part104 H _ _) fun _ => ?_
    refine keeps_bind (keeps_part105 H _ _ _) fun _ => ?_
    refine keeps_bind (keeps_part106 H _ _ _ _) fun _ => ?_
    refine keeps_bind (keeps_part107 H _ _ _ _ _) fun _ => ?_
    refine keeps_bind (keeps_part108 H _ _ _ _ _) fun _ => ?_
    refine keeps_bind (keeps_part109 H _ _ _ _ _) fun _ => ?_
    refine keeps_reads H.w9 fun _ => ?_
    refine keeps_reads H.w18 fun _ => ?_
    refine keeps_writes H.w18 fun _ => ?_
    refine keeps_reads H.w19 fun _ => ?_
    refine keeps_writes H.w19 fun _ => ?_
    exact keeps_pure _
  refine keeps_bind (keeps_for fun _ _ => ?_) fun _ => ?_
  · refine keeps_bind (keeps_part110 H _ _ _ _ _) fun _ => ?_
    refine keeps_bind (keeps_part111 H _) fun _ => ?_
    refine keeps_bind (keeps_part112 H _ _ _) fun _ => ?_
    refine keeps_bind (keeps_part113 H _ _) fun _ => ?_
    refine keeps_bind (keeps_part114 H _ _ _) fun _ => ?_
    refine keeps_bind (keeps_part115 H _ _ _) fun _ => ?_
    refine keeps_bind (keeps_part116 H _ _ _ _ _) fun _ => ?_
    refine keeps_bind (keeps_part117 H _ _ _ _ _ _ _ _) fun _ => ?_
    refine keeps_bind (keeps_part118 H _ _ _ _ _ _ _) fun _ => ?_
    refine keeps_bind (keeps_part119 H _ _ _ _ _ _) fun _ => ?_
    refine keeps_bind (keeps_part120 H _ _ _) fun _ => ?_
    refine keeps_bind (keeps_part121 H _ _) fun _ => ?_
    refine keeps_bind (keeps_part122 H _ _ _) fun _ => ?_
    refine keeps_bind (keeps_part123 H _ _ _ _) fun _ => ?_
    refine keeps_bind (keeps_part124 H _ _ _ _ _) fun _ => ?_
    refine keeps_bind (keeps_part125 H _ _ _ _ _) fun _ => ?_
    refine keeps_bind (keeps_part126 H _ _ _ _ _) fun _ => ?_
    refine keeps_reads H.w9 fun _ => ?_
    refine keeps_reads H.w18 fun _ => ?_
    refine keeps_writes H.w18 fun _ => ?_
    refine keeps_reads H.w19 fun _ => ?_
    refine keeps_writes H.w19 fun _ => ?_
    exact keeps_pure _
  refine keeps_bind (keeps_load H.r4) fun _ => ?_
  refine keeps_reads H.w21 fun _ => ?_
  refine keeps_reads H.w17 fun _ => ?_
  refine keeps_reads H.w20 fun _ => ?_
  exact keeps_pure _

/-- Window 174 of the body keeps the resource. -/
theorem keeps_part174 (H : Held c R arg2 arg3 arg4 arg5 arg6 arg7 arg8 arg9 arg10 arg11 arg12 arg13 arg14 arg15 arg16 arg17 arg18 arg19 arg20 arg21) (a0) (a1) (a2) (a3) (a4) (a5) (a6) (a7) (a8) :
    Keeps defs₀ c R (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2 a3 a4 a5 a6 a7 a8) := by
  unfold k0_part174
  refine keeps_bind (keeps_for fun _ _ => ?_) fun _ => ?_
  · refine keeps_bind (keeps_part133 H _ _ _ _ _ _) fun _ => ?_
    refine keeps_bind (keeps_part134 H _ _ _ _ _ _) fun _ => ?_
    refine keeps_bind (keeps_part135 H _) fun _ => ?_
    refine keeps_bind (keeps_part136 H _) fun _ => ?_
    refine keeps_bind (keeps_part137 H _ _ _ _ _) fun _ => ?_
    refine keeps_bind (keeps_part138 H _ _ _) fun _ => ?_
    refine keeps_bind (keeps_part139 H _ _ _ _ _ _ _) fun _ => ?_
    refine keeps_bind (keeps_part140 H _ _ _ _ _ _) fun _ => ?_
    refine keeps_bind (keeps_part141 H _ _ _ _ _) fun _ => ?_
    refine keeps_bind (keeps_part142 H _ _ _ _ _) fun _ => ?_
    refine keeps_bind (keeps_part143 H _ _ _ _) fun _ => ?_
    refine keeps_bind (keeps_part144 H _ _) fun _ => ?_
    refine keeps_bind (keeps_part145 H _) fun _ => ?_
    refine keeps_bind (keeps_part146 H _ _ _) fun _ => ?_
    refine keeps_bind (keeps_part147 H _ _ _ _) fun _ => ?_
    refine keeps_bind (keeps_part148 H _ _ _ _ _ _) fun _ => ?_
    refine keeps_bind (keeps_part149 H _ _ _ _ _ _ _) fun _ => ?_
    refine keeps_bind (keeps_part150 H _ _ _ _ _) fun _ => ?_
    refine keeps_reads H.w18 fun _ => ?_
    refine keeps_writes H.w18 fun _ => ?_
    refine keeps_reads H.w19 fun _ => ?_
    refine keeps_writes H.w19 fun _ => ?_
    exact keeps_pure _
  refine keeps_bind (keeps_for fun _ _ => ?_) fun _ => ?_
  · refine keeps_bind (keeps_part151 H _ _ _ _ _ _) fun _ => ?_
    refine keeps_bind (keeps_part152 H _ _ _ _ _ _) fun _ => ?_
    refine keeps_bind (keeps_part153 H _) fun _ => ?_
    refine keeps_bind (keeps_part154 H _) fun _ => ?_
    refine keeps_bind (keeps_part155 H _ _ _ _ _) fun _ => ?_
    refine keeps_bind (keeps_part156 H _ _ _) fun _ => ?_
    refine keeps_bind (keeps_part157 H _ _ _ _ _ _ _) fun _ => ?_
    refine keeps_bind (keeps_part158 H _ _ _ _ _ _) fun _ => ?_
    refine keeps_bind (keeps_part159 H _ _ _ _ _) fun _ => ?_
    refine keeps_bind (keeps_part160 H _ _ _ _ _) fun _ => ?_
    refine keeps_bind (keeps_part161 H _ _ _ _) fun _ => ?_
    refine keeps_bind (keeps_part162 H _ _) fun _ => ?_
    refine keeps_bind (keeps_part163 H _) fun _ => ?_
    refine keeps_bind (keeps_part164 H _ _ _) fun _ => ?_
    refine keeps_bind (keeps_part165 H _ _ _ _) fun _ => ?_
    refine keeps_bind (keeps_part166 H _ _ _ _ _ _) fun _ => ?_
    refine keeps_bind (keeps_part167 H _ _ _ _ _ _ _) fun _ => ?_
    refine keeps_bind (keeps_part168 H _ _ _ _ _) fun _ => ?_
    refine keeps_reads H.w18 fun _ => ?_
    refine keeps_writes H.w18 fun _ => ?_
    refine keeps_reads H.w19 fun _ => ?_
    refine keeps_writes H.w19 fun _ => ?_
    exact keeps_pure _
  refine keeps_bind (keeps_load H.r4) fun _ => ?_
  refine keeps_reads H.w21 fun _ => ?_
  refine keeps_reads H.w17 fun _ => ?_
  refine keeps_reads H.w20 fun _ => ?_
  refine keeps_reads H.w17 fun _ => ?_
  refine keeps_writes H.w17 fun _ => ?_
  exact keeps_pure _

end Cert.Proof.Kernel

end
-- ==== Proof.KeepsBody.lean ====
/-
  The whole body of the kernel keeps the resource it runs from.
-/
module

public import proofs.«01_k».proof.Proof.KeepsLoops

@[expose] public section

noncomputable section

namespace Cert.Proof.Kernel

open Cert.Kernel Cert.Proof
open Idealize.ShloMosaic Idealize.ShloMosaic.TcCoe
open Idealize.SL Idealize.SL.RA Idealize.SL.BI
variable [Facts]
variable {F : FTy → Type} [BitOps F]
variable {U : Type} [URA U] {c : Dev nD} {R : sProp (MT nD τ sig Unit (Elt F) ℕ U ℕ)}
variable {i : grid0.Coords} {arg2 : Memref sig .tc .vmem S1x256x256 .bf16} {harg2 : arg2.IsWhole}
  {arg3 : Memref sig .tc .vmem S1x8192x256 .bf16} {harg3 : arg3.IsWhole}
  {arg4 : Memref sig .tc .vmem S1x32x256x256 .bf16} {harg4 : arg4.IsWhole}
  {arg5 : Memref sig .tc .vmem S1x512x256 .bf16} {harg5 : arg5.IsWhole}
  {arg6 : Memref sig .tc .vmem S1x8192x128 .f32} {harg6 : arg6.IsWhole}
  {arg7 : Memref sig .tc .vmem S1x128x256 .f32} {harg7 : arg7.IsWhole}
  {arg8 : Memref sig .tc .vmem S1x256x256 .bf16} {harg8 : arg8.IsWhole}
  {arg9 : Memref sig .tc .vmem S4x256x128 .f32} {harg9 : arg9.IsWhole}
  {arg10 : Memref sig .tc .vmem S8x128x256 .bf16} {harg10 : arg10.IsWhole}
  {arg11 : Memref sig .tc .vmem S8192x256 .i32} {harg11 : arg11.IsWhole}
  {arg12 : Memref sig .tc .vmem S33x256x256 .i32} {harg12 : arg12.IsWhole}
  {arg13 : Memref sig .tc .vmem S256x256 .i32} {harg13 : arg13.IsWhole}
  {arg14 : Memref sig .tc .vmem S1x256 .f32} {harg14 : arg14.IsWhole}
  {arg15 : Memref sig .tc .vmem S4x256x256 .bf16} {harg15 : arg15.IsWhole}
  {arg16 : Memref sig .tc .vmem S4x1x256 .f32} {harg16 : arg16.IsWhole}
  {arg17 : Memref sig .tc .vmem S4x80x256 .f32} {harg17 : arg17.IsWhole}
  {arg18 : Memref sig .tc .vmem S2x4x256x256 .f32} {harg18 : arg18.IsWhole}
  {arg19 : Memref sig .tc .vmem S2x4x1x256 .f32} {harg19 : arg19.IsWhole}
  {arg20 : Memref sig .tc .vmem S2x4x256x256 .bf16} {harg20 : arg20.IsWhole}
  {arg21 : Memref sig .tc .vmem S2x4x1x256 .f32} {harg21 : arg21.IsWhole}

/-- Window 203 of the body keeps the resource. -/
theorem keeps_part203 (H : Held c R arg2 arg3 arg4 arg5 arg6 arg7 arg8 arg9 arg10 arg11 arg12 arg13 arg14 arg15 arg16 arg17 arg18 arg19 arg20 arg21) (a0) (a1) (a2) :
    Keeps defs₀ c R (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2) := by
  unfold k0_part203
  refine keeps_bind (keeps_for fun _ _ => ?_) fun _ => ?_
  · refine keeps_bind (keeps_part46 H _ _ _ _ _) fun _ => ?_
    refine keeps_reads H.w12 fun _ => ?_
    refine keeps_writes H.w12 fun _ => ?_
    refine keeps_reads H.w12 fun _ => ?_
    refine keeps_writes H.w12 fun _ => ?_
    refine keeps_reads H.w12 fun _ => ?_
    refine keeps_writes H.w12 fun _ => ?_
    refine keeps_reads H.w12 fun _ => ?_
    refine keeps_writes H.w12 fun _ => ?_
    exact keeps_pure _
  refine keeps_bind (keeps_for fun _ _ => ?_) fun _ => ?_
  · refine keeps_bind (keeps_part92 H _ _ _ _ _) fun _ => ?_
    refine keeps_reads H.w12 fun _ => ?_
    refine keeps_writes H.w12 fun _ => ?_
    refine keeps_reads H.w12 fun _ => ?_
    refine keeps_writes H.w12 fun _ => ?_
    refine keeps_reads H.w12 fun _ => ?_
    refine keeps_writes H.w12 fun _ => ?_
    refine keeps_reads H.w12 fun _ => ?_
    refine keeps_writes H.w12 fun _ => ?_
    exact keeps_pure _
  exact keeps_pure _

/-- Window 205 of the body keeps the resource. -/
theorem keeps_part205 (H : Held c R arg2 arg3 arg4 arg5 arg6 arg7 arg8 arg9 arg10 arg11 arg12 arg13 arg14 arg15 arg16 arg17 arg18 arg19 arg20 arg21) (a0) (a1) (a2) (a3) (a4) (a5) :
    Keeps defs₀ c R (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a0 a1 a2 a3 a4 a5) := by
  unfold k0_part205
  refine keeps_ite ?_ ?_
  · refine keeps_bind (keeps_part127 H _ _) fun _ => ?_
    refine keeps_bind (keeps_part128 H _ _ _ _ _) fun _ => ?_
    refine keeps_bind (keeps_part129 H _ _ _ _ _ _) fun _ => ?_
    refine keeps_bind (keeps_part130 H _ _ _ _ _) fun _ => ?_
    refine keeps_bind (keeps_part131 H _ _ _ _ _ _ _ _ _) fun _ => ?_
    refine keeps_bind (keeps_part132 H _ _ _ _ _) fun _ => ?_
    refine keeps_reads H.w20 fun _ => ?_
    refine keeps_reads H.w17 fun _ => ?_
    refine keeps_writes H.w17 fun _ => ?_
    refine keeps_reads H.w21 fun _ => ?_
    refine keeps_reads H.w17 fun _ => ?_
    refine keeps_reads H.w20 fun _ => ?_
    refine keeps_reads H.w17 fun _ => ?_
    refine keeps_writes H.w17 fun _ => ?_
    refine keeps_ite ?_ ?_
    · refine keeps_bind (keeps_part169 H _ _ _) fun _ => ?_
      refine keeps_bind (keeps_part170 H _ _ _ _ _) fun _ => ?_
      refine keeps_bind (keeps_part171 H _ _ _ _ _ _) fun _ => ?_
      refine keeps_bind (keeps_part172 H _ _ _ _) fun _ => ?_
      refine keeps_bind (keeps_part173 H _ _ _ _ _) fun _ => ?_
      refine keeps_bind (keeps_part174 H _ _ _ _ _ _ _ _ _) fun _ => ?_
      refine keeps_bind (keeps_part175 H _ _ _) fun _ => ?_
      refine keeps_reads H.w21 fun _ => ?_
      refine keeps_reads H.w17 fun _ => ?_
      refine keeps_reads H.w20 fun _ => ?_
      refine keeps_reads H.w17 fun _ => ?_
      refine keeps_writes H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      exact keeps_pure _
    · refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      exact keeps_pure _
  · refine keeps_ite ?_ ?_
    · refine keeps_bind (keeps_part169 H _ _ _) fun _ => ?_
      refine keeps_bind (keeps_part170 H _ _ _ _ _) fun _ => ?_
      refine keeps_bind (keeps_part171 H _ _ _ _ _ _) fun _ => ?_
      refine keeps_bind (keeps_part172 H _ _ _ _) fun _ => ?_
      refine keeps_bind (keeps_part173 H _ _ _ _ _) fun _ => ?_
      refine keeps_bind (keeps_part174 H _ _ _ _ _ _ _ _ _) fun _ => ?_
      refine keeps_bind (keeps_part175 H _ _ _) fun _ => ?_
      refine keeps_reads H.w21 fun _ => ?_
      refine keeps_reads H.w17 fun _ => ?_
      refine keeps_reads H.w20 fun _ => ?_
      refine keeps_reads H.w17 fun _ => ?_
      refine keeps_writes H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      exact keeps_pure _
    · refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      refine keeps_reads H.w17 fun _ => ?_
      exact keeps_pure _

/-- The whole body keeps the resource. -/
theorem keeps_cc0_dsa (H : Held c R arg2 arg3 arg4 arg5 arg6 arg7 arg8 arg9 arg10 arg11 arg12 arg13 arg14 arg15 arg16 arg17 arg18 arg19 arg20 arg21) :
    Keeps defs₀ c R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold cc0_dsa
  refine keeps_bind (keeps_part176 H) fun _ => ?_
  refine keeps_bind (keeps_part177 H _ _ _) fun _ => ?_
  refine keeps_bind (keeps_part178 H _) fun _ => ?_
  refine keeps_bind (keeps_part179 H _ _ _) fun _ => ?_
  refine keeps_bind (keeps_part180 H _) fun _ => ?_
  refine keeps_bind (keeps_part181 H _ _ _ _ _) fun _ => ?_
  refine keeps_bind (keeps_part182 H _ _ _ _ _ _) fun _ => ?_
  refine keeps_bind (keeps_part183 H _ _ _ _ _ _ _ _ _) fun _ => ?_
  refine keeps_bind (keeps_part184 H _ _ _ _ _ _ _ _ _ _ _) fun _ => ?_
  refine keeps_bind (keeps_part185 H _ _ _ _ _ _ _ _ _ _ _) fun _ => ?_
  refine keeps_bind (keeps_part186 H _ _ _ _ _ _ _ _ _ _ _) fun _ => ?_
  refine keeps_bind (keeps_part187 H _ _ _ _ _ _ _ _ _ _ _) fun _ => ?_
  refine keeps_bind (keeps_part188 H _ _ _ _ _ _ _ _ _ _ _) fun _ => ?_
  refine keeps_bind (keeps_part189 H _ _ _ _ _ _ _ _ _ _ _) fun _ => ?_
  refine keeps_bind (keeps_part190 H _ _ _ _ _ _ _ _ _ _ _) fun _ => ?_
  refine keeps_bind (keeps_part191 H _ _ _ _ _ _ _ _ _ _ _) fun _ => ?_
  refine keeps_bind (keeps_part192 H _ _ _ _ _ _ _ _ _ _ _) fun _ => ?_
  refine keeps_bind (keeps_part193 H _ _ _ _ _ _ _ _ _ _ _) fun _ => ?_
  refine keeps_bind (keeps_part194 H _ _ _ _ _ _ _ _ _ _ _) fun _ => ?_
  refine keeps_bind (keeps_part195 H _ _ _ _ _ _ _ _ _ _ _) fun _ => ?_
  refine keeps_bind (keeps_part196 H _ _ _ _ _ _ _ _ _ _ _) fun _ => ?_
  refine keeps_bind (keeps_part197 H _ _ _ _ _ _ _ _ _ _ _) fun _ => ?_
  refine keeps_bind (keeps_part198 H _ _ _ _ _ _ _ _ _ _ _) fun _ => ?_
  refine keeps_bind (keeps_part199 H _ _ _ _ _ _ _ _) fun _ => ?_
  refine keeps_bind (keeps_part200 H _ _ _ _ _ _ _ _ _ _ _) fun _ => ?_
  refine keeps_bind (keeps_part201 H _ _ _ _ _ _ _ _ _) fun _ => ?_
  refine keeps_bind (keeps_part202 H _ _ _ _ _ _ _ _ _ _ _) fun _ => ?_
  refine keeps_bind (keeps_part203 H _ _ _) fun _ => ?_
  refine keeps_bind (keeps_part204 H _ _) fun _ => ?_
  refine keeps_bind (keeps_part205 H _ _ _ _ _ _) fun _ => ?_
  refine keeps_reads H.w17 fun _ => ?_
  refine keeps_reads H.w8 fun _ => ?_
  refine keeps_writes H.w8 fun _ => ?_
  exact keeps_pure _

end Cert.Proof.Kernel

end
-- ==== Proof.DsaFrame.lean ====
/-
  The sparse attention kernel's frame: at every grid point its body runs from the staged blocks, the result's block and
  the scratch buffers and hands them back, so the whole call ends, leaves its six arguments as they were and every
  counter at zero.
-/
module

public import proofs.«01_k».proof.Proof.KeepsBody
public import proofs.«01_k».proof.Proof.Gen.Kernel.Frame

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the seven staged blocks hold at a point: the six inputs their blocks of the arguments, the result's anything. -/
def staged (c : Dev nD) (t : Fin cfg0.N) : sProp 𝕄 :=
  iprop(owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ ∃ X, owns c (st0_6 t) fullShare X)

/-- What the body runs from at a point: the staged blocks and the scratch buffers. -/
def held (c : Dev nD) (t : Fin cfg0.N) : sProp 𝕄 :=
  iprop(staged m c t ∗ Pipeline.scopedRest (Ix := Unit) (Name := ℕ) (U := UR sig nD τ) (Lvl := ℕ) (Val := Elt F) spec0 c)

/-- The body's six inputs can be read and its result and scratch buffers written. -/
theorem held_ok (c : Dev nD) (t : Fin cfg0.N) :
    Held c (held m c t) (st0_0 t) (st0_1 t) (st0_2 t) (st0_3 t) (st0_4 t) (st0_5 t) (st0_6 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) := by
  unfold held staged
  rw [scopedRest0_eq]
  exact ⟨((canRead_owns (st0_0 t) fullShare (iblk m c 0 t)).left).left,
    (((canRead_owns (st0_1 t) fullShare (iblk m c 1 t)).left).right).left,
    ((((canRead_owns (st0_2 t) fullShare (iblk m c 2 t)).left).right).right).left,
    (((((canRead_owns (st0_3 t) fullShare (iblk m c 3 t)).left).right).right).right).left,
    ((((((canRead_owns (st0_4 t) fullShare (iblk m c 4 t)).left).right).right).right).right).left,
    (((((((canRead_owns (st0_5 t) fullShare (iblk m c 5 t)).left).right).right).right).right).right).left,
    (((((((canWrite_owns (st0_6 t)).right).right).right).right).right).right).left,
    ((canWrite_whole cc0_scratch0).left).right,
    (((canWrite_whole cc0_scratch1).left).right).right,
    ((((canWrite_whole cc0_scratch2).left).right).right).right,
    (((((canWrite_whole cc0_scratch3).left).right).right).right).right,
    ((((((canWrite_whole cc0_scratch4).left).right).right).right).right).right,
    (((((((canWrite_whole cc0_scratch5).left).right).right).right).right).right).right,
    ((((((((canWrite_whole cc0_scratch6).left).right).right).right).right).right).right).right,
    (((((((((canWrite_whole cc0_scratch7).left).right).right).right).right).right).right).right).right,
    ((((((((((canWrite_whole cc0_scratch8).left).right).right).right).right).right).right).right).right).right,
    (((((((((((canWrite_whole cc0_scratch9).left).right).right).right).right).right).right).right).right).right).right,
    ((((((((((((canWrite_whole cc0_scratch10).left).right).right).right).right).right).right).right).right).right).right).right,
    (((((((((((((canWrite_whole cc0_scratch11).left).right).right).right).right).right).right).right).right).right).right).right).right,
    (((((((((((((canWrite_whole cc0_scratch12).right).right).right).right).right).right).right).right).right).right).right).right).right⟩

/-- At every point the body runs and hands back what it ran from. -/
theorem body_keeps (c : Dev nD) (t : Fin cfg0.N) : Keeps (defs₀ (F := F)) c (held m c t) (bodyAt0 t) :=
  keeps_cc0_dsa (held_ok m c t)

/-- The result's block is the one window of which nothing is said. -/
def fgt : Fin 7 → Bool := fun w => decide (w = 6)

/-- The proof data: each argument as launched, each input block left in place, the scratch buffers at some contents
    between the points. -/
def dat (p : Fin 1) (c : Dev nD) : Dat τ (Elt F) Unit ℕ (UR sig nD τ) ℕ (cfgs p) c where
  A w := V m c (Pipeline.arrRef spec0 w)
  after := fun
    | 0 => iblk m c 0 | 1 => iblk m c 1 | 2 => iblk m c 2 | 3 => iblk m c 3 | 4 => iblk m c 4 | 5 => iblk m c 5
    | ⟨_, _⟩ => fun _ _ => Classical.arbitrary _
  Φ _ := Pipeline.ΦA spec0 c
  q _ := fullShare
  owed _ := 0

/-- The body's obligation to the pipeline, with the result's block at some contents. -/
theorem body_obligation (c : Dev nD) : BodyObligationLoose (dat m 0 c) (defs₀ (F := F)) Variants.none () Set.univ fgt := by
  intro t
  show _ ⊢ wp frame _ Set.univ (bodyAt0 t) _
  have h0 : ∀ d, (dat m 0 c).before 0 t d = iblk m c 0 t := fun d => before0_0_of m (dat m 0 c) rfl (fun _ => rfl) t d
  have h1 : ∀ d, (dat m 0 c).before 1 t d = iblk m c 1 t := fun d => before0_1_of m (dat m 0 c) rfl (fun _ => rfl) t d
  have h2 : ∀ d, (dat m 0 c).before 2 t d = iblk m c 2 t := fun d => before0_2_of m (dat m 0 c) rfl (fun _ => rfl) t d
  have h3 : ∀ d, (dat m 0 c).before 3 t d = iblk m c 3 t := fun d => before0_3_of m (dat m 0 c) rfl (fun _ => rfl) t d
  have h4 : ∀ d, (dat m 0 c).before 4 t d = iblk m c 4 t := fun d => before0_4_of m (dat m 0 c) rfl (fun _ => rfl) t d
  have h5 : ∀ d, (dat m 0 c).before 5 t d = iblk m c 5 t := fun d => before0_5_of m (dat m 0 c) rfl (fun _ => rfl) t d
  refine BIBase.Entails.trans ?_ (BIBase.Entails.trans (keeps_frame (body_keeps m c t)
    (iprop((∃ r, prngReg c r) ∗ (dat m 0 c).owesAt () t.castSucc))) (wp_mono _ _ _ fun _ => ?_))
  · rw [bigSep_W0]
    show iprop(Pipeline.ΦA spec0 c ∗ _ ∗ (∃ d, owns c (st0_0 t) fullShare ((dat m 0 c).before 0 t d)) ∗ (∃ d, owns c (st0_1 t) fullShare ((dat m 0 c).before 1 t d))
      ∗ (∃ d, owns c (st0_2 t) fullShare ((dat m 0 c).before 2 t d)) ∗ (∃ d, owns c (st0_3 t) fullShare ((dat m 0 c).before 3 t d))
      ∗ (∃ d, owns c (st0_4 t) fullShare ((dat m 0 c).before 4 t d)) ∗ (∃ d, owns c (st0_5 t) fullShare ((dat m 0 c).before 5 t d))
      ∗ (∃ X, owns c (st0_6 t) fullShare X)) ⊢ _
    simp only [h0, h1, h2, h3, h4, h5]
    unfold Pipeline.ΦA held staged
    iintro ⟨⟨HS, HP⟩, HO, ⟨%_, H0⟩, ⟨%_, H1⟩, ⟨%_, H2⟩, ⟨%_, H3⟩, ⟨%_, H4⟩, ⟨%_, H5⟩, H6⟩
    isplitl [HP HO]
    · isplitl [HP]; · iexact HP
      iexact HO
    isplitr [HS]
    · isplitl [H0]; · iexact H0
      isplitl [H1]; · iexact H1
      isplitl [H2]; · iexact H2
      isplitl [H3]; · iexact H3
      isplitl [H4]; · iexact H4
      isplitl [H5]; · iexact H5
      iexact H6
    · iexact HS
  · rw [bigSep_W0]
    show _ ⊢ iprop(Pipeline.ΦA spec0 c ∗ (dat m 0 c).owesAt () t.succ ∗ owns c (st0_0 t) fullShare (iblk m c 0 t) ∗ owns c (st0_1 t) fullShare (iblk m c 1 t)
      ∗ owns c (st0_2 t) fullShare (iblk m c 2 t) ∗ owns c (st0_3 t) fullShare (iblk m c 3 t)
      ∗ owns c (st0_4 t) fullShare (iblk m c 4 t) ∗ owns c (st0_5 t) fullShare (iblk m c 5 t)
      ∗ (∃ X, owns c (st0_6 t) fullShare X))
    unfold Pipeline.ΦA held staged
    iintro ⟨⟨HP, HO⟩, ⟨H0, H1, H2, H3, H4, H5, H6⟩, HS⟩
    isplitl [HS HP]
    · isplitl [HS]; · iexact HS
      iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

/-- The call runs, leaves its six arguments as they were and every counter at zero. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget cfgs (dat m) 0 launch0 defs₀ Variants.none fgt m ρ main (body_obligation m)
    (fun _ _ => by unfold Dat.share; split <;> rfl) (fun _ _ => rfl) (V m) (hmain m Variants.none) (fun _ _ => rfl) (fun _ _ => rfl) _
    (fun _ h => ⟨fun c => ⟨(h.1.arr_in c 0 rfl).trans (V_main_arg0 m c), (h.1.arr_in c 1 rfl).trans (V_main_arg1 m c),
      (h.1.arr_in c 2 rfl).trans (V_main_arg2 m c), (h.1.arr_in c 3 rfl).trans (V_main_arg3 m c),
      (h.1.arr_in c 4 rfl).trans (V_main_arg4 m c), (h.1.arr_in c 5 rfl).trans (V_main_arg5 m c)⟩, h.2⟩)

end Cert.Proof.Kernel

end
-- ==== Proof.AdaValue.lean ====
/-
  The conditioning call's value: its result array is `c · w_ada[l] + b_ada[l]` for both layers, over the reals.
-/
module

public import proofs.«01_k».proof.Defs
public import proofs.«01_k».proof.Proof.Gen.AdaIdeal.Frame
public import proofs.«01_k».proof.Proof.Gen.AdaReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ada
open Cert.AdaIdeal Cert.AdaIdeal.Gen

/-- The block each grid point reads and writes: layer `l`, columns `j`. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The reference's result as a term of the three arrays: the product with every layer's weights, plus its bias. -/
abbrev ref (x : FVec Ideal S8x1024 .f32) (w : FVec Ideal S2x1024x6144 .f32) (b : FVec Ideal S2x6144 .f32) :
    FVec Ideal S2x8x6144 .f32 :=
  addf (transpose Cert.AdaReferenceIdeal.S2x8x6144 [0, 2, 1]
      (Host.dotGeneral Cert.AdaReferenceIdeal.dot_S2x1024x6144_S8x1024_S2x6144x8_1_1_02_0_n_n none w x)
      Cert.AdaReferenceIdeal.Gen.transposes_S2x6144x8_S2x8x6144_0_2_1)
    (broadcastInDim Cert.AdaReferenceIdeal.S2x8x6144 ![0, 1, 2] Cert.AdaReferenceIdeal.Gen.bcast_S2x1x6144_S2x8x6144_0_1_2
      (broadcastInDim Cert.AdaReferenceIdeal.S2x1x6144 ![0, 2] Cert.AdaReferenceIdeal.Gen.bcast_S2x6144_S2x1x6144_0_2 b))

variable (m : (ℓ : Loc nD τ sig) → Buf (Elt Ideal) ℓ)

/-- What a grid point stores at an index of its block is the reference's result at the index's place in the array. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2))
        (((cfg0.win 3).blk t).view.emb y) := by
  pointwise [k0_pay1, ref]
  refine congrArg₂ (· + ·) (Finset.sum_congr rfl fun x _ => (mul_comm _ _).trans ?_) ?_
  · blk_point [iblk, V, idx t]
  · blk_point [iblk, V, idx t]

/-- The result array after the call is the reference's result. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Over the reals the conditioning call and its reference, run from the same arguments, end with the same result. -/
theorem algebraic : Cert.algebraic_AdaIdeal_AdaReferenceIdeal (hAdaIdeal := Cert.AdaIdeal.Gen.facts)
    (hAdaReferenceIdeal := Cert.AdaReferenceIdeal.Gen.facts) := by
  pair_intro
  · run_from Cert.AdaIdeal.Gen.run_main m g
  · run_from Cert.AdaReferenceIdeal.Value.run m' g'
    exact (final m c).symm

/-- The reference, run from any arguments, ends and leaves them as they were. -/
theorem reference_frame : Cert.quiescent_AdaReferenceIdeal (hAdaReferenceIdeal := Cert.AdaReferenceIdeal.Gen.facts) := by
  intro m g _
  refine θ_run_mono (Cert.AdaReferenceIdeal.Value.run m g) fun r h => ⟨fun c => (h c).2, ?_⟩
  exact sem_eq_zero_of_no_sems (by decide) r.2

end Cert.Proof.Ada
-- ==== Proof.ProjValue.lean ====
/-
  The projection call's values: its seven result arrays are the columns of the projected, modulated input — keys, means
  of keys, the small columns, scaled queries, values, the indexer's queries — in the layouts the attention calls read,
  over the reals.
-/
module

public import proofs.«01_k».proof.Defs
public import proofs.«01_k».proof.Proof.Gen.ProjIdeal.Frame
public import proofs.«01_k».proof.Proof.Gen.ProjReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Proj
open Cert.ProjIdeal Cert.ProjIdeal.Gen

/-- The modulated input `x · (1 + scale) + shift`. -/
def hid (a0 : FVec Ideal S8x8192x1024 .f32) (a1 : FVec Ideal S8x6x1024 .f32) : FVec Ideal Cert.ProjReferenceIdeal.S8x8192x1024 .f32 :=
  (addf (mulf a0 (broadcastInDim Cert.ProjReferenceIdeal.S8x8192x1024 ![0, 1, 2] Cert.ProjReferenceIdeal.Gen.bcast_S8x1x1024_S8x8192x1024_0_1_2 (addf (broadcastInDim Cert.ProjReferenceIdeal.S8x1x1024 ![] Cert.ProjReferenceIdeal.Gen.bcast_S_S8x1x1024 (constant Cert.ProjReferenceIdeal.S_ .f32 0x3F800000#32)) (extractStridedSlice Cert.ProjReferenceIdeal.S8x1x1024 ![0, 1, 0] a1 Cert.ProjReferenceIdeal.Gen.slices_S8x6x1024_S8x1x1024_0_1_0)))) (broadcastInDim Cert.ProjReferenceIdeal.S8x8192x1024 ![0, 1, 2] Cert.ProjReferenceIdeal.Gen.bcast_S8x1x1024_S8x8192x1024_0_1_2 (extractStridedSlice Cert.ProjReferenceIdeal.S8x1x1024 ![0, 0, 0] a1 Cert.ProjReferenceIdeal.Gen.slices_S8x6x1024_S8x1x1024_0_0_0)))

/-- The projection of the modulated input by all 3660 columns. -/
def proj (a0 : FVec Ideal S8x8192x1024 .f32) (a1 : FVec Ideal S8x6x1024 .f32) (a2 : FVec Ideal S1024x3660 .f32) :
    FVec Ideal Cert.ProjReferenceIdeal.S8x8192x3660 .f32 :=
  (Host.dotGeneral Cert.ProjReferenceIdeal.dot_S8x8192x1024_S1024x3660_S8x8192x3660_2_0_01_1_n_n none (hid a0 a1) a2)

/-- The keys. -/
def keys (a0 : FVec Ideal S8x8192x1024 .f32) (a1 : FVec Ideal S8x6x1024 .f32) (a2 : FVec Ideal S1024x3660 .f32) :
    FVec Ideal Cert.ProjReferenceIdeal.S8x8192x1024 .bf16 :=
  truncf .bf16 (extractStridedSlice Cert.ProjReferenceIdeal.S8x8192x1024 ![0, 0, 1024] (proj a0 a1 a2) Cert.ProjReferenceIdeal.Gen.slices_S8x8192x3660_S8x8192x1024_0_0_1024) Cert.ProjReferenceIdeal.Gen.bitsLt_bf16_f32

/-- The means of the keys over blocks of 256 tokens. -/
def kmeans (a0 : FVec Ideal S8x8192x1024 .f32) (a1 : FVec Ideal S8x6x1024 .f32) (a2 : FVec Ideal S1024x3660 .f32) :
    FVec Ideal Cert.ProjReferenceIdeal.S8x16x2x1024 .f32 :=
  Host.divf (Host.reduceAdd (shapeCast _ (extractStridedSlice Cert.ProjReferenceIdeal.S8x8192x1024 ![0, 0, 1024] (proj a0 a1 a2) Cert.ProjReferenceIdeal.Gen.slices_S8x8192x3660_S8x8192x1024_0_0_1024) Cert.ProjReferenceIdeal.Gen.shapeCasts_S8x8192x1024_S8x16x2x256x1024) (constant Cert.ProjReferenceIdeal.S_ .f32 0x00000000#32) Cert.ProjReferenceIdeal.Gen.reducesTo_S8x16x2x256x1024_S8x16x2x1024_d3 Cert.ProjReferenceIdeal.Gen.h_S_) (broadcastInDim Cert.ProjReferenceIdeal.S8x16x2x1024 ![] Cert.ProjReferenceIdeal.Gen.bcast_S_S8x16x2x1024 (constant Cert.ProjReferenceIdeal.S_ .f32 0x43800000#32))

/-- The last 76 columns, padded with zeros to 128. -/
def miscs (a0 : FVec Ideal S8x8192x1024 .f32) (a1 : FVec Ideal S8x6x1024 .f32) (a2 : FVec Ideal S1024x3660 .f32) :
    FVec Ideal Cert.ProjReferenceIdeal.S8x8192x128 .f32 :=
  pad Cert.ProjReferenceIdeal.S8x8192x128 ![0, 0, 0] ![0, 0, 52] ![0, 0, 0] (extractStridedSlice Cert.ProjReferenceIdeal.S8x8192x76 ![0, 0, 3584] (proj a0 a1 a2) Cert.ProjReferenceIdeal.Gen.slices_S8x8192x3660_S8x8192x76_0_0_3584) (sitofp .f32 (constantI Cert.ProjReferenceIdeal.S_ 32 0#32)) Cert.ProjReferenceIdeal.Gen.pads_S8x8192x76_S8x8192x128_000_000_0520 Cert.ProjReferenceIdeal.Gen.h_S_

/-- The scaled queries, transposed. -/
def queriesT (a0 : FVec Ideal S8x8192x1024 .f32) (a1 : FVec Ideal S8x6x1024 .f32) (a2 : FVec Ideal S1024x3660 .f32) :
    FVec Ideal Cert.ProjReferenceIdeal.S8x1024x8192 .bf16 :=
  truncf .bf16 (transpose Cert.ProjReferenceIdeal.S8x1024x8192 [0, 2, 1] (mulf (extractStridedSlice Cert.ProjReferenceIdeal.S8x8192x1024 ![0, 0, 0] (proj a0 a1 a2) Cert.ProjReferenceIdeal.Gen.slices_S8x8192x3660_S8x8192x1024_0_0_0) (broadcastInDim Cert.ProjReferenceIdeal.S8x8192x1024 ![] Cert.ProjReferenceIdeal.Gen.bcast_S_S8x8192x1024 (constant Cert.ProjReferenceIdeal.S_ .f32 0x3E38AA3B#32))) Cert.ProjReferenceIdeal.Gen.transposes_S8x8192x1024_S8x1024x8192_0_2_1) Cert.ProjReferenceIdeal.Gen.bitsLt_bf16_f32

/-- The values, transposed by chunks of 256 tokens. -/
def valuesT (a0 : FVec Ideal S8x8192x1024 .f32) (a1 : FVec Ideal S8x6x1024 .f32) (a2 : FVec Ideal S1024x3660 .f32) :
    FVec Ideal Cert.ProjReferenceIdeal.S8x32x1024x256 .bf16 :=
  truncf .bf16 (transpose Cert.ProjReferenceIdeal.S8x32x1024x256 [0, 1, 3, 2] (shapeCast _ (extractStridedSlice Cert.ProjReferenceIdeal.S8x8192x1024 ![0, 0, 2048] (proj a0 a1 a2) Cert.ProjReferenceIdeal.Gen.slices_S8x8192x3660_S8x8192x1024_0_0_2048) Cert.ProjReferenceIdeal.Gen.shapeCasts_S8x8192x1024_S8x32x256x1024) Cert.ProjReferenceIdeal.Gen.transposes_S8x32x256x1024_S8x32x1024x256_0_1_3_2) Cert.ProjReferenceIdeal.Gen.bitsLt_bf16_f32

/-- The indexer's queries, transposed. -/
def indexT (a0 : FVec Ideal S8x8192x1024 .f32) (a1 : FVec Ideal S8x6x1024 .f32) (a2 : FVec Ideal S1024x3660 .f32) :
    FVec Ideal Cert.ProjReferenceIdeal.S8x512x8192 .bf16 :=
  truncf .bf16 (transpose Cert.ProjReferenceIdeal.S8x512x8192 [0, 2, 1] (extractStridedSlice Cert.ProjReferenceIdeal.S8x8192x512 ![0, 0, 3072] (proj a0 a1 a2) Cert.ProjReferenceIdeal.Gen.slices_S8x8192x3660_S8x8192x512_0_0_3072) Cert.ProjReferenceIdeal.Gen.transposes_S8x8192x512_S8x512x8192_0_2_1) Cert.ProjReferenceIdeal.Gen.bitsLt_bf16_f32

/-- The last 76 columns, padded with zeros to 128, transposed. -/
def miscsT (a0 : FVec Ideal S8x8192x1024 .f32) (a1 : FVec Ideal S8x6x1024 .f32) (a2 : FVec Ideal S1024x3660 .f32) :
    FVec Ideal Cert.ProjReferenceIdeal.S8x128x8192 .f32 :=
  transpose Cert.ProjReferenceIdeal.S8x128x8192 [0, 2, 1] (pad Cert.ProjReferenceIdeal.S8x8192x128 ![0, 0, 0] ![0, 0, 52] ![0, 0, 0] (extractStridedSlice Cert.ProjReferenceIdeal.S8x8192x76 ![0, 0, 3584] (proj a0 a1 a2) Cert.ProjReferenceIdeal.Gen.slices_S8x8192x3660_S8x8192x76_0_0_3584) (sitofp .f32 (constantI Cert.ProjReferenceIdeal.S_ 32 0#32)) Cert.ProjReferenceIdeal.Gen.pads_S8x8192x76_S8x8192x128_000_000_0520 Cert.ProjReferenceIdeal.Gen.h_S_) Cert.ProjReferenceIdeal.Gen.transposes_S8x8192x128_S8x128x8192_0_2_1

/-- The block each grid point reads and writes: sequence `b`, tokens `512 i …`. -/
theorem idx : ∀ t : Fin cfg0.N, win0_0.index t = ![(grid0.coords t 0).val, (grid0.coords t 1).val, 0]
    ∧ win0_1.index t = ![(grid0.coords t 0).val, 0, 0]
    ∧ win0_2.index t = ![0, 0] ∧ win0_3.index t = ![0, 0] ∧ win0_4.index t = ![0, 0] ∧ win0_5.index t = ![0, 0]
    ∧ win0_6.index t = ![(grid0.coords t 0).val, (grid0.coords t 1).val, 0]
    ∧ win0_7.index t = ![(grid0.coords t 0).val, (grid0.coords t 1).val, 0, 0]
    ∧ win0_8.index t = ![(grid0.coords t 0).val, (grid0.coords t 1).val, 0]
    ∧ win0_9.index t = ![(grid0.coords t 0).val, 0, (grid0.coords t 1).val]
    ∧ win0_10.index t = ![(grid0.coords t 0).val, (grid0.coords t 1).val, 0, 0]
    ∧ win0_11.index t = ![(grid0.coords t 0).val, 0, (grid0.coords t 1).val]
    ∧ win0_12.index t = ![(grid0.coords t 0).val, 0, (grid0.coords t 1).val] :=
  (by decide +kernel : ∀ t : Fin grid0.N, _)

variable (m : (ℓ : Loc nD τ sig) → Buf (Elt Ideal) ℓ)

/-- What the kernel stages as the keys' weights. -/
theorem V_v1 (c : Dev nD) : V m c main_v1
    = extractStridedSlice S1024x1024 ![0, 1024] (truncf .bf16 (show FVec Ideal S1024x3660 .f32 from m ((c : Thread nD τ).loc main_arg2)) bitsLt_bf16_f32)
        slices_S1024x3660_S1024x1024_0_1024 := by
  unfold V
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  all_goals rfl

/-- What the kernel stages as the small columns' weights. -/
theorem V_v3 (c : Dev nD) : V m c main_v3
    = pad S1024x128 ![0, 0] ![0, 52] ![0, 0]
        (extractStridedSlice S1024x76 ![0, 3584] (truncf .bf16 (show FVec Ideal S1024x3660 .f32 from m ((c : Thread nD τ).loc main_arg2)) bitsLt_bf16_f32)
          slices_S1024x3660_S1024x76_0_3584) (sitofp .bf16 (constantI S_ 32 0#32)) pads_S1024x76_S1024x128_000_0520 h_S_ := by
  unfold V
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  all_goals rfl

/-- The small columns' weights again, transposed. -/
theorem V_v9 (c : Dev nD) : V m c main_v9 = transpose S128x1024 [1, 0] (V m c main_v3 : FVec Ideal S1024x128 .bf16) transposes_S1024x128_S128x1024_1_0 := by
  rw [V_v3]
  unfold V
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  all_goals rfl

/-- What the kernel stages as the queries', values' and indexer's weights. -/
theorem V_v8 (c : Dev nD) : V m c main_v8
    = transpose S2560x1024 [1, 0] (concatenate S1024x2560 1
        [⟨S1024x1024, extractStridedSlice S1024x1024 ![0, 0] (truncf .bf16 (show FVec Ideal S1024x3660 .f32 from m ((c : Thread nD τ).loc main_arg2)) bitsLt_bf16_f32) slices_S1024x3660_S1024x1024_0_0⟩,
         ⟨S1024x1024, extractStridedSlice S1024x1024 ![0, 2048] (truncf .bf16 (show FVec Ideal S1024x3660 .f32 from m ((c : Thread nD τ).loc main_arg2)) bitsLt_bf16_f32) slices_S1024x3660_S1024x1024_0_2048⟩,
         ⟨S1024x512, extractStridedSlice S1024x512 ![0, 3072] (truncf .bf16 (show FVec Ideal S1024x3660 .f32 from m ((c : Thread nD τ).loc main_arg2)) bitsLt_bf16_f32) slices_S1024x3660_S1024x512_0_3072⟩]
        concatenates_S1024x1024_S1024x1024_S1024x512_S1024x2560_d1) transposes_S1024x2560_S2560x1024_1_0 := by
  unfold V
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  all_goals rfl

/-- The staged keys' weights are columns 1024 to 2047 of the weights. -/
theorem w2 (c : Dev nD) (t : Fin cfg0.N) (x k : Fin 1024) : iblk m c 2 t (ix2 x k)
    = m ((c : Thread nD τ).loc main_arg2) (ix2 x ⟨1024 + k.val, by omega⟩) := by
  have e : iblk m c 2 t (ix2 x k) = V m c main_v1 (ix2 x k) := by blk_ext [iblk, idx t]
  rw [e, V_v1]
  pointwise

/-- Zero, converted to a float, is the number zero. -/
theorem sitofp_zero (φ : FTy) : (FloatOps.sitofp φ (0#32) : Ideal φ) = (0 : EReal) := by
  show (((0#32 : BitVec 32).toInt : ℝ) : EReal) = 0
  simp

/-- The staged small columns' weights are the last 76 columns of the weights, then zeros. -/
theorem w3 (c : Dev nD) (t : Fin cfg0.N) (x : Fin 1024) (k : Fin 128) : iblk m c 3 t (ix2 x k)
    = if h : k.val < 76 then m ((c : Thread nD τ).loc main_arg2) (ix2 x ⟨3584 + k.val, by omega⟩) else (0 : EReal) := by
  have e : iblk m c 3 t (ix2 x k) = V m c main_v3 (ix2 x k) := by blk_ext [iblk, idx t]
  rw [e, V_v3]
  pointwise
  split
  · rfl
  · exact sitofp_zero _

/-- The same weights, transposed. -/
theorem w5 (c : Dev nD) (t : Fin cfg0.N) (x : Fin 1024) (k : Fin 128) : iblk m c 5 t (ix2 k x)
    = iblk m c 3 t (ix2 x k) := by
  have e : iblk m c 5 t (ix2 k x) = V m c main_v9 (ix2 k x) := by blk_ext [iblk, idx t]
  have e' : iblk m c 3 t (ix2 x k) = V m c main_v3 (ix2 x k) := by blk_ext [iblk, idx t]
  rw [e, e', V_v9]
  pointwise

/-- The staged queries', values' and indexer's weights: rows 0 to 1023 are the queries' columns. -/
theorem w4q (c : Dev nD) (t : Fin cfg0.N) (x : Fin 1024) (k : Fin 1024) :
    iblk m c 4 t (ix2 (⟨k.val, by omega⟩ : Fin 2560) x) = m ((c : Thread nD τ).loc main_arg2) (ix2 x ⟨k.val, by omega⟩) := by
  have e : iblk m c 4 t (ix2 (⟨k.val, by omega⟩ : Fin 2560) x) = V m c main_v8 (ix2 (⟨k.val, by omega⟩ : Fin 2560) x) := by
    blk_ext [iblk, idx t]
  rw [e, V_v8]
  pointwise

/-- Rows 1024 to 2047 are the values' columns. -/
theorem w4v (c : Dev nD) (t : Fin cfg0.N) (x : Fin 1024) (k : Fin 1024) :
    iblk m c 4 t (ix2 (⟨1024 + k.val, by omega⟩ : Fin 2560) x) = m ((c : Thread nD τ).loc main_arg2) (ix2 x ⟨2048 + k.val, by omega⟩) := by
  have e : iblk m c 4 t (ix2 (⟨1024 + k.val, by omega⟩ : Fin 2560) x) = V m c main_v8 (ix2 (⟨1024 + k.val, by omega⟩ : Fin 2560) x) := by
    blk_ext [iblk, idx t]
  rw [e, V_v8]
  pointwise

/-- Rows 2048 to 2559 are the indexer's columns. -/
theorem w4i (c : Dev nD) (t : Fin cfg0.N) (x : Fin 1024) (k : Fin 512) :
    iblk m c 4 t (ix2 (⟨2048 + k.val, by omega⟩ : Fin 2560) x) = m ((c : Thread nD τ).loc main_arg2) (ix2 x ⟨3072 + k.val, by omega⟩) := by
  have e : iblk m c 4 t (ix2 (⟨2048 + k.val, by omega⟩ : Fin 2560) x) = V m c main_v8 (ix2 (⟨2048 + k.val, by omega⟩ : Fin 2560) x) := by
    blk_ext [iblk, idx t]
  rw [e, V_v8]
  pointwise
  rw [dif_neg (by omega), dif_neg (by omega)]
  blk_ext []

/-- What a grid point stores at an index of its block is the reference's result at the index's place in the array. -/
theorem point6 (c : Dev nD) (t : Fin cfg0.N) (y : S1x512x1024.Idx) :
    k0_pay5 (iblk m c 0 t) (View.ld (iblk m c 1 t) r0_1) (View.ld (iblk m c 1 t) r0_2) (iblk m c 2 t) y
      = keys (m ((c : Thread nD τ).loc main_arg0)) (m ((c : Thread nD τ).loc main_arg1)) (m ((c : Thread nD τ).loc main_arg2))
          (((cfg0.win 6).blk t).view.emb y) := by
  pointwise [k0_pay5, k0_pay4, k0_pay3, keys, proj, hid]
  refine Finset.sum_congr rfl fun x _ => ?_
  rw [w2 m c t x (y 2)]
  blk_point [iblk, V, idx t]

/-- What a grid point stores at an index of its block is the reference's result at the index's place in the array. -/
theorem point8 (c : Dev nD) (t : Fin cfg0.N) (y : S1x512x128.Idx) :
    k0_pay10 (k0_pay15 (iblk m c 0 t) (iblk m c 1 t) (iblk m c 2 t) (iblk m c 3 t) (iblk m c 4 t) (iblk m c 5 t)) (iblk m c 3 t) y
      = miscs (m ((c : Thread nD τ).loc main_arg0)) (m ((c : Thread nD τ).loc main_arg1)) (m ((c : Thread nD τ).loc main_arg2))
          (((cfg0.win 8).blk t).view.emb y) := by
  pointwise [k0_pay10, k0_pay15, k0_pay3, miscs, proj, hid]
  have hk : (((cfg0.win 8).blk t).view.emb y 2).val = (y 2).val := by blk_simp [idx t]
  by_cases h : (y 2).val < 76
  · rw [dif_pos (show (((cfg0.win 8).blk t).view.emb y 2).val < 76 by omega)]
    refine Finset.sum_congr rfl fun x _ => ?_
    rw [w3 m c t x (y 2), dif_pos h]
    blk_point [iblk, V, idx t]
  · rw [dif_neg (show ¬ (((cfg0.win 8).blk t).view.emb y 2).val < 76 by omega), sitofp_zero]
    refine Finset.sum_eq_zero fun x _ => ?_
    rw [w3 m c t x (y 2), dif_neg h, mul_zero]

/-- What a grid point stores at an index of its block is the reference's result at the index's place in the array. -/
theorem point9 (c : Dev nD) (t : Fin cfg0.N) (y : S1x1024x512.Idx) :
    k0_pay12 (k0_pay15 (iblk m c 0 t) (iblk m c 1 t) (iblk m c 2 t) (iblk m c 3 t) (iblk m c 4 t) (iblk m c 5 t)) (iblk m c 4 t) y
      = queriesT (m ((c : Thread nD τ).loc main_arg0)) (m ((c : Thread nD τ).loc main_arg1)) (m ((c : Thread nD τ).loc main_arg2))
          (((cfg0.win 9).blk t).view.emb y) := by
  pointwise [k0_pay12, k0_pay11, k0_pay15, k0_pay3, queriesT, proj, hid]
  refine congrArg (· * _) (Finset.sum_congr rfl fun x _ => (mul_comm _ _).trans ?_)
  rw [w4q m c t x (y 1)]
  blk_point [iblk, V, idx t]

/-- What a grid point stores at an index of its block is the reference's result at the index's place in the array. -/
theorem point11 (c : Dev nD) (t : Fin cfg0.N) (y : S1x512x512.Idx) :
    k0_pay1 (k0_pay11 (k0_pay15 (iblk m c 0 t) (iblk m c 1 t) (iblk m c 2 t) (iblk m c 3 t) (iblk m c 4 t) (iblk m c 5 t)) (iblk m c 4 t)) y
      = indexT (m ((c : Thread nD τ).loc main_arg0)) (m ((c : Thread nD τ).loc main_arg1)) (m ((c : Thread nD τ).loc main_arg2))
          (((cfg0.win 11).blk t).view.emb y) := by
  pointwise [k0_pay1, k0_pay11, k0_pay15, k0_pay3, indexT, proj, hid]
  refine Finset.sum_congr rfl fun x _ => (mul_comm _ _).trans ?_
  rw [w4i m c t x (y 1)]
  blk_point [iblk, V, idx t]

/-- What a grid point stores at an index of its block is the reference's result at the index's place in the array. -/
theorem point12 (c : Dev nD) (t : Fin cfg0.N) (y : S1x128x512.Idx) :
    k0_pay2 (k0_pay15 (iblk m c 0 t) (iblk m c 1 t) (iblk m c 2 t) (iblk m c 3 t) (iblk m c 4 t) (iblk m c 5 t)) (iblk m c 5 t) y
      = miscsT (m ((c : Thread nD τ).loc main_arg0)) (m ((c : Thread nD τ).loc main_arg1)) (m ((c : Thread nD τ).loc main_arg2))
          (((cfg0.win 12).blk t).view.emb y) := by
  pointwise [k0_pay2, k0_pay15, k0_pay3, miscsT, proj, hid]
  have hk : (((cfg0.win 12).blk t).view.emb y 1).val = (y 1).val := by blk_simp [idx t]
  by_cases h : (y 1).val < 76
  · rw [dif_pos (show (((cfg0.win 12).blk t).view.emb y 1).val < 76 by omega)]
    refine Finset.sum_congr rfl fun x _ => (mul_comm _ _).trans ?_
    rw [w5 m c t x (y 1), w3 m c t x (y 1), dif_pos h]
    blk_point [iblk, V, idx t]
  · rw [dif_neg (show ¬ (((cfg0.win 12).blk t).view.emb y 1).val < 76 by omega), sitofp_zero]
    refine Finset.sum_eq_zero fun x _ => ?_
    rw [w5 m c t x (y 1), w3 m c t x (y 1), dif_neg h, zero_mul]

/-- What a grid point stores at an index of its block is the reference's result at the index's place in the array. -/
theorem point10 (c : Dev nD) (t : Fin cfg0.N) (y : S1x2x1024x256.Idx) :
    out0_10 (iblk m c 0 t) (iblk m c 1 t) (iblk m c 2 t) (iblk m c 3 t) (iblk m c 4 t) (iblk m c 5 t) y
      = valuesT (m ((c : Thread nD τ).loc main_arg0)) (m ((c : Thread nD τ).loc main_arg1)) (m ((c : Thread nD τ).loc main_arg2)) (((cfg0.win 10).blk t).view.emb y) := by
  frame_out
  canon_tiles x h
  all_goals pointwise [k0_pay14, k0_pay13, k0_pay11, k0_pay15, k0_pay3, valuesT, proj, hid]
  all_goals refine Finset.sum_congr rfl fun l _ => (mul_comm _ _).trans ?_
  all_goals rw [w4v m c t l (x 2)]
  all_goals blk_point [iblk, V, idx t]

/-- What a grid point stores at an index of its block is the reference's result at the index's place in the array. -/
theorem point7 (c : Dev nD) (t : Fin cfg0.N) (y : S1x1x2x1024.Idx) :
    out0_7 (iblk m c 0 t) (iblk m c 1 t) (iblk m c 2 t) (iblk m c 3 t) (iblk m c 4 t) (iblk m c 5 t) y
      = kmeans (m ((c : Thread nD τ).loc main_arg0)) (m ((c : Thread nD τ).loc main_arg1)) (m ((c : Thread nD τ).loc main_arg2)) (((cfg0.win 7).blk t).view.emb y) := by
  frame_out
  canon_tiles x h
  all_goals pointwise [k0_pay9, k0_pay8, k0_pay7, k0_pay6, k0_pay4, k0_pay3, kmeans, proj, hid]
  all_goals refine congrArg (Ideal.div · _) (Finset.sum_congr rfl fun r _ => Finset.sum_congr rfl fun l _ => ?_)
  all_goals rw [w2 m c t l (x 3)]
  all_goals blk_point [iblk, V, idx t]

/-- Result array 0 after the call is the reference's. -/
theorem final6 (c : Dev nD) : (dats m 0 c).arrAt 6 (cfgs 0).N
    = keys (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

/-- Result array 1 after the call is the reference's. -/
theorem final7 (c : Dev nD) : (dats m 0 c).arrAt 7 (cfgs 0).N
    = kmeans (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point7 m c t y

/-- Result array 2 after the call is the reference's. -/
theorem final8 (c : Dev nD) : (dats m 0 c).arrAt 8 (cfgs 0).N
    = miscs (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  exact point8 m c t y

/-- Result array 3 after the call is the reference's. -/
theorem final9 (c : Dev nD) : (dats m 0 c).arrAt 9 (cfgs 0).N
    = queriesT (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  exact point9 m c t y

/-- Result array 4 after the call is the reference's. -/
theorem final10 (c : Dev nD) : (dats m 0 c).arrAt 10 (cfgs 0).N
    = valuesT (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  exact point10 m c t y

/-- Result array 5 after the call is the reference's. -/
theorem final11 (c : Dev nD) : (dats m 0 c).arrAt 11 (cfgs 0).N
    = indexT (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  exact point11 m c t y

/-- Result array 6 after the call is the reference's. -/
theorem final12 (c : Dev nD) : (dats m 0 c).arrAt 12 (cfgs 0).N
    = miscsT (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  exact point12 m c t y

end Cert.Proof.Proj
-- ==== Proof.ProjClaim.lean ====
/-
  The projection call's claim: kernel and reference, run from the same arguments, end with the same seven results.
-/
module

public import proofs.«01_k».proof.Proof.ProjValue

@[expose] public section

set_option maxRecDepth 16384

open Idealize.ShloMosaic Idealize.ShloMosaic.TcCoe Idealize.SL.Sem

namespace Cert.Proof.Proj
open Cert.ProjIdeal Cert.ProjIdeal.Gen

set_option maxHeartbeats 1600000 in
/-- Over the reals the projection call and its reference, run from the same arguments, end with the same seven results. -/
theorem algebraic : Cert.algebraic_ProjIdeal_ProjReferenceIdeal (hProjIdeal := Cert.ProjIdeal.Gen.facts)
    (hProjReferenceIdeal := Cert.ProjReferenceIdeal.Gen.facts) := by
  pair_intro
  · run_from Cert.ProjIdeal.Gen.run_main m g
    exact V_main_arg2 m c
  · run_from Cert.ProjReferenceIdeal.Value.run m' g'
    · exact (final6 m c).symm
    · exact (final7 m c).symm
    · exact (final8 m c).symm
    · exact (final9 m c).symm
    · exact (final10 m c).symm
    · exact (final11 m c).symm
    · exact (final12 m c).symm

/-- The reference, run from any arguments, ends and leaves them as they were. -/
theorem reference_frame : Cert.quiescent_ProjReferenceIdeal (hProjReferenceIdeal := Cert.ProjReferenceIdeal.Gen.facts) := by
  intro m g _
  refine θ_run_mono (Cert.ProjReferenceIdeal.Value.run m g) fun r h => ⟨fun c => (h c).2.2.2.2.2.2.2, ?_⟩
  exact sem_eq_zero_of_no_sems (by decide) r.2

end Cert.Proof.Proj
-- ==== Proof.MergeValue.lean ====
/-
  The merging call's value: its result array is the layer's gated mixture of the four attentions, projected, added to
  the scaled input and normalised, over the reals.
-/
module

public import proofs.«01_k».proof.Defs
public import proofs.«01_k».proof.Proof.Gen.MergeIdeal.Frame
public import proofs.«01_k».proof.Proof.Gen.MergeReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Merge
open Cert.MergeIdeal Cert.MergeIdeal.Gen

/-- The modulated input `x · (1 + scale) + shift`. -/
def hid (a0 : FVec Ideal S8x8192x1024 .f32) (a1 : FVec Ideal S8x6x1024 .f32) : FVec Ideal Cert.MergeReferenceIdeal.S8x8192x1024 .f32 :=
  (addf (mulf a0 (broadcastInDim Cert.MergeReferenceIdeal.S8x8192x1024 ![0, 1, 2] Cert.MergeReferenceIdeal.Gen.bcast_S8x1x1024_S8x8192x1024_0_1_2 (addf (broadcastInDim Cert.MergeReferenceIdeal.S8x1x1024 ![] Cert.MergeReferenceIdeal.Gen.bcast_S_S8x1x1024 (constant Cert.MergeReferenceIdeal.S_ .f32 0x3F800000#32)) (extractStridedSlice Cert.MergeReferenceIdeal.S8x1x1024 ![0, 1, 0] a1 Cert.MergeReferenceIdeal.Gen.slices_S8x6x1024_S8x1x1024_0_1_0)))) (broadcastInDim Cert.MergeReferenceIdeal.S8x8192x1024 ![0, 1, 2] Cert.MergeReferenceIdeal.Gen.bcast_S8x1x1024_S8x8192x1024_0_1_2 (extractStridedSlice Cert.MergeReferenceIdeal.S8x1x1024 ![0, 0, 0] a1 Cert.MergeReferenceIdeal.Gen.slices_S8x6x1024_S8x1x1024_0_0_0)))

/-- The mixture: the sum over the four attentions of a logistic gate times the attention's projection. -/
def mixed (a0 : FVec Ideal S8x8192x1024 .f32) (a1 : FVec Ideal S8x6x1024 .f32)
    (a2 a3 a4 a5 : FVec Ideal S8x8192x256 .bf16) (a6 : FVec Ideal S4x1024x1024 .f32) (a7 : FVec Ideal S4x256x1024 .f32) :
    FVec Ideal Cert.MergeReferenceIdeal.S8x8192x1024 .f32 :=
  (addf (addf (addf (mulf (Host.divf (broadcastInDim Cert.MergeReferenceIdeal.S8x8192x1024 ![] Cert.MergeReferenceIdeal.Gen.bcast_S_S8x8192x1024 (constant Cert.MergeReferenceIdeal.S_ .f32 0x3F800000#32)) (addf (broadcastInDim Cert.MergeReferenceIdeal.S8x8192x1024 ![] Cert.MergeReferenceIdeal.Gen.bcast_S_S8x8192x1024 (constant Cert.MergeReferenceIdeal.S_ .f32 0x3F800000#32)) (Host.exp (Host.negf (Host.dotGeneral Cert.MergeReferenceIdeal.dot_S8x8192x1024_S1024x1024_S8x8192x1024_2_0_01_1_n_n none (hid a0 a1) (shapeCast _ (extractStridedSlice Cert.MergeReferenceIdeal.S1x1024x1024 ![0, 0, 0] a6 Cert.MergeReferenceIdeal.Gen.slices_S4x1024x1024_S1x1024x1024_0_0_0) Cert.MergeReferenceIdeal.Gen.shapeCasts_S1x1024x1024_S1024x1024)))))) (Host.dotGeneral Cert.MergeReferenceIdeal.dot_S8x8192x256_S256x1024_S8x8192x1024_2_0_01_1_n_n none (extf .f32 a2 Cert.MergeReferenceIdeal.Gen.bitsLt_bf16_f32) (shapeCast _ (extractStridedSlice Cert.MergeReferenceIdeal.S1x256x1024 ![0, 0, 0] a7 Cert.MergeReferenceIdeal.Gen.slices_S4x256x1024_S1x256x1024_0_0_0) Cert.MergeReferenceIdeal.Gen.shapeCasts_S1x256x1024_S256x1024))) (mulf (Host.divf (broadcastInDim Cert.MergeReferenceIdeal.S8x8192x1024 ![] Cert.MergeReferenceIdeal.Gen.bcast_S_S8x8192x1024 (constant Cert.MergeReferenceIdeal.S_ .f32 0x3F800000#32)) (addf (broadcastInDim Cert.MergeReferenceIdeal.S8x8192x1024 ![] Cert.MergeReferenceIdeal.Gen.bcast_S_S8x8192x1024 (constant Cert.MergeReferenceIdeal.S_ .f32 0x3F800000#32)) (Host.exp (Host.negf (Host.dotGeneral Cert.MergeReferenceIdeal.dot_S8x8192x1024_S1024x1024_S8x8192x1024_2_0_01_1_n_n none (hid a0 a1) (shapeCast _ (extractStridedSlice Cert.MergeReferenceIdeal.S1x1024x1024 ![1, 0, 0] a6 Cert.MergeReferenceIdeal.Gen.slices_S4x1024x1024_S1x1024x1024_1_0_0) Cert.MergeReferenceIdeal.Gen.shapeCasts_S1x1024x1024_S1024x1024)))))) (Host.dotGeneral Cert.MergeReferenceIdeal.dot_S8x8192x256_S256x1024_S8x8192x1024_2_0_01_1_n_n none (extf .f32 a3 Cert.MergeReferenceIdeal.Gen.bitsLt_bf16_f32) (shapeCast _ (extractStridedSlice Cert.MergeReferenceIdeal.S1x256x1024 ![1, 0, 0] a7 Cert.MergeReferenceIdeal.Gen.slices_S4x256x1024_S1x256x1024_1_0_0) Cert.MergeReferenceIdeal.Gen.shapeCasts_S1x256x1024_S256x1024)))) (mulf (Host.divf (broadcastInDim Cert.MergeReferenceIdeal.S8x8192x1024 ![] Cert.MergeReferenceIdeal.Gen.bcast_S_S8x8192x1024 (constant Cert.MergeReferenceIdeal.S_ .f32 0x3F800000#32)) (addf (broadcastInDim Cert.MergeReferenceIdeal.S8x8192x1024 ![] Cert.MergeReferenceIdeal.Gen.bcast_S_S8x8192x1024 (constant Cert.MergeReferenceIdeal.S_ .f32 0x3F800000#32)) (Host.exp (Host.negf (Host.dotGeneral Cert.MergeReferenceIdeal.dot_S8x8192x1024_S1024x1024_S8x8192x1024_2_0_01_1_n_n none (hid a0 a1) (shapeCast _ (extractStridedSlice Cert.MergeReferenceIdeal.S1x1024x1024 ![2, 0, 0] a6 Cert.MergeReferenceIdeal.Gen.slices_S4x1024x1024_S1x1024x1024_2_0_0) Cert.MergeReferenceIdeal.Gen.shapeCasts_S1x1024x1024_S1024x1024)))))) (Host.dotGeneral Cert.MergeReferenceIdeal.dot_S8x8192x256_S256x1024_S8x8192x1024_2_0_01_1_n_n none (extf .f32 a4 Cert.MergeReferenceIdeal.Gen.bitsLt_bf16_f32) (shapeCast _ (extractStridedSlice Cert.MergeReferenceIdeal.S1x256x1024 ![2, 0, 0] a7 Cert.MergeReferenceIdeal.Gen.slices_S4x256x1024_S1x256x1024_2_0_0) Cert.MergeReferenceIdeal.Gen.shapeCasts_S1x256x1024_S256x1024)))) (mulf (Host.divf (broadcastInDim Cert.MergeReferenceIdeal.S8x8192x1024 ![] Cert.MergeReferenceIdeal.Gen.bcast_S_S8x8192x1024 (constant Cert.MergeReferenceIdeal.S_ .f32 0x3F800000#32)) (addf (broadcastInDim Cert.MergeReferenceIdeal.S8x8192x1024 ![] Cert.MergeReferenceIdeal.Gen.bcast_S_S8x8192x1024 (constant Cert.MergeReferenceIdeal.S_ .f32 0x3F800000#32)) (Host.exp (Host.negf (Host.dotGeneral Cert.MergeReferenceIdeal.dot_S8x8192x1024_S1024x1024_S8x8192x1024_2_0_01_1_n_n none (hid a0 a1) (shapeCast _ (extractStridedSlice Cert.MergeReferenceIdeal.S1x1024x1024 ![3, 0, 0] a6 Cert.MergeReferenceIdeal.Gen.slices_S4x1024x1024_S1x1024x1024_3_0_0) Cert.MergeReferenceIdeal.Gen.shapeCasts_S1x1024x1024_S1024x1024)))))) (Host.dotGeneral Cert.MergeReferenceIdeal.dot_S8x8192x256_S256x1024_S8x8192x1024_2_0_01_1_n_n none (extf .f32 a5 Cert.MergeReferenceIdeal.Gen.bitsLt_bf16_f32) (shapeCast _ (extractStridedSlice Cert.MergeReferenceIdeal.S1x256x1024 ![3, 0, 0] a7 Cert.MergeReferenceIdeal.Gen.slices_S4x256x1024_S1x256x1024_3_0_0) Cert.MergeReferenceIdeal.Gen.shapeCasts_S1x256x1024_S256x1024))))

/-- The residual sum before the normalisation, of the input and the mixture. -/
def resid (a0 : FVec Ideal S8x8192x1024 .f32) (a1 : FVec Ideal S8x6x1024 .f32) (mix : FVec Ideal Cert.MergeReferenceIdeal.S8x8192x1024 .f32)
    (a8 : FVec Ideal S1024x1024 .f32) : FVec Ideal Cert.MergeReferenceIdeal.S8x8192x1024 .f32 :=
  (addf (mulf (broadcastInDim Cert.MergeReferenceIdeal.S8x8192x1024 ![] Cert.MergeReferenceIdeal.Gen.bcast_S_S8x8192x1024 (constant Cert.MergeReferenceIdeal.S_ .f32 0x3FB504F3#32)) a0) (mulf (broadcastInDim Cert.MergeReferenceIdeal.S8x8192x1024 ![0, 1, 2] Cert.MergeReferenceIdeal.Gen.bcast_S8x1x1024_S8x8192x1024_0_1_2 (extractStridedSlice Cert.MergeReferenceIdeal.S8x1x1024 ![0, 2, 0] a1 Cert.MergeReferenceIdeal.Gen.slices_S8x6x1024_S8x1x1024_0_2_0)) (Host.dotGeneral Cert.MergeReferenceIdeal.dot_S8x8192x1024_S1024x1024_S8x8192x1024_2_0_01_1_n_n none mix a8)))

/-- The normalisation of each token's row, scaled and shifted. -/
def normed (n1 : FVec Ideal Cert.MergeReferenceIdeal.S8x8192x1024 .f32) (a9 a10 : FVec Ideal S1024 .f32) : FVec Ideal Cert.MergeReferenceIdeal.S8x8192x1024 .f32 :=
  (addf (mulf (mulf (subf n1 (broadcastInDim Cert.MergeReferenceIdeal.S8x8192x1024 ![0, 1, 2] Cert.MergeReferenceIdeal.Gen.bcast_S8x8192x1_S8x8192x1024_0_1_2 (Host.divf (broadcastInDim Cert.MergeReferenceIdeal.S8x8192x1 ![0, 1] Cert.MergeReferenceIdeal.Gen.bcast_S8x8192_S8x8192x1_0_1 (Host.reduceAdd n1 (constant Cert.MergeReferenceIdeal.S_ .f32 0x00000000#32) Cert.MergeReferenceIdeal.Gen.reducesTo_S8x8192x1024_S8x8192_d2 Cert.MergeReferenceIdeal.Gen.h_S_)) (broadcastInDim Cert.MergeReferenceIdeal.S8x8192x1 ![] Cert.MergeReferenceIdeal.Gen.bcast_S_S8x8192x1 (constant Cert.MergeReferenceIdeal.S_ .f32 0x44800000#32))))) (broadcastInDim Cert.MergeReferenceIdeal.S8x8192x1024 ![0, 1, 2] Cert.MergeReferenceIdeal.Gen.bcast_S8x8192x1_S8x8192x1024_0_1_2 (Host.rsqrt (addf (Host.divf (broadcastInDim Cert.MergeReferenceIdeal.S8x8192x1 ![0, 1] Cert.MergeReferenceIdeal.Gen.bcast_S8x8192_S8x8192x1_0_1 (Host.reduceAdd (mulf (subf n1 (broadcastInDim Cert.MergeReferenceIdeal.S8x8192x1024 ![0, 1, 2] Cert.MergeReferenceIdeal.Gen.bcast_S8x8192x1_S8x8192x1024_0_1_2 (Host.divf (broadcastInDim Cert.MergeReferenceIdeal.S8x8192x1 ![0, 1] Cert.MergeReferenceIdeal.Gen.bcast_S8x8192_S8x8192x1_0_1 (Host.reduceAdd n1 (constant Cert.MergeReferenceIdeal.S_ .f32 0x00000000#32) Cert.MergeReferenceIdeal.Gen.reducesTo_S8x8192x1024_S8x8192_d2 Cert.MergeReferenceIdeal.Gen.h_S_)) (broadcastInDim Cert.MergeReferenceIdeal.S8x8192x1 ![] Cert.MergeReferenceIdeal.Gen.bcast_S_S8x8192x1 (constant Cert.MergeReferenceIdeal.S_ .f32 0x44800000#32))))) (subf n1 (broadcastInDim Cert.MergeReferenceIdeal.S8x8192x1024 ![0, 1, 2] Cert.MergeReferenceIdeal.Gen.bcast_S8x8192x1_S8x8192x1024_0_1_2 (Host.divf (broadcastInDim Cert.MergeReferenceIdeal.S8x8192x1 ![0, 1] Cert.MergeReferenceIdeal.Gen.bcast_S8x8192_S8x8192x1_0_1 (Host.reduceAdd n1 (constant Cert.MergeReferenceIdeal.S_ .f32 0x00000000#32) Cert.MergeReferenceIdeal.Gen.reducesTo_S8x8192x1024_S8x8192_d2 Cert.MergeReferenceIdeal.Gen.h_S_)) (broadcastInDim Cert.MergeReferenceIdeal.S8x8192x1 ![] Cert.MergeReferenceIdeal.Gen.bcast_S_S8x8192x1 (constant Cert.MergeReferenceIdeal.S_ .f32 0x44800000#32)))))) (constant Cert.MergeReferenceIdeal.S_ .f32 0x00000000#32) Cert.MergeReferenceIdeal.Gen.reducesTo_S8x8192x1024_S8x8192_d2 Cert.MergeReferenceIdeal.Gen.h_S_)) (broadcastInDim Cert.MergeReferenceIdeal.S8x8192x1 ![] Cert.MergeReferenceIdeal.Gen.bcast_S_S8x8192x1 (constant Cert.MergeReferenceIdeal.S_ .f32 0x44800000#32))) (broadcastInDim Cert.MergeReferenceIdeal.S8x8192x1 ![] Cert.MergeReferenceIdeal.Gen.bcast_S_S8x8192x1 (constant Cert.MergeReferenceIdeal.S_ .f32 0x3727C5AC#32)))))) (broadcastInDim Cert.MergeReferenceIdeal.S8x8192x1024 ![0, 1, 2] Cert.MergeReferenceIdeal.Gen.bcast_S1x1x1024_S8x8192x1024_0_1_2 (broadcastInDim Cert.MergeReferenceIdeal.S1x1x1024 ![2] Cert.MergeReferenceIdeal.Gen.bcast_S1024_S1x1x1024_2 a9))) (broadcastInDim Cert.MergeReferenceIdeal.S8x8192x1024 ![0, 1, 2] Cert.MergeReferenceIdeal.Gen.bcast_S1x1x1024_S8x8192x1024_0_1_2 (broadcastInDim Cert.MergeReferenceIdeal.S1x1x1024 ![2] Cert.MergeReferenceIdeal.Gen.bcast_S1024_S1x1x1024_2 a10)))

/-- The reference's result as a term of its eleven arrays. -/
def ref (a0 : FVec Ideal S8x8192x1024 .f32) (a1 : FVec Ideal S8x6x1024 .f32)
    (a2 a3 a4 a5 : FVec Ideal S8x8192x256 .bf16) (a6 : FVec Ideal S4x1024x1024 .f32) (a7 : FVec Ideal S4x256x1024 .f32)
    (a8 : FVec Ideal S1024x1024 .f32) (a9 a10 : FVec Ideal S1024 .f32) : FVec Ideal Cert.MergeReferenceIdeal.S8x8192x1024 .f32 :=
  normed (resid a0 a1 (mixed a0 a1 a2 a3 a4 a5 a6 a7) a8) a9 a10

/-- The block each grid point reads and writes: sequence `b`, tokens `512 i …`. -/
theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![0, 0, 0] ∧ win0_7.index t = ![0, 0, 0] ∧ win0_8.index t = ![0, 0]
    ∧ win0_9.index t = ![0, 0] ∧ win0_10.index t = ![0, 0]
    ∧ win0_11.index t = ![(grid0.coords t 0).val, (grid0.coords t 1).val, 0] :=
  (by decide +kernel : ∀ t : Fin grid0.N, _)

variable (m : (ℓ : Loc nD τ sig) → Buf (Elt Ideal) ℓ)

/-- The modulated rows a grid point computes are the modulated input's rows at the tokens of its block. -/
theorem hid_point (c : Dev nD) (t : Fin cfg0.N) (y : S1x512x1024.Idx) (k : Fin 1024) :
    k0_pay4 (iblk m c 0 t) (View.ld (iblk m c 1 t) r0_1) (View.ld (iblk m c 1 t) r0_2) (ix2 (y 1) k)
      = hid (m ((c : Thread nD τ).loc main_arg0)) (m ((c : Thread nD τ).loc main_arg1))
          (ix3 (((cfg0.win 11).blk t).view.emb y 0) (((cfg0.win 11).blk t).view.emb y 1) k) := by
  pointwise [k0_pay4, k0_pay2, hid]
  blk_point [iblk, V, idx t, r0_1, r0_2]

/-- The gated mixture a grid point computes is the mixture's rows at the tokens of its block. -/
theorem mixed_point (c : Dev nD) (t : Fin cfg0.N) (y : S1x512x1024.Idx) (k : Fin 1024) :
    k0_pay7 (k0_pay4 (iblk m c 0 t) (View.ld (iblk m c 1 t) r0_1) (View.ld (iblk m c 1 t) r0_2))
        (k0_pay5 (iblk m c 0 t) (View.ld (iblk m c 1 t) r0_1) (View.ld (iblk m c 1 t) r0_2)
          (View.ld (iblk m c 6 t) r0_4) (iblk m c 2 t) (View.ld (iblk m c 7 t) r0_6))
        (k0_pay6 (iblk m c 0 t) (View.ld (iblk m c 1 t) r0_1) (View.ld (iblk m c 1 t) r0_2)
          (View.ld (iblk m c 6 t) r0_7))
        (iblk m c 3 t) (View.ld (iblk m c 7 t) r0_8) (View.ld (iblk m c 6 t) r0_9) (iblk m c 4 t)
        (View.ld (iblk m c 7 t) r0_10) (View.ld (iblk m c 6 t) r0_11) (iblk m c 5 t) (View.ld (iblk m c 7 t) r0_12)
        (ix2 (y 1) k)
      = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
          (ix3 (((cfg0.win 11).blk t).view.emb y 0) (((cfg0.win 11).blk t).view.emb y 1) k) := by
  pointwise [k0_pay5, k0_pay6, k0_pay7, mixed]
  simp only [hid_point m c t y, Ideal.logistic]
  blk_point [iblk, V, idx t, r0_4, r0_6, r0_7, r0_8, r0_9, r0_10, r0_11, r0_12]

/-- What a grid point stores at an index of its block is the reference's result at the index's place in the array. -/
theorem point (c : Dev nD) (t : Fin cfg0.N) (y : S1x512x1024.Idx) :
    k0_pay1 (k0_pay2 (iblk m c 0 t)) (k0_pay3 (View.ld (iblk m c 1 t) r0_3))
      (k0_pay7 (k0_pay4 (iblk m c 0 t) (View.ld (iblk m c 1 t) r0_1) (View.ld (iblk m c 1 t) r0_2))
        (k0_pay5 (iblk m c 0 t) (View.ld (iblk m c 1 t) r0_1) (View.ld (iblk m c 1 t) r0_2)
          (View.ld (iblk m c 6 t) r0_4) (iblk m c 2 t) (View.ld (iblk m c 7 t) r0_6))
        (k0_pay6 (iblk m c 0 t) (View.ld (iblk m c 1 t) r0_1) (View.ld (iblk m c 1 t) r0_2)
          (View.ld (iblk m c 6 t) r0_7))
        (iblk m c 3 t) (View.ld (iblk m c 7 t) r0_8) (View.ld (iblk m c 6 t) r0_9) (iblk m c 4 t)
        (View.ld (iblk m c 7 t) r0_10) (View.ld (iblk m c 6 t) r0_11) (iblk m c 5 t) (View.ld (iblk m c 7 t) r0_12))
      (iblk m c 8 t) (iblk m c 9 t) (iblk m c 10 t) y
      = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
        (((cfg0.win 11).blk t).view.emb y) := by
  pointwise [k0_pay1, k0_pay2, k0_pay3, ref, normed, resid]
  simp only [mixed_point m c t y]
  blk_point [iblk, V, idx t, r0_3]

/-- The result array after the call is the reference's result. -/
theorem final (c : Dev nD) : (dats m 0 c).arrAt 11 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t _ y => ?_
  blk_simp
  rw [after0_11]; frame_out
  exact point m c t y

/-- Over the reals the merging call and its reference, run from the same arguments, end with the same result. -/
theorem algebraic : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Gen.run_main m g
  · run_from Cert.MergeReferenceIdeal.Value.run m' g'
    obtain ⟨h0, h1, h2, h3, h4, h5, h6, h7, h8, h9, h10⟩ := hagree c
    refine Eq.trans (show _ = ref (m' ((c.tc : Thread Cert.MergeReferenceIdeal.nD Cert.MergeReferenceIdeal.τ).loc Cert.MergeReferenceIdeal.main_arg0))
        (m' ((c.tc : Thread Cert.MergeReferenceIdeal.nD Cert.MergeReferenceIdeal.τ).loc Cert.MergeReferenceIdeal.main_arg1))
        (m' ((c.tc : Thread Cert.MergeReferenceIdeal.nD Cert.MergeReferenceIdeal.τ).loc Cert.MergeReferenceIdeal.main_arg2))
        (m' ((c.tc : Thread Cert.MergeReferenceIdeal.nD Cert.MergeReferenceIdeal.τ).loc Cert.MergeReferenceIdeal.main_arg3))
        (m' ((c.tc : Thread Cert.MergeReferenceIdeal.nD Cert.MergeReferenceIdeal.τ).loc Cert.MergeReferenceIdeal.main_arg4))
        (m' ((c.tc : Thread Cert.MergeReferenceIdeal.nD Cert.MergeReferenceIdeal.τ).loc Cert.MergeReferenceIdeal.main_arg5))
        (m' ((c.tc : Thread Cert.MergeReferenceIdeal.nD Cert.MergeReferenceIdeal.τ).loc Cert.MergeReferenceIdeal.main_arg6))
        (m' ((c.tc : Thread Cert.MergeReferenceIdeal.nD Cert.MergeReferenceIdeal.τ).loc Cert.MergeReferenceIdeal.main_arg7))
        (m' ((c.tc : Thread Cert.MergeReferenceIdeal.nD Cert.MergeReferenceIdeal.τ).loc Cert.MergeReferenceIdeal.main_arg8))
        (m' ((c.tc : Thread Cert.MergeReferenceIdeal.nD Cert.MergeReferenceIdeal.τ).loc Cert.MergeReferenceIdeal.main_arg9))
        (m' ((c.tc : Thread Cert.MergeReferenceIdeal.nD Cert.MergeReferenceIdeal.τ).loc Cert.MergeReferenceIdeal.main_arg10)) from rfl) ?_
    rw [h0, h1, h2, h3, h4, h5, h6, h7, h8, h9, h10]
    exact (final m c).symm

/-- The reference, run from any arguments, ends and leaves them as they were. -/
theorem reference_frame : Cert.quiescent_MergeReferenceIdeal (hMergeReferenceIdeal := Cert.MergeReferenceIdeal.Gen.facts) := by
  intro m g _
  refine θ_run_mono (Cert.MergeReferenceIdeal.Value.run m g) fun r h => ⟨fun c => (h c).2, ?_⟩
  exact sem_eq_zero_of_no_sems (by decide) r.2

end Cert.Proof.Merge
-- ==== Proof.Steps.lean ====
/-
  Programs run from a KNOWN state. A resource `H σ` holds some memory at the contents a state `σ` names; `At H σ p Post`
  says that from `H σ` the program `p` ends, with a result and a state of which `Post` holds. One rule per operation: a load
  reads what the state says, a store changes the state, a loop keeps an invariant over its carried values and the state.
-/
module

public import proofs.«01_k».proof.Proof.Keeps
public import Idealize.ShloMosaic.Lib.WritesUnit

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

variable {defs : Defs nD τ sig Val Λ} {c : Dev nD} {S : Type} {H : S → sProp (MT nD τ sig Unit Val ℕ U ℕ)}

/-- From the state `σ` the program ends, with a result and a state of which `Post` holds. -/
def At (defs : Defs nD τ sig Val Λ) (c : Dev nD) (H : S → sProp 𝕄) {α : Type} (σ : S)
    (p : Prog (TpuEff nD τ sig Val Λ .tc) α) (Post : α → S → Prop) : Prop :=
  H σ ⊢ wp frame (wpE (Ix := Unit) (Name := ℕ) (U := U) (Lvl := ℕ) defs Variants.none (c : Thread nD τ) none) Set.univ p
    (fun a => iprop(∃ σ', ⌜Post a σ'⌝ ∗ H σ'))

theorem at_pure {α : Type} {a : α} {σ : S} {Post : α → S → Prop} (h : Post a σ) :
    At defs c H σ (pure a : Prog (TpuEff nD τ sig Val Λ .tc) α) Post := by
  refine BIBase.Entails.trans ?_ (le_wp_ret _ _ _ a _)
  iintro Hσ
  iexists σ
  isplitr
  · ipureintro; exact h
  · iexact Hσ

theorem at_bind {α β : Type} {p : Prog (TpuEff nD τ sig Val Λ .tc) α} {k : α → Prog (TpuEff nD τ sig Val Λ .tc) β} {σ : S}
    {Mid : α → S → Prop} {Post : β → S → Prop} (hp : At defs c H σ p Mid)
    (hk : ∀ a σ', Mid a σ' → At defs c H σ' (k a) Post) : At defs c H σ (p >>= k) Post := by
  unfold At
  rw [wp_bind]
  refine BIBase.Entails.trans hp (wp_mono _ _ _ fun a => ?_)
  iintro ⟨%σ', %hm, Hσ⟩
  have h' : H σ' ⊢ _ := hk a σ' hm
  iapply h'
  iexact Hσ

theorem at_mono {α : Type} {p : Prog (TpuEff nD τ sig Val Λ .tc) α} {σ : S} {Post Post' : α → S → Prop}
    (hp : At defs c H σ p Post) (h : ∀ a σ', Post a σ' → Post' a σ') : At defs c H σ p Post' := by
  refine BIBase.Entails.trans hp (wp_mono _ _ _ fun a => ?_)
  iintro ⟨%σ', %hm, Hσ⟩
  iexists σ'
  isplitr
  · ipureintro; exact h a σ' hm
  · iexact Hσ

/-- In every state the memref is lent at the contents the state names. -/
def Reads (c : Dev nD) (H : S → sProp 𝕄) {sp : Space} {s : Shape} {e : EltTy} (m : Memref sig .tc sp s e)
    (get : S → s.Idx → Val e) : Prop :=
  ∀ σ, H σ ⊢ iprop(∃ q : PosShare TreeShare, owns (c : Thread nD τ) m q (get σ) ∗ (owns (c : Thread nD τ) m q (get σ) -∗ H σ))

/-- In every state the memref is lent whole, and any contents it comes back with are those of another state. -/
def Sets (c : Dev nD) (H : S → sProp 𝕄) {sp : Space} {s : Shape} {e : EltTy} (m : Memref sig .tc sp s e)
    (get : S → s.Idx → Val e) (set : S → (s.Idx → Val e) → S) : Prop :=
  ∀ σ, H σ ⊢ iprop(owns (c : Thread nD τ) m fullShare (get σ)
    ∗ (∀ X, owns (c : Thread nD τ) m fullShare X -∗ H (set σ X)))

/-- What a store of `w` through the unit-stride rectangle of sizes `size` at `off` makes of the contents `X`. -/
def stored {s : Shape} {e : EltTy} (off size : Fin s.rank → ℕ) (inb : ∀ a, off a + size a ≤ s.size a)
    (w : (Rect.unit off size inb).shape.Idx → Val e) (X : s.Idx → Val e) : s.Idx → Val e := fun y =>
  if h : ∀ a, off a ≤ (y a).val ∧ (y a).val < off a + size a then
    w (Rect.unitLocal (s := s) (off := off) (size := size) y h) else X y

/-- A load at the head of a program: it goes on with what the state says. -/
theorem at_load {α : Type} {sp : CoreSpace} {s : Shape} {e : EltTy} {m : Memref sig .tc sp s e} {get : S → s.Idx → Val e}
    (hm : Reads c H m get) {r : LoadRect s} {hl : m.view.LoadsAt r}
    {k : (r.shape.Idx → Val e) → Prog (TpuEff nD τ sig Val Λ .tc) α} {σ : S} {Post : α → S → Prop}
    (h : At defs c H σ (k fun x => get σ (r.idx x)) Post) :
    At defs c H σ (Prog.lift (.load m r hl) >>= k) Post := by
  refine BIBase.Entails.trans (hm σ) ?_
  unfold owns
  iintro ⟨%q, ⟨%f, %hf, Hm⟩, Hk⟩
  iapply (wp_load (defs := defs) Variants.none (c : Thread nD τ) none Set.univ (k := k)
    (Memref.view m |>.setOn_subset_set r.set)) $$ Hm
  iintro Hm
  have e1 : m.view.readAt Val r f = fun x => get σ (r.idx x) := by
    rw [← hf]; rfl
  rw [e1]
  have h' : H σ ⊢ _ := h
  iapply h'
  iapply Hk
  iexists f
  isplitr
  · ipureintro; exact hf
  · iexact Hm

/-- A store at the head of a program: it goes on from the changed state. -/
theorem at_store {α : Type} {sp : CoreSpace} {s : Shape} {e : EltTy} {m : Memref sig .tc sp s e} {get : S → s.Idx → Val e}
    {set : S → (s.Idx → Val e) → S} (hm : Sets c H m get set) {off size : Fin s.rank → ℕ}
    {inb : ∀ a, off a + size a ≤ s.size a} {w : (Rect.unit off size inb).shape.Idx → Val e}
    {hx : (m.access (Rect.unit off size inb)).Stores Finset.univ}
    {hs : Finset.univ = Finset.univ ∨ ∀ a, (Rect.unit off size inb).stride a = 1}
    {k : PUnit → Prog (TpuEff nD τ sig Val Λ .tc) α} {σ : S} {Post : α → S → Prop}
    (h : At defs c H (set σ (stored off size inb w (get σ))) (k ⟨⟩) Post) :
    At defs c H σ (Prog.lift (.store m (Rect.unit off size inb) w Finset.univ hx hs) >>= k) Post := by
  refine BIBase.Entails.trans (hm σ) ?_
  unfold owns
  iintro ⟨⟨%f, %hf, Hm⟩, Hk⟩
  iapply (wp_store (defs := defs) Variants.none (c : Thread nD τ) none Set.univ (k := k) (m := m)
    (r := Rect.unit off size inb) (w := w) (Mk := Finset.univ) (hx := hx) (hm := hs) (f := f) (S := m.view.set)
    (Memref.setOn_access_subset m (Rect.unit off size inb) Finset.univ)) $$ Hm
  iintro Hm
  have h' : H _ ⊢ _ := h
  iapply h'
  iapply Hk $$ %(stored off size inb w (get σ))
  iexists ((m.access (Rect.unit off size inb)).write Val f w Finset.univ)
  isplitr
  · ipureintro
    funext y
    have := m.view.read_writes_cons_unit f inb w [] y rfl
    rw [View.writes_nil, hf] at this
    exact this
  · iexact Hm

/-- A loop at the head of a program, by an invariant over its carried values and the state. -/
theorem at_for {A : Type} {l : Scf.Loop 32} {hok : l.OK} {init : A}
    {body : Fin l.trips → A → Prog (TpuEff nD τ sig Val Λ .tc) A} {σ : S} {Post : A → S → Prop}
    (I : ℕ → A → S → Prop) (h0 : I 0 init σ)
    (hb : ∀ (k : Fin l.trips) acc σ, I k acc σ → At defs c H σ (body k acc) (I (k + 1)))
    (hI : ∀ acc σ, I l.trips acc σ → Post acc σ) :
    At defs c H σ (Scf.Loop.for l hok init body) Post := by
  refine BIBase.Entails.trans ?_ (Scf.wp_for _ _ _ l.lb l.ub l.st hok init body
    (fun k acc => iprop(∃ σ, ⌜I k acc σ⌝ ∗ H σ)) (fun k acc => ?_))
  · iintro Hσ
    isplitl [Hσ]
    · iexists σ
      isplitr
      · ipureintro; exact h0
      · iexact Hσ
    · iintro %acc ⟨%σ', %h, Hσ⟩
      iexists σ'
      isplitr
      · ipureintro; exact hI acc σ' h
      · iexact Hσ
  · iintro ⟨%σ', %h, Hσ⟩
    have h' : H σ' ⊢ _ := hb k acc σ' h
    iapply h'
    iexact Hσ

end Cert.Proof

end
-- ==== Proof.SelBase.lean ====
/-
  The selection of the greatest keys: the state its body is run from (its block of keys, its three result blocks, the bit
  planes and the mask of the keys still alive), and the 32 by 32 bit transposition that makes the planes of the keys.
-/
module

public import proofs.«01_k».proof.Proof.Steps
public import proofs.«01_k».proof.Select
public import Idealize.ShloMosaic.Lib.ValueLayout

@[expose] public section

noncomputable section

namespace Cert.Proof.Select

open Cert.Select Cert.Proof
open Cert.Select.Facts₀ Cert.Select.Facts
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]
variable {U : Type} [URA U]
variable [Cert.Select.Facts]

/-- What the body changes: the three result blocks, the bit planes and the mask. -/
structure St where
  o1 : S1x1x256.Idx → BitVec 32
  o2 : S1x1x256.Idx → BitVec 32
  o3 : S1x1x256.Idx → BitVec 32
  P : S33x256x256.Idx → BitVec 32
  A : S256x256.Idx → BitVec 32

/-- What the body asks of the resource it runs from, `K` the block of keys. -/
structure Held (c : Dev nD) (H : St → sProp (MT nD τ sig Unit (Elt F) ℕ U ℕ)) (K : S1x8192x256.Idx → BitVec 32)
    (arg2 : Memref sig .tc .vmem S1x8192x256 .i32) (arg3 : Memref sig .tc .vmem S1x1x256 .i32)
    (arg4 : Memref sig .tc .vmem S1x1x256 .i32) (arg5 : Memref sig .tc .vmem S1x1x256 .i32)
    (arg6 : Memref sig .tc .vmem S33x256x256 .i32) (arg7 : Memref sig .tc .vmem S256x256 .i32) : Prop where
  r2 : Reads (Val := Elt F) c H arg2 (fun _ => K)
  s3 : Sets (Val := Elt F) c H arg3 St.o1 (fun σ X => { σ with o1 := X })
  s4 : Sets (Val := Elt F) c H arg4 St.o2 (fun σ X => { σ with o2 := X })
  s5 : Sets (Val := Elt F) c H arg5 St.o3 (fun σ X => { σ with o3 := X })
  s6 : Sets (Val := Elt F) c H arg6 St.P (fun σ X => { σ with P := X })
  s7 : Sets (Val := Elt F) c H arg7 St.A (fun σ X => { σ with A := X })

/-! ## The transposition -/

/-- The lower word of a butterfly: what it takes of the upper word by the mask `m` at distance `j`. -/
def lo (j m : BitVec 32) (a b : IVec S8x256 32) : IVec S8x256 32 :=
  xori a (andi (xori a (shrsi b (broadcast S8x256 j))) (broadcast S8x256 m))

/-- The upper word of a butterfly. -/
def hi (j m : BitVec 32) (a b : IVec S8x256 32) : IVec S8x256 32 :=
  xori b (shli (andi (xori a (shrsi b (broadcast S8x256 j))) (broadcast S8x256 m)) (broadcast S8x256 j))

/-- One stage of butterflies, over the words that are `j` apart. -/
def st (j : ℕ) (jb m : BitVec 32) (a : ℕ → IVec S8x256 32) (k : ℕ) : IVec S8x256 32 :=
  if k / j % 2 = 0 then lo jb m (a k) (a (k + j)) else hi jb m (a (k - j)) (a k)

/-- The five stages. -/
def tv (a : ℕ → IVec S8x256 32) : ℕ → IVec S8x256 32 :=
  st 1 1#32 1431655765#32 (st 2 2#32 858993459#32 (st 4 4#32 252645135#32 (st 8 8#32 16711935#32 (st 16 16#32 65535#32 a))))

/-- Which bit of which word a stage puts at bit `kp.2` of word `kp.1`. -/
def src (j : ℕ) (kp : ℕ × ℕ) : ℕ × ℕ :=
  if kp.1 / j % 2 = 0 then (if kp.2 / j % 2 = 0 then (kp.1 + j, kp.2 + j) else kp)
  else (if kp.2 / j % 2 = 0 then kp else (kp.1 - j, kp.2 - j))

/-- One stage, bit by bit: a bit comes from the word and the bit `j` off, or stays. -/
theorem st_bit (j : ℕ) (jb m : BitVec 32) (hj : jb.toNat = j) (hj32 : j < 32)
    (hm : ∀ p < 32, m.getLsbD p = decide (p / j % 2 = 0)) (hmj : ∀ p < 32, p / j % 2 = 0 → p + j < 32)
    (hpj : ∀ p < 32, p / j % 2 = 1 → j ≤ p ∧ (p - j) / j % 2 = 0)
    (hpj' : ∀ p < 32, p / j % 2 = 0 → ¬ p < j → (p - j) / j % 2 ≠ 0)
    (a : ℕ → IVec S8x256 32) (x : S8x256.Idx) (kp : ℕ × ℕ) (hkp : kp.2 < 32) :
    (st j jb m a kp.1 x).getLsbD kp.2 = (a (src j kp).1 x).getLsbD (src j kp).2 := by
  obtain ⟨k, p⟩ := kp
  have hp : p < 32 := hkp
  have e : (a (src j (k, p)).1 x).getLsbD (src j (k, p)).2 =
      if k / j % 2 = 0 then (if p / j % 2 = 0 then (a (k + j) x).getLsbD (p + j) else (a k x).getLsbD p)
      else (if p / j % 2 = 0 then (a k x).getLsbD p else (a (k - j) x).getLsbD (p - j)) := by
    unfold src
    by_cases h1 : k / j % 2 = 0 <;> by_cases h2 : p / j % 2 = 0 <;> simp only [h1, h2, if_true, if_false]
  rw [e]
  show (st j jb m a k x).getLsbD p = _
  have hs : ∀ (u : IVec S8x256 32), shrsi u (broadcast S8x256 jb) x = (u x).sshiftRight j := by
    intro u
    show (if jb.toNat < 32 then (u x).sshiftRight' jb else _) = _
    rw [if_pos (by omega), BitVec.sshiftRight', hj]
  have hl : ∀ (u : IVec S8x256 32), shli u (broadcast S8x256 jb) x = (u x) <<< j := by
    intro u
    show (if jb.toNat < 32 then (u x) <<< jb else _) = _
    rw [if_pos (by omega), BitVec.shiftLeft_eq', hj]
  unfold st
  by_cases hk : k / j % 2 = 0
  · rw [if_pos hk, if_pos hk]
    show (a k x ^^^ ((a k x ^^^ shrsi (a (k + j)) (broadcast S8x256 jb) x) &&& m)).getLsbD p = _
    rw [hs]
    simp only [BitVec.getLsbD_xor, BitVec.getLsbD_and, BitVec.getLsbD_sshiftRight, hm p hp]
    by_cases h2 : p / j % 2 = 0
    · have := hmj p hp h2
      rw [if_pos h2]
      simp [h2, this, Nat.not_le.mpr hp, Nat.add_comm j p]
    · rw [if_neg h2]; simp [h2]
  · rw [if_neg hk, if_neg hk]
    show (a k x ^^^ shli (andi (xori (a (k - j)) (shrsi (a k) (broadcast S8x256 jb))) (broadcast S8x256 m)) (broadcast S8x256 jb) x).getLsbD p = _
    rw [hl]
    show (a k x ^^^ (((a (k - j) x ^^^ shrsi (a k) (broadcast S8x256 jb) x) &&& m) <<< j)).getLsbD p = _
    rw [hs]
    simp only [BitVec.getLsbD_xor, BitVec.getLsbD_shiftLeft, BitVec.getLsbD_and, BitVec.getLsbD_sshiftRight]
    by_cases h2 : p / j % 2 = 0
    · rw [if_pos h2]
      by_cases h3 : p < j
      · simp [h3]
      · simp [h3, hm (p - j) (by omega), hpj' p hp h2 h3]
    · rw [if_neg h2]
      obtain ⟨h3, h4⟩ := hpj p hp (by omega)
      have h5 : j + (p - j) = p := by omega
      simp [hm (p - j) (by omega), h4, Nat.not_lt.mpr h3, h5, hp, Nat.not_le.mpr (show p - j < 32 by omega)]
      generalize (a (k - j) x).getLsbD (p - j) = u
      generalize (a k x)[p] = w
      cases u <;> cases w <;> rfl

/-- The five stages together put bit `31 - k` of word `31 - p` at bit `p` of word `k`. -/
theorem src_all : ∀ k < 32, ∀ p < 32, (src 1 (k, p)).2 < 32 ∧ (src 2 (src 1 (k, p))).2 < 32 ∧ (src 4 (src 2 (src 1 (k, p)))).2 < 32
    ∧ (src 8 (src 4 (src 2 (src 1 (k, p))))).2 < 32
    ∧ src 16 (src 8 (src 4 (src 2 (src 1 (k, p))))) = (31 - p, 31 - k) := by decide +kernel

/-- The transposition, bit by bit. -/
theorem tv_bit (a : ℕ → IVec S8x256 32) (x : S8x256.Idx) (k : ℕ) (hk : k < 32) (p : ℕ) (hp : p < 32) :
    (tv a k x).getLsbD p = (a (31 - p) x).getLsbD (31 - k) := by
  obtain ⟨h1, h2, h3, h4, h5⟩ := src_all k hk p hp
  unfold tv
  rw [st_bit 1 1#32 1431655765#32 rfl (by decide) (by decide) (by decide) (by decide) (by decide) _ x (k, p) hp,
    st_bit 2 2#32 858993459#32 rfl (by decide) (by decide) (by decide) (by decide) (by decide) _ x _ h1,
    st_bit 4 4#32 252645135#32 rfl (by decide) (by decide) (by decide) (by decide) (by decide) _ x _ h2,
    st_bit 8 8#32 16711935#32 rfl (by decide) (by decide) (by decide) (by decide) (by decide) _ x _ h3,
    st_bit 16 16#32 65535#32 rfl (by decide) (by decide) (by decide) (by decide) (by decide) _ x _ h4, h5]

/-! ## The planes of one chunk of keys -/

/-- The row slices of a chunk, eight rows each. -/
def slices (V : IVec S256x256 32) (j : ℕ) : IVec S8x256 32 :=
  if j = 0 then extractStridedSlice S8x256 ![0, 0] V slices_S256x256_o0_0_S8x256 else
  if j = 1 then extractStridedSlice S8x256 ![8, 0] V slices_S256x256_o8_0_S8x256 else
  if j = 2 then extractStridedSlice S8x256 ![16, 0] V slices_S256x256_o16_0_S8x256 else
  if j = 3 then extractStridedSlice S8x256 ![24, 0] V slices_S256x256_o24_0_S8x256 else
  if j = 4 then extractStridedSlice S8x256 ![32, 0] V slices_S256x256_o32_0_S8x256 else
  if j = 5 then extractStridedSlice S8x256 ![40, 0] V slices_S256x256_o40_0_S8x256 else
  if j = 6 then extractStridedSlice S8x256 ![48, 0] V slices_S256x256_o48_0_S8x256 else
  if j = 7 then extractStridedSlice S8x256 ![56, 0] V slices_S256x256_o56_0_S8x256 else
  if j = 8 then extractStridedSlice S8x256 ![64, 0] V slices_S256x256_o64_0_S8x256 else
  if j = 9 then extractStridedSlice S8x256 ![72, 0] V slices_S256x256_o72_0_S8x256 else
  if j = 10 then extractStridedSlice S8x256 ![80, 0] V slices_S256x256_o80_0_S8x256 else
  if j = 11 then extractStridedSlice S8x256 ![88, 0] V slices_S256x256_o88_0_S8x256 else
  if j = 12 then extractStridedSlice S8x256 ![96, 0] V slices_S256x256_o96_0_S8x256 else
  if j = 13 then extractStridedSlice S8x256 ![104, 0] V slices_S256x256_o104_0_S8x256 else
  if j = 14 then extractStridedSlice S8x256 ![112, 0] V slices_S256x256_o112_0_S8x256 else
  if j = 15 then extractStridedSlice S8x256 ![120, 0] V slices_S256x256_o120_0_S8x256 else
  if j = 16 then extractStridedSlice S8x256 ![128, 0] V slices_S256x256_o128_0_S8x256 else
  if j = 17 then extractStridedSlice S8x256 ![136, 0] V slices_S256x256_o136_0_S8x256 else
  if j = 18 then extractStridedSlice S8x256 ![144, 0] V slices_S256x256_o144_0_S8x256 else
  if j = 19 then extractStridedSlice S8x256 ![152, 0] V slices_S256x256_o152_0_S8x256 else
  if j = 20 then extractStridedSlice S8x256 ![160, 0] V slices_S256x256_o160_0_S8x256 else
  if j = 21 then extractStridedSlice S8x256 ![168, 0] V slices_S256x256_o168_0_S8x256 else
  if j = 22 then extractStridedSlice S8x256 ![176, 0] V slices_S256x256_o176_0_S8x256 else
  if j = 23 then extractStridedSlice S8x256 ![184, 0] V slices_S256x256_o184_0_S8x256 else
  if j = 24 then extractStridedSlice S8x256 ![192, 0] V slices_S256x256_o192_0_S8x256 else
  if j = 25 then extractStridedSlice S8x256 ![200, 0] V slices_S256x256_o200_0_S8x256 else
  if j = 26 then extractStridedSlice S8x256 ![208, 0] V slices_S256x256_o208_0_S8x256 else
  if j = 27 then extractStridedSlice S8x256 ![216, 0] V slices_S256x256_o216_0_S8x256 else
  if j = 28 then extractStridedSlice S8x256 ![224, 0] V slices_S256x256_o224_0_S8x256 else
  if j = 29 then extractStridedSlice S8x256 ![232, 0] V slices_S256x256_o232_0_S8x256 else
  if j = 30 then extractStridedSlice S8x256 ![240, 0] V slices_S256x256_o240_0_S8x256 else
  extractStridedSlice S8x256 ![248, 0] V slices_S256x256_o248_0_S8x256

/-- The words after each stage of the transposition. -/
def w0 (V : IVec S256x256 32) : ℕ → IVec S8x256 32 := slices V
def w1 (V : IVec S256x256 32) : ℕ → IVec S8x256 32 := st 16 16#32 65535#32 (w0 V)
def w2 (V : IVec S256x256 32) : ℕ → IVec S8x256 32 := st 8 8#32 16711935#32 (w1 V)
def w3 (V : IVec S256x256 32) : ℕ → IVec S8x256 32 := st 4 4#32 252645135#32 (w2 V)
def w4 (V : IVec S256x256 32) : ℕ → IVec S8x256 32 := st 2 2#32 858993459#32 (w3 V)
def w5 (V : IVec S256x256 32) : ℕ → IVec S8x256 32 := st 1 1#32 1431655765#32 (w4 V)

/-- Plane `n` of a chunk: the transposition's word `31 - n`. -/
def planesOf (V : IVec S256x256 32) (n : ℕ) : IVec S8x256 32 := w5 V (31 - n)

/-- Slice `j` holds the rows from `8 j`. -/
theorem slices_apply (V : IVec S256x256 32) (j : Fin 32) (r : Fin 8) (q : Fin 256) :
    slices V j.val (ix2 r q) = V (ix2 (⟨8 * j.val + r.val, by omega⟩ : Fin 256) q) := by
  have h : ∀ (n : ℕ) (hn : n < 32) (w : S256x256.Slices ![8 * n, 0] S8x256),
      extractStridedSlice S8x256 ![8 * n, 0] V w (ix2 r q) = V (ix2 (⟨8 * n + r.val, by omega⟩ : Fin 256) q) := by
    intro n hn w
    refine congrArg V (funext fun a => ?_)
    match a with
    | ⟨0, _⟩ => rfl
    | ⟨1, _⟩ => exact Fin.ext (Nat.zero_add _)
  obtain ⟨n, hn⟩ := j
  show slices V n (ix2 r q) = _
  match n, hn with
  | 0, _ => exact h 0 (by decide) slices_S256x256_o0_0_S8x256
  | 1, _ => exact h 1 (by decide) slices_S256x256_o8_0_S8x256
  | 2, _ => exact h 2 (by decide) slices_S256x256_o16_0_S8x256
  | 3, _ => exact h 3 (by decide) slices_S256x256_o24_0_S8x256
  | 4, _ => exact h 4 (by decide) slices_S256x256_o32_0_S8x256
  | 5, _ => exact h 5 (by decide) slices_S256x256_o40_0_S8x256
  | 6, _ => exact h 6 (by decide) slices_S256x256_o48_0_S8x256
  | 7, _ => exact h 7 (by decide) slices_S256x256_o56_0_S8x256
  | 8, _ => exact h 8 (by decide) slices_S256x256_o64_0_S8x256
  | 9, _ => exact h 9 (by decide) slices_S256x256_o72_0_S8x256
  | 10, _ => exact h 10 (by decide) slices_S256x256_o80_0_S8x256
  | 11, _ => exact h 11 (by decide) slices_S256x256_o88_0_S8x256
  | 12, _ => exact h 12 (by decide) slices_S256x256_o96_0_S8x256
  | 13, _ => exact h 13 (by decide) slices_S256x256_o104_0_S8x256
  | 14, _ => exact h 14 (by decide) slices_S256x256_o112_0_S8x256
  | 15, _ => exact h 15 (by decide) slices_S256x256_o120_0_S8x256
  | 16, _ => exact h 16 (by decide) slices_S256x256_o128_0_S8x256
  | 17, _ => exact h 17 (by decide) slices_S256x256_o136_0_S8x256
  | 18, _ => exact h 18 (by decide) slices_S256x256_o144_0_S8x256
  | 19, _ => exact h 19 (by decide) slices_S256x256_o152_0_S8x256
  | 20, _ => exact h 20 (by decide) slices_S256x256_o160_0_S8x256
  | 21, _ => exact h 21 (by decide) slices_S256x256_o168_0_S8x256
  | 22, _ => exact h 22 (by decide) slices_S256x256_o176_0_S8x256
  | 23, _ => exact h 23 (by decide) slices_S256x256_o184_0_S8x256
  | 24, _ => exact h 24 (by decide) slices_S256x256_o192_0_S8x256
  | 25, _ => exact h 25 (by decide) slices_S256x256_o200_0_S8x256
  | 26, _ => exact h 26 (by decide) slices_S256x256_o208_0_S8x256
  | 27, _ => exact h 27 (by decide) slices_S256x256_o216_0_S8x256
  | 28, _ => exact h 28 (by decide) slices_S256x256_o224_0_S8x256
  | 29, _ => exact h 29 (by decide) slices_S256x256_o232_0_S8x256
  | 30, _ => exact h 30 (by decide) slices_S256x256_o240_0_S8x256
  | 31, _ => exact h 31 (by decide) slices_S256x256_o248_0_S8x256
  | m + 32, hm => exact absurd hm (by omega)

/-- Bit `p` of plane `n` at row `r` is bit `n` of the key at row `8 (31 - p) + r`. -/
theorem planesOf_bit (V : IVec S256x256 32) (n : ℕ) (hn : n < 32) (r : Fin 8) (q : Fin 256) (p : ℕ) (hp : p < 32) :
    (planesOf V n (ix2 r q)).getLsbD p = (V (ix2 (⟨8 * (31 - p) + r.val, by omega⟩ : Fin 256) q)).getLsbD n := by
  show (tv (slices V) (31 - n) (ix2 r q)).getLsbD p = _
  rw [tv_bit _ _ _ (by omega) _ hp, slices_apply V ⟨31 - p, by omega⟩ r q, show 31 - (31 - n) = n by omega]

/-! ## Storing planes -/

/-- The planes with rows `8 c …` of the first `n` replaced by `W`. -/
def up (n c : ℕ) (W : ℕ → IVec S8x256 32) (P : S33x256x256.Idx → BitVec 32) : S33x256x256.Idx → BitVec 32 := fun y =>
  if h : (y 0).val < n ∧ 8 * c ≤ (y 1).val ∧ (y 1).val < 8 * c + 8 then
    W (y 0).val (ix2 (⟨(y 1).val - 8 * c, by omega⟩ : Fin 8) (y 2)) else P y

theorem up_zero (c : ℕ) (W : ℕ → IVec S8x256 32) (P : S33x256x256.Idx → BitVec 32) : up 0 c W P = P := by
  funext y
  exact dif_neg (fun h => Nat.not_lt_zero _ h.1)

variable {c : Dev nD} {H : St → sProp (MT nD τ sig Unit (Elt F) ℕ U ℕ)} {defs : Defs nD τ sig (Elt F) Λ₀}

/-- A store of plane `n`'s rows takes the planes updated so far one further. -/
theorem stored_up (n b : ℕ) (W : ℕ → IVec S8x256 32) (P : S33x256x256.Idx → BitVec 32) (off : Fin 3 → ℕ)
    (inb : ∀ a, off a + S1x8x256.size a ≤ S33x256x256.size a) (hoff : off = ![n, 8 * b, 0])
    (w : IVec S8x256 32) (hw : w = W n) (h : S8x256.ShapeCasts S1x8x256) :
    stored (s := S33x256x256) (Val := Elt F) (e := .i32) off S1x8x256.size inb (shapeCast S1x8x256 w h) (up n b W P) = up (n + 1) b W P := by
  subst hoff hw
  funext y
  unfold stored up
  by_cases h1 : (y 0).val = n ∧ 8 * b ≤ (y 1).val ∧ (y 1).val < 8 * b + 8
  · rw [dif_pos (fun a => match a with
      | ⟨0, _⟩ => (⟨Nat.le_of_eq h1.1.symm, by show (y 0).val < n + 1; omega⟩ : n ≤ (y 0).val ∧ (y 0).val < n + 1)
      | ⟨1, _⟩ => h1.2
      | ⟨2, _⟩ => ⟨Nat.zero_le _, by show (y 2).val < 0 + 256; have : (y 2).val < 256 := (y 2).isLt; omega⟩), dif_pos ⟨by omega, h1.2⟩]
    obtain ⟨rfl, h2, h3⟩ := h1
    refine Eq.trans ?_ (shapeCast_ab_1ab_apply (W (y 0).val) h (0 : Fin 1) (⟨(y 1).val - 8 * b, by omega⟩ : Fin 8) (y 2))
    congr 1
    funext a
    match a with
    | ⟨0, _⟩ => exact Subsingleton.elim (α := Fin 1) _ _
    | ⟨1, _⟩ => rfl
    | ⟨2, _⟩ => rfl
  · rw [dif_neg (fun h => h1 (by
      have h0 : n ≤ (y 0).val ∧ (y 0).val < n + 1 := h 0
      have h2 : 8 * b ≤ (y 1).val ∧ (y 1).val < 8 * b + 8 := h 1
      exact ⟨by omega, h2⟩))]
    by_cases h2 : (y 0).val < n ∧ 8 * b ≤ (y 1).val ∧ (y 1).val < 8 * b + 8
    · rw [dif_pos h2, dif_pos ⟨by omega, h2.2⟩]
    · rw [dif_neg h2, dif_neg (by omega)]

/-- Storing plane `n`'s rows at the head of a program. -/
theorem at_put {K : S1x8192x256.Idx → BitVec 32} {arg2 : Memref sig .tc .vmem S1x8192x256 .i32}
    {arg3 arg4 arg5 : Memref sig .tc .vmem S1x1x256 .i32} {arg6 : Memref sig .tc .vmem S33x256x256 .i32}
    {arg7 : Memref sig .tc .vmem S256x256 .i32} (hH : Held c H K arg2 arg3 arg4 arg5 arg6 arg7)
    {α : Type} (n b : ℕ) {W : ℕ → IVec S8x256 32} {P : S33x256x256.Idx → BitVec 32} {off : Fin 3 → ℕ}
    {inb : ∀ a, off a + S1x8x256.size a ≤ S33x256x256.size a} (hoff : off = ![n, 8 * b, 0])
    {w : IVec S8x256 32} (hw : w = W n) {h : S8x256.ShapeCasts S1x8x256}
    {hx : (arg6.access (Rect.unit (s := S33x256x256) off S1x8x256.size inb)).Stores Finset.univ}
    {hs : Finset.univ = Finset.univ ∨ ∀ a, (Rect.unit (s := S33x256x256) off S1x8x256.size inb).stride a = 1}
    {k : PUnit → Prog (TpuEff nD τ sig (Elt F) Λ₀ .tc) α} {σ : St} {Post : α → St → Prop}
    (hk : At defs c H { σ with P := up (n + 1) b W P } (k ⟨⟩) Post) :
    At defs c H { σ with P := up n b W P } (Prog.lift (.store arg6 (Rect.unit (s := S33x256x256) off S1x8x256.size inb)
      (shapeCast S1x8x256 w h : S1x8x256.Idx → BitVec 32) Finset.univ hx hs) >>= k) Post := by
  refine at_store hH.s6 ?_
  rw [← stored_up (F := F) n b W P off inb hoff w hw h] at hk
  exact hk

/-- A memref that can be set can be read. -/
theorem _root_.Cert.Proof.Sets.reads {S : Type} {H : S → sProp (MT nD τ sig Unit (Elt F) ℕ U ℕ)} {sp : Space} {s : Shape} {e : EltTy}
    {m : Memref sig .tc sp s e} {get : S → s.Idx → Elt F e} {set : S → (s.Idx → Elt F e) → S}
    (h : Sets c H m get set) (hs : ∀ σ, set σ (get σ) = σ) : Reads c H m get := by
  intro σ
  refine BIBase.Entails.trans (h σ) ?_
  iintro ⟨Hm, Hk⟩
  iexists fullShare
  isplitl [Hm]
  · iexact Hm
  · iintro Hm
    have e : H (set σ (get σ)) ⊢ H σ := by rw [hs σ]
    iapply e
    iapply Hk $$ %(get σ)
    iexact Hm

/-- A program that does nothing, in front of another. -/
theorem at_ret {α β : Type} {p : Prog (TpuEff nD τ sig (Elt F) Λ₀ .tc) α} {a : α} {k : α → Prog (TpuEff nD τ sig (Elt F) Λ₀ .tc) β} {σ : St}
    {Post : β → St → Prop} (hp : p = pure a) (hk : At defs c H σ (k a) Post) : At defs c H σ (p >>= k) Post := by
  subst hp
  exact hk

theorem Held.r6 {K : S1x8192x256.Idx → BitVec 32} {arg2 : Memref sig .tc .vmem S1x8192x256 .i32}
    {arg3 arg4 arg5 : Memref sig .tc .vmem S1x1x256 .i32} {arg6 : Memref sig .tc .vmem S33x256x256 .i32}
    {arg7 : Memref sig .tc .vmem S256x256 .i32} (hH : Held (F := F) c H K arg2 arg3 arg4 arg5 arg6 arg7) :
    Reads c H arg6 fun σ => σ.P := hH.s6.reads fun _ => rfl

theorem Held.r7 {K : S1x8192x256.Idx → BitVec 32} {arg2 : Memref sig .tc .vmem S1x8192x256 .i32}
    {arg3 arg4 arg5 : Memref sig .tc .vmem S1x1x256 .i32} {arg6 : Memref sig .tc .vmem S33x256x256 .i32}
    {arg7 : Memref sig .tc .vmem S256x256 .i32} (hH : Held (F := F) c H K arg2 arg3 arg4 arg5 arg6 arg7) :
    Reads c H arg7 fun σ => σ.A := hH.s7.reads fun _ => rfl

/-- A chunk of the keys, at the offsets `off` of its block, with the sign bit turned. -/
def keysOf (K : S1x8192x256.Idx → BitVec 32) (off : Fin 3 → ℕ) (inb : ∀ a, off a + S1x256x256.size a ≤ S1x8192x256.size a) :
    IVec S256x256 32 :=
  xori (shapeCast S256x256 (fun x => K ((Rect.unit (s := S1x8192x256) off S1x256x256.size inb).toLoadRect.idx x)) shapeCasts_S1x256x256_S256x256)
    (broadcast S256x256 2147483648#32)

/-- Offsets from the row offset. -/
theorem row {r m : ℕ} (h : r = m) (n : ℕ) {off : Fin 3 → ℕ} (ho : off = ![n, r, 0]) : off = ![n, m, 0] := h ▸ ho

end Cert.Proof.Select

end
-- ==== Proof.SelParts.lean ====
/-
  The windows of the selection's body that make the bit planes, one by one: each step of the transposition gives the words of
  the next stage (`w0` to `w5` of the chunk `V`), and each store adds one plane (`up`).
-/
module

public import proofs.«01_k».proof.Proof.SelBase

@[expose] public section

noncomputable section

namespace Cert.Proof.Select

open Cert.Select Cert.Proof
open Cert.Select.Facts₀ Cert.Select.Facts
open Idealize.ShloMosaic Idealize.ShloMosaic.TcCoe Idealize.ShloMosaic.ValueIdx
open Idealize.SL Idealize.SL.RA Idealize.SL.BI
open Idealize.SL.Sem

variable {F : FTy → Type} [BitOps F]
variable {U : Type} [URA U]
variable [Cert.Select.Facts]
variable {c : Dev nD} {H : St → sProp (MT nD τ sig Unit (Elt F) ℕ U ℕ)} {defs : Defs nD τ sig (Elt F) Λ₀}
variable {K : S1x8192x256.Idx → BitVec 32} {i : grid0.Coords}
variable {arg2 : Memref sig .tc .vmem S1x8192x256 .i32} {harg2 : arg2.IsWhole}
  {arg3 : Memref sig .tc .vmem S1x1x256 .i32} {harg3 : arg3.IsWhole}
  {arg4 : Memref sig .tc .vmem S1x1x256 .i32} {harg4 : arg4.IsWhole}
  {arg5 : Memref sig .tc .vmem S1x1x256 .i32} {harg5 : arg5.IsWhole}
  {arg6 : Memref sig .tc .vmem S33x256x256 .i32} {harg6 : arg6.IsWhole}
  {arg7 : Memref sig .tc .vmem S256x256 .i32} {harg7 : arg7.IsWhole}

/-! ## The chunk on the diagonal -/

theorem part84  (V : IVec S256x256 32) :
    k0_part84 (F := F) i arg2 harg2 arg3 harg3 arg4 harg4 arg5 harg5 arg6 harg6 arg7 harg7 (w0 V 0) (w0 V 1) (w0 V 2) (w0 V 3) (w0 V 4) (w0 V 16) (w0 V 17) (w0 V 18) (w0 V 19) (w0 V 20) =
      pure ⟨(w1 V 0), (w1 V 16), (w1 V 1), (w1 V 17), (w1 V 2), (w1 V 18), (w1 V 3), (w1 V 19), (w1 V 4), (w1 V 20)⟩ := rfl

theorem part85  (V : IVec S256x256 32) :
    k0_part85 (F := F) i arg2 harg2 arg3 harg3 arg4 harg4 arg5 harg5 arg6 harg6 arg7 harg7 (w0 V 5) (w0 V 6) (w0 V 7) (w0 V 8) (w0 V 9) (w0 V 21) (w0 V 22) (w0 V 23) (w0 V 24) (w0 V 25) =
      pure ⟨(w1 V 5), (w1 V 21), (w1 V 6), (w1 V 22), (w1 V 7), (w1 V 23), (w1 V 8), (w1 V 24), (w1 V 9), (w1 V 25)⟩ := rfl

theorem part86  (V : IVec S256x256 32) :
    k0_part86 (F := F) i arg2 harg2 arg3 harg3 arg4 harg4 arg5 harg5 arg6 harg6 arg7 harg7 (w0 V 10) (w0 V 11) (w0 V 12) (w0 V 13) (w0 V 14) (w0 V 26) (w0 V 27) (w0 V 28) (w0 V 29) (w0 V 30) =
      pure ⟨(w1 V 10), (w1 V 26), (w1 V 11), (w1 V 27), (w1 V 12), (w1 V 28), (w1 V 13), (w1 V 29), (w1 V 14), (w1 V 30)⟩ := rfl

theorem part87  (V : IVec S256x256 32) :
    k0_part87 (F := F) i arg2 harg2 arg3 harg3 arg4 harg4 arg5 harg5 arg6 harg6 arg7 harg7 (w0 V 15) (w0 V 31) (w1 V 0) (w1 V 1) (w1 V 2) (w1 V 3) (w1 V 8) (w1 V 9) (w1 V 10) (w1 V 11) =
      pure ⟨(w1 V 15), (w1 V 31), (w2 V 0), (w2 V 8), (w2 V 1), (w2 V 9), (w2 V 2), (w2 V 10), (w2 V 3), (w2 V 11)⟩ := rfl

theorem part88  (V : IVec S256x256 32) :
    k0_part88 (F := F) i arg2 harg2 arg3 harg3 arg4 harg4 arg5 harg5 arg6 harg6 arg7 harg7 (w1 V 16) (w1 V 4) (w1 V 5) (w1 V 6) (w1 V 7) (w1 V 24) (w1 V 12) (w1 V 13) (w1 V 14) (w1 V 15) =
      pure ⟨(w2 V 4), (w2 V 12), (w2 V 5), (w2 V 13), (w2 V 6), (w2 V 14), (w2 V 7), (w2 V 15), (w2 V 16), (w2 V 24)⟩ := rfl

theorem part89  (V : IVec S256x256 32) :
    k0_part89 (F := F) i arg2 harg2 arg3 harg3 arg4 harg4 arg5 harg5 arg6 harg6 arg7 harg7 (w1 V 17) (w1 V 18) (w1 V 19) (w1 V 20) (w1 V 21) (w1 V 25) (w1 V 26) (w1 V 27) (w1 V 28) (w1 V 29) =
      pure ⟨(w2 V 17), (w2 V 25), (w2 V 18), (w2 V 26), (w2 V 19), (w2 V 27), (w2 V 20), (w2 V 28), (w2 V 21), (w2 V 29)⟩ := rfl

theorem part90  (V : IVec S256x256 32) :
    k0_part90 (F := F) i arg2 harg2 arg3 harg3 arg4 harg4 arg5 harg5 arg6 harg6 arg7 harg7 (w1 V 22) (w1 V 23) (w1 V 30) (w1 V 31) (w2 V 0) (w2 V 1) (w2 V 2) (w2 V 4) (w2 V 5) (w2 V 6) =
      pure ⟨(w2 V 22), (w2 V 30), (w2 V 23), (w2 V 31), (w3 V 0), (w3 V 4), (w3 V 1), (w3 V 5), (w3 V 2), (w3 V 6)⟩ := rfl

theorem part91  (V : IVec S256x256 32) :
    k0_part91 (F := F) i arg2 harg2 arg3 harg3 arg4 harg4 arg5 harg5 arg6 harg6 arg7 harg7 (w2 V 8) (w2 V 9) (w2 V 10) (w2 V 3) (w2 V 11) (w2 V 12) (w2 V 13) (w2 V 14) (w2 V 7) (w2 V 15) =
      pure ⟨(w3 V 3), (w3 V 7), (w3 V 8), (w3 V 12), (w3 V 9), (w3 V 13), (w3 V 10), (w3 V 14), (w3 V 11), (w3 V 15)⟩ := rfl

theorem part92  (V : IVec S256x256 32) :
    k0_part92 (F := F) i arg2 harg2 arg3 harg3 arg4 harg4 arg5 harg5 arg6 harg6 arg7 harg7 (w2 V 16) (w2 V 24) (w2 V 17) (w2 V 18) (w2 V 19) (w2 V 20) (w2 V 28) (w2 V 21) (w2 V 22) (w2 V 23) =
      pure ⟨(w3 V 16), (w3 V 20), (w3 V 17), (w3 V 21), (w3 V 18), (w3 V 22), (w3 V 19), (w3 V 23), (w3 V 24), (w3 V 28)⟩ := rfl

theorem part93  (V : IVec S256x256 32) :
    k0_part93 (F := F) i arg2 harg2 arg3 harg3 arg4 harg4 arg5 harg5 arg6 harg6 arg7 harg7 (w2 V 25) (w2 V 26) (w2 V 27) (w2 V 29) (w2 V 30) (w2 V 31) (w3 V 0) (w3 V 1) (w3 V 2) (w3 V 3) =
      pure ⟨(w3 V 25), (w3 V 29), (w3 V 26), (w3 V 30), (w3 V 27), (w3 V 31), (w4 V 0), (w4 V 2), (w4 V 1), (w4 V 3)⟩ := rfl

theorem part94  (V : IVec S256x256 32) :
    k0_part94 (F := F) i arg2 harg2 arg3 harg3 arg4 harg4 arg5 harg5 arg6 harg6 arg7 harg7 (w3 V 4) (w3 V 5) (w3 V 6) (w3 V 7) (w3 V 8) (w3 V 12) (w3 V 9) (w3 V 10) (w3 V 14) (w3 V 11) =
      pure ⟨(w4 V 4), (w4 V 6), (w4 V 5), (w4 V 7), (w4 V 8), (w4 V 10), (w4 V 9), (w4 V 11), (w4 V 12), (w4 V 14)⟩ := rfl

theorem part95  (V : IVec S256x256 32) :
    k0_part95 (F := F) i arg2 harg2 arg3 harg3 arg4 harg4 arg5 harg5 arg6 harg6 arg7 harg7 (w3 V 13) (w3 V 15) (w3 V 16) (w3 V 20) (w3 V 17) (w3 V 21) (w3 V 18) (w3 V 22) (w3 V 19) (w3 V 23) =
      pure ⟨(w4 V 13), (w4 V 15), (w4 V 16), (w4 V 18), (w4 V 17), (w4 V 19), (w4 V 20), (w4 V 22), (w4 V 21), (w4 V 23)⟩ := rfl

theorem part96  (V : IVec S256x256 32) :
    k0_part96 (F := F) i arg2 harg2 arg3 harg3 arg4 harg4 arg5 harg5 arg6 harg6 arg7 harg7 (w3 V 24) (w3 V 28) (w3 V 25) (w3 V 29) (w3 V 26) (w3 V 30) (w3 V 27) (w3 V 31) (w4 V 0) (w4 V 1) =
      pure ⟨(w4 V 24), (w4 V 26), (w4 V 25), (w4 V 27), (w4 V 28), (w4 V 30), (w4 V 29), (w4 V 31), (w5 V 0), (w5 V 1)⟩ := rfl

theorem part97  (V : IVec S256x256 32) :
    k0_part97 (F := F) i arg2 harg2 arg3 harg3 arg4 harg4 arg5 harg5 arg6 harg6 arg7 harg7 (w4 V 2) (w4 V 3) (w4 V 4) (w4 V 6) (w4 V 5) (w4 V 7) (w4 V 8) (w4 V 10) (w4 V 9) (w4 V 11) =
      pure ⟨(w5 V 2), (w5 V 3), (w5 V 4), (w5 V 5), (w5 V 6), (w5 V 7), (w5 V 8), (w5 V 9), (w5 V 10), (w5 V 11)⟩ := rfl

theorem part98  (V : IVec S256x256 32) :
    k0_part98 (F := F) i arg2 harg2 arg3 harg3 arg4 harg4 arg5 harg5 arg6 harg6 arg7 harg7 (w4 V 12) (w4 V 14) (w4 V 13) (w4 V 15) (w4 V 16) (w4 V 18) (w4 V 17) (w4 V 19) (w4 V 20) (w4 V 21) =
      pure ⟨(w5 V 12), (w5 V 13), (w5 V 14), (w5 V 15), (w5 V 16), (w5 V 17), (w5 V 18), (w5 V 19), (w5 V 20), (w5 V 21)⟩ := rfl

theorem part99  (V : IVec S256x256 32) :
    k0_part99 (F := F) i arg2 harg2 arg3 harg3 arg4 harg4 arg5 harg5 arg6 harg6 arg7 harg7 (w4 V 22) (w4 V 23) (w4 V 24) (w4 V 26) (w4 V 25) (w4 V 27) (w4 V 28) (w4 V 30) (w4 V 29) (w4 V 31) =
      pure ⟨(w5 V 22), (w5 V 23), (w5 V 24), (w5 V 25), (w5 V 26), (w5 V 27), (w5 V 28), (w5 V 29), (w5 V 30), (w5 V 31)⟩ := rfl

theorem part100 (hH : Held (F := F) c H K arg2 arg3 arg4 arg5 arg6 arg7) (arg1 : BitVec 32) (σ : St) (b : ℕ) (hb : k0_off2 i 1 = 8 * b) (V : IVec S256x256 32) :
    At defs c H { σ with P := up 0 b (planesOf V) σ.P } (k0_part100 (F := F) i arg2 harg2 arg3 harg3 arg4 harg4 arg5 harg5 arg6 harg6 arg7 harg7 arg1 (w5 V 24) (w5 V 25) (w5 V 26) (w5 V 27) (w5 V 28) (w5 V 29) (w5 V 30) (w5 V 31))
      (fun r σ' => ∃ v770 : BitVec 32, r = v770 ∧ σ' = { σ with P := up 8 b (planesOf V) σ.P }) := by
  refine at_load hH.r6 ?_
  refine at_put hH 0 b (row hb 0 rfl) rfl ?_
  refine at_load hH.r6 ?_
  refine at_put hH 1 b (row hb 1 rfl) rfl ?_
  refine at_load hH.r6 ?_
  refine at_put hH 2 b (row hb 2 rfl) rfl ?_
  refine at_load hH.r6 ?_
  refine at_put hH 3 b (row hb 3 rfl) rfl ?_
  refine at_load hH.r6 ?_
  refine at_put hH 4 b (row hb 4 rfl) rfl ?_
  refine at_load hH.r6 ?_
  refine at_put hH 5 b (row hb 5 rfl) rfl ?_
  refine at_load hH.r6 ?_
  refine at_put hH 6 b (row hb 6 rfl) rfl ?_
  refine at_load hH.r6 ?_
  refine at_put hH 7 b (row hb 7 rfl) rfl ?_
  exact at_pure ⟨_, rfl, rfl⟩

theorem part101 (hH : Held (F := F) c H K arg2 arg3 arg4 arg5 arg6 arg7) (v770 : BitVec 32) (σ : St) (b : ℕ) (hb : k0_off2 i 1 = 8 * b) (V : IVec S256x256 32) :
    At defs c H { σ with P := up 8 b (planesOf V) σ.P } (k0_part101 (F := F) i arg2 harg2 arg3 harg3 arg4 harg4 arg5 harg5 arg6 harg6 arg7 harg7 (w5 V 16) (w5 V 17) (w5 V 18) (w5 V 19) (w5 V 20) (w5 V 21) (w5 V 22) (w5 V 23) v770)
      (fun r σ' => r = ⟨⟩ ∧ σ' = { σ with P := up 16 b (planesOf V) σ.P }) := by
  refine at_load hH.r6 ?_
  refine at_put hH 8 b (row hb 8 rfl) rfl ?_
  refine at_load hH.r6 ?_
  refine at_put hH 9 b (row hb 9 rfl) rfl ?_
  refine at_load hH.r6 ?_
  refine at_put hH 10 b (row hb 10 rfl) rfl ?_
  refine at_load hH.r6 ?_
  refine at_put hH 11 b (row hb 11 rfl) rfl ?_
  refine at_load hH.r6 ?_
  refine at_put hH 12 b (row hb 12 rfl) rfl ?_
  refine at_load hH.r6 ?_
  refine at_put hH 13 b (row hb 13 rfl) rfl ?_
  refine at_load hH.r6 ?_
  refine at_put hH 14 b (row hb 14 rfl) rfl ?_
  refine at_load hH.r6 ?_
  refine at_put hH 15 b (row hb 15 rfl) rfl ?_
  refine at_load hH.r6 ?_
  exact at_pure ⟨rfl, rfl⟩

theorem part102 (hH : Held (F := F) c H K arg2 arg3 arg4 arg5 arg6 arg7) (v770 : BitVec 32) (σ : St) (b : ℕ) (hb : k0_off2 i 1 = 8 * b) (V : IVec S256x256 32) :
    At defs c H { σ with P := up 16 b (planesOf V) σ.P } (k0_part102 (F := F) i arg2 harg2 arg3 harg3 arg4 harg4 arg5 harg5 arg6 harg6 arg7 harg7 (w5 V 7) (w5 V 8) (w5 V 9) (w5 V 10) (w5 V 11) (w5 V 12) (w5 V 13) (w5 V 14) (w5 V 15) v770)
      (fun r σ' => r = ⟨⟩ ∧ σ' = { σ with P := up 25 b (planesOf V) σ.P }) := by
  refine at_put hH 16 b (row hb 16 rfl) rfl ?_
  refine at_load hH.r6 ?_
  refine at_put hH 17 b (row hb 17 rfl) rfl ?_
  refine at_load hH.r6 ?_
  refine at_put hH 18 b (row hb 18 rfl) rfl ?_
  refine at_load hH.r6 ?_
  refine at_put hH 19 b (row hb 19 rfl) rfl ?_
  refine at_load hH.r6 ?_
  refine at_put hH 20 b (row hb 20 rfl) rfl ?_
  refine at_load hH.r6 ?_
  refine at_put hH 21 b (row hb 21 rfl) rfl ?_
  refine at_load hH.r6 ?_
  refine at_put hH 22 b (row hb 22 rfl) rfl ?_
  refine at_load hH.r6 ?_
  refine at_put hH 23 b (row hb 23 rfl) rfl ?_
  refine at_load hH.r6 ?_
  refine at_put hH 24 b (row hb 24 rfl) rfl ?_
  exact at_pure ⟨rfl, rfl⟩

theorem part103 (hH : Held (F := F) c H K arg2 arg3 arg4 arg5 arg6 arg7) (arg1 : BitVec 32) (v770 : BitVec 32) (σ : St) (b : ℕ) (hb : k0_off2 i 1 = 8 * b) (V : IVec S256x256 32) :
    At defs c H { σ with P := up 25 b (planesOf V) σ.P } (k0_part103 (F := F) i arg2 harg2 arg3 harg3 arg4 harg4 arg5 harg5 arg6 harg6 arg7 harg7 arg1 (w5 V 0) (w5 V 1) (w5 V 2) (w5 V 3) (w5 V 4) (w5 V 5) (w5 V 6) v770)
      (fun r σ' => ∃ v899 : BitVec 32, ∃ v900 : BitVec 32, ∃ v905 : BitVec 32, ∃ v906 : BitVec 1, r = ⟨v899, 2#32, v900, v905, v906⟩ ∧ σ' = { σ with P := up 32 b (planesOf V) σ.P }) := by
  refine at_load hH.r6 ?_
  refine at_put hH 25 b (row hb 25 rfl) rfl ?_
  refine at_load hH.r6 ?_
  refine at_put hH 26 b (row hb 26 rfl) rfl ?_
  refine at_load hH.r6 ?_
  refine at_put hH 27 b (row hb 27 rfl) rfl ?_
  refine at_load hH.r6 ?_
  refine at_put hH 28 b (row hb 28 rfl) rfl ?_
  refine at_load hH.r6 ?_
  refine at_put hH 29 b (row hb 29 rfl) rfl ?_
  refine at_load hH.r6 ?_
  refine at_put hH 30 b (row hb 30 rfl) rfl ?_
  refine at_load hH.r6 ?_
  refine at_put hH 31 b (row hb 31 rfl) rfl ?_
  exact at_pure ⟨_, _, _, _, rfl, rfl⟩

/-! ## The chunks before it, two to a trip -/

theorem part1 (hH : Held (F := F) c H K arg2 arg3 arg4 arg5 arg6 arg7) (k0_t1 : Fin (k0_t1_loop i).trips) (c0_i32_277 : BitVec 32) (c1_i32_279 : BitVec 32) (σ : St) :
    At defs c H σ (k0_part1 (F := F) i arg2 harg2 arg3 harg3 arg4 harg4 arg5 harg5 arg6 harg6 arg7 harg7 c0_i32_277 c1_i32_279 k0_t1)
      (fun r σ' => ∃ V₁ : IVec S256x256 32, V₁ = keysOf K (k0_off34 i k0_t1) (k0_off34_inb i k0_t1) ∧ ∃ arg8 : BitVec 32, ∃ v984 : BitVec 32, r = ⟨arg8, v984, (w0 V₁ 1), (w0 V₁ 2), (w0 V₁ 3), (w0 V₁ 4), (w0 V₁ 5), (w0 V₁ 6), (w0 V₁ 7), (w0 V₁ 8), (w0 V₁ 9), (w0 V₁ 10), (w0 V₁ 11), (w0 V₁ 12), (w0 V₁ 13), (w0 V₁ 14), (w0 V₁ 15), (w0 V₁ 17), (w0 V₁ 18), (w0 V₁ 19), (w0 V₁ 20), (w0 V₁ 21), (w0 V₁ 22), (w0 V₁ 23), (w0 V₁ 24), (w0 V₁ 25), (w0 V₁ 26), (w0 V₁ 27), (w0 V₁ 28), (w0 V₁ 29), (w0 V₁ 30), (w0 V₁ 31), (w1 V₁ 0), (w1 V₁ 16), (broadcast S8x256 16#32)⟩ ∧ σ' = σ) := by
  refine at_load hH.r2 ?_
  exact at_pure ⟨_, rfl, _, _, rfl, rfl⟩

theorem part2  (V : IVec S256x256 32) :
    k0_part2 (F := F) i arg2 harg2 arg3 harg3 arg4 harg4 arg5 harg5 arg6 harg6 arg7 harg7 (w0 V 1) (w0 V 2) (w0 V 3) (w0 V 4) (w0 V 5) (w0 V 17) (w0 V 18) (w0 V 19) (w0 V 20) (w0 V 21) (broadcast S8x256 16#32) =
      pure ⟨(w1 V 1), (w1 V 17), (w1 V 2), (w1 V 18), (w1 V 3), (w1 V 19), (w1 V 4), (w1 V 20), (w1 V 5), (w1 V 21), (broadcast S8x256 16#32)⟩ := rfl

theorem part3  (V : IVec S256x256 32) :
    k0_part3 (F := F) i arg2 harg2 arg3 harg3 arg4 harg4 arg5 harg5 arg6 harg6 arg7 harg7 (w0 V 6) (w0 V 7) (w0 V 8) (w0 V 9) (w0 V 10) (w0 V 22) (w0 V 23) (w0 V 24) (w0 V 25) (w0 V 26) (broadcast S8x256 16#32) =
      pure ⟨(w1 V 6), (w1 V 22), (w1 V 7), (w1 V 23), (w1 V 8), (w1 V 24), (w1 V 9), (w1 V 25), (w1 V 10), (w1 V 26), (broadcast S8x256 16#32)⟩ := rfl

theorem part4  (V : IVec S256x256 32) :
    k0_part4 (F := F) i arg2 harg2 arg3 harg3 arg4 harg4 arg5 harg5 arg6 harg6 arg7 harg7 (w0 V 11) (w0 V 12) (w0 V 13) (w0 V 14) (w0 V 15) (w0 V 27) (w0 V 28) (w0 V 29) (w0 V 30) (w0 V 31) (broadcast S8x256 16#32) =
      pure ⟨(w1 V 11), (w1 V 27), (w1 V 12), (w1 V 28), (w1 V 13), (w1 V 29), (w1 V 14), (w1 V 30), (w1 V 15), (w1 V 31), (broadcast S8x256 8#32)⟩ := rfl

theorem part5  (V : IVec S256x256 32) :
    k0_part5 (F := F) i arg2 harg2 arg3 harg3 arg4 harg4 arg5 harg5 arg6 harg6 arg7 harg7 (w1 V 0) (w1 V 1) (w1 V 2) (w1 V 3) (w1 V 4) (w1 V 8) (w1 V 9) (w1 V 10) (w1 V 11) (w1 V 12) (broadcast S8x256 8#32) =
      pure ⟨(w2 V 0), (w2 V 8), (w2 V 1), (w2 V 9), (w2 V 2), (w2 V 10), (w2 V 3), (w2 V 11), (w2 V 4), (w2 V 12), (broadcast S8x256 8#32)⟩ := rfl

theorem part6  (V : IVec S256x256 32) :
    k0_part6 (F := F) i arg2 harg2 arg3 harg3 arg4 harg4 arg5 harg5 arg6 harg6 arg7 harg7 (w1 V 16) (w1 V 17) (w1 V 5) (w1 V 6) (w1 V 7) (w1 V 24) (w1 V 25) (w1 V 13) (w1 V 14) (w1 V 15) (broadcast S8x256 8#32) =
      pure ⟨(w2 V 5), (w2 V 13), (w2 V 6), (w2 V 14), (w2 V 7), (w2 V 15), (w2 V 16), (w2 V 24), (w2 V 17), (w2 V 25), (broadcast S8x256 8#32)⟩ := rfl

theorem part7  (V : IVec S256x256 32) :
    k0_part7 (F := F) i arg2 harg2 arg3 harg3 arg4 harg4 arg5 harg5 arg6 harg6 arg7 harg7 (w1 V 18) (w1 V 19) (w1 V 20) (w1 V 21) (w1 V 22) (w1 V 26) (w1 V 27) (w1 V 28) (w1 V 29) (w1 V 30) (broadcast S8x256 8#32) =
      pure ⟨(w2 V 18), (w2 V 26), (w2 V 19), (w2 V 27), (w2 V 20), (w2 V 28), (w2 V 21), (w2 V 29), (w2 V 22), (w2 V 30), (broadcast S8x256 8#32)⟩ := rfl

theorem part8  (V : IVec S256x256 32) :
    k0_part8 (F := F) i arg2 harg2 arg3 harg3 arg4 harg4 arg5 harg5 arg6 harg6 arg7 harg7 (w1 V 23) (w1 V 31) (w2 V 0) (w2 V 1) (w2 V 2) (w2 V 3) (w2 V 4) (w2 V 5) (w2 V 6) (w2 V 7) (broadcast S8x256 8#32) =
      pure ⟨(w2 V 23), (w2 V 31), (w3 V 0), (w3 V 4), (w3 V 1), (w3 V 5), (w3 V 2), (w3 V 6), (w3 V 3), (w3 V 7), (broadcast S8x256 4#32)⟩ := rfl

theorem part9  (V : IVec S256x256 32) :
    k0_part9 (F := F) i arg2 harg2 arg3 harg3 arg4 harg4 arg5 harg5 arg6 harg6 arg7 harg7 (w2 V 8) (w2 V 9) (w2 V 10) (w2 V 11) (w2 V 12) (w2 V 13) (w2 V 14) (w2 V 15) (w2 V 16) (w2 V 20) (broadcast S8x256 4#32) =
      pure ⟨(w3 V 8), (w3 V 12), (w3 V 9), (w3 V 13), (w3 V 10), (w3 V 14), (w3 V 11), (w3 V 15), (w3 V 16), (w3 V 20), (broadcast S8x256 4#32)⟩ := rfl

theorem part10  (V : IVec S256x256 32) :
    k0_part10 (F := F) i arg2 harg2 arg3 harg3 arg4 harg4 arg5 harg5 arg6 harg6 arg7 harg7 (w2 V 24) (w2 V 17) (w2 V 25) (w2 V 18) (w2 V 19) (w2 V 28) (w2 V 21) (w2 V 29) (w2 V 22) (w2 V 23) (broadcast S8x256 4#32) =
      pure ⟨(w3 V 17), (w3 V 21), (w3 V 18), (w3 V 22), (w3 V 19), (w3 V 23), (w3 V 24), (w3 V 28), (w3 V 25), (w3 V 29), (broadcast S8x256 4#32)⟩ := rfl

theorem part11  (V : IVec S256x256 32) :
    k0_part11 (F := F) i arg2 harg2 arg3 harg3 arg4 harg4 arg5 harg5 arg6 harg6 arg7 harg7 (w2 V 26) (w2 V 27) (w2 V 30) (w2 V 31) (w3 V 0) (w3 V 4) (w3 V 1) (w3 V 2) (w3 V 6) (w3 V 3) (broadcast S8x256 4#32) =
      pure ⟨(w3 V 26), (w3 V 30), (w3 V 27), (w3 V 31), (w4 V 0), (w4 V 2), (w4 V 1), (w4 V 3), (w4 V 4), (w4 V 6), (broadcast S8x256 2#32)⟩ := rfl

theorem part12  (V : IVec S256x256 32) :
    k0_part12 (F := F) i arg2 harg2 arg3 harg3 arg4 harg4 arg5 harg5 arg6 harg6 arg7 harg7 (w3 V 5) (w3 V 7) (w3 V 8) (w3 V 12) (w3 V 9) (w3 V 13) (w3 V 10) (w3 V 14) (w3 V 11) (w3 V 15) (broadcast S8x256 2#32) =
      pure ⟨(w4 V 5), (w4 V 7), (w4 V 8), (w4 V 10), (w4 V 9), (w4 V 11), (w4 V 12), (w4 V 14), (w4 V 13), (w4 V 15), (broadcast S8x256 2#32)⟩ := rfl

theorem part13  (V : IVec S256x256 32) :
    k0_part13 (F := F) i arg2 harg2 arg3 harg3 arg4 harg4 arg5 harg5 arg6 harg6 arg7 harg7 (w3 V 16) (w3 V 20) (w3 V 17) (w3 V 21) (w3 V 18) (w3 V 22) (w3 V 19) (w3 V 23) (w3 V 24) (w3 V 26) (broadcast S8x256 2#32) =
      pure ⟨(w4 V 16), (w4 V 18), (w4 V 17), (w4 V 19), (w4 V 20), (w4 V 22), (w4 V 21), (w4 V 23), (w4 V 24), (w4 V 26), (broadcast S8x256 2#32)⟩ := rfl

theorem part14  (V : IVec S256x256 32) :
    k0_part14 (F := F) i arg2 harg2 arg3 harg3 arg4 harg4 arg5 harg5 arg6 harg6 arg7 harg7 (w3 V 28) (w3 V 25) (w3 V 29) (w3 V 30) (w3 V 27) (w3 V 31) (w4 V 0) (w4 V 2) (w4 V 1) (w4 V 3) (broadcast S8x256 2#32) =
      pure ⟨(w4 V 25), (w4 V 27), (w4 V 28), (w4 V 30), (w4 V 29), (w4 V 31), (w5 V 0), (w5 V 1), (w5 V 2), (w5 V 3), (broadcast S8x256 1#32)⟩ := rfl

theorem part15  (V : IVec S256x256 32) :
    k0_part15 (F := F) i arg2 harg2 arg3 harg3 arg4 harg4 arg5 harg5 arg6 harg6 arg7 harg7 (w4 V 4) (w4 V 6) (w4 V 5) (w4 V 7) (w4 V 8) (w4 V 10) (w4 V 9) (w4 V 11) (w4 V 12) (w4 V 13) (broadcast S8x256 1#32) =
      pure ⟨(w5 V 4), (w5 V 5), (w5 V 6), (w5 V 7), (w5 V 8), (w5 V 9), (w5 V 10), (w5 V 11), (w5 V 12), (w5 V 13), (broadcast S8x256 1#32)⟩ := rfl

theorem part16  (V : IVec S256x256 32) :
    k0_part16 (F := F) i arg2 harg2 arg3 harg3 arg4 harg4 arg5 harg5 arg6 harg6 arg7 harg7 (w4 V 14) (w4 V 15) (w4 V 16) (w4 V 18) (w4 V 17) (w4 V 19) (w4 V 20) (w4 V 22) (w4 V 21) (w4 V 23) (broadcast S8x256 1#32) =
      pure ⟨(w5 V 14), (w5 V 15), (w5 V 16), (w5 V 17), (w5 V 18), (w5 V 19), (w5 V 20), (w5 V 21), (w5 V 22), (w5 V 23), (broadcast S8x256 1#32)⟩ := rfl

theorem part17 (hH : Held (F := F) c H K arg2 arg3 arg4 arg5 arg6 arg7) (k0_t1 : Fin (k0_t1_loop i).trips) (v984 : BitVec 32) (σ : St) (b : ℕ) (hb : k0_off35 i k0_t1 1 = 8 * b) (V : IVec S256x256 32) :
    At defs c H { σ with P := up 0 b (planesOf V) σ.P } (k0_part17 (F := F) i arg2 harg2 arg3 harg3 arg4 harg4 arg5 harg5 arg6 harg6 arg7 harg7 k0_t1 v984 (w4 V 24) (w4 V 26) (w4 V 25) (w4 V 27) (w4 V 28) (w4 V 30) (w4 V 29) (w4 V 31) (broadcast S8x256 1#32))
      (fun r σ' => ∃ v1745 : BitVec 32, ∃ v1751 : Vec F S1x8x256 .i32, r = ⟨(w5 V 24), (w5 V 25), (w5 V 26), (w5 V 27), (w5 V 28), (w5 V 29), (w5 V 30), v1745, v1751⟩ ∧ σ' = { σ with P := up 1 b (planesOf V) σ.P }) := by
  refine at_load hH.r6 ?_
  refine at_put hH 0 b (row hb 0 rfl) rfl ?_
  refine at_load hH.r6 ?_
  exact at_pure ⟨_, _, rfl, rfl⟩

theorem part18 (hH : Held (F := F) c H K arg2 arg3 arg4 arg5 arg6 arg7) (k0_t1 : Fin (k0_t1_loop i).trips) (v1745 : BitVec 32) (v1751 : Vec F S1x8x256 .i32) (σ : St) (b : ℕ) (hb : k0_off35 i k0_t1 1 = 8 * b) (V : IVec S256x256 32) :
    At defs c H { σ with P := up 1 b (planesOf V) σ.P } (k0_part18 (F := F) i arg2 harg2 arg3 harg3 arg4 harg4 arg5 harg5 arg6 harg6 arg7 harg7 k0_t1 (w5 V 22) (w5 V 23) (w5 V 24) (w5 V 25) (w5 V 26) (w5 V 27) (w5 V 28) (w5 V 29) (w5 V 30) v1745 v1751)
      (fun r σ' => r = ⟨⟩ ∧ σ' = { σ with P := up 10 b (planesOf V) σ.P }) := by
  refine at_put hH 1 b (row hb 1 rfl) rfl ?_
  refine at_load hH.r6 ?_
  refine at_put hH 2 b (row hb 2 rfl) rfl ?_
  refine at_load hH.r6 ?_
  refine at_put hH 3 b (row hb 3 rfl) rfl ?_
  refine at_load hH.r6 ?_
  refine at_put hH 4 b (row hb 4 rfl) rfl ?_
  refine at_load hH.r6 ?_
  refine at_put hH 5 b (row hb 5 rfl) rfl ?_
  refine at_load hH.r6 ?_
  refine at_put hH 6 b (row hb 6 rfl) rfl ?_
  refine at_load hH.r6 ?_
  refine at_put hH 7 b (row hb 7 rfl) rfl ?_
  refine at_load hH.r6 ?_
  refine at_put hH 8 b (row hb 8 rfl) rfl ?_
  refine at_load hH.r6 ?_
  refine at_put hH 9 b (row hb 9 rfl) rfl ?_
  exact at_pure ⟨rfl, rfl⟩

theorem part19 (hH : Held (F := F) c H K arg2 arg3 arg4 arg5 arg6 arg7) (k0_t1 : Fin (k0_t1_loop i).trips) (v1745 : BitVec 32) (σ : St) (b : ℕ) (hb : k0_off35 i k0_t1 1 = 8 * b) (V : IVec S256x256 32) :
    At defs c H { σ with P := up 10 b (planesOf V) σ.P } (k0_part19 (F := F) i arg2 harg2 arg3 harg3 arg4 harg4 arg5 harg5 arg6 harg6 arg7 harg7 k0_t1 (w5 V 14) (w5 V 15) (w5 V 16) (w5 V 17) (w5 V 18) (w5 V 19) (w5 V 20) (w5 V 21) v1745)
      (fun r σ' => r = ⟨⟩ ∧ σ' = { σ with P := up 18 b (planesOf V) σ.P }) := by
  refine at_load hH.r6 ?_
  refine at_put hH 10 b (row hb 10 rfl) rfl ?_
  refine at_load hH.r6 ?_
  refine at_put hH 11 b (row hb 11 rfl) rfl ?_
  refine at_load hH.r6 ?_
  refine at_put hH 12 b (row hb 12 rfl) rfl ?_
  refine at_load hH.r6 ?_
  refine at_put hH 13 b (row hb 13 rfl) rfl ?_
  refine at_load hH.r6 ?_
  refine at_put hH 14 b (row hb 14 rfl) rfl ?_
  refine at_load hH.r6 ?_
  refine at_put hH 15 b (row hb 15 rfl) rfl ?_
  refine at_load hH.r6 ?_
  refine at_put hH 16 b (row hb 16 rfl) rfl ?_
  refine at_load hH.r6 ?_
  refine at_put hH 17 b (row hb 17 rfl) rfl ?_
  refine at_load hH.r6 ?_
  exact at_pure ⟨rfl, rfl⟩

theorem part20 (hH : Held (F := F) c H K arg2 arg3 arg4 arg5 arg6 arg7) (k0_t1 : Fin (k0_t1_loop i).trips) (v1745 : BitVec 32) (σ : St) (b : ℕ) (hb : k0_off35 i k0_t1 1 = 8 * b) (V : IVec S256x256 32) :
    At defs c H { σ with P := up 18 b (planesOf V) σ.P } (k0_part20 (F := F) i arg2 harg2 arg3 harg3 arg4 harg4 arg5 harg5 arg6 harg6 arg7 harg7 k0_t1 (w5 V 5) (w5 V 6) (w5 V 7) (w5 V 8) (w5 V 9) (w5 V 10) (w5 V 11) (w5 V 12) (w5 V 13) v1745)
      (fun r σ' => r = ⟨⟩ ∧ σ' = { σ with P := up 27 b (planesOf V) σ.P }) := by
  refine at_put hH 18 b (row hb 18 rfl) rfl ?_
  refine at_load hH.r6 ?_
  refine at_put hH 19 b (row hb 19 rfl) rfl ?_
  refine at_load hH.r6 ?_
  refine at_put hH 20 b (row hb 20 rfl) rfl ?_
  refine at_load hH.r6 ?_
  refine at_put hH 21 b (row hb 21 rfl) rfl ?_
  refine at_load hH.r6 ?_
  refine at_put hH 22 b (row hb 22 rfl) rfl ?_
  refine at_load hH.r6 ?_
  refine at_put hH 23 b (row hb 23 rfl) rfl ?_
  refine at_load hH.r6 ?_
  refine at_put hH 24 b (row hb 24 rfl) rfl ?_
  refine at_load hH.r6 ?_
  refine at_put hH 25 b (row hb 25 rfl) rfl ?_
  refine at_load hH.r6 ?_
  refine at_put hH 26 b (row hb 26 rfl) rfl ?_
  exact at_pure ⟨rfl, rfl⟩

theorem part21 (hH : Held (F := F) c H K arg2 arg3 arg4 arg5 arg6 arg7) (k0_t1 : Fin (k0_t1_loop i).trips) (arg1 : BitVec 32) (arg8 : BitVec 32) (v1745 : BitVec 32) (σ : St) (b : ℕ) (hb : k0_off35 i k0_t1 1 = 8 * b) (V : IVec S256x256 32) :
    At defs c H { σ with P := up 27 b (planesOf V) σ.P } (k0_part21 (F := F) i arg2 harg2 arg3 harg3 arg4 harg4 arg5 harg5 arg6 harg6 arg7 harg7 arg1 k0_t1 arg8 (w5 V 0) (w5 V 1) (w5 V 2) (w5 V 3) (w5 V 4) v1745)
      (fun r σ' => ∃ V₁ : IVec S256x256 32, V₁ = keysOf K (k0_off67 i k0_t1) (k0_off67_inb i k0_t1) ∧ ∃ v1877 : BitVec 32, r = ⟨v1877, V₁, (w0 V₁ 0), (w0 V₁ 1), (w0 V₁ 2), (w0 V₁ 3), (w0 V₁ 4), (w0 V₁ 5), (w0 V₁ 6), (w0 V₁ 7), (w0 V₁ 8)⟩ ∧ σ' = { σ with P := up 32 b (planesOf V) σ.P }) := by
  refine at_load hH.r6 ?_
  refine at_put hH 27 b (row hb 27 rfl) rfl ?_
  refine at_load hH.r6 ?_
  refine at_put hH 28 b (row hb 28 rfl) rfl ?_
  refine at_load hH.r6 ?_
  refine at_put hH 29 b (row hb 29 rfl) rfl ?_
  refine at_load hH.r6 ?_
  refine at_put hH 30 b (row hb 30 rfl) rfl ?_
  refine at_load hH.r6 ?_
  refine at_put hH 31 b (row hb 31 rfl) rfl ?_
  refine at_load hH.r2 ?_
  exact at_pure ⟨_, rfl, _, rfl, rfl⟩

theorem part22  (V : IVec S256x256 32) :
    k0_part22 (F := F) i arg2 harg2 arg3 harg3 arg4 harg4 arg5 harg5 arg6 harg6 arg7 harg7 V (w0 V 0) (w0 V 1) (w0 V 2) =
      pure ⟨(w0 V 9), (w0 V 10), (w0 V 11), (w0 V 12), (w0 V 13), (w0 V 14), (w0 V 15), (w0 V 19), (w0 V 20), (w0 V 21), (w0 V 22), (w0 V 23), (w0 V 24), (w0 V 25), (w0 V 26), (w0 V 27), (w0 V 28), (w0 V 29), (w0 V 30), (w0 V 31), (w1 V 0), (w1 V 16), (w1 V 1), (w1 V 17), (w1 V 2), (w1 V 18), 16#32⟩ := rfl

theorem part23  (V : IVec S256x256 32) :
    k0_part23 (F := F) i arg2 harg2 arg3 harg3 arg4 harg4 arg5 harg5 arg6 harg6 arg7 harg7 (w0 V 3) (w0 V 4) (w0 V 5) (w0 V 6) (w0 V 7) (w0 V 19) (w0 V 20) (w0 V 21) (w0 V 22) (w0 V 23) 16#32 =
      pure ⟨(w1 V 3), (w1 V 19), (w1 V 4), (w1 V 20), (w1 V 5), (w1 V 21), (w1 V 6), (w1 V 22), (w1 V 7), (w1 V 23), 16#32⟩ := rfl

theorem part24  (V : IVec S256x256 32) :
    k0_part24 (F := F) i arg2 harg2 arg3 harg3 arg4 harg4 arg5 harg5 arg6 harg6 arg7 harg7 (w0 V 8) (w0 V 9) (w0 V 10) (w0 V 11) (w0 V 12) (w0 V 24) (w0 V 25) (w0 V 26) (w0 V 27) (w0 V 28) 16#32 =
      pure ⟨(w1 V 8), (w1 V 24), (w1 V 9), (w1 V 25), (w1 V 10), (w1 V 26), (w1 V 11), (w1 V 27), (w1 V 12), (w1 V 28), 16#32⟩ := rfl

theorem part25  (V : IVec S256x256 32) :
    k0_part25 (F := F) i arg2 harg2 arg3 harg3 arg4 harg4 arg5 harg5 arg6 harg6 arg7 harg7 (w0 V 13) (w0 V 14) (w0 V 15) (w0 V 29) (w0 V 30) (w0 V 31) (w1 V 0) (w1 V 1) (w1 V 8) (w1 V 9) 16#32 =
      pure ⟨(w1 V 13), (w1 V 29), (w1 V 14), (w1 V 30), (w1 V 15), (w1 V 31), (w2 V 0), (w2 V 8), (w2 V 1), (w2 V 9), 8#32⟩ := rfl

theorem part26  (V : IVec S256x256 32) :
    k0_part26 (F := F) i arg2 harg2 arg3 harg3 arg4 harg4 arg5 harg5 arg6 harg6 arg7 harg7 (w1 V 2) (w1 V 3) (w1 V 4) (w1 V 5) (w1 V 6) (w1 V 10) (w1 V 11) (w1 V 12) (w1 V 13) (w1 V 14) 8#32 =
      pure ⟨(w2 V 2), (w2 V 10), (w2 V 3), (w2 V 11), (w2 V 4), (w2 V 12), (w2 V 5), (w2 V 13), (w2 V 6), (w2 V 14), 8#32⟩ := rfl

theorem part27  (V : IVec S256x256 32) :
    k0_part27 (F := F) i arg2 harg2 arg3 harg3 arg4 harg4 arg5 harg5 arg6 harg6 arg7 harg7 (w1 V 16) (w1 V 17) (w1 V 18) (w1 V 19) (w1 V 7) (w1 V 24) (w1 V 25) (w1 V 26) (w1 V 27) (w1 V 15) 8#32 =
      pure ⟨(w2 V 7), (w2 V 15), (w2 V 16), (w2 V 24), (w2 V 17), (w2 V 25), (w2 V 18), (w2 V 26), (w2 V 19), (w2 V 27), 8#32⟩ := rfl

theorem part28  (V : IVec S256x256 32) :
    k0_part28 (F := F) i arg2 harg2 arg3 harg3 arg4 harg4 arg5 harg5 arg6 harg6 arg7 harg7 (w1 V 20) (w1 V 21) (w1 V 22) (w1 V 23) (w1 V 28) (w1 V 29) (w1 V 30) (w1 V 31) (w2 V 0) (w2 V 4) 8#32 =
      pure ⟨(w2 V 20), (w2 V 28), (w2 V 21), (w2 V 29), (w2 V 22), (w2 V 30), (w2 V 23), (w2 V 31), (w3 V 0), (w3 V 4), 4#32⟩ := rfl

theorem part29  (V : IVec S256x256 32) :
    k0_part29 (F := F) i arg2 harg2 arg3 harg3 arg4 harg4 arg5 harg5 arg6 harg6 arg7 harg7 (w2 V 8) (w2 V 1) (w2 V 9) (w2 V 2) (w2 V 3) (w2 V 12) (w2 V 5) (w2 V 13) (w2 V 6) (w2 V 7) 4#32 =
      pure ⟨(w3 V 1), (w3 V 5), (w3 V 2), (w3 V 6), (w3 V 3), (w3 V 7), (w3 V 8), (w3 V 12), (w3 V 9), (w3 V 13), 4#32⟩ := rfl

theorem part30  (V : IVec S256x256 32) :
    k0_part30 (F := F) i arg2 harg2 arg3 harg3 arg4 harg4 arg5 harg5 arg6 harg6 arg7 harg7 (w2 V 10) (w2 V 11) (w2 V 14) (w2 V 15) (w2 V 16) (w2 V 17) (w2 V 18) (w2 V 20) (w2 V 21) (w2 V 22) 4#32 =
      pure ⟨(w3 V 10), (w3 V 14), (w3 V 11), (w3 V 15), (w3 V 16), (w3 V 20), (w3 V 17), (w3 V 21), (w3 V 18), (w3 V 22), 4#32⟩ := rfl

theorem part31  (V : IVec S256x256 32) :
    k0_part31 (F := F) i arg2 harg2 arg3 harg3 arg4 harg4 arg5 harg5 arg6 harg6 arg7 harg7 (w2 V 24) (w2 V 25) (w2 V 26) (w2 V 19) (w2 V 27) (w2 V 28) (w2 V 29) (w2 V 30) (w2 V 23) (w2 V 31) 4#32 =
      pure ⟨(w3 V 19), (w3 V 23), (w3 V 24), (w3 V 28), (w3 V 25), (w3 V 29), (w3 V 26), (w3 V 30), (w3 V 27), (w3 V 31), 2#32⟩ := rfl

theorem part32  (V : IVec S256x256 32) :
    k0_part32 (F := F) i arg2 harg2 arg3 harg3 arg4 harg4 arg5 harg5 arg6 harg6 arg7 harg7 (w3 V 0) (w3 V 4) (w3 V 1) (w3 V 5) (w3 V 2) (w3 V 6) (w3 V 3) (w3 V 7) (w3 V 8) (w3 V 10) 2#32 =
      pure ⟨(w4 V 0), (w4 V 2), (w4 V 1), (w4 V 3), (w4 V 4), (w4 V 6), (w4 V 5), (w4 V 7), (w4 V 8), (w4 V 10), 2#32⟩ := rfl

theorem part33  (V : IVec S256x256 32) :
    k0_part33 (F := F) i arg2 harg2 arg3 harg3 arg4 harg4 arg5 harg5 arg6 harg6 arg7 harg7 (w3 V 12) (w3 V 9) (w3 V 13) (w3 V 14) (w3 V 11) (w3 V 15) (w3 V 16) (w3 V 17) (w3 V 18) (w3 V 19) 2#32 =
      pure ⟨(w4 V 9), (w4 V 11), (w4 V 12), (w4 V 14), (w4 V 13), (w4 V 15), (w4 V 16), (w4 V 18), (w4 V 17), (w4 V 19), 2#32⟩ := rfl

theorem part34  (V : IVec S256x256 32) :
    k0_part34 (F := F) i arg2 harg2 arg3 harg3 arg4 harg4 arg5 harg5 arg6 harg6 arg7 harg7 (w3 V 20) (w3 V 21) (w3 V 22) (w3 V 23) (w3 V 24) (w3 V 28) (w3 V 25) (w3 V 26) (w3 V 30) (w3 V 27) 2#32 =
      pure ⟨(w4 V 20), (w4 V 22), (w4 V 21), (w4 V 23), (w4 V 24), (w4 V 26), (w4 V 25), (w4 V 27), (w4 V 28), (w4 V 30), 2#32⟩ := rfl

theorem part35  (V : IVec S256x256 32) :
    k0_part35 (F := F) i arg2 harg2 arg3 harg3 arg4 harg4 arg5 harg5 arg6 harg6 arg7 harg7 (w3 V 29) (w3 V 31) (w4 V 0) (w4 V 2) (w4 V 1) (w4 V 3) (w4 V 4) (w4 V 6) (w4 V 5) (w4 V 7) 2#32 =
      pure ⟨(w4 V 29), (w4 V 31), (w5 V 0), (w5 V 1), (w5 V 2), (w5 V 3), (w5 V 4), (w5 V 5), (w5 V 6), (w5 V 7), 1#32⟩ := rfl

theorem part36  (V : IVec S256x256 32) :
    k0_part36 (F := F) i arg2 harg2 arg3 harg3 arg4 harg4 arg5 harg5 arg6 harg6 arg7 harg7 (w4 V 8) (w4 V 10) (w4 V 9) (w4 V 11) (w4 V 12) (w4 V 14) (w4 V 13) (w4 V 15) (w4 V 16) (w4 V 17) 1#32 =
      pure ⟨(w5 V 8), (w5 V 9), (w5 V 10), (w5 V 11), (w5 V 12), (w5 V 13), (w5 V 14), (w5 V 15), (w5 V 16), (w5 V 17), 1#32⟩ := rfl

theorem part37  (V : IVec S256x256 32) :
    k0_part37 (F := F) i arg2 harg2 arg3 harg3 arg4 harg4 arg5 harg5 arg6 harg6 arg7 harg7 (w4 V 18) (w4 V 19) (w4 V 20) (w4 V 22) (w4 V 21) (w4 V 23) (w4 V 24) (w4 V 26) (w4 V 25) (w4 V 27) 1#32 =
      pure ⟨(w5 V 18), (w5 V 19), (w5 V 20), (w5 V 21), (w5 V 22), (w5 V 23), (w5 V 24), (w5 V 25), (w5 V 26), (w5 V 27), 1#32⟩ := rfl

theorem part38 (hH : Held (F := F) c H K arg2 arg3 arg4 arg5 arg6 arg7) (k0_t1 : Fin (k0_t1_loop i).trips) (v1877 : BitVec 32) (σ : St) (b : ℕ) (hb : k0_off68 i k0_t1 1 = 8 * b) (V : IVec S256x256 32) :
    At defs c H { σ with P := up 0 b (planesOf V) σ.P } (k0_part38 (F := F) i arg2 harg2 arg3 harg3 arg4 harg4 arg5 harg5 arg6 harg6 arg7 harg7 k0_t1 v1877 (w4 V 28) (w4 V 30) (w4 V 29) (w4 V 31) (w5 V 27) 1#32)
      (fun r σ' => ∃ v2638 : BitVec 32, r = ⟨v2638, (shapeCast S1x8x256 (w5 V 27) shapeCasts_S8x256_S1x8x256)⟩ ∧ σ' = { σ with P := up 4 b (planesOf V) σ.P }) := by
  refine at_load hH.r6 ?_
  refine at_put hH 0 b (row hb 0 rfl) rfl ?_
  refine at_load hH.r6 ?_
  refine at_put hH 1 b (row hb 1 rfl) rfl ?_
  refine at_load hH.r6 ?_
  refine at_put hH 2 b (row hb 2 rfl) rfl ?_
  refine at_load hH.r6 ?_
  refine at_put hH 3 b (row hb 3 rfl) rfl ?_
  refine at_load hH.r6 ?_
  exact at_pure ⟨_, rfl, rfl⟩

theorem part39 (hH : Held (F := F) c H K arg2 arg3 arg4 arg5 arg6 arg7) (k0_t1 : Fin (k0_t1_loop i).trips) (v2638 : BitVec 32) (σ : St) (b : ℕ) (hb : k0_off68 i k0_t1 1 = 8 * b) (V : IVec S256x256 32) :
    At defs c H { σ with P := up 4 b (planesOf V) σ.P } (k0_part39 (F := F) i arg2 harg2 arg3 harg3 arg4 harg4 arg5 harg5 arg6 harg6 arg7 harg7 k0_t1 (w5 V 19) (w5 V 20) (w5 V 21) (w5 V 22) (w5 V 23) (w5 V 24) (w5 V 25) (w5 V 26) v2638 (shapeCast S1x8x256 (w5 V 27) shapeCasts_S8x256_S1x8x256))
      (fun r σ' => r = ⟨⟩ ∧ σ' = { σ with P := up 13 b (planesOf V) σ.P }) := by
  refine at_put hH 4 b (row hb 4 rfl) rfl ?_
  refine at_load hH.r6 ?_
  refine at_put hH 5 b (row hb 5 rfl) rfl ?_
  refine at_load hH.r6 ?_
  refine at_put hH 6 b (row hb 6 rfl) rfl ?_
  refine at_load hH.r6 ?_
  refine at_put hH 7 b (row hb 7 rfl) rfl ?_
  refine at_load hH.r6 ?_
  refine at_put hH 8 b (row hb 8 rfl) rfl ?_
  refine at_load hH.r6 ?_
  refine at_put hH 9 b (row hb 9 rfl) rfl ?_
  refine at_load hH.r6 ?_
  refine at_put hH 10 b (row hb 10 rfl) rfl ?_
  refine at_load hH.r6 ?_
  refine at_put hH 11 b (row hb 11 rfl) rfl ?_
  refine at_load hH.r6 ?_
  refine at_put hH 12 b (row hb 12 rfl) rfl ?_
  exact at_pure ⟨rfl, rfl⟩

theorem part40 (hH : Held (F := F) c H K arg2 arg3 arg4 arg5 arg6 arg7) (k0_t1 : Fin (k0_t1_loop i).trips) (v2638 : BitVec 32) (σ : St) (b : ℕ) (hb : k0_off68 i k0_t1 1 = 8 * b) (V : IVec S256x256 32) :
    At defs c H { σ with P := up 13 b (planesOf V) σ.P } (k0_part40 (F := F) i arg2 harg2 arg3 harg3 arg4 harg4 arg5 harg5 arg6 harg6 arg7 harg7 k0_t1 (w5 V 10) (w5 V 11) (w5 V 12) (w5 V 13) (w5 V 14) (w5 V 15) (w5 V 16) (w5 V 17) (w5 V 18) v2638)
      (fun r σ' => r = ⟨⟩ ∧ σ' = { σ with P := up 22 b (planesOf V) σ.P }) := by
  refine at_load hH.r6 ?_
  refine at_put hH 13 b (row hb 13 rfl) rfl ?_
  refine at_load hH.r6 ?_
  refine at_put hH 14 b (row hb 14 rfl) rfl ?_
  refine at_load hH.r6 ?_
  refine at_put hH 15 b (row hb 15 rfl) rfl ?_
  refine at_load hH.r6 ?_
  refine at_put hH 16 b (row hb 16 rfl) rfl ?_
  refine at_load hH.r6 ?_
  refine at_put hH 17 b (row hb 17 rfl) rfl ?_
  refine at_load hH.r6 ?_
  refine at_put hH 18 b (row hb 18 rfl) rfl ?_
  refine at_load hH.r6 ?_
  refine at_put hH 19 b (row hb 19 rfl) rfl ?_
  refine at_load hH.r6 ?_
  refine at_put hH 20 b (row hb 20 rfl) rfl ?_
  refine at_load hH.r6 ?_
  refine at_put hH 21 b (row hb 21 rfl) rfl ?_
  exact at_pure ⟨rfl, rfl⟩

theorem part41 (hH : Held (F := F) c H K arg2 arg3 arg4 arg5 arg6 arg7) (k0_t1 : Fin (k0_t1_loop i).trips) (v2638 : BitVec 32) (σ : St) (b : ℕ) (hb : k0_off68 i k0_t1 1 = 8 * b) (V : IVec S256x256 32) :
    At defs c H { σ with P := up 22 b (planesOf V) σ.P } (k0_part41 (F := F) i arg2 harg2 arg3 harg3 arg4 harg4 arg5 harg5 arg6 harg6 arg7 harg7 k0_t1 (w5 V 2) (w5 V 3) (w5 V 4) (w5 V 5) (w5 V 6) (w5 V 7) (w5 V 8) (w5 V 9) v2638)
      (fun r σ' => ∃ v2760 : Vec F S1x8x256 .i32, r = v2760 ∧ σ' = { σ with P := up 30 b (planesOf V) σ.P }) := by
  refine at_load hH.r6 ?_
  refine at_put hH 22 b (row hb 22 rfl) rfl ?_
  refine at_load hH.r6 ?_
  refine at_put hH 23 b (row hb 23 rfl) rfl ?_
  refine at_load hH.r6 ?_
  refine at_put hH 24 b (row hb 24 rfl) rfl ?_
  refine at_load hH.r6 ?_
  refine at_put hH 25 b (row hb 25 rfl) rfl ?_
  refine at_load hH.r6 ?_
  refine at_put hH 26 b (row hb 26 rfl) rfl ?_
  refine at_load hH.r6 ?_
  refine at_put hH 27 b (row hb 27 rfl) rfl ?_
  refine at_load hH.r6 ?_
  refine at_put hH 28 b (row hb 28 rfl) rfl ?_
  refine at_load hH.r6 ?_
  refine at_put hH 29 b (row hb 29 rfl) rfl ?_
  refine at_load hH.r6 ?_
  exact at_pure ⟨_, rfl, rfl⟩

end Cert.Proof.Select

end
-- ==== Proof.SelLoad.lean ====
/-
  The windows in order: what the body leaves in the bit planes, the chunk on the diagonal first and the ones before it two to a
  trip of the loop.
-/
module

public import proofs.«01_k».proof.Proof.SelParts

@[expose] public section

noncomputable section

namespace Cert.Proof.Select

open Cert.Select Cert.Proof
open Cert.Select.Facts₀ Cert.Select.Facts
open Idealize.ShloMosaic Idealize.ShloMosaic.TcCoe Idealize.ShloMosaic.ValueIdx
open Idealize.SL Idealize.SL.RA Idealize.SL.BI
open Idealize.SL.Sem

variable {F : FTy → Type} [BitOps F]
variable {U : Type} [URA U]
variable [Cert.Select.Facts]
variable {c : Dev nD} {H : St → sProp (MT nD τ sig Unit (Elt F) ℕ U ℕ)} {defs : Defs nD τ sig (Elt F) Λ₀}
variable {K : S1x8192x256.Idx → BitVec 32} {i : grid0.Coords}
variable {arg2 : Memref sig .tc .vmem S1x8192x256 .i32} {harg2 : arg2.IsWhole}
  {arg3 : Memref sig .tc .vmem S1x1x256 .i32} {harg3 : arg3.IsWhole}
  {arg4 : Memref sig .tc .vmem S1x1x256 .i32} {harg4 : arg4.IsWhole}
  {arg5 : Memref sig .tc .vmem S1x1x256 .i32} {harg5 : arg5.IsWhole}
  {arg6 : Memref sig .tc .vmem S33x256x256 .i32} {harg6 : arg6.IsWhole}
  {arg7 : Memref sig .tc .vmem S256x256 .i32} {harg7 : arg7.IsWhole}

/-- No plane stored yet. -/
theorem at_up_zero {α : Type} (b : ℕ) (W : ℕ → IVec S8x256 32) {σ : St} {p : Prog (TpuEff nD τ sig (Elt F) Λ₀ .tc) α} {Post : α → St → Prop}
    (h : At defs c H { σ with P := up 0 b W σ.P } p Post) : At defs c H σ p Post := by
  rw [up_zero] at h
  exact h

/-- The chunks before the diagonal: `J` is kept from trip to trip. -/
theorem part104 (hH : Held (F := F) c H K arg2 arg3 arg4 arg5 arg6 arg7) (arg1 v899 c2_i32_269 v900 v905 : BitVec 32) (v906 : BitVec 1)
    (σ : St) (b₁ b₂ : ℕ → ℕ) (hb₁ : ∀ t : Fin (k0_t1_loop i).trips, k0_off35 i t 1 = 8 * b₁ t.val)
    (hb₂ : ∀ t : Fin (k0_t1_loop i).trips, k0_off68 i t 1 = 8 * b₂ t.val) (ht2 : (k0_t2_loop i).trips = 0)
    (J : ℕ → (S33x256x256.Idx → BitVec 32) → Prop) (h0 : J 0 σ.P)
    (hJ : ∀ (t : Fin (k0_t1_loop i).trips) P, J t.val P → J (t.val + 1)
      (up 32 (b₂ t.val) (planesOf (keysOf K (k0_off67 i t) (k0_off67_inb i t)))
        (up 32 (b₁ t.val) (planesOf (keysOf K (k0_off34 i t) (k0_off34_inb i t))) P))) :
    At defs c H σ (k0_part104 (F := F) i arg2 harg2 arg3 harg3 arg4 harg4 arg5 harg5 arg6 harg6 arg7 harg7 arg1 v899 c2_i32_269 v900 v905 v906)
      (fun r σ' => ∃ v939 : BitVec 32, r = ⟨v939, cmpi .slt (iota .tc S256x256 32 [0] iota_S256x256_d0_w32)
          (broadcast S256x256 (Scalar.muli (Scalar.addi arg1 1#32) 8#32)), 4294967295#32, 0#32⟩
        ∧ ∃ P, σ' = { σ with P := P } ∧ J (k0_t1_loop i).trips P) := by
  refine at_bind (Mid := fun _ σ' => ∃ P, σ' = { σ with P := P } ∧ J (k0_t1_loop i).trips P) ?_ ?_
  · refine at_for (fun k _ σ' => ∃ P, σ' = { σ with P := P } ∧ J k P) ⟨σ.P, rfl, h0⟩ ?_ fun _ _ h => h
    rintro t _ σ₀ ⟨P, hP, hJt⟩
    have hJ' := hJ t P hJt
    have hPost : ∀ σ' : St, σ' = { σ with P := up 32 (b₂ t.val) (planesOf (keysOf K (k0_off67 i t) (k0_off67_inb i t))) (up 32 (b₁ t.val) (planesOf (keysOf K (k0_off34 i t) (k0_off34_inb i t))) P) } →
        ∃ P, σ' = { σ with P := P } ∧ J (t.val + 1) P := fun σ' h => ⟨_, h, hJ'⟩
    clear hJ' hJt h0 hJ
    obtain ⟨σ₁, rfl⟩ : ∃ σ₁ : St, σ₁ = σ₀ := ⟨_, rfl⟩
    refine at_bind (part1 hH t _ _ σ₁) fun r σ' h => ?_
    obtain ⟨V₁, hV₁, _, _, rfl, e⟩ := h
    rw [e]
    clear e
    refine at_ret (part2 V₁) ?_
    refine at_ret (part3 V₁) ?_
    refine at_ret (part4 V₁) ?_
    refine at_ret (part5 V₁) ?_
    refine at_ret (part6 V₁) ?_
    refine at_ret (part7 V₁) ?_
    refine at_ret (part8 V₁) ?_
    refine at_ret (part9 V₁) ?_
    refine at_ret (part10 V₁) ?_
    refine at_ret (part11 V₁) ?_
    refine at_ret (part12 V₁) ?_
    refine at_ret (part13 V₁) ?_
    refine at_ret (part14 V₁) ?_
    refine at_ret (part15 V₁) ?_
    refine at_ret (part16 V₁) ?_
    refine at_up_zero (b₁ t.val) (planesOf V₁) ?_
    refine at_bind (part17 hH t _ σ₁ (b₁ t.val) (hb₁ t) V₁) fun r σ' h => ?_
    obtain ⟨_, _, rfl, rfl⟩ := h
    refine at_bind (part18 hH t _ _ σ₁ (b₁ t.val) (hb₁ t) V₁) fun r σ' h => ?_
    obtain ⟨rfl, rfl⟩ := h
    refine at_bind (part19 hH t _ σ₁ (b₁ t.val) (hb₁ t) V₁) fun r σ' h => ?_
    obtain ⟨rfl, rfl⟩ := h
    refine at_bind (part20 hH t _ σ₁ (b₁ t.val) (hb₁ t) V₁) fun r σ' h => ?_
    obtain ⟨rfl, rfl⟩ := h
    refine at_bind (part21 hH t _ _ _ σ₁ (b₁ t.val) (hb₁ t) V₁) fun r σ' h => ?_
    obtain ⟨V₂, hV₂, _, rfl, rfl⟩ := h
    refine at_ret (part22 V₂) ?_
    refine at_ret (part23 V₂) ?_
    refine at_ret (part24 V₂) ?_
    refine at_ret (part25 V₂) ?_
    refine at_ret (part26 V₂) ?_
    refine at_ret (part27 V₂) ?_
    refine at_ret (part28 V₂) ?_
    refine at_ret (part29 V₂) ?_
    refine at_ret (part30 V₂) ?_
    refine at_ret (part31 V₂) ?_
    refine at_ret (part32 V₂) ?_
    refine at_ret (part33 V₂) ?_
    refine at_ret (part34 V₂) ?_
    refine at_ret (part35 V₂) ?_
    refine at_ret (part36 V₂) ?_
    refine at_ret (part37 V₂) ?_
    refine at_up_zero (b₂ t.val) (planesOf V₂) ?_
    refine at_bind (part38 hH t _ { σ₁ with P := up 32 (b₁ t.val) (planesOf V₁) σ₁.P } (b₂ t.val) (hb₂ t) V₂) fun r σ' h => ?_
    obtain ⟨_, rfl, rfl⟩ := h
    refine at_bind (part39 hH t _ { σ₁ with P := up 32 (b₁ t.val) (planesOf V₁) σ₁.P } (b₂ t.val) (hb₂ t) V₂) fun r σ' h => ?_
    obtain ⟨rfl, rfl⟩ := h
    refine at_bind (part40 hH t _ { σ₁ with P := up 32 (b₁ t.val) (planesOf V₁) σ₁.P } (b₂ t.val) (hb₂ t) V₂) fun r σ' h => ?_
    obtain ⟨rfl, rfl⟩ := h
    refine at_bind (part41 hH t _ { σ₁ with P := up 32 (b₁ t.val) (planesOf V₁) σ₁.P } (b₂ t.val) (hb₂ t) V₂) fun r σ' h => ?_
    obtain ⟨_, rfl, rfl⟩ := h
    refine at_put hH 30 (b₂ t.val) (row (hb₂ t) 30 rfl) rfl ?_
    refine at_load hH.r6 ?_
    refine at_put hH 31 (b₂ t.val) (row (hb₂ t) 31 rfl) rfl ?_
    refine at_pure (hPost _ ?_)
    subst hV₁ hV₂ hP
    rfl
  · rintro _ σ₁ ⟨P, rfl, hJt⟩
    refine at_bind (Mid := fun _ σ' => σ' = { σ with P := P }) ?_ ?_
    · exact at_for (fun _ _ σ' => σ' = { σ with P := P }) rfl (fun t => absurd t.isLt (by omega)) fun _ _ h => h
    rintro _ σ₁ rfl
    exact at_pure ⟨_, rfl, P, rfl, hJt⟩

end Cert.Proof.Select

end
-- ==== Proof.SelMath.lean ====
/-
  The radix descent, as mathematics: among `M` unsigned keys, the 256th largest is found bit by bit from the top. After `t` bits the
  threshold `thr` holds the top `t` bits of it, and `need` is how many of the keys that agree with it so far are still wanted.
-/
module

public import proofs.«01_k».proof.Proof.Steps
public import Idealize.ShloMosaic.Lib.WordArith
public import Mathlib.Tactic.Ring
public import Mathlib.Tactic.Positivity
public import Mathlib.Tactic.NormNum

@[expose] public section

namespace Cert.Proof.Select

open Finset

/-- How many of the first `M` indices satisfy `p`. -/
def cnt (M : ℕ) (p : ℕ → Bool) : ℕ := ∑ s ∈ range M, (p s).toNat

theorem cnt_le (M : ℕ) (p : ℕ → Bool) : cnt M p ≤ M := by
  refine (Finset.sum_le_card_nsmul (range M) _ 1 fun s _ => Bool.toNat_le (p s)).trans ?_
  simp

/-- The top `t` bits of a word. -/
def top (t : ℕ) (x : BitVec 32) : ℕ := x.toNat / 2 ^ (32 - t)

theorem top_zero (x : BitVec 32) : top 0 x = 0 := Nat.div_eq_of_lt x.isLt

theorem top_full (x : BitVec 32) : top 32 x = x.toNat := by
  unfold top
  simp

theorem top_succ (t : ℕ) (ht : t < 32) (x : BitVec 32) : top (t + 1) x = 2 * top t x + (x.getLsbD (31 - t)).toNat := by
  unfold top
  rw [show 32 - t = (31 - t) + 1 by omega, show 32 - (t + 1) = 31 - t by omega, BitVec.getLsbD, Nat.testBit, pow_succ,
    ← Nat.div_div_eq_div_mul, Nat.shiftRight_eq_div_pow, Nat.one_and_eq_mod_two]
  have h := Nat.div_add_mod (x.toNat / 2 ^ (31 - t)) 2
  rcases Nat.mod_two_eq_zero_or_one (x.toNat / 2 ^ (31 - t)) with e | e
  · rw [e] at h ⊢
    simp
    omega
  · rw [e] at h ⊢
    simp
    omega

/-- Setting bit `31 - t` of a word whose lower `32 - t` bits are clear. -/
theorem set_bit (t : ℕ) (ht : t < 32) (x : BitVec 32) (hx : x.toNat % 2 ^ (32 - t) = 0) :
    (x ||| (1#32 <<< (31 - t))).toNat = x.toNat + 2 ^ (31 - t) := by
  have hb : (1#32 <<< (31 - t)).toNat = 2 ^ (31 - t) := by
    rw [BitVec.toNat_shiftLeft, BitVec.toNat_ofNat, Nat.shiftLeft_eq, Nat.mod_eq_of_lt]
    · simp
    · have : 2 ^ (31 - t) ≤ 2 ^ 31 := Nat.pow_le_pow_right (by norm_num) (by omega)
      norm_num at this ⊢
      omega
  rw [BitVec.toNat_or, hb]
  have hd := Nat.div_add_mod x.toNat (2 ^ (32 - t))
  rw [hx, add_zero] at hd
  rw [← hd, ← Nat.two_pow_add_eq_or_of_lt]
  exact Nat.pow_lt_pow_right (by norm_num) (by omega)

/-- After `t` bits: `thr` has the top `t` bits of the 256th largest key, `need` of the keys agreeing with it are still wanted. -/
structure Desc (u : ℕ → BitVec 32) (M t : ℕ) (thr need : BitVec 32) : Prop where
  low : thr.toNat % 2 ^ (32 - t) = 0
  all : cnt M (fun s => decide (top t thr < top t (u s))) + need.toNat = 256
  pos : 1 ≤ need.toNat
  le : need.toNat ≤ cnt M fun s => decide (top t (u s) = top t thr)

theorem desc_zero (u : ℕ → BitVec 32) (M : ℕ) (hM : 256 ≤ M) : Desc u M 0 0#32 256#32 := by
  refine ⟨rfl, ?_, by decide, ?_⟩
  · unfold cnt
    simp [top_zero]
  · unfold cnt
    simp [top_zero, hM]

/-- How many of the keys that agree on the top `t` bits have the next bit set. -/
def ones (u : ℕ → BitVec 32) (M t : ℕ) (thr : BitVec 32) : ℕ :=
  cnt M fun s => decide (top t (u s) = top t thr) && (u s).getLsbD (31 - t)

variable {u : ℕ → BitVec 32} {M t : ℕ} {thr need : BitVec 32}

theorem Desc.top_set (ht : t < 32) (h : Desc u M t thr need) :
    top (t + 1) (thr ||| (1#32 <<< (31 - t))) = 2 * top t thr + 1 := by
  have e := set_bit t ht thr h.low
  unfold top
  rw [e, show 32 - (t + 1) = 31 - t by omega]
  have hd := Nat.div_add_mod thr.toNat (2 ^ (32 - t))
  rw [h.low, add_zero, show 32 - t = (31 - t) + 1 by omega, pow_succ] at hd
  rw [show 32 - t = (31 - t) + 1 by omega, pow_succ]
  generalize thr.toNat / (2 ^ (31 - t) * 2) = q at hd ⊢
  rw [← hd, show 2 ^ (31 - t) * 2 * q + 2 ^ (31 - t) = 2 ^ (31 - t) * (2 * q + 1) by ring]
  exact Nat.mul_div_cancel_left _ (by positivity)

theorem Desc.top_keep (ht : t < 32) (h : Desc u M t thr need) : top (t + 1) thr = 2 * top t thr := by
  unfold top
  rw [show 32 - (t + 1) = 31 - t by omega]
  have hd := Nat.div_add_mod thr.toNat (2 ^ (32 - t))
  rw [h.low, add_zero, show 32 - t = (31 - t) + 1 by omega, pow_succ] at hd
  rw [show 32 - t = (31 - t) + 1 by omega, pow_succ]
  generalize thr.toNat / (2 ^ (31 - t) * 2) = q at hd ⊢
  rw [← hd, show 2 ^ (31 - t) * 2 * q = 2 ^ (31 - t) * (2 * q) by ring]
  exact Nat.mul_div_cancel_left _ (by positivity)

/-- The bit is taken. -/
theorem Desc.take (ht : t < 32) (h : Desc u M t thr need) (hc : need.toNat ≤ ones u M t thr) :
    Desc u M (t + 1) (thr ||| (1#32 <<< (31 - t))) need := by
  have e := h.top_set ht
  refine ⟨?_, ?_, h.pos, ?_⟩
  · rw [set_bit t ht thr h.low, show 32 - (t + 1) = 31 - t by omega]
    have hd := Nat.div_add_mod thr.toNat (2 ^ (32 - t))
    rw [h.low, add_zero, show 32 - t = (31 - t) + 1 by omega, pow_succ] at hd
    rw [← hd, mul_assoc, Nat.add_mod, Nat.mul_mod_right]
    simp
  · rw [← h.all]
    congr 1
    unfold cnt
    refine sum_congr rfl fun s _ => ?_
    beta_reduce
    rw [e, top_succ t ht]
    congr 1
    rw [decide_eq_decide]
    have := Bool.toNat_le ((u s).getLsbD (31 - t))
    omega
  · refine hc.trans (le_of_eq ?_)
    unfold ones cnt
    refine sum_congr rfl fun s _ => ?_
    beta_reduce
    rw [e, top_succ t ht]
    congr 1
    cases hb : (u s).getLsbD (31 - t)
    · simp; omega
    · simp

/-- The bit is left clear. -/
theorem Desc.skip (ht : t < 32) (h : Desc u M t thr need) (hc : ones u M t thr < need.toNat) {need' : BitVec 32}
    (hn : need'.toNat = need.toNat - ones u M t thr) : Desc u M (t + 1) thr need' := by
  have e := h.top_keep ht
  have h1 : cnt M (fun s => decide (top (t + 1) thr < top (t + 1) (u s))) =
      cnt M (fun s => decide (top t thr < top t (u s))) + ones u M t thr := by
    unfold ones cnt
    rw [← sum_add_distrib]
    refine sum_congr rfl fun s _ => ?_
    beta_reduce
    rw [e, top_succ t ht]
    cases hb : (u s).getLsbD (31 - t)
    · simp
    · rcases lt_trichotomy (top t thr) (top t (u s)) with hl | hl | hl
      · rw [decide_eq_true (show 2 * top t thr < 2 * top t (u s) + (true : Bool).toNat by simp; omega), decide_eq_true hl,
          decide_eq_false (show ¬ top t (u s) = top t thr by omega)]
        rfl
      · simp [hl]
      · rw [decide_eq_false (show ¬ 2 * top t thr < 2 * top t (u s) + (true : Bool).toNat by simp; omega), decide_eq_false (by omega),
          decide_eq_false (show ¬ top t (u s) = top t thr by omega)]
        rfl
  have h2 : cnt M (fun s => decide (top t (u s) = top t thr)) =
      cnt M (fun s => decide (top (t + 1) (u s) = top (t + 1) thr)) + ones u M t thr := by
    unfold ones cnt
    rw [← sum_add_distrib]
    refine sum_congr rfl fun s _ => ?_
    beta_reduce
    rw [e, top_succ t ht]
    cases hb : (u s).getLsbD (31 - t)
    · simp
    · rw [decide_eq_false (show ¬ 2 * top t (u s) + (true : Bool).toNat = 2 * top t thr by simp; omega)]
      simp
  have := h.all
  have := h.le
  refine ⟨?_, by omega, by omega, by omega⟩
  have hd := Nat.div_add_mod thr.toNat (2 ^ (32 - t))
  rw [h.low, add_zero, show 32 - t = (31 - t) + 1 by omega, pow_succ] at hd
  rw [← hd, show 32 - (t + 1) = 31 - t by omega, mul_assoc, Nat.mul_mod_right]

/-- The keys that agree one bit further. -/
theorem Desc.agree_take (ht : t < 32) (h : Desc u M t thr need) (x : BitVec 32) :
    decide (top (t + 1) x = top (t + 1) (thr ||| (1#32 <<< (31 - t)))) = (decide (top t x = top t thr) && x.getLsbD (31 - t)) := by
  rw [h.top_set ht, top_succ t ht]
  cases hb : x.getLsbD (31 - t)
  · simp; omega
  · simp

theorem Desc.agree_skip (ht : t < 32) (h : Desc u M t thr need) (x : BitVec 32) :
    decide (top (t + 1) x = top (t + 1) thr) = (decide (top t x = top t thr) && !x.getLsbD (31 - t)) := by
  rw [h.top_keep ht, top_succ t ht]
  cases hb : x.getLsbD (31 - t)
  · simp
  · simp; omega

/-- The threshold with fewer than 256 keys above it and at least 256 at or above it is one. -/
theorem thr_unique {M : ℕ} {k : ℕ → ℕ} {a b : ℕ} (ha : cnt M (fun s => decide (a < k s)) < 256)
    (ha' : 256 ≤ cnt M fun s => decide (a ≤ k s)) (hb : cnt M (fun s => decide (b < k s)) < 256)
    (hb' : 256 ≤ cnt M fun s => decide (b ≤ k s)) : a = b := by
  have mono : ∀ p q : ℕ → Bool, (∀ s, p s = true → q s = true) → cnt M p ≤ cnt M q := by
    intro p q hpq
    refine sum_le_sum fun s _ => ?_
    cases hp : p s
    · exact Nat.zero_le _
    · rw [hpq s hp]
  rcases lt_trichotomy a b with h | h | h
  · have := mono (fun s => decide (b ≤ k s)) (fun s => decide (a < k s)) fun s hs => by
      simp only [decide_eq_true_eq] at hs ⊢; omega
    omega
  · exact h
  · have := mono (fun s => decide (a ≤ k s)) (fun s => decide (b < k s)) fun s hs => by
      simp only [decide_eq_true_eq] at hs ⊢; omega
    omega

/-! ## Counting the bits of the planes is counting the keys -/

/-- A row of a plane and a bit of its word, for the key `s`: chunk `s / 256`, row `s % 8`, bit `31 - (s % 256) / 8`. -/
theorem cnt_rows (G n : ℕ) (hG : 8 * n ≤ 32 * G) (χ : ℕ → ℕ → Bool) (hχ : ∀ r p, 8 * n ≤ r → χ r p = false) :
    ∑ r ∈ range 32, ∑ g ∈ range G, ∑ p ∈ range 32, (χ (32 * g + r) p).toNat =
      cnt (256 * n) fun s => χ (8 * (s / 256) + s % 8) (31 - s % 256 / 8) := by
  unfold cnt
  rw [← sum_product', ← sum_product']
  rw [← sum_filter_of_ne (p := fun x : (ℕ × ℕ) × ℕ => 32 * x.1.2 + x.1.1 < 8 * n)
    (fun x _ hx => by
      by_contra hc
      exact hx (by rw [hχ _ _ (not_lt.mp hc)]; rfl))]
  refine sum_nbij' (fun x => 256 * ((32 * x.1.2 + x.1.1) / 8) + 8 * (31 - x.2) + x.1.1 % 8)
    (fun s => (((8 * (s / 256) + s % 8) % 32, (8 * (s / 256) + s % 8) / 32), 31 - s % 256 / 8)) ?_ ?_ ?_ ?_ ?_
  · rintro ⟨⟨r, g⟩, p⟩ h
    simp only [mem_filter, mem_product, mem_range] at h ⊢
    omega
  · rintro s h
    simp only [mem_filter, mem_product, mem_range] at h ⊢
    omega
  · rintro ⟨⟨r, g⟩, p⟩ h
    simp only [mem_filter, mem_product, mem_range, Prod.mk.injEq] at h ⊢
    omega
  · rintro s h
    simp only [mem_range] at h ⊢
    omega
  · rintro ⟨⟨r, g⟩, p⟩ h
    simp only [mem_filter, mem_product, mem_range] at h ⊢
    congr 2 <;> omega

end Cert.Proof.Select
-- ==== Proof.SelOffsets.lean ====
/-
  Where the body's loads and stores lie, and how often its loops turn, in terms of the block of queries `i 1`.
-/
module

public import proofs.«01_k».proof.Select

@[expose] public section

namespace Cert.Proof.Select

open Cert.Select
open Cert.Select.Facts₀ Cert.Select.Facts
open Idealize.ShloMosaic Idealize.ShloMosaic.TcCoe

/-- A step of the grid at the block of queries `a`. -/
def at1 (a : Fin 32) : grid0.Coords := fun d => match d with
  | ⟨0, _⟩ => (0 : Fin 8)
  | ⟨1, _⟩ => a

theorem ext3 {a b c : ℕ} {f : Fin 3 → ℕ} (h : f 0 = a ∧ f 1 = b ∧ f 2 = c) : f = ![a, b, c] := by
  obtain ⟨h0, h1, h2⟩ := h
  funext d
  match d with
  | ⟨0, _⟩ => exact h0
  | ⟨1, _⟩ => exact h1
  | ⟨2, _⟩ => exact h2

theorem ext2 {a b : ℕ} {f : Fin 2 → ℕ} (h : f 0 = a ∧ f 1 = b) : f = ![a, b] := by
  obtain ⟨h0, h1⟩ := h
  funext d
  match d with
  | ⟨0, _⟩ => exact h0
  | ⟨1, _⟩ => exact h1

theorem trips1_at : ∀ a, (k0_t1_loop (at1 a)).trips = (a.val + 1) / 2 := by decide +kernel
theorem trips2_at : ∀ a, (k0_t2_loop (at1 a)).trips = 0 := by decide +kernel
theorem trips3 : k0_t3_loop.trips = 32 := by decide +kernel
theorem trips4_at : ∀ a, (k0_t4_loop (at1 a)).trips = a.val / 4 + 1 := by decide +kernel
theorem trips5_at : ∀ a, (k0_t5_loop (at1 a)).trips = 0 := by decide +kernel
theorem trips6_at : ∀ a, (k0_t6_loop (at1 a)).trips = a.val / 4 + 1 := by decide +kernel
theorem trips7_at : ∀ a, (k0_t7_loop (at1 a)).trips = 0 := by decide +kernel
theorem off1_at : ∀ a, k0_off1 (at1 a) 0 = 0 ∧ k0_off1 (at1 a) 1 = 256 * a.val ∧ k0_off1 (at1 a) 2 = 0 := by decide +kernel
theorem off2_at : ∀ a, k0_off2 (at1 a) 1 = 8 * a.val := by decide +kernel
theorem off34_at : ∀ a t, k0_off34 (at1 a) t 0 = 0 ∧ k0_off34 (at1 a) t 1 = 256 * (2 * t.val) ∧ k0_off34 (at1 a) t 2 = 0 := by
  decide +kernel
theorem off35_at : ∀ a t, k0_off35 (at1 a) t 1 = 8 * (2 * t.val) := by decide +kernel
theorem off67_at : ∀ a t, k0_off67 (at1 a) t 0 = 0 ∧ k0_off67 (at1 a) t 1 = 256 * min (2 * t.val + 1) (a.val - 1)
    ∧ k0_off67 (at1 a) t 2 = 0 := by decide +kernel
theorem off68_at : ∀ a t, k0_off68 (at1 a) t 1 = 8 * min (2 * t.val + 1) (a.val - 1) := by decide +kernel
theorem off166_at : ∀ a t, k0_off166 (at1 a) t 0 = 32 * t.val ∧ k0_off166 (at1 a) t 1 = 0 := by decide +kernel
theorem off167_at : ∀ a s t, k0_off167 (at1 a) s t 0 = 32 - s.val ∧ k0_off167 (at1 a) s t 1 = 32 * t.val ∧ k0_off167 (at1 a) s t 2 = 0 := by
  decide +kernel
theorem off168_at : ∀ a s t, k0_off168 (at1 a) s t 0 = 31 - s.val ∧ k0_off168 (at1 a) s t 1 = 32 * t.val ∧ k0_off168 (at1 a) s t 2 = 0 := by
  decide +kernel
theorem off172_at : ∀ a t, k0_off172 (at1 a) t 0 = 32 * t.val ∧ k0_off172 (at1 a) t 1 = 0 := by decide +kernel
theorem off173_at : ∀ a t, k0_off173 (at1 a) t 0 = 0 ∧ k0_off173 (at1 a) t 1 = 32 * t.val ∧ k0_off173 (at1 a) t 2 = 0 := by decide +kernel

variable (i : grid0.Coords)

theorem trips1 : (k0_t1_loop i).trips = ((i 1).val + 1) / 2 := trips1_at (i 1)
theorem trips2 : (k0_t2_loop i).trips = 0 := trips2_at (i 1)
theorem trips4 : (k0_t4_loop i).trips = (i 1).val / 4 + 1 := trips4_at (i 1)
theorem trips5 : (k0_t5_loop i).trips = 0 := trips5_at (i 1)
theorem trips6 : (k0_t6_loop i).trips = (i 1).val / 4 + 1 := trips6_at (i 1)
theorem trips7 : (k0_t7_loop i).trips = 0 := trips7_at (i 1)
theorem off1 : k0_off1 i = ![0, 256 * (i 1).val, 0] := ext3 (off1_at (i 1))
theorem off2 : k0_off2 i 1 = 8 * (i 1).val := off2_at (i 1)
theorem off34 (t) : k0_off34 i t = ![0, 256 * (2 * t.val), 0] := ext3 (off34_at (i 1) t)
theorem off35 (t) : k0_off35 i t 1 = 8 * (2 * t.val) := off35_at (i 1) t
theorem off67 (t) : k0_off67 i t = ![0, 256 * min (2 * t.val + 1) ((i 1).val - 1), 0] := ext3 (off67_at (i 1) t)
theorem off68 (t) : k0_off68 i t 1 = 8 * min (2 * t.val + 1) ((i 1).val - 1) := off68_at (i 1) t
theorem off166 (t) : k0_off166 i t = ![32 * t.val, 0] := ext2 (off166_at (i 1) t)
theorem off167 (s t) : k0_off167 i s t = ![32 - s.val, 32 * t.val, 0] := ext3 (off167_at (i 1) s t)
theorem off168 (s t) : k0_off168 i s t = ![31 - s.val, 32 * t.val, 0] := ext3 (off168_at (i 1) s t)
theorem off172 (t) : k0_off172 i t = ![32 * t.val, 0] := ext2 (off172_at (i 1) t)
theorem off173 (t) : k0_off173 i t = ![0, 32 * t.val, 0] := ext3 (off173_at (i 1) t)

end Cert.Proof.Select
-- ==== Proof.SelLane.lean ====
/-
  One column of keys through the descent: what the mask and the bit planes say about the column's keys after `t` bits, and that one
  trip (narrow the mask, count the ones of the next plane, take the bit or not) goes one bit further.
-/
module

public import proofs.«01_k».proof.Proof.SelLoad
public import proofs.«01_k».proof.Proof.SelMath
public import proofs.«01_k».proof.Proof.SelOffsets
public import Idealize.ShloMosaic.Lib.Pointwise.Reduce

@[expose] public section

noncomputable section

namespace Cert.Proof.Select

open Cert.Select Cert.Proof
open Cert.Select.Facts₀ Cert.Select.Facts
open Idealize.ShloMosaic hiding ix1 ix2 ix3
open Idealize.ShloMosaic.TcCoe Idealize.ShloMosaic.ValueIdx
open Finset

/-- Plane `n`, row `r`, column `q`. -/
def pl (P : S33x256x256.Idx → BitVec 32) (n r : ℕ) (q : Fin 256) : BitVec 32 :=
  if h : n < 33 ∧ r < 256 then P (ix3 (⟨n, h.1⟩ : Fin 33) (⟨r, h.2⟩ : Fin 256) q) else 0#32

/-- The mask's row `r`, column `q`. -/
def mr (A : S256x256.Idx → BitVec 32) (r : ℕ) (q : Fin 256) : BitVec 32 :=
  if h : r < 256 then A (ix2 (⟨r, h⟩ : Fin 256) q) else 0#32

/-- The key whose bits are at bit `p` of row `r` of the planes. -/
def key (r p : ℕ) : ℕ := 256 * (r / 8) + 8 * (31 - p) + r % 8

/-- A mask narrowed by a plane: to its ones where the last bit was taken, to its zeros where not. -/
def nar (tk a p : BitVec 32) : BitVec 32 := if tk ≠ 0#32 then a &&& p else a ^^^ (a &&& p)

theorem nar_zero (tk p : BitVec 32) : nar tk 0#32 p = 0#32 := by
  unfold nar
  split <;> simp

theorem nar_bit (tk a p : BitVec 32) (k : ℕ) : (nar tk a p).getLsbD k = (a.getLsbD k && (p.getLsbD k == decide (tk ≠ 0#32))) := by
  unfold nar
  by_cases h : tk ≠ 0#32
  · rw [if_pos h, decide_eq_true h, BitVec.getLsbD_and]
    cases a.getLsbD k <;> cases p.getLsbD k <;> rfl
  · rw [if_neg h, decide_eq_false h, BitVec.getLsbD_xor, BitVec.getLsbD_and]
    cases a.getLsbD k <;> cases p.getLsbD k <;> rfl

/-- The number of ones of a word. -/
def pop (w : BitVec 32) : ℕ := ∑ p ∈ range 32, (w.getLsbD p).toNat

theorem pop_le (w : BitVec 32) : pop w ≤ 32 := by
  refine (Finset.sum_le_card_nsmul (range 32) _ 1 fun p _ => Bool.toNat_le _).trans ?_
  simp

theorem ctpop_pop (w : BitVec 32) : IntOp.ctpop w = BitVec.ofNat 32 (pop w) := by
  have h : ∀ n, ((List.range n).filter fun i => w.getLsbD i).length = ∑ p ∈ range n, (w.getLsbD p).toNat := by
    intro n
    induction n with
    | zero => rfl
    | succ n ih =>
      rw [List.range_succ, List.filter_append, List.length_append, ih, sum_range_succ]
      cases hb : w.getLsbD n <;> simp [hb]
  show BitVec.ofNat 32 _ = _
  rw [h]
  rfl

/-- What the planes hold: the last is all ones, and the others the bits of the keys `u` of chunks `0` to `n`. -/
structure Good (n : ℕ) (u : Fin 256 → ℕ → BitVec 32) (P : S33x256x256.Idx → BitVec 32) : Prop where
  full : ∀ r < 256, ∀ q, pl P 32 r q = 4294967295#32
  fill : ∀ q, ∀ m < 32, ∀ r < 8 * (n + 1), ∀ p < 32, (pl P m r q).getLsbD p = (u q (key r p)).getLsbD m

/-- One column after `t` bits. -/
structure Lane (n : ℕ) (u : ℕ → BitVec 32) (P : S33x256x256.Idx → BitVec 32) (q : Fin 256) (t : ℕ)
    (A : S256x256.Idx → BitVec 32) (thr need took : BitVec 32) : Prop where
  desc : Desc u (256 * (n + 1)) t thr need
  dead : ∀ r, 8 * (n + 1) ≤ r → mr A r q = 0#32
  live : ∀ r < 8 * (n + 1), ∀ p < 32, (nar took (mr A r q) (pl P (32 - t) r q)).getLsbD p = decide (top t (u (key r p)) = top t thr)

variable {n : ℕ} {u : Fin 256 → ℕ → BitVec 32} {P : S33x256x256.Idx → BitVec 32} {q : Fin 256} {t : ℕ}
  {A : S256x256.Idx → BitVec 32} {thr need took : BitVec 32}

/-- The keys still alive that have the next bit. -/
theorem Lane.count (hP : Good n u P) (ht : t < 32) (h : Lane n (u q) P q t A thr need took) :
    ∑ r ∈ range 32, ∑ g ∈ range (n / 4 + 1),
        pop (nar took (mr A (32 * g + r) q) (pl P (32 - t) (32 * g + r) q) &&& pl P (31 - t) (32 * g + r) q) =
      ones (u q) (256 * (n + 1)) t thr := by
  refine (cnt_rows (n / 4 + 1) (n + 1) (by omega)
    (fun r p => (nar took (mr A r q) (pl P (32 - t) r q) &&& pl P (31 - t) r q).getLsbD p) fun r p hr => ?_).trans ?_
  · beta_reduce
    rw [h.dead r hr, nar_zero, BitVec.zero_and]
    exact BitVec.getLsbD_zero
  · unfold ones cnt
    refine sum_congr rfl fun s hs => ?_
    rw [mem_range] at hs
    beta_reduce
    rw [BitVec.getLsbD_and, h.live _ (by omega) _ (by omega), hP.fill q _ (by omega) _ (by omega) _ (by omega),
      show key (8 * (s / 256) + s % 8) (31 - s % 256 / 8) = s by unfold key; omega]

/-- The keys that agree with the whole threshold. -/
theorem Lane.count_last (h : Lane n (u q) P q 32 A thr need took) :
    ∑ r ∈ range 32, ∑ g ∈ range (n / 4 + 1), pop (nar took (mr A (32 * g + r) q) (pl P 0 (32 * g + r) q)) =
      cnt (256 * (n + 1)) fun s => decide (u q s = thr) := by
  refine (cnt_rows (n / 4 + 1) (n + 1) (by omega)
    (fun r p => (nar took (mr A r q) (pl P 0 r q)).getLsbD p) fun r p hr => ?_).trans ?_
  · beta_reduce
    rw [h.dead r hr, nar_zero]
    exact BitVec.getLsbD_zero
  · unfold cnt
    refine sum_congr rfl fun s hs => ?_
    rw [mem_range] at hs
    beta_reduce
    have := h.live (8 * (s / 256) + s % 8) (by omega) (31 - s % 256 / 8) (by omega)
    rw [show key (8 * (s / 256) + s % 8) (31 - s % 256 / 8) = s by unfold key; omega] at this
    rw [show (32 - 32 : ℕ) = 0 from rfl] at this
    rw [this]
    congr 1
    rw [decide_eq_decide, top_full, top_full, BitVec.toNat_inj]

theorem Desc.need_le {u : ℕ → BitVec 32} {M t : ℕ} {thr need : BitVec 32} (h : Desc u M t thr need) : need.toNat ≤ 256 := by
  have := h.all
  omega

theorem ones_le {u : ℕ → BitVec 32} {M t : ℕ} {thr : BitVec 32} : ones u M t thr ≤ M := cnt_le _ _

/-- One trip. -/
theorem Lane.next (hn : n < 32) (hP : Good n u P) (ht : t < 32) (h : Lane n (u q) P q t A thr need took)
    {A' : S256x256.Idx → BitVec 32} {thr' need' took' : BitVec 32}
    (hA : ∀ r < 256, mr A' r q = if r < 32 * (n / 4 + 1) then nar took (mr A r q) (pl P (32 - t) r q) else mr A r q)
    (hs : (need.toNat ≤ ones (u q) (256 * (n + 1)) t thr ∧ thr' = thr ||| (1#32 <<< (31 - t)) ∧ need' = need ∧ took' = 1#32) ∨
      (ones (u q) (256 * (n + 1)) t thr < need.toNat ∧ thr' = thr ∧
        need' = need - BitVec.ofNat 32 (ones (u q) (256 * (n + 1)) t thr) ∧ took' = 0#32)) :
    Lane n (u q) P q (t + 1) A' thr' need' took' := by
  have ho : ones (u q) (256 * (n + 1)) t thr ≤ 8192 := ones_le.trans (by omega)
  have hdead : ∀ r, 8 * (n + 1) ≤ r → mr A' r q = 0#32 := by
    intro r hr
    by_cases h1 : r < 256
    · rw [hA r h1, h.dead r hr, nar_zero, ite_self]
    · unfold mr
      rw [dif_neg h1]
  have hbit : ∀ r < 8 * (n + 1), ∀ p < 32, (nar took' (mr A' r q) (pl P (32 - (t + 1)) r q)).getLsbD p =
      (decide (top t (u q (key r p)) = top t thr) && ((u q (key r p)).getLsbD (31 - t) == decide (took' ≠ 0#32))) := by
    intro r hr p hp
    rw [nar_bit, hA r (by omega), if_pos (by omega), h.live r hr p hp, show 32 - (t + 1) = 31 - t by omega,
      hP.fill q _ (by omega) r hr p hp]
  rcases hs with ⟨hc, rfl, rfl, rfl⟩ | ⟨hc, rfl, rfl, rfl⟩
  · refine ⟨h.desc.take ht hc, hdead, fun r hr p hp => ?_⟩
    rw [hbit r hr p hp, h.desc.agree_take ht, show decide (1#32 ≠ 0#32) = true by decide]
    cases (u q (key r p)).getLsbD (31 - t) <;> rfl
  · refine ⟨h.desc.skip ht hc ?_, hdead, fun r hr p hp => ?_⟩
    · have := h.desc.need_le
      rw [BitVec.toNat_sub_of_le, BitVec.toNat_ofNat, Nat.mod_eq_of_lt (by omega)]
      rw [BitVec.le_def, BitVec.toNat_ofNat, Nat.mod_eq_of_lt (by omega)]
      omega
    · rw [hbit r hr p hp, h.desc.agree_skip ht, show decide (0#32 ≠ 0#32) = false by decide]
      cases (u q (key r p)).getLsbD (31 - t) <;> rfl

/-- Before the first bit every key of the chunks is alive. -/
theorem lane_zero (hP : Good n u P) (hn : n < 32)
    (hA : ∀ r < 256, mr A r q = if r < 8 * (n + 1) then 4294967295#32 else 0#32) :
    Lane n (u q) P q 0 A 0#32 256#32 1#32 := by
  refine ⟨desc_zero _ _ (by omega), fun r hr => ?_, fun r hr p hp => ?_⟩
  · by_cases h1 : r < 256
    · rw [hA r h1, if_neg (by omega)]
    · unfold mr
      rw [dif_neg h1]
  · rw [nar_bit, hA r (by omega), if_pos hr, Nat.sub_zero, hP.full r (by omega), top_zero, top_zero,
      show (4294967295#32) = BitVec.allOnes 32 from rfl, BitVec.getLsbD_allOnes, decide_eq_true hp]
    rfl

/-! ## What the loads and stores of the descent move -/

theorem ld7 (A : S256x256.Idx → BitVec 32) {off : Fin 2 → ℕ} {inb : ∀ a, off a + S32x256.size a ≤ S256x256.size a} {g : ℕ}
    (hoff : off = ![32 * g, 0]) (r : Fin 32) (q : Fin 256) :
    A ((Rect.unit (s := S256x256) off S32x256.size inb).toLoadRect.idx (ix2 r q)) = mr A (32 * g + r.val) q := by
  subst hoff
  have h : 32 * g + 32 ≤ 256 := inb 0
  unfold mr
  rw [dif_pos (by omega)]
  refine congrArg A (funext fun a => Fin.ext ?_)
  match a with
  | ⟨0, _⟩ => show 32 * g + 1 * r.val = 32 * g + r.val; omega
  | ⟨1, _⟩ => show 0 + 1 * q.val = q.val; omega

theorem ld6 (P : S33x256x256.Idx → BitVec 32) {off : Fin 3 → ℕ} {inb : ∀ a, off a + S1x32x256.size a ≤ S33x256x256.size a} {m g : ℕ}
    (hoff : off = ![m, 32 * g, 0]) (h : S1x32x256.ShapeCasts S32x256) (r : Fin 32) (q : Fin 256) :
    shapeCast S32x256 (fun x => P ((Rect.unit (s := S33x256x256) off S1x32x256.size inb).toLoadRect.idx x)) h (ix2 r q) =
      pl P m (32 * g + r.val) q := by
  subst hoff
  have h0 : m + 1 ≤ 33 := inb 0
  have h1 : 32 * g + 32 ≤ 256 := inb 1
  unfold pl
  rw [dif_pos ⟨by omega, by omega⟩]
  refine (shapeCast_1ab_ab_apply _ h r q).trans (congrArg P (funext fun a => Fin.ext ?_))
  match a with
  | ⟨0, _⟩ => show m + 1 * 0 = m; omega
  | ⟨1, _⟩ => show 32 * g + 1 * r.val = 32 * g + r.val; omega
  | ⟨2, _⟩ => show 0 + 1 * q.val = q.val; omega

theorem st7 {F : FTy → Type} (A : S256x256.Idx → BitVec 32) {off : Fin 2 → ℕ} {inb : ∀ a, off a + S32x256.size a ≤ S256x256.size a} {g : ℕ}
    (hoff : off = ![32 * g, 0]) (w : IVec S32x256 32) (r : ℕ) (hr : r < 256) (q : Fin 256) :
    mr (stored (s := S256x256) (Val := Elt F) (e := .i32) off S32x256.size inb w A) r q =
      if h : 32 * g ≤ r ∧ r < 32 * g + 32 then w (ix2 (⟨r - 32 * g, by omega⟩ : Fin 32) q) else mr A r q := by
  subst hoff
  unfold mr stored
  rw [dif_pos hr, dif_pos hr]
  by_cases h1 : 32 * g ≤ r ∧ r < 32 * g + 32
  · rw [dif_pos h1, dif_pos (fun a => match a with
      | ⟨0, _⟩ => h1
      | ⟨1, _⟩ => ⟨Nat.zero_le _, by show q.val < 0 + 256; omega⟩)]
    refine congrArg w (funext fun a => ?_)
    match a with
    | ⟨0, _⟩ => rfl
    | ⟨1, _⟩ => rfl
  · rw [dif_neg h1, dif_neg (fun h => h1 (h 0))]

theorem st7_all {F : FTy → Type} (A : S256x256.Idx → BitVec 32) {inb : ∀ a, (![0, 0] : Fin 2 → ℕ) a + S256x256.size a ≤ S256x256.size a}
    (w : IVec S256x256 32) : stored (s := S256x256) (Val := Elt F) (e := .i32) ![0, 0] S256x256.size inb w A = w := by
  funext y
  unfold stored
  rw [dif_pos (fun a => match a with
      | ⟨0, _⟩ => ⟨Nat.zero_le _, by show (y 0).val < 0 + 256; have : (y 0).val < 256 := (y 0).isLt; omega⟩
      | ⟨1, _⟩ => ⟨Nat.zero_le _, by show (y 1).val < 0 + 256; have : (y 1).val < 256 := (y 1).isLt; omega⟩)]
  refine congrArg w (funext fun a => ?_)
  match a with
  | ⟨0, _⟩ => rfl
  | ⟨1, _⟩ => rfl

theorem st3 {F : FTy → Type} (X : S1x1x256.Idx → BitVec 32) {inb : ∀ a, (![0, 0, 0] : Fin 3 → ℕ) a + S1x1x256.size a ≤ S1x1x256.size a}
    (w : IVec S1x256 32) (h : S1x256.ShapeCasts S1x1x256) (q : Fin 256) :
    stored (s := S1x1x256) (Val := Elt F) (e := .i32) ![0, 0, 0] S1x1x256.size inb (shapeCast S1x1x256 w h) X (ix3 (0 : Fin 1) (0 : Fin 1) q) =
      w (ix2 (0 : Fin 1) q) := by
  unfold stored
  rw [dif_pos (fun a => match a with
      | ⟨0, _⟩ => (⟨Nat.zero_le _, Nat.zero_lt_one⟩ : 0 ≤ 0 ∧ 0 < 0 + 1)
      | ⟨1, _⟩ => (⟨Nat.zero_le _, Nat.zero_lt_one⟩ : 0 ≤ 0 ∧ 0 < 0 + 1)
      | ⟨2, _⟩ => ⟨Nat.zero_le _, by show q.val < 0 + 256; omega⟩)]
  refine Eq.trans (congrArg _ (funext fun a => ?_)) (shapeCast_ab_1ab_apply w h (0 : Fin 1) (0 : Fin 1) q)
  match a with
  | ⟨0, _⟩ => rfl
  | ⟨1, _⟩ => rfl
  | ⟨2, _⟩ => rfl

/-- The narrowed mask, as the body forms it. -/
theorem narrowed (tk : IVec S1x256 32) (a p : IVec S32x256 32) (h1 : S1x256.ShapeCasts S1x256) (h2 : S1x256.Broadcasts S32x256)
    (r : Fin 32) (q : Fin 256) :
    select (broadcastTo S32x256 (shapeCast S1x256 (cmpi .ne tk (broadcast S1x256 0#32)) h1) h2) (andi a p) (xori a (andi a p)) (ix2 r q) =
      nar (tk (ix2 (0 : Fin 1) q)) (a (ix2 r q)) (p (ix2 r q)) := by
  show Scalar.select (broadcastTo S32x256 _ h2 (ix2 r q)) _ _ = _
  rw [broadcastTo_1b_ab_apply, shapeCast_self]
  show (if BitVec.ofBool (tk (ix2 (0 : Fin 1) q) != 0#32) = 1 then (a (ix2 r q) &&& p (ix2 r q)) else (a (ix2 r q) ^^^ (a (ix2 r q) &&& p (ix2 r q)))) = _
  unfold nar
  by_cases h : tk (ix2 (0 : Fin 1) q) = 0#32
  · rw [h, if_neg (by decide), if_neg (by simp)]
  · rw [if_pos h, if_pos (by rw [bne_iff_ne.mpr h]; rfl)]

/-- The sum of the rows of a block of counts. -/
theorem row_sum (v : IVec S32x256 32) (f : ℕ → Fin 256 → ℕ) (hv : ∀ (r : Fin 32) (q : Fin 256), v (ix2 r q) = BitVec.ofNat 32 (f r.val q))
    (h : S32x256.Reduces [0] S256) (h0) (h1 : S256.ShapeCasts S1x256) (q : Fin 256) :
    shapeCast S1x256 (multiReductionI .add [0] S256 v 0#32 h h0) h1 (ix2 (0 : Fin 1) q) =
      BitVec.ofNat 32 (∑ r ∈ range 32, f r q) := by
  rw [shapeCast_a_1a_apply, multiReductionI_eq_fold, Shape.Reduces.fold_fiber_r2_a0]
  have e : ∀ s : Finset (Fin 32), ∀ g : Fin 32 → BitVec 32, (∀ r, g r = BitVec.ofNat 32 (f r.val q)) →
      s.fold IntOp.addi 0#32 g = BitVec.ofNat 32 (∑ r ∈ s, f r.val q) := by
    intro s g hg
    induction s using Finset.induction_on with
    | empty => rfl
    | insert a s ha ih =>
      rw [Finset.fold_insert ha, Finset.sum_insert ha, ih, hg]
      exact (BitVec.ofNat_add _ _).symm
  refine (e univ _ fun r => ?_).trans ?_
  · exact hv r _
  · rw [Finset.sum_range]

end Cert.Proof.Select

end
-- ==== Proof.SelDescent.lean ====
/-
  The descent of the body: from the planes of the keys it finds, column by column, the 256th largest key, how many keys equal to it
  are taken, and whether more are equal than are taken.
-/
module

public import proofs.«01_k».proof.Proof.SelLane

@[expose] public section

noncomputable section

namespace Cert.Proof.Select

open Cert.Select Cert.Proof
open Cert.Select.Facts₀ Cert.Select.Facts
open Idealize.ShloMosaic hiding ix1 ix2 ix3
open Idealize.ShloMosaic.TcCoe Idealize.ShloMosaic.ValueIdx
open Idealize.SL Idealize.SL.RA Idealize.SL.BI
open Idealize.SL.Sem
open Finset

variable {F : FTy → Type} [BitOps F]
variable {U : Type} [URA U]
variable [Cert.Select.Facts]
variable {c : Dev nD} {H : St → sProp (MT nD τ sig Unit (Elt F) ℕ U ℕ)} {defs : Defs nD τ sig (Elt F) Λ₀}
variable {K : S1x8192x256.Idx → BitVec 32} {i : grid0.Coords}
variable {arg2 : Memref sig .tc .vmem S1x8192x256 .i32} {harg2 : arg2.IsWhole}
  {arg3 : Memref sig .tc .vmem S1x1x256 .i32} {harg3 : arg3.IsWhole}
  {arg4 : Memref sig .tc .vmem S1x1x256 .i32} {harg4 : arg4.IsWhole}
  {arg5 : Memref sig .tc .vmem S1x1x256 .i32} {harg5 : arg5.IsWhole}
  {arg6 : Memref sig .tc .vmem S33x256x256 .i32} {harg6 : arg6.IsWhole}
  {arg7 : Memref sig .tc .vmem S256x256 .i32} {harg7 : arg7.IsWhole}

/-- The rows of the mask that belong to the chunks. -/
theorem alive_row (a : Fin 32) : ∀ r : Fin 256, IntOp.cmpi .slt (BitVec.ofNat 32 r.val)
    (Scalar.muli (Scalar.addi (BitVec.ofNat 32 a.val) 1#32) 8#32) = BitVec.ofBool (decide (r.val < 8 * (a.val + 1))) := by
  revert a
  decide +kernel

theorem bit_of : ∀ t : Fin k0_t3_loop.trips, Scalar.shli 1#32 (Scalar.subi 31#32 (Scf.iv 0#32 1#32 t)) = 1#32 <<< (31 - t.val) := by
  decide +kernel

theorem sle_nat (a b : BitVec 32) (ha : a.toNat < 2 ^ 31) (hb : b.toNat < 2 ^ 31) : a.sle b = decide (a.toNat ≤ b.toNat) := by
  rw [BitVec.sle, BitVec.toInt_eq_toNat_of_lt (by omega), BitVec.toInt_eq_toNat_of_lt (by omega), decide_eq_decide]
  omega

theorem slt_nat (a b : BitVec 32) (ha : a.toNat < 2 ^ 31) (hb : b.toNat < 2 ^ 31) : a.slt b = decide (a.toNat < b.toNat) := by
  rw [BitVec.slt, BitVec.toInt_eq_toNat_of_lt (by omega), BitVec.toInt_eq_toNat_of_lt (by omega), decide_eq_decide]
  omega

/-- The keys of the chunks alive at first. -/
def alive (a : ℕ) : IVec S256x256 1 :=
  cmpi .slt (iota .tc S256x256 32 [0] iota_S256x256_d0_w32) (broadcast S256x256 (Scalar.muli (Scalar.addi (BitVec.ofNat 32 a) 1#32) 8#32))

theorem alive_mask (i : grid0.Coords) (h : S256x256.ShapeCasts S256x256) (r : ℕ) (hr : r < 256) (q : Fin 256) :
    mr (shapeCast S256x256 (select (alive (i 1).val) (broadcast S256x256 4294967295#32) (broadcast S256x256 0#32)) h) r q =
      if r < 8 * ((i 1).val + 1) then 4294967295#32 else 0#32 := by
  rw [shapeCast_self]
  unfold mr
  rw [dif_pos hr]
  have e := alive_row (i 1) ⟨r, hr⟩
  show (if IntOp.cmpi .slt (iota .tc S256x256 32 [0] iota_S256x256_d0_w32 (ix2 (⟨r, hr⟩ : Fin 256) q)) _ = 1 then _ else _) = _
  rw [show iota .tc S256x256 32 [0] iota_S256x256_d0_w32 (ix2 (⟨r, hr⟩ : Fin 256) q) = BitVec.ofNat 32 r by
    simp [iota], show broadcast S256x256 (Scalar.muli (Scalar.addi (BitVec.ofNat 32 (i 1).val) 1#32) 8#32) (ix2 (⟨r, hr⟩ : Fin 256) q) =
      Scalar.muli (Scalar.addi (BitVec.ofNat 32 (i 1).val) 1#32) 8#32 from rfl]
  rw [e]
  by_cases h1 : r < 8 * ((i 1).val + 1)
  · rw [if_pos h1, decide_eq_true h1]; rfl
  · rw [if_neg h1, decide_eq_false h1]; rfl

theorem sel_pos {s : Shape} (m : IVec s 1) (a b : IVec s 32) (x : s.Idx) (h : m x = 1#1) : select m a b x = a x := if_pos h
theorem sel_neg {s : Shape} (m : IVec s 1) (a b : IVec s 32) (x : s.Idx) (h : m x = 0#1) : select m a b x = b x :=
  if_neg (by rw [h]; decide)

theorem part105 (hH : Held (F := F) c H K arg2 arg3 arg4 arg5 arg6 arg7) (v939 : BitVec 32) (σ : St)
    (u : Fin 256 → ℕ → BitVec 32) (hP : Good (i 1).val u σ.P) :
    At defs c H σ (k0_part105 (F := F) i arg2 harg2 arg3 harg3 arg4 harg4 arg5 harg5 arg6 harg6 arg7 harg7 v939 (alive (i 1).val)
        4294967295#32 0#32)
      (fun r σ' => ∃ (v971 : IVec S1x256 1) (thr need : IVec S1x256 32) (o1 o2 : S1x1x256.Idx → BitVec 32) (A : S256x256.Idx → BitVec 32),
        r = ⟨v971, 1#32⟩ ∧ σ' = { σ with o1 := o1, o2 := o2, A := A } ∧ ∀ q,
          Desc (u q) (256 * ((i 1).val + 1)) 32 (thr (ix2 (0 : Fin 1) q)) (need (ix2 (0 : Fin 1) q)) ∧
          o1 (ix3 (0 : Fin 1) (0 : Fin 1) q) = thr (ix2 (0 : Fin 1) q) ^^^ 2147483648#32 ∧
          o2 (ix3 (0 : Fin 1) (0 : Fin 1) q) = need (ix2 (0 : Fin 1) q) ∧
          v971 (ix2 (0 : Fin 1) q) = BitVec.ofBool
            (decide ((need (ix2 (0 : Fin 1) q)).toNat < cnt (256 * ((i 1).val + 1)) fun s => decide (u q s = thr (ix2 (0 : Fin 1) q))) &&
              decide (thr (ix2 (0 : Fin 1) q) ^^^ 2147483648#32 ≠ 2147483648#32))) := by
  have hn : (i 1).val < 32 := (i 1).isLt
  have h4 := trips4 i
  have h5 := trips5 i
  have h6 := trips6 i
  have h7 := trips7 i
  refine at_load hH.r7 ?_
  refine at_store hH.s7 ?_
  rw [st7_all]
  refine at_bind (at_for (fun t (acc : IVec S1x256 32 × IVec S1x256 32 × IVec S1x256 32) σ' => ∃ A, σ' = { σ with A := A } ∧ ∀ q,
      Lane (i 1).val (u q) σ.P q t A (acc.1 (ix2 (0 : Fin 1) q)) (acc.2.1 (ix2 (0 : Fin 1) q)) (acc.2.2 (ix2 (0 : Fin 1) q))) ?_ ?_ fun _ _ h => h)
    ?_
  · exact ⟨_, rfl, fun q => lane_zero hP hn fun r hr => alive_mask i _ r hr q⟩
  · rintro t ⟨thr, need, took⟩ σ' ⟨A, rfl, hL⟩
    have ht : t.val < 32 := lt_of_lt_of_eq t.isLt trips3
    have hL : ∀ q, Lane (i 1).val (u q) σ.P q t A (thr (ix2 (0 : Fin 1) q)) (need (ix2 (0 : Fin 1) q)) (took (ix2 (0 : Fin 1) q)) := hL
    refine at_bind (at_for (fun g (acc : IVec S32x256 32) σ' => ∃ A', σ' = { σ with A := A' } ∧
        (∀ r < 256, ∀ q, mr A' r q = if r < 32 * g then
          nar (took (ix2 (0 : Fin 1) q)) (mr A r q) (pl σ.P (32 - t.val) r q) else mr A r q) ∧
        ∀ (r : Fin 32) (q : Fin 256), acc (ix2 r q) = BitVec.ofNat 32 (∑ g ∈ range g,
          pop (nar (took (ix2 (0 : Fin 1) q)) (mr A (32 * g + r.val) q) (pl σ.P (32 - t.val) (32 * g + r.val) q) &&&
            pl σ.P (31 - t.val) (32 * g + r.val) q))) ?_ ?_ fun _ _ h => h) ?_
    · exact ⟨A, rfl, fun r _ q => by rw [if_neg (by omega)], fun r q => rfl⟩
    · rintro g acc σ' ⟨A', rfl, hA, hc⟩
      have hg : g.val < 8 := by have := g.isLt; omega
      refine at_load hH.r7 ?_
      refine at_load hH.r6 ?_
      refine at_load hH.r7 ?_
      refine at_store hH.s7 ?_
      refine at_load hH.r6 ?_
      have hw : ∀ (r : Fin 32) (q : Fin 256), select (broadcastTo S32x256 (shapeCast S1x256 (cmpi .ne took (broadcast S1x256 0#32)) shapeCasts_S1x256_S1x256) broadcasts_S1x256_S32x256)
          (andi (fun x => A' ((Rect.unit (s := S256x256) (k0_off166 i g) S32x256.size (k0_off166_inb i g)).toLoadRect.idx x)) (shapeCast S32x256 (fun x => σ.P ((Rect.unit (s := S33x256x256) (k0_off167 i t g) S1x32x256.size (k0_off167_inb i t g)).toLoadRect.idx x)) shapeCasts_S1x32x256_S32x256))
          (xori (fun x => A' ((Rect.unit (s := S256x256) (k0_off166 i g) S32x256.size (k0_off166_inb i g)).toLoadRect.idx x)) (andi (fun x => A' ((Rect.unit (s := S256x256) (k0_off166 i g) S32x256.size (k0_off166_inb i g)).toLoadRect.idx x)) (shapeCast S32x256 (fun x => σ.P ((Rect.unit (s := S33x256x256) (k0_off167 i t g) S1x32x256.size (k0_off167_inb i t g)).toLoadRect.idx x)) shapeCasts_S1x32x256_S32x256))) (ix2 r q) =
            nar (took (ix2 (0 : Fin 1) q)) (mr A (32 * g.val + r.val) q) (pl σ.P (32 - t.val) (32 * g.val + r.val) q) := by
        intro r q
        rw [narrowed, ld7 A' (off166 i g), ld6 σ.P (off167 i t g), hA _ (by omega), if_neg (by omega)]
      refine at_pure ⟨_, rfl, fun r hr q => ?_, fun r q => ?_⟩
      · refine (st7 (F := F) A' (off166 i g) _ r hr q).trans ?_
        by_cases h1 : 32 * g.val ≤ r ∧ r < 32 * g.val + 32
        · rw [dif_pos h1, if_pos (by omega), shapeCast_self]
          refine (hw _ _).trans ?_
          rw [show 32 * g.val + (r - 32 * g.val) = r by omega]
        · rw [dif_neg h1, hA r hr]
          by_cases h2 : r < 32 * g.val
          · rw [if_pos h2, if_pos (by omega)]
          · rw [if_neg h2, if_neg (by omega)]
      · rw [sum_range_succ, BitVec.ofNat_add, ← hc, ← ctpop_pop, ← hw r q, ← ld6 σ.P (inb := k0_off168_inb i t g) (off168 i t g) shapeCasts_S1x32x256_S32x256 r q]
        rfl
    · rintro acc σ' ⟨A', rfl, hA, hc⟩
      rw [h4] at hA hc
      refine at_bind (at_for (fun _ acc' σ' => acc' = acc ∧ σ' = { σ with A := A' }) ⟨rfl, rfl⟩ (fun k => absurd k.isLt (by omega))
        fun _ _ h => h) ?_
      rintro acc' σ' ⟨rfl, rfl⟩
      refine at_pure ⟨A', rfl, fun q => (hL q).next hn hP ht (fun r hr => hA r hr q) ?_⟩
      have hs := row_sum acc' (fun r q => ∑ g ∈ range ((i 1).val / 4 + 1),
        pop (nar (took (ix2 (0 : Fin 1) q)) (mr A (32 * g + r) q) (pl σ.P (32 - t.val) (32 * g + r) q) &&&
          pl σ.P (31 - t.val) (32 * g + r) q)) hc reduces_S32x256_S256 rfl shapeCasts_S256_S1x256 q
      rw [(hL q).count hP ht] at hs
      have ho : ones (u q) (256 * ((i 1).val + 1)) t.val (thr (ix2 (0 : Fin 1) q)) ≤ 8192 := ones_le.trans (by omega)
      have hd := (hL q).desc.need_le
      generalize shapeCast S1x256 (multiReductionI .add [0] S256 acc' 0#32 reduces_S32x256_S256 rfl) shapeCasts_S256_S1x256 = v at hs ⊢
      have hcmp : cmpi .sge v need (ix2 (0 : Fin 1) q) = BitVec.ofBool (decide ((need (ix2 (0 : Fin 1) q)).toNat ≤
            ones (u q) (256 * ((i 1).val + 1)) t.val (thr (ix2 (0 : Fin 1) q)))) := by
        have e : cmpi .sge v need (ix2 (0 : Fin 1) q) = BitVec.ofBool (BitVec.sle (need (ix2 (0 : Fin 1) q)) (v (ix2 (0 : Fin 1) q))) := rfl
        rw [e, hs, sle_nat _ _ (by omega) (by rw [BitVec.toNat_ofNat]; omega), BitVec.toNat_ofNat, Nat.mod_eq_of_lt (by omega)]
      by_cases hle : (need (ix2 (0 : Fin 1) q)).toNat ≤ ones (u q) (256 * ((i 1).val + 1)) t.val (thr (ix2 (0 : Fin 1) q))
      · left
        rw [decide_eq_true hle, show BitVec.ofBool true = 1#1 from rfl] at hcmp
        refine ⟨hle, ?_, ?_, ?_⟩
        · show select _ _ _ (ix2 (0 : Fin 1) q) = _
          rw [sel_pos _ _ _ _ hcmp]
          show thr (ix2 (0 : Fin 1) q) ||| Scalar.shli 1#32 (Scalar.subi 31#32 (Scf.iv 0#32 1#32 t)) = _
          rw [bit_of]
        · show select _ _ _ (ix2 (0 : Fin 1) q) = _
          rw [sel_pos _ _ _ _ hcmp]
        · show select _ _ _ (ix2 (0 : Fin 1) q) = _
          rw [sel_pos _ _ _ _ hcmp]
          rfl
      · right
        rw [decide_eq_false hle, show BitVec.ofBool false = 0#1 from rfl] at hcmp
        refine ⟨not_le.mp hle, ?_, ?_, ?_⟩
        · show select _ _ _ (ix2 (0 : Fin 1) q) = _
          rw [sel_neg _ _ _ _ hcmp]
        · show select _ _ _ (ix2 (0 : Fin 1) q) = _
          rw [sel_neg _ _ _ _ hcmp, ← hs]
          rfl
        · show select _ _ _ (ix2 (0 : Fin 1) q) = _
          rw [sel_neg _ _ _ _ hcmp]
          rfl
  · rintro ⟨thr, need, took⟩ σ' ⟨A, rfl, hL⟩
    rw [trips3] at hL
    have hL : ∀ q, Lane (i 1).val (u q) σ.P q 32 A (thr (ix2 (0 : Fin 1) q)) (need (ix2 (0 : Fin 1) q)) (took (ix2 (0 : Fin 1) q)) := hL
    refine at_bind (at_for (fun g (acc : IVec S32x256 32) σ' => σ' = { σ with A := A } ∧
        ∀ (r : Fin 32) (q : Fin 256), acc (ix2 r q) = BitVec.ofNat 32 (∑ g ∈ range g,
          pop (nar (took (ix2 (0 : Fin 1) q)) (mr A (32 * g + r.val) q) (pl σ.P 0 (32 * g + r.val) q)))) ?_ ?_ fun _ _ h => h) ?_
    · exact ⟨rfl, fun r q => rfl⟩
    · rintro g acc σ' ⟨rfl, hc⟩
      refine at_load hH.r7 ?_
      refine at_load hH.r6 ?_
      have hw : ∀ (r : Fin 32) (q : Fin 256), select (broadcastTo S32x256 (shapeCast S1x256 (cmpi .ne took (broadcast S1x256 0#32)) shapeCasts_S1x256_S1x256) broadcasts_S1x256_S32x256)
          (andi (fun x => A ((Rect.unit (s := S256x256) (k0_off172 i g) S32x256.size (k0_off172_inb i g)).toLoadRect.idx x)) (shapeCast S32x256 (fun x => σ.P ((Rect.unit (s := S33x256x256) (k0_off173 i g) S1x32x256.size (k0_off173_inb i g)).toLoadRect.idx x)) shapeCasts_S1x32x256_S32x256))
          (xori (fun x => A ((Rect.unit (s := S256x256) (k0_off172 i g) S32x256.size (k0_off172_inb i g)).toLoadRect.idx x)) (andi (fun x => A ((Rect.unit (s := S256x256) (k0_off172 i g) S32x256.size (k0_off172_inb i g)).toLoadRect.idx x)) (shapeCast S32x256 (fun x => σ.P ((Rect.unit (s := S33x256x256) (k0_off173 i g) S1x32x256.size (k0_off173_inb i g)).toLoadRect.idx x)) shapeCasts_S1x32x256_S32x256))) (ix2 r q) =
            nar (took (ix2 (0 : Fin 1) q)) (mr A (32 * g.val + r.val) q) (pl σ.P 0 (32 * g.val + r.val) q) := by
        intro r q
        rw [narrowed, ld7 A (off172 i g), ld6 σ.P (off173 i g)]
      refine at_pure ⟨rfl, fun r q => ?_⟩
      rw [sum_range_succ, BitVec.ofNat_add, ← hc, ← ctpop_pop, ← hw r q]
      rfl
    · rintro acc σ' ⟨rfl, hc⟩
      rw [h6] at hc
      refine at_bind (at_for (fun _ acc' σ' => acc' = acc ∧ σ' = { σ with A := A }) ⟨rfl, rfl⟩ (fun k => absurd k.isLt (by omega))
        fun _ _ h => h) ?_
      rintro acc' σ' ⟨rfl, rfl⟩
      refine at_load (hH.s3.reads fun _ => rfl) ?_
      refine at_store hH.s3 ?_
      refine at_load (hH.s4.reads fun _ => rfl) ?_
      refine at_store hH.s4 ?_
      refine at_pure ⟨_, thr, need, _, _, A, rfl, rfl, fun q => ⟨(hL q).desc, ?_, ?_, ?_⟩⟩
      · exact st3 (F := F) (inb := inb_S1x1x256_S1x1x256_0_0_0) _ (xori thr (broadcast S1x256 2147483648#32)) _ q
      · exact st3 (F := F) (inb := inb_S1x1x256_S1x1x256_0_0_0) _ need _ q
      · have hs := row_sum acc' (fun r q => ∑ g ∈ range ((i 1).val / 4 + 1),
          pop (nar (took (ix2 (0 : Fin 1) q)) (mr A (32 * g + r) q) (pl σ.P 0 (32 * g + r) q))) hc reduces_S32x256_S256 rfl
          shapeCasts_S256_S1x256 q
        rw [(hL q).count_last] at hs
        have ho : cnt (256 * ((i 1).val + 1)) (fun s => decide (u q s = thr (ix2 (0 : Fin 1) q))) ≤ 8192 := (cnt_le _ _).trans (by omega)
        have hd := (hL q).desc.need_le
        have e : ∀ v : IVec S1x256 32, andi (cmpi .sgt v need) (cmpi .ne (xori thr (broadcast S1x256 2147483648#32)) (broadcast S1x256 2147483648#32))
            (ix2 (0 : Fin 1) q) = BitVec.ofBool (BitVec.slt (need (ix2 (0 : Fin 1) q)) (v (ix2 (0 : Fin 1) q))) &&&
              BitVec.ofBool (thr (ix2 (0 : Fin 1) q) ^^^ 2147483648#32 != 2147483648#32) := fun _ => rfl
        rw [e, hs, slt_nat _ _ (by omega) (by rw [BitVec.toNat_ofNat]; omega), BitVec.toNat_ofNat, Nat.mod_eq_of_lt (by omega)]
        have hb : ∀ x y : BitVec 32, (x != y) = decide (x ≠ y) := by
          intro x y
          by_cases h : x = y
          · simp [h]
          · rw [bne_iff_ne.mpr h, decide_eq_true h]
        rw [hb]
        cases decide ((need (ix2 (0 : Fin 1) q)).toNat < cnt (256 * ((i 1).val + 1)) fun s => decide (u q s = thr (ix2 (0 : Fin 1) q))) <;>
          cases decide (thr (ix2 (0 : Fin 1) q) ^^^ 2147483648#32 ≠ 2147483648#32) <;> rfl

end Cert.Proof.Select

end
-- ==== Proof.SelBody.lean ====
/-
  The whole body: the planes it makes of the chunks of keys, and what it leaves in its three result blocks.
-/
module

public import proofs.«01_k».proof.Proof.SelDescent

@[expose] public section

noncomputable section

namespace Cert.Proof.Select

open Cert.Select Cert.Proof
open Cert.Select.Facts₀ Cert.Select.Facts
open Idealize.ShloMosaic hiding ix1 ix2 ix3
open Idealize.ShloMosaic.TcCoe Idealize.ShloMosaic.ValueIdx
open Idealize.SL Idealize.SL.RA Idealize.SL.BI
open Idealize.SL.Sem
open Finset

/-- The last plane is all ones. -/
def Full (P : S33x256x256.Idx → BitVec 32) : Prop := ∀ r < 256, ∀ q, pl P 32 r q = 4294967295#32

/-- Key `s` of column `q` for the block of queries `a`: with the sign bit turned, and the least key where `s` lies after the query. -/
def ukey (K : S1x8192x256.Idx → BitVec 32) (a : ℕ) (q : Fin 256) (s : ℕ) : BitVec 32 :=
  (if h : s < 8192 ∧ s ≤ 256 * a + q.val then K (ix3 (0 : Fin 1) (⟨s, h.1⟩ : Fin 8192) q) else 2147483648#32) ^^^ 2147483648#32

/-- Chunk `b` of the planes holds the bits of its keys. -/
def Filled (K : S1x8192x256.Idx → BitVec 32) (a b : ℕ) (P : S33x256x256.Idx → BitVec 32) : Prop :=
  ∀ (q : Fin 256), ∀ m < 32, ∀ r < 8, ∀ p < 32, (pl P m (8 * b + r) q).getLsbD p = (ukey K a q (256 * b + 8 * (31 - p) + r)).getLsbD m

/-- The words of chunk `b`. -/
def Chunk (K : S1x8192x256.Idx → BitVec 32) (a b : ℕ) (V : IVec S256x256 32) : Prop :=
  ∀ r q : Fin 256, V (ix2 r q) = ukey K a q (256 * b + r.val)

theorem pl_up (b : ℕ) (W : ℕ → IVec S8x256 32) (P : S33x256x256.Idx → BitVec 32) (m : ℕ) (hm : m < 33) (r : ℕ) (hr : r < 256) (q : Fin 256) :
    pl (up 32 b W P) m r q =
      if h : m < 32 ∧ 8 * b ≤ r ∧ r < 8 * b + 8 then W m (ix2 (⟨r - 8 * b, by omega⟩ : Fin 8) q) else pl P m r q := by
  have e : ∀ P : S33x256x256.Idx → BitVec 32, pl P m r q = P (ix3 (⟨m, hm⟩ : Fin 33) (⟨r, hr⟩ : Fin 256) q) := fun P => dif_pos ⟨hm, hr⟩
  rw [e, e]
  rfl

theorem full_up {P : S33x256x256.Idx → BitVec 32} (h : Full P) (b : ℕ) (W : ℕ → IVec S8x256 32) : Full (up 32 b W P) := by
  intro r hr q
  rw [pl_up b W P 32 (by omega) r hr q, dif_neg (by omega), h r hr q]

variable {K : S1x8192x256.Idx → BitVec 32} {a b : ℕ} {V : IVec S256x256 32}

variable [Cert.Select.Facts]

theorem filled_up (hb : b < 32) (hV : Chunk K a b V) (P : S33x256x256.Idx → BitVec 32) : Filled K a b (up 32 b (planesOf V) P) := by
  intro q m hm r hr p hp
  rw [pl_up b _ P m (by omega) _ (by omega) q, dif_pos ⟨hm, by omega, by omega⟩, planesOf_bit V m hm _ q p hp, hV]
  congr 2
  show 256 * b + (8 * (31 - p) + (8 * b + r - 8 * b)) = _
  omega

theorem filled_keep {b' : ℕ} {P : S33x256x256.Idx → BitVec 32} (hb : b < 32) (hb' : b' < 32) (hV : Chunk K a b V) (h : Filled K a b' P) :
    Filled K a b' (up 32 b (planesOf V) P) := by
  by_cases e : b' = b
  · subst e
    exact filled_up hb hV P
  · intro q m hm r hr p hp
    rw [pl_up b _ P m (by omega) _ (by omega) q, dif_neg (by omega), h q m hm r hr p hp]

theorem key_at (K : S1x8192x256.Idx → BitVec 32) {off : Fin 3 → ℕ} {inb : ∀ a, off a + S1x256x256.size a ≤ S1x8192x256.size a}
    (hoff : off = ![0, 256 * b, 0]) (hb : b < 32) (h : S1x256x256.ShapeCasts S256x256) (r q : Fin 256) :
    shapeCast S256x256 (fun x => K ((Rect.unit (s := S1x8192x256) off S1x256x256.size inb).toLoadRect.idx x)) h (ix2 r q) =
      K (ix3 (0 : Fin 1) (⟨256 * b + r.val, by omega⟩ : Fin 8192) q) := by
  subst hoff
  refine (shapeCast_1ab_ab_apply _ h r q).trans (congrArg K (funext fun d => Fin.ext ?_))
  match d with
  | ⟨0, _⟩ => rfl
  | ⟨1, _⟩ => show 256 * b + 1 * r.val = 256 * b + r.val; omega
  | ⟨2, _⟩ => show 0 + 1 * q.val = q.val; omega

/-- A chunk before the diagonal. -/
theorem chunk_before {off : Fin 3 → ℕ} {inb : ∀ a, off a + S1x256x256.size a ≤ S1x8192x256.size a}
    (hoff : off = ![0, 256 * b, 0]) (hb : b < a) (ha : a < 32) : Chunk K a b (keysOf K off inb) := by
  intro r q
  have e : keysOf K off inb (ix2 r q) = shapeCast S256x256 (fun x => K ((Rect.unit (s := S1x8192x256) off S1x256x256.size inb).toLoadRect.idx x))
      shapeCasts_S1x256x256_S256x256 (ix2 r q) ^^^ 2147483648#32 := rfl
  rw [e, key_at K hoff (by omega)]
  unfold ukey
  rw [dif_pos ⟨by omega, by omega⟩]

theorem sle_at : ∀ r q : Fin 256, IntOp.cmpi .sle (BitVec.ofNat 32 r.val) (BitVec.ofNat 32 q.val) = BitVec.ofBool (decide (r.val ≤ q.val)) := by
  intro r q
  have h : ∀ x : Fin 256, (BitVec.ofNat 32 x.val).toNat = x.val := fun x => by
    rw [BitVec.toNat_ofNat, Nat.mod_eq_of_lt (by omega)]
  show BitVec.ofBool (BitVec.sle _ _) = _
  rw [sle_nat _ _ (by rw [h]; omega) (by rw [h]; omega), h, h]

/-- The chunk on the diagonal, as the body forms it. -/
def diag (K : S1x8192x256.Idx → BitVec 32) (i : grid0.Coords) : IVec S256x256 32 :=
  xori (select (cmpi .sle (iota .tc S256x256 32 [0] iota_S256x256_d0_w32) (iota .tc S256x256 32 [1] iota_S256x256_d1_w32))
    (shapeCast S256x256 (fun x => K ((Rect.unit (s := S1x8192x256) (k0_off1 i) S1x256x256.size (k0_off1_inb i)).toLoadRect.idx x)) shapeCasts_S1x256x256_S256x256)
    (broadcast S256x256 2147483648#32)) (broadcast S256x256 2147483648#32)

theorem chunk_diag (i : grid0.Coords) : Chunk K (i 1).val (i 1).val (diag K i) := by
  intro r q
  have hi : (i 1).val < 32 := (i 1).isLt
  have e : diag K i (ix2 r q) = (if IntOp.cmpi .sle (BitVec.ofNat 32 r.val) (BitVec.ofNat 32 q.val) = 1 then
      shapeCast S256x256 (fun x => K ((Rect.unit (s := S1x8192x256) (k0_off1 i) S1x256x256.size (k0_off1_inb i)).toLoadRect.idx x)) shapeCasts_S1x256x256_S256x256 (ix2 r q)
      else 2147483648#32) ^^^ 2147483648#32 := by
    show (if IntOp.cmpi .sle (iota .tc S256x256 32 [0] iota_S256x256_d0_w32 (ix2 r q)) (iota .tc S256x256 32 [1] iota_S256x256_d1_w32 (ix2 r q)) = 1
      then _ else _) ^^^ _ = _
    rw [show iota .tc S256x256 32 [0] iota_S256x256_d0_w32 (ix2 r q) = BitVec.ofNat 32 r.val by simp [iota],
      show iota .tc S256x256 32 [1] iota_S256x256_d1_w32 (ix2 r q) = BitVec.ofNat 32 q.val by simp [iota]]
    rfl
  rw [e, key_at K (off1 i) hi, sle_at]
  unfold ukey
  congr 1
  by_cases h : r.val ≤ q.val
  · rw [decide_eq_true h, if_pos (show BitVec.ofBool true = 1 by decide), dif_pos ⟨by omega, by omega⟩]
  · rw [decide_eq_false h, if_neg (by decide), dif_neg (by omega)]

variable {F : FTy → Type} [BitOps F]
variable {U : Type} [URA U]
variable {c : Dev nD} {H : St → sProp (MT nD τ sig Unit (Elt F) ℕ U ℕ)} {defs : Defs nD τ sig (Elt F) Λ₀}
variable {i : grid0.Coords}
variable {arg2 : Memref sig .tc .vmem S1x8192x256 .i32} {harg2 : arg2.IsWhole}
  {arg3 : Memref sig .tc .vmem S1x1x256 .i32} {harg3 : arg3.IsWhole}
  {arg4 : Memref sig .tc .vmem S1x1x256 .i32} {harg4 : arg4.IsWhole}
  {arg5 : Memref sig .tc .vmem S1x1x256 .i32} {harg5 : arg5.IsWhole}
  {arg6 : Memref sig .tc .vmem S33x256x256 .i32} {harg6 : arg6.IsWhole}
  {arg7 : Memref sig .tc .vmem S256x256 .i32} {harg7 : arg7.IsWhole}

theorem first (a b : ℕ) (ha : a = 0) (hb : b = 0) : Scalar.cmpi .ne (Scalar.extui (Scalar.andi (Scalar.cmpi .eq (BitVec.ofNat 32 a) 0#32)
    (Scalar.cmpi .eq (BitVec.ofNat 32 b) 0#32)) : BitVec 32) 0#32 = 1#1 := by
  subst ha hb
  decide

/-- The store of the all-ones plane. -/
theorem full_stored (P : S33x256x256.Idx → BitVec 32) {inb : ∀ a, (![32, 0, 0] : Fin 3 → ℕ) a + S1x256x256.size a ≤ S33x256x256.size a}
    (h : S256x256.ShapeCasts S1x256x256) :
    Full (stored (s := S33x256x256) (Val := Elt F) (e := .i32) ![32, 0, 0] S1x256x256.size inb
      (shapeCast S1x256x256 (broadcast S256x256 4294967295#32) h) P) := by
  intro r hr q
  unfold pl stored
  rw [dif_pos ⟨by omega, hr⟩, dif_pos (fun a => match a with
    | ⟨0, _⟩ => (⟨Nat.le_refl _, Nat.lt_succ_self _⟩ : 32 ≤ 32 ∧ 32 < 32 + 1)
    | ⟨1, _⟩ => ⟨Nat.zero_le _, by show r < 0 + 256; omega⟩
    | ⟨2, _⟩ => ⟨Nat.zero_le _, by show q.val < 0 + 256; omega⟩)]
  rfl

theorem part83 (hH : Held (F := F) c H K arg2 arg3 arg4 arg5 arg6 arg7) (σ : St) (h0 : ¬ ((i 0).val = 0 ∧ (i 1).val = 0) → Full σ.P) :
    At defs c H σ (k0_part83 (F := F) i arg2 harg2 arg3 harg3 arg4 harg4 arg5 harg5 arg6 harg6 arg7 harg7)
      (fun r σ' => ∃ V, V = diag K i ∧ r = ⟨BitVec.ofNat 32 (i 1).val, w0 V 0, w0 V 1, w0 V 2, w0 V 3, w0 V 4, w0 V 5, w0 V 6, w0 V 7, w0 V 8, w0 V 9, w0 V 10, w0 V 11, w0 V 12, w0 V 13, w0 V 14, w0 V 15, w0 V 16, w0 V 17, w0 V 18, w0 V 19, w0 V 20, w0 V 21, w0 V 22, w0 V 23, w0 V 24, w0 V 25, w0 V 26, w0 V 27, w0 V 28, w0 V 29, w0 V 30, w0 V 31⟩ ∧ ∃ P, σ' = { σ with P := P } ∧ Full P) := by
  unfold k0_part83
  dsimp only
  split
  · refine at_load hH.r6 ?_
    refine at_store hH.s6 ?_
    refine at_load hH.r6 ?_
    refine at_store hH.s6 ?_
    refine at_load hH.r2 ?_
    exact at_pure ⟨_, rfl, rfl, _, rfl, full_stored (F := F) (inb := inb_S33x256x256_S1x256x256_32_0_0) _ _⟩
  · rename_i hc
    refine at_load hH.r2 ?_
    exact at_pure ⟨_, rfl, rfl, σ.P, rfl, h0 fun h => hc (first _ _ h.1 h.2)⟩

/-- What one column of the three result blocks holds. -/
def Out (u : ℕ → BitVec 32) (M : ℕ) (x1 x2 x3 : BitVec 32) : Prop :=
  ∃ thr need : BitVec 32, Desc u M 32 thr need ∧ x1 = thr ^^^ 2147483648#32 ∧ x2 = need ∧
    x3 = if (need.toNat < cnt M fun s => decide (u s = thr)) ∧ thr ^^^ 2147483648#32 ≠ 2147483648#32 then 1#32 else 0#32

set_option maxHeartbeats 1600000 in
theorem body (hH : Held (F := F) c H K arg2 arg3 arg4 arg5 arg6 arg7) (σ : St) (h0 : ¬ ((i 0).val = 0 ∧ (i 1).val = 0) → Full σ.P) :
    At defs c H σ (cc0_select (F := F) i arg2 harg2 arg3 harg3 arg4 harg4 arg5 harg5 arg6 harg6 arg7 harg7)
      (fun _ σ' => Full σ'.P ∧ ∀ q, Out (ukey K (i 1).val q) (256 * ((i 1).val + 1)) (σ'.o1 (ix3 (0 : Fin 1) (0 : Fin 1) q))
        (σ'.o2 (ix3 (0 : Fin 1) (0 : Fin 1) q)) (σ'.o3 (ix3 (0 : Fin 1) (0 : Fin 1) q))) := by
  have hi : (i 1).val < 32 := (i 1).isLt
  obtain ⟨b, hbe⟩ : ∃ b, (i 1).val = b := ⟨_, rfl⟩
  have hb : k0_off2 i 1 = 8 * b := hbe ▸ off2 i
  refine at_bind (part83 hH σ h0) fun r σ' h => ?_
  obtain ⟨V, hV, rfl, P₀, rfl, hF₀⟩ := h
  generalize hσ : ({ σ with P := P₀ } : St) = σ₀
  refine at_ret (part84 V) ?_
  refine at_ret (part85 V) ?_
  refine at_ret (part86 V) ?_
  refine at_ret (part87 V) ?_
  refine at_ret (part88 V) ?_
  refine at_ret (part89 V) ?_
  refine at_ret (part90 V) ?_
  refine at_ret (part91 V) ?_
  refine at_ret (part92 V) ?_
  refine at_ret (part93 V) ?_
  refine at_ret (part94 V) ?_
  refine at_ret (part95 V) ?_
  refine at_ret (part96 V) ?_
  refine at_ret (part97 V) ?_
  refine at_ret (part98 V) ?_
  refine at_ret (part99 V) ?_
  refine at_up_zero b (planesOf V) ?_
  refine at_bind (part100 hH _ σ₀ b hb V) fun r σ' h => ?_
  obtain ⟨_, rfl, rfl⟩ := h
  refine at_bind (part101 hH _ σ₀ b hb V) fun r σ' h => ?_
  obtain ⟨rfl, rfl⟩ := h
  refine at_bind (part102 hH _ σ₀ b hb V) fun r σ' h => ?_
  obtain ⟨rfl, rfl⟩ := h
  refine at_bind (part103 hH _ _ σ₀ b hb V) fun r σ' h => ?_
  obtain ⟨_, _, _, _, rfl, rfl⟩ := h
  refine at_bind (part104 hH _ _ _ _ _ _ _ (fun t => 2 * t) (fun t => min (2 * t + 1) ((i 1).val - 1)) (off35 i) (off68 i) (trips2 i)
    (fun t P => Full P ∧ Filled K (i 1).val (i 1).val P ∧ ∀ d, d < 2 * t → d < (i 1).val → Filled K (i 1).val d P) ?_ ?_) fun r σ' h => ?_
  · subst hbe hσ
    subst hV
    exact ⟨full_up hF₀ _ _, filled_up hi (chunk_diag i) _, fun d hd => absurd hd (by omega)⟩
  · rintro t P ⟨h1, h2, h3⟩
    have ht := lt_of_lt_of_eq t.isLt (trips1 i)
    have hc1 : Chunk K (i 1).val (2 * t.val) (keysOf K (k0_off34 i t) (k0_off34_inb i t)) := chunk_before (off34 i t) (by omega) hi
    have hc2 : Chunk K (i 1).val (min (2 * t.val + 1) ((i 1).val - 1)) (keysOf K (k0_off67 i t) (k0_off67_inb i t)) :=
      chunk_before (off67 i t) (by omega) hi
    refine ⟨full_up (full_up h1 _ _) _ _, filled_keep (by omega) hi hc2 (filled_keep (by omega) hi hc1 h2), fun d hd hd' => ?_⟩
    by_cases e1 : d < 2 * t.val
    · exact filled_keep (by omega) (by omega) hc2 (filled_keep (by omega) (by omega) hc1 (h3 d e1 hd'))
    by_cases e2 : d = 2 * t.val
    · subst e2
      exact filled_keep (by omega) (by omega) hc2 (filled_up (by omega) hc1 _)
    · have e3 : d = min (2 * t.val + 1) ((i 1).val - 1) := by omega
      rw [e3]
      exact filled_up (by omega) hc2 _
  obtain ⟨v939, rfl, P, rfl, h1, h2, h3⟩ := h
  rw [trips1] at h3
  have hG : Good (i 1).val (ukey K (i 1).val) P := by
    refine ⟨h1, fun q m hm r hr p hp => ?_⟩
    have hf : Filled K (i 1).val (r / 8) P := by
      by_cases e : r / 8 = (i 1).val
      · rw [e]; exact h2
      · exact h3 _ (by omega) (by omega)
    have := hf q m hm (r % 8) (by omega) p hp
    rw [show 8 * (r / 8) + r % 8 = r by omega] at this
    exact this
  refine at_bind (part105 hH _ _ _ hG) fun r σ' h => ?_
  obtain ⟨v971, thr, need, o1, o2, A, rfl, rfl, hq⟩ := h
  refine at_load (hH.s5.reads fun _ => rfl) ?_
  refine at_store hH.s5 ?_
  refine at_pure ⟨h1, fun q => ?_⟩
  obtain ⟨hD, ho1, ho2, hv⟩ := hq q
  refine ⟨_, _, hD, ho1, ho2, ?_⟩
  refine (st3 (F := F) (inb := inb_S1x1x256_S1x1x256_0_0_0) _ (select v971 (broadcast S1x256 1#32) (broadcast S1x256 0#32)) _ q).trans ?_
  rw [← Bool.decide_and] at hv
  by_cases hc : ((need (ix2 (0 : Fin 1) q)).toNat < cnt (256 * ((i 1).val + 1)) fun s => decide (ukey K (i 1).val q s = thr (ix2 (0 : Fin 1) q))) ∧
      thr (ix2 (0 : Fin 1) q) ^^^ 2147483648#32 ≠ 2147483648#32
  · rw [decide_eq_true hc] at hv
    rw [if_pos hc, sel_pos _ _ _ _ hv]
    rfl
  · rw [decide_eq_false hc] at hv
    rw [if_neg hc, sel_neg _ _ _ _ hv]
    rfl

end Cert.Proof.Select

end
-- ==== Proof.SelRank.lean ====
/-
  The 256th of the keys in falling order: the descent's threshold is that key, what the descent still wants is 256 less the
  number of greater keys, and the keys outside the block's reach, all of them least, change neither.
-/
module

public import proofs.«01_k».proof.Proof.SelBody
public import Idealize.ShloMosaic.Lib.SortFacts

@[expose] public section

noncomputable section

namespace Cert.Proof.Select

open Finset

theorem cnt_card (M : ℕ) (p : ℕ → Bool) : cnt M p = (univ.filter fun s : Fin M => p s.val = true).card := by
  unfold cnt
  rw [Finset.sum_range, Finset.card_filter]
  refine sum_congr rfl fun s _ => ?_
  cases p s.val <;> rfl

theorem cnt_mono {M : ℕ} {p q : ℕ → Bool} (h : ∀ s, p s = true → q s = true) : cnt M p ≤ cnt M q := by
  unfold cnt
  refine sum_le_sum fun s _ => ?_
  have := h s
  cases hp : p s
  · exact Nat.zero_le _
  · rw [h s hp]

/-- Indices past `M` that do not count. -/
theorem cnt_more {M N : ℕ} (h : M ≤ N) {p : ℕ → Bool} (hp : ∀ s, M ≤ s → p s = false) : cnt N p = cnt M p := by
  unfold cnt
  symm
  refine sum_subset (range_subset_range.mpr h) fun s _ hs => ?_
  rw [mem_range, not_lt] at hs
  rw [hp s hs]
  rfl

theorem cnt_le_more {M N : ℕ} (h : M ≤ N) (p : ℕ → Bool) : cnt M p ≤ cnt N p := by
  unfold cnt
  exact sum_le_sum_of_subset (range_subset_range.mpr h)

theorem cnt_split (M : ℕ) (k : ℕ → ℕ) (a : ℕ) :
    cnt M (fun s => decide (a ≤ k s)) = cnt M (fun s => decide (a < k s)) + cnt M (fun s => decide (k s = a)) := by
  unfold cnt
  rw [← sum_add_distrib]
  refine sum_congr rfl fun s _ => ?_
  by_cases h1 : a < k s
  · have h2 : a ≤ k s := by omega
    have h3 : ¬ k s = a := by omega
    simp [h1, h2, h3]
  · by_cases h3 : k s = a
    · have h2 : a ≤ k s := by omega
      simp [h1, h2, h3]
    · have h2 : ¬ a ≤ k s := by omega
      simp [h1, h2, h3]

/-- The keys in falling order: fewer than 256 are greater than the one at place 255. -/
theorem rank_lt {k : ℕ → ℕ} {π : Fin 8192 → Fin 8192} (hs : Function.Surjective π) (ho : ∀ i j, i < j → k (π j).val ≤ k (π i).val) :
    cnt 8192 (fun s => decide (k (π ⟨255, by decide⟩).val < k s)) < 256 := by
  rw [cnt_card]
  have h : (univ.filter fun s : Fin 8192 => decide (k (π ⟨255, by decide⟩).val < k s.val) = true) ⊆
      (univ : Finset (Fin 255)).image fun i => π ⟨i.val, by omega⟩ := by
    intro s h
    rw [mem_filter] at h
    have h := of_decide_eq_true h.2
    obtain ⟨i, rfl⟩ := hs s
    have hi : i.val < 255 := by
      by_contra hc
      rcases Nat.lt_or_eq_of_le (Nat.not_lt.mp hc) with h1 | h1
      · have := ho ⟨255, by decide⟩ i (Fin.mk_lt_of_lt_val h1)
        omega
      · have : (⟨255, by decide⟩ : Fin 8192) = i := Fin.ext h1
        rw [this] at h
        omega
    exact mem_image.mpr ⟨⟨i.val, hi⟩, mem_univ _, rfl⟩
  have := (card_le_card h).trans card_image_le
  rw [card_univ, Fintype.card_fin] at this
  omega

/-- And 256 are as great. -/
theorem rank_ge {k : ℕ → ℕ} {π : Fin 8192 → Fin 8192} (hi : Function.Injective π) (ho : ∀ i j, i < j → k (π j).val ≤ k (π i).val) :
    256 ≤ cnt 8192 (fun s => decide (k (π ⟨255, by decide⟩).val ≤ k s)) := by
  rw [cnt_card]
  have h : ((univ : Finset (Fin 256)).image fun i => π ⟨i.val, by omega⟩) ⊆
      (univ.filter fun s : Fin 8192 => decide (k (π ⟨255, by decide⟩).val ≤ k s.val) = true) := by
    intro s h
    obtain ⟨i, _, rfl⟩ := mem_image.mp h
    refine mem_filter.mpr ⟨mem_univ _, decide_eq_true ?_⟩
    rcases Nat.lt_or_eq_of_le (show i.val ≤ 255 by omega) with h1 | h1
    · exact ho ⟨i.val, by omega⟩ ⟨255, by decide⟩ (Fin.mk_lt_mk.mpr h1)
    · have : (⟨i.val, by omega⟩ : Fin 8192) = ⟨255, by decide⟩ := Fin.ext h1
      rw [this]
  have := card_le_card h
  rw [card_image_of_injective _ (fun a b e => Fin.ext (Fin.mk.inj (hi e))), card_univ, Fintype.card_fin] at this
  exact this

/-- The descent finds the 256th key. -/
theorem rank_unique {u : ℕ → BitVec 32} {M : ℕ} (hM : M ≤ 8192) (hz : ∀ s, M ≤ s → u s = 0#32) {thr need : BitVec 32}
    (h : Desc u M 32 thr need) {π : Fin 8192 → Fin 8192} (hi : Function.Injective π) (hs : Function.Surjective π)
    (ho : ∀ i j, i < j → (u (π j).val).toNat ≤ (u (π i).val).toNat) :
    thr = u (π ⟨255, by decide⟩).val ∧ cnt 8192 (fun s => decide (thr.toNat < (u s).toNat)) + need.toNat = 256 ∧
      (thr ≠ 0#32 → cnt 8192 (fun s => decide (u s = thr)) = cnt M fun s => decide (u s = thr)) := by
  have ha := h.all
  have hl := h.le
  have hp := h.pos
  simp only [top_full] at ha hl
  have e : cnt 8192 (fun s => decide (thr.toNat < (u s).toNat)) = cnt M (fun s => decide (thr.toNat < (u s).toNat)) :=
    cnt_more hM fun s hs => by rw [hz s hs]; exact decide_eq_false (Nat.not_lt_zero _)
  refine ⟨?_, by rw [e]; exact ha, fun h0 => cnt_more hM fun s hs => by rw [hz s hs]; exact decide_eq_false fun h => h0 h.symm⟩
  refine BitVec.eq_of_toNat_eq (thr_unique (M := 8192) (k := fun s => (u s).toNat) ?_ ?_ ?_ ?_)
  · beta_reduce
    omega
  · have := cnt_split M (fun s => (u s).toNat) thr.toNat
    have h2 := cnt_le_more hM fun s => decide (thr.toNat ≤ (u s).toNat)
    beta_reduce at this ⊢
    omega
  · exact rank_lt (k := fun s => (u s).toNat) hs ho
  · exact rank_ge (k := fun s => (u s).toNat) hi ho

/-- Turning the sign bit takes the signed order to the unsigned one. -/
theorem slt_turn (x y : BitVec 32) : BitVec.slt (x ^^^ 2147483648#32) (y ^^^ 2147483648#32) = decide (x.toNat < y.toNat) := by
  have hm : ∀ i < 32, (2147483648#32 : BitVec 32).getLsbD i = decide (i = 31) := by decide
  have e0 : ∀ z : BitVec 32, z.getLsbD 31 = false → z + 2147483648#32 = z ^^^ 2147483648#32 := by
    intro z hz
    have ho : z &&& 2147483648#32 = 0#32 := by
      refine BitVec.eq_of_getLsbD_eq fun i hi => ?_
      rw [BitVec.getLsbD_and, hm i hi]
      by_cases h : i = 31
      · subst h; rw [hz]; rfl
      · rw [decide_eq_false h, Bool.and_false]; exact BitVec.getLsbD_zero.symm
    rw [BitVec.add_eq_or_of_and_eq_zero _ _ ho]
    refine BitVec.eq_of_getLsbD_eq fun i hi => ?_
    rw [BitVec.getLsbD_or, BitVec.getLsbD_xor, hm i hi]
    by_cases h : i = 31
    · subst h; rw [hz]; rfl
    · rw [decide_eq_false h, Bool.or_false, Bool.xor_false]
  have e : ∀ z : BitVec 32, z ^^^ 2147483648#32 = z + 2147483648#32 := by
    intro z
    cases hz : z.getLsbD 31
    · exact (e0 z hz).symm
    · have h := e0 (z ^^^ 2147483648#32) (by rw [BitVec.getLsbD_xor, hz]; rfl)
      rw [BitVec.xor_assoc, BitVec.xor_self, BitVec.xor_zero] at h
      have h2 : (z ^^^ 2147483648#32) + 2147483648#32 + 2147483648#32 = z + 2147483648#32 := by rw [h]
      rw [← h2, BitVec.add_assoc]
      exact (BitVec.add_zero _).symm
  rw [e, e, BitVec.slt, decide_eq_decide, BitVec.toInt_eq_toNat_cond, BitVec.toInt_eq_toNat_cond, BitVec.toNat_add, BitVec.toNat_add]
  have hx := x.isLt
  have hy := y.isLt
  simp only [BitVec.toNat_ofNat]
  split <;> split <;> omega

theorem turn_turn (x : BitVec 32) : x ^^^ 2147483648#32 ^^^ 2147483648#32 = x := by
  rw [BitVec.xor_assoc, BitVec.xor_self, BitVec.xor_zero]

end Cert.Proof.Select

end
-- ==== Proof.SelReference.lean ====
/-
  The reference of the selection, element by element: the key at place 255 of the falling order, 256 less the number of greater keys,
  and whether more keys equal it than are wanted.
-/
module

public import proofs.«01_k».proof.Proof.SelRank
public import proofs.«01_k».proof.Proof.Gen.Select
public import proofs.«01_k».proof.Proof.Gen.SelectReference.Run

@[expose] public section

noncomputable section

namespace Cert.Proof.Select

open Cert.SelectReference Cert.SelectReference.Gen
open Idealize.ShloMosaic hiding ix1 ix2 ix3
open Idealize.ShloMosaic.TcCoe Idealize.ShloMosaic.ValueIdx
open Idealize.SL.Sem
open Finset

/-- The keys, the least key where one lies after the query. -/
def seen (X : S8x8192x8192.Idx → BitVec 32) : IVec S8x8192x8192 32 :=
  select (broadcastInDim S8x8192x8192 ![1, 2] bcast_S8192x8192_S8x8192x8192_1_2 (cmpi .sle (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) X (broadcastInDim S8x8192x8192 ![] bcast_S_S8x8192x8192 (id (constantI S_ 32 2147483648#32)))

/-- The 256th key. -/
def thrT (X : S8x8192x8192.Idx → BitVec 32) : IVec S8x1x8192 32 :=
  broadcastInDim S8x1x8192 ![0, 2] bcast_S8x8192_S8x1x8192_0_2 (shapeCast _ (extractStridedSlice S8x8192x1 ![0, 0, 255] ((Host.topK S8x8192x256 2 (IntOp.cmpi .sgt) (transpose S8x8192x8192 [0, 2, 1] (seen X) transposes_S8x8192x8192_S8x8192x8192_0_2_1) sliceFits_S8x8192x8192_S8x8192x256).1) slices_S8x8192x256_S8x8192x1_0_0_255) shapeCasts_S8x8192x1_S8x8192)

/-- How many of the keys compare so with the 256th. -/
def cntT (p : CmpIPredicate) (X : S8x8192x8192.Idx → BitVec 32) : IVec S8x8192 32 :=
  Host.reduce IntOp.addi (id (select (cmpi p (seen X) (broadcastInDim S8x8192x8192 ![0, 1, 2] bcast_S8x1x8192_S8x8192x8192_0_1_2 (thrT X))) (broadcastInDim S8x8192x8192 ![] bcast_S_S8x8192x8192 (constantI S_ 32 1#32)) (broadcastInDim S8x8192x8192 ![] bcast_S_S8x8192x8192 (constantI S_ 32 0#32)))) (constantI S_ 32 0#32) reducesTo_S8x8192x8192_S8x8192_d1 h_S_

/-- How many of the keys equal to the 256th are wanted. -/
def takeT (X : S8x8192x8192.Idx → BitVec 32) : IVec S8x1x8192 32 :=
  subi (broadcastInDim S8x1x8192 ![] bcast_S_S8x1x8192 (constantI S_ 32 256#32)) (broadcastInDim S8x1x8192 ![0, 2] bcast_S8x8192_S8x1x8192_0_2 (cntT .sgt X))

/-- Whether more keys equal the 256th than are wanted. -/
def flagT (X : S8x8192x8192.Idx → BitVec 32) : IVec S8x1x8192 32 :=
  select (andi (cmpi .sgt (broadcastInDim S8x1x8192 ![0, 2] bcast_S8x8192_S8x1x8192_0_2 (cntT .eq X)) (takeT X)) (cmpi .ne (thrT X) (broadcastInDim S8x1x8192 ![] bcast_S_S8x1x8192 (constantI S_ 32 2147483648#32)))) (broadcastInDim S8x1x8192 ![] bcast_S_S8x1x8192 (constantI S_ 32 1#32)) (broadcastInDim S8x1x8192 ![] bcast_S_S8x1x8192 (constantI S_ 32 0#32))

/-- The reference's run. -/
theorem reference_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = thrT (m ((c.tc : Thread nD τ).loc main_arg0))
      ∧ r.2.mem ((c.tc : Thread nD τ).loc main_v18) = takeT (m ((c.tc : Thread nD τ).loc main_arg0))
      ∧ r.2.mem ((c.tc : Thread nD τ).loc main_v29) = flagT (m ((c.tc : Thread nD τ).loc main_arg0))
      ∧ r.2.mem ((c.tc : Thread nD τ).loc main_arg0) = m ((c.tc : Thread nD τ).loc main_arg0) :=
  Cert.SelectReference.Value.run m ρ

variable (X : S8x8192x8192.Idx → BitVec 32) (b : Fin 8) (s t : Fin 8192)

theorem seen_apply : seen X (ix3 b s t) = if s.val ≤ t.val then X (ix3 b s t) else 2147483648#32 := by
  have hc : (broadcastInDim S8x8192x8192 ![1, 2] bcast_S8192x8192_S8x8192x8192_1_2 (cmpi .sle (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (ix3 b s t)
      = BitVec.ofBool ((BitVec.ofNat 32 s.val).sle (BitVec.ofNat 32 t.val)) := rfl
  rw [sle_nat _ _ (by rw [BitVec.toNat_ofNat, Nat.mod_eq_of_lt] <;> omega) (by rw [BitVec.toNat_ofNat, Nat.mod_eq_of_lt] <;> omega),
    BitVec.toNat_ofNat, BitVec.toNat_ofNat, Nat.mod_eq_of_lt (by omega), Nat.mod_eq_of_lt (by omega)] at hc
  unfold seen
  by_cases h : s.val ≤ t.val
  · rw [decide_eq_true h] at hc
    rw [if_pos h]
    exact sel_pos _ _ _ _ hc
  · rw [decide_eq_false h] at hc
    rw [if_neg h]
    exact sel_neg _ _ _ _ hc

/-- The sorted order of a lane. -/
def place (k : Fin 8192) : Fin 8192 :=
  sortedFrom (fun k k' => IntOp.cmpi .sgt (seen X (ix3 b k t)) (seen X (ix3 b k' t)) == 1#1) k

theorem topK_apply {n0 n1 n2 K : ℕ} (hK : K ≤ n2) (x : (⟨3, ![n0, n1, n2]⟩ : Shape).Idx → BitVec 32) (h) (i0 : Fin n0) (i1 : Fin n1) (j : Fin K) :
    (Host.topK (s := ⟨3, ![n0, n1, n2]⟩) ⟨3, ![n0, n1, K]⟩ 2 (IntOp.cmpi .sgt) x h).1 (ix3 i0 i1 j) =
      x (ix3 i0 i1 (sortedFrom (fun k k' => IntOp.cmpi .sgt (x (ix3 i0 i1 k)) (x (ix3 i0 i1 k')) == 1#1) (⟨j.val, by omega⟩ : Fin n2))) := by
  have al : ∀ (i k : Fin n2), Shape.Idx.along (s := ⟨3, ![n0, n1, n2]⟩) (ix3 i0 i1 i) (2 : Fin 3) k = ix3 i0 i1 k := by
    intro i k
    funext a
    match a with
    | ⟨0, _⟩ => rfl
    | ⟨1, _⟩ => rfl
    | ⟨2, _⟩ => rfl
  unfold Host.topK
  dsimp only
  rw [extractStridedSlice_apply (fun _ => 0) _ h (ix3 i0 i1 j) (ix3 i0 i1 (⟨j.val, by omega⟩ : Fin n2)) (fun a => by
    match a with
    | ⟨0, _⟩ => exact (Nat.zero_add _).symm
    | ⟨1, _⟩ => exact (Nat.zero_add _).symm
    | ⟨2, _⟩ => exact (Nat.zero_add _).symm)]
  unfold Host.sort2
  rw [dif_pos (show 2 < (⟨3, ![n0, n1, n2]⟩ : Shape).rank from (by decide : 2 < 3))]
  generalize (⟨j.val, by omega⟩ : Fin n2) = i
  show x (Shape.Idx.along (s := ⟨3, ![n0, n1, n2]⟩) (ix3 i0 i1 i) (2 : Fin 3)
    (sortedFrom (fun k k' : Fin n2 => IntOp.cmpi .sgt (x (Shape.Idx.along (s := ⟨3, ![n0, n1, n2]⟩) (ix3 i0 i1 i) (2 : Fin 3) k)) (x (Shape.Idx.along (s := ⟨3, ![n0, n1, n2]⟩) (ix3 i0 i1 i) (2 : Fin 3) k')) == 1#1) i)) = _
  simp only [al]
  exact congrArg x (al i _)

theorem last_apply {n0 n1 n2 k : ℕ} (x : (⟨3, ![n0, n1, n2]⟩ : Shape).Idx → BitVec 32) (hk : k < n2)
    (h : (⟨3, ![n0, n1, n2]⟩ : Shape).Slices ![0, 0, k] ⟨3, ![n0, n1, 1]⟩) (h' : (⟨3, ![n0, n1, 1]⟩ : Shape).ShapeCasts ⟨2, ![n0, n1]⟩)
    (hb : (⟨2, ![n0, n1]⟩ : Shape).BroadcastsInDim ⟨3, ![n0, 1, n1]⟩ ![0, 2]) (h0 : n0 ≠ 1) (h1 : n1 ≠ 1) (i0 : Fin n0) (i1 : Fin n1) :
    broadcastInDim ⟨3, ![n0, 1, n1]⟩ ![0, 2] hb (shapeCast ⟨2, ![n0, n1]⟩ (extractStridedSlice ⟨3, ![n0, n1, 1]⟩ ![0, 0, k] x h) h') (ix3 i0 (0 : Fin 1) i1) =
      x (ix3 i0 i1 (⟨k, hk⟩ : Fin n2)) := by
  rw [broadcastInDim_apply _ _ _ _ (ix2 i0 i1) (fun a => by
    match a with
    | ⟨0, _⟩ => exact (if_neg h0).symm
    | ⟨1, _⟩ => exact (if_neg h1).symm)]
  rw [shapeCast_apply _ _ (ix2 i0 i1) (ix3 i0 i1 (0 : Fin 1)) (by
    rw [Shape.rowMajor_val_three, Shape.rowMajor_val_two]
    show (i0.val * n1 + i1.val) * 1 + 0 = i0.val * n1 + i1.val
    omega)]
  exact extractStridedSlice_apply _ _ _ _ _ (fun a => by
    match a with
    | ⟨0, _⟩ => exact (Nat.zero_add _).symm
    | ⟨1, _⟩ => exact (Nat.zero_add _).symm
    | ⟨2, _⟩ => rfl)

theorem thr_apply : thrT X (ix3 b (0 : Fin 1) t) = seen X (ix3 b (place X b t ⟨255, by decide⟩) t) := by
  have hx : ∀ k : Fin 8192, transpose S8x8192x8192 [0, 2, 1] (seen X) transposes_S8x8192x8192_S8x8192x8192_0_2_1 (ix3 b t k) = seen X (ix3 b k t) :=
    fun k => transpose_ix3_021_apply _ _ _ _ _
  unfold thrT place
  generalize transpose S8x8192x8192 [0, 2, 1] (seen X) transposes_S8x8192x8192_S8x8192x8192_0_2_1 = y at hx ⊢
  refine (last_apply (n0 := 8) (n1 := 8192) (n2 := 256) (k := 255) _ (by decide) _ _ _ (by decide) (by decide) b t).trans ?_
  refine (topK_apply (n0 := 8) (n1 := 8192) (n2 := 8192) (K := 256) (by decide) y _ b t (⟨255, by decide⟩ : Fin 256)).trans ?_
  simp only [hx]

theorem cnt_apply (p : CmpIPredicate) (q : ℕ → Bool)
    (hq : ∀ s : Fin 8192, IntOp.cmpi p (seen X (ix3 b s t)) (thrT X (ix3 b (0 : Fin 1) t)) = BitVec.ofBool (q s.val)) :
    cntT p X (ix2 b t) = BitVec.ofNat 32 (cnt 8192 q) := by
  unfold cntT
  rw [Host.reduce_eq_fold, Shape.ReducesTo.fold_fiber_r3_a1]
  have e : ∀ s : Finset (Fin 8192), ∀ g : Fin 8192 → BitVec 32, (∀ r, g r = BitVec.ofNat 32 (q r.val).toNat) →
      s.fold IntOp.addi 0#32 g = BitVec.ofNat 32 (∑ r ∈ s, (q r.val).toNat) := by
    intro s g hg
    induction s using Finset.induction_on with
    | empty => rfl
    | insert a s ha ih =>
      rw [Finset.fold_insert ha, Finset.sum_insert ha, ih, hg]
      exact (BitVec.ofNat_add _ _).symm
  refine (e univ _ fun r => ?_).trans ?_
  · have h := hq r
    cases hr : q r.val
    · rw [hr] at h
      exact sel_neg _ _ _ _ h
    · rw [hr] at h
      exact sel_pos _ _ _ _ h
  · unfold cnt
    rw [Finset.sum_range]

/-- The keys of a lane's block, as the reference sees them. -/
theorem seen_ukey (K : Cert.Select.S1x8192x256.Idx → BitVec 32) (a : ℕ) (q : Fin 256) (ht : t.val = 256 * a + q.val)
    (hK : ∀ s : Fin 8192, K (ix3 (0 : Fin 1) s q) = X (ix3 b s t)) : seen X (ix3 b s t) = ukey K a q s.val ^^^ 2147483648#32 := by
  rw [seen_apply]
  unfold ukey
  rw [turn_turn, ht]
  by_cases h : s.val ≤ 256 * a + q.val
  · rw [if_pos h, dif_pos ⟨s.isLt, h⟩, ← hK]
  · rw [if_neg h, dif_neg (fun h' => h h'.2)]

theorem sgt_turn (x y : BitVec 32) : IntOp.cmpi .sgt (x ^^^ 2147483648#32) (y ^^^ 2147483648#32) = BitVec.ofBool (decide (y.toNat < x.toNat)) := by
  show BitVec.ofBool (BitVec.slt (y ^^^ 2147483648#32) (x ^^^ 2147483648#32)) = _
  rw [slt_turn]

theorem eq_turn (x y : BitVec 32) : IntOp.cmpi .eq (x ^^^ 2147483648#32) (y ^^^ 2147483648#32) = BitVec.ofBool (decide (x = y)) := by
  show BitVec.ofBool (x ^^^ 2147483648#32 == y ^^^ 2147483648#32) = _
  by_cases h : x = y
  · rw [h, decide_eq_true rfl, beq_self_eq_true]
  · rw [decide_eq_false h, beq_eq_false_iff_ne.mpr fun h' => h (by rw [← turn_turn x, h', turn_turn])]

/-- The flag, from the number wanted, the number equal and the key. -/
theorem flag_bit (x y : BitVec 32) (n : ℕ) (hx : x.toNat ≤ 256) (hn : n ≤ 8192) :
    IntOp.cmpi .sgt (BitVec.ofNat 32 n) x &&& IntOp.cmpi .ne y 2147483648#32 = BitVec.ofBool (decide (x.toNat < n) && (y != 2147483648#32)) := by
  show BitVec.ofBool (x.slt (BitVec.ofNat 32 n)) &&& BitVec.ofBool (y != 2147483648#32) = _
  have e : (BitVec.ofNat 32 n).toNat = n := by
    rw [BitVec.toNat_ofNat, Nat.mod_eq_of_lt]
    omega
  rw [slt_nat _ _ (by omega) (by omega), e]
  generalize decide (x.toNat < n) = p
  generalize (y != 2147483648#32) = p'
  cases p <;> cases p' <;> rfl

theorem ofBool_beq (p : Bool) : (BitVec.ofBool p == 1#1) = p := by cases p <;> rfl

/-- What the body leaves in a lane is what the reference computes there. -/
theorem out_eq (K : Cert.Select.S1x8192x256.Idx → BitVec 32) (a : ℕ) (q : Fin 256) (ht : t.val = 256 * a + q.val)
    (hK : ∀ s : Fin 8192, K (ix3 (0 : Fin 1) s q) = X (ix3 b s t)) {x1 x2 x3 : BitVec 32}
    (h : Out (ukey K a q) (256 * (a + 1)) x1 x2 x3) :
    x1 = thrT X (ix3 b (0 : Fin 1) t) ∧ x2 = takeT X (ix3 b (0 : Fin 1) t) ∧ x3 = flagT X (ix3 b (0 : Fin 1) t) := by
  obtain ⟨thr, need, hD, e1, e2, e3⟩ := h
  subst x1 x2 x3
  have hs := fun s => seen_ukey X b s t K a q ht hK
  have ha : a < 32 := by
    have := t.isLt
    omega
  have hz : ∀ s, 256 * (a + 1) ≤ s → ukey K a q s = 0#32 := by
    intro s h
    unfold ukey
    rw [dif_neg (fun h' => by have := h'.2; have := q.isLt; omega)]
    exact BitVec.xor_self
  have hR : (fun k k' : Fin 8192 => IntOp.cmpi .sgt (seen X (ix3 b k t)) (seen X (ix3 b k' t)) == 1#1) =
      fun k k' => decide ((ukey K a q k'.val).toNat < (ukey K a q k.val).toNat) := by
    funext k k'
    rw [hs, hs, sgt_turn, ofBool_beq]
  have hthr := thr_apply X b t
  unfold place at hthr
  rw [hR, hs] at hthr
  generalize hu : ukey K a q = u at *
  obtain ⟨h1, h2, h3⟩ := rank_unique (by omega) hz hD
    (sortedFrom_injective fun k k' : Fin 8192 => decide ((u k'.val).toNat < (u k.val).toNat)) (sortedFrom_surjective _)
    (fun i j hij => by
      have := sortedFrom_noInversion (fun k k' : Fin 8192 => decide ((u k'.val).toNat < (u k.val).toNat))
        (fun k k' : Fin 8192 => decide ((u k'.val).toNat < (u k.val).toNat))
        (fun a b h => decide_eq_false (by have := of_decide_eq_true h; omega)) (fun _ _ h => h)
        (fun a b c h h' => decide_eq_false (by have := of_decide_eq_false h; have := of_decide_eq_false h'; omega)) i j hij
      have := of_decide_eq_false this
      omega)
  rw [← h1] at hthr
  have hle := hD.need_le
  have hc : cntT .sgt X (ix2 b t) = BitVec.ofNat 32 (cnt 8192 fun s => decide (thr.toNat < (u s).toNat)) :=
    cnt_apply X b t _ _ fun s => by rw [hs, hthr, sgt_turn]
  have he : cntT .eq X (ix2 b t) = BitVec.ofNat 32 (cnt 8192 fun s => decide (u s = thr)) :=
    cnt_apply X b t _ _ fun s => by
      rw [hs, hthr, eq_turn]
  have hb : ∀ y : IVec S8x8192 32, broadcastInDim S8x1x8192 ![0, 2] bcast_S8x8192_S8x1x8192_0_2 y (ix3 b (0 : Fin 1) t) = y (ix2 b t) :=
    fun y => broadcastInDim_apply _ _ _ _ (ix2 b t) (fun a => by
      match a with
      | ⟨0, _⟩ => rfl
      | ⟨1, _⟩ => rfl)
  have htake : takeT X (ix3 b (0 : Fin 1) t) = need := by
    show 256#32 - broadcastInDim S8x1x8192 ![0, 2] bcast_S8x8192_S8x1x8192_0_2 (cntT .sgt X) (ix3 b (0 : Fin 1) t) = _
    rw [hb, hc]
    apply BitVec.eq_of_toNat_eq
    rw [BitVec.toNat_sub, BitVec.toNat_ofNat, BitVec.toNat_ofNat]
    omega
  refine ⟨hthr.symm, htake.symm, ?_⟩
  have hn : cnt 8192 (fun s => decide (u s = thr)) ≤ 8192 := cnt_le _ _
  have hf : andi (cmpi .sgt (broadcastInDim S8x1x8192 ![0, 2] bcast_S8x8192_S8x1x8192_0_2 (cntT .eq X)) (takeT X)) (cmpi .ne (thrT X) (broadcastInDim S8x1x8192 ![] bcast_S_S8x1x8192 (constantI S_ 32 2147483648#32))) (ix3 b (0 : Fin 1) t) =
      BitVec.ofBool (decide (need.toNat < cnt 8192 fun s => decide (u s = thr)) && (thr ^^^ 2147483648#32 != 2147483648#32)) := by
    show IntOp.cmpi .sgt (broadcastInDim S8x1x8192 ![0, 2] bcast_S8x8192_S8x1x8192_0_2 (cntT .eq X) (ix3 b (0 : Fin 1) t)) (takeT X (ix3 b (0 : Fin 1) t))
      &&& IntOp.cmpi .ne (thrT X (ix3 b (0 : Fin 1) t)) 2147483648#32 = _
    rw [hb, he, htake, hthr, flag_bit _ _ _ hle hn]
  unfold flagT
  by_cases h0 : thr ^^^ 2147483648#32 = 2147483648#32
  · rw [if_neg (fun h => h.2 h0)]
    rw [h0] at hf
    refine Eq.symm ((sel_neg _ _ _ _ (hf.trans ?_)).trans rfl)
    generalize decide (need.toNat < cnt 8192 fun s => decide (u s = thr)) = p
    cases p <;> rfl
  · rw [h3 (fun h => h0 (by rw [h]; rfl))] at hf
    by_cases h4 : need.toNat < cnt (256 * (a + 1)) fun s => decide (u s = thr)
    · rw [if_pos ⟨h4, h0⟩]
      refine Eq.symm ((sel_pos _ _ _ _ (hf.trans ?_)).trans rfl)
      rw [decide_eq_true h4, (bne_iff_ne).mpr h0]
      rfl
    · rw [if_neg (fun h => h4 h.1)]
      refine Eq.symm ((sel_neg _ _ _ _ (hf.trans ?_)).trans rfl)
      rw [decide_eq_false h4]
      rfl

end Cert.Proof.Select

end
-- ==== Proof.SelFrame.lean ====
/-
  The selection's run: at every grid point the body leaves in its three result blocks what the reference computes there, so the call
  ends with the reference's three results, its argument as it was and every counter at zero.
-/
module

public import proofs.«01_k».proof.Defs
public import proofs.«01_k».proof.Proof.SelReference
public import proofs.«01_k».proof.Proof.Gen.Select.Frame
public import Idealize.ShloMosaic.Lib.Pipeline.ValueKit

@[expose] public section

noncomputable section

namespace Cert.Proof.Select

open Cert.Select Cert.Select.Gen Cert.Proof
open Idealize.ShloMosaic hiding ix1 ix2 ix3
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body runs from: its block of keys, its result blocks and its scratch buffers at what the state says. -/
def held (c : Dev nD) (t : Fin cfg0.N) (σ : St) : sProp 𝕄 :=
  iprop(owns c (st0_0 t) fullShare (iblk m c 0 t) ∗ owns c (st0_1 t) fullShare σ.o1 ∗ owns c (st0_2 t) fullShare σ.o2
    ∗ owns c (st0_3 t) fullShare σ.o3 ∗ owns c (Memref.whole cc0_scratch0) fullShare σ.P ∗ owns c (Memref.whole cc0_scratch1) fullShare σ.A)

theorem held_ok (c : Dev nD) (t : Fin cfg0.N) :
    Held (F := F) c (held m c t) (iblk m c 0 t) (st0_0 t) (st0_1 t) (st0_2 t) (st0_3 t) (Memref.whole cc0_scratch0) (Memref.whole cc0_scratch1) where
  r2 := by
    intro σ
    unfold held
    iintro ⟨H0, H⟩
    iexists fullShare
    isplitl [H0]; · iexact H0
    iintro H0
    isplitl [H0]; · iexact H0
    iexact H
  s3 := by
    intro σ
    unfold held
    iintro ⟨H0, H1, H⟩
    isplitl [H1]; · iexact H1
    iintro %X H1
    isplitl [H0]; · iexact H0
    isplitl [H1]; · iexact H1
    iexact H
  s4 := by
    intro σ
    unfold held
    iintro ⟨H0, H1, H2, H⟩
    isplitl [H2]; · iexact H2
    iintro %X H2
    isplitl [H0]; · iexact H0
    isplitl [H1]; · iexact H1
    isplitl [H2]; · iexact H2
    iexact H
  s5 := by
    intro σ
    unfold held
    iintro ⟨H0, H1, H2, H3, H⟩
    isplitl [H3]; · iexact H3
    iintro %X H3
    isplitl [H0]; · iexact H0
    isplitl [H1]; · iexact H1
    isplitl [H2]; · iexact H2
    isplitl [H3]; · iexact H3
    iexact H
  s6 := by
    intro σ
    unfold held
    iintro ⟨H0, H1, H2, H3, H4, H5⟩
    isplitl [H4]; · iexact H4
    iintro %X H4
    isplitl [H0]; · iexact H0
    isplitl [H1]; · iexact H1
    isplitl [H2]; · iexact H2
    isplitl [H3]; · iexact H3
    isplitl [H4]; · iexact H4
    iexact H5
  s7 := by
    intro σ
    unfold held
    iintro ⟨H0, H1, H2, H3, H4, H5⟩
    isplitl [H5]; · iexact H5
    iintro %X H5
    isplitl [H0]; · iexact H0
    isplitl [H1]; · iexact H1
    isplitl [H2]; · iexact H2
    isplitl [H3]; · iexact H3
    isplitl [H4]; · iexact H4
    iexact H5

/-- Between the points: the planes and the mask at some contents, the last plane all ones after the first point. -/
def between (c : Dev nD) (k : ℕ) : sProp 𝕄 :=
  iprop((∃ P : S33x256x256.Idx → BitVec 32, ∃ A : S256x256.Idx → BitVec 32, ⌜k ≠ 0 → Full P⌝
    ∗ owns (Val := Elt F) (e := .i32) c (Memref.whole cc0_scratch0) fullShare P ∗ owns (Val := Elt F) (e := .i32) c (Memref.whole cc0_scratch1) fullShare A)
    ∗ ∃ r, prngReg c r)

/-- The reference's results of the argument as launched. -/
abbrev arg (c : Dev nD) : S8x8192x8192.Idx → BitVec 32 := m ((c.tc : Thread nD τ).loc main_arg0)

/-- The proof data: the argument as launched, its blocks left in place, the blocks of three given arrays left in the results. -/
def datOf (G1 G2 G3 : Dev nD → S8x1x8192.Idx → BitVec 32) (p : Fin 1) (c : Dev nD) : Dat τ (Elt F) Unit ℕ (UR sig nD τ) ℕ (cfgs p) c where
  A w := V m c (Pipeline.arrRef spec0 w)
  after := fun
    | 0 => iblk m c 0
    | 1 => fun t y => G1 c (((cfg0.win 1).blk t).view.emb y)
    | 2 => fun t y => G2 c (((cfg0.win 2).blk t).view.emb y)
    | 3 => fun t y => G3 c (((cfg0.win 3).blk t).view.emb y)
    | ⟨_ + 4, h⟩ => absurd h (Nat.not_lt.2 (Nat.le_add_left _ _))
  Φ k := between c k.val
  q _ := fullShare
  owed _ := 0

/-- The same with the reference's three results. -/
abbrev dat (p : Fin 1) (c : Dev nD) : Dat τ (Elt F) Unit ℕ (UR sig nD τ) ℕ (cfgs p) c :=
  datOf m (fun c => thrT (arg m c)) (fun c => takeT (arg m c)) (fun c => flagT (arg m c)) p c

/-- The blocks' places. -/
theorem idx : ∀ t : Fin grid0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ (t.val = 0 → (grid0.coords t 0).val = 0 ∧ (grid0.coords t 1).val = 0) :=
  (by decide +kernel : ∀ t : Fin grid0.N, _)

/-- The place of a lane in a result array. -/
theorem emb1 (t : Fin cfg0.N) (q : Fin 256) : ((cfg0.win 1).blk t).view.emb (ix3 (0 : Fin 1) (0 : Fin 1) q) =
    ix3 (grid0.coords t 0 : Fin 8) (0 : Fin 1) (⟨256 * (grid0.coords t 1).val + q.val, by have : (grid0.coords t 1).val < 32 := (grid0.coords t 1).isLt; omega⟩ : Fin 8192) := by
  funext a
  apply Fin.ext
  have h := (idx t).2.1
  match a with
  | ⟨0, _⟩ =>
    show win0_1.index t 0 * 1 + 1 * 0 = (grid0.coords t 0).val
    rw [h]
    show (grid0.coords t 0).val * 1 + 1 * 0 = _
    omega
  | ⟨1, _⟩ =>
    show win0_1.index t 1 * 1 + 1 * 0 = 0
    rw [h]
    rfl
  | ⟨2, _⟩ =>
    show win0_1.index t 2 * 256 + 1 * q.val = 256 * (grid0.coords t 1).val + q.val
    rw [h]
    show (grid0.coords t 1).val * 256 + 1 * q.val = _
    omega

theorem emb2 (t : Fin cfg0.N) (q : Fin 256) : ((cfg0.win 2).blk t).view.emb (ix3 (0 : Fin 1) (0 : Fin 1) q) =
    ix3 (grid0.coords t 0 : Fin 8) (0 : Fin 1) (⟨256 * (grid0.coords t 1).val + q.val, by have : (grid0.coords t 1).val < 32 := (grid0.coords t 1).isLt; omega⟩ : Fin 8192) := by
  funext a
  apply Fin.ext
  have h := (idx t).2.2.1
  match a with
  | ⟨0, _⟩ =>
    show win0_2.index t 0 * 1 + 1 * 0 = (grid0.coords t 0).val
    rw [h]
    show (grid0.coords t 0).val * 1 + 1 * 0 = _
    omega
  | ⟨1, _⟩ =>
    show win0_2.index t 1 * 1 + 1 * 0 = 0
    rw [h]
    rfl
  | ⟨2, _⟩ =>
    show win0_2.index t 2 * 256 + 1 * q.val = 256 * (grid0.coords t 1).val + q.val
    rw [h]
    show (grid0.coords t 1).val * 256 + 1 * q.val = _
    omega

theorem emb3 (t : Fin cfg0.N) (q : Fin 256) : ((cfg0.win 3).blk t).view.emb (ix3 (0 : Fin 1) (0 : Fin 1) q) =
    ix3 (grid0.coords t 0 : Fin 8) (0 : Fin 1) (⟨256 * (grid0.coords t 1).val + q.val, by have : (grid0.coords t 1).val < 32 := (grid0.coords t 1).isLt; omega⟩ : Fin 8192) := by
  funext a
  apply Fin.ext
  have h := (idx t).2.2.2.1
  match a with
  | ⟨0, _⟩ =>
    show win0_3.index t 0 * 1 + 1 * 0 = (grid0.coords t 0).val
    rw [h]
    show (grid0.coords t 0).val * 1 + 1 * 0 = _
    omega
  | ⟨1, _⟩ =>
    show win0_3.index t 1 * 1 + 1 * 0 = 0
    rw [h]
    rfl
  | ⟨2, _⟩ =>
    show win0_3.index t 2 * 256 + 1 * q.val = 256 * (grid0.coords t 1).val + q.val
    rw [h]
    show (grid0.coords t 1).val * 256 + 1 * q.val = _
    omega

/-- The keys of a lane, read off the argument. -/
theorem block_key (c : Dev nD) (t : Fin cfg0.N) (q : Fin 256) (s : Fin 8192) : iblk m c 0 t (ix3 (0 : Fin 1) s q) =
    arg m c (ix3 (grid0.coords t 0 : Fin 8) s (⟨256 * (grid0.coords t 1).val + q.val, by have : (grid0.coords t 1).val < 32 := (grid0.coords t 1).isLt; omega⟩ : Fin 8192)) := by
  show m ((c : Thread nD τ).loc main_arg0) (((cfg0.win 0).blk t).view.emb (ix3 (0 : Fin 1) s q)) = _
  refine congrArg _ (funext fun a => Fin.ext ?_)
  have h := (idx t).1
  match a with
  | ⟨0, _⟩ =>
    show win0_0.index t 0 * 1 + 1 * 0 = (grid0.coords t 0).val
    rw [h]
    show (grid0.coords t 0).val * 1 + 1 * 0 = _
    omega
  | ⟨1, _⟩ =>
    show win0_0.index t 1 * 8192 + 1 * s.val = s.val
    rw [h]
    show 0 * 8192 + 1 * s.val = _
    omega
  | ⟨2, _⟩ =>
    show win0_0.index t 2 * 256 + 1 * q.val = 256 * (grid0.coords t 1).val + q.val
    rw [h]
    show (grid0.coords t 1).val * 256 + 1 * q.val = _
    omega

/-- An index of a result block is a lane. -/
theorem lane (y : S1x1x256.Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-- At every point the body runs, and leaves the reference's blocks. -/
theorem body_at (c : Dev nD) (t : Fin cfg0.N) (σ : St) (h0 : t.val ≠ 0 → Full σ.P) :
    At (defs₀ (F := F)) c (held m c t) σ (bodyAt0 t) fun _ σ' =>
      Full σ'.P ∧ σ'.o1 = (dat m 0 c).after 1 t ∧ σ'.o2 = (dat m 0 c).after 2 t ∧ σ'.o3 = (dat m 0 c).after 3 t := by
  refine at_mono (body (held_ok m c t) σ fun h => h0 fun h' => h ((idx t).2.2.2.2 h')) fun _ σ' h => ⟨h.1, ?_⟩
  have e : ∀ q : Fin 256, σ'.o1 (ix3 (0 : Fin 1) (0 : Fin 1) q) = _ ∧ σ'.o2 (ix3 (0 : Fin 1) (0 : Fin 1) q) = _ ∧ σ'.o3 (ix3 (0 : Fin 1) (0 : Fin 1) q) = _ :=
    fun q => out_eq (arg m c) (grid0.coords t 0) _ (iblk m c 0 t) _ q rfl (block_key m c t q) (h.2 q)
  refine ⟨funext fun y => ?_, funext fun y => ?_, funext fun y => ?_⟩
  · rw [lane y]
    exact (e _).1.trans (congrArg (thrT (arg m c)) (emb1 t (y 2))).symm
  · rw [lane y]
    exact (e _).2.1.trans (congrArg (takeT (arg m c)) (emb2 t (y 2))).symm
  · rw [lane y]
    exact (e _).2.2.trans (congrArg (flagT (arg m c)) (emb3 t (y 2))).symm

/-- The point's run, its result blocks at some contents before and at the reference's after. -/
theorem obliged (c : Dev nD) (t : Fin cfg0.N) (R : sProp 𝕄) (X1 X2 X3 : S1x1x256.Idx → BitVec 32) (P : S33x256x256.Idx → BitVec 32) (A : S256x256.Idx → BitVec 32)
    (hP : t.val ≠ 0 → Full P) :
    iprop(R ∗ held m c t ⟨X1, X2, X3, P, A⟩)
    ⊢ wp frame (wpE (Ix := Unit) (Name := ℕ) (U := UR sig nD τ) (Lvl := ℕ) (defs₀ (F := F)) Variants.none (c : Thread nD τ) none) Set.univ (bodyAt0 t) fun _ =>
      iprop(R ∗ ∃ P : S33x256x256.Idx → BitVec 32, ∃ A : S256x256.Idx → BitVec 32, ⌜Full P⌝
        ∗ held m c t ⟨(dat m 0 c).after 1 t, (dat m 0 c).after 2 t, (dat m 0 c).after 3 t, P, A⟩) := by
  have hb := body_at m c t ⟨X1, X2, X3, P, A⟩ hP
  unfold At at hb
  refine BIBase.Entails.trans (sep_mono .rfl hb) (BIBase.Entails.trans (wp_frame_l frame (wpE (Ix := Unit) (Name := ℕ) (U := UR sig nD τ) (Lvl := ℕ) (defs₀ (F := F)) Variants.none (c : Thread nD τ) none) Set.univ) (wp_mono _ _ _ fun _ => ?_))
  refine sep_mono .rfl ?_
  iintro ⟨%σ', %h, H⟩
  obtain ⟨o1, o2, o3, P', A'⟩ := σ'
  obtain ⟨hF, h1, h2, h3⟩ := h
  have h1 : o1 = _ := h1
  have h2 : o2 = _ := h2
  have h3 : o3 = _ := h3
  subst h1 h2 h3
  iexists P', A'
  isplitr; · ipureintro; exact hF
  iexact H

/-- The body's obligation to the pipeline. -/
theorem body_obligation (c : Dev nD) : BodyObligationLoose (dat m 0 c) (defs₀ (F := F)) Variants.none () Set.univ := by
  intro t
  show _ ⊢ wp frame _ Set.univ (bodyAt0 t) _
  have h0 : ∀ d, (dat m 0 c).before 0 t d = iblk m c 0 t := fun d => before0_0_of m (dat m 0 c) rfl (fun _ => rfl) t d
  rw [bigSep_W0]
  show iprop(between c t.val ∗ (dat m 0 c).owesAt () t.castSucc ∗ (∃ d, owns c (st0_0 t) fullShare ((dat m 0 c).before 0 t d))
    ∗ (∃ d, owns c (st0_1 t) fullShare ((dat m 0 c).before 1 t d)) ∗ (∃ d, owns c (st0_2 t) fullShare ((dat m 0 c).before 2 t d))
    ∗ (∃ d, owns c (st0_3 t) fullShare ((dat m 0 c).before 3 t d))) ⊢ _
  simp only [h0]
  unfold between
  iintro ⟨⟨⟨%P, %A, %hP, HP, HA⟩, HR⟩, HO, ⟨%_, H0⟩, ⟨%d1, H1⟩, ⟨%d2, H2⟩, %d3, H3⟩
  have ho := obliged m c t iprop((∃ r, prngReg c r) ∗ (dat m 0 c).owesAt () t.castSucc) ((dat m 0 c).before 1 t d1) ((dat m 0 c).before 2 t d2) ((dat m 0 c).before 3 t d3) P A hP
  refine BIBase.Entails.trans ?_ (BIBase.Entails.trans ho (wp_mono _ _ _ fun _ => ?_))
  · unfold held
    iintro ⟨⟨⟨⟨⟨⟨⟨HP, HA⟩, HR⟩, HO⟩, H0⟩, H1⟩, H2⟩, H3⟩
    isplitl [HR HO]
    · isplitl [HR]; · iexact HR
      iexact HO
    isplitl [H0]; · iexact H0
    isplitl [H1]; · iexact H1
    isplitl [H2]; · iexact H2
    isplitl [H3]; · iexact H3
    isplitl [HP]; · iexact HP
    iexact HA
  · rw [bigSep_W0]
    show _ ⊢ iprop(between c (t.val + 1) ∗ (dat m 0 c).owesAt () t.succ ∗ owns c (st0_0 t) fullShare (iblk m c 0 t)
      ∗ owns c (st0_1 t) fullShare ((dat m 0 c).after 1 t) ∗ owns c (st0_2 t) fullShare ((dat m 0 c).after 2 t)
      ∗ owns c (st0_3 t) fullShare ((dat m 0 c).after 3 t))
    unfold between held
    iintro ⟨⟨HR, HO⟩, %P', %A', %hF, H0, H1, H2, H3, HP, HA⟩
    isplitl [HP HA HR]
    · isplitl [HP HA]
      · iexists P', A'
        isplitr; · ipureintro; exact fun _ => hF
        isplitl [HP]; · iexact HP
        iexact HA
      · iexact HR
    isplitl [HO]; · iexact HO
    isplitl [H0]; · iexact H0
    isplitl [H1]; · iexact H1
    isplitl [H2]; · iexact H2
    iexact H3

/-- Before the first point the scratch buffers are at some contents. -/
theorem between_in (c : Dev nD) : Pipeline.ΦA spec0 c ⊢ (between c 0 : sProp 𝕄) := by
  unfold Pipeline.ΦA between
  rw [scopedRest0_eq c]
  simp only [owns_whole]
  iintro ⟨⟨⟨%P, HP⟩, ⟨%A, HA⟩⟩, HR⟩
  isplitr [HR]
  · iexists P, A
    isplitr; · ipureintro; exact fun h => absurd rfl h
    isplitl [HP]; · iexact HP
    iexact HA
  · iexact HR

/-- After the last point they are handed back. -/
theorem between_out (c : Dev nD) (k : ℕ) : (between c k : sProp 𝕄) ⊢ Pipeline.ΦA spec0 c := by
  unfold Pipeline.ΦA between
  rw [scopedRest0_eq c]
  simp only [owns_whole]
  iintro ⟨⟨%P, %A, %_, HP, HA⟩, HR⟩
  isplitr [HR]
  · isplitl [HP]; · iexists P; iexact HP
    iexists A; iexact HA
  · iexact HR

/-- The blocks of each result fill it. -/
theorem cover1 : (cfg0.win 1).Covers := by decide +kernel

theorem cover2 : (cfg0.win 2).Covers := by decide +kernel

theorem cover3 : (cfg0.win 3).Covers := by decide +kernel

/-- So each result ends as the array whose blocks are left in it. -/
theorem final1 (G1 G2 G3 : Dev nD → S8x1x8192.Idx → BitVec 32) (c : Dev nD) : (datOf m G1 G2 G3 0 c).arrAt 1 cfg0.N = G1 c :=
  (datOf m G1 G2 G3 0 c).arrAt_eq_of_covers 1 _ cover1 fun t _ y => rfl

theorem final2 (G1 G2 G3 : Dev nD → S8x1x8192.Idx → BitVec 32) (c : Dev nD) : (datOf m G1 G2 G3 0 c).arrAt 2 cfg0.N = G2 c :=
  (datOf m G1 G2 G3 0 c).arrAt_eq_of_covers 2 _ cover2 fun t _ y => rfl

theorem final3 (G1 G2 G3 : Dev nD → S8x1x8192.Idx → BitVec 32) (c : Dev nD) : (datOf m G1 G2 G3 0 c).arrAt 3 cfg0.N = G3 c :=
  (datOf m G1 G2 G3 0 c).arrAt_eq_of_covers 3 _ cover3 fun t _ y => rfl

/-- The call runs, leaves the reference's results, its argument as it was and every counter at zero. -/
theorem run : θ_run (defs (F := F)) (onTc (τ := τ) (main (F := F))) ⟨m, fun _ => 0, ρ⟩ (fun r => (∀ c : Dev nD,
      r.2.mem ((c.tc : Thread nD τ).loc main_v0_0) = thrT (arg m c)
      ∧ r.2.mem ((c.tc : Thread nD τ).loc main_v0_1) = takeT (arg m c)
      ∧ r.2.mem ((c.tc : Thread nD τ).loc main_v0_2) = flagT (arg m c)
      ∧ r.2.mem ((c.tc : Thread nD τ).loc main_arg0) = m ((c.tc : Thread nD τ).loc main_arg0))
      ∧ r.2.sem = fun _ => 0) :=
  Pipeline.θ_run_frame_track cfgs (dat m) 0 launch0 defs₀ Variants.none m ρ main (body_obligation m)
    (fun _ _ => by unfold Dat.share; split <;> rfl) (fun _ _ => rfl) (V m) (hmain m Variants.none) (fun _ _ => rfl)
    (fun c => between_in c) (fun c => between_out c _) _
    (fun _ h => ⟨fun c => ⟨((h.1 c).1 1).trans (final1 m _ _ _ c), ((h.1 c).1 2).trans (final2 m _ _ _ c), ((h.1 c).1 3).trans (final3 m _ _ _ c),
      ((h.1 c).1 0).trans (((dat m 0 c).arrAt_in 0 rfl _).trans (V_main_arg0 m c))⟩, h.2⟩)

/-- The call's frame. -/
theorem quiescent : Cert.quiescent_Select := fun m ρ _ =>
  θ_run_mono (run (F := Bits) m ρ) fun _ h => ⟨fun c => (h.1 c).2.2.2, h.2⟩

/-- The reference's frame. -/
theorem reference_quiescent : Cert.quiescent_SelectReference := fun m ρ _ =>
  θ_run_mono (Cert.SelectReference.Value.run (F := Bits) m ρ) fun r h =>
    ⟨fun c => (h c).2.2.2, sem_eq_zero_of_no_sems (by decide) r.2⟩

/-- The call and the reference leave the same three results, bit for bit. -/
theorem bitexact : Cert.bitexact_Select_SelectReference := fun m ρ m' ρ' _ hm =>
  ⟨fun c => thrT (arg m c), fun c => takeT (arg m c), fun c => flagT (arg m c),
    θ_run_mono (run (F := Bits) m ρ) fun _ h => h.1,
    θ_run_mono (reference_run (F := Bits) m' ρ') fun _ h c => by
      have e : m' ((c.tc : Thread Cert.SelectReference.nD Cert.SelectReference.τ).loc Cert.SelectReference.main_arg0) = arg m c := hm c
      exact ⟨(h c).1.trans (congrArg thrT e), (h c).2.1.trans (congrArg takeT e), (h c).2.2.1.trans (congrArg flagT e), (h c).2.2.2⟩⟩

end Cert.Proof.Select

end
-- ==== Proof.MoeMath.lean ====
/-
  Where the sort by groups puts a token: every group's tokens, in their order, from the first row of a block of 128
  rows, the groups one after another. Over 1024 tokens and 4 groups the places are below 1536 and no two tokens meet.
-/
module

public import Mathlib.Data.Finset.Card
public import Mathlib.Data.Fintype.Basic
public import Mathlib.Data.EReal.Operations
public import Mathlib.Algebra.BigOperators.Fin

@[expose] public section

noncomputable section

namespace Cert.Proof.Experts

variable (gp : Fin 1024 → BitVec 32)

/-- How many tokens up to `t` are of group `g`. -/
def rank (g : ℕ) (t : Fin 1024) : ℕ := (Finset.univ.filter fun u : Fin 1024 => u ≤ t ∧ gp u = BitVec.ofNat 32 g).card

/-- How many tokens are of group `g`. -/
def count (g : ℕ) : ℕ := rank gp g (Fin.last 1023)

/-- How many blocks of 128 rows group `g` takes. -/
def cap (g : ℕ) : ℕ := (count gp g + 127) / 128

/-- How many blocks the groups before `g` take. -/
def start : ℕ → ℕ
  | 0 => 0
  | g + 1 => start g + cap gp g

/-- The row of token `t`. -/
def pos (t : Fin 1024) : ℕ :=
  if gp t = 0#32 then 128 * start gp 0 + rank gp 0 t - 1 else if gp t = 1#32 then 128 * start gp 1 + rank gp 1 t - 1 else
  if gp t = 2#32 then 128 * start gp 2 + rank gp 2 t - 1 else if gp t = 3#32 then 128 * start gp 3 + rank gp 3 t - 1 else 0

variable {gp}

theorem rank_pos {g : ℕ} {t : Fin 1024} (h : gp t = BitVec.ofNat 32 g) : 0 < rank gp g t :=
  Finset.card_pos.mpr ⟨t, by simp [h]⟩

theorem rank_le (g : ℕ) (t : Fin 1024) : rank gp g t ≤ count gp g := by
  unfold count rank
  refine Finset.card_le_card fun u hu => ?_
  simp only [Finset.mem_filter, Finset.mem_univ, true_and] at hu ⊢
  exact ⟨Fin.le_last u, hu.2⟩

theorem rank_lt {g : ℕ} {t u : Fin 1024} (h : gp u = BitVec.ofNat 32 g) (htu : t < u) : rank gp g t < rank gp g u := by
  refine Finset.card_lt_card (Finset.ssubset_iff_of_subset (fun v hv => ?_) |>.mpr ⟨u, ?_, ?_⟩)
  · simp only [Finset.mem_filter, Finset.mem_univ, true_and] at hv ⊢
    exact ⟨hv.1.trans htu.le, hv.2⟩
  · simp [h]
  · simp only [Finset.mem_filter, Finset.mem_univ, true_and, not_and]
    exact fun h' => absurd htu (not_lt.mpr h')

theorem count_eq (g : ℕ) : count gp g = (Finset.univ.filter fun u : Fin 1024 => gp u = BitVec.ofNat 32 g).card := by
  unfold count rank
  congr 1
  ext u
  simp only [Finset.mem_filter, Finset.mem_univ, true_and, and_iff_right_iff_imp]
  exact fun _ => Fin.le_last u

theorem count_sum : count gp 0 + count gp 1 + count gp 2 + count gp 3 ≤ 1024 := by
  simp only [count_eq]
  have d : ∀ a b : ℕ, (BitVec.ofNat 32 a ≠ BitVec.ofNat 32 b) → Disjoint (Finset.univ.filter fun u : Fin 1024 => gp u = BitVec.ofNat 32 a)
      (Finset.univ.filter fun u : Fin 1024 => gp u = BitVec.ofNat 32 b) := by
    intro a b hab
    rw [Finset.disjoint_left]
    intro u hu hv
    simp only [Finset.mem_filter, Finset.mem_univ, true_and] at hu hv
    exact hab (hu.symm.trans hv)
  rw [← Finset.card_union_of_disjoint (d 0 1 (by decide)), ← Finset.card_union_of_disjoint, ← Finset.card_union_of_disjoint]
  · exact (Finset.card_le_univ _).trans (by simp)
  · simp only [Finset.disjoint_union_left]
    exact ⟨⟨d 0 3 (by decide), d 1 3 (by decide)⟩, d 2 3 (by decide)⟩
  · simp only [Finset.disjoint_union_left]
    exact ⟨d 0 2 (by decide), d 1 2 (by decide)⟩

theorem start_four : start gp 4 ≤ 12 := by
  have h := count_sum (gp := gp)
  simp only [start, cap]
  omega

theorem start_le {g : ℕ} (hg : g < 4) : start gp g + cap gp g ≤ 12 := by
  have h := start_four (gp := gp)
  simp only [start] at h ⊢
  rcases (by omega : g = 0 ∨ g = 1 ∨ g = 2 ∨ g = 3) with rfl | rfl | rfl | rfl <;> simp only [start] <;> omega

theorem start_mono {g g' : ℕ} (h : g < g') : start gp g + cap gp g ≤ start gp g' := by
  induction g' with
  | zero => omega
  | succ n ih =>
    simp only [start]
    rcases Nat.lt_succ_iff_lt_or_eq.mp h with h' | h'
    · have := ih h'; omega
    · subst h'; exact le_refl _

theorem pos_of {g : ℕ} (hg : g < 4) {t : Fin 1024} (h : gp t = BitVec.ofNat 32 g) : pos gp t = 128 * start gp g + rank gp g t - 1 := by
  unfold pos
  rcases (by omega : g = 0 ∨ g = 1 ∨ g = 2 ∨ g = 3) with rfl | rfl | rfl | rfl <;> rw [h] <;> simp

theorem pos_mem {g : ℕ} (hg : g < 4) {t : Fin 1024} (h : gp t = BitVec.ofNat 32 g) :
    128 * start gp g ≤ pos gp t ∧ pos gp t < 128 * (start gp g + cap gp g) := by
  have h1 := rank_pos h
  have h2 := rank_le (gp := gp) g t
  rw [pos_of hg h]
  unfold cap
  omega

theorem pos_lt {g : ℕ} (hg : g < 4) {t : Fin 1024} (h : gp t = BitVec.ofNat 32 g) : pos gp t < 1536 := by
  have := (pos_mem hg h).2
  have := start_le (gp := gp) hg
  omega

theorem pos_inj {g g' : ℕ} (hg : g < 4) (hg' : g' < 4) {t u : Fin 1024} (h : gp t = BitVec.ofNat 32 g) (h' : gp u = BitVec.ofNat 32 g')
    (e : pos gp t = pos gp u) : t = u := by
  have m1 := pos_mem hg h
  have m2 := pos_mem hg' h'
  rcases Nat.lt_trichotomy g g' with hl | rfl | hl
  · have := start_mono (gp := gp) hl; omega
  · rw [pos_of hg h, pos_of hg h'] at e
    have p1 := rank_pos h
    have p2 := rank_pos h'
    rcases lt_trichotomy t u with hl | rfl | hl
    · have := rank_lt h' hl; omega
    · rfl
    · have := rank_lt h hl; omega
  · have := start_mono (gp := gp) hl; omega

/-- A sum of one-hot coefficients keeps one term, whatever the others are. -/
theorem sum_onehot {n : ℕ} (k : Fin n) (p : Fin n → Prop) [DecidablePred p] (hp : ∀ u, p u ↔ u = k) (f : Fin n → EReal) :
    (∑ u, (if p u then (1 : EReal) else 0) * f u) = f k := by
  rw [Finset.sum_eq_single k]
  · rw [if_pos ((hp k).mpr rfl), one_mul]
  · intro u _ hu
    rw [if_neg (fun h => hu ((hp u).mp h)), zero_mul]
  · intro h; exact absurd (Finset.mem_univ k) h

/-- The ranks as sums of products of zeros and ones. -/
theorem rank_sum (g : ℕ) (t : Fin 1024) :
    (∑ u : Fin 1024, (if gp u = BitVec.ofNat 32 g then (1 : EReal) else 0) * (if u ≤ t then 1 else 0)) = ((rank gp g t : ℝ) : EReal) := by
  have e : ∀ u : Fin 1024, (if gp u = BitVec.ofNat 32 g then (1 : EReal) else 0) * (if u ≤ t then 1 else 0)
      = (((if u ≤ t ∧ gp u = BitVec.ofNat 32 g then 1 else 0 : ℝ)) : EReal) := by
    intro u
    by_cases h1 : gp u = BitVec.ofNat 32 g <;> by_cases h2 : u ≤ t <;> simp [h1, h2]
  have hsum : ∀ (s : Finset (Fin 1024)) (f : Fin 1024 → ℝ), (∑ u ∈ s, ((f u : ℝ) : EReal)) = ((∑ u ∈ s, f u : ℝ) : EReal) := by
    intro s f
    induction s using Finset.cons_induction with
    | empty => simp
    | cons a s ha ih => rw [Finset.sum_cons, Finset.sum_cons, ih, EReal.coe_add]
  rw [Finset.sum_congr rfl fun u _ => e u, hsum, rank, Finset.sum_boole]

/-- The number of blocks of a count, as the ceiling of its quotient by 128. -/
theorem ceil_cap (n : ℕ) : ⌈(n : ℝ) * (1 / 128)⌉ = (((n + 127) / 128 : ℕ) : ℤ) := by
  have h := Nat.div_add_mod (n + 127) 128
  have h' := Nat.mod_lt (n + 127) (by norm_num : 128 > 0)
  rw [Int.ceil_eq_iff]
  generalize (n + 127) / 128 = q at *
  generalize (n + 127) % 128 = r at *
  have hr : (128 : ℝ) * q + r = n + 127 := by exact_mod_cast h
  have hr' : (r : ℝ) ≤ 127 := by exact_mod_cast (by omega : r ≤ 127)
  have hr0 : (0 : ℝ) ≤ r := by positivity
  constructor
  · push_cast; linarith
  · push_cast; linarith

end Cert.Proof.Experts

end
-- ==== Proof.MoeBase.lean ====
/-
  The experts' body: the state it is run from (its blocks of the input, its result, the four scratch arrays of the packed rows
  and the eight words that say where each group's blocks of 128 rows begin and how many there are), and two more rules for
  programs run from a known state: a word read from scalar memory, and a condition that is assumed.
-/
module

public import proofs.«01_k».proof.Proof.Steps
public import proofs.«01_k».proof.Proof.MoeMath
public import proofs.«01_k».proof.ExpertsIdeal
public import Idealize.ShloMosaic.Lib.ValueLayout
public import Idealize.ShloMosaic.Lib.Pointwise

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules
variable {nD : Nat} {τ : Topo} {sig : RefSig} {Val : EltTy → Type} {Λ : Labels}
variable {U : Type} [URA U]

variable {defs : Defs nD τ sig Val Λ} {c : Dev nD} {S : Type} {H : S → sProp (MT nD τ sig Unit Val ℕ U ℕ)}

/-- A condition that holds, assumed at the head of a program. -/
theorem at_assume {α : Type} {P : Prop} {d : Decidable P} {k : PLift P → Prog (TpuEff nD τ sig Val Λ .tc) α} {σ : S}
    {Post : α → S → Prop} (hP : P) (h : At defs c H σ (k ⟨hP⟩) Post) :
    At defs c H σ (Prog.lift (.assume P d) >>= k) Post :=
  BIBase.Entails.trans h (wp_assume (defs := defs) Variants.none (c : Thread nD τ) none Set.univ hP)

/-- A word of scalar memory read at the head of a program. -/
theorem at_word {α : Type} {s : Shape} {e : EltTy} {m : Memref sig .tc .smem s e} {get : S → s.Idx → Val e}
    (hm : Reads c H m get) {r : Rect s} {h1 : r.shape.numel = 1} {hp : e.packing = 1}
    {k : Val e → Prog (TpuEff nD τ sig Val Λ .tc) α} {σ : S} {Post : α → S → Prop}
    (h : At defs c H σ (k (get σ (r.toLoadRect.idx (Shape.Idx.first (h1.symm ▸ Nat.one_pos))))) Post) :
    At defs c H σ (smemLoad m r h1 hp >>= k) Post :=
  at_load (k := fun f => k (f (Shape.Idx.first (h1.symm ▸ Nat.one_pos)))) hm h

/-- A memref that can be set can be read. -/
theorem Sets.reads' {sp : Space} {s : Shape} {e : EltTy}
    {m : Memref sig .tc sp s e} {get : S → s.Idx → Val e} {set : S → (s.Idx → Val e) → S}
    (h : Sets c H m get set) (hs : ∀ σ, set σ (get σ) = σ) : Reads c H m get := by
  intro σ
  refine BIBase.Entails.trans (h σ) ?_
  iintro ⟨Hm, Hk⟩
  iexists fullShare
  isplitl [Hm]
  · iexact Hm
  · iintro Hm
    have e : H (set σ (get σ)) ⊢ H σ := by rw [hs σ]
    iapply e
    iapply Hk $$ %(get σ)
    iexact Hm
end Rules

end Cert.Proof

namespace Cert.Proof.Experts

open Cert.ExpertsIdeal Cert.Proof
open Cert.ExpertsIdeal.Facts₀ Cert.ExpertsIdeal.Facts
open Idealize.ShloMosaic hiding ix1 ix2 ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-- What the body changes: its result's block, the permutation, the packed rows and their weights, the packed results, and
the eight words. -/
structure St where
  O : S1024x1024.Idx → EReal
  perm : S1536x1024.Idx → EReal
  xs : S1536x1024.Idx → EReal
  cb : S1536x128.Idx → EReal
  ys : S1536x1024.Idx → EReal
  sub : S8.Idx → BitVec 32

variable {U : Type} [URA U]

/-- In every state the blocks of the inputs can be read, at the contents named here, and the rest set. -/
structure Held (c : Dev nD) (H : St → sProp (MT nD τ sig Unit (Elt Ideal) ℕ U ℕ))
    (X : S1024x1024.Idx → EReal) (Ad : S1x6x1024.Idx → EReal) (Cb : S16x1024.Idx → EReal) (Gr : S1x1024.Idx → BitVec 32)
    (Wg Wu : S1x4x1024x512.Idx → EReal) (Wd : S1x1x2048x1024.Idx → EReal) (Lg Lb : S1x1024.Idx → EReal)
    (arg2 : Memref sig .tc .vmem S1024x1024 .f32) (arg3 : Memref sig .tc .vmem S1x6x1024 .f32)
    (arg4 : Memref sig .tc .vmem S16x1024 .f32) (arg5 : Memref sig .tc .vmem S1x1024 .i32)
    (arg6 arg7 : Memref sig .tc .vmem S1x4x1024x512 .bf16) (arg8 : Memref sig .tc .vmem S1x1x2048x1024 .bf16)
    (arg9 arg10 : Memref sig .tc .vmem S1x1024 .f32) (arg11 : Memref sig .tc .vmem S1024x1024 .f32)
    (arg12 arg13 : Memref sig .tc .vmem S1536x1024 .bf16) (arg14 : Memref sig .tc .vmem S1536x128 .f32)
    (arg15 : Memref sig .tc .vmem S1536x1024 .bf16) (arg16 : Memref sig .tc .smem S8 .i32) : Prop where
  r2 : Reads c H arg2 fun _ => X
  r3 : Reads c H arg3 fun _ => Ad
  r4 : Reads c H arg4 fun _ => Cb
  r5 : Reads c H arg5 fun _ => Gr
  r6 : Reads c H arg6 fun _ => Wg
  r7 : Reads c H arg7 fun _ => Wu
  r8 : Reads c H arg8 fun _ => Wd
  r9 : Reads c H arg9 fun _ => Lg
  r10 : Reads c H arg10 fun _ => Lb
  s11 : Sets c H arg11 (fun σ => σ.O) fun σ x => { σ with O := x }
  s12 : Sets c H arg12 (fun σ => σ.perm) fun σ x => { σ with perm := x }
  s13 : Sets c H arg13 (fun σ => σ.xs) fun σ x => { σ with xs := x }
  s14 : Sets c H arg14 (fun σ => σ.cb) fun σ x => { σ with cb := x }
  s15 : Sets c H arg15 (fun σ => σ.ys) fun σ x => { σ with ys := x }
  s16 : Sets c H arg16 (fun σ => σ.sub) fun σ x => { σ with sub := x }

/-! ## The bits of the constants -/

theorem lit0 : Ideal.ofBits .f32 0x00000000#32 = 0 := Ideal.ofBits_zero_f32
theorem lit1 : Ideal.ofBits .f32 0x3F800000#32 = 1 := Ideal.ofBits_one_f32
theorem lit128 : Ideal.ofBits .f32 0x43000000#32 = ((128 : ℝ) : EReal) := by
  simp [Ideal.ofBits, Ideal.ieee, -EReal.coe_mul]; norm_num
theorem lit128inv : Ideal.ofBits .f32 0x3C000000#32 = (((1 : ℝ) / 128 : ℝ) : EReal) := by
  simp [Ideal.ofBits, Ideal.ieee, -EReal.coe_mul]; norm_num

/-! ## The words -/

variable (gp : Fin 1024 → BitVec 32)

/-- The words up to the `n`-th: of each group where its blocks begin, and how many there are. -/
def Subs (n : ℕ) (sub : S8.Idx → BitVec 32) : Prop :=
  ∀ k : Fin 8, k.val < n → sub (ix1 k) =
    BitVec.ofNat 32 (if k.val % 2 = 0 then start gp (k.val / 2) else cap gp (k.val / 2))

theorem word_idx (k : ℕ) (hk : k < 8) (inb : ∀ a, (![k] : Fin 1 → ℕ) a + S1.size a ≤ S8.size a) (h) :
    (Rect.unit (s := S8) ![k] S1.size inb).toLoadRect.idx (Shape.Idx.first h) = ix1 (⟨k, hk⟩ : Fin 8) := by
  funext a
  match a with
  | ⟨0, _⟩ => exact Fin.ext (show k + 1 * 0 = k by omega)

theorem subs_store (k : ℕ) (hk : k < 8) (inb : ∀ a, (![k] : Fin 1 → ℕ) a + S1.size a ≤ S8.size a) (v : BitVec 32) (sub : S8.Idx → BitVec 32)
    (h : Subs gp k sub) (hv : v = BitVec.ofNat 32 (if k % 2 = 0 then start gp (k / 2) else cap gp (k / 2))) :
    Subs gp (k + 1) (stored (s := S8) (Val := Elt Ideal) (e := .i32) ![k] S1.size inb (fun _ => v) sub) := by
  intro j hj
  unfold stored
  by_cases e : j.val = k
  · rw [dif_pos (fun a => match a with
      | ⟨0, _⟩ => (⟨by show k ≤ j.val; omega, by show j.val < k + 1; omega⟩ : k ≤ j.val ∧ j.val < k + 1))]
    subst e
    exact hv
  · rw [dif_neg (fun hh => by
      have h0 : k ≤ j.val ∧ j.val < k + 1 := hh 0
      omega)]
    exact h j (by omega)

/-- Where a group's blocks begin, or how many there are, found from the number of its rows by the conversion to an integer. -/
theorem conv (n : ℕ) (hn : n ≤ 4096) : Ideal.fptosi 32 (((128 * (n : ℝ) : ℝ) : EReal) * (((1 : ℝ) / 128 : ℝ) : EReal)) = BitVec.ofNat 32 n := by
  have e : (((128 * (n : ℝ) : ℝ) : EReal) * (((1 : ℝ) / 128 : ℝ) : EReal)) = ((n : ℝ) : EReal) := by
    rw [← EReal.coe_mul]; congr 1; ring
  rw [e]
  unfold Ideal.fptosi
  rw [Ideal.toIntClamped_coe, if_pos (Nat.cast_nonneg n)]
  have e2 : ⌊(n : ℝ)⌋ = (n : ℤ) := Int.floor_natCast n
  rw [e2]
  have e3 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]; omega
  rw [e3]
  exact BitVec.ofInt_natCast ..

/-- The rows of a group's blocks, from its count. -/
theorem rows (n : ℕ) : Ideal.liftRound Int.ceil (((n : ℝ) : EReal) * (((1 : ℝ) / 128 : ℝ) : EReal)) * ((128 : ℝ) : EReal) =
    ((128 * (((n + 127) / 128 : ℕ) : ℝ) : ℝ) : EReal) := by
  rw [← EReal.coe_mul]
  show (((⌈(n : ℝ) * (1 / 128)⌉ : ℤ) : ℝ) : EReal) * _ = _
  rw [ceil_cap, ← EReal.coe_mul]
  congr 1
  rw [Int.cast_natCast, mul_comm]

end Cert.Proof.Experts
-- ==== Proof.MoeInit.lean ====
/-
  The experts' body on the first group of a block of tokens: the rank of each token in its group, where the groups' blocks begin,
  the token's row among the packed ones, and the eight words that keep the blocks.
-/
module

public import proofs.«01_k».proof.Proof.MoeBase

@[expose] public section

noncomputable section

namespace Cert.Proof.Experts

open Cert.ExpertsIdeal Cert.Proof
open Cert.ExpertsIdeal.Facts₀ Cert.ExpertsIdeal.Facts
open Idealize.ShloMosaic hiding ix1 ix2 ix3
open Idealize.ShloMosaic.TcCoe Idealize.ShloMosaic.ValueIdx
open Idealize.SL Idealize.SL.RA Idealize.SL.BI
open Idealize.SL.Sem

variable {U : Type} [URA U]
variable [Cert.ExpertsIdeal.Facts]
variable {c : Dev nD} {H : St → sProp (MT nD τ sig Unit (Elt Ideal) ℕ U ℕ)} {defs : Defs nD τ sig (Elt Ideal) Λ₀}
variable {i : grid0.Coords}
variable {X : S1024x1024.Idx → EReal} {Ad : S1x6x1024.Idx → EReal} {Cb : S16x1024.Idx → EReal} {Gr : S1x1024.Idx → BitVec 32}
  {Wg Wu : S1x4x1024x512.Idx → EReal} {Wd : S1x1x2048x1024.Idx → EReal} {Lg Lb : S1x1024.Idx → EReal}
variable {arg2 : Memref sig .tc .vmem S1024x1024 .f32} {harg2 : arg2.IsWhole}
  {arg3 : Memref sig .tc .vmem S1x6x1024 .f32} {harg3 : arg3.IsWhole}
  {arg4 : Memref sig .tc .vmem S16x1024 .f32} {harg4 : arg4.IsWhole}
  {arg5 : Memref sig .tc .vmem S1x1024 .i32} {harg5 : arg5.IsWhole}
  {arg6 : Memref sig .tc .vmem S1x4x1024x512 .bf16} {harg6 : arg6.IsWhole}
  {arg7 : Memref sig .tc .vmem S1x4x1024x512 .bf16} {harg7 : arg7.IsWhole}
  {arg8 : Memref sig .tc .vmem S1x1x2048x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1024x1024 .f32} {harg11 : arg11.IsWhole}
  {arg12 : Memref sig .tc .vmem S1536x1024 .bf16} {harg12 : arg12.IsWhole}
  {arg13 : Memref sig .tc .vmem S1536x1024 .bf16} {harg13 : arg13.IsWhole}
  {arg14 : Memref sig .tc .vmem S1536x128 .f32} {harg14 : arg14.IsWhole}
  {arg15 : Memref sig .tc .vmem S1536x1024 .bf16} {harg15 : arg15.IsWhole}
  {arg16 : Memref sig .tc .smem S8 .i32} {harg16 : arg16.IsWhole}

variable (hH : Held c H X Ad Cb Gr Wg Wu Wd Lg Lb arg2 arg3 arg4 arg5 arg6 arg7 arg8 arg9 arg10 arg11 arg12 arg13 arg14 arg15 arg16)

/-- The token's hidden input, from the blocks of the tokens and of the modulation. -/
def hid (X : S1024x1024.Idx → EReal) (Ad : S1x6x1024.Idx → EReal) (t d : Fin 1024) : EReal :=
  X (ix2 t d) * (1 + Ad (ix3 (0 : Fin 1) (4 : Fin 6) d)) + Ad (ix3 (0 : Fin 1) (3 : Fin 6) d)

/-- The groups of the block's tokens. -/
def grp (Gr : S1x1024.Idx → BitVec 32) (t : Fin 1024) : BitVec 32 := Gr (ix2 (0 : Fin 1) t)

/-- Whether a token is of a group. -/
def mem (gp : Fin 1024 → BitVec 32) (g : ℕ) (t : Fin 1024) : EReal := if gp t = BitVec.ofNat 32 g then 1 else 0

theorem whole2 {m n : ℕ} (inb : ∀ a, (![0, 0] : Fin 2 → ℕ) a + (Shape.mk 2 ![m, n]).size a ≤ (Shape.mk 2 ![m, n]).size a) (a : Fin m) (b : Fin n) :
    (Rect.unit (s := Shape.mk 2 ![m, n]) ![0, 0] (Shape.mk 2 ![m, n]).size inb).toLoadRect.idx (ix2 a b) = ix2 a b := by
  funext d
  match d with
  | ⟨0, _⟩ => exact Fin.ext (show 0 + 1 * a.val = a.val by omega)
  | ⟨1, _⟩ => exact Fin.ext (show 0 + 1 * b.val = b.val by omega)

theorem ada_row (k : ℕ) (hk : k < 6) (inb : ∀ a, (![0, k, 0] : Fin 3 → ℕ) a + S1x1x1024.size a ≤ S1x6x1024.size a)
    (h : S1x1x1024.ShapeCasts S1x1024) (d : Fin 1024) :
    (shapeCast S1x1024 (fun x => Ad ((Rect.unit (s := S1x6x1024) ![0, k, 0] S1x1x1024.size inb).toLoadRect.idx x)) h (ix2 (0 : Fin 1) d) : EReal) =
      Ad (ix3 (0 : Fin 1) (⟨k, hk⟩ : Fin 6) d) := by
  refine (shapeCast_1ab_ab_apply _ h 0 d).trans (congrArg Ad ?_)
  funext a
  match a with
  | ⟨0, _⟩ => rfl
  | ⟨1, _⟩ => exact Fin.ext (show k + 1 * 0 = k by omega)
  | ⟨2, _⟩ => exact Fin.ext (show 0 + 1 * d.val = d.val by omega)

theorem sel_mem (g : ℕ) (Gr : S1x1024.Idx → BitVec 32) (v : S1x1024.Idx → BitVec 32) (hv : ∀ t : Fin 1024, v (ix2 (0 : Fin 1) t) = Gr (ix2 (0 : Fin 1) t)) (t : Fin 1024) :
    (select (cmpi .eq (v : IVec S1x1024 32) (broadcast S1x1024 (BitVec.ofNat 32 g)))
      (broadcast S1x1024 (Scalar.ofBits (F := Ideal) .f32 0x3F800000#32)) (broadcast S1x1024 (Scalar.ofBits (F := Ideal) .f32 0x00000000#32)) : FVec Ideal S1x1024 .f32)
      (ix2 (0 : Fin 1) t) = mem (grp Gr) g t := by
  show (if BitVec.ofBool (v (ix2 (0 : Fin 1) t) == BitVec.ofNat 32 g) = 1#1 then Ideal.ofBits .f32 0x3F800000#32 else Ideal.ofBits .f32 0x00000000#32) = _
  rw [lit0, lit1, hv]
  unfold mem grp
  by_cases h : Gr (ix2 (0 : Fin 1) t) = BitVec.ofNat 32 g
  · rw [if_pos h, h, beq_self_eq_true, if_pos (by decide)]
  · rw [if_neg h, beq_false_of_ne h, if_neg (by decide)]

include hH in
theorem part1 (σ : St) :
    At defs c H σ (k0_part1 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a σ' => σ' = σ ∧ (∀ t d : Fin 1024, a.1 (ix2 t d) = hid X Ad t d) ∧ (∀ (e : Fin 16) (t : Fin 1024), a.2.1 (ix2 e t) = Cb (ix2 e t)) ∧
        (∀ t : Fin 1024, a.2.2.1 (ix2 (0 : Fin 1) t) = mem (grp Gr) 0 t) ∧ (∀ t : Fin 1024, a.2.2.2.1 (ix2 (0 : Fin 1) t) = mem (grp Gr) 1 t) ∧
        (∀ t : Fin 1024, a.2.2.2.2.1 (ix2 (0 : Fin 1) t) = mem (grp Gr) 2 t) ∧ (∀ t : Fin 1024, a.2.2.2.2.2.1 (ix2 (0 : Fin 1) t) = mem (grp Gr) 3 t) ∧
        a.2.2.2.2.2.2 = (0 : EReal)) := by
  refine at_load hH.r2 ?_
  refine at_load hH.r3 ?_
  refine at_load hH.r3 ?_
  refine at_load hH.r4 ?_
  refine at_load hH.r5 ?_
  refine at_pure ⟨rfl, fun t d => ?_, fun e t => ?_, sel_mem 0 Gr _ fun t => ?_, sel_mem 1 Gr _ fun t => ?_, sel_mem 2 Gr _ fun t => ?_, sel_mem 3 Gr _ fun t => ?_, lit0⟩
  · unfold hid
    exact congrArg₂ (· + ·) (congrArg₂ (· * ·) (congrArg X (whole2 _ t d)) (congrArg₂ (· + ·) lit1 (ada_row 4 (by omega) _ _ d))) (ada_row 3 (by omega) _ _ d)
  · exact congrArg Cb (whole2 _ e t)
  · exact congrArg Gr (whole2 _ 0 t)
  · exact congrArg Gr (whole2 _ 0 t)
  · exact congrArg Gr (whole2 _ 0 t)
  · exact congrArg Gr (whole2 _ 0 t)

/-! ## The ranks -/

/-- The row a token gets from the groups before `n`. -/
def posTo (gp : Fin 1024 → BitVec 32) (n : ℕ) (t : Fin 1024) : ℝ :=
  ∑ g ∈ Finset.range n, if gp t = BitVec.ofNat 32 g then 128 * (start gp g : ℝ) + (rank gp g t : ℝ) - 1 else 0

theorem posTo_step (gp : Fin 1024 → BitVec 32) (n : ℕ) (t : Fin 1024) (p m s r one : EReal)
    (hp : p = ((posTo gp n t : ℝ) : EReal)) (hm : m = mem gp n t) (hs : s = ((128 * (start gp n : ℝ) : ℝ) : EReal)) (hr : r = ((rank gp n t : ℝ) : EReal))
    (h1 : one = 1) : p + m * ((s + r) - one) = ((posTo gp (n + 1) t : ℝ) : EReal) := by
  rw [hp, hm, hs, hr, h1]
  unfold posTo mem
  rw [Finset.sum_range_succ]
  by_cases h : gp t = BitVec.ofNat 32 n
  · rw [if_pos h, if_pos h, one_mul, ← EReal.coe_one, ← EReal.coe_add, ← EReal.coe_sub, ← EReal.coe_add]
  · rw [if_neg h, if_neg h, zero_mul, add_zero, add_zero]

theorem posTo_four (gp : Fin 1024 → BitVec 32) (t : Fin 1024) : posTo gp 4 t = (pos gp t : ℝ) := by
  unfold posTo pos
  rw [Finset.sum_range_succ, Finset.sum_range_succ, Finset.sum_range_succ, Finset.sum_range_one]
  have key : ∀ g : ℕ, gp t = BitVec.ofNat 32 g → 128 * (start gp g : ℝ) + (rank gp g t : ℝ) - 1 = ((128 * start gp g + rank gp g t - 1 : ℕ) : ℝ) := by
    intro g hg
    have := rank_pos hg
    rw [Nat.cast_sub (by omega)]
    push_cast
    ring
  by_cases h0 : gp t = BitVec.ofNat 32 0
  · rw [if_pos h0, if_neg (by rw [h0]; decide), if_neg (by rw [h0]; decide), if_neg (by rw [h0]; decide), if_pos h0, key 0 h0]; ring
  by_cases h1 : gp t = BitVec.ofNat 32 1
  · rw [if_neg h0, if_pos h1, if_neg (by rw [h1]; decide), if_neg (by rw [h1]; decide), if_neg h0, if_pos h1, key 1 h1]; ring
  by_cases h2 : gp t = BitVec.ofNat 32 2
  · rw [if_neg h0, if_neg h1, if_pos h2, if_neg (by rw [h2]; decide), if_neg h0, if_neg h1, if_pos h2, key 2 h2]; ring
  by_cases h3 : gp t = BitVec.ofNat 32 3
  · rw [if_neg h0, if_neg h1, if_neg h2, if_pos h3, if_neg h0, if_neg h1, if_neg h2, if_pos h3, key 3 h3]; ring
  · rw [if_neg h0, if_neg h1, if_neg h2, if_neg h3, if_neg h0, if_neg h1, if_neg h2, if_neg h3]; norm_num

theorem start_step (gp : Fin 1024 → BitVec 32) (n : ℕ) (s r : EReal) (hs : s = ((128 * (start gp n : ℝ) : ℝ) : EReal))
    (hr : r = ((128 * (cap gp n : ℝ) : ℝ) : EReal)) : s + r = ((128 * (start gp (n + 1) : ℝ) : ℝ) : EReal) := by
  rw [hs, hr, ← EReal.coe_add]
  congr 1
  show _ = 128 * ((start gp n + cap gp n : ℕ) : ℝ)
  push_cast
  ring

/-- The word made of a number of rows. -/
theorem word_of (v : FVec Ideal S1x1 .f32) (n : ℕ) (hn : n ≤ 4096) (hv : v (ix2 (0 : Fin 1) (0 : Fin 1)) = ((128 * (n : ℝ) : ℝ) : EReal)) :
    Scalar.fptosi (F := Ideal) 32 (Scalar.mulf (extractAt ![0, 0, 0] (shapeCast S1x1x1
      (multiReduction .add [1, 2] S1 (shapeCast S1x1x1 v shapeCasts_S1x1_S1x1x1) 0x00000000#32 reduces_S1x1x1_S1 (.inl rfl) rfl : FVec Ideal S1 .f32)
      shapeCasts_S1_S1x1x1) inpos_S1x1x1_p0_0_0) (Scalar.ofBits .f32 0x3C000000#32)) = BitVec.ofNat 32 n := by
  have e : (extractAt ![0, 0, 0] (shapeCast S1x1x1
      (multiReduction .add [1, 2] S1 (shapeCast S1x1x1 v shapeCasts_S1x1_S1x1x1) 0x00000000#32 reduces_S1x1x1_S1 (.inl rfl) rfl : FVec Ideal S1 .f32)
      shapeCasts_S1_S1x1x1) inpos_S1x1x1_p0_0_0 : EReal) = v (ix2 (0 : Fin 1) (0 : Fin 1)) := by
    pointwise [extractAt]
    rw [Fin.sum_univ_one, Fin.sum_univ_one]
    rfl
  show Ideal.fptosi 32 (_ * Ideal.ofBits .f32 0x3C000000#32) = _
  rw [e, hv, lit128inv]
  exact conv n hn

theorem nat_word (n : ℕ) (hn : n < 2 ^ 31) : (BitVec.ofNat 32 n).toInt = (n : ℤ) := by
  rw [BitVec.toInt_eq_toNat_cond, BitVec.toNat_ofNat, Nat.mod_eq_of_lt (by omega), if_pos (by omega)]

theorem sle_tok (u t : Fin 1024) :
    IntOp.cmpi .sle (BitVec.ofNat 32 u.val) (BitVec.ofNat 32 t.val) = BitVec.ofBool (decide (u.val ≤ t.val)) := by
  show BitVec.ofBool (decide ((BitVec.ofNat 32 u.val).toInt ≤ (BitVec.ofNat 32 t.val).toInt)) = _
  rw [nat_word _ (by omega), nat_word _ (by omega)]
  congr 1
  exact decide_eq_decide.mpr Int.ofNat_le

theorem caprows (v w : FVec Ideal S1x1 .f32) (n : ℕ) (hv : v (ix2 (0 : Fin 1) (0 : Fin 1)) = ((n : ℝ) : EReal))
    (hw : w (ix2 (0 : Fin 1) (0 : Fin 1)) = (((1 : ℝ) / 128 : ℝ) : EReal)) :
    (mulf (ceil (mulf v w)) (broadcast S1x1 (Scalar.ofBits (F := Ideal) .f32 0x43000000#32)) : FVec Ideal S1x1 .f32) (ix2 (0 : Fin 1) (0 : Fin 1)) =
      ((128 * (((n + 127) / 128 : ℕ) : ℝ) : ℝ) : EReal) := by
  show Ideal.liftRound Int.ceil (v _ * w _) * Ideal.ofBits .f32 0x43000000#32 = _
  rw [hv, hw, lit128, rows]

theorem count_at (g : ℕ) (hg : g < 8) (v : FVec Ideal S8x1024 .f32) (h : S8x1024.Slices ![g, 1023] S1x1) :
    extractStridedSlice S1x1 ![g, 1023] v h (ix2 (0 : Fin 1) (0 : Fin 1)) = v (ix2 (⟨g, hg⟩ : Fin 8) (Fin.last 1023)) := by
  refine congrArg v (funext fun a => ?_)
  match a with
  | ⟨0, _⟩ => exact Fin.ext (show g + 0 = g by omega)
  | ⟨1, _⟩ => rfl

theorem row_at (g : ℕ) (hg : g < 8) (v : FVec Ideal S8x1024 .f32) (h : S8x1024.Slices ![g, 0] S1x1024) (t : Fin 1024) :
    extractStridedSlice S1x1024 ![g, 0] v h (ix2 (0 : Fin 1) t) = v (ix2 (⟨g, hg⟩ : Fin 8) t) := by
  refine congrArg v (funext fun a => ?_)
  match a with
  | ⟨0, _⟩ => exact Fin.ext (show g + 0 = g by omega)
  | ⟨1, _⟩ => exact Fin.ext (show 0 + t.val = t.val by omega)

theorem spread_at (v : FVec Ideal S1x1 .f32) (t : Fin 1024) :
    broadcastTo S1x1024 v broadcasts_S1x1_S1x1024 (ix2 (0 : Fin 1) t) = v (ix2 (0 : Fin 1) (0 : Fin 1)) := by
  pointwise
  rfl

theorem rank_at (v34 v39 v44 v49 : FVec Ideal S1x1024 .f32) (z : EReal) (gp : Fin 1024 → BitVec 32)
    (h0 : ∀ t : Fin 1024, v34 (ix2 (0 : Fin 1) t) = mem gp 0 t) (h1 : ∀ t : Fin 1024, v39 (ix2 (0 : Fin 1) t) = mem gp 1 t)
    (h2 : ∀ t : Fin 1024, v44 (ix2 (0 : Fin 1) t) = mem gp 2 t) (h3 : ∀ t : Fin 1024, v49 (ix2 (0 : Fin 1) t) = mem gp 3 t) (g : Fin 4) (t : Fin 1024) :
    (matmul (F := Ideal) dot_S8x1024_S1024x1024_S8x1024_1_0_0_1_n_n none
      (truncf .bf16 (concatenate S8x1024 0 [⟨S1x1024, v34⟩, ⟨S1x1024, v39⟩, ⟨S1x1024, v44⟩, ⟨S1x1024, v49⟩, ⟨S4x1024, broadcast S4x1024 z⟩]
        concatenates_S1x1024_S1x1024_S1x1024_S1x1024_S4x1024_S8x1024_d0 : FVec Ideal S8x1024 .f32) bitsLt_bf16_f32)
      (truncf .bf16 (select (cmpi .sle (iota .tc S1024x1024 32 [0] iota_S1024x1024_d0_w32) (iota .tc S1024x1024 32 [1] iota_S1024x1024_d1_w32))
        (broadcast S1024x1024 (Scalar.ofBits (F := Ideal) .f32 0x3F800000#32)) (broadcast S1024x1024 (Scalar.ofBits (F := Ideal) .f32 0x00000000#32)) : FVec Ideal S1024x1024 .f32) bitsLt_bf16_f32)
      (constant S8x1024 .f32 0x00000000#32) : FVec Ideal S8x1024 .f32) (ix2 (⟨g.val, by omega⟩ : Fin 8) t) = ((rank gp g.val t : ℝ) : EReal) := by
  rw [← rank_sum]
  pointwise
  refine Finset.sum_congr rfl fun u _ => ?_
  have hs : IntOp.cmpi .sle (BitVec.ofNat 32 u.val) (BitVec.ofNat 32 t.val) = BitVec.ofBool (decide (u.val ≤ t.val)) := sle_tok u t
  refine Eq.trans (b := if BitVec.ofBool (decide (u.val ≤ t.val)) = 1#1 then mem gp g.val u else 0) ?_ ?_
  · show (if IntOp.cmpi .sle (BitVec.ofNat 32 u.val) (BitVec.ofNat 32 t.val) = 1#1 then _ else _) = _
    rw [hs]
    congr 1
    obtain ⟨g, hg⟩ := g
    rcases (by omega : g = 0 ∨ g = 1 ∨ g = 2 ∨ g = 3) with rfl | rfl | rfl | rfl
    · exact (dif_pos (show (0 : ℕ) < 1 by decide)).trans (h0 u)
    · exact ((dif_neg (show ¬ (1 : ℕ) < 1 by decide)).trans (dif_pos (show 1 - 1 < 1 by decide))).trans (h1 u)
    · exact ((dif_neg (show ¬ (2 : ℕ) < 1 by decide)).trans ((dif_neg (show ¬ 2 - 1 < 1 by decide)).trans
        (dif_pos (show 2 - 1 - 1 < 1 by decide)))).trans (h2 u)
    · exact ((dif_neg (show ¬ (3 : ℕ) < 1 by decide)).trans ((dif_neg (show ¬ 3 - 1 < 1 by decide)).trans
        ((dif_neg (show ¬ 3 - 1 - 1 < 1 by decide)).trans (dif_pos (show 3 - 1 - 1 - 1 < 1 by decide))))).trans (h3 u)
  · unfold mem
    by_cases h : u ≤ t
    · rw [if_pos h, decide_eq_true (show u.val ≤ t.val from h), if_pos (by decide), mul_one]
    · rw [if_neg h, decide_eq_false (show ¬ u.val ≤ t.val from h), if_neg (by decide), mul_zero]

/-- Whether a packed row is the token's. -/
theorem hit_at (v : FVec Ideal S1x1024 .f32) (gp : Fin 1024 → BitVec 32) (f : Fin 1024 → ℝ) (t : Fin 1024) (r : Fin 1536)
    (hv : v (ix2 (0 : Fin 1) t) = ((f t : ℝ) : EReal)) (hf : f t = (pos gp t : ℝ)) :
    cmpf (F := Ideal) .oeq (sitofp .f32 (iota .tc S1536x1024 32 [0] iota_S1536x1024_d0_w32)) (broadcastTo S1536x1024 v broadcasts_S1x1024_S1536x1024) (ix2 r t) =
      BitVec.ofBool (decide (r.val = pos gp t)) := by
  pointwise
  have e : (FloatOps.sitofp .f32 (BitVec.ofNat 32 r.val) : Ideal .f32) = (((r.val : ℝ)) : EReal) := by
    show ((((BitVec.ofNat 32 r.val).toInt : ℤ) : ℝ) : EReal) = _
    rw [nat_word _ (by omega), Int.cast_natCast]
  congr 1
  refine decide_eq_decide.mpr ?_
  have hv' : v (Idealize.ShloMosaic.ix2 (0 : Fin 1) t) = ((pos gp t : ℝ) : EReal) := hv.trans (by rw [hf])
  refine Iff.trans (b := (((r.val : ℝ)) : EReal) = ((pos gp t : ℝ) : EReal)) ?_ ?_
  · exact iff_of_eq (congrArg₂ Eq e hv')
  · rw [EReal.coe_eq_coe_iff, Nat.cast_inj]

/-! ## The windows -/

theorem cap_def (gp : Fin 1024 → BitVec 32) (g : ℕ) : cap gp g = (count gp g + 127) / 128 := rfl

include hH in
theorem part2 (σ : St) (v34 v39 v44 v49 : FVec Ideal S1x1024 .f32) (z : Ideal .f32) (gp : Fin 1024 → BitVec 32)
    (h0 : ∀ t : Fin 1024, v34 (ix2 (0 : Fin 1) t) = mem gp 0 t) (h1 : ∀ t : Fin 1024, v39 (ix2 (0 : Fin 1) t) = mem gp 1 t)
    (h2 : ∀ t : Fin 1024, v44 (ix2 (0 : Fin 1) t) = mem gp 2 t) (h3 : ∀ t : Fin 1024, v49 (ix2 (0 : Fin 1) t) = mem gp 3 t) :
    At defs c H σ (k0_part2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 v34 v39 v44 v49 z)
      (fun a σ' => (∃ s, σ' = { σ with sub := s } ∧ Subs gp 2 s) ∧ (∀ (g : Fin 4) (t : Fin 1024), a.1 (ix2 (⟨g.val, by omega⟩ : Fin 8) t) = ((rank gp g.val t : ℝ) : EReal)) ∧
        (∀ t : Fin 1024, a.2.1 (ix2 (0 : Fin 1) t) = ((posTo gp 1 t : ℝ) : EReal)) ∧
        a.2.2.1 (ix2 (0 : Fin 1) (0 : Fin 1)) = ((128 * (start gp 1 : ℝ) : ℝ) : EReal) ∧
        a.2.2.2.1 (ix2 (0 : Fin 1) (0 : Fin 1)) = ((count gp 1 : ℝ) : EReal) ∧
        a.2.2.2.2 (ix2 (0 : Fin 1) (0 : Fin 1)) = (((1 : ℝ) / 128 : ℝ) : EReal)) := by
  have hr := rank_at v34 v39 v44 v49 z gp h0 h1 h2 h3
  have hz : ((0 : EReal)) = ((128 * (start gp 0 : ℝ) : ℝ) : EReal) := by
    show _ = ((128 * ((0 : ℕ) : ℝ) : ℝ) : EReal)
    norm_num
  have hcap := caprows _ (broadcast S1x1 (Scalar.ofBits (F := Ideal) .f32 0x3C000000#32)) (count gp 0)
    ((count_at 0 (by omega) _ slices_S8x1024_o0_1023_S1x1).trans (hr 0 (Fin.last 1023))) lit128inv
  have hst := start_step gp 0 (Ideal.ofBits .f32 0x00000000#32) _ (lit0.trans hz) hcap
  refine at_word (hH.s16.reads' fun _ => rfl) ?_
  refine at_store hH.s16 ?_
  refine at_word (hH.s16.reads' fun _ => rfl) ?_
  refine at_store hH.s16 ?_
  refine at_pure ⟨⟨_, rfl, ?_⟩, hr, fun t => ?_, hst, (count_at 1 (by omega) _ slices_S8x1024_o1_1023_S1x1).trans (hr 1 (Fin.last 1023)), lit128inv⟩
  · refine subs_store gp 1 (by omega) inb_S8_S1_1 _ _ (subs_store gp 0 (by omega) inb_S8_S1_0 _ _ (fun k hk => absurd hk (Nat.not_lt_zero _)) ?_) ?_
    · exact word_of _ (start gp 0) (by show 0 ≤ 4096; omega) (lit0.trans hz)
    · exact word_of _ (cap gp 0) (by have := start_le (gp := gp) (show 0 < 4 by decide); omega) hcap
  · exact posTo_step gp 0 t _ _ _ _ _ (lit0.trans (by unfold posTo; simp)) (h0 t) ((spread_at _ t).trans (lit0.trans hz))
      ((row_at 0 (by omega) _ slices_S8x1024_o0_0_S1x1024 t).trans (hr 0 t)) lit1

theorem cap_le (gp : Fin 1024 → BitVec 32) {g : ℕ} (hg : g < 4) : cap gp g ≤ 4096 := by
  have := start_le (gp := gp) hg
  omega

theorem start_le' (gp : Fin 1024 → BitVec 32) {g : ℕ} (hg : g < 4) : start gp g ≤ 4096 := by
  have := start_le (gp := gp) hg
  omega

include hH in
theorem part3 (σ : St) (v39 v44 : FVec Ideal S1x1024 .f32) (v60 : FVec Ideal S8x1024 .f32) (v75 : FVec Ideal S1x1024 .f32) (v90 v91 v92 : FVec Ideal S1x1 .f32)
    (gp : Fin 1024 → BitVec 32) (hS : Subs gp 2 σ.sub)
    (h1 : ∀ t : Fin 1024, v39 (ix2 (0 : Fin 1) t) = mem gp 1 t) (h2 : ∀ t : Fin 1024, v44 (ix2 (0 : Fin 1) t) = mem gp 2 t)
    (hr : ∀ (g : Fin 4) (t : Fin 1024), v60 (ix2 (⟨g.val, by omega⟩ : Fin 8) t) = ((rank gp g.val t : ℝ) : EReal))
    (hp : ∀ t : Fin 1024, v75 (ix2 (0 : Fin 1) t) = ((posTo gp 1 t : ℝ) : EReal))
    (h90 : v90 (ix2 (0 : Fin 1) (0 : Fin 1)) = ((128 * (start gp 1 : ℝ) : ℝ) : EReal))
    (h91 : v91 (ix2 (0 : Fin 1) (0 : Fin 1)) = ((count gp 1 : ℝ) : EReal))
    (h92 : v92 (ix2 (0 : Fin 1) (0 : Fin 1)) = (((1 : ℝ) / 128 : ℝ) : EReal)) :
    At defs c H σ (k0_part3 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 v39 v44 v60 v75 v90 v91 v92)
      (fun a σ' => (∃ s, σ' = { σ with sub := s } ∧ Subs gp 4 s) ∧
        a.1 (ix2 (0 : Fin 1) (0 : Fin 1)) = ((128 * (start gp 2 : ℝ) : ℝ) : EReal) ∧
        a.2.1 (ix2 (0 : Fin 1) (0 : Fin 1)) = ((128 * (cap gp 2 : ℝ) : ℝ) : EReal) ∧
        (∀ t : Fin 1024, a.2.2.1 (ix2 (0 : Fin 1) t) = ((posTo gp 3 t : ℝ) : EReal)) ∧
        a.2.2.2 = BitVec.ofNat 32 (start gp 2)) := by
  have hcap1 := caprows v91 v92 (count gp 1) h91 h92
  have hcap2 := caprows _ (broadcast S1x1 (Scalar.ofBits (F := Ideal) .f32 0x3C000000#32)) (count gp 2)
    ((count_at 2 (by omega) v60 slices_S8x1024_o2_1023_S1x1).trans (hr 2 (Fin.last 1023))) lit128inv
  have hst := start_step gp 1 _ _ h90 hcap1
  refine at_word (hH.s16.reads' fun _ => rfl) ?_
  refine at_store hH.s16 ?_
  refine at_word (hH.s16.reads' fun _ => rfl) ?_
  refine at_store hH.s16 ?_
  refine at_pure ⟨⟨_, rfl, ?_⟩, hst, hcap2, fun t => ?_, ?_⟩
  · refine subs_store gp 3 (by omega) inb_S8_S1_3 _ _ (subs_store gp 2 (by omega) inb_S8_S1_2 _ _ hS ?_) ?_
    · exact word_of _ (start gp 1) (start_le' gp (by decide)) h90
    · exact word_of _ (cap gp 1) (cap_le gp (by decide)) hcap1
  · exact posTo_step gp 2 t _ _ _ _ _ (posTo_step gp 1 t _ _ _ _ _ (hp t) (h1 t) ((spread_at _ t).trans h90)
      ((row_at 1 (by omega) v60 slices_S8x1024_o1_0_S1x1024 t).trans (hr 1 t)) lit1) (h2 t) ((spread_at _ t).trans hst)
      ((row_at 2 (by omega) v60 slices_S8x1024_o2_0_S1x1024 t).trans (hr 2 t)) lit1
  · exact word_of _ (start gp 2) (start_le' gp (by decide)) hst

include hH in
theorem part4 (σ : St) (v49 : FVec Ideal S1x1024 .f32) (v60 : FVec Ideal S8x1024 .f32) (v118 v124 : FVec Ideal S1x1 .f32) (v131 : FVec Ideal S1x1024 .f32)
    (v137 : BitVec 32) (gp : Fin 1024 → BitVec 32) (hS : Subs gp 4 σ.sub)
    (h3 : ∀ t : Fin 1024, v49 (ix2 (0 : Fin 1) t) = mem gp 3 t)
    (hr : ∀ (g : Fin 4) (t : Fin 1024), v60 (ix2 (⟨g.val, by omega⟩ : Fin 8) t) = ((rank gp g.val t : ℝ) : EReal))
    (h118 : v118 (ix2 (0 : Fin 1) (0 : Fin 1)) = ((128 * (start gp 2 : ℝ) : ℝ) : EReal))
    (h124 : v124 (ix2 (0 : Fin 1) (0 : Fin 1)) = ((128 * (cap gp 2 : ℝ) : ℝ) : EReal))
    (hp : ∀ t : Fin 1024, v131 (ix2 (0 : Fin 1) t) = ((posTo gp 3 t : ℝ) : EReal))
    (h137 : v137 = BitVec.ofNat 32 (start gp 2)) :
    At defs c H σ (k0_part4 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 v49 v60 v118 v124 v131 v137)
      (fun a σ' => (∃ s, σ' = { σ with sub := s } ∧ Subs gp 8 s) ∧
        (∀ (r : Fin 1536) (t : Fin 1024), a.1 (ix2 r t) = BitVec.ofBool (decide (r.val = pos gp t))) ∧
        a.2.1 = (0 : EReal) ∧ (∀ (r : Fin 1536) (t : Fin 1024), a.2.2 (ix2 r t) = (1 : EReal))) := by
  have hcap3 := caprows _ (broadcast S1x1 (Scalar.ofBits (F := Ideal) .f32 0x3C000000#32)) (count gp 3)
    ((count_at 3 (by omega) v60 slices_S8x1024_o3_1023_S1x1).trans (hr 3 (Fin.last 1023))) lit128inv
  have hst := start_step gp 2 _ _ h118 h124
  refine at_word (hH.s16.reads' fun _ => rfl) ?_
  refine at_store hH.s16 ?_
  refine at_word (hH.s16.reads' fun _ => rfl) ?_
  refine at_store hH.s16 ?_
  refine at_word (hH.s16.reads' fun _ => rfl) ?_
  refine at_store hH.s16 ?_
  refine at_word (hH.s16.reads' fun _ => rfl) ?_
  refine at_store hH.s16 ?_
  refine at_pure ⟨⟨_, rfl, ?_⟩, fun r t => ?_, lit0, fun r t => lit1⟩
  · refine subs_store gp 7 (by omega) inb_S8_S1_7 _ _ (subs_store gp 6 (by omega) inb_S8_S1_6 _ _ (subs_store gp 5 (by omega) inb_S8_S1_5 _ _
      (subs_store gp 4 (by omega) inb_S8_S1_4 _ _ hS ?_) ?_) ?_) ?_
    · exact h137
    · exact word_of _ (cap gp 2) (cap_le gp (by decide)) h124
    · exact word_of _ (start gp 3) (start_le' gp (by decide)) hst
    · exact word_of _ (cap gp 3) (cap_le gp (by decide)) hcap3
  · have hpos := posTo_step gp 3 t _ _ _ _ _ (hp t) (h3 t) ((spread_at (addf v118 v124) t).trans hst)
      ((row_at 3 (by omega) v60 slices_S8x1024_o3_0_S1x1024 t).trans (hr 3 t)) lit1
    exact hit_at _ gp (fun t => posTo gp 4 t) t r hpos (posTo_four gp t)

end Cert.Proof.Experts
-- ==== Proof.MoeTrip.lean ====
/-
  One trip of the experts' body: 128 packed rows of a group through the group's four experts.
-/
module

public import proofs.«01_k».proof.Proof.MoeInit

@[expose] public section

noncomputable section

namespace Cert.Proof.Experts

open Cert.ExpertsIdeal Cert.Proof
open Cert.ExpertsIdeal.Facts₀ Cert.ExpertsIdeal.Facts
open Idealize.ShloMosaic hiding ix1 ix2 ix3 ix4
open Idealize.ShloMosaic.TcCoe Idealize.ShloMosaic.ValueIdx
open Idealize.SL Idealize.SL.RA Idealize.SL.BI
open Idealize.SL.Sem

variable [Cert.ExpertsIdeal.Facts]

/-! ## The words -/

theorem word_mul : ∀ m k : Fin 13, (Scalar.indexCast (Scalar.muli (Scalar.addi (BitVec.ofNat 32 m.val) (Scf.iv 0#32 1#32 k.val)) 128#32) : Index).toNat =
    128 * (m.val + k.val) := by decide +kernel

theorem trips_of : ∀ n : Fin 13, (k0_t1_loop (BitVec.ofNat 32 n.val)).trips = n.val ∧ (k0_t2_loop (BitVec.ofNat 32 n.val)).trips = 0 ∧
    k0_chk1 (BitVec.ofNat 32 n.val) := by decide +kernel

theorem trips1 {v : BitVec 32} {n : ℕ} (hn : n < 13) (hv : v = BitVec.ofNat 32 n) : (k0_t1_loop v).trips = n := by
  subst hv; exact (trips_of ⟨n, hn⟩).1

theorem trips2 {v : BitVec 32} {n : ℕ} (hn : n < 13) (hv : v = BitVec.ofNat 32 n) : (k0_t2_loop v).trips = 0 := by
  subst hv; exact (trips_of ⟨n, hn⟩).2.1

theorem chk1 {v : BitVec 32} {n : ℕ} (hn : n < 13) (hv : v = BitVec.ofNat 32 n) : k0_chk1 v := by
  subst hv; exact (trips_of ⟨n, hn⟩).2.2

theorem off3_eq (v7 : BitVec 32) (k : Fin (k0_t1_loop v7).trips) {v : BitVec 32} {m : ℕ} (hm : m < 13) (hk : k.val < 13) (hv : v = BitVec.ofNat 32 m) :
    k0_off3 v7 k v = ![128 * (m + k.val), 0] := by
  subst hv
  exact congrArg (fun x : ℕ => (![x, 0] : Fin 2 → ℕ)) (word_mul ⟨m, hm⟩ ⟨k.val, hk⟩)

theorem off4_eq (v7 : BitVec 32) (k : Fin (k0_t1_loop v7).trips) {v : BitVec 32} {m : ℕ} (hm : m < 13) (hk : k.val < 13) (hv : v = BitVec.ofNat 32 m) :
    k0_off4 v7 k v = ![128 * (m + k.val), 0] := by
  subst hv
  exact congrArg (fun x : ℕ => (![x, 0] : Fin 2 → ℕ)) (word_mul ⟨m, hm⟩ ⟨k.val, hk⟩)

theorem mult1_eq (v7 : BitVec 32) (k : Fin (k0_t1_loop v7).trips) {v : BitVec 32} {m : ℕ} (hm : m < 13) (hk : k.val < 13) (hv : v = BitVec.ofNat 32 m) :
    (k0_mult1 v7 k v).toNat = 128 * (m + k.val) := by
  subst hv
  exact word_mul ⟨m, hm⟩ ⟨k.val, hk⟩

theorem packed_of {off : Fin 2 → ℕ} {n : ℕ} (ho : off = ![128 * n, 0]) (h : ∀ a, off a + S128x1024.size a ≤ S1536x1024.size a) :
    (Rect.unit (s := S1536x1024) off S128x1024.size h).PackedRows (EltTy.packing .bf16) := by
  subst ho
  refine Or.inr ⟨by decide, rfl, Or.inl ⟨?_, ?_⟩⟩
  · exact (show 2 ∣ 128 * n by omega)
  · exact (show 2 ∣ 128 by decide)

theorem chk2 (v7 : BitVec 32) (k : Fin (k0_t1_loop v7).trips) {v : BitVec 32} {m : ℕ} (hm : m < 13) (hk : k.val < 13) (hmk : m + k.val < 12)
    (hv : v = BitVec.ofNat 32 m) : k0_chk2 v7 k v := by
  have e3 := off3_eq v7 k hm hk hv
  have e4 := off4_eq v7 k hm hk hv
  refine ⟨?_, ?_, ?_, fun hinb => packed_of e3 hinb⟩
  · rw [mult1_eq v7 k hm hk hv]; exact Nat.dvd_mul_right _ _
  · rw [e3]
    intro a
    match a with
    | ⟨0, _⟩ => show 128 * (m + k.val) + 128 ≤ 1536; omega
    | ⟨1, _⟩ => show 0 + 1024 ≤ 1024; omega
  · rw [e4]
    intro a
    match a with
    | ⟨0, _⟩ => show 128 * (m + k.val) + 128 ≤ 1536; omega
    | ⟨1, _⟩ => show 0 + 128 ≤ 128; omega

theorem off1_eq (i : grid0.Coords) : k0_off1 i = ![2 * (i 1).val + 1] := by
  have h : ∀ g : Fin 4, (Scalar.indexCast (Scalar.addi (Scalar.muli 2#32 (BitVec.ofNat 32 g.val)) 1#32) : Index).toNat = 2 * g.val + 1 := by decide +kernel
  exact congrArg (fun x : ℕ => (![x] : Fin 1 → ℕ)) (h (i 1))

theorem off2_eq (i : grid0.Coords) : k0_off2 i = ![2 * (i 1).val] := by
  have h : ∀ g : Fin 4, (Scalar.indexCast (Scalar.muli 2#32 (BitVec.ofNat 32 g.val)) : Index).toNat = 2 * g.val := by decide +kernel
  exact congrArg (fun x : ℕ => (![x] : Fin 1 → ℕ)) (h (i 1))

theorem word_read {off : Fin 1 → ℕ} {k : ℕ} (hk : k < 8) (ho : off = ![k]) (inb : ∀ a, off a + S1.size a ≤ S8.size a) (h) :
    (Rect.unit (s := S8) off S1.size inb).toLoadRect.idx (Shape.Idx.first h) = ix1 (⟨k, hk⟩ : Fin 8) := by
  subst ho
  exact word_idx k hk inb h

/-! ## What a packed row gives -/

/-- An expert's activation of its two products. -/
def act (a b : EReal) : EReal := a * Ideal.logistic a * b

/-- The weight of expert `4 g + q` of a row's weights. -/
def wsum (crow : Fin 128 → EReal) (g q : ℕ) : EReal := ∑ l : Fin 128, if l.val = 4 * g + q then crow l else 0

/-- A packed row's hidden value `j` in expert `q` of the group whose weights the block holds. -/
def qv (Wg Wu : S1x4x1024x512.Idx → EReal) (x : Fin 1024 → EReal) (w : EReal) (q : Fin 4) (j : Fin 512) : EReal :=
  act (∑ k : Fin 1024, x k * Wg (ix4 (0 : Fin 1) q k j)) (∑ k : Fin 1024, x k * Wu (ix4 (0 : Fin 1) q k j)) * w

/-- A packed row's result. -/
def rowOut (Wg Wu : S1x4x1024x512.Idx → EReal) (Wd : S1x1x2048x1024.Idx → EReal) (g : ℕ) (x : Fin 1024 → EReal) (crow : Fin 128 → EReal) (d : Fin 1024) : EReal :=
  ∑ j : Fin 2048, qv Wg Wu x (wsum crow g (j.val / 512)) ⟨j.val / 512, by omega⟩ ⟨j.val % 512, Nat.mod_lt _ (by decide)⟩ * Wd (ix4 (0 : Fin 1) (0 : Fin 1) j d)

theorem quarter_at (x : FVec Ideal S128x1024 .bf16) (sg su : FVec Ideal S1024x512 .bf16) (w : FVec Ideal S128 .f32) (r : Fin 128) (j : Fin 512) :
    (truncf .bf16 (mulf (mulf (mulf (matmul dot_S128x1024_S1024x512_S128x512_1_0_0_1_n_n none x sg (constant S128x512 .f32 0x00000000#32))
        (logistic (matmul dot_S128x1024_S1024x512_S128x512_1_0_0_1_n_n none x sg (constant S128x512 .f32 0x00000000#32))))
        (matmul dot_S128x1024_S1024x512_S128x512_1_0_0_1_n_n none x su (constant S128x512 .f32 0x00000000#32)))
      (broadcastTo S128x512 (shapeCast S128x1 w shapeCasts_S128_S128x1) broadcasts_S128x1_S128x512)) bitsLt_bf16_f32 : FVec Ideal S128x512 .bf16) (ix2 r j) =
      act (∑ k : Fin 1024, x (ix2 r k) * sg (ix2 k j)) (∑ k : Fin 1024, x (ix2 r k) * su (ix2 k j)) * w (ix1 r) := by
  unfold act
  pointwise
  rfl

theorem flat_w (V : S1x1x1024x512.Idx → EReal) (k : Fin 1024) (j : Fin 512) :
    shapeCast S1024x512 V shapeCasts_S1x1x1024x512_S1024x512 (ix2 k j) = V (ix4 (0 : Fin 1) (0 : Fin 1) k j) := by
  pointwise
  rfl

theorem flat_d (V : S1x1x2048x1024.Idx → EReal) (k : Fin 2048) (j : Fin 1024) :
    shapeCast S2048x1024 V shapeCasts_S1x1x2048x1024_S2048x1024 (ix2 k j) = V (ix4 (0 : Fin 1) (0 : Fin 1) k j) := by
  pointwise
  rfl

theorem weight_at (W : S1x4x1024x512.Idx → EReal) (q : ℕ) (hq : q < 4)
    (inb : ∀ a, (![0, q, 0, 0] : Fin 4 → ℕ) a + S1x1x1024x512.size a ≤ S1x4x1024x512.size a) (k : Fin 1024) (j : Fin 512) :
    (shapeCast S1024x512 (fun x => W ((Rect.unit (s := S1x4x1024x512) ![0, q, 0, 0] S1x1x1024x512.size inb).toLoadRect.idx x)) shapeCasts_S1x1x1024x512_S1024x512 (ix2 k j) : EReal) =
      W (ix4 (0 : Fin 1) (⟨q, hq⟩ : Fin 4) k j) := by
  refine (flat_w _ k j).trans (congrArg W (funext fun a => ?_))
  match a with
  | ⟨0, _⟩ => rfl
  | ⟨1, _⟩ => exact Fin.ext (show q + 1 * 0 = q by omega)
  | ⟨2, _⟩ => exact Fin.ext (show 0 + 1 * k.val = k.val by omega)
  | ⟨3, _⟩ => exact Fin.ext (show 0 + 1 * j.val = j.val by omega)

theorem down_at (W : S1x1x2048x1024.Idx → EReal)
    (inb : ∀ a, (![0, 0, 0, 0] : Fin 4 → ℕ) a + S1x1x2048x1024.size a ≤ S1x1x2048x1024.size a) (k : Fin 2048) (j : Fin 1024) :
    (shapeCast S2048x1024 (fun x => W ((Rect.unit (s := S1x1x2048x1024) ![0, 0, 0, 0] S1x1x2048x1024.size inb).toLoadRect.idx x)) shapeCasts_S1x1x2048x1024_S2048x1024 (ix2 k j) : EReal) =
      W (ix4 (0 : Fin 1) (0 : Fin 1) k j) := by
  refine (flat_d _ k j).trans (congrArg W (funext fun a => ?_))
  match a with
  | ⟨0, _⟩ => rfl
  | ⟨1, _⟩ => rfl
  | ⟨2, _⟩ => exact Fin.ext (show 0 + 1 * k.val = k.val by omega)
  | ⟨3, _⟩ => exact Fin.ext (show 0 + 1 * j.val = j.val by omega)

theorem rows_at {n : ℕ} (m : ℕ) (hm : m < 12) (V : (Shape.mk 2 ![1536, n]).Idx → EReal) {off : Fin 2 → ℕ} (ho : off = ![128 * m, 0])
    (inb : ∀ a, off a + (Shape.mk 2 ![128, n]).size a ≤ (Shape.mk 2 ![1536, n]).size a) (r : Fin 128) (k : Fin n) :
    V ((Rect.unit (s := Shape.mk 2 ![1536, n]) off (Shape.mk 2 ![128, n]).size inb).toLoadRect.idx (ix2 r k)) =
      V (ix2 (⟨128 * m + r.val, by omega⟩ : Fin 1536) k) := by
  subst ho
  refine congrArg V (funext fun a => ?_)
  match a with
  | ⟨0, _⟩ => exact Fin.ext (show 128 * m + 1 * r.val = 128 * m + r.val by omega)
  | ⟨1, _⟩ => exact Fin.ext (show 0 + 1 * k.val = k.val by omega)

/-- The lanes of the expert asked for. -/
theorem lane_at (v3 : IVec S128x128 32) (hv3 : ∀ r l : Fin 128, v3 (ix2 r l) = BitVec.ofNat 32 l.val) (v25 : FVec Ideal S128x128 .f32) (g q : Fin 4)
    (r l : Fin 128) :
    (select (cmpi .eq v3 (broadcast S128x128 (Scalar.addi (Scalar.muli (BitVec.ofNat 32 g.val) 4#32) (BitVec.ofNat 32 q.val)))) v25
      (broadcast S128x128 (Scalar.ofBits (F := Ideal) .f32 0x00000000#32)) : FVec Ideal S128x128 .f32) (ix2 r l) =
      if l.val = 4 * g.val + q.val then v25 (ix2 r l) else 0 := by
  have h : ∀ (g q : Fin 4) (l : Fin 128), (BitVec.ofNat 32 l.val == Scalar.addi (Scalar.muli (BitVec.ofNat 32 g.val) 4#32) (BitVec.ofNat 32 q.val)) =
    decide (l.val = 4 * g.val + q.val) := by decide +kernel
  show (if BitVec.ofBool (v3 (ix2 r l) == Scalar.addi (Scalar.muli (BitVec.ofNat 32 g.val) 4#32) (BitVec.ofNat 32 q.val)) = 1#1 then v25 (ix2 r l)
    else Ideal.ofBits .f32 0x00000000#32) = _
  rw [hv3, h, lit0]
  by_cases e : l.val = 4 * g.val + q.val
  · rw [if_pos e, decide_eq_true e, if_pos (by decide)]
  · rw [if_neg e, decide_eq_false e, if_neg (by decide)]

theorem lanes_sum (v : FVec Ideal S128x128 .f32) (r : Fin 128) :
    (multiReduction .add [1] S128 v 0x00000000#32 reduces_S128x128_S128 (.inl rfl) rfl : FVec Ideal S128 .f32) (ix1 r) = ∑ l : Fin 128, v (ix2 r l) := by
  pointwise
  rfl

/-- The four experts side by side, through the last product. -/
theorem out_at (a b e f : FVec Ideal S128x512 .bf16) (W : FVec Ideal S2048x1024 .bf16) (r : Fin 128) (d : Fin 1024)
    (Q : Fin 4 → Fin 512 → EReal) (ha : ∀ j, a (ix2 r j) = Q 0 j) (hb : ∀ j, b (ix2 r j) = Q 1 j) (he : ∀ j, e (ix2 r j) = Q 2 j) (hf : ∀ j, f (ix2 r j) = Q 3 j) :
    (truncf .bf16 (matmul dot_S128x2048_S2048x1024_S128x1024_1_0_0_1_n_n none
      (concatenate S128x2048 1 [⟨S128x512, a⟩, ⟨S128x512, b⟩, ⟨S128x512, e⟩, ⟨S128x512, f⟩] concatenates_S128x512_S128x512_S128x512_S128x512_S128x2048_d1 : FVec Ideal S128x2048 .bf16)
      W (constant S128x1024 .f32 0x00000000#32)) bitsLt_bf16_f32 : FVec Ideal S128x1024 .bf16) (ix2 r d) =
      ∑ j : Fin 2048, Q ⟨j.val / 512, by omega⟩ ⟨j.val % 512, Nat.mod_lt _ (by decide)⟩ * W (ix2 j d) := by
  pointwise
  refine Finset.sum_congr rfl fun j _ => congrArg₂ (· * ·) ?_ rfl
  have hj : j.val < 2048 := j.isLt
  have key : ∀ (q : Fin 4) (x y : ℕ) (hx : x < 512) (hy : y < 512), q.val = j.val / 512 → x = j.val % 512 →
      Q q ⟨x, hx⟩ = Q ⟨j.val / 512, by omega⟩ ⟨j.val % 512, Nat.mod_lt _ (by decide)⟩ := fun q x _ hx _ hq hxx => by
    exact congrArg₂ Q (Fin.ext hq) (Fin.ext hxx)
  by_cases h1 : j.val < 512
  · exact (dif_pos h1).trans ((ha _).trans (key 0 _ 0 h1 (by decide) (by show 0 = _; omega) (by omega)))
  by_cases h2 : j.val - 512 < 512
  · exact (dif_neg h1).trans ((dif_pos h2).trans ((hb _).trans (key 1 _ 0 h2 (by decide) (by show 1 = _; omega) (by omega))))
  by_cases h3 : j.val - 512 - 512 < 512
  · exact (dif_neg h1).trans ((dif_neg h2).trans ((dif_pos h3).trans ((he _).trans (key 2 _ 0 h3 (by decide) (by show 2 = _; omega) (by omega)))))
  · exact (dif_neg h1).trans ((dif_neg h2).trans ((dif_neg h3).trans ((hf _).trans (key 3 _ 0 (by omega) (by decide) (by show 3 = _; omega) (by omega)))))

theorem quarter (Wg Wu : S1x4x1024x512.Idx → EReal) (x : FVec Ideal S128x1024 .bf16) (sg su : FVec Ideal S1024x512 .bf16) (w : FVec Ideal S128 .f32) (r : Fin 128) (j : Fin 512)
    (q : Fin 4) (xr : Fin 1024 → EReal) (ww : EReal) (hx : ∀ k, x (ix2 r k) = xr k) (hsg : ∀ k j, sg (ix2 k j) = Wg (ix4 (0 : Fin 1) q k j))
    (hsu : ∀ k j, su (ix2 k j) = Wu (ix4 (0 : Fin 1) q k j)) (hw : w (ix1 r) = ww) :
    (truncf .bf16 (mulf (mulf (mulf (matmul dot_S128x1024_S1024x512_S128x512_1_0_0_1_n_n none x sg (constant S128x512 .f32 0x00000000#32))
        (logistic (matmul dot_S128x1024_S1024x512_S128x512_1_0_0_1_n_n none x sg (constant S128x512 .f32 0x00000000#32))))
        (matmul dot_S128x1024_S1024x512_S128x512_1_0_0_1_n_n none x su (constant S128x512 .f32 0x00000000#32)))
      (broadcastTo S128x512 (shapeCast S128x1 w shapeCasts_S128_S128x1) broadcasts_S128x1_S128x512)) bitsLt_bf16_f32 : FVec Ideal S128x512 .bf16) (ix2 r j) =
      qv Wg Wu xr ww q j := by
  refine (quarter_at x sg su w r j).trans ?_
  unfold qv
  rw [hw]
  refine congrArg₂ (· * ·) (congrArg₂ act ?_ ?_) rfl
  · exact Finset.sum_congr rfl fun k _ => congrArg₂ (· * ·) (hx k) (hsg k j)
  · exact Finset.sum_congr rfl fun k _ => congrArg₂ (· * ·) (hx k) (hsu k j)

theorem wsum_at (v : FVec Ideal S128x128 .f32) (r : Fin 128) (g q : ℕ) (crow : Fin 128 → EReal)
    (hv : ∀ l : Fin 128, v (ix2 r l) = if l.val = 4 * g + q then crow l else 0) :
    (multiReduction .add [1] S128 v 0x00000000#32 reduces_S128x128_S128 (.inl rfl) rfl : FVec Ideal S128 .f32) (ix1 r) = wsum crow g q :=
  (lanes_sum v r).trans (Finset.sum_congr rfl fun l _ => hv l)

/-- A word of scalar memory read at the head of a program, known to be `v`. -/
theorem at_word_eq {nD : Nat} {τ : Topo} {sig : RefSig} {Val : EltTy → Type} {Λ : Labels} {U : Type} [URA U] {defs : Defs nD τ sig Val Λ} {c : Dev nD} {S : Type}
    {H : S → sProp (MT nD τ sig Unit Val ℕ U ℕ)} {α : Type} {s : Shape} {e : EltTy} {m : Memref sig .tc .smem s e} {get : S → s.Idx → Val e}
    (hm : Reads c H m get) {r : Rect s} {h1 : r.shape.numel = 1} {hp : e.packing = 1}
    {k : Val e → Prog (TpuEff nD τ sig Val Λ .tc) α} {σ : S} {Post : α → S → Prop} (v : Val e)
    (hv : get σ (r.toLoadRect.idx (Shape.Idx.first (h1.symm ▸ Nat.one_pos))) = v)
    (h : At defs c H σ (k v) Post) :
    At defs c H σ (smemLoad m r h1 hp >>= k) Post := by
  subst hv
  exact at_word hm h

variable {U : Type} [URA U]
variable {c : Dev nD} {H : St → sProp (MT nD τ sig Unit (Elt Ideal) ℕ U ℕ)} {defs : Defs nD τ sig (Elt Ideal) Λ₀}
variable {i : grid0.Coords}
variable {X : S1024x1024.Idx → EReal} {Ad : S1x6x1024.Idx → EReal} {Cb : S16x1024.Idx → EReal} {Gr : S1x1024.Idx → BitVec 32}
  {Wg Wu : S1x4x1024x512.Idx → EReal} {Wd : S1x1x2048x1024.Idx → EReal} {Lg Lb : S1x1024.Idx → EReal}
variable {arg2 : Memref sig .tc .vmem S1024x1024 .f32} {harg2 : arg2.IsWhole}
  {arg3 : Memref sig .tc .vmem S1x6x1024 .f32} {harg3 : arg3.IsWhole}
  {arg4 : Memref sig .tc .vmem S16x1024 .f32} {harg4 : arg4.IsWhole}
  {arg5 : Memref sig .tc .vmem S1x1024 .i32} {harg5 : arg5.IsWhole}
  {arg6 : Memref sig .tc .vmem S1x4x1024x512 .bf16} {harg6 : arg6.IsWhole}
  {arg7 : Memref sig .tc .vmem S1x4x1024x512 .bf16} {harg7 : arg7.IsWhole}
  {arg8 : Memref sig .tc .vmem S1x1x2048x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1024x1024 .f32} {harg11 : arg11.IsWhole}
  {arg12 : Memref sig .tc .vmem S1536x1024 .bf16} {harg12 : arg12.IsWhole}
  {arg13 : Memref sig .tc .vmem S1536x1024 .bf16} {harg13 : arg13.IsWhole}
  {arg14 : Memref sig .tc .vmem S1536x128 .f32} {harg14 : arg14.IsWhole}
  {arg15 : Memref sig .tc .vmem S1536x1024 .bf16} {harg15 : arg15.IsWhole}
  {arg16 : Memref sig .tc .smem S8 .i32} {harg16 : arg16.IsWhole}

variable (hH : Held c H X Ad Cb Gr Wg Wu Wd Lg Lb arg2 arg3 arg4 arg5 arg6 arg7 arg8 arg9 arg10 arg11 arg12 arg13 arg14 arg15 arg16)

/-- Row `r` of block `m` of the packed rows. -/
def prow (m : ℕ) (hm : m < 12) (r : Fin 128) : Fin 1536 := ⟨128 * m + r.val, by omega⟩

include hH in
theorem part5 (σ : St) (v3 : IVec S128x128 32) (hv3 : ∀ r l : Fin 128, v3 (ix2 r l) = BitVec.ofNat 32 l.val) (v7 : BitVec 32) (k : Fin (k0_t1_loop v7).trips)
    (m : ℕ) (hm : m < 13) (hk : k.val < 13) (hmk : m + k.val < 12) (h8 : 2 * (i 1).val < 8) (hw : σ.sub (ix1 (⟨2 * (i 1).val, h8⟩ : Fin 8)) = BitVec.ofNat 32 m) :
    At defs c H σ (k0_part5 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v3 v7 0#32 1#32 k)
      (fun a σ' => σ' = σ ∧ a.1 = BitVec.ofNat 32 m ∧ (∀ r c, a.2.2.2.1 (ix2 r c) = σ.xs (ix2 (prow (m + k.val) hmk r) c)) ∧
        (∀ r l, a.2.2.2.2.1 (ix2 r l) = σ.cb (ix2 (prow (m + k.val) hmk r) l)) ∧
        (∀ r j, a.2.2.2.2.2.1 (ix2 r j) = qv Wg Wu (fun c => σ.xs (ix2 (prow (m + k.val) hmk r) c))
          (wsum (fun l => σ.cb (ix2 (prow (m + k.val) hmk r) l)) (i 1).val 0) 0 j) ∧
        (∀ r l, a.2.2.2.2.2.2 (ix2 r l) = if l.val = 4 * (i 1).val + 1 then σ.cb (ix2 (prow (m + k.val) hmk r) l) else 0)) := by
  have hi : (i 1).val < 4 := (i 1).isLt
  refine at_word_eq (hH.s16.reads' fun _ => rfl) (BitVec.ofNat 32 m) ((congrArg σ.sub (word_read h8 (off2_eq i) _ _)).trans hw) ?_
  refine at_assume (chk2 v7 k hm hk hmk rfl) ?_
  refine at_load (hH.s13.reads' fun _ => rfl) ?_
  refine at_load (hH.s14.reads' fun _ => rfl) ?_
  refine at_load hH.r6 ?_
  refine at_load hH.r7 ?_
  have e3 := off3_eq v7 k hm hk (rfl : BitVec.ofNat 32 m = _)
  have e4 := off4_eq v7 k hm hk (rfl : BitVec.ofNat 32 m = _)
  refine at_pure ⟨rfl, rfl, fun r c => rows_at (m + k.val) hmk σ.xs e3 _ r c, fun r l => rows_at (m + k.val) hmk σ.cb e4 _ r l, fun r j => ?_, fun r l => ?_⟩
  · refine quarter Wg Wu _ _ _ _ r j 0 _ _ (fun c => rows_at (m + k.val) hmk σ.xs e3 _ r c) (weight_at Wg 0 (by decide) _) (weight_at Wu 0 (by decide) _)
      (wsum_at _ r (i 1).val 0 _ fun l => ?_)
    refine (lane_at v3 hv3 _ ⟨(i 1).val, hi⟩ 0 r l).trans ?_
    exact congrArg (fun z => if l.val = 4 * (i 1).val + 0 then z else 0) (rows_at (m + k.val) hmk σ.cb e4 _ r l)
  · refine (lane_at v3 hv3 (fun x => σ.cb ((Rect.unit (s := S1536x128) (k0_off4 v7 k (BitVec.ofNat 32 m)) S128x128.size
      (k0_off4_inb v7 k _ (chk2 v7 k hm hk hmk rfl))).toLoadRect.idx x)) ⟨(i 1).val, hi⟩ 1 r l).trans ?_
    exact congrArg (fun z => if l.val = 4 * (i 1).val + 1 then z else 0) (rows_at (m + k.val) hmk σ.cb e4 _ r l)

include hH in
theorem part6 (σ : St) (v3 : IVec S128x128 32) (hv3 : ∀ r l : Fin 128, v3 (ix2 r l) = BitVec.ofNat 32 l.val)
    (v23 : FVec Ideal S128x1024 .bf16) (v25 v51 : FVec Ideal S128x128 .f32) (xr : Fin 128 → Fin 1024 → EReal) (cr : Fin 128 → Fin 128 → EReal)
    (h23 : ∀ r c, v23 (ix2 r c) = xr r c) (h25 : ∀ r l, v25 (ix2 r l) = cr r l)
    (h51 : ∀ r l, v51 (ix2 r l) = if l.val = 4 * (i 1).val + 1 then cr r l else 0) :
    At defs c H σ (k0_part6 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v3 v23 v25 v51)
      (fun a σ' => σ' = σ ∧ (∀ r j, a.1 (ix2 r j) = qv Wg Wu (xr r) (wsum (cr r) (i 1).val 1) 1 j) ∧
        (∀ r j, a.2.1 (ix2 r j) = qv Wg Wu (xr r) (wsum (cr r) (i 1).val 2) 2 j) ∧ a.2.2 = Scalar.muli (BitVec.ofNat 32 (i 1).val) 4#32) := by
  have hi : (i 1).val < 4 := (i 1).isLt
  refine at_load hH.r6 ?_
  refine at_load hH.r7 ?_
  refine at_load hH.r6 ?_
  refine at_load hH.r7 ?_
  refine at_pure ⟨rfl, fun r j => ?_, fun r j => ?_, rfl⟩
  · exact quarter Wg Wu v23 _ _ _ r j 1 _ _ (h23 r) (weight_at Wg 1 (by decide) _) (weight_at Wu 1 (by decide) _)
      (wsum_at v51 r (i 1).val 1 _ (h51 r))
  · refine quarter Wg Wu v23 _ _ _ r j 2 _ _ (h23 r) (weight_at Wg 2 (by decide) _) (weight_at Wu 2 (by decide) _)
      (wsum_at _ r (i 1).val 2 _ fun l => ?_)
    refine (lane_at v3 hv3 v25 ⟨(i 1).val, hi⟩ 2 r l).trans ?_
    exact congrArg (fun z => if l.val = 4 * (i 1).val + 2 then z else 0) (h25 r l)

end Cert.Proof.Experts
-- ==== Proof.MoeBody.lean ====
/-
  The experts' body: from the state the groups before leave to the state this group leaves.
-/
module

public import proofs.«01_k».proof.Proof.MoeTrip

@[expose] public section

noncomputable section

namespace Cert.Proof.Experts

open Cert.ExpertsIdeal Cert.Proof
open Cert.ExpertsIdeal.Facts₀ Cert.ExpertsIdeal.Facts
open Idealize.ShloMosaic hiding ix1 ix2 ix3 ix4
open Idealize.ShloMosaic.TcCoe Idealize.ShloMosaic.ValueIdx
open Idealize.SL Idealize.SL.RA Idealize.SL.BI
open Idealize.SL.Sem

variable {U : Type} [URA U]
variable [Cert.ExpertsIdeal.Facts]
variable {c : Dev nD} {H : St → sProp (MT nD τ sig Unit (Elt Ideal) ℕ U ℕ)} {defs : Defs nD τ sig (Elt Ideal) Λ₀}
variable {i : grid0.Coords}
variable {X : S1024x1024.Idx → EReal} {Ad : S1x6x1024.Idx → EReal} {Cb : S16x1024.Idx → EReal} {Gr : S1x1024.Idx → BitVec 32}
  {Wg Wu : S1x4x1024x512.Idx → EReal} {Wd : S1x1x2048x1024.Idx → EReal} {Lg Lb : S1x1024.Idx → EReal}
variable {arg2 : Memref sig .tc .vmem S1024x1024 .f32} {harg2 : arg2.IsWhole}
  {arg3 : Memref sig .tc .vmem S1x6x1024 .f32} {harg3 : arg3.IsWhole}
  {arg4 : Memref sig .tc .vmem S16x1024 .f32} {harg4 : arg4.IsWhole}
  {arg5 : Memref sig .tc .vmem S1x1024 .i32} {harg5 : arg5.IsWhole}
  {arg6 : Memref sig .tc .vmem S1x4x1024x512 .bf16} {harg6 : arg6.IsWhole}
  {arg7 : Memref sig .tc .vmem S1x4x1024x512 .bf16} {harg7 : arg7.IsWhole}
  {arg8 : Memref sig .tc .vmem S1x1x2048x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1024x1024 .f32} {harg11 : arg11.IsWhole}
  {arg12 : Memref sig .tc .vmem S1536x1024 .bf16} {harg12 : arg12.IsWhole}
  {arg13 : Memref sig .tc .vmem S1536x1024 .bf16} {harg13 : arg13.IsWhole}
  {arg14 : Memref sig .tc .vmem S1536x128 .f32} {harg14 : arg14.IsWhole}
  {arg15 : Memref sig .tc .vmem S1536x1024 .bf16} {harg15 : arg15.IsWhole}
  {arg16 : Memref sig .tc .smem S8 .i32} {harg16 : arg16.IsWhole}

variable (hH : Held c H X Ad Cb Gr Wg Wu Wd Lg Lb arg2 arg3 arg4 arg5 arg6 arg7 arg8 arg9 arg10 arg11 arg12 arg13 arg14 arg15 arg16)

/-- A token's weights, in the 128 lanes the packed rows keep. -/
def crow (Cb : S16x1024.Idx → EReal) (t : Fin 1024) (l : Fin 128) : EReal := if h : l.val < 16 then Cb (ix2 (⟨l.val, h⟩ : Fin 16) t) else 0

/-- Every token is of one of the four groups, and the weights are finite. -/
def Valid (gp : Fin 1024 → BitVec 32) (Cb : S16x1024.Idx → EReal) : Prop :=
  (∀ t, ∃ g, g < 4 ∧ gp t = BitVec.ofNat 32 g) ∧ ∀ (e : Fin 16) (t : Fin 1024), Cb (ix2 e t) ≠ ⊥ ∧ Cb (ix2 e t) ≠ ⊤

/-- The state once the groups before `k` are done; `Y` is what the experts give for each token. -/
structure Good (gp : Fin 1024 → BitVec 32) (X : S1024x1024.Idx → EReal) (Ad : S1x6x1024.Idx → EReal) (Cb : S16x1024.Idx → EReal)
    (Y : Fin 1024 → Fin 1024 → EReal) (k : ℕ) (σ : St) : Prop where
  subs : Subs gp 8 σ.sub
  perm : ∀ (r : Fin 1536) (t : Fin 1024), σ.perm (ix2 r t) = if r.val = pos gp t then 1 else 0
  xs : Valid gp Cb → ∀ (t d : Fin 1024) (r : Fin 1536), r.val = pos gp t → σ.xs (ix2 r d) = hid X Ad t d
  cb : Valid gp Cb → ∀ (t : Fin 1024) (l : Fin 128) (r : Fin 1536), r.val = pos gp t → σ.cb (ix2 r l) = crow Cb t l
  ys : Valid gp Cb → ∀ (t d : Fin 1024) (r : Fin 1536), r.val = pos gp t → (∃ g, g < k ∧ gp t = BitVec.ofNat 32 g) → σ.ys (ix2 r d) = Y t d

theorem at_dite {nD : Nat} {τ : Topo} {sig : RefSig} {Val : EltTy → Type} {Λ : Labels} {U : Type} [URA U] {defs : Defs nD τ sig Val Λ} {c : Dev nD} {S : Type}
    {H : S → sProp (MT nD τ sig Unit Val ℕ U ℕ)} {α : Type} {P : Prop} {dec : Decidable P} {a : P → Prog (TpuEff nD τ sig Val Λ .tc) α}
    {b : ¬ P → Prog (TpuEff nD τ sig Val Λ .tc) α} {σ : S} {Post : α → S → Prop} (ha : ∀ h, At defs c H σ (a h) Post) (hb : ∀ h, At defs c H σ (b h) Post) :
    At defs c H σ (dite P a b) Post := by
  by_cases h : P
  · rw [dif_pos h]; exact ha h
  · rw [dif_neg h]; exact hb h

theorem stored_whole {m n : ℕ} {e : EltTy} (inb : ∀ a, (![0, 0] : Fin 2 → ℕ) a + (Shape.mk 2 ![m, n]).size a ≤ (Shape.mk 2 ![m, n]).size a)
    (w : (Shape.mk 2 ![m, n]).Idx → Elt Ideal e) (Z : (Shape.mk 2 ![m, n]).Idx → Elt Ideal e) (a : Fin m) (b : Fin n) :
    stored (s := Shape.mk 2 ![m, n]) (Val := Elt Ideal) (e := e) ![0, 0] (Shape.mk 2 ![m, n]).size inb w Z (ix2 a b) = w (ix2 a b) := by
  unfold stored
  rw [dif_pos (fun d => match d with
    | ⟨0, _⟩ => (⟨Nat.zero_le _, by show a.val < 0 + m; omega⟩ : 0 ≤ a.val ∧ a.val < 0 + m)
    | ⟨1, _⟩ => (⟨Nat.zero_le _, by show b.val < 0 + n; omega⟩ : 0 ≤ b.val ∧ b.val < 0 + n))]
  refine congrArg w (funext fun d => ?_)
  match d with
  | ⟨0, _⟩ => rfl
  | ⟨1, _⟩ => rfl

/-! ## What the first group's step makes -/

theorem perm_at (v177 : IVec S1536x1024 1) (z : Ideal .f32) (o : FVec Ideal S1536x1024 .f32) (gp : Fin 1024 → BitVec 32)
    (h : ∀ (r : Fin 1536) (t : Fin 1024), v177 (ix2 r t) = BitVec.ofBool (decide (r.val = pos gp t))) (hz : z = (0 : EReal))
    (ho : ∀ (r : Fin 1536) (t : Fin 1024), o (ix2 r t) = (1 : EReal)) (r : Fin 1536) (t : Fin 1024) :
    (truncf .bf16 (select v177 o (broadcast S1536x1024 z)) bitsLt_bf16_f32 : FVec Ideal S1536x1024 .bf16) (ix2 r t) = if r.val = pos gp t then (1 : EReal) else 0 := by
  show (if v177 (ix2 r t) = 1#1 then o (ix2 r t) else z) = _
  rw [h, ho, hz]
  by_cases e : r.val = pos gp t
  · rw [if_pos e, decide_eq_true e, if_pos (by decide)]
  · rw [if_neg e, decide_eq_false e, if_neg (by decide)]

theorem wide_at (v28 : FVec Ideal S16x1024 .f32) (Cb : S16x1024.Idx → EReal) (h : ∀ (e : Fin 16) (t : Fin 1024), v28 (ix2 e t) = Cb (ix2 e t)) (t : Fin 1024) (l : Fin 128) :
    (transpose S1024x128 [1, 0] (concatenate S128x1024 0 [⟨S16x1024, v28⟩, ⟨S112x1024, broadcast S112x1024 (Scalar.ofBits (F := Ideal) .f32 0x00000000#32)⟩]
      concatenates_S16x1024_S112x1024_S128x1024_d0 : FVec Ideal S128x1024 .f32) transposes_S128x1024_p1_0_S1024x128) (ix2 t l) = crow Cb t l := by
  unfold crow
  pointwise
  by_cases e : l.val < 16
  · refine (dif_pos e).trans ((h ⟨l.val, e⟩ t).trans ?_)
    rw [dif_pos e]
  · refine (dif_neg e).trans ?_
    rw [dif_neg e]

/-- The permuted rows of the three arrays side by side. -/
def packed (P : FVec Ideal S1536x1024 .bf16) (v27 : FVec Ideal S1024x1024 .bf16) (v187 : FVec Ideal S1024x128 .f32) : FVec Ideal S1536x1280 .f32 :=
  matmul dot_S1536x1024_S1024x1280_S1536x1280_1_0_0_1_n_n none P
    (concatenate S1024x1280 1 [⟨S1024x1024, v27⟩, ⟨S1024x128, truncf .bf16 v187 bitsLt_bf16_f32⟩,
      ⟨S1024x128, truncf .bf16 (subf v187 (extf .f32 (truncf .bf16 v187 bitsLt_bf16_f32) bitsLt_bf16_f32)) bitsLt_bf16_f32⟩]
      concatenates_S1024x1024_S1024x128_S1024x128_S1024x1280_d1) (constant S1536x1280 .f32 0x00000000#32)

theorem packed_x (P : FVec Ideal S1536x1024 .bf16) (v27 : FVec Ideal S1024x1024 .bf16) (v187 : FVec Ideal S1024x128 .f32) (r : Fin 1536) (d : Fin 1024) :
    (truncf .bf16 (extractStridedSlice S1536x1024 ![0, 0] (packed P v27 v187) slices_S1536x1280_o0_0_S1536x1024) bitsLt_bf16_f32 : FVec Ideal S1536x1024 .bf16) (ix2 r d) =
      ∑ t : Fin 1024, P (ix2 r t) * v27 (ix2 t d) := by
  pointwise [packed]
  rfl

theorem packed_c (P : FVec Ideal S1536x1024 .bf16) (v27 : FVec Ideal S1024x1024 .bf16) (v187 : FVec Ideal S1024x128 .f32) (r : Fin 1536) (l : Fin 128) :
    (addf (extractStridedSlice S1536x128 ![0, 1024] (packed P v27 v187) slices_S1536x1280_o0_1024_S1536x128)
      (extractStridedSlice S1536x128 ![0, 1152] (packed P v27 v187) slices_S1536x1280_o0_1152_S1536x128) : FVec Ideal S1536x128 .f32) (ix2 r l) =
      (∑ t : Fin 1024, P (ix2 r t) * v187 (ix2 t l)) + ∑ t : Fin 1024, P (ix2 r t) * (v187 (ix2 t l) - v187 (ix2 t l)) := by
  pointwise [packed]
  refine congrArg₂ (· + ·) rfl (Finset.sum_congr rfl fun t _ => congrArg₂ (· * ·) rfl ?_)
  refine (dif_neg (show ¬ 1152 + l.val < 1024 by omega)).trans ((dif_neg (show ¬ 1152 + l.val - 1024 < 128 by omega)).trans ?_)
  have e : ∀ (n : ℕ) (hn : n < 128), n = l.val → v187 (ix2 t (⟨n, hn⟩ : Fin 128)) = v187 (ix2 t l) := fun n hn h => by subst h; rfl
  exact congrArg₂ (· - ·) (e _ _ (by show 1152 + l.val - 1024 - 128 = l.val; omega)) (e _ _ (by show 1152 + l.val - 1024 - 128 = l.val; omega))

theorem same_cast {m n : ℕ} (v : (Shape.mk 2 ![m, n]).Idx → EReal) (h : (Shape.mk 2 ![m, n]).ShapeCasts (Shape.mk 2 ![m, n])) (a : Fin m) (b : Fin n) :
    shapeCast (Shape.mk 2 ![m, n]) v h (ix2 a b) = v (ix2 a b) := by
  pointwise

/-! ## The last group's step -/

/-- Layer normalization of a row, as the body computes it. -/
def lnOut (z : Fin 1024 → EReal) (lg lb : EReal) (d : Fin 1024) : EReal :=
  let n : EReal := Ideal.ofBits .f32 0x44800000#32
  let mu : EReal := Ideal.div (∑ k : Fin 1024, z k) n
  let va : EReal := Ideal.div (∑ k : Fin 1024, (z k - mu) * (z k - mu)) n
  (z d - mu) * Ideal.rsqrt (va + Ideal.ofBits .f32 0x3727C5AC#32) * lg + lb

/-- The token's row before the normalization. -/
def zrow (X : S1024x1024.Idx → EReal) (Ad : S1x6x1024.Idx → EReal) (y : Fin 1024 → Fin 1024 → EReal) (t d : Fin 1024) : EReal :=
  Ideal.ofBits .f32 0x3FB504F3#32 * X (ix2 t d) + Ad (ix3 (0 : Fin 1) (5 : Fin 6) d) * y t d

include hH in
theorem part9 (σ : St) :
    At defs c H σ (k0_part9 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun a σ' => σ' = σ ∧ ∀ t d : Fin 1024, a (ix2 t d) = lnOut (zrow X Ad (fun t d => ∑ r : Fin 1536, σ.perm (ix2 r t) * σ.ys (ix2 r d)) t)
        (Lg (ix2 (0 : Fin 1) d)) (Lb (ix2 (0 : Fin 1) d)) d) := by
  refine at_load (hH.s12.reads' fun _ => rfl) ?_
  refine at_load (hH.s15.reads' fun _ => rfl) ?_
  refine at_load hH.r2 ?_
  refine at_load hH.r3 ?_
  refine at_load hH.r9 ?_
  refine at_load hH.r10 ?_
  refine at_load (hH.s11.reads' fun _ => rfl) ?_
  refine at_pure ⟨rfl, fun t d => ?_⟩
  pointwise [lnOut, zrow]
  rfl

/-! ## The body -/

theorem hot {gp : Fin 1024 → BitVec 32} {Cb : S16x1024.Idx → EReal} (hv : Valid gp Cb) (t : Fin 1024) (r : Fin 1536) (hr : r.val = pos gp t) (u : Fin 1024) :
    r.val = pos gp u ↔ u = t := by
  obtain ⟨g, hg, h⟩ := hv.1 t
  obtain ⟨g', hg', h'⟩ := hv.1 u
  exact ⟨fun e => pos_inj hg' hg h' h (e.symm.trans hr), fun e => e ▸ hr⟩

theorem crow_self {gp : Fin 1024 → BitVec 32} {Cb : S16x1024.Idx → EReal} (hv : Valid gp Cb) (t : Fin 1024) (l : Fin 128) : crow Cb t l - crow Cb t l = 0 := by
  unfold crow
  by_cases e : l.val < 16
  · rw [dif_pos e]
    have h := hv.2 ⟨l.val, e⟩ t
    exact EReal.sub_self h.2 h.1
  · rw [dif_neg e, sub_zero]

/-- The first group's step leaves the packed rows: no group is done. -/
theorem good_zero (gp : Fin 1024 → BitVec 32) (Y : Fin 1024 → Fin 1024 → EReal) (o : S1024x1024.Idx → EReal) (p x y : S1536x1024.Idx → EReal)
    (w : S1536x128.Idx → EReal) (s : S8.Idx → BitVec 32) (hS : Subs gp 8 s)
    (P : FVec Ideal S1536x1024 .bf16) (v27 : FVec Ideal S1024x1024 .bf16) (v187 : FVec Ideal S1024x128 .f32)
    (hP : ∀ (r : Fin 1536) (t : Fin 1024), P (ix2 r t) = if r.val = pos gp t then (1 : EReal) else 0)
    (h27 : ∀ t d : Fin 1024, v27 (ix2 t d) = hid X Ad t d) (h187 : ∀ (t : Fin 1024) (l : Fin 128), v187 (ix2 t l) = crow Cb t l)
    (hperm : ∀ (r : Fin 1536) (t : Fin 1024), p (ix2 r t) = P (ix2 r t))
    (hxs : ∀ (r : Fin 1536) (d : Fin 1024), x (ix2 r d) = ∑ t : Fin 1024, P (ix2 r t) * v27 (ix2 t d))
    (hcb : ∀ (r : Fin 1536) (l : Fin 128), w (ix2 r l) = (∑ t : Fin 1024, P (ix2 r t) * v187 (ix2 t l)) + ∑ t : Fin 1024, P (ix2 r t) * (v187 (ix2 t l) - v187 (ix2 t l))) :
    Good gp X Ad Cb Y 0 ⟨o, p, x, w, y, s⟩ where
  subs := hS
  perm := fun r t => (hperm r t).trans (hP r t)
  xs := fun hv t d r hr => by
    refine (hxs r d).trans ?_
    refine (Finset.sum_congr rfl fun u _ => congrArg₂ (· * ·) (hP r u) (h27 u d)).trans ?_
    exact sum_onehot t (fun u => r.val = pos gp u) (hot hv t r hr) fun u => hid X Ad u d
  cb := fun hv t l r hr => by
    refine (hcb r l).trans ?_
    refine (congrArg₂ (· + ·) (Finset.sum_congr rfl fun u _ => congrArg₂ (· * ·) (hP r u) (h187 u l))
      (Finset.sum_congr rfl fun u _ => congrArg₂ (· * ·) (hP r u) (congrArg₂ (· - ·) (h187 u l) (h187 u l)))).trans ?_
    rw [sum_onehot t (fun u => r.val = pos gp u) (hot hv t r hr) fun u => crow Cb u l,
      sum_onehot t (fun u => r.val = pos gp u) (hot hv t r hr) fun u => crow Cb u l - crow Cb u l, crow_self hv, add_zero]
  ys := fun _ _ _ _ _ ⟨g, hg, _⟩ => absurd hg (Nat.not_lt_zero g)

/-- One group's rows done. -/
theorem good_step {gp : Fin 1024 → BitVec 32} {Y : Fin 1024 → Fin 1024 → EReal} {σ : St} {g : ℕ} (hg : g < 4) (hG : Good gp X Ad Cb Y g σ)
    (ys' : S1536x1024.Idx → EReal)
    (hin : ∀ (r : Fin 1536) (d : Fin 1024), 128 * start gp g ≤ r.val → r.val < 128 * (start gp g + cap gp g) →
      ys' (ix2 r d) = rowOut Wg Wu Wd g (fun k => σ.xs (ix2 r k)) (fun l => σ.cb (ix2 r l)) d)
    (hout : ∀ (r : Fin 1536) (d : Fin 1024), ¬ (128 * start gp g ≤ r.val ∧ r.val < 128 * (start gp g + cap gp g)) → ys' (ix2 r d) = σ.ys (ix2 r d))
    (hY : ∀ t d : Fin 1024, gp t = BitVec.ofNat 32 g → Y t d = rowOut Wg Wu Wd g (hid X Ad t) (crow Cb t) d) :
    Good gp X Ad Cb Y (g + 1) { σ with ys := ys' } where
  subs := hG.subs
  perm := hG.perm
  xs := hG.xs
  cb := hG.cb
  ys := fun hv t d r hr ⟨g', hg', h'⟩ => by
    by_cases e : g' = g
    · subst e
      have hm := pos_mem hg h'
      refine (hin r d (by omega) (by omega)).trans ((hY t d h').trans ?_).symm
      refine congrArg₂ (fun x w => rowOut Wg Wu Wd g' x w d) (funext fun k => (hG.xs hv t k r hr).symm) (funext fun l => (hG.cb hv t l r hr).symm)
    · have hm := pos_mem (show g' < 4 by omega) h'
      have hs := start_mono (gp := gp) (show g' < g by omega)
      exact (hout r d (by omega)).trans (hG.ys hv t d r hr ⟨g', by omega, h'⟩)

/-- What the last group's step gives. -/
theorem good_out {gp : Fin 1024 → BitVec 32} {Y : Fin 1024 → Fin 1024 → EReal} {σ : St} (hG : Good gp X Ad Cb Y 4 σ) (hv : Valid gp Cb) (t d : Fin 1024) :
    (∑ r : Fin 1536, σ.perm (ix2 r t) * σ.ys (ix2 r d)) = Y t d := by
  obtain ⟨g, hg, h⟩ := hv.1 t
  have hp := pos_lt hg h
  refine (Finset.sum_congr rfl fun r _ => congrArg₂ (· * ·) (hG.perm r t) rfl).trans ?_
  refine (sum_onehot (⟨pos gp t, hp⟩ : Fin 1536) (fun r => r.val = pos gp t) (fun r => ⟨fun e => Fin.ext e, fun e => e ▸ rfl⟩) fun r => σ.ys (ix2 r d)).trans ?_
  exact hG.ys hv t d _ rfl ⟨g, hg, h⟩

/-- The rows stored by one trip. -/
theorem stored_rows {off : Fin 2 → ℕ} (m : ℕ) (hm : m < 12) (ho : off = ![128 * m, 0]) (inb : ∀ a, off a + S128x1024.size a ≤ S1536x1024.size a)
    (w : S128x1024.Idx → EReal) (Z : S1536x1024.Idx → EReal) (r : Fin 1536) (d : Fin 1024) :
    (∀ (h : 128 * m ≤ r.val) (h' : r.val < 128 * m + 128), stored (s := S1536x1024) (Val := Elt Ideal) (e := .bf16) off S128x1024.size inb w Z (ix2 r d) =
      w (ix2 (⟨r.val - 128 * m, by omega⟩ : Fin 128) d)) ∧
    (¬ (128 * m ≤ r.val ∧ r.val < 128 * m + 128) → stored (s := S1536x1024) (Val := Elt Ideal) (e := .bf16) off S128x1024.size inb w Z (ix2 r d) = Z (ix2 r d)) := by
  subst ho
  constructor
  · intro h h'
    unfold stored
    rw [dif_pos (fun a => match a with
      | ⟨0, _⟩ => (⟨h, h'⟩ : 128 * m ≤ r.val ∧ r.val < 128 * m + 128)
      | ⟨1, _⟩ => (⟨Nat.zero_le _, by show d.val < 0 + 1024; omega⟩ : 0 ≤ d.val ∧ d.val < 0 + 1024))]
    refine congrArg w (funext fun a => ?_)
    match a with
    | ⟨0, _⟩ => rfl
    | ⟨1, _⟩ => rfl
  · intro h
    unfold stored
    rw [dif_neg (fun hh => h (hh 0))]

/-! ## The whole body -/

theorem stored_cast {m n : ℕ} {e : EltTy} (inb : ∀ a, (![0, 0] : Fin 2 → ℕ) a + (Shape.mk 2 ![m, n]).size a ≤ (Shape.mk 2 ![m, n]).size a)
    (v : (Shape.mk 2 ![m, n]).Idx → Elt Ideal e) (w : (Shape.mk 2 ![m, n]).Idx → Elt Ideal e) (hw : ∀ a b, w (ix2 a b) = v (ix2 a b))
    (Z : (Shape.mk 2 ![m, n]).Idx → Elt Ideal e) (f : Fin m → Fin n → Elt Ideal e) (hv : ∀ a b, v (ix2 a b) = f a b) (a : Fin m) (b : Fin n) :
    stored (s := Shape.mk 2 ![m, n]) (Val := Elt Ideal) (e := e) ![0, 0] (Shape.mk 2 ![m, n]).size inb w Z (ix2 a b) = f a b :=
  (stored_whole inb w Z a b).trans ((hw a b).trans (hv a b))

/-- The state the first group's step makes. -/
theorem init_good (gp : Fin 1024 → BitVec 32) (Y : Fin 1024 → Fin 1024 → EReal) (o : S1024x1024.Idx → EReal) (p0 x0 y0 : S1536x1024.Idx → EReal)
    (c0 : S1536x128.Idx → EReal) (s : S8.Idx → BitVec 32) (hS : Subs gp 8 s)
    (P : FVec Ideal S1536x1024 .bf16) (v27 : FVec Ideal S1024x1024 .bf16) (v187 : FVec Ideal S1024x128 .f32)
    (hP : ∀ (r : Fin 1536) (t : Fin 1024), P (ix2 r t) = if r.val = pos gp t then (1 : EReal) else 0)
    (h27 : ∀ t d : Fin 1024, v27 (ix2 t d) = hid X Ad t d) (h187 : ∀ (t : Fin 1024) (l : Fin 128), v187 (ix2 t l) = crow Cb t l)
    (B : FVec Ideal S1536x1024 .bf16) (hB : ∀ (r : Fin 1536) (d : Fin 1024), B (ix2 r d) = ∑ t : Fin 1024, P (ix2 r t) * v27 (ix2 t d))
    (C : FVec Ideal S1536x128 .f32)
    (hC : ∀ (r : Fin 1536) (l : Fin 128), C (ix2 r l) = (∑ t : Fin 1024, P (ix2 r t) * v187 (ix2 t l)) + ∑ t : Fin 1024, P (ix2 r t) * (v187 (ix2 t l) - v187 (ix2 t l)))
    (w : S1536x1024.Idx → EReal) (i1 i3 : ∀ a, (![0, 0] : Fin 2 → ℕ) a + S1536x1024.size a ≤ S1536x1024.size a)
    (i2 : ∀ a, (![0, 0] : Fin 2 → ℕ) a + S1536x128.size a ≤ S1536x128.size a)
    (k1 k2 : S1536x1024.ShapeCasts S1536x1024) (k3 : S1536x128.ShapeCasts S1536x128) (i4 : ∀ a, (![0, 0] : Fin 2 → ℕ) a + S1536x1024.size a ≤ S1536x1024.size a) :
    Good gp X Ad Cb Y 0
      ⟨o, stored (s := S1536x1024) (Val := Elt Ideal) (e := .bf16) ![0, 0] S1536x1024.size i1 (shapeCast S1536x1024 P k1) p0,
        stored (s := S1536x1024) (Val := Elt Ideal) (e := .bf16) ![0, 0] S1536x1024.size i3 (shapeCast S1536x1024 B k2) x0,
        stored (s := S1536x128) (Val := Elt Ideal) (e := .f32) ![0, 0] S1536x128.size i2 (shapeCast S1536x128 C k3) c0,
        stored (s := S1536x1024) (Val := Elt Ideal) (e := .bf16) ![0, 0] S1536x1024.size i4 w y0, s⟩ :=
  good_zero gp Y o _ _ _ _ s hS P v27 v187 hP h27 h187
    (stored_cast (m := 1536) (n := 1024) (e := .bf16) i1 P (shapeCast S1536x1024 P k1) (same_cast (m := 1536) (n := 1024) P k1) p0 (fun r t => P (ix2 r t)) fun _ _ => rfl)
    (stored_cast (m := 1536) (n := 1024) (e := .bf16) i3 B (shapeCast S1536x1024 B k2) (same_cast (m := 1536) (n := 1024) B k2) x0 _ hB)
    (stored_cast (m := 1536) (n := 128) (e := .f32) i2 C (shapeCast S1536x128 C k3) (same_cast (m := 1536) (n := 128) C k3) c0 _ hC)

/-- Of a program's first state only this much is needed. -/
theorem at_state {α : Type} {p : Prog (TpuEff nD τ sig (Elt Ideal) Λ₀ .tc) α} {σ : St} {Post : α → St → Prop} {Q : St → Prop} (h : Q σ)
    (hk : ∀ σ1, Q σ1 → At defs c H σ1 p Post) : At defs c H σ p Post := hk σ h

theorem cond1 : ∀ g : Fin 4, Scalar.cmpi .ne (Scalar.extui (Scalar.cmpi .eq (BitVec.ofNat 32 g.val) 0#32) : BitVec 32) 0#32 = 1#1 ↔ g.val = 0 := by decide +kernel

theorem hc2 : ∀ g : Fin 4, Scalar.cmpi .ne (Scalar.extui (Scalar.cmpi .eq (BitVec.ofNat 32 g.val) 3#32) : BitVec 32) 0#32 = 1#1 ↔ g.val = 3 := by decide +kernel

set_option maxHeartbeats 2000000 in
include hH in
/-- A group's step takes the state the groups before it leave to the state it leaves; the last one also writes the result's block. -/
theorem body (σ : St) (Y : Fin 1024 → Fin 1024 → EReal) (hpre : (i 1).val ≠ 0 → Good (grp Gr) X Ad Cb Y (i 1).val σ)
    (hY : ∀ t d : Fin 1024, grp Gr t = BitVec.ofNat 32 (i 1).val → Y t d = rowOut Wg Wu Wd (i 1).val (hid X Ad t) (crow Cb t) d) :
    At defs c H σ (cc0_moe (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ σ' => Good (grp Gr) X Ad Cb Y ((i 1).val + 1) σ' ∧ ((i 1).val ≠ 3 → σ'.O = σ.O) ∧
        ((i 1).val = 3 → Valid (grp Gr) Cb → ∀ t d : Fin 1024, σ'.O (ix2 t d) = lnOut (zrow X Ad Y t) (Lg (ix2 (0 : Fin 1) d)) (Lb (ix2 (0 : Fin 1) d)) d)) := by
  have hi : (i 1).val < 4 := (i 1).isLt
  have hle := start_le (gp := grp Gr) hi
  have hv3 : ∀ r l : Fin 128, (iota .tc S128x128 32 [1] iota_S128x128_d1_w32 : IVec S128x128 32) (ix2 r l) = BitVec.ofNat 32 l.val := fun r l => by simp [iota]
  refine at_dite (fun h1 => ?_) fun h1 => ?_
  · have h1 : (i 1).val = 0 := (cond1 (i 1)).1 h1
    refine at_bind (part1 hH σ) ?_
    rintro ⟨v27, v28, v34, v39, v44, v49, z⟩ σ' ⟨hσ', h27, h28, h34, h39, h44, h49, hz⟩
    rw [hσ']
    refine at_bind (part2 hH _ v34 v39 v44 v49 z (grp Gr) h34 h39 h44 h49) ?_
    rintro ⟨v60, v75, v90, v91, v92⟩ _ ⟨⟨s2, rfl, hS2⟩, h60, h75, h90, h91, h92⟩
    refine at_bind (part3 hH _ v39 v44 v60 v75 v90 v91 v92 (grp Gr) hS2 h39 h44 h60 h75 h90 h91 h92) ?_
    rintro ⟨v118, v124, v131, v137⟩ _ ⟨⟨s4, rfl, hS4⟩, h118, h124, h131, h137⟩
    refine at_bind (part4 hH _ v49 v60 v118 v124 v131 v137 (grp Gr) hS4 h49 h60 h118 h124 h131 h137) ?_
    rintro ⟨v177, z', v178⟩ _ ⟨⟨s8, rfl, hS8⟩, h177, hz', h178⟩
    refine at_load (hH.s12.reads' fun _ => rfl) ?_
    refine at_store hH.s12 ?_
    refine at_load (hH.s13.reads' fun _ => rfl) ?_
    refine at_store hH.s13 ?_
    refine at_load (hH.s14.reads' fun _ => rfl) ?_
    refine at_store hH.s14 ?_
    refine at_load (hH.s15.reads' fun _ => rfl) ?_
    refine at_store hH.s15 ?_
    refine at_state (Q := fun σ1 => σ1.O = σ.O ∧ Good (grp Gr) X Ad Cb Y (i 1).val σ1) ⟨rfl, ?_⟩ ?_
    · rw [h1]
      exact init_good (grp Gr) Y _ _ _ _ _ _ hS8 _ v27 _ (perm_at v177 z' v178 (grp Gr) h177 hz' h178) h27 (wide_at v28 Cb h28) _ (packed_x _ v27 _) _ (packed_c _ v27 _)
        (shapeCast S1536x1024 (broadcast S1536x1024 (Scalar.ofBits (F := Ideal) .bf16 0x0000#16)) shapeCasts_S1536x1024_S1536x1024)
        inb_S1536x1024_S1536x1024_0_0 inb_S1536x1024_S1536x1024_0_0 inb_S1536x128_S1536x128_0_0 shapeCasts_S1536x1024_S1536x1024 shapeCasts_S1536x1024_S1536x1024
        shapeCasts_S1536x128_S1536x128 inb_S1536x1024_S1536x1024_0_0
    rintro σ1 ⟨hO, hG⟩
    rw [← hO]
    refine at_word_eq (hH.s16.reads' fun _ => rfl) (BitVec.ofNat 32 (cap (grp Gr) (i 1).val)) ?_ ?_
    · refine (congrArg σ1.sub (word_read (k := 2 * (i 1).val + 1) (by omega) (off1_eq i) _ _)).trans ((hG.subs ⟨2 * (i 1).val + 1, by omega⟩ (by show 2 * (i 1).val + 1 < 8; omega)).trans ?_)
      show BitVec.ofNat 32 (if (2 * (i 1).val + 1) % 2 = 0 then _ else cap (grp Gr) ((2 * (i 1).val + 1) / 2)) = _
      rw [if_neg (by omega), show (2 * (i 1).val + 1) / 2 = (i 1).val by omega]
    refine at_assume (chk1 (show cap (grp Gr) (i 1).val < 13 by omega) rfl) ?_
    refine at_bind (at_for (fun n _ σ' => ∃ ys', σ' = { σ1 with ys := ys' } ∧
      (∀ (r : Fin 1536) (d : Fin 1024), 128 * start (grp Gr) (i 1).val ≤ r.val → r.val < 128 * (start (grp Gr) (i 1).val + n) →
        ys' (ix2 r d) = rowOut Wg Wu Wd (i 1).val (fun k => σ1.xs (ix2 r k)) (fun l => σ1.cb (ix2 r l)) d) ∧
      (∀ (r : Fin 1536) (d : Fin 1024), ¬ (128 * start (grp Gr) (i 1).val ≤ r.val ∧ r.val < 128 * (start (grp Gr) (i 1).val + n)) → ys' (ix2 r d) = σ1.ys (ix2 r d)))
      ⟨σ1.ys, rfl, fun r d h h' => by omega, fun r d _ => rfl⟩ (fun k acc σ' h => ?_) fun _ _ h => h) ?_
    · obtain ⟨ys', rfl, hin, hout⟩ := h
      have hk : k.val < cap (grp Gr) (i 1).val := lt_of_lt_of_eq k.isLt (trips1 (show cap (grp Gr) (i 1).val < 13 by omega) rfl)
      have hmk : start (grp Gr) (i 1).val + k.val < 12 := by omega
      refine at_bind (part5 hH _ _ hv3 (BitVec.ofNat 32 (cap (grp Gr) (i 1).val)) k (start (grp Gr) (i 1).val) (by omega) (by omega) hmk (by omega) ?_) ?_
      · refine (hG.subs ⟨2 * (i 1).val, by omega⟩ (by show 2 * (i 1).val < 8; omega)).trans ?_
        show BitVec.ofNat 32 (if (2 * (i 1).val) % 2 = 0 then start (grp Gr) ((2 * (i 1).val) / 2) else _) = _
        rw [if_pos (by omega), show (2 * (i 1).val) / 2 = (i 1).val by omega]
      rintro ⟨v18, hw2, v21, v23, v25, v45, v51⟩ _ ⟨rfl, h18, h23, h25, h45, h51⟩
      refine at_bind (part6 hH _ _ hv3 v23 v25 v51 _ _ h23 h25 h51) ?_
      rintro ⟨v65, v85, v86⟩ _ ⟨rfl, h65, h85, h86⟩
      refine at_load hH.r6 ?_
      refine at_load hH.r7 ?_
      refine at_load hH.r8 ?_
      refine at_load (hH.s15.reads' fun _ => rfl) ?_
      refine at_store hH.s15 ?_
      have ho := off3_eq (BitVec.ofNat 32 (cap (grp Gr) (i 1).val)) k (show start (grp Gr) (i 1).val < 13 by omega) (show k.val < 13 by omega) h18
      refine at_pure ⟨_, rfl, fun r d h h' => ?_, fun r d h => ?_⟩
      · by_cases e : 128 * (start (grp Gr) (i 1).val + k.val) ≤ r.val
        · refine ((stored_rows _ hmk ho _ _ _ r d).1 e (by omega)).trans ((same_cast _ _ _ _).trans ?_)
          have er : r = prow (start (grp Gr) (i 1).val + k.val) hmk (⟨r.val - 128 * (start (grp Gr) (i 1).val + k.val), by omega⟩ : Fin 128) :=
            Fin.ext (show r.val = 128 * (start (grp Gr) (i 1).val + k.val) + (r.val - 128 * (start (grp Gr) (i 1).val + k.val)) by omega)
          refine Eq.trans ?_ (congrArg (fun r => rowOut Wg Wu Wd (i 1).val (fun k => σ1.xs (ix2 r k)) (fun l => σ1.cb (ix2 r l)) d) er.symm)
          refine (out_at v45 v65 v85 _ _ _ d (fun q j => qv Wg Wu _ (wsum _ (i 1).val q.val) q j) (h45 _) (h65 _) (h85 _) (fun j => ?_)).trans ?_
          · refine quarter Wg Wu v23 _ _ _ _ j 3 _ _ (h23 _) (weight_at Wg 3 (by decide) _) (weight_at Wu 3 (by decide) _) (wsum_at _ _ (i 1).val 3 _ fun l => ?_)
            obtain rfl : v86 = _ := h86
            refine (lane_at _ hv3 v25 ⟨(i 1).val, hi⟩ 3 _ l).trans ?_
            exact congrArg (fun z => if l.val = 4 * (i 1).val + 3 then z else 0) (h25 _ l)
          · exact Finset.sum_congr rfl fun j _ => congrArg₂ (· * ·) rfl (down_at Wd _ j d)
        · exact ((stored_rows _ hmk ho _ _ _ r d).2 (by omega)).trans (hin r d h (by omega))
      · exact ((stored_rows _ hmk ho _ _ _ r d).2 (by omega)).trans (hout r d (by omega))
    rintro ⟨⟩ _ ⟨ys', rfl, hin, hout⟩
    rw [trips1 (show cap (grp Gr) (i 1).val < 13 by omega) rfl] at hin hout
    have hG' := good_step (Wg := Wg) (Wu := Wu) (Wd := Wd) hi hG ys' hin hout hY
    refine at_bind (at_for (fun _ _ s => s = { σ1 with ys := ys' }) rfl
      (fun k => absurd (lt_of_lt_of_eq k.isLt (trips2 (show cap (grp Gr) (i 1).val < 13 by omega) rfl)) (Nat.not_lt_zero _)) fun _ _ h => h) ?_
    rintro ⟨⟩ _ rfl
    refine at_dite (fun h3 => ?_) fun h3 => ?_
    · have h3 : (i 1).val = 3 := (hc2 (i 1)).1 h3
      refine at_bind (part9 hH _) ?_
      rintro v52 _ ⟨rfl, h52⟩
      refine at_store hH.s11 ?_
      refine at_pure ⟨⟨hG'.subs, hG'.perm, hG'.xs, hG'.cb, hG'.ys⟩, fun h => absurd h3 h, fun _ hv t d => ?_⟩
      refine (stored_whole (m := 1024) (n := 1024) (e := .f32) inb_S1024x1024_S1024x1024_0_0 v52 σ1.O t d).trans ((h52 t d).trans ?_)
      have h4 : (i 1).val + 1 = 4 := by omega
      rw [h4] at hG'
      exact congrArg (fun y => lnOut y (Lg (ix2 (0 : Fin 1) d)) (Lb (ix2 (0 : Fin 1) d)) d) (funext fun k => congrArg (fun y => Ideal.ofBits .f32 0x3FB504F3#32 * X (ix2 t k) + Ad (ix3 (0 : Fin 1) (5 : Fin 6) k) * y) (good_out hG' hv t k))
    · have h3 : (i 1).val ≠ 3 := fun h => h3 ((hc2 (i 1)).2 h)
      exact at_pure ⟨hG', fun _ => rfl, fun h => absurd h h3⟩
  · have h1 : (i 1).val ≠ 0 := fun h => h1 ((cond1 (i 1)).2 h)
    have hG := hpre h1
    refine at_word_eq (hH.s16.reads' fun _ => rfl) (BitVec.ofNat 32 (cap (grp Gr) (i 1).val)) ?_ ?_
    · refine (congrArg σ.sub (word_read (k := 2 * (i 1).val + 1) (by omega) (off1_eq i) _ _)).trans ((hG.subs ⟨2 * (i 1).val + 1, by omega⟩ (by show 2 * (i 1).val + 1 < 8; omega)).trans ?_)
      show BitVec.ofNat 32 (if (2 * (i 1).val + 1) % 2 = 0 then _ else cap (grp Gr) ((2 * (i 1).val + 1) / 2)) = _
      rw [if_neg (by omega), show (2 * (i 1).val + 1) / 2 = (i 1).val by omega]
    refine at_assume (chk1 (show cap (grp Gr) (i 1).val < 13 by omega) rfl) ?_
    refine at_bind (at_for (fun n _ σ' => ∃ ys', σ' = { σ with ys := ys' } ∧
      (∀ (r : Fin 1536) (d : Fin 1024), 128 * start (grp Gr) (i 1).val ≤ r.val → r.val < 128 * (start (grp Gr) (i 1).val + n) →
        ys' (ix2 r d) = rowOut Wg Wu Wd (i 1).val (fun k => σ.xs (ix2 r k)) (fun l => σ.cb (ix2 r l)) d) ∧
      (∀ (r : Fin 1536) (d : Fin 1024), ¬ (128 * start (grp Gr) (i 1).val ≤ r.val ∧ r.val < 128 * (start (grp Gr) (i 1).val + n)) → ys' (ix2 r d) = σ.ys (ix2 r d)))
      ⟨σ.ys, rfl, fun r d h h' => by omega, fun r d _ => rfl⟩ (fun k acc σ' h => ?_) fun _ _ h => h) ?_
    · obtain ⟨ys', rfl, hin, hout⟩ := h
      have hk : k.val < cap (grp Gr) (i 1).val := lt_of_lt_of_eq k.isLt (trips1 (show cap (grp Gr) (i 1).val < 13 by omega) rfl)
      have hmk : start (grp Gr) (i 1).val + k.val < 12 := by omega
      refine at_bind (part5 hH _ _ hv3 (BitVec.ofNat 32 (cap (grp Gr) (i 1).val)) k (start (grp Gr) (i 1).val) (by omega) (by omega) hmk (by omega) ?_) ?_
      · refine (hG.subs ⟨2 * (i 1).val, by omega⟩ (by show 2 * (i 1).val < 8; omega)).trans ?_
        show BitVec.ofNat 32 (if (2 * (i 1).val) % 2 = 0 then start (grp Gr) ((2 * (i 1).val) / 2) else _) = _
        rw [if_pos (by omega), show (2 * (i 1).val) / 2 = (i 1).val by omega]
      rintro ⟨v18, hw2, v21, v23, v25, v45, v51⟩ _ ⟨rfl, h18, h23, h25, h45, h51⟩
      refine at_bind (part6 hH _ _ hv3 v23 v25 v51 _ _ h23 h25 h51) ?_
      rintro ⟨v65, v85, v86⟩ _ ⟨rfl, h65, h85, h86⟩
      refine at_load hH.r6 ?_
      refine at_load hH.r7 ?_
      refine at_load hH.r8 ?_
      refine at_load (hH.s15.reads' fun _ => rfl) ?_
      refine at_store hH.s15 ?_
      have ho := off3_eq (BitVec.ofNat 32 (cap (grp Gr) (i 1).val)) k (show start (grp Gr) (i 1).val < 13 by omega) (show k.val < 13 by omega) h18
      refine at_pure ⟨_, rfl, fun r d h h' => ?_, fun r d h => ?_⟩
      · by_cases e : 128 * (start (grp Gr) (i 1).val + k.val) ≤ r.val
        · refine ((stored_rows _ hmk ho _ _ _ r d).1 e (by omega)).trans ((same_cast _ _ _ _).trans ?_)
          have er : r = prow (start (grp Gr) (i 1).val + k.val) hmk (⟨r.val - 128 * (start (grp Gr) (i 1).val + k.val), by omega⟩ : Fin 128) :=
            Fin.ext (show r.val = 128 * (start (grp Gr) (i 1).val + k.val) + (r.val - 128 * (start (grp Gr) (i 1).val + k.val)) by omega)
          refine Eq.trans ?_ (congrArg (fun r => rowOut Wg Wu Wd (i 1).val (fun k => σ.xs (ix2 r k)) (fun l => σ.cb (ix2 r l)) d) er.symm)
          refine (out_at v45 v65 v85 _ _ _ d (fun q j => qv Wg Wu _ (wsum _ (i 1).val q.val) q j) (h45 _) (h65 _) (h85 _) (fun j => ?_)).trans ?_
          · refine quarter Wg Wu v23 _ _ _ _ j 3 _ _ (h23 _) (weight_at Wg 3 (by decide) _) (weight_at Wu 3 (by decide) _) (wsum_at _ _ (i 1).val 3 _ fun l => ?_)
            obtain rfl : v86 = _ := h86
            refine (lane_at _ hv3 v25 ⟨(i 1).val, hi⟩ 3 _ l).trans ?_
            exact congrArg (fun z => if l.val = 4 * (i 1).val + 3 then z else 0) (h25 _ l)
          · exact Finset.sum_congr rfl fun j _ => congrArg₂ (· * ·) rfl (down_at Wd _ j d)
        · exact ((stored_rows _ hmk ho _ _ _ r d).2 (by omega)).trans (hin r d h (by omega))
      · exact ((stored_rows _ hmk ho _ _ _ r d).2 (by omega)).trans (hout r d (by omega))
    rintro ⟨⟩ _ ⟨ys', rfl, hin, hout⟩
    rw [trips1 (show cap (grp Gr) (i 1).val < 13 by omega) rfl] at hin hout
    have hG' := good_step (Wg := Wg) (Wu := Wu) (Wd := Wd) hi hG ys' hin hout hY
    refine at_bind (at_for (fun _ _ s => s = { σ with ys := ys' }) rfl
      (fun k => absurd (lt_of_lt_of_eq k.isLt (trips2 (show cap (grp Gr) (i 1).val < 13 by omega) rfl)) (Nat.not_lt_zero _)) fun _ _ h => h) ?_
    rintro ⟨⟩ _ rfl
    refine at_dite (fun h3 => ?_) fun h3 => ?_
    · have h3 : (i 1).val = 3 := (hc2 (i 1)).1 h3
      refine at_bind (part9 hH _) ?_
      rintro v52 _ ⟨rfl, h52⟩
      refine at_store hH.s11 ?_
      refine at_pure ⟨⟨hG'.subs, hG'.perm, hG'.xs, hG'.cb, hG'.ys⟩, fun h => absurd h3 h, fun _ hv t d => ?_⟩
      refine (stored_whole (m := 1024) (n := 1024) (e := .f32) inb_S1024x1024_S1024x1024_0_0 v52 σ.O t d).trans ((h52 t d).trans ?_)
      have h4 : (i 1).val + 1 = 4 := by omega
      rw [h4] at hG'
      exact congrArg (fun y => lnOut y (Lg (ix2 (0 : Fin 1) d)) (Lb (ix2 (0 : Fin 1) d)) d) (funext fun k => congrArg (fun y => Ideal.ofBits .f32 0x3FB504F3#32 * X (ix2 t k) + Ad (ix3 (0 : Fin 1) (5 : Fin 6) k) * y) (good_out hG' hv t k))
    · have h3 : (i 1).val ≠ 3 := fun h => h3 ((hc2 (i 1)).2 h)
      exact at_pure ⟨hG', fun _ => rfl, fun h => absurd h h3⟩

end Cert.Proof.Experts
-- ==== Proof.MoeFrame.lean ====
/-
  The experts' run: at the four grid points of a block of rows the body takes the four groups' experts in turn, and at the last
  of them leaves the block's rows in the result.
-/
module

public import proofs.«01_k».proof.Defs
public import proofs.«01_k».proof.Proof.MoeBody
public import proofs.«01_k».proof.Proof.Gen.ExpertsIdeal.Frame
public import Idealize.ShloMosaic.Lib.Pipeline.ValueKit

@[expose] public section

noncomputable section

namespace Cert.Proof.Experts

open Cert.ExpertsIdeal Cert.ExpertsIdeal.Gen Cert.Proof
open Idealize.ShloMosaic hiding ix1 ix2 ix3 ix4
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose BodyObligation)

local notation "𝕄" => MT nD τ sig Unit (Elt Ideal) ℕ (UR sig nD τ) ℕ

variable (m : (ℓ : Loc nD τ sig) → Buf (Elt Ideal) ℓ) (ρ : Dev nD → PrngReg)

/-- What the body runs from: its blocks of the inputs, and its result's block and its scratch buffers at what the state says. -/
def held (c : Dev nD) (t : Fin cfg0.N) (σ : St) : sProp 𝕄 :=
  iprop(owns c (st0_0 t) fullShare (iblk m c 0 t)
    ∗ owns c (st0_1 t) fullShare (iblk m c 1 t)
    ∗ owns c (st0_2 t) fullShare (iblk m c 2 t)
    ∗ owns c (st0_3 t) fullShare (iblk m c 3 t)
    ∗ owns c (st0_4 t) fullShare (iblk m c 4 t)
    ∗ owns c (st0_5 t) fullShare (iblk m c 5 t)
    ∗ owns c (st0_6 t) fullShare (iblk m c 6 t)
    ∗ owns c (st0_7 t) fullShare (iblk m c 7 t)
    ∗ owns c (st0_8 t) fullShare (iblk m c 8 t)
    ∗ owns c (st0_9 t) fullShare σ.O
    ∗ owns c (Memref.whole cc0_scratch0) fullShare σ.perm
    ∗ owns c (Memref.whole cc0_scratch1) fullShare σ.xs
    ∗ owns c (Memref.whole cc0_scratch2) fullShare σ.cb
    ∗ owns c (Memref.whole cc0_scratch3) fullShare σ.ys
    ∗ owns c (Memref.whole cc0_scratch4) fullShare σ.sub)

theorem held_ok (c : Dev nD) (t : Fin cfg0.N) :
    Held c (held m c t) (iblk m c 0 t) (iblk m c 1 t) (iblk m c 2 t) (iblk m c 3 t) (iblk m c 4 t) (iblk m c 5 t) (iblk m c 6 t) (iblk m c 7 t) (iblk m c 8 t)
      (st0_0 t) (st0_1 t) (st0_2 t) (st0_3 t) (st0_4 t) (st0_5 t) (st0_6 t) (st0_7 t) (st0_8 t) (st0_9 t)
      (Memref.whole cc0_scratch0) (Memref.whole cc0_scratch1) (Memref.whole cc0_scratch2) (Memref.whole cc0_scratch3) (Memref.whole cc0_scratch4) where
  r2 := by
    intro σ
    unfold held
    iintro ⟨H0, H⟩
    iexists fullShare
    isplitl [H0]; · iexact H0
    iintro H0
    isplitl [H0]; · iexact H0
    iexact H
  r3 := by
    intro σ
    unfold held
    iintro ⟨H0, H1, H⟩
    iexists fullShare
    isplitl [H1]; · iexact H1
    iintro H1
    isplitl [H0]; · iexact H0
    isplitl [H1]; · iexact H1
    iexact H
  r4 := by
    intro σ
    unfold held
    iintro ⟨H0, H1, H2, H⟩
    iexists fullShare
    isplitl [H2]; · iexact H2
    iintro H2
    isplitl [H0]; · iexact H0
    isplitl [H1]; · iexact H1
    isplitl [H2]; · iexact H2
    iexact H
  r5 := by
    intro σ
    unfold held
    iintro ⟨H0, H1, H2, H3, H⟩
    iexists fullShare
    isplitl [H3]; · iexact H3
    iintro H3
    isplitl [H0]; · iexact H0
    isplitl [H1]; · iexact H1
    isplitl [H2]; · iexact H2
    isplitl [H3]; · iexact H3
    iexact H
  r6 := by
    intro σ
    unfold held
    iintro ⟨H0, H1, H2, H3, H4, H⟩
    iexists fullShare
    isplitl [H4]; · iexact H4
    iintro H4
    isplitl [H0]; · iexact H0
    isplitl [H1]; · iexact H1
    isplitl [H2]; · iexact H2
    isplitl [H3]; · iexact H3
    isplitl [H4]; · iexact H4
    iexact H
  r7 := by
    intro σ
    unfold held
    iintro ⟨H0, H1, H2, H3, H4, H5, H⟩
    iexists fullShare
    isplitl [H5]; · iexact H5
    iintro H5
    isplitl [H0]; · iexact H0
    isplitl [H1]; · iexact H1
    isplitl [H2]; · iexact H2
    isplitl [H3]; · iexact H3
    isplitl [H4]; · iexact H4
    isplitl [H5]; · iexact H5
    iexact H
  r8 := by
    intro σ
    unfold held
    iintro ⟨H0, H1, H2, H3, H4, H5, H6, H⟩
    iexists fullShare
    isplitl [H6]; · iexact H6
    iintro H6
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H
  r9 := by
    intro σ
    unfold held
    iintro ⟨H0, H1, H2, H3, H4, H5, H6, H7, H⟩
    iexists fullShare
    isplitl [H7]; · iexact H7
    iintro H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H
  r10 := by
    intro σ
    unfold held
    iintro ⟨H0, H1, H2, H3, H4, H5, H6, H7, H8, H⟩
    iexists fullShare
    isplitl [H8]; · iexact H8
    iintro H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H
  s11 := by
    intro σ
    unfold held
    iintro ⟨H0, H1, H2, H3, H4, H5, H6, H7, H8, H9, H⟩
    isplitl [H9]; · iexact H9
    iintro %X H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H
  s12 := by
    intro σ
    unfold held
    iintro ⟨H0, H1, H2, H3, H4, H5, H6, H7, H8, H9, H10, H⟩
    isplitl [H10]; · iexact H10
    iintro %X H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H
  s13 := by
    intro σ
    unfold held
    iintro ⟨H0, H1, H2, H3, H4, H5, H6, H7, H8, H9, H10, H11, H⟩
    isplitl [H11]; · iexact H11
    iintro %X H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H
  s14 := by
    intro σ
    unfold held
    iintro ⟨H0, H1, H2, H3, H4, H5, H6, H7, H8, H9, H10, H11, H12, H⟩
    isplitl [H12]; · iexact H12
    iintro %X H12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H
  s15 := by
    intro σ
    unfold held
    iintro ⟨H0, H1, H2, H3, H4, H5, H6, H7, H8, H9, H10, H11, H12, H13, H⟩
    isplitl [H13]; · iexact H13
    iintro %X H13
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H
  s16 := by
    intro σ
    unfold held
    iintro ⟨H0, H1, H2, H3, H4, H5, H6, H7, H8, H9, H10, H11, H12, H13, H14⟩
    isplitl [H14]; · iexact H14
    iintro %X H14
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-! ## The blocks -/

/-- The blocks' places. -/
theorem idx : ∀ t : Fin grid0.N, win0_0.index t = ![(grid0.coords t 0).val, 0]
    ∧ win0_1.index t = ![(grid0.coords t 0).val / 8, 0, 0]
    ∧ win0_2.index t = ![0, (grid0.coords t 0).val]
    ∧ win0_3.index t = ![0, (grid0.coords t 0).val]
    ∧ win0_4.index t = ![0, (grid0.coords t 1).val, 0, 0]
    ∧ win0_5.index t = ![0, (grid0.coords t 1).val, 0, 0]
    ∧ win0_6.index t = ![0, (grid0.coords t 1).val, 0, 0]
    ∧ win0_7.index t = ![0, 0]
    ∧ win0_8.index t = ![0, 0]
    ∧ win0_9.index t = ![(grid0.coords t 0).val, 0] :=
  (by decide +kernel : ∀ t : Fin grid0.N, _)

/-- The grid's points: the four groups of each block of rows. -/
theorem points : ∀ t : Fin grid0.N, (grid0.coords t 0).val = t.val / 4 ∧ (grid0.coords t 1).val = t.val % 4 :=
  (by decide +kernel : ∀ t : Fin grid0.N, _)

/-! The blocks of rows, by the block's number, and those of the weights, by the group's. -/

def xb (c : Dev nD) (b : Fin 64) : S1024x1024.Idx → EReal := fun y => V m c main_arg0 (ix2 (⟨1024 * b.val + (y 0).val, by have : (y 0).val < 1024 := (y 0).isLt; omega⟩ : Fin 65536) (y 1))

def ab (c : Dev nD) (b : Fin 64) : S1x6x1024.Idx → EReal := fun y => V m c main_arg1 (ix3 (⟨b.val / 8, by omega⟩ : Fin 8) (y 1) (y 2))

def cbk (c : Dev nD) (b : Fin 64) : S16x1024.Idx → EReal := fun y => V m c main_arg2 (ix2 (y 0) (⟨1024 * b.val + (y 1).val, by have : (y 1).val < 1024 := (y 1).isLt; omega⟩ : Fin 65536))

def gb (c : Dev nD) (b : Fin 64) : S1x1024.Idx → BitVec 32 := fun y => V m c main_arg3 (ix2 (y 0) (⟨1024 * b.val + (y 1).val, by have : (y 1).val < 1024 := (y 1).isLt; omega⟩ : Fin 65536))

def wg (c : Dev nD) (g : Fin 4) : S1x4x1024x512.Idx → EReal := fun y => V m c main_v1 (ix4 (0 : Fin 1) (⟨4 * g.val + (y 1).val, by have : (y 1).val < 4 := (y 1).isLt; omega⟩ : Fin 16) (y 2) (y 3))

def wu (c : Dev nD) (g : Fin 4) : S1x4x1024x512.Idx → EReal := fun y => V m c main_v3 (ix4 (0 : Fin 1) (⟨4 * g.val + (y 1).val, by have : (y 1).val < 4 := (y 1).isLt; omega⟩ : Fin 16) (y 2) (y 3))

def wd (c : Dev nD) (g : Fin 4) : S1x1x2048x1024.Idx → EReal := fun y => V m c main_v5 (ix4 (0 : Fin 1) g (y 2) (y 3))

def lg (c : Dev nD) : S1x1024.Idx → EReal := V m c main_v6

def lb (c : Dev nD) : S1x1024.Idx → EReal := V m c main_v7

theorem iblk_0 (c : Dev nD) (t : Fin cfg0.N) : iblk m c 0 t = xb m c (grid0.coords t 0) := by
  funext y
  show V m c main_arg0 (((cfg0.win 0).blk t).view.emb y) = V m c main_arg0 _
  refine congrArg _ (funext fun a => Fin.ext ?_)
  have h := (idx t).1
  match a with
  | ⟨0, _⟩ =>
    show win0_0.index t 0 * 1024 + 1 * (y 0).val = _
    rw [h]
    show (grid0.coords t 0).val * 1024 + 1 * (y 0).val = 1024 * (grid0.coords t 0).val + (y 0).val
    omega
  | ⟨1, _⟩ =>
    show win0_0.index t 1 * 1024 + 1 * (y 1).val = _
    rw [h]
    show 0 * 1024 + 1 * (y 1).val = (y 1).val
    omega

theorem iblk_1 (c : Dev nD) (t : Fin cfg0.N) : iblk m c 1 t = ab m c (grid0.coords t 0) := by
  funext y
  show V m c main_arg1 (((cfg0.win 1).blk t).view.emb y) = V m c main_arg1 _
  refine congrArg _ (funext fun a => Fin.ext ?_)
  have h := (idx t).2.1
  match a with
  | ⟨0, _⟩ =>
    show win0_1.index t 0 * 1 + 1 * (y 0).val = _
    rw [h]
    show (grid0.coords t 0).val / 8 * 1 + 1 * (y 0).val = (grid0.coords t 0).val / 8
    have h1 : (y 0).val < 1 := (y 0).isLt
    omega
  | ⟨1, _⟩ =>
    show win0_1.index t 1 * 6 + 1 * (y 1).val = _
    rw [h]
    show 0 * 6 + 1 * (y 1).val = (y 1).val
    omega
  | ⟨2, _⟩ =>
    show win0_1.index t 2 * 1024 + 1 * (y 2).val = _
    rw [h]
    show 0 * 1024 + 1 * (y 2).val = (y 2).val
    omega

theorem iblk_2 (c : Dev nD) (t : Fin cfg0.N) : iblk m c 2 t = cbk m c (grid0.coords t 0) := by
  funext y
  show V m c main_arg2 (((cfg0.win 2).blk t).view.emb y) = V m c main_arg2 _
  refine congrArg _ (funext fun a => Fin.ext ?_)
  have h := (idx t).2.2.1
  match a with
  | ⟨0, _⟩ =>
    show win0_2.index t 0 * 16 + 1 * (y 0).val = _
    rw [h]
    show 0 * 16 + 1 * (y 0).val = (y 0).val
    omega
  | ⟨1, _⟩ =>
    show win0_2.index t 1 * 1024 + 1 * (y 1).val = _
    rw [h]
    show (grid0.coords t 0).val * 1024 + 1 * (y 1).val = 1024 * (grid0.coords t 0).val + (y 1).val
    omega

theorem iblk_3 (c : Dev nD) (t : Fin cfg0.N) : iblk m c 3 t = gb m c (grid0.coords t 0) := by
  funext y
  show V m c main_arg3 (((cfg0.win 3).blk t).view.emb y) = V m c main_arg3 _
  refine congrArg _ (funext fun a => Fin.ext ?_)
  have h := (idx t).2.2.2.1
  match a with
  | ⟨0, _⟩ =>
    show win0_3.index t 0 * 1 + 1 * (y 0).val = _
    rw [h]
    show 0 * 1 + 1 * (y 0).val = (y 0).val
    have h1 : (y 0).val < 1 := (y 0).isLt
    omega
  | ⟨1, _⟩ =>
    show win0_3.index t 1 * 1024 + 1 * (y 1).val = _
    rw [h]
    show (grid0.coords t 0).val * 1024 + 1 * (y 1).val = 1024 * (grid0.coords t 0).val + (y 1).val
    omega

theorem iblk_4 (c : Dev nD) (t : Fin cfg0.N) : iblk m c 4 t = wg m c (grid0.coords t 1) := by
  funext y
  show V m c main_v1 (((cfg0.win 4).blk t).view.emb y) = V m c main_v1 _
  refine congrArg _ (funext fun a => Fin.ext ?_)
  have h := (idx t).2.2.2.2.1
  match a with
  | ⟨0, _⟩ =>
    show win0_4.index t 0 * 1 + 1 * (y 0).val = _
    rw [h]
    show 0 * 1 + 1 * (y 0).val = 0
    have h1 : (y 0).val < 1 := (y 0).isLt
    omega
  | ⟨1, _⟩ =>
    show win0_4.index t 1 * 4 + 1 * (y 1).val = _
    rw [h]
    show (grid0.coords t 1).val * 4 + 1 * (y 1).val = 4 * (grid0.coords t 1).val + (y 1).val
    omega
  | ⟨2, _⟩ =>
    show win0_4.index t 2 * 1024 + 1 * (y 2).val = _
    rw [h]
    show 0 * 1024 + 1 * (y 2).val = (y 2).val
    omega
  | ⟨3, _⟩ =>
    show win0_4.index t 3 * 512 + 1 * (y 3).val = _
    rw [h]
    show 0 * 512 + 1 * (y 3).val = (y 3).val
    omega

theorem iblk_5 (c : Dev nD) (t : Fin cfg0.N) : iblk m c 5 t = wu m c (grid0.coords t 1) := by
  funext y
  show V m c main_v3 (((cfg0.win 5).blk t).view.emb y) = V m c main_v3 _
  refine congrArg _ (funext fun a => Fin.ext ?_)
  have h := (idx t).2.2.2.2.2.1
  match a with
  | ⟨0, _⟩ =>
    show win0_5.index t 0 * 1 + 1 * (y 0).val = _
    rw [h]
    show 0 * 1 + 1 * (y 0).val = 0
    have h1 : (y 0).val < 1 := (y 0).isLt
    omega
  | ⟨1, _⟩ =>
    show win0_5.index t 1 * 4 + 1 * (y 1).val = _
    rw [h]
    show (grid0.coords t 1).val * 4 + 1 * (y 1).val = 4 * (grid0.coords t 1).val + (y 1).val
    omega
  | ⟨2, _⟩ =>
    show win0_5.index t 2 * 1024 + 1 * (y 2).val = _
    rw [h]
    show 0 * 1024 + 1 * (y 2).val = (y 2).val
    omega
  | ⟨3, _⟩ =>
    show win0_5.index t 3 * 512 + 1 * (y 3).val = _
    rw [h]
    show 0 * 512 + 1 * (y 3).val = (y 3).val
    omega

theorem iblk_6 (c : Dev nD) (t : Fin cfg0.N) : iblk m c 6 t = wd m c (grid0.coords t 1) := by
  funext y
  show V m c main_v5 (((cfg0.win 6).blk t).view.emb y) = V m c main_v5 _
  refine congrArg _ (funext fun a => Fin.ext ?_)
  have h := (idx t).2.2.2.2.2.2.1
  match a with
  | ⟨0, _⟩ =>
    show win0_6.index t 0 * 1 + 1 * (y 0).val = _
    rw [h]
    show 0 * 1 + 1 * (y 0).val = 0
    have h1 : (y 0).val < 1 := (y 0).isLt
    omega
  | ⟨1, _⟩ =>
    show win0_6.index t 1 * 1 + 1 * (y 1).val = _
    rw [h]
    show (grid0.coords t 1).val * 1 + 1 * (y 1).val = (grid0.coords t 1).val
    have h1 : (y 1).val < 1 := (y 1).isLt
    omega
  | ⟨2, _⟩ =>
    show win0_6.index t 2 * 2048 + 1 * (y 2).val = _
    rw [h]
    show 0 * 2048 + 1 * (y 2).val = (y 2).val
    omega
  | ⟨3, _⟩ =>
    show win0_6.index t 3 * 1024 + 1 * (y 3).val = _
    rw [h]
    show 0 * 1024 + 1 * (y 3).val = (y 3).val
    omega

theorem iblk_7 (c : Dev nD) (t : Fin cfg0.N) : iblk m c 7 t = lg m c := by
  funext y
  show V m c main_v6 (((cfg0.win 7).blk t).view.emb y) = V m c main_v6 _
  refine congrArg _ (funext fun a => Fin.ext ?_)
  have h := (idx t).2.2.2.2.2.2.2.1
  match a with
  | ⟨0, _⟩ =>
    show win0_7.index t 0 * 1 + 1 * (y 0).val = _
    rw [h]
    show 0 * 1 + 1 * (y 0).val = (y 0).val
    have h1 : (y 0).val < 1 := (y 0).isLt
    omega
  | ⟨1, _⟩ =>
    show win0_7.index t 1 * 1024 + 1 * (y 1).val = _
    rw [h]
    show 0 * 1024 + 1 * (y 1).val = (y 1).val
    omega

theorem iblk_8 (c : Dev nD) (t : Fin cfg0.N) : iblk m c 8 t = lb m c := by
  funext y
  show V m c main_v7 (((cfg0.win 8).blk t).view.emb y) = V m c main_v7 _
  refine congrArg _ (funext fun a => Fin.ext ?_)
  have h := (idx t).2.2.2.2.2.2.2.2.1
  match a with
  | ⟨0, _⟩ =>
    show win0_8.index t 0 * 1 + 1 * (y 0).val = _
    rw [h]
    show 0 * 1 + 1 * (y 0).val = (y 0).val
    have h1 : (y 0).val < 1 := (y 0).isLt
    omega
  | ⟨1, _⟩ =>
    show win0_8.index t 1 * 1024 + 1 * (y 1).val = _
    rw [h]
    show 0 * 1024 + 1 * (y 1).val = (y 1).val
    omega

/-- A row's experts' result, of the experts of a group. -/
def yrow (c : Dev nD) (b : Fin 64) (t d : Fin 1024) (g : Fin 4) : EReal :=
  rowOut (wg m c g) (wu m c g) (wd m c g) g.val (hid (xb m c b) (ab m c b) t) (crow (cbk m c b) t) d

/-- A row's experts' result: its own group's. -/
def yb (c : Dev nD) (b : Fin 64) (t d : Fin 1024) : EReal :=
  yrow m c b t d ⟨(grp (gb m c b) t).toNat % 4, Nat.mod_lt _ (by decide)⟩

/-- The result's block of rows. -/
def outb (c : Dev nD) (b : Fin 64) (t d : Fin 1024) : EReal :=
  lnOut (zrow (xb m c b) (ab m c b) (yb m c b) t) (lg m c (ix2 (0 : Fin 1) d)) (lb m c (ix2 (0 : Fin 1) d)) d

/-- The result. -/
def out (c : Dev nD) : S65536x1024.Idx → EReal := fun y =>
  outb m c ⟨(y 0).val / 1024, by have : (y 0).val < 65536 := (y 0).isLt; omega⟩ ⟨(y 0).val % 1024, Nat.mod_lt _ (by decide)⟩ (y 1)

theorem out_emb (c : Dev nD) (t : Fin cfg0.N) (r d : Fin 1024) :
    out m c (((cfg0.win 9).blk t).view.emb (ix2 r d)) = outb m c (grid0.coords t 0) r d := by
  have h := (idx t).2.2.2.2.2.2.2.2.2
  have e0 : ((((cfg0.win 9).blk t).view.emb (ix2 r d)) 0).val = 1024 * (grid0.coords t 0).val + r.val := by
    show win0_9.index t 0 * 1024 + 1 * r.val = _
    rw [h]
    show (grid0.coords t 0).val * 1024 + 1 * r.val = _
    omega
  have e1 : ((((cfg0.win 9).blk t).view.emb (ix2 r d)) 1).val = d.val := by
    show win0_9.index t 1 * 1024 + 1 * d.val = _
    rw [h]
    show 0 * 1024 + 1 * d.val = _
    omega
  unfold out
  generalize (((cfg0.win 9).blk t).view.emb (ix2 r d)) = y at e0 e1
  have a1 : (⟨(y 0).val / 1024, by have : (y 0).val < 65536 := (y 0).isLt; omega⟩ : Fin 64) = grid0.coords t 0 := Fin.ext (by show (y 0).val / 1024 = (grid0.coords t 0).val; omega)
  have a2 : (⟨(y 0).val % 1024, Nat.mod_lt _ (by decide)⟩ : Fin 1024) = r := Fin.ext (by show (y 0).val % 1024 = r.val; omega)
  have a3 : (y 1 : Fin 1024) = d := Fin.ext e1
  rw [a1, a2]
  exact congrArg _ a3

/-! ## The body at a point -/

/-- Between the points: the scratch buffers as the groups done so far leave them. -/
def between (c : Dev nD) (k : ℕ) : sProp 𝕄 :=
  iprop((∃ P : S1536x1024.Idx → EReal, ∃ x : S1536x1024.Idx → EReal, ∃ w : S1536x128.Idx → EReal, ∃ y : S1536x1024.Idx → EReal, ∃ s : S8.Idx → BitVec 32,
      ⌜∀ t : Fin cfg0.N, t.val = k → (grid0.coords t 1).val ≠ 0 → ∀ o : S1024x1024.Idx → EReal,
        Good (grp (gb m c (grid0.coords t 0))) (xb m c (grid0.coords t 0)) (ab m c (grid0.coords t 0)) (cbk m c (grid0.coords t 0)) (yb m c (grid0.coords t 0)) (grid0.coords t 1).val ⟨o, P, x, w, y, s⟩⌝
    ∗ owns (Val := Elt Ideal) (e := .bf16) c (Memref.whole cc0_scratch0) fullShare P
    ∗ owns (Val := Elt Ideal) (e := .bf16) c (Memref.whole cc0_scratch1) fullShare x
    ∗ owns (Val := Elt Ideal) (e := .f32) c (Memref.whole cc0_scratch2) fullShare w
    ∗ owns (Val := Elt Ideal) (e := .bf16) c (Memref.whole cc0_scratch3) fullShare y
    ∗ owns (Val := Elt Ideal) (e := .i32) c (Memref.whole cc0_scratch4) fullShare s)
    ∗ ∃ r, prngReg c r)

/-- The proof data: the inputs' blocks left in place, the block of a given array left in the result. -/
def datOf (G : Dev nD → S65536x1024.Idx → EReal) (p : Fin 1) (c : Dev nD) : Dat τ (Elt Ideal) Unit ℕ (UR sig nD τ) ℕ (cfgs p) c where
  A w := V m c (Pipeline.arrRef spec0 w)
  after := fun
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
    | 9 => fun t y => G c (((cfg0.win 9).blk t).view.emb y)
    | ⟨_ + 10, h⟩ => absurd h (Nat.not_lt.2 (Nat.le_add_left _ _))
  Φ k := between m c k.val
  q _ := fullShare
  owed _ := 0

/-- What the next point finds. -/
theorem next (c : Dev nD) (t t' : Fin cfg0.N) (e : t'.val = t.val + 1) (h : (grid0.coords t' 1).val ≠ 0) (σ : St)
    (hg : Good (grp (gb m c (grid0.coords t 0))) (xb m c (grid0.coords t 0)) (ab m c (grid0.coords t 0)) (cbk m c (grid0.coords t 0)) (yb m c (grid0.coords t 0)) ((grid0.coords t 1).val + 1) σ)
    (o : S1024x1024.Idx → EReal) :
    Good (grp (gb m c (grid0.coords t' 0))) (xb m c (grid0.coords t' 0)) (ab m c (grid0.coords t' 0)) (cbk m c (grid0.coords t' 0)) (yb m c (grid0.coords t' 0)) (grid0.coords t' 1).val
      ⟨o, σ.perm, σ.xs, σ.cb, σ.ys, σ.sub⟩ := by
  have h0 := points t
  have h1 := points t'
  have e0 : grid0.coords t' 0 = grid0.coords t 0 := Fin.ext (by rw [h1.1, h0.1]; have := h1.2; omega)
  have e1 : (grid0.coords t' 1).val = (grid0.coords t 1).val + 1 := by have := h1.2; have := h0.2; omega
  rw [e0, e1]
  exact ⟨hg.subs, hg.perm, hg.xs, hg.cb, hg.ys⟩

theorem mod_four (w : BitVec 32) (g : ℕ) (hg : g < 4) (h : w = BitVec.ofNat 32 g) : w.toNat % 4 = g := by
  subst h
  rw [BitVec.toNat_ofNat, Nat.mod_eq_of_lt (show g < 2 ^ 32 by omega), Nat.mod_eq_of_lt hg]

/-- At every point the body runs. -/
theorem body_at (c : Dev nD) (t : Fin cfg0.N) (σ : St)
    (hpre : (grid0.coords t 1).val ≠ 0 → Good (grp (gb m c (grid0.coords t 0))) (xb m c (grid0.coords t 0)) (ab m c (grid0.coords t 0)) (cbk m c (grid0.coords t 0)) (yb m c (grid0.coords t 0)) (grid0.coords t 1).val σ) :
    At (defs₀ (F := Ideal)) c (held m c t) σ (bodyAt0 t) fun _ σ' =>
      Good (grp (gb m c (grid0.coords t 0))) (xb m c (grid0.coords t 0)) (ab m c (grid0.coords t 0)) (cbk m c (grid0.coords t 0)) (yb m c (grid0.coords t 0)) ((grid0.coords t 1).val + 1) σ'
      ∧ ((grid0.coords t 1).val ≠ 3 → σ'.O = σ.O)
      ∧ ((grid0.coords t 1).val = 3 → Valid (grp (gb m c (grid0.coords t 0))) (cbk m c (grid0.coords t 0)) →
          σ'.O = fun y => out m c (((cfg0.win 9).blk t).view.emb y)) := by
  have hh := held_ok m c t
  rw [iblk_0, iblk_1, iblk_2, iblk_3, iblk_4, iblk_5, iblk_6, iblk_7, iblk_8] at hh
  refine at_mono (body hh σ (yb m c (grid0.coords t 0)) hpre ?_) fun _ σ' h => ⟨h.1, h.2.1, fun h3 hv => ?_⟩
  · intro r d hr
    have e : (⟨(grp (gb m c (grid0.coords t 0)) r).toNat % 4, Nat.mod_lt _ (by decide)⟩ : Fin 4) = grid0.coords t 1 :=
      Fin.ext (mod_four _ _ (show (grid0.coords t 1).val < 4 from (grid0.coords t 1).isLt) hr)
    unfold yb
    rw [e]
    rfl
  · funext y
    rw [← ix2_eta y]
    exact (h.2.2 h3 hv _ _).trans (out_emb m c t _ _).symm

/-- The point's run. -/
theorem obliged (c : Dev nD) (t : Fin cfg0.N) (R : sProp 𝕄) (σ : St)
    (hpre : (grid0.coords t 1).val ≠ 0 → Good (grp (gb m c (grid0.coords t 0))) (xb m c (grid0.coords t 0)) (ab m c (grid0.coords t 0)) (cbk m c (grid0.coords t 0)) (yb m c (grid0.coords t 0)) (grid0.coords t 1).val σ) :
    iprop(R ∗ held m c t σ)
    ⊢ wp frame (wpE (Ix := Unit) (Name := ℕ) (U := UR sig nD τ) (Lvl := ℕ) (defs₀ (F := Ideal)) Variants.none (c : Thread nD τ) none) Set.univ (bodyAt0 t) fun _ =>
      iprop(R ∗ ∃ σ' : St, ⌜Good (grp (gb m c (grid0.coords t 0))) (xb m c (grid0.coords t 0)) (ab m c (grid0.coords t 0)) (cbk m c (grid0.coords t 0)) (yb m c (grid0.coords t 0)) ((grid0.coords t 1).val + 1) σ'
      ∧ ((grid0.coords t 1).val ≠ 3 → σ'.O = σ.O)
      ∧ ((grid0.coords t 1).val = 3 → Valid (grp (gb m c (grid0.coords t 0))) (cbk m c (grid0.coords t 0)) →
          σ'.O = fun y => out m c (((cfg0.win 9).blk t).view.emb y))⌝ ∗ held m c t σ') := by
  have hb := body_at m c t σ hpre
  unfold At at hb
  exact BIBase.Entails.trans (sep_mono .rfl hb) (BIBase.Entails.trans (wp_frame_l frame (wpE (Ix := Unit) (Name := ℕ) (U := UR sig nD τ) (Lvl := ℕ) (defs₀ (F := Ideal)) Variants.none (c : Thread nD τ) none) Set.univ) (wp_mono _ _ _ fun _ => .rfl))

theorem idle9 (t : Fin cfg0.N) : ((grid0.coords t 1).val ≠ 3 → cfg0.idle 9 (cfg0.grid.coords t) = true) ∧ ((grid0.coords t 1).val = 3 → cfg0.idle 9 (cfg0.grid.coords t) = false) :=
  (by decide +kernel : ∀ t : Fin grid0.N, ((grid0.coords t 1).val ≠ 3 → idle0 9 (grid0.coords t) = true) ∧ ((grid0.coords t 1).val = 3 → idle0 9 (grid0.coords t) = false)) t

theorem noflush (t : Fin cfg0.N) (h : (grid0.coords t 1).val ≠ 3) : (cfg0.win 9).flush t = false :=
  Bool.eq_false_iff.2 fun hf => h ((points t).2.trans ((flush0_9 t).1 hf))

set_option maxHeartbeats 4000000 in
/-- The body's obligation to the pipeline, at tokens whose groups and weights are what they are meant to be. -/
theorem body_obligation (hv : ∀ c b, Valid (grp (gb m c b)) (cbk m c b)) (c : Dev nD) : BodyObligationLoose (datOf m (out m) 0 c) (defs₀ (F := Ideal)) Variants.none () Set.univ := by
  suffices hb : BodyObligation (datOf m (out m) 0 c) (defs₀ (F := Ideal)) Variants.none () Set.univ from hb.loose
  intro t
  show _ ⊢ wp frame _ Set.univ (bodyAt0 t) _
  have h0 : ∀ d, (datOf m (out m) 0 c).before 0 t d = iblk m c 0 t := fun d => before0_0_of m (datOf m (out m) 0 c) rfl (fun _ => rfl) t d
  have h1 : ∀ d, (datOf m (out m) 0 c).before 1 t d = iblk m c 1 t := fun d => before0_1_of m (datOf m (out m) 0 c) rfl (fun _ => rfl) t d
  have h2 : ∀ d, (datOf m (out m) 0 c).before 2 t d = iblk m c 2 t := fun d => before0_2_of m (datOf m (out m) 0 c) rfl (fun _ => rfl) t d
  have h3 : ∀ d, (datOf m (out m) 0 c).before 3 t d = iblk m c 3 t := fun d => before0_3_of m (datOf m (out m) 0 c) rfl (fun _ => rfl) t d
  have h4 : ∀ d, (datOf m (out m) 0 c).before 4 t d = iblk m c 4 t := fun d => before0_4_of m (datOf m (out m) 0 c) rfl (fun _ => rfl) t d
  have h5 : ∀ d, (datOf m (out m) 0 c).before 5 t d = iblk m c 5 t := fun d => before0_5_of m (datOf m (out m) 0 c) rfl (fun _ => rfl) t d
  have h6 : ∀ d, (datOf m (out m) 0 c).before 6 t d = iblk m c 6 t := fun d => before0_6_of m (datOf m (out m) 0 c) rfl (fun _ => rfl) t d
  have h7 : ∀ d, (datOf m (out m) 0 c).before 7 t d = iblk m c 7 t := fun d => before0_7_of m (datOf m (out m) 0 c) rfl (fun _ => rfl) t d
  have h8 : ∀ d, (datOf m (out m) 0 c).before 8 t d = iblk m c 8 t := fun d => before0_8_of m (datOf m (out m) 0 c) rfl (fun _ => rfl) t d
  rw [bigSep_W0]
  show iprop(between m c t.val ∗ (datOf m (out m) 0 c).owesAt () t.castSucc
    ∗ (∃ d, owns c (st0_0 t) fullShare ((datOf m (out m) 0 c).before 0 t d))
    ∗ (∃ d, owns c (st0_1 t) fullShare ((datOf m (out m) 0 c).before 1 t d))
    ∗ (∃ d, owns c (st0_2 t) fullShare ((datOf m (out m) 0 c).before 2 t d))
    ∗ (∃ d, owns c (st0_3 t) fullShare ((datOf m (out m) 0 c).before 3 t d))
    ∗ (∃ d, owns c (st0_4 t) fullShare ((datOf m (out m) 0 c).before 4 t d))
    ∗ (∃ d, owns c (st0_5 t) fullShare ((datOf m (out m) 0 c).before 5 t d))
    ∗ (∃ d, owns c (st0_6 t) fullShare ((datOf m (out m) 0 c).before 6 t d))
    ∗ (∃ d, owns c (st0_7 t) fullShare ((datOf m (out m) 0 c).before 7 t d))
    ∗ (∃ d, owns c (st0_8 t) fullShare ((datOf m (out m) 0 c).before 8 t d))
    ∗ (∃ d, owns c (st0_9 t) fullShare ((datOf m (out m) 0 c).before 9 t d))) ⊢ _
  simp only [h0, h1, h2, h3, h4, h5, h6, h7, h8]
  unfold between
  iintro ⟨⟨⟨%P, %x, %w, %y, %s, %hG, S0, S1, S2, S3, S4⟩, HR⟩, HO, ⟨%_, H0⟩, ⟨%_, H1⟩, ⟨%_, H2⟩, ⟨%_, H3⟩, ⟨%_, H4⟩, ⟨%_, H5⟩, ⟨%_, H6⟩, ⟨%_, H7⟩, ⟨%_, H8⟩, %d9, H9⟩
  have ho := obliged m c t iprop((∃ r, prngReg c r) ∗ (datOf m (out m) 0 c).owesAt () t.castSucc) ⟨(datOf m (out m) 0 c).before 9 t d9, P, x, w, y, s⟩ (fun h => hG t rfl h _)
  refine BIBase.Entails.trans ?_ (BIBase.Entails.trans ho (wp_mono _ _ _ fun _ => ?_))
  · unfold held
    iintro ⟨⟨⟨⟨⟨⟨⟨⟨⟨⟨⟨⟨⟨⟨⟨⟨S0, S1⟩, S2⟩, S3⟩, S4⟩, HR⟩, HO⟩, H0⟩, H1⟩, H2⟩, H3⟩, H4⟩, H5⟩, H6⟩, H7⟩, H8⟩, H9⟩
    isplitl [HR HO]
    · isplitl [HR]; · iexact HR
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    iexact S4
  · rw [bigSep_W0]
    show _ ⊢ iprop(between m c (t.val + 1) ∗ (datOf m (out m) 0 c).owesAt () t.succ
      ∗ owns c (st0_0 t) fullShare (iblk m c 0 t)
      ∗ owns c (st0_1 t) fullShare (iblk m c 1 t)
      ∗ owns c (st0_2 t) fullShare (iblk m c 2 t)
      ∗ owns c (st0_3 t) fullShare (iblk m c 3 t)
      ∗ owns c (st0_4 t) fullShare (iblk m c 4 t)
      ∗ owns c (st0_5 t) fullShare (iblk m c 5 t)
      ∗ owns c (st0_6 t) fullShare (iblk m c 6 t)
      ∗ owns c (st0_7 t) fullShare (iblk m c 7 t)
      ∗ owns c (st0_8 t) fullShare (iblk m c 8 t)
      ∗ (datOf m (out m) 0 c).leavesExact 9 t)
    iintro ⟨⟨HR, HO⟩, %σ', %hσ, HH⟩
    obtain ⟨hg, hk, hl⟩ := hσ
    have hlast : owns c (st0_9 t) fullShare σ'.O ⊢ ((datOf m (out m) 0 c).leavesExact 9 t : sProp 𝕄) := by
      by_cases h3 : (grid0.coords t 1).val = 3
      · have hi : cfg0.idle 9 (cfg0.grid.coords t) = false := (idle9 t).2 h3
        have e : σ'.O = (datOf m (out m) 0 c).after 9 t := by
          exact hl h3 (hv c _)
        unfold Dat.leavesExact
        rw [hi, e]
      · have hi : cfg0.idle 9 (cfg0.grid.coords t) = true := (idle9 t).1 h3
        have hf : (cfg0.win 9).flush t = false := noflush t h3
        have e := hk h3
        rw [(datOf m (out m) 0 c).leavesExact_idle 9 t hi hf, e]
        iintro H
        iexists d9
        iexact H
    unfold between held
    icases HH with ⟨H0, H1, H2, H3, H4, H5, H6, H7, H8, H9, S0, S1, S2, S3, S4⟩
    isplitl [S0 S1 S2 S3 S4 HR]
    · isplitl [S0 S1 S2 S3 S4]
      · iexists σ'.perm, σ'.xs, σ'.cb, σ'.ys, σ'.sub
        isplitr; · ipureintro; exact fun t' e h o => next m c t t' e h σ' hg o
        isplitl [S0]; · iexact S0
        isplitl [S1]; · iexact S1
        isplitl [S2]; · iexact S2
        isplitl [S3]; · iexact S3
        iexact S4
      · iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply hlast
    iexact H9

set_option maxHeartbeats 4000000 in
/-- The body's obligation to the pipeline, nothing said of the result. -/
theorem body_obligation_any (G : Dev nD → S65536x1024.Idx → EReal) (c : Dev nD) : BodyObligationLoose (datOf m G 0 c) (defs₀ (F := Ideal)) Variants.none () Set.univ fun w => w == 9 := by
  suffices hb : BodyObligation (datOf m G 0 c) (defs₀ (F := Ideal)) Variants.none () Set.univ (fun w => w == 9) from hb.loose
  intro t
  show _ ⊢ wp frame _ Set.univ (bodyAt0 t) _
  have h0 : ∀ d, (datOf m G 0 c).before 0 t d = iblk m c 0 t := fun d => before0_0_of m (datOf m G 0 c) rfl (fun _ => rfl) t d
  have h1 : ∀ d, (datOf m G 0 c).before 1 t d = iblk m c 1 t := fun d => before0_1_of m (datOf m G 0 c) rfl (fun _ => rfl) t d
  have h2 : ∀ d, (datOf m G 0 c).before 2 t d = iblk m c 2 t := fun d => before0_2_of m (datOf m G 0 c) rfl (fun _ => rfl) t d
  have h3 : ∀ d, (datOf m G 0 c).before 3 t d = iblk m c 3 t := fun d => before0_3_of m (datOf m G 0 c) rfl (fun _ => rfl) t d
  have h4 : ∀ d, (datOf m G 0 c).before 4 t d = iblk m c 4 t := fun d => before0_4_of m (datOf m G 0 c) rfl (fun _ => rfl) t d
  have h5 : ∀ d, (datOf m G 0 c).before 5 t d = iblk m c 5 t := fun d => before0_5_of m (datOf m G 0 c) rfl (fun _ => rfl) t d
  have h6 : ∀ d, (datOf m G 0 c).before 6 t d = iblk m c 6 t := fun d => before0_6_of m (datOf m G 0 c) rfl (fun _ => rfl) t d
  have h7 : ∀ d, (datOf m G 0 c).before 7 t d = iblk m c 7 t := fun d => before0_7_of m (datOf m G 0 c) rfl (fun _ => rfl) t d
  have h8 : ∀ d, (datOf m G 0 c).before 8 t d = iblk m c 8 t := fun d => before0_8_of m (datOf m G 0 c) rfl (fun _ => rfl) t d
  rw [bigSep_W0]
  show iprop(between m c t.val ∗ (datOf m G 0 c).owesAt () t.castSucc
    ∗ (∃ d, owns c (st0_0 t) fullShare ((datOf m G 0 c).before 0 t d))
    ∗ (∃ d, owns c (st0_1 t) fullShare ((datOf m G 0 c).before 1 t d))
    ∗ (∃ d, owns c (st0_2 t) fullShare ((datOf m G 0 c).before 2 t d))
    ∗ (∃ d, owns c (st0_3 t) fullShare ((datOf m G 0 c).before 3 t d))
    ∗ (∃ d, owns c (st0_4 t) fullShare ((datOf m G 0 c).before 4 t d))
    ∗ (∃ d, owns c (st0_5 t) fullShare ((datOf m G 0 c).before 5 t d))
    ∗ (∃ d, owns c (st0_6 t) fullShare ((datOf m G 0 c).before 6 t d))
    ∗ (∃ d, owns c (st0_7 t) fullShare ((datOf m G 0 c).before 7 t d))
    ∗ (∃ d, owns c (st0_8 t) fullShare ((datOf m G 0 c).before 8 t d))
    ∗ (∃ X, owns c (st0_9 t) fullShare X)) ⊢ _
  simp only [h0, h1, h2, h3, h4, h5, h6, h7, h8]
  unfold between
  iintro ⟨⟨⟨%P, %x, %w, %y, %s, %hG, S0, S1, S2, S3, S4⟩, HR⟩, HO, ⟨%_, H0⟩, ⟨%_, H1⟩, ⟨%_, H2⟩, ⟨%_, H3⟩, ⟨%_, H4⟩, ⟨%_, H5⟩, ⟨%_, H6⟩, ⟨%_, H7⟩, ⟨%_, H8⟩, %d9, H9⟩
  have ho := obliged m c t iprop((∃ r, prngReg c r) ∗ (datOf m G 0 c).owesAt () t.castSucc) ⟨d9, P, x, w, y, s⟩ (fun h => hG t rfl h _)
  refine BIBase.Entails.trans ?_ (BIBase.Entails.trans ho (wp_mono _ _ _ fun _ => ?_))
  · unfold held
    iintro ⟨⟨⟨⟨⟨⟨⟨⟨⟨⟨⟨⟨⟨⟨⟨⟨S0, S1⟩, S2⟩, S3⟩, S4⟩, HR⟩, HO⟩, H0⟩, H1⟩, H2⟩, H3⟩, H4⟩, H5⟩, H6⟩, H7⟩, H8⟩, H9⟩
    isplitl [HR HO]
    · isplitl [HR]; · iexact HR
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    iexact S4
  · rw [bigSep_W0]
    show _ ⊢ iprop(between m c (t.val + 1) ∗ (datOf m G 0 c).owesAt () t.succ
      ∗ owns c (st0_0 t) fullShare (iblk m c 0 t)
      ∗ owns c (st0_1 t) fullShare (iblk m c 1 t)
      ∗ owns c (st0_2 t) fullShare (iblk m c 2 t)
      ∗ owns c (st0_3 t) fullShare (iblk m c 3 t)
      ∗ owns c (st0_4 t) fullShare (iblk m c 4 t)
      ∗ owns c (st0_5 t) fullShare (iblk m c 5 t)
      ∗ owns c (st0_6 t) fullShare (iblk m c 6 t)
      ∗ owns c (st0_7 t) fullShare (iblk m c 7 t)
      ∗ owns c (st0_8 t) fullShare (iblk m c 8 t)
      ∗ (∃ X, owns c (st0_9 t) fullShare X))
    iintro ⟨⟨HR, HO⟩, %σ', %hσ, HH⟩
    obtain ⟨hg, hk, hl⟩ := hσ
    unfold between held
    icases HH with ⟨H0, H1, H2, H3, H4, H5, H6, H7, H8, H9, S0, S1, S2, S3, S4⟩
    isplitl [S0 S1 S2 S3 S4 HR]
    · isplitl [S0 S1 S2 S3 S4]
      · iexists σ'.perm, σ'.xs, σ'.cb, σ'.ys, σ'.sub
        isplitr; · ipureintro; exact fun t' e h o => next m c t t' e h σ' hg o
        isplitl [S0]; · iexact S0
        isplitl [S1]; · iexact S1
        isplitl [S2]; · iexact S2
        isplitl [S3]; · iexact S3
        iexact S4
      · iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists σ'.O; iexact H9

/-- Before the first point the scratch buffers are at some contents. -/
theorem between_in (c : Dev nD) : Pipeline.ΦA spec0 c ⊢ (between m c 0 : sProp 𝕄) := by
  unfold Pipeline.ΦA between
  rw [scopedRest0_eq c]
  simp only [owns_whole]
  iintro ⟨⟨⟨%P, S0⟩, ⟨%x, S1⟩, ⟨%w, S2⟩, ⟨%y, S3⟩, ⟨%s, S4⟩⟩, HR⟩
  isplitr [HR]
  · iexists P, x, w, y, s
    isplitr
    · ipureintro
      exact fun t e h => absurd ((points t).2.trans (by rw [e])) h
    isplitl [S0]; · iexact S0
    isplitl [S1]; · iexact S1
    isplitl [S2]; · iexact S2
    isplitl [S3]; · iexact S3
    iexact S4
  · iexact HR

/-- After the last point they are handed back. -/
theorem between_out (c : Dev nD) (k : ℕ) : (between m c k : sProp 𝕄) ⊢ Pipeline.ΦA spec0 c := by
  unfold Pipeline.ΦA between
  rw [scopedRest0_eq c]
  simp only [owns_whole]
  iintro ⟨⟨%P, %x, %w, %y, %s, %_, S0, S1, S2, S3, S4⟩, HR⟩
  isplitr [HR]
  · isplitl [S0]; · iexists P; iexact S0
    isplitl [S1]; · iexists x; iexact S1
    isplitl [S2]; · iexists w; iexact S2
    isplitl [S3]; · iexists y; iexact S3
    iexists s; iexact S4
  · iexact HR

/-- The result's blocks fill it. -/
theorem cover9 : (cfg0.win 9).Covers := by decide +kernel

theorem final9 (G : Dev nD → S65536x1024.Idx → EReal) (c : Dev nD) : (datOf m G 0 c).arrAt 9 cfg0.N = G c :=
  (datOf m G 0 c).arrAt_eq_of_covers 9 _ cover9 fun t _ y => rfl

/-- The arguments, as they were. -/
abbrev Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

/-- Whatever the arguments, the call runs and leaves them as they were. -/
theorem run_any : θ_run (defs (F := Ideal)) (onTc (τ := τ) (main (F := Ideal))) ⟨m, fun _ => 0, ρ⟩ (fun r => (∀ c : Dev nD, Kept m r c) ∧ r.2.sem = fun _ => 0) :=
  Pipeline.θ_run_frame_track_forget cfgs (datOf m fun c => out m c) 0 launch0 defs₀ Variants.none (fun w => w == 9) m ρ main (body_obligation_any m fun c => out m c)
    (fun _ _ => by unfold Dat.share; split <;> rfl) (fun _ _ => rfl) (V m) (hmain m Variants.none) (fun _ _ => rfl)
    (fun c => between_in m c) (fun c => between_out m c _) _
    (fun _ h => ⟨fun c => ⟨(h.1.arr_in c 0 rfl).trans (V_main_arg0 m c), (h.1.arr_in c 1 rfl).trans (V_main_arg1 m c), (h.1.arr_in c 2 rfl).trans (V_main_arg2 m c), (h.1.arr_in c 3 rfl).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c)⟩, h.2⟩)

/-- At tokens whose groups and weights are what they are meant to be, it leaves the result. -/
theorem run (hv : ∀ c b, Valid (grp (gb m c b)) (cbk m c b)) : θ_run (defs (F := Ideal)) (onTc (τ := τ) (main (F := Ideal))) ⟨m, fun _ => 0, ρ⟩
    (fun r => ∀ c : Dev nD, r.2.mem ((c.tc : Thread nD τ).loc main_v8) = out m c ∧ Kept m r c) :=
  Pipeline.θ_run_frame_track cfgs (datOf m fun c => out m c) 0 launch0 defs₀ Variants.none m ρ main (body_obligation m hv)
    (fun _ _ => by unfold Dat.share; split <;> rfl) (fun _ _ => rfl) (V m) (hmain m Variants.none) (fun _ _ => rfl)
    (fun c => between_in m c) (fun c => between_out m c _) _
    (fun _ h => fun c => ⟨((h.1 c).1 9).trans (final9 m _ c), ((h.1 c).1 0).trans (((datOf m (fun c => out m c) 0 c).arrAt_in 0 rfl _).trans (V_main_arg0 m c)), ((h.1 c).1 1).trans (((datOf m (fun c => out m c) 0 c).arrAt_in 1 rfl _).trans (V_main_arg1 m c)), ((h.1 c).1 2).trans (((datOf m (fun c => out m c) 0 c).arrAt_in 2 rfl _).trans (V_main_arg2 m c)), ((h.1 c).1 3).trans (((datOf m (fun c => out m c) 0 c).arrAt_in 3 rfl _).trans (V_main_arg3 m c)), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c)⟩)

end Cert.Proof.Experts

end
-- ==== Proof.MoeSame.lean ====
/-
  Infinite values in the experts' sums. Two numbers are the same up to infinity when they are equal or both infinite; the
  experts' sum is the same up to infinity whichever way the weights go in, and the layer normalization of a row does not
  tell such rows apart.
-/
module

public import proofs.«01_k».proof.Defs
public import proofs.«01_k».proof.Proof.MoeBody

@[expose] public section

noncomputable section

namespace Cert.Proof.Experts

open Cert.Proof
open Idealize.ShloMosaic hiding ix1 ix2 ix3 ix4
open Idealize.ShloMosaic.ValueIdx

/-- A number is infinite. -/
def Infinite (a : EReal) : Prop := a = ⊤ ∨ a = ⊥

/-- Two numbers are equal or both infinite. -/
def Same (a b : EReal) : Prop := a = b ∨ (Infinite a ∧ Infinite b)

theorem finite_of {a : EReal} (h : ¬ Infinite a) : ∃ r : ℝ, a = r := by
  induction a with
  | bot => exact absurd (Or.inr rfl) h
  | top => exact absurd (Or.inl rfl) h
  | coe r => exact ⟨r, rfl⟩

theorem infinite_add {a : EReal} (h : Infinite a) (b : EReal) : Infinite (a + b) := by
  rcases h with rfl | rfl
  · induction b with
    | bot => exact Or.inr rfl
    | top => exact Or.inl rfl
    | coe r => exact Or.inl (EReal.top_add_coe r)
  · exact Or.inr (EReal.bot_add b)

theorem infinite_sum {n : ℕ} (F : Fin n → EReal) (k : Fin n) (h : Infinite (F k)) : Infinite (∑ f, F f) := by
  rw [← Finset.add_sum_erase Finset.univ F (Finset.mem_univ k)]
  exact infinite_add h _

theorem infinite_mul {a : EReal} (h : Infinite a) {w : EReal} (hw : w ≠ 0) : Infinite (w * a) := by
  rcases lt_or_gt_of_ne hw with hl | hl <;> rcases h with rfl | rfl
  · exact Or.inr (EReal.mul_top_of_neg hl)
  · exact Or.inl (EReal.mul_bot_of_neg hl)
  · exact Or.inl (EReal.mul_top_of_pos hl)
  · exact Or.inr (EReal.mul_bot_of_pos hl)

theorem same_sum {n : ℕ} (F G : Fin n → EReal) (h : ∀ k, Same (F k) (G k)) : Same (∑ k, F k) (∑ k, G k) := by
  by_cases e : ∀ k, F k = G k
  · exact Or.inl (Finset.sum_congr rfl fun k _ => e k)
  · obtain ⟨k, hk⟩ := not_forall.1 e
    rcases h k with h' | ⟨h1, h2⟩
    · exact absurd h' hk
    · exact Or.inr ⟨infinite_sum F k h1, infinite_sum G k h2⟩

theorem same_affine {y y' : EReal} (h : Same y y') (a v : EReal) : Same (a + v * y) (a + v * y') := by
  rcases h with rfl | ⟨h1, h2⟩
  · exact Or.inl rfl
  · by_cases hv : v = 0
    · rw [hv, zero_mul, zero_mul]; exact Or.inl rfl
    · rw [add_comm a, add_comm a]
      exact Or.inr ⟨infinite_add (infinite_mul h1 hv) _, infinite_add (infinite_mul h2 hv) _⟩

/-- A finite factor goes into a sum, up to infinity. -/
theorem same_mul_sum {n : ℕ} (w : ℝ) (F : Fin n → EReal) : Same (∑ f, (w : EReal) * F f) ((w : EReal) * ∑ f, F f) := by
  by_cases hw : w = 0
  · rw [hw]
    exact Or.inl (by simp)
  have hw' : (w : EReal) ≠ 0 := by
    intro h
    exact hw (by exact_mod_cast h)
  by_cases e : ∃ k, Infinite (F k)
  · obtain ⟨k, hk⟩ := e
    exact Or.inr ⟨infinite_sum _ k (infinite_mul hk hw'), infinite_mul (infinite_sum F k hk) hw'⟩
  · have e' : ∀ k, ∃ r : ℝ, F k = r := fun k => finite_of fun h => e ⟨k, h⟩
    choose G hG using e'
    left
    have key : ∀ s : Finset (Fin n), ∃ r : ℝ, ∑ f ∈ s, F f = r ∧ ∑ f ∈ s, (w : EReal) * F f = ((w * r : ℝ) : EReal) := by
      intro s
      induction s using Finset.induction_on with
      | empty => exact ⟨0, by simp, by simp⟩
      | insert a s ha ih =>
        obtain ⟨r, h1, h2⟩ := ih
        refine ⟨G a + r, ?_, ?_⟩
        · rw [Finset.sum_insert ha, h1, hG, EReal.coe_add]
        · rw [Finset.sum_insert ha, h2, hG, mul_add, EReal.coe_add, EReal.coe_mul, EReal.coe_mul]
    obtain ⟨r, h1, h2⟩ := key Finset.univ
    rw [h1, h2, EReal.coe_mul]

theorem lit1024 : Ideal.ofBits .f32 0x44800000#32 = ((1024 : ℝ) : EReal) := by
  simp [Ideal.ofBits, Ideal.ieee]
  norm_num
  rw [← EReal.coe_mul]
  norm_num

theorem lit_eps : Ideal.ofBits .f32 0x3727C5AC#32 ≠ ⊥ := by
  simp [Ideal.ofBits, Ideal.ieee]
  exact EReal.coe_ne_bot _

theorem infinite_sq {a : EReal} (h : Infinite a) : a * a = ⊤ := by
  rcases h with rfl | rfl
  · exact EReal.top_mul_top
  · exact EReal.bot_mul_bot

theorem infinite_div {a : EReal} (h : Infinite a) : Infinite (Ideal.div a ((1024 : ℝ) : EReal)) := by
  unfold Ideal.div
  rw [if_neg (by norm_cast), ← EReal.coe_inv, mul_comm]
  refine infinite_mul h ?_
  norm_cast
  norm_num

theorem infinite_neg {a : EReal} (h : Infinite a) : Infinite (-a) := by
  rcases h with rfl | rfl
  · exact Or.inr rfl
  · exact Or.inl rfl

/-- The normalization of a row that holds an infinite value is the shift. -/
theorem lnOut_infinite (z : Fin 1024 → EReal) (k : Fin 1024) (h : Infinite (z k)) (lg lb : EReal) (d : Fin 1024) : lnOut z lg lb d = lb := by
  unfold lnOut
  rw [lit1024]
  have hmu : Infinite (Ideal.div (∑ k : Fin 1024, z k) ((1024 : ℝ) : EReal)) := infinite_div (infinite_sum z k h)
  have hd : ∀ j, Infinite (z j - Ideal.div (∑ k : Fin 1024, z k) ((1024 : ℝ) : EReal)) := by
    intro j
    rw [sub_eq_add_neg, add_comm]
    exact infinite_add (infinite_neg hmu) _
  have hs : (∑ j : Fin 1024, (z j - Ideal.div (∑ k : Fin 1024, z k) ((1024 : ℝ) : EReal)) * (z j - Ideal.div (∑ k : Fin 1024, z k) ((1024 : ℝ) : EReal))) = ⊤ := by
    rw [Finset.sum_congr rfl fun j _ => infinite_sq (hd j)]
    rcases infinite_sum (fun _ : Fin 1024 => (⊤ : EReal)) 0 (Or.inl rfl) with h' | h'
    · exact h'
    · have h0 : (0 : EReal) ≤ ∑ _j : Fin 1024, (⊤ : EReal) := Finset.sum_nonneg fun _ _ => le_top
      rw [h'] at h0
      exact absurd (EReal.bot_lt_zero.trans_le h0) (lt_irrefl _)
  have hv : Ideal.div ⊤ ((1024 : ℝ) : EReal) = ⊤ := by
    unfold Ideal.div
    rw [if_neg (by norm_cast), ← EReal.coe_inv]
    exact EReal.top_mul_of_pos (by norm_cast; norm_num)
  show _ * Ideal.rsqrt (Ideal.div (∑ j : Fin 1024, (z j - Ideal.div (∑ k : Fin 1024, z k) ((1024 : ℝ) : EReal)) * (z j - Ideal.div (∑ k : Fin 1024, z k) ((1024 : ℝ) : EReal))) ((1024 : ℝ) : EReal)
    + Ideal.ofBits .f32 0x3727C5AC#32) * lg + lb = lb
  rw [hs, hv, EReal.top_add_of_ne_bot lit_eps]
  show _ * (0 : EReal) * lg + lb = lb
  rw [mul_zero, zero_mul, zero_add]

theorem lnOut_same (z z' : Fin 1024 → EReal) (h : ∀ k, Same (z k) (z' k)) (lg lb : EReal) (d : Fin 1024) : lnOut z lg lb d = lnOut z' lg lb d := by
  by_cases e : ∀ k, z k = z' k
  · rw [funext e]
  · obtain ⟨k, hk⟩ := not_forall.1 e
    rcases h k with h' | ⟨h1, h2⟩
    · exact absurd h' hk
    · rw [lnOut_infinite z k h1, lnOut_infinite z' k h2]

end Cert.Proof.Experts

end
-- ==== Proof.MoeValue.lean ====
/-
  The reference of the experts, read at a row: the modulated row, the experts' hidden values, their weighted sum, the layer
  normalization.
-/
module

public import proofs.«01_k».proof.Defs
public import proofs.«01_k».proof.Proof.MoeFrame
public import proofs.«01_k».proof.Proof.MoeSame
public import proofs.«01_k».proof.Proof.Gen.ExpertsReferenceIdeal.Run
public import Idealize.ShloMosaic.Lib.Pointwise
public import Idealize.ShloMosaic.Lib.Claim
public import Idealize.ShloMosaic.Lib.ReduceAll

@[expose] public section

set_option maxRecDepth 16384

noncomputable section

namespace Cert.Proof.Experts

open Cert.Proof
open Idealize.ShloMosaic hiding ix1 ix2 ix3 ix4
open Idealize.ShloMosaic.TcCoe Idealize.ShloMosaic.ValueIdx Idealize.SL.Sem

/-! ## The reference's stages -/

section Reference
open Cert.ExpertsReferenceIdeal Cert.ExpertsReferenceIdeal.Gen

variable (a0 : FVec Ideal S65536x1024 .f32) (a1 : FVec Ideal S8x6x1024 .f32) (a2 : FVec Ideal S16x65536 .f32) (a3 : IVec S1x65536 32)
  (a4 a5 : FVec Ideal S16x1024x512 .f32) (a6 : FVec Ideal S16x512x1024 .f32) (a7 a8 : FVec Ideal S1024 .f32)

/-- The input by sequences. -/
def rx : FVec Ideal S8x8192x1024 .f32 := shapeCast _ a0 shapeCasts_S65536x1024_S8x8192x1024

/-- The modulated input. -/
def rh : FVec Ideal S8x8192x1024 .f32 :=
  addf (mulf (rx a0) (broadcastInDim S8x8192x1024 ![0, 1, 2] bcast_S8x1x1024_S8x8192x1024_0_1_2
      (addf (broadcastInDim S8x1x1024 ![] bcast_S_S8x1x1024 (constant S_ .f32 0x3F800000#32)) (extractStridedSlice S8x1x1024 ![0, 4, 0] a1 slices_S8x6x1024_S8x1x1024_0_4_0))))
    (broadcastInDim S8x8192x1024 ![0, 1, 2] bcast_S8x1x1024_S8x8192x1024_0_1_2 (extractStridedSlice S8x1x1024 ![0, 3, 0] a1 slices_S8x6x1024_S8x1x1024_0_3_0))

/-- A product of the modulated input with the experts' weights. -/
def rdot (h : FVec Ideal S8x8192x1024 .f32) (a : FVec Ideal S16x1024x512 .f32) : FVec Ideal S8x8192x16x512 .f32 :=
  Host.dotGeneral dot_S8x8192x1024_S16x1024x512_S8x8192x16x512_2_1_01_02_n_n none h a

/-- The hidden values. -/
def rhid (h : FVec Ideal S8x8192x1024 .f32) : FVec Ideal S8x8192x16x512 .f32 :=
  mulf (mulf (rdot h a4) (Host.divf (broadcastInDim S8x8192x16x512 ![] bcast_S_S8x8192x16x512 (constant S_ .f32 0x3F800000#32))
      (addf (broadcastInDim S8x8192x16x512 ![] bcast_S_S8x8192x16x512 (constant S_ .f32 0x3F800000#32)) (Host.exp (Host.negf (rdot h a4))))))
    (rdot h a5)

/-- The weights, those of other groups' experts put to zero. -/
def rweight : FVec Ideal S8x8192x16 .f32 :=
  select (cmpi .eq (broadcastInDim S8x8192x16 ![0, 1, 2] bcast_S8x8192x1_S8x8192x16_0_1_2 (shapeCast S8x8192x1 a3 shapeCasts_S1x65536_S8x8192x1))
      (broadcastInDim S8x8192x16 ![0, 1, 2] bcast_S1x1x16_S8x8192x16_0_1_2 (broadcastInDim S1x1x16 ![2] bcast_S16_S1x1x16_2
        (Host.divsi (iotaInDim S16 32 0) (broadcastInDim S16 ![] bcast_S_S16 (constantI S_ 32 4#32))))))
    (shapeCast S8x8192x16 (transpose S65536x16 [1, 0] a2 transposes_S16x65536_S65536x16_1_0) shapeCasts_S65536x16_S8x8192x16)
    (broadcastInDim S8x8192x16 ![] bcast_S_S8x8192x16 (id (constant S_ .f32 0x00000000#32)))

/-- The experts' weighted sum. -/
def rsum (w : FVec Ideal S8x8192x16 .f32) (hd : FVec Ideal S8x8192x16x512 .f32) : FVec Ideal S8x8192x1024 .f32 :=
  Host.reduceAdd (mulf (broadcastInDim S8x8192x16x1024 ![0, 1, 2, 3] bcast_S8x8192x16x1_S8x8192x16x1024_0_1_2_3
        (broadcastInDim S8x8192x16x1 ![0, 1, 2] bcast_S8x8192x16_S8x8192x16x1_0_1_2 w))
      (transpose S8x8192x16x1024 [2, 3, 0, 1] (Host.dotGeneral dot_S16x512x1024_S8x8192x16x512_S16x1024x8x8192_1_3_2_01_0_2 none a6 hd)
        transposes_S16x1024x8x8192_S8x8192x16x1024_2_3_0_1))
    (constant S_ .f32 0x00000000#32) reducesTo_S8x8192x16x1024_S8x8192x1024_d2 h_S_

/-- The residual sum. -/
def rz (y : FVec Ideal S8x8192x1024 .f32) : FVec Ideal S8x8192x1024 .f32 :=
  addf (mulf (broadcastInDim S8x8192x1024 ![] bcast_S_S8x8192x1024 (constant S_ .f32 0x3FB504F3#32)) (rx a0))
    (mulf (broadcastInDim S8x8192x1024 ![0, 1, 2] bcast_S8x1x1024_S8x8192x1024_0_1_2 (extractStridedSlice S8x1x1024 ![0, 5, 0] a1 slices_S8x6x1024_S8x1x1024_0_5_0)) y)

/-- The rows' means. -/
def rmean (z : FVec Ideal S8x8192x1024 .f32) : FVec Ideal S8x8192x1 .f32 :=
  Host.divf (broadcastInDim S8x8192x1 ![0, 1] bcast_S8x8192_S8x8192x1_0_1 (Host.reduceAdd z (constant S_ .f32 0x00000000#32) reducesTo_S8x8192x1024_S8x8192_d2 h_S_))
    (broadcastInDim S8x8192x1 ![] bcast_S_S8x8192x1 (constant S_ .f32 0x44800000#32))

/-- The rows less their means. -/
def rdiff (z : FVec Ideal S8x8192x1024 .f32) : FVec Ideal S8x8192x1024 .f32 :=
  subf z (broadcastInDim S8x8192x1024 ![0, 1, 2] bcast_S8x8192x1_S8x8192x1024_0_1_2 (rmean z))

/-- The layer normalization. -/
def rnorm (z : FVec Ideal S8x8192x1024 .f32) : FVec Ideal S8x8192x1024 .f32 :=
  addf (mulf (mulf (rdiff z) (broadcastInDim S8x8192x1024 ![0, 1, 2] bcast_S8x8192x1_S8x8192x1024_0_1_2
      (Host.rsqrt (addf (rmean (mulf (rdiff z) (rdiff z))) (broadcastInDim S8x8192x1 ![] bcast_S_S8x8192x1 (constant S_ .f32 0x3727C5AC#32))))))
      (broadcastInDim S8x8192x1024 ![0, 1, 2] bcast_S1x1x1024_S8x8192x1024_0_1_2 (broadcastInDim S1x1x1024 ![2] bcast_S1024_S1x1x1024_2 a7)))
    (broadcastInDim S8x8192x1024 ![0, 1, 2] bcast_S1x1x1024_S8x8192x1024_0_1_2 (broadcastInDim S1x1x1024 ![2] bcast_S1024_S1x1x1024_2 a8))

/-- The reference's result. -/
def ref : FVec Ideal S65536x1024 .f32 :=
  shapeCast _ (rnorm a7 a8 (rz a0 a1 (rsum a6 (rweight a2 a3) (rhid a4 a5 (rh a0 a1))))) shapeCasts_S8x8192x1024_S65536x1024

theorem res_eq (m : (ℓ : Loc nD τ sig) → Buf (Elt Ideal) ℓ) (c : Dev nD) :
    Value.res_main_v60 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-! ## At a row -/

/-- The row's number. -/
def rowOf (b : Fin 8) (s : Fin 8192) : Fin 65536 := ⟨8192 * b.val + s.val, by omega⟩

theorem rx_at (b : Fin 8) (s : Fin 8192) (d : Fin 1024) : rx a0 (ix3 b s d) = a0 (ix2 (rowOf b s) d) :=
  shapeCast_apply a0 _ _ _ (by
    rw [Shape.rowMajor_val_three, Shape.rowMajor_val_two]
    show (8192 * b.val + s.val) * 1024 + d.val = (b.val * 8192 + s.val) * 1024 + d.val
    omega)

theorem ref_at (z : FVec Ideal S8x8192x1024 .f32) (b : Fin 8) (s : Fin 8192) (d : Fin 1024) :
    (shapeCast S65536x1024 z shapeCasts_S8x8192x1024_S65536x1024 : FVec Ideal S65536x1024 .f32) (ix2 (rowOf b s) d) = z (ix3 b s d) :=
  shapeCast_apply z _ _ _ (by
    rw [Shape.rowMajor_val_three, Shape.rowMajor_val_two]
    show (b.val * 8192 + s.val) * 1024 + d.val = (8192 * b.val + s.val) * 1024 + d.val
    omega)

theorem group_at (b : Fin 8) (s : Fin 8192) (u : Fin 1) : (shapeCast S8x8192x1 a3 shapeCasts_S1x65536_S8x8192x1 : IVec S8x8192x1 32) (ix3 b s u) = a3 (ix2 (0 : Fin 1) (rowOf b s)) :=
  shapeCast_apply a3 _ _ _ (by
    rw [Shape.rowMajor_val_three, Shape.rowMajor_val_two]
    show 0 * 65536 + (8192 * b.val + s.val) = (b.val * 8192 + s.val) * 1 + u.val
    omega)

theorem comb_at (v : FVec Ideal S65536x16 .f32) (b : Fin 8) (s : Fin 8192) (e : Fin 16) :
    (shapeCast S8x8192x16 v shapeCasts_S65536x16_S8x8192x16 : FVec Ideal S8x8192x16 .f32) (ix3 b s e) = v (ix2 (rowOf b s) e) :=
  shapeCast_apply v _ _ _ (by
    rw [Shape.rowMajor_val_three, Shape.rowMajor_val_two]
    show (8192 * b.val + s.val) * 16 + e.val = (b.val * 8192 + s.val) * 16 + e.val
    omega)

theorem one_bits : Ideal.ofBits .f32 0x3F800000#32 = 1 := Ideal.ofBits_one_f32

theorem rh_at (b : Fin 8) (s : Fin 8192) (d : Fin 1024) :
    (rh a0 a1 (ix3 b s d) : EReal) = a0 (ix2 (rowOf b s) d) * (1 + a1 (ix3 b (4 : Fin 6) d)) + a1 (ix3 b (3 : Fin 6) d) := by
  rw [← rx_at a0 b s d, ← one_bits]
  pointwise [rh]
  rfl

theorem rdot_at (h : FVec Ideal S8x8192x1024 .f32) (a : FVec Ideal S16x1024x512 .f32) (b : Fin 8) (s : Fin 8192) (e : Fin 16) (f : Fin 512) :
    (rdot h a (ix4 b s e f) : EReal) = ∑ k : Fin 1024, h (ix3 b s k) * a (ix3 e k f) := by
  pointwise [rdot]
  rfl

theorem rhid_at (h : FVec Ideal S8x8192x1024 .f32) (b : Fin 8) (s : Fin 8192) (e : Fin 16) (f : Fin 512) :
    (rhid a4 a5 h (ix4 b s e f) : EReal) = act (∑ k : Fin 1024, h (ix3 b s k) * a4 (ix3 e k f)) (∑ k : Fin 1024, h (ix3 b s k) * a5 (ix3 e k f)) := by
  rw [← rdot_at h a4, ← rdot_at h a5]
  unfold act Ideal.logistic
  rw [← one_bits]
  pointwise [rhid]

theorem rsum_at (w : FVec Ideal S8x8192x16 .f32) (hd : FVec Ideal S8x8192x16x512 .f32) (b : Fin 8) (s : Fin 8192) (d : Fin 1024) :
    (rsum a6 w hd (ix3 b s d) : EReal) = ∑ e : Fin 16, w (ix3 b s e) * ∑ f : Fin 512, a6 (ix3 e f d) * hd (ix4 b s e f) := by
  pointwise [rsum]
  rfl

theorem rz_at (y : FVec Ideal S8x8192x1024 .f32) (b : Fin 8) (s : Fin 8192) (d : Fin 1024) :
    (rz a0 a1 y (ix3 b s d) : EReal) = Ideal.ofBits .f32 0x3FB504F3#32 * a0 (ix2 (rowOf b s) d) + a1 (ix3 b (5 : Fin 6) d) * y (ix3 b s d) := by
  rw [← rx_at a0 b s d]
  pointwise [rz]
  rfl

theorem rnorm_at (z : FVec Ideal S8x8192x1024 .f32) (b : Fin 8) (s : Fin 8192) (d : Fin 1024) :
    (rnorm a7 a8 z (ix3 b s d) : EReal) = lnOut (fun k => z (ix3 b s k)) (a7 (ix1 d)) (a8 (ix1 d)) d := by
  unfold lnOut
  pointwise [rnorm, rdiff, rmean]
  rfl

theorem expert_group : ∀ e : Fin 16, (Host.divsi (iotaInDim S16 32 0) (broadcastInDim S16 ![] bcast_S_S16 (constantI S_ 32 4#32)) : IVec S16 32) (ix1 e) = BitVec.ofNat 32 (e.val / 4) := by
  decide +kernel

theorem select_eq (u u' v v' : BitVec 32) (x x' y y' : EReal) (hu : u = u') (hv : v = v') (hx : x = x') (hy : y = y') :
    Scalar.select (IntOp.cmpi .eq u v) x y = if u' = v' then x' else y' := by
  subst hu hv hx hy
  unfold Scalar.select
  exact if_congr IntOp.cmpi_eq rfl rfl

theorem rweight_at (b : Fin 8) (s : Fin 8192) (e : Fin 16) :
    (rweight a2 a3 (ix3 b s e) : EReal) = if a3 (ix2 (0 : Fin 1) (rowOf b s)) = BitVec.ofNat 32 (e.val / 4) then a2 (ix2 e (rowOf b s)) else 0 := by
  rw [← expert_group e]
  pointwise [rweight]
  have e : ∀ h, (⟨b.val * 8192 + s.val, h⟩ : Fin 65536) = rowOf b s := fun h => Fin.ext (by show b.val * 8192 + s.val = 8192 * b.val + s.val; omega)
  exact select_eq _ _ _ _ _ _ _ _ (congrArg (fun r => a3 (ix2 (0 : Fin 1) r)) (e _)) rfl (congrArg (fun r => a2 (ix2 _ r)) (e _)) Ideal.ofBits_zero_f32

end Reference

/-! ## The experts' sum -/

theorem sum_split {n : ℕ} (a b : ℕ) (h : a * b = n) (F : Fin n → EReal) :
    ∑ j, F j = ∑ q : Fin a, ∑ f : Fin b, F ⟨b * q.val + f.val, by
      subst h
      calc b * q.val + f.val < b * q.val + b := by omega
        _ = b * (q.val + 1) := by ring
        _ ≤ b * a := Nat.mul_le_mul_left _ (by omega)
        _ = a * b := Nat.mul_comm _ _⟩ := by
  subst h
  rw [← finProdFinEquiv.sum_comp, Fintype.sum_prod_type]
  refine Finset.sum_congr rfl fun q _ => Finset.sum_congr rfl fun f _ => congrArg F (Fin.ext ?_)
  show f.val + b * q.val = b * q.val + f.val
  omega

/-- A row's result of its group's experts is the weighted sum over all the experts, the other groups' weights being zero, up to infinity. -/
theorem rowOut_same (Wg Wu : Cert.ExpertsIdeal.S1x4x1024x512.Idx → EReal) (Wd : Cert.ExpertsIdeal.S1x1x2048x1024.Idx → EReal) (g : ℕ) (hg : g < 4) (x : Fin 1024 → EReal) (cr : Fin 128 → EReal) (d : Fin 1024)
    (w : Fin 16 → EReal) (U D : Fin 16 → Fin 512 → EReal) (h0 : ∀ e, w e ≠ ⊥) (h1 : ∀ e, w e ≠ ⊤)
    (hw : ∀ q : Fin 4, wsum cr g q.val = w ⟨4 * g + q.val, by omega⟩)
    (hU : ∀ (q : Fin 4) (f : Fin 512), act (∑ k : Fin 1024, x k * Wg (ix4 (0 : Fin 1) q k f)) (∑ k : Fin 1024, x k * Wu (ix4 (0 : Fin 1) q k f)) = U ⟨4 * g + q.val, by omega⟩ f)
    (hD : ∀ (q : Fin 4) (f : Fin 512), Wd (ix4 (0 : Fin 1) (0 : Fin 1) (⟨512 * q.val + f.val, by omega⟩ : Fin 2048) d) = D ⟨4 * g + q.val, by omega⟩ f) :
    Same (rowOut Wg Wu Wd g x cr d) (∑ e : Fin 16, (if e.val / 4 = g then w e else 0) * ∑ f : Fin 512, D e f * U e f) := by
  rw [sum_split 4 4 rfl, Finset.sum_eq_single (⟨g, hg⟩ : Fin 4)]
  · unfold rowOut
    rw [sum_split 4 512 rfl]
    refine same_sum _ _ fun q => ?_
    have hq : (4 * g + q.val) / 4 = g := by omega
    show Same _ ((if (4 * g + q.val) / 4 = g then w _ else 0) * _)
    rw [if_pos hq]
    obtain ⟨r, hr⟩ := finite_of (a := w ⟨4 * g + q.val, by omega⟩) fun h => h.elim (h1 _) (h0 _)
    rw [hr]
    refine Eq.mpr (congrArg (Same · _) ?_) (same_mul_sum r _)
    refine Finset.sum_congr rfl fun f _ => ?_
    have e1 : (512 * q.val + f.val) / 512 = q.val := by omega
    have e2 : (512 * q.val + f.val) % 512 = f.val := by omega
    have a1 : (⟨(512 * q.val + f.val) / 512, by omega⟩ : Fin 4) = q := Fin.ext e1
    have a2 : (⟨(512 * q.val + f.val) % 512, by omega⟩ : Fin 512) = f := Fin.ext e2
    show qv Wg Wu x (wsum cr g ((512 * q.val + f.val) / 512)) ⟨(512 * q.val + f.val) / 512, _⟩ ⟨(512 * q.val + f.val) % 512, _⟩ * _ = _
    rw [a1, a2, e1, hw, hD, hr]
    unfold qv
    rw [hU, mul_comm (U _ f), mul_assoc, mul_comm (U _ f)]
  · intro a _ ha
    refine Finset.sum_eq_zero fun q _ => ?_
    have hq : ¬ (4 * a.val + q.val) / 4 = g := fun h => ha (Fin.ext (by show a.val = g; omega))
    show (if (4 * a.val + q.val) / 4 = g then w _ else 0) * _ = 0
    rw [if_neg hq, zero_mul]
  · exact fun h => absurd (Finset.mem_univ _) h

theorem wsum_crow (Cb : Cert.ExpertsIdeal.S16x1024.Idx → EReal) (t : Fin 1024) (g : ℕ) (hg : g < 4) (q : Fin 4) :
    wsum (crow Cb t) g q.val = Cb (ix2 (⟨4 * g + q.val, by omega⟩ : Fin 16) t) := by
  unfold wsum
  rw [Finset.sum_eq_single (⟨4 * g + q.val, by omega⟩ : Fin 128)]
  · rw [if_pos rfl]
    unfold crow
    exact dif_pos (by show 4 * g + q.val < 16; omega)
  · intro l _ hl
    exact if_neg fun h => hl (Fin.ext h)
  · exact fun h => absurd (Finset.mem_univ _) h

/-! ## The arrays the kernel stages -/

section Staged
open Cert.ExpertsIdeal Cert.ExpertsIdeal.Gen

variable (m : (ℓ : Loc nD τ sig) → Buf (Elt Ideal) ℓ)

theorem V_v1 (c : Dev nD) : V m c main_v1
    = truncf .bf16 (broadcastInDim S1x16x1024x512 ![1, 2, 3] bcast_S16x1024x512_S1x16x1024x512_1_2_3 (show FVec Ideal S16x1024x512 .f32 from m ((c : Thread nD τ).loc main_arg4))) bitsLt_bf16_f32 := by
  unfold V
  simp only [hostOps0, List.flatten_cons, List.flatten_nil, List.append_nil, List.cons_append,
      List.nil_append, StableHlo.TRef.binary, StableHlo.TRef.unary, StableHlo.TRef.toBuf, StableHlo.TRef.ofBuf, cast_eq]
  after_results_simp
  all_goals rfl

theorem V_v3 (c : Dev nD) : V m c main_v3
    = truncf .bf16 (broadcastInDim S1x16x1024x512 ![1, 2, 3] bcast_S16x1024x512_S1x16x1024x512_1_2_3 (show FVec Ideal S16x1024x512 .f32 from m ((c : Thread nD τ).loc main_arg5))) bitsLt_bf16_f32 := by
  unfold V
  simp only [hostOps0, List.flatten_cons, List.flatten_nil, List.append_nil, List.cons_append,
      List.nil_append, StableHlo.TRef.binary, StableHlo.TRef.unary, StableHlo.TRef.toBuf, StableHlo.TRef.ofBuf, cast_eq]
  after_results_simp
  all_goals rfl

theorem V_v5 (c : Dev nD) : V m c main_v5
    = truncf .bf16 (shapeCast S1x4x2048x1024 (show FVec Ideal S16x512x1024 .f32 from m ((c : Thread nD τ).loc main_arg6)) shapeCasts_S16x512x1024_S1x4x2048x1024) bitsLt_bf16_f32 := by
  unfold V
  simp only [hostOps0, List.flatten_cons, List.flatten_nil, List.append_nil, List.cons_append,
      List.nil_append, StableHlo.TRef.binary, StableHlo.TRef.unary, StableHlo.TRef.toBuf, StableHlo.TRef.ofBuf, cast_eq]
  after_results_simp
  all_goals rfl

theorem V_v6 (c : Dev nD) : V m c main_v6
    = shapeCast S1x1024 (show FVec Ideal S1024 .f32 from m ((c : Thread nD τ).loc main_arg7)) shapeCasts_S1024_S1x1024 := by
  unfold V
  simp only [hostOps0, List.flatten_cons, List.flatten_nil, List.append_nil, List.cons_append,
      List.nil_append, StableHlo.TRef.binary, StableHlo.TRef.unary, StableHlo.TRef.toBuf, StableHlo.TRef.ofBuf, cast_eq]
  after_results_simp
  all_goals rfl

theorem V_v7 (c : Dev nD) : V m c main_v7
    = shapeCast S1x1024 (show FVec Ideal S1024 .f32 from m ((c : Thread nD τ).loc main_arg8)) shapeCasts_S1024_S1x1024 := by
  unfold V
  simp only [hostOps0, List.flatten_cons, List.flatten_nil, List.append_nil, List.cons_append,
      List.nil_append, StableHlo.TRef.binary, StableHlo.TRef.unary, StableHlo.TRef.toBuf, StableHlo.TRef.ofBuf, cast_eq]
  after_results_simp
  all_goals rfl

theorem wg_at (c : Dev nD) (g q : Fin 4) (k : Fin 1024) (f : Fin 512) :
    wg m c g (ix4 (0 : Fin 1) q k f) = m ((c : Thread nD τ).loc main_arg4) (ix3 (⟨4 * g.val + q.val, by omega⟩ : Fin 16) k f) := by
  unfold wg
  rw [V_v1]
  pointwise
  rfl

theorem wu_at (c : Dev nD) (g q : Fin 4) (k : Fin 1024) (f : Fin 512) :
    wu m c g (ix4 (0 : Fin 1) q k f) = m ((c : Thread nD τ).loc main_arg5) (ix3 (⟨4 * g.val + q.val, by omega⟩ : Fin 16) k f) := by
  unfold wu
  rw [V_v3]
  pointwise
  rfl

theorem staged_down (v : FVec Ideal S16x512x1024 .f32) (g q : Fin 4) (f : Fin 512) (d : Fin 1024) :
    (shapeCast S1x4x2048x1024 v shapeCasts_S16x512x1024_S1x4x2048x1024 : FVec Ideal S1x4x2048x1024 .f32) (ix4 (0 : Fin 1) g (⟨512 * q.val + f.val, by omega⟩ : Fin 2048) d)
      = v (ix3 (⟨4 * g.val + q.val, by omega⟩ : Fin 16) f d) :=
  shapeCast_apply v _ _ _ (by
    rw [Shape.rowMajor_val_three, Shape.rowMajor_val_four]
    show ((4 * g.val + q.val) * 512 + f.val) * 1024 + d.val = ((0 * 4 + g.val) * 2048 + (512 * q.val + f.val)) * 1024 + d.val
    omega)

theorem wd_at (c : Dev nD) (g q : Fin 4) (f : Fin 512) (d : Fin 1024) :
    wd m c g (ix4 (0 : Fin 1) (0 : Fin 1) (⟨512 * q.val + f.val, by omega⟩ : Fin 2048) d) = m ((c : Thread nD τ).loc main_arg6) (ix3 (⟨4 * g.val + q.val, by omega⟩ : Fin 16) f d) := by
  unfold wd
  rw [V_v5]
  exact staged_down _ g q f d

theorem lg_at (c : Dev nD) (d : Fin 1024) : lg m c (ix2 (0 : Fin 1) d) = m ((c : Thread nD τ).loc main_arg7) (ix1 d) := by
  unfold lg
  rw [V_v6]
  pointwise
  rfl

theorem lb_at (c : Dev nD) (d : Fin 1024) : lb m c (ix2 (0 : Fin 1) d) = m ((c : Thread nD τ).loc main_arg8) (ix1 d) := by
  unfold lb
  rw [V_v7]
  pointwise
  rfl

theorem xb_at (c : Dev nD) (b : Fin 64) (t d : Fin 1024) : xb m c b (ix2 t d) = m ((c : Thread nD τ).loc main_arg0) (ix2 (⟨1024 * b.val + t.val, by omega⟩ : Fin 65536) d) := by
  unfold xb
  rw [V_main_arg0]

theorem ab_at (c : Dev nD) (b : Fin 64) (u : Fin 6) (d : Fin 1024) : ab m c b (ix3 (0 : Fin 1) u d) = m ((c : Thread nD τ).loc main_arg1) (ix3 (⟨b.val / 8, by omega⟩ : Fin 8) u d) := by
  unfold ab
  rw [V_main_arg1]

theorem cbk_at (c : Dev nD) (b : Fin 64) (e : Fin 16) (t : Fin 1024) : cbk m c b (ix2 e t) = m ((c : Thread nD τ).loc main_arg2) (ix2 e (⟨1024 * b.val + t.val, by omega⟩ : Fin 65536)) := by
  unfold cbk
  rw [V_main_arg2]

theorem gb_at (c : Dev nD) (b : Fin 64) (t : Fin 1024) : grp (gb m c b) t = m ((c : Thread nD τ).loc main_arg3) (ix2 (0 : Fin 1) (⟨1024 * b.val + t.val, by omega⟩ : Fin 65536)) := by
  unfold grp gb
  rw [V_main_arg3]

/-! ## The kernel's result is the reference's -/

theorem row_split (n : Fin 65536) : rowOf ⟨n.val / 8192, by omega⟩ ⟨n.val % 8192, by omega⟩ = n :=
  Fin.ext (by show 8192 * (n.val / 8192) + n.val % 8192 = n.val; omega)

set_option maxHeartbeats 1000000 in
theorem result_at (c : Dev nD) (hv : ∀ c b, Valid (grp (gb m c b)) (cbk m c b)) (b : Fin 8) (s : Fin 8192) (d : Fin 1024) :
    out m c (ix2 (rowOf b s) d) = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (ix2 (rowOf b s) d) := by
  unfold ref
  rw [ref_at, rnorm_at]
  obtain ⟨B, hB⟩ : ∃ B : Fin 64, B.val = (rowOf b s).val / 1024 := ⟨⟨(rowOf b s).val / 1024, by omega⟩, rfl⟩
  obtain ⟨r, hr⟩ : ∃ r : Fin 1024, r.val = (rowOf b s).val % 1024 := ⟨⟨(rowOf b s).val % 1024, by omega⟩, rfl⟩
  have hrow : (⟨1024 * B.val + r.val, by omega⟩ : Fin 65536) = rowOf b s := Fin.ext (by show 1024 * B.val + r.val = _; omega)
  have hb : (⟨B.val / 8, by omega⟩ : Fin 8) = b := Fin.ext (by
    show B.val / 8 = b.val
    have : (rowOf b s).val = 8192 * b.val + s.val := rfl
    omega)
  have hout : out m c (ix2 (rowOf b s) d) = outb m c B r d := by
    have e1 : (⟨(rowOf b s).val / 1024, by omega⟩ : Fin 64) = B := Fin.ext hB.symm
    have e2 : (⟨(rowOf b s).val % 1024, by omega⟩ : Fin 1024) = r := Fin.ext hr.symm
    show outb m c ⟨(rowOf b s).val / 1024, _⟩ ⟨(rowOf b s).val % 1024, _⟩ d = _
    rw [e1, e2]
  rw [hout]
  unfold outb
  rw [lg_at, lb_at]
  refine lnOut_same _ _ (fun k => ?_) _ _ d
  show Same (zrow (xb m c B) (ab m c B) (yb m c B) r k) (rz (m ((c.tc : Thread nD τ).loc main_arg0)) (m ((c.tc : Thread nD τ).loc main_arg1))
      (rsum (m ((c.tc : Thread nD τ).loc main_arg6)) (rweight (m ((c.tc : Thread nD τ).loc main_arg2)) (m ((c.tc : Thread nD τ).loc main_arg3)))
        (rhid (m ((c.tc : Thread nD τ).loc main_arg4)) (m ((c.tc : Thread nD τ).loc main_arg5)) (rh (m ((c.tc : Thread nD τ).loc main_arg0)) (m ((c.tc : Thread nD τ).loc main_arg1))))) (ix3 b s k))
  rw [rz_at, rsum_at]
  unfold zrow
  rw [xb_at, ab_at, hrow, hb]
  refine same_affine ?_ _ _
  obtain ⟨g, hg, hgr⟩ := (hv c B).1 r
  unfold yb yrow
  have hG : (⟨(grp (gb m c B) r).toNat % 4, Nat.mod_lt _ (by decide)⟩ : Fin 4) = ⟨g, hg⟩ := Fin.ext (mod_four _ g hg hgr)
  rw [hG]
  have hh : ∀ x : Fin 1024, hid (xb m c B) (ab m c B) r x = rh (m ((c.tc : Thread nD τ).loc main_arg0)) (m ((c.tc : Thread nD τ).loc main_arg1)) (ix3 b s x) := by
    intro x
    rw [rh_at]
    unfold hid
    rw [xb_at, ab_at, ab_at, hrow, hb]
  have hsame := rowOut_same (wg m c ⟨g, hg⟩) (wu m c ⟨g, hg⟩) (wd m c ⟨g, hg⟩) g hg (hid (xb m c B) (ab m c B) r) (crow (cbk m c B) r) k (fun e => cbk m c B (ix2 e r))
    (fun e f => rhid (m ((c.tc : Thread nD τ).loc main_arg4)) (m ((c.tc : Thread nD τ).loc main_arg5)) (rh (m ((c.tc : Thread nD τ).loc main_arg0)) (m ((c.tc : Thread nD τ).loc main_arg1))) (ix4 b s e f))
    (fun e f => m ((c.tc : Thread nD τ).loc main_arg6) (ix3 e f k)) (fun e => ((hv c B).2 e r).1) (fun e => ((hv c B).2 e r).2) (fun q => wsum_crow _ r g hg q)
    (fun q f => by
      rw [rhid_at]
      simp only [hh, wg_at, wu_at])
    (fun q f => wd_at m c ⟨g, hg⟩ q f k)
  refine Eq.mp (congrArg (Same _) ?_) hsame
  refine Finset.sum_congr rfl fun e _ => congrArg (fun y => y * _) ?_
  rw [rweight_at]
  have hgw : m ((c.tc : Thread nD τ).loc main_arg3) (ix2 (0 : Fin 1) (rowOf b s)) = BitVec.ofNat 32 g := by
    rw [← hgr, gb_at, hrow]
  refine if_congr ?_ ?_ rfl
  · rw [hgw]
    constructor
    · intro h; rw [h]
    · intro h
      have h' := congrArg BitVec.toNat h
      rw [BitVec.toNat_ofNat, BitVec.toNat_ofNat, Nat.mod_eq_of_lt (by omega), Nat.mod_eq_of_lt (by omega)] at h'
      omega
  · show cbk m c B (ix2 e r) = _
    rw [cbk_at, hrow]

theorem out_eq (c : Dev nD) (hv : ∀ c b, Valid (grp (gb m c b)) (cbk m c b)) :
    out m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  funext y
  obtain ⟨n, d, rfl⟩ : ∃ (n : Fin 65536) (d : Fin 1024), y = ix2 n d := ⟨y 0, y 1, ValueIdx.eq_ix2 y⟩
  rw [← row_split n]
  exact result_at m c hv _ _ d

end Staged

/-! ## The precondition -/

theorem preFacts : Cert.Pre_routed.Facts where
  bcast_S_S16x65536 := by decide
  reducesTo_S16x65536_S_d0_1 := by decide
  h_S_ := by decide
  bcast_S_S1x65536 := by decide
  reducesTo_S1x65536_S_d0_1 := by decide

instance : Subsingleton Cert.Pre_routed.S_.Idx := ⟨fun a b => funext fun i => i.elim0⟩

theorem one_of_bool {b : Bool} : BitVec.ofBool b = 1#1 ↔ b = true := by cases b <;> decide

theorem word_four (w : BitVec 32) (h0 : (0#32).toInt ≤ w.toInt) (h4 : w.toInt < (4#32).toInt) : ∃ g, g < 4 ∧ w = BitVec.ofNat 32 g := by
  have z : (0#32 : BitVec 32).toInt = 0 := by decide
  have f : (4#32 : BitVec 32).toInt = 4 := by decide
  rw [z] at h0
  rw [f] at h4
  refine ⟨w.toNat, ?_, by simp⟩
  have := BitVec.toInt_eq_toNat_cond w
  split at this <;> omega

theorem routed_at (a0 : FVec Ideal Cert.Pre_routed.S65536x1024 .f32) (a1 : FVec Ideal Cert.Pre_routed.S8x6x1024 .f32) (a2 : FVec Ideal Cert.Pre_routed.S16x65536 .f32)
    (a3 : IVec Cert.Pre_routed.S1x65536 32) (a4 a5 : FVec Ideal Cert.Pre_routed.S16x1024x512 .f32) (a6 : FVec Ideal Cert.Pre_routed.S16x512x1024 .f32) (a7 a8 : FVec Ideal Cert.Pre_routed.S1024 .f32)
    (h : (@Cert.Pre_routed.fn preFacts Ideal _ a0 a1 a2 a3 a4 a5 a6 a7 a8) = fun _ => 1#1) :
    (∀ i, (a2 i : EReal) ≠ ⊥ ∧ (a2 i : EReal) ≠ ⊤) ∧ ∀ i, ∃ g, g < 4 ∧ a3 i = BitVec.ofNat 32 g := by
  have h' := congrFun h Idealize.ShloMosaic.ix0
  unfold Cert.Pre_routed.fn at h'
  obtain ⟨ha, hb⟩ := IntOp.andi_eq_one.1 h'
  constructor
  · intro i
    obtain ⟨h1, h2⟩ := IntOp.andi_eq_one.1 (Host.reduce_andi_all _ _ _ _ _ ha i)
    constructor
    · have h1' : BitVec.ofBool (decide (Ideal.ofBits .f32 0xFF800000#32 < a2 i)) = 1#1 := h1
      exact ((bot_le).trans_lt (of_decide_eq_true (one_of_bool.1 h1'))).ne'
    · have h2' : BitVec.ofBool (decide (a2 i < Ideal.ofBits .f32 0x7F800000#32)) = 1#1 := h2
      exact ((of_decide_eq_true (one_of_bool.1 h2')).trans_le le_top).ne
  · intro i
    obtain ⟨h1, h2⟩ := IntOp.andi_eq_one.1 (Host.reduce_andi_all _ _ _ _ _ hb i)
    exact word_four _ (IntOp.cmpi_sge.1 h1) (IntOp.cmpi_slt.1 h2)

/-! ## The claims -/

section Claims
open Cert.ExpertsIdeal Cert.ExpertsIdeal.Gen

theorem valid (m : (ℓ : Loc nD τ sig) → Buf (Elt Ideal) ℓ) (h : Cert.Pre_ExpertsIdeal_routed (hPre_routed := preFacts) m) (c : Dev nD) (b : Fin 64) :
    Valid (grp (gb m c b)) (cbk m c b) := by
  have hr := routed_at _ _ _ _ _ _ _ _ _ (h c)
  constructor
  · intro t
    rw [gb_at]
    exact hr.2 _
  · intro e t
    rw [cbk_at]
    exact hr.1 _

theorem algebraic : Cert.algebraic_ExpertsIdeal_ExpertsReferenceIdeal_pre_routed (hExpertsIdeal := Cert.ExpertsIdeal.Gen.facts)
    (hExpertsReferenceIdeal := Cert.ExpertsReferenceIdeal.Gen.facts) (hPre_routed := preFacts) := fun m g m' g' hp hm =>
  ⟨fun c => out m c,
    run m g (valid m hp),
    θ_run_mono (Cert.ExpertsReferenceIdeal.Value.run m' g') fun _ h c => by
      obtain ⟨h0, h1, h2, h3, h4, h5, h6, h7, h8⟩ := hm c
      refine ⟨(h c).1.trans ?_, (h c).2⟩
      show _ = out m c
      rw [res_eq, out_eq m c (valid m hp), h0, h1, h2, h3, h4, h5, h6, h7, h8]⟩

theorem quiescent : Cert.quiescent_ExpertsIdeal (hExpertsIdeal := Cert.ExpertsIdeal.Gen.facts) := fun m g _ => run_any m g

theorem quiescent_routed : Cert.quiescent_ExpertsIdeal_pre_routed (hExpertsIdeal := Cert.ExpertsIdeal.Gen.facts) (hPre_routed := preFacts) := fun m g _ => run_any m g

theorem reference_quiescent : Cert.quiescent_ExpertsReferenceIdeal (hExpertsReferenceIdeal := Cert.ExpertsReferenceIdeal.Gen.facts) := by
  intro m g _
  refine θ_run_mono (Cert.ExpertsReferenceIdeal.Value.run m g) fun r h => ⟨fun c => (h c).2, ?_⟩
  exact sem_eq_zero_of_no_sems (by decide) r.2

theorem reference_quiescent_routed : Cert.quiescent_ExpertsReferenceIdeal_pre_routed (hExpertsReferenceIdeal := Cert.ExpertsReferenceIdeal.Gen.facts) (hPre_routed := preFacts) := by
  intro m g _
  refine θ_run_mono (Cert.ExpertsReferenceIdeal.Value.run m g) fun r h => ⟨fun c => (h c).2, ?_⟩
  exact sem_eq_zero_of_no_sems (by decide) r.2

end Claims

end Cert.Proof.Experts

end
-- ==== Proof.lean ====
/-
  The certificate: the sparse attention kernel's frame, the conditioning, projection and merging calls' frames and
  values, the frame and value of the sparse attention kernel's selection, and the frame and value of the experts.
-/
module

public import proofs.«01_k».proof.Defs
public import proofs.«01_k».proof.Proof.DsaFrame
public import proofs.«01_k».proof.Proof.Gen.Ada.Frame
public import proofs.«01_k».proof.Proof.Gen.Proj.Frame
public import proofs.«01_k».proof.Proof.Gen.Merge.Frame
public import proofs.«01_k».proof.Proof.Gen.Select.Frame
public import proofs.«01_k».proof.Proof.Gen.SelectReference.Run
public import proofs.«01_k».proof.Proof.AdaValue
public import proofs.«01_k».proof.Proof.ProjClaim
public import proofs.«01_k».proof.Proof.MergeValue
public import proofs.«01_k».proof.Proof.SelFrame
public import proofs.«01_k».proof.Proof.Gen.ExpertsIdeal.Frame
public import proofs.«01_k».proof.Proof.Gen.ExpertsReferenceIdeal.Run
public import proofs.«01_k».proof.Proof.MoeValue

@[expose] public section

/-- Everything claimed of the four calls, of the selection and of the experts. -/
theorem Cert.Proof.claim : Cert.Claim :=
  ⟨Cert.Kernel.Gen.facts, Cert.Ada.Gen.facts, Cert.AdaIdeal.Gen.facts, Cert.AdaReferenceIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts,
    Cert.Select.Gen.facts, Cert.SelectReference.Gen.facts,
    Cert.ExpertsIdeal.Gen.facts, Cert.ExpertsReferenceIdeal.Gen.facts, Cert.Proof.Experts.preFacts,
    fun m ρ _ => Cert.Proof.Kernel.quiescent m ρ,
    fun m ρ _ => Cert.Ada.Gen.frame m ρ, fun m ρ _ => Cert.AdaIdeal.Gen.frame m ρ, Cert.Proof.Ada.reference_frame,
    fun m ρ _ => Cert.Proj.Gen.frame m ρ, fun m ρ _ => Cert.ProjIdeal.Gen.frame m ρ, Cert.Proof.Proj.reference_frame,
    fun m ρ _ => Cert.Merge.Gen.frame m ρ, fun m ρ _ => Cert.MergeIdeal.Gen.frame m ρ, Cert.Proof.Merge.reference_frame,
    Cert.Proof.Select.quiescent, Cert.Proof.Select.reference_quiescent,
    Cert.Proof.Experts.quiescent, Cert.Proof.Experts.quiescent_routed, Cert.Proof.Experts.reference_quiescent, Cert.Proof.Experts.reference_quiescent_routed,
    trivial, Cert.Proof.Ada.algebraic, trivial, Cert.Proof.Proj.algebraic, trivial, Cert.Proof.Merge.algebraic,
    Cert.Proof.Select.bitexact, Cert.Proof.Experts.algebraic⟩
